-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rms_finite [hPre_rms_finite : Cert.Pre_rms_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rms_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rms_finite [hPre_rms_finite : Cert.Pre_rms_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rms_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_loss_finite [hPre_loss_finite : Cert.Pre_loss_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_loss_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_loss_finite [hPre_loss_finite : Cert.Pre_loss_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_loss_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_mem_finite [hPre_mem_finite : Cert.Pre_mem_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_mem_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_mem_finite [hPre_mem_finite : Cert.Pre_mem_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_mem_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_sb_finite [hPre_sb_finite : Cert.Pre_sb_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_sb_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_sb_finite [hPre_sb_finite : Cert.Pre_sb_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_sb_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_sbf_finite [hPre_sbf_finite : Cert.Pre_sbf_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_sbf_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_sbf_finite [hPre_sbf_finite : Cert.Pre_sbf_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_sbf_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rms_finite [hKernelIdeal : Cert.KernelIdeal.Facts] [hPre_rms_finite : Cert.Pre_rms_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rms_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rms_finite [hReferenceIdeal : Cert.ReferenceIdeal.Facts] [hPre_rms_finite : Cert.Pre_rms_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rms_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_loss_finite [hKernel2Ideal : Cert.Kernel2Ideal.Facts] [hPre_loss_finite : Cert.Pre_loss_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_loss_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_loss_finite [hReference2Ideal : Cert.Reference2Ideal.Facts] [hPre_loss_finite : Cert.Pre_loss_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_loss_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_mem_finite [hKernel3Ideal : Cert.Kernel3Ideal.Facts] [hPre_mem_finite : Cert.Pre_mem_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_mem_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_mem_finite [hReference3Ideal : Cert.Reference3Ideal.Facts] [hPre_mem_finite : Cert.Pre_mem_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_mem_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_sb_finite [hKernel4Ideal : Cert.Kernel4Ideal.Facts] [hPre_sb_finite : Cert.Pre_sb_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_sb_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_sb_finite [hReference4Ideal : Cert.Reference4Ideal.Facts] [hPre_sb_finite : Cert.Pre_sb_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_sb_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_sbf_finite [hKernel5Ideal : Cert.Kernel5Ideal.Facts] [hPre_sbf_finite : Cert.Pre_sbf_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_sbf_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_sbf_finite [hReference5Ideal : Cert.Reference5Ideal.Facts] [hPre_sbf_finite : Cert.Pre_sbf_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_sbf_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_rms_finite [hKernelIdeal : Cert.KernelIdeal.Facts] [hReferenceIdeal : Cert.ReferenceIdeal.Facts] [hPre_rms_finite : Cert.Pre_rms_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rms_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_loss_finite [hKernel2Ideal : Cert.Kernel2Ideal.Facts] [hReference2Ideal : Cert.Reference2Ideal.Facts] [hPre_loss_finite : Cert.Pre_loss_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_loss_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v53) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_mem_finite [hKernel3Ideal : Cert.Kernel3Ideal.Facts] [hReference3Ideal : Cert.Reference3Ideal.Facts] [hPre_mem_finite : Cert.Pre_mem_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_mem_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v70) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_sb_finite [hKernel4Ideal : Cert.Kernel4Ideal.Facts] [hReference4Ideal : Cert.Reference4Ideal.Facts] [hPre_sb_finite : Cert.Pre_sb_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_sb_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v53_0)) (v1 : (c : Dev Cert.Kernel4Ideal.nD) → Buf (Elt Ideal) ((c.tc : Thread Cert.Kernel4Ideal.nD Cert.Kernel4Ideal.τ).loc Cert.Kernel4Ideal.main_v53_1)) (v2 : (c : Dev Cert.Kernel4Ideal.nD) → Buf (Elt Ideal) ((c.tc : Thread Cert.Kernel4Ideal.nD Cert.Kernel4Ideal.τ).loc Cert.Kernel4Ideal.main_v53_2)) (v3 : (c : Dev Cert.Kernel4Ideal.nD) → Buf (Elt Ideal) ((c.tc : Thread Cert.Kernel4Ideal.nD Cert.Kernel4Ideal.τ).loc Cert.Kernel4Ideal.main_v53_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v53_0) = v0 c
          ∧ r.2.mem ((c.tc : Thread Cert.Kernel4Ideal.nD Cert.Kernel4Ideal.τ).loc Cert.Kernel4Ideal.main_v53_1) = v1 c
          ∧ r.2.mem ((c.tc : Thread Cert.Kernel4Ideal.nD Cert.Kernel4Ideal.τ).loc Cert.Kernel4Ideal.main_v53_2) = v2 c
          ∧ r.2.mem ((c.tc : Thread Cert.Kernel4Ideal.nD Cert.Kernel4Ideal.τ).loc Cert.Kernel4Ideal.main_v53_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_v65) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_sbf_finite [hKernel5Ideal : Cert.Kernel5Ideal.Facts] [hReference5Ideal : Cert.Reference5Ideal.Facts] [hPre_sbf_finite : Cert.Pre_sbf_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_sbf_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v51) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_rms_finite : Cert.Pre_rms_finite.Facts) (hPre_loss_finite : Cert.Pre_loss_finite.Facts) (hPre_mem_finite : Cert.Pre_mem_finite.Facts) (hPre_sb_finite : Cert.Pre_sb_finite.Facts) (hPre_sbf_finite : Cert.Pre_sbf_finite.Facts),
    quiescent_Kernel (hKernel := hKernel)
    ∧ quiescent_KernelIdeal (hKernelIdeal := hKernelIdeal)
    ∧ quiescent_KernelIdeal_pre_rms_finite (hKernelIdeal := hKernelIdeal) (hPre_rms_finite := hPre_rms_finite)
    ∧ quiescent_ReferenceIdeal (hReferenceIdeal := hReferenceIdeal)
    ∧ quiescent_ReferenceIdeal_pre_rms_finite (hReferenceIdeal := hReferenceIdeal) (hPre_rms_finite := hPre_rms_finite)
    ∧ quiescent_Kernel2 (hKernel2 := hKernel2)
    ∧ quiescent_Kernel2Ideal (hKernel2Ideal := hKernel2Ideal)
    ∧ quiescent_Kernel2Ideal_pre_loss_finite (hKernel2Ideal := hKernel2Ideal) (hPre_loss_finite := hPre_loss_finite)
    ∧ quiescent_Reference2Ideal (hReference2Ideal := hReference2Ideal)
    ∧ quiescent_Reference2Ideal_pre_loss_finite (hReference2Ideal := hReference2Ideal) (hPre_loss_finite := hPre_loss_finite)
    ∧ quiescent_Kernel3 (hKernel3 := hKernel3)
    ∧ quiescent_Kernel3Ideal (hKernel3Ideal := hKernel3Ideal)
    ∧ quiescent_Kernel3Ideal_pre_mem_finite (hKernel3Ideal := hKernel3Ideal) (hPre_mem_finite := hPre_mem_finite)
    ∧ quiescent_Reference3Ideal (hReference3Ideal := hReference3Ideal)
    ∧ quiescent_Reference3Ideal_pre_mem_finite (hReference3Ideal := hReference3Ideal) (hPre_mem_finite := hPre_mem_finite)
    ∧ quiescent_Kernel4 (hKernel4 := hKernel4)
    ∧ quiescent_Kernel4Ideal (hKernel4Ideal := hKernel4Ideal)
    ∧ quiescent_Kernel4Ideal_pre_sb_finite (hKernel4Ideal := hKernel4Ideal) (hPre_sb_finite := hPre_sb_finite)
    ∧ quiescent_Reference4Ideal (hReference4Ideal := hReference4Ideal)
    ∧ quiescent_Reference4Ideal_pre_sb_finite (hReference4Ideal := hReference4Ideal) (hPre_sb_finite := hPre_sb_finite)
    ∧ quiescent_Kernel5 (hKernel5 := hKernel5)
    ∧ quiescent_Kernel5Ideal (hKernel5Ideal := hKernel5Ideal)
    ∧ quiescent_Kernel5Ideal_pre_sbf_finite (hKernel5Ideal := hKernel5Ideal) (hPre_sbf_finite := hPre_sbf_finite)
    ∧ quiescent_Reference5Ideal (hReference5Ideal := hReference5Ideal)
    ∧ quiescent_Reference5Ideal_pre_sbf_finite (hReference5Ideal := hReference5Ideal) (hPre_sbf_finite := hPre_sbf_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_rms_finite (hKernelIdeal := hKernelIdeal) (hReferenceIdeal := hReferenceIdeal) (hPre_rms_finite := hPre_rms_finite)
    ∧ preserves_Kernel2_Kernel2Ideal
    ∧ algebraic_Kernel2Ideal_Reference2Ideal_pre_loss_finite (hKernel2Ideal := hKernel2Ideal) (hReference2Ideal := hReference2Ideal) (hPre_loss_finite := hPre_loss_finite)
    ∧ preserves_Kernel3_Kernel3Ideal
    ∧ algebraic_Kernel3Ideal_Reference3Ideal_pre_mem_finite (hKernel3Ideal := hKernel3Ideal) (hReference3Ideal := hReference3Ideal) (hPre_mem_finite := hPre_mem_finite)
    ∧ preserves_Kernel4_Kernel4Ideal
    ∧ algebraic_Kernel4Ideal_Reference4Ideal_pre_sb_finite (hKernel4Ideal := hKernel4Ideal) (hReference4Ideal := hReference4Ideal) (hPre_sb_finite := hPre_sb_finite)
    ∧ preserves_Kernel5_Kernel5Ideal
    ∧ algebraic_Kernel5Ideal_Reference5Ideal_pre_sbf_finite (hKernel5Ideal := hKernel5Ideal) (hReference5Ideal := hReference5Ideal) (hPre_sbf_finite := hPre_sbf_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_loss_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S2048_S8192x2048_1 : S2048.BroadcastsInDim S8192x2048 (![1] : Fin 1 → Fin S8192x2048.rank)

variable [Facts]

def fn {F : FTy → Type} [FloatOps F] (main_arg0 : FVec F S8192x2048 .f32) (main_arg1 : FVec F S2048 .f32) (main_arg2 : FVec F S8192x2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg2
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : IVec S8192x2048 1 := andi main_v2 main_v5
  let main_v7 : FVec F S8192x2048 .f32 := broadcastInDim S8192x2048 ![1] bcast_S2048_S8192x2048_1 main_arg1
  let main_v8 : FVec F S8192x2048 .f32 := Host.absf main_v7
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  let main_v11 : IVec S8192x2048 1 := andi main_v6 main_v10
  main_v11
-- ==== Pre_mem_finite.lean ====
abbrev S8192x4096 : Shape := ⟨2, ![8192, 4096]⟩
abbrev S256x4096 : Shape := ⟨2, ![256, 4096]⟩
abbrev S8192x2048 : Shape := ⟨2, ![8192, 2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x4096 .f32) (main_arg1 : FVec F S256x4096 .f32) (main_arg2 : FVec F S8192x2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Pre_rms_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S2048_S8192x2048_1 : S2048.BroadcastsInDim S8192x2048 (![1] : Fin 1 → Fin S8192x2048.rank)

variable [Facts]

def fn {F : FTy → Type} [FloatOps F] (main_arg0 : FVec F S8192x2048 .f32) (main_arg1 : FVec F S8192x2048 .f32) (main_arg2 : FVec F S2048 .f32) (main_arg3 : FVec F S8192x2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : IVec S8192x2048 1 := andi main_v2 main_v5
  let main_v7 : FVec F S8192x2048 .f32 := broadcastInDim S8192x2048 ![1] bcast_S2048_S8192x2048_1 main_arg2
  let main_v8 : FVec F S8192x2048 .f32 := Host.absf main_v7
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  let main_v11 : IVec S8192x2048 1 := andi main_v6 main_v10
  main_v11
-- ==== Pre_sb_finite.lean ====
abbrev S8192x4096 : Shape := ⟨2, ![8192, 4096]⟩
abbrev S8192x3072 : Shape := ⟨2, ![8192, 3072]⟩
abbrev S8192x2048 : Shape := ⟨2, ![8192, 2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x3072 : S_.BroadcastsInDim S8192x3072 (![] : Fin 0 → Fin S8192x3072.rank)
  reducesTo_S8192x3072_S_d0_1 : S8192x3072.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x4096 .f32) (main_arg1 : FVec F S8192x3072 .f32) (main_arg2 : FVec F S8192x2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x3072 .f32 := Host.absf main_arg1
  let main_cst_0 : FVec F S_ .f32 := constant S_ .f32 0x7F800000#32
  let main_v5 : FVec F S8192x3072 .f32 := broadcastInDim S8192x3072 ![] bcast_S_S8192x3072 main_cst_0
  let main_v6 : IVec S8192x3072 1 := cmpf .olt main_v4 main_v5
  let main_c_1 : IVec S_ 1 := constantI S_ 1 1#1
  let main_v7 : IVec S_ 1 := (fun x v => Host.reduce IntOp.andi x v reducesTo_S8192x3072_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Pre_sbf_finite.lean ====
abbrev S8192x4096 : Shape := ⟨2, ![8192, 4096]⟩
abbrev S8192x3072 : Shape := ⟨2, ![8192, 3072]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x3072 : S_.BroadcastsInDim S8192x3072 (![] : Fin 0 → Fin S8192x3072.rank)
  reducesTo_S8192x3072_S_d0_1 : S8192x3072.ReducesTo [0, 1] S_

variable [Facts]

def fn {F : FTy → Type} [FloatOps F] (main_arg0 : FVec F S8192x4096 .f32) (main_arg1 : FVec F S8192x3072 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x3072 .f32 := Host.absf main_arg1
  let main_cst_0 : FVec F S_ .f32 := constant S_ .f32 0x7F800000#32
  let main_v5 : FVec F S8192x3072 .f32 := broadcastInDim S8192x3072 ![] bcast_S_S8192x3072 main_cst_0
  let main_v6 : IVec S8192x3072 1 := cmpf .olt main_v4 main_v5
  let main_c_1 : IVec S_ 1 := constantI S_ 1 1#1
  let main_v7 : IVec S_ 1 := (fun x v => Host.reduce IntOp.andi x v reducesTo_S8192x3072_S_d0_1 h_S_) main_v6 main_c_1
  let main_v8 : IVec S_ 1 := andi main_v3 main_v7
  main_v8
-- ==== Kernel.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .ne arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | .hbm, ⟨51, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x2048, .f32⟩
  | .hbm, ⟨6, _⟩ => ⟨S1x1, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x1, .f32⟩
  | .local _ .vmem, ⟨9, _⟩ => ⟨S256x2048, .bf16⟩
  | .local _ .vmem, ⟨10, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_18 : BitVec 32 := 0#32
  let v46 : BitVec 1 := Scalar.cmpi .ne v45 c0_i32_18
  v46

def k0_cond2 (i : grid0.Coords) : BitVec 1 :=
  let arg0 : BitVec 32 := BitVec.ofNat 32 (i 0).val
  let c0_i32_19 : BitVec 32 := 0#32
  let v47 : BitVec 1 := Scalar.cmpi .ne arg0 c0_i32_19
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x2048, .f32⟩
  | .hbm, ⟨72, _⟩ => ⟨S1x1, .f32⟩
  | .hbm, ⟨73, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel3.lean ====
abbrev S8192x4096 : Shape := ⟨2, ![8192, 4096]⟩
abbrev S256x4096 : Shape := ⟨2, ![256, 4096]⟩
abbrev S8192x2048 : Shape := ⟨2, ![8192, 2048]⟩
abbrev S8192x512 : Shape := ⟨2, ![8192, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S8192x2048, .f32⟩
  | .hbm, ⟨3, _⟩ => ⟨S256x4096, .bf16⟩
  | .hbm, ⟨4, _⟩ => ⟨S8192x512, .bf16⟩
  | .hbm, ⟨5, _⟩ => ⟨S8192x512, .bf16⟩
  | .hbm, ⟨6, _⟩ => ⟨S256x512, .f32⟩
  | .hbm, ⟨7, _⟩ => ⟨S256x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S256x512, .bf16⟩
  | .local _ .vmem, ⟨5, _⟩ => ⟨S256x512, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S256x512, .f32⟩
  | .local _ .vmem, ⟨13, _⟩ => ⟨S256x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x4096 : Shape := ⟨2, ![8192, 4096]⟩
abbrev S256x4096 : Shape := ⟨2, ![256, 4096]⟩
abbrev S8192x2048 : Shape := ⟨2, ![8192, 2048]⟩
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 107
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S8192x2048, .f32⟩
  | .hbm, ⟨3, _⟩ => ⟨S8192x512, .f32⟩
  | .hbm, ⟨4, _⟩ => ⟨S8192x512, .f32⟩
  | .hbm, ⟨5, _⟩ => ⟨S256x512, .f32⟩
  | .hbm, ⟨6, _⟩ => ⟨S256x512, .f32⟩
  | .hbm, ⟨7, _⟩ => ⟨S8192x4x128, .f32⟩
  | .hbm, ⟨8, _⟩ => ⟨S256x4x128, .f32⟩
  | .hbm, ⟨9, _⟩ => ⟨S256x4x128, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x128x8192, .f32⟩
  | .hbm, ⟨53, _⟩ => ⟨S8192x4x128, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x4x128, .f32⟩
  | .hbm, ⟨77, _⟩ => ⟨S4x128x8192, .f32⟩
  | .hbm, ⟨78, _⟩ => ⟨S4x8192x256, .f32⟩
  | .hbm, ⟨79, _⟩ => ⟨S4x128x256, .f32⟩
  | .hbm, ⟨80, _⟩ => ⟨S256x4x128, .f32⟩
  | .hbm, ⟨81, _⟩ => ⟨S4x8192x256, .f32⟩
  | .hbm, ⟨82, _⟩ => ⟨S4x8192x256, .f32⟩
  | .hbm, ⟨83, _⟩ => ⟨S4x8192x256, .f32⟩
  | .hbm, ⟨84, _⟩ => ⟨S_, .f32⟩
  | .hbm, ⟨85, _⟩ => ⟨S4x8192, .f32⟩
  | .hbm, ⟨86, _⟩ => ⟨S4x8192x1, .f32⟩
  | .hbm, ⟨87, _⟩ => ⟨S4x8192x1, .f32⟩
  | .hbm, ⟨88, _⟩ => ⟨S4x8192x256, .f32⟩
  | .hbm, ⟨89, _⟩ => ⟨S4x8192x256, .f32⟩
  | .hbm, ⟨90, _⟩ => ⟨S_, .f32⟩
  | .hbm, ⟨91, _⟩ => ⟨S4x8192, .f32⟩
  | .hbm, ⟨92, _⟩ => ⟨S4x8192x256, .f32⟩
  | .hbm, ⟨93, _⟩ => ⟨S4x8192x256, .f32⟩
  | .hbm, ⟨94, _⟩ => ⟨S4x8192x256, .f32⟩
  | .hbm, ⟨95, _⟩ => ⟨S_, .f32⟩
  | .hbm, ⟨96, _⟩ => ⟨S4x8192x256, .f32⟩
  | .hbm, ⟨97, _⟩ => ⟨S4x8192x256, .f32⟩
  | .hbm, ⟨98, _⟩ => ⟨S4x256x128, .f32⟩
  | .hbm, ⟨99, _⟩ => ⟨S256x4x128, .f32⟩
  | .hbm, ⟨100, _⟩ => ⟨S4x8192x128, .f32⟩
  | .hbm, ⟨101, _⟩ => ⟨S8192x4x128, .f32⟩
  | .hbm, ⟨102, _⟩ => ⟨S256x512, .f32⟩
  | .hbm, ⟨103, _⟩ => ⟨S256x512, .f32⟩
  | .hbm, ⟨104, _⟩ => ⟨S8192x512, .f32⟩
  | .hbm, ⟨105, _⟩ => ⟨S8192x512, .bf16⟩
  | .hbm, ⟨106, _⟩ => ⟨S8192x512, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v41_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v41_1 : Ref sig .tc := ⟨.hbm, 66, rfl⟩
abbrev main_v41_0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel4.lean ====
abbrev S8192x4096 : Shape := ⟨2, ![8192, 4096]⟩
abbrev S8192x3072 : Shape := ⟨2, ![8192, 3072]⟩
abbrev S8192x2048 : Shape := ⟨2, ![8192, 2048]⟩
abbrev S8192x1536 : Shape := ⟨2, ![8192, 1536]⟩
abbrev S8192x12x128 : Shape := ⟨3, ![8192, 12, 128]⟩
abbrev S12x8192x128 : Shape := ⟨3, ![12, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S12x8192x8192 : Shape := ⟨3, ![12, 8192, 8192]⟩
abbrev S_ : Shape := ⟨0, ![]⟩
abbrev S12x8192 : Shape := ⟨2, ![12, 8192]⟩
abbrev S8192x12 : Shape := ⟨2, ![8192, 12]⟩
abbrev S8192x12x1 : Shape := ⟨3, ![8192, 12, 1]⟩
abbrev S1536x8192 : Shape := ⟨2, ![1536, 8192]⟩
abbrev S1024x128 : Shape := ⟨2, ![1024, 128]⟩
abbrev S8192x128 : Shape := ⟨2, ![8192, 128]⟩
abbrev S128x8192 : Shape := ⟨2, ![128, 8192]⟩
abbrev S128x1024 : Shape := ⟨2, ![128, 1024]⟩
abbrev S1024x1 : Shape := ⟨2, ![1024, 1]⟩
abbrev S2x1024x256 : Shape := ⟨3, ![2, 1024, 256]⟩
abbrev S1024x256 : Shape := ⟨2, ![1024, 256]⟩
abbrev S256x256 : Shape := ⟨2, ![256, 256]⟩
abbrev S256x128 : Shape := ⟨2, ![256, 128]⟩
abbrev S1x1024x256 : Shape := ⟨3, ![1, 1024, 256]⟩
abbrev S128x256 : Shape := ⟨2, ![128, 256]⟩
abbrev S1x256x256 : Shape := ⟨3, ![1, 256, 256]⟩
abbrev S256x1 : Shape := ⟨2, ![256, 1]⟩
abbrev S768x128 : Shape := ⟨2, ![768, 128]⟩
abbrev S768x256 : Shape := ⟨2, ![768, 256]⟩
abbrev S1x768x256 : Shape := ⟨3, ![1, 768, 256]⟩
abbrev S512x128 : Shape := ⟨2, ![512, 128]⟩
abbrev S512x256 : Shape := ⟨2, ![512, 256]⟩
abbrev S1x512x256 : Shape := ⟨3, ![1, 512, 256]⟩
abbrev S128x768 : Shape := ⟨2, ![128, 768]⟩
abbrev S128x512 : Shape := ⟨2, ![128, 512]⟩

abbrev nBuf : Space → Nat
  | .hbm => 122
  | .vmem => 33
  | .smem => 0
  | _ => 0

abbrev bufTy : (tb : Table) → Fin (tcTables nBuf tb) → BufTy
  | .hbm, ⟨0, _⟩ => ⟨S8192x4096, .f32⟩
  | .hbm, ⟨1, _⟩ => ⟨S8192x3072, .f32⟩
  | .hbm, ⟨2, _⟩ => ⟨S8192x2048, .f32⟩
  | .hbm, ⟨3, _⟩ => ⟨S8192x1536, .f32⟩
  | .hbm, ⟨4, _⟩ => ⟨S8192x1536, .f32⟩
  | .hbm, ⟨5, _⟩ => ⟨S8192x1536, .f32⟩
  | .hbm, ⟨6, _⟩ => ⟨S8192x12x128, .f32⟩
  | .hbm, ⟨7, _⟩ => ⟨S12x8192x128, .f32⟩
  | .hbm, ⟨8, _⟩ => ⟨S8192x12x128, .f32⟩
  | .hbm, ⟨9, _⟩ => ⟨S12x8192x128, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S12x8192x8192, .f32⟩
  | .hbm, ⟨17, _⟩ => ⟨S_, .f32⟩
  | .hbm, ⟨18, _⟩ => ⟨S12x8192x8192, .f32⟩
  | .hbm, ⟨19, _⟩ => ⟨S12x8192x8192, .f32⟩
  | .hbm, ⟨20, _⟩ => ⟨S12x8192x8192, .f32⟩
  | .hbm, ⟨21, _⟩ => ⟨S12x8192x8192, .f32⟩
  | .hbm, ⟨22, _⟩ => ⟨S_, .f32⟩
  | .hbm, ⟨23, _⟩ => ⟨S12x8192x8192, .f32⟩
  | .hbm, ⟨24, _⟩ => ⟨S12x8192x8192, .f32⟩
  | .hbm, ⟨25, _⟩ => ⟨S12x8192x8192, .f32⟩
  | .hbm, ⟨26, _⟩ => ⟨S12x8192x8192, .f32⟩
  | .hbm, ⟨27, _⟩ => ⟨S12x8192x8192, .i1⟩
  | .hbm, ⟨28, _⟩ => ⟨S12x8192x8192, .f32⟩
  | .hbm, ⟨29, _⟩ => ⟨S12x8192x8192, .f32⟩
  | .hbm, ⟨30, _⟩ => ⟨S12x8192x8192, .f32⟩
  | .hbm, ⟨31, _⟩ => ⟨S12x8192x8192, .f32⟩
  | .hbm, ⟨32, _⟩ => ⟨S12x8192x8192, .f32⟩
  | .hbm, ⟨33, _⟩ => ⟨S12x8192x8192, .f32⟩
  | .hbm, ⟨34, _⟩ => ⟨S12x8192x8192, .f32⟩
  | .hbm, ⟨35, _⟩ => ⟨S12x8192x8192, .f32⟩
  | .hbm, ⟨36, _⟩ => ⟨S12x8192x8192, .f32⟩
  | .hbm, ⟨37, _⟩ => ⟨S_, .f32⟩
  | .hbm, ⟨38, _⟩ => ⟨S_, .f32⟩
  | .hbm, ⟨39, _⟩ => ⟨S12x8192x8192, .i1⟩
  | .hbm, ⟨40, _⟩ => ⟨S12x8192x8192, .f32⟩
  | .hbm, ⟨41, _⟩ => ⟨S12x8192x8192, .f32⟩
  | .hbm, ⟨42, _⟩ => ⟨S_, .f32⟩
  | .hbm, ⟨43, _⟩ => ⟨S12x8192, .f32⟩
  | .hbm, ⟨44, _⟩ => ⟨S12x8192, .f32⟩
  | .hbm, ⟨45, _⟩ => ⟨S8192x12, .f32⟩
  | .hbm, ⟨46, _⟩ => ⟨S8192x12x1, .f32⟩
  | .hbm, ⟨47, _⟩ => ⟨S8192x12x128, .f32⟩
  | .hbm, ⟨48, _⟩ => ⟨S8192x1536, .f32⟩
  | .hbm, ⟨49, _⟩ => ⟨S8192x12x128, .f32⟩
  | .hbm, ⟨50, _⟩ => ⟨S12x8192x128, .f32⟩
  | .hbm, ⟨51, _⟩ => ⟨S8192x12x128, .f32⟩
  | .hbm, ⟨52, _⟩ => ⟨S12x8192x128, .f32⟩
  | .hbm, ⟨53, _⟩ => ⟨S8192x12x128, .f32⟩
  | .hbm, ⟨54, _⟩ => ⟨S12x8192x128, .f32⟩
  | .hbm, ⟨55, _⟩ => ⟨S8192, .i32⟩
  | .hbm, ⟨56, _⟩ => ⟨S1x8192, .i32⟩
  | .hbm, ⟨57, _⟩ => ⟨S8192x1, .i32⟩
  | .hbm, ⟨58, _⟩ => ⟨S8192x8192, .i32⟩
  | .hbm, ⟨59, _⟩ => ⟨S8192x8192, .i32⟩
  | .hbm, ⟨60, _⟩ => ⟨S8192x8192, .i1⟩
  | .hbm, ⟨61, _⟩ => ⟨S12x8192x8192, .f32⟩
  | .hbm, ⟨62, _⟩ => ⟨S_, .f32⟩
  | .hbm, ⟨63, _⟩ => ⟨S12x8192x8192, .f32⟩
  | .hbm, ⟨64, _⟩ => ⟨S12x8192x8192, .f32⟩
  | .hbm, ⟨65, _⟩ => ⟨S12x8192x8192, .f32⟩
  | .hbm, ⟨66, _⟩ => ⟨S_, .f32⟩
  | .hbm, ⟨67, _⟩ => ⟨S12x8192x8192, .f32⟩
  | .hbm, ⟨68, _⟩ => ⟨S12x8192x8192, .f32⟩
  | .hbm, ⟨69, _⟩ => ⟨S12x8192x8192, .f32⟩
  | .hbm, ⟨70, _⟩ => ⟨S12x8192x8192, .f32⟩
  | .hbm, ⟨71, _⟩ => ⟨S12x8192x8192, .i1⟩
  | .hbm, ⟨72, _⟩ => ⟨S12x8192x8192, .f32⟩
  | .hbm, ⟨73, _⟩ => ⟨S12x8192x8192, .f32⟩
  | .hbm, ⟨74, _⟩ => ⟨S12x8192x8192, .f32⟩
  | .hbm, ⟨75, _⟩ => ⟨S12x8192x8192, .f32⟩
  | .hbm, ⟨76, _⟩ => ⟨S12x8192x8192, .f32⟩
  | .hbm, ⟨77, _⟩ => ⟨S12x8192x8192, .f32⟩
  | .hbm, ⟨78, _⟩ => ⟨S12x8192x8192, .f32⟩
  | .hbm, ⟨79, _⟩ => ⟨S12x8192x8192, .f32⟩
  | .hbm, ⟨80, _⟩ => ⟨S12x8192x8192, .f32⟩
  | .hbm, ⟨81, _⟩ => ⟨S12x8192x8192, .f32⟩
  | .hbm, ⟨82, _⟩ => ⟨S12x8192x8192, .f32⟩
  | .hbm, ⟨83, _⟩ => ⟨S_, .f32⟩
  | .hbm, ⟨84, _⟩ => ⟨S12x8192x8192, .f32⟩
  | .hbm, ⟨85, _⟩ => ⟨S12x8192x8192, .f32⟩
  | .hbm, ⟨86, _⟩ => ⟨S12x8192x8192, .f32⟩
  | .hbm, ⟨87, _⟩ => ⟨S12x8192x8192, .f32⟩
  | .hbm, ⟨88, _⟩ => ⟨S12x8192x8192, .i1⟩
  | .hbm, ⟨89, _⟩ => ⟨S12x8192x8192, .f32⟩
  | .hbm, ⟨90, _⟩ => ⟨S12x8192x8192, .f32⟩
  | .hbm, ⟨91, _⟩ => ⟨S12x8192x8192, .f32⟩
  | .hbm, ⟨92, _⟩ => ⟨S12x8192x8192, .f32⟩
  | .hbm, ⟨93, _⟩ => ⟨S12x8192x8192, .f32⟩
  | .hbm, ⟨94, _⟩ => ⟨S12x8192x8192, .f32⟩
  | .hbm, ⟨95, _⟩ => ⟨S12x8192x8192, .f32⟩
  | .hbm, ⟨96, _⟩ => ⟨S12x8192x8192, .f32⟩
  | .hbm, ⟨97, _⟩ => ⟨S12x8192x8192, .f32⟩
  | .hbm, ⟨98, _⟩ => ⟨S_, .f32⟩
  | .hbm, ⟨99, _⟩ => ⟨S_, .f32⟩
  | .hbm, ⟨100, _⟩ => ⟨S12x8192x8192, .i1⟩
  | .hbm, ⟨101, _⟩ => ⟨S12x8192x8192, .f32⟩
  | .hbm, ⟨102, _⟩ => ⟨S12x8192x8192, .f32⟩
  | .hbm, ⟨103, _⟩ => ⟨S_, .f32⟩
  | .hbm, ⟨104, _⟩ => ⟨S_, .f32⟩
  | .hbm, ⟨105, _⟩ => ⟨S12x8192x8192, .f32⟩
  | .hbm, ⟨106, _⟩ => ⟨S12x8192x8192, .f32⟩
  | .hbm, ⟨107, _⟩ => ⟨S12x8192x8192, .f32⟩
  | .hbm, ⟨108, _⟩ => ⟨S12x8192x8192, .f32⟩
  | .hbm, ⟨109, _⟩ => ⟨S_, .f32⟩
  | .hbm, ⟨110, _⟩ => ⟨S_, .f32⟩
  | .hbm, ⟨111, _⟩ => ⟨S12x8192x8192, .i1⟩
  | .hbm, ⟨112, _⟩ => ⟨S12x8192x8192, .f32⟩
  | .hbm, ⟨113, _⟩ => ⟨S12x8192x8192, .f32⟩
  | .hbm, ⟨114, _⟩ => ⟨S12x8192x128, .f32⟩
  | .hbm, ⟨115, _⟩ => ⟨S8192x12x128, .f32⟩
  | .hbm, ⟨116, _⟩ => ⟨S8192x1536, .f32⟩
  | .hbm, ⟨117, _⟩ => ⟨S8192x3072, .bf16⟩
  | .hbm, ⟨118, _⟩ => ⟨S8192x1536, .bf16⟩
  | .hbm, ⟨119, _⟩ => ⟨S8192x1536, .bf16⟩
  | .hbm, ⟨120, _⟩ => ⟨S1536x8192, .f32⟩
  | .hbm, ⟨121, _⟩ => ⟨S1536x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S128x8192, .f32⟩
  | .local _ .vmem, ⟨19, _⟩ => ⟨S128x8192, .f32⟩
  | .local _ .vmem, ⟨20, _⟩ => ⟨S128x8192, .f32⟩
  | .local _ .vmem, ⟨21, _⟩ => ⟨S128x8192, .f32⟩
  | .local _ .vmem, ⟨22, _⟩ => ⟨S1024x128, .bf16⟩
  | .local _ .vmem, ⟨23, _⟩ => ⟨S1024x128, .bf16⟩
  | .local _ .vmem, ⟨24, _⟩ => ⟨S128x1024, .bf16⟩
  | .local _ .vmem, ⟨25, _⟩ => ⟨S128x1024, .bf16⟩
  | .local _ .vmem, ⟨26, _⟩ => ⟨S1024x128, .f32⟩
  | .local _ .vmem, ⟨27, _⟩ => ⟨S1024x1, .f32⟩
  | .local _ .vmem, ⟨28, _⟩ => ⟨S1024x1, .f32⟩
  | .local _ .vmem, ⟨29, _⟩ => ⟨S2x1024x256, .f32⟩
  | .local _ .vmem, ⟨30, _⟩ => ⟨S2x1024x256, .f32⟩
  | .local _ .vmem, ⟨31, _⟩ => ⟨S1024x256, .bf16⟩
  | .local _ .vmem, ⟨32, _⟩ => ⟨S1024x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_call2_v0 : Ref sig .tc := ⟨.hbm, 65, rfl⟩
abbrev main_call2_call0_cst : Ref sig .tc := ⟨.hbm, 66, rfl⟩
abbrev main_call2_call0_v0 : Ref sig .tc := ⟨.hbm, 67, rfl⟩
abbrev main_call2_call0_v1 : Ref sig .tc := ⟨.hbm, 68, rfl⟩
abbrev main_call2_call0_v2 : Ref sig .tc := ⟨.hbm, 69, rfl⟩
abbrev main_call2_call0_v3 : Ref sig .tc := ⟨.hbm, 70, rfl⟩
abbrev main_call2_call0_v4 : Ref sig .tc := ⟨.hbm, 71, rfl⟩
abbrev main_call2_call0_v5 : Ref sig .tc := ⟨.hbm, 72, rfl⟩
abbrev main_call2_call0_v6 : Ref sig .tc := ⟨.hbm, 73, rfl⟩
abbrev main_call2_call0_v7 : Ref sig .tc := ⟨.hbm, 74, rfl⟩
abbrev main_call2_call0_v8 : Ref sig .tc := ⟨.hbm, 75, rfl⟩
abbrev main_call2_call0_v9 : Ref sig .tc := ⟨.hbm, 76, rfl⟩
abbrev main_call2_call0_v10 : Ref sig .tc := ⟨.hbm, 77, rfl⟩
abbrev main_call2_call0_v11 : Ref sig .tc := ⟨.hbm, 78, rfl⟩
abbrev main_call2_v1 : Ref sig .tc := ⟨.hbm, 79, rfl⟩
abbrev main_v40 : Ref sig .tc := ⟨.hbm, 80, rfl⟩
abbrev main_v41 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1 : Ref sig .tc := ⟨.hbm, 96, rfl⟩
abbrev main_v42 : Ref sig .tc := ⟨.hbm, 97, rfl⟩
abbrev main_cst_3 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v43 : Ref sig .tc := ⟨.hbm, 102, rfl⟩
abbrev main_call5_cst : Ref sig .tc := ⟨.hbm, 103, rfl⟩
abbrev main_call5_v0 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_cst_4 : Ref sig .tc := ⟨.hbm, 109, rfl⟩
abbrev main_call6_v0 : Ref sig .tc := ⟨.hbm, 110, rfl⟩
abbrev main_call6_v1 : Ref sig .tc := ⟨.hbm, 111, rfl⟩
abbrev main_call6_v2 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53_0 : Ref sig .tc := ⟨.hbm, 118, rfl⟩
abbrev main_v53_1 : Ref sig .tc := ⟨.hbm, 119, rfl⟩
abbrev main_v53_2 : Ref sig .tc := ⟨.hbm, 120, rfl⟩
abbrev main_v53_3 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![12, 8], ![false, false]⟩

def k0_mult1 : BitVec 32 :=
  let c0_i32_42 : BitVec 32 := 0#32
  c0_i32_42
@[reducible] def k0_t1_loop (i : grid0.Coords) : Scf.Loop 32 :=
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_66 : BitVec 32 := 1#32
  ⟨c0_i32_64, v115, c1_i32_66⟩
def k0_mult2 (i : grid0.Coords) (k0_t1 : Fin (k0_t1_loop i).trips) : BitVec 32 :=
  let c2_i32_517 : BitVec 32 := 2#32
  let c0_i32_64 : BitVec 32 := 0#32
  let c1_i32_66 : BitVec 32 := 1#32
  let arg24 : BitVec 32 := Scf.iv c0_i32_64 c1_i32_66 k0_t1
  let v991 : BitVec 32 := Scalar.muli c2_i32_517 arg24
  let c1_i32_518 : BitVec 32 := 1#32
  let v992 : BitVec 32 := Scalar.subi v991 c1_i32_518
  let c0_i32_519 : BitVec 32 := 0#32
  let v993 : BitVec 32 := Scalar.maxsi v992 c0_i32_519
  let c256_i32_520 : BitVec 32 := 256#32
  let v994 : BitVec 32 := Scalar.muli v993 c256_i32_520
  v994
def k0_off1 (i : grid0.Coords) (k0_t1 : Fin (k0_t1_loop i).trips) : Fin 2 → Nat :=
  let c2_i32_517 : BitVec 32 := 2#32
  let c0_i32_64 : BitVec 32 := 0#32
  let c1_i32_66 : BitVec 32 := 1#32
  let arg24 : BitVec 32 := Scf.iv c0_i32_64 c1_i32_66 k0_t1
  let v991 : BitVec 32 := Scalar.muli c2_i32_517 arg24
  let c1_i32_518 : BitVec 32 := 1#32
  let v992 : BitVec 32 := Scalar.subi v991 c1_i32_518
  let c0_i32_519 : BitVec 32 := 0#32
  let v993 : BitVec 32 := Scalar.maxsi v992 c0_i32_519
  let c256_i32_520 : BitVec 32 := 256#32
  let v994 : BitVec 32 := Scalar.muli v993 c256_i32_520
  let v995 : BitVec 32 := v994
  let v996 : Index := Scalar.indexCast v995
  let c0_521 : Index := 0#32
  ![v996.toNat, 0]
def k0_off2 (i : grid0.Coords) (k0_t1 : Fin (k0_t1_loop i).trips) : Fin 2 → Nat :=
  let c0_529 : Index := 0#32
  let c2_i32_517 : BitVec 32 := 2#32
  let c0_i32_64 : BitVec 32 := 0#32
  let c1_i32_66 : BitVec 32 := 1#32
  let arg24 : BitVec 32 := Scf.iv c0_i32_64 c1_i32_66 k0_t1
  let v991 : BitVec 32 := Scalar.muli c2_i32_517 arg24
  let c1_i32_518 : BitVec 32 := 1#32
  let v992 : BitVec 32 := Scalar.subi v991 c1_i32_518
  let c0_i32_519 : BitVec 32 := 0#32
  let v993 : BitVec 32 := Scalar.maxsi v992 c0_i32_519
  let c256_i32_520 : BitVec 32 := 256#32
  let v994 : BitVec 32 := Scalar.muli v993 c256_i32_520
  let v995 : BitVec 32 := v994
  let v1006 : Index := Scalar.indexCast v995
  ![0, v1006.toNat]
def k0_mult3 (i : grid0.Coords) (k0_t1 : Fin (k0_t1_loop i).trips) : BitVec 32 :=
  let c2_i32_517 : BitVec 32 := 2#32
  let c0_i32_64 : BitVec 32 := 0#32
  let c1_i32_66 : BitVec 32 := 1#32
  let arg24 : BitVec 32 := Scf.iv c0_i32_64 c1_i32_66 k0_t1
  let v991 : BitVec 32 := Scalar.muli c2_i32_517 arg24
  let c1_i32_543 : BitVec 32 := 1#32
  let v1024 : BitVec 32 := Scalar.addi v991 c1_i32_543
  let c256_i32_544 : BitVec 32 := 256#32
  let v1025 : BitVec 32 := Scalar.muli v1024 c256_i32_544
  v1025
def k0_off3 (i : grid0.Coords) (k0_t1 : Fin (k0_t1_loop i).trips) : Fin 2 → Nat :=
  let c2_i32_517 : BitVec 32 := 2#32
  let c0_i32_64 : BitVec 32 := 0#32
  let c1_i32_66 : BitVec 32 := 1#32
  let arg24 : BitVec 32 := Scf.iv c0_i32_64 c1_i32_66 k0_t1
  let v991 : BitVec 32 := Scalar.muli c2_i32_517 arg24
  let c1_i32_543 : BitVec 32 := 1#32
  let v1024 : BitVec 32 := Scalar.addi v991 c1_i32_543
  let c256_i32_544 : BitVec 32 := 256#32
  let v1025 : BitVec 32 := Scalar.muli v1024 c256_i32_544
  let v1026 : BitVec 32 := v1025
  let v1027 : Index := Scalar.indexCast v1026
  let c0_545 : Index := 0#32
  ![v1027.toNat, 0]
def k0_mult4 (i : grid0.Coords) (k0_t1 : Fin (k0_t1_loop i).trips) : BitVec 32 :=
  let c2_i32_664 : BitVec 32 := 2#32
  let c0_i32_64 : BitVec 32 := 0#32
  let c1_i32_66 : BitVec 32 := 1#32
  let arg24 : BitVec 32 := Scf.iv c0_i32_64 c1_i32_66 k0_t1
  let v1289 : BitVec 32 := Scalar.muli c2_i32_664 arg24
  let c1_i32_665 : BitVec 32 := 1#32
  let v1290 : BitVec 32 := Scalar.addi v1289 c1_i32_665
  let c1_i32_666 : BitVec 32 := 1#32
  let v1291 : BitVec 32 := Scalar.subi v1290 c1_i32_666
  let c0_i32_667 : BitVec 32 := 0#32
  let v1292 : BitVec 32 := Scalar.maxsi v1291 c0_i32_667
  let c256_i32_668 : BitVec 32 := 256#32
  let v1293 : BitVec 32 := Scalar.muli v1292 c256_i32_668
  v1293
def k0_off4 (i : grid0.Coords) (k0_t1 : Fin (k0_t1_loop i).trips) : Fin 2 → Nat :=
  let c2_i32_664 : BitVec 32 := 2#32
  let c0_i32_64 : BitVec 32 := 0#32
  let c1_i32_66 : BitVec 32 := 1#32
  let arg24 : BitVec 32 := Scf.iv c0_i32_64 c1_i32_66 k0_t1
  let v1289 : BitVec 32 := Scalar.muli c2_i32_664 arg24
  let c1_i32_665 : BitVec 32 := 1#32
  let v1290 : BitVec 32 := Scalar.addi v1289 c1_i32_665
  let c1_i32_666 : BitVec 32 := 1#32
  let v1291 : BitVec 32 := Scalar.subi v1290 c1_i32_666
  let c0_i32_667 : BitVec 32 := 0#32
  let v1292 : BitVec 32 := Scalar.maxsi v1291 c0_i32_667
  let c256_i32_668 : BitVec 32 := 256#32
  let v1293 : BitVec 32 := Scalar.muli v1292 c256_i32_668
  let v1294 : BitVec 32 := v1293
  let v1295 : Index := Scalar.indexCast v1294
  let c0_669 : Index := 0#32
  ![v1295.toNat, 0]
def k0_off5 (i : grid0.Coords) (k0_t1 : Fin (k0_t1_loop i).trips) : Fin 2 → Nat :=
  let c0_677 : Index := 0#32
  let c2_i32_664 : BitVec 32 := 2#32
  let c0_i32_64 : BitVec 32 := 0#32
  let c1_i32_66 : BitVec 32 := 1#32
  let arg24 : BitVec 32 := Scf.iv c0_i32_64 c1_i32_66 k0_t1
  let v1289 : BitVec 32 := Scalar.muli c2_i32_664 arg24
  let c1_i32_665 : BitVec 32 := 1#32
  let v1290 : BitVec 32 := Scalar.addi v1289 c1_i32_665
  let c1_i32_666 : BitVec 32 := 1#32
  let v1291 : BitVec 32 := Scalar.subi v1290 c1_i32_666
  let c0_i32_667 : BitVec 32 := 0#32
  let v1292 : BitVec 32 := Scalar.maxsi v1291 c0_i32_667
  let c256_i32_668 : BitVec 32 := 256#32
  let v1293 : BitVec 32 := Scalar.muli v1292 c256_i32_668
  let v1294 : BitVec 32 := v1293
  let v1305 : Index := Scalar.indexCast v1294
  ![0, v1305.toNat]
def k0_mult5 (i : grid0.Coords) (k0_t1 : Fin (k0_t1_loop i).trips) : BitVec 32 :=
  let c2_i32_664 : BitVec 32 := 2#32
  let c0_i32_64 : BitVec 32 := 0#32
  let c1_i32_66 : BitVec 32 := 1#32
  let arg24 : BitVec 32 := Scf.iv c0_i32_64 c1_i32_66 k0_t1
  let v1289 : BitVec 32 := Scalar.muli c2_i32_664 arg24
  let c1_i32_665 : BitVec 32 := 1#32
  let v1290 : BitVec 32 := Scalar.addi v1289 c1_i32_665
  let c1_i32_691 : BitVec 32 := 1#32
  let v1323 : BitVec 32 := Scalar.addi v1290 c1_i32_691
  let c256_i32_692 : BitVec 32 := 256#32
  let v1324 : BitVec 32 := Scalar.muli v1323 c256_i32_692
  v1324
def k0_off6 (i : grid0.Coords) (k0_t1 : Fin (k0_t1_loop i).trips) : Fin 2 → Nat :=
  let c2_i32_664 : BitVec 32 := 2#32
  let c0_i32_64 : BitVec 32 := 0#32
  let c1_i32_66 : BitVec 32 := 1#32
  let arg24 : BitVec 32 := Scf.iv c0_i32_64 c1_i32_66 k0_t1
  let v1289 : BitVec 32 := Scalar.muli c2_i32_664 arg24
  let c1_i32_665 : BitVec 32 := 1#32
  let v1290 : BitVec 32 := Scalar.addi v1289 c1_i32_665
  let c1_i32_691 : BitVec 32 := 1#32
  let v1323 : BitVec 32 := Scalar.addi v1290 c1_i32_691
  let c256_i32_692 : BitVec 32 := 256#32
  let v1324 : BitVec 32 := Scalar.muli v1323 c256_i32_692
  let v1325 : BitVec 32 := v1324
  let v1326 : Index := Scalar.indexCast v1325
  let c0_693 : Index := 0#32
  ![v1326.toNat, 0]
@[reducible] def k0_t2_loop (i : grid0.Coords) : Scf.Loop 32 :=
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let v112 : BitVec 32 := Scalar.addi c0_i32_64 v111
  let c1_i32_67 : BitVec 32 := 1#32
  ⟨v115, v112, c1_i32_67⟩
def k0_mult6 (i : grid0.Coords) (k0_t2 : Fin (k0_t2_loop i).trips) : BitVec 32 :=
  let c2_i32_517 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v991 : BitVec 32 := Scalar.muli c2_i32_517 arg24
  let c1_i32_518 : BitVec 32 := 1#32
  let v992 : BitVec 32 := Scalar.subi v991 c1_i32_518
  let c0_i32_519 : BitVec 32 := 0#32
  let v993 : BitVec 32 := Scalar.maxsi v992 c0_i32_519
  let c256_i32_520 : BitVec 32 := 256#32
  let v994 : BitVec 32 := Scalar.muli v993 c256_i32_520
  v994
def k0_off7 (i : grid0.Coords) (k0_t2 : Fin (k0_t2_loop i).trips) : Fin 2 → Nat :=
  let c2_i32_517 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v991 : BitVec 32 := Scalar.muli c2_i32_517 arg24
  let c1_i32_518 : BitVec 32 := 1#32
  let v992 : BitVec 32 := Scalar.subi v991 c1_i32_518
  let c0_i32_519 : BitVec 32 := 0#32
  let v993 : BitVec 32 := Scalar.maxsi v992 c0_i32_519
  let c256_i32_520 : BitVec 32 := 256#32
  let v994 : BitVec 32 := Scalar.muli v993 c256_i32_520
  let v995 : BitVec 32 := v994
  let v996 : Index := Scalar.indexCast v995
  let c0_521 : Index := 0#32
  ![v996.toNat, 0]
def k0_off8 (i : grid0.Coords) (k0_t2 : Fin (k0_t2_loop i).trips) : Fin 2 → Nat :=
  let c0_529 : Index := 0#32
  let c2_i32_517 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v991 : BitVec 32 := Scalar.muli c2_i32_517 arg24
  let c1_i32_518 : BitVec 32 := 1#32
  let v992 : BitVec 32 := Scalar.subi v991 c1_i32_518
  let c0_i32_519 : BitVec 32 := 0#32
  let v993 : BitVec 32 := Scalar.maxsi v992 c0_i32_519
  let c256_i32_520 : BitVec 32 := 256#32
  let v994 : BitVec 32 := Scalar.muli v993 c256_i32_520
  let v995 : BitVec 32 := v994
  let v1006 : Index := Scalar.indexCast v995
  ![0, v1006.toNat]
def k0_mult7 (i : grid0.Coords) (k0_t2 : Fin (k0_t2_loop i).trips) : BitVec 32 :=
  let c2_i32_517 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v991 : BitVec 32 := Scalar.muli c2_i32_517 arg24
  let c1_i32_543 : BitVec 32 := 1#32
  let v1024 : BitVec 32 := Scalar.addi v991 c1_i32_543
  let c256_i32_544 : BitVec 32 := 256#32
  let v1025 : BitVec 32 := Scalar.muli v1024 c256_i32_544
  v1025
def k0_off9 (i : grid0.Coords) (k0_t2 : Fin (k0_t2_loop i).trips) : Fin 2 → Nat :=
  let c2_i32_517 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v991 : BitVec 32 := Scalar.muli c2_i32_517 arg24
  let c1_i32_543 : BitVec 32 := 1#32
  let v1024 : BitVec 32 := Scalar.addi v991 c1_i32_543
  let c256_i32_544 : BitVec 32 := 256#32
  let v1025 : BitVec 32 := Scalar.muli v1024 c256_i32_544
  let v1026 : BitVec 32 := v1025
  let v1027 : Index := Scalar.indexCast v1026
  let c0_545 : Index := 0#32
  ![v1027.toNat, 0]
def k0_mult8 (i : grid0.Coords) (k0_t2 : Fin (k0_t2_loop i).trips) : BitVec 32 :=
  let c2_i32_664 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v1289 : BitVec 32 := Scalar.muli c2_i32_664 arg24
  let c1_i32_665 : BitVec 32 := 1#32
  let v1290 : BitVec 32 := Scalar.addi v1289 c1_i32_665
  let c1_i32_666 : BitVec 32 := 1#32
  let v1291 : BitVec 32 := Scalar.subi v1290 c1_i32_666
  let c0_i32_667 : BitVec 32 := 0#32
  let v1292 : BitVec 32 := Scalar.maxsi v1291 c0_i32_667
  let c256_i32_668 : BitVec 32 := 256#32
  let v1293 : BitVec 32 := Scalar.muli v1292 c256_i32_668
  v1293
def k0_off10 (i : grid0.Coords) (k0_t2 : Fin (k0_t2_loop i).trips) : Fin 2 → Nat :=
  let c2_i32_664 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v1289 : BitVec 32 := Scalar.muli c2_i32_664 arg24
  let c1_i32_665 : BitVec 32 := 1#32
  let v1290 : BitVec 32 := Scalar.addi v1289 c1_i32_665
  let c1_i32_666 : BitVec 32 := 1#32
  let v1291 : BitVec 32 := Scalar.subi v1290 c1_i32_666
  let c0_i32_667 : BitVec 32 := 0#32
  let v1292 : BitVec 32 := Scalar.maxsi v1291 c0_i32_667
  let c256_i32_668 : BitVec 32 := 256#32
  let v1293 : BitVec 32 := Scalar.muli v1292 c256_i32_668
  let v1294 : BitVec 32 := v1293
  let v1295 : Index := Scalar.indexCast v1294
  let c0_669 : Index := 0#32
  ![v1295.toNat, 0]
def k0_off11 (i : grid0.Coords) (k0_t2 : Fin (k0_t2_loop i).trips) : Fin 2 → Nat :=
  let c0_677 : Index := 0#32
  let c2_i32_664 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v1289 : BitVec 32 := Scalar.muli c2_i32_664 arg24
  let c1_i32_665 : BitVec 32 := 1#32
  let v1290 : BitVec 32 := Scalar.addi v1289 c1_i32_665
  let c1_i32_666 : BitVec 32 := 1#32
  let v1291 : BitVec 32 := Scalar.subi v1290 c1_i32_666
  let c0_i32_667 : BitVec 32 := 0#32
  let v1292 : BitVec 32 := Scalar.maxsi v1291 c0_i32_667
  let c256_i32_668 : BitVec 32 := 256#32
  let v1293 : BitVec 32 := Scalar.muli v1292 c256_i32_668
  let v1294 : BitVec 32 := v1293
  let v1305 : Index := Scalar.indexCast v1294
  ![0, v1305.toNat]
def k0_mult9 (i : grid0.Coords) (k0_t2 : Fin (k0_t2_loop i).trips) : BitVec 32 :=
  let c2_i32_664 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v1289 : BitVec 32 := Scalar.muli c2_i32_664 arg24
  let c1_i32_665 : BitVec 32 := 1#32
  let v1290 : BitVec 32 := Scalar.addi v1289 c1_i32_665
  let c1_i32_691 : BitVec 32 := 1#32
  let v1323 : BitVec 32 := Scalar.addi v1290 c1_i32_691
  let c256_i32_692 : BitVec 32 := 256#32
  let v1324 : BitVec 32 := Scalar.muli v1323 c256_i32_692
  v1324
def k0_off12 (i : grid0.Coords) (k0_t2 : Fin (k0_t2_loop i).trips) : Fin 2 → Nat :=
  let c2_i32_664 : BitVec 32 := 2#32
  let c0_i32_64 : BitVec 32 := 0#32
  let arg1 : BitVec 32 := BitVec.ofNat 32 (i 1).val
  let c4_i32 : BitVec 32 := 4#32
  let v74 : BitVec 32 := Scalar.muli arg1 c4_i32
  let c0_i32_58 : BitVec 32 := 0#32
  let v95 : BitVec 1 := Scalar.cmpi .sgt v74 c0_i32_58
  let v96 : BitVec 32 := Scalar.extui v95
  let c0_i32_59 : BitVec 32 := 0#32
  let v97 : BitVec 1 := Scalar.cmpi .slt v74 c0_i32_59
  let v98 : BitVec 32 := Scalar.extui v97
  let v99 : BitVec 32 := Scalar.subi v96 v98
  let c2_i32 : BitVec 32 := 2#32
  let c0_i32_60 : BitVec 32 := 0#32
  let v100 : BitVec 1 := Scalar.cmpi .sgt c2_i32 c0_i32_60
  let v101 : BitVec 32 := Scalar.extui v100
  let c0_i32_61 : BitVec 32 := 0#32
  let v102 : BitVec 1 := Scalar.cmpi .slt c2_i32 c0_i32_61
  let v103 : BitVec 32 := Scalar.extui v102
  let v104 : BitVec 32 := Scalar.subi v101 v103
  let v105 : BitVec 1 := Scalar.cmpi .ne v99 v104
  let v106 : BitVec 32 := Scalar.remsi v74 c2_i32
  let c0_i32_62 : BitVec 32 := 0#32
  let v107 : BitVec 1 := Scalar.cmpi .ne v106 c0_i32_62
  let v108 : BitVec 1 := Scalar.andi v105 v107
  let v94 : BitVec 32 := Scalar.divsi v74 c2_i32
  let c1_i32 : BitVec 32 := 1#32
  let v109 : BitVec 32 := Scalar.subi v94 c1_i32
  let v110 : BitVec 32 := Scalar.select v108 v109 v94
  let v111 : BitVec 32 := Scalar.subi v110 c0_i32_64
  let c1_i32_65 : BitVec 32 := 1#32
  let v113 : BitVec 32 := Scalar.divsi v111 c1_i32_65
  let v114 : BitVec 32 := Scalar.muli v113 c1_i32_65
  let v115 : BitVec 32 := Scalar.addi c0_i32_64 v114
  let c1_i32_67 : BitVec 32 := 1#32
  let arg24 : BitVec 32 := Scf.iv v115 c1_i32_67 k0_t2
  let v1289 : BitVec 32 := Scalar.muli c2_i32_664 arg24
  let c1_i32_665 : BitVec 32 := 1#32
  let v1290 : BitVec 32 := Scalar.addi v1289 c1_i32_665
  let c1_i32_691 : BitVec 32 := 1#32
  let v1323 : BitVec 32 := Scalar.addi v1290 c1_i32_691
  let c256_i32_692 : BitVec 32 := 256#32
  let v1324 : BitVec 32 := Scalar.muli v1323 c256_i32_692
  let v1325 : BitVec 32 := v1324
  let v1326 : Index := Scalar.indexCast v1325
  let c0_693 : Index := 0#32
  ![v1326.toNat, 0]
def k0_mult10 (i : grid0.Coords) : BitVec 32 :=
  let arg1 : BitVec 32 := BitVec.ofNat 32 (i 1).val
  let c4_i32 : BitVec 32 := 4#32
  let v74 : BitVec 32 := Scalar.muli arg1 c4_i32
  let c1_i32_68 : BitVec 32 := 1#32
  let v116 : BitVec 32 := Scalar.subi v74 c1_i32_68
  let c0_i32_69 : BitVec 32 := 0#32
  let v117 : BitVec 32 := Scalar.maxsi v116 c0_i32_69
  let c256_i32 : BitVec 32 := 256#32
  let v118 : BitVec 32 := Scalar.muli v117 c256_i32
  v118
def k0_off13 (i : grid0.Coords) : Fin 2 → Nat :=
  let arg1 : BitVec 32 := BitVec.ofNat 32 (i 1).val
  let c4_i32 : BitVec 32 := 4#32
  let v74 : BitVec 32 := Scalar.muli arg1 c4_i32
  let c1_i32_68 : BitVec 32 := 1#32
  let v116 : BitVec 32 := Scalar.subi v74 c1_i32_68
  let c0_i32_69 : BitVec 32 := 0#32
  let v117 : BitVec 32 := Scalar.maxsi v116 c0_i32_69
  let c256_i32 : BitVec 32 := 256#32
  let v118 : BitVec 32 := Scalar.muli v117 c256_i32
  let v119 : BitVec 32 := v118
  let v120 : Index := Scalar.indexCast v119
  let c0_70 : Index := 0#32
  ![v120.toNat, 0]
def k0_off14 (i : grid0.Coords) : Fin 2 → Nat :=
  let c0_78 : Index := 0#32
  let arg1 : BitVec 32 := BitVec.ofNat 32 (i 1).val
  let c4_i32 : BitVec 32 := 4#32
  let v74 : BitVec 32 := Scalar.muli arg1 c4_i32
  let c1_i32_68 : BitVec 32 := 1#32
  let v116 : BitVec 32 := Scalar.subi v74 c1_i32_68
  let c0_i32_69 : BitVec 32 := 0#32
  let v117 : BitVec 32 := Scalar.maxsi v116 c0_i32_69
  let c256_i32 : BitVec 32 := 256#32
  let v118 : BitVec 32 := Scalar.muli v117 c256_i32
  let v119 : BitVec 32 := v118
  let v130 : Index := Scalar.indexCast v119
  ![0, v130.toNat]
def k0_mult11 (i : grid0.Coords) : BitVec 32 :=
  let arg1 : BitVec 32 := BitVec.ofNat 32 (i 1).val
  let c4_i32 : BitVec 32 := 4#32
  let v74 : BitVec 32 := Scalar.muli arg1 c4_i32
  let c0_i32_92 : BitVec 32 := 0#32
  let v148 : BitVec 32 := Scalar.addi v74 c0_i32_92
  let c1_i32_93 : BitVec 32 := 1#32
  let v149 : BitVec 32 := Scalar.addi v148 c1_i32_93
  let c256_i32_94 : BitVec 32 := 256#32
  let v150 : BitVec 32 := Scalar.muli v149 c256_i32_94
  v150
def k0_off15 (i : grid0.Coords) (c0_i32_92 : BitVec 32) : Fin 2 → Nat :=
  let arg1 : BitVec 32 := BitVec.ofNat 32 (i 1).val
  let c4_i32 : BitVec 32 := 4#32
  let v74 : BitVec 32 := Scalar.muli arg1 c4_i32
  let v148 : BitVec 32 := Scalar.addi v74 c0_i32_92
  let c1_i32_93 : BitVec 32 := 1#32
  let v149 : BitVec 32 := Scalar.addi v148 c1_i32_93
  let c256_i32_94 : BitVec 32 := 256#32
  let v150 : BitVec 32 := Scalar.muli v149 c256_i32_94
  let v151 : BitVec 32 := v150
  let v152 : Index := Scalar.indexCast v151
  let c0_95 : Index := 0#32
  ![v152.toNat, 0]
def k0_mult12 (i : grid0.Coords) : BitVec 32 :=
  let arg1 : BitVec 32 := BitVec.ofNat 32 (i 1).val
  let c4_i32 : BitVec 32 := 4#32
  let v74 : BitVec 32 := Scalar.muli arg1 c4_i32
  let c1_i32_213 : BitVec 32 := 1#32
  let v423 : BitVec 32 := Scalar.addi v74 c1_i32_213
  let c1_i32_214 : BitVec 32 := 1#32
  let v424 : BitVec 32 := Scalar.subi v423 c1_i32_214
  let c256_i32_215 : BitVec 32 := 256#32
  let v425 : BitVec 32 := Scalar.muli v424 c256_i32_215
  v425
def k0_off16 (i : grid0.Coords) (c1_i32_213 : BitVec 32) : Fin 2 → Nat :=
  let arg1 : BitVec 32 := BitVec.ofNat 32 (i 1).val
  let c4_i32 : BitVec 32 := 4#32
  let v74 : BitVec 32 := Scalar.muli arg1 c4_i32
  let v423 : BitVec 32 := Scalar.addi v74 c1_i32_213
  let c1_i32_214 : BitVec 32 := 1#32
  let v424 : BitVec 32 := Scalar.subi v423 c1_i32_214
  let c256_i32_215 : BitVec 32 := 256#32
  let v425 : BitVec 32 := Scalar.muli v424 c256_i32_215
  let v426 : BitVec 32 := v425
  let v427 : Index := Scalar.indexCast v426
  let c0_216 : Index := 0#32
  ![v427.toNat, 0]
def k0_off17 (i : grid0.Coords) (c1_i32_213 : BitVec 32) : Fin 2 → Nat :=
  let c0_224 : Index := 0#32
  let arg1 : BitVec 32 := BitVec.ofNat 32 (i 1).val
  let c4_i32 : BitVec 32 := 4#32
  let v74 : BitVec 32 := Scalar.muli arg1 c4_i32
  let v423 : BitVec 32 := Scalar.addi v74 c1_i32_213
  let c1_i32_214 : BitVec 32 := 1#32
  let v424 : BitVec 32 := Scalar.subi v423 c1_i32_214
  let c256_i32_215 : BitVec 32 := 256#32
  let v425 : BitVec 32 := Scalar.muli v424 c256_i32_215
  let v426 : BitVec 32 := v425
  let v437 : Index := Scalar.indexCast v426
  ![0, v437.toNat]
def k0_mult13 (i : grid0.Coords) : BitVec 32 :=
  let arg1 : BitVec 32 := BitVec.ofNat 32 (i 1).val
  let c4_i32 : BitVec 32 := 4#32
  let v74 : BitVec 32 := Scalar.muli arg1 c4_i32
  let c1_i32_238 : BitVec 32 := 1#32
  let v455 : BitVec 32 := Scalar.addi v74 c1_i32_238
  let c1_i32_239 : BitVec 32 := 1#32
  let v456 : BitVec 32 := Scalar.addi v455 c1_i32_239
  let c256_i32_240 : BitVec 32 := 256#32
  let v457 : BitVec 32 := Scalar.muli v456 c256_i32_240
  v457
def k0_mult14 (i : grid0.Coords) : BitVec 32 :=
  let arg1 : BitVec 32 := BitVec.ofNat 32 (i 1).val
  let c4_i32 : BitVec 32 := 4#32
  let v74 : BitVec 32 := Scalar.muli arg1 c4_i32
  let c2_i32_337 : BitVec 32 := 2#32
  let v669 : BitVec 32 := Scalar.addi v74 c2_i32_337
  let c1_i32_338 : BitVec 32 := 1#32
  let v670 : BitVec 32 := Scalar.subi v669 c1_i32_338
  let c256_i32_339 : BitVec 32 := 256#32
  let v671 : BitVec 32 := Scalar.muli v670 c256_i32_339
  v671
def k0_mult15 (i : grid0.Coords) : BitVec 32 :=
  let arg1 : BitVec 32 := BitVec.ofNat 32 (i 1).val
  let c4_i32 : BitVec 32 := 4#32
  let v74 : BitVec 32 := Scalar.muli arg1 c4_i32
  let c2_i32_362 : BitVec 32 := 2#32
  let v701 : BitVec 32 := Scalar.addi v74 c2_i32_362
  let c1_i32_363 : BitVec 32 := 1#32
  let v702 : BitVec 32 := Scalar.addi v701 c1_i32_363
  let c256_i32_364 : BitVec 32 := 256#32
  let v703 : BitVec 32 := Scalar.muli v702 c256_i32_364
  v703
def k0_mult16 (i : grid0.Coords) : BitVec 32 :=
  let arg1 : BitVec 32 := BitVec.ofNat 32 (i 1).val
  let c4_i32 : BitVec 32 := 4#32
  let v74 : BitVec 32 := Scalar.muli arg1 c4_i32
  let c3_i32 : BitVec 32 := 3#32
  let v854 : BitVec 32 := Scalar.addi v74 c3_i32
  let c1_i32_435 : BitVec 32 := 1#32
  let v855 : BitVec 32 := Scalar.subi v854 c1_i32_435
  let c256_i32_436 : BitVec 32 := 256#32
  let v856 : BitVec 32 := Scalar.muli v855 c256_i32_436
  v856
def k0_mult17 (i : grid0.Coords) : BitVec 32 :=
  let arg1 : BitVec 32 := BitVec.ofNat 32 (i 1).val
  let c4_i32 : BitVec 32 := 4#32
  let v74 : BitVec 32 := Scalar.muli arg1 c4_i32
  let c4_i32_488 : BitVec 32 := 4#32
  let v956 : BitVec 32 := Scalar.addi v74 c4_i32_488
  let c1_i32_489 : BitVec 32 := 1#32
  let v957 : BitVec 32 := Scalar.subi v956 c1_i32_489
  let c256_i32_490 : BitVec 32 := 256#32
  let v958 : BitVec 32 := Scalar.muli v957 c256_i32_490
  v958
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference4Ideal.lean ====
abbrev S8192x4096 : Shape := ⟨2, ![8192, 4096]⟩
abbrev S8192x3072 : Shape := ⟨2, ![8192, 3072]⟩
abbrev S8192x2048 : Shape := ⟨2, ![8192, 2048]⟩
abbrev S8192x1536 : Shape := ⟨2, ![8192, 1536]⟩
abbrev S8192x12x128 : Shape := ⟨3, ![8192, 12, 128]⟩
abbrev S12x8192x128 : Shape := ⟨3, ![12, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S12x8192x8192 : Shape := ⟨3, ![12, 8192, 8192]⟩
abbrev S_ : Shape := ⟨0, ![]⟩
abbrev S12x128x8192 : Shape := ⟨3, ![12, 128, 8192]⟩
abbrev S1536x8192 : Shape := ⟨2, ![1536, 8192]⟩

abbrev nBuf : Space → Nat
  | .hbm => 204
  | .vmem => 0
  | .smem => 0
  | _ => 0

abbrev hbmTy0_0 (i : Nat) : BufTy := match i % 128 with
  | 0 => ⟨S8192x4096, .f32⟩
  | 1 => ⟨S8192x3072, .f32⟩
  | 2 => ⟨S8192x2048, .f32⟩
  | 3 => ⟨S8192x1536, .f32⟩
  | 4 => ⟨S8192x1536, .f32⟩
  | 5 => ⟨S8192x1536, .f32⟩
  | 6 => ⟨S8192x1536, .f32⟩
  | 7 => ⟨S8192x12x128, .f32⟩
  | 8 => ⟨S12x8192x128, .f32⟩
  | 9 => ⟨S8192x12x128, .f32⟩
  | 10 => ⟨S12x8192x128, .f32⟩
  | 11 => ⟨S8192x12x128, .f32⟩
  | 12 => ⟨S12x8192x128, .f32⟩
  | 13 => ⟨S8192, .i32⟩
  | 14 => ⟨S1x8192, .i32⟩
  | 15 => ⟨S8192x1, .i32⟩
  | 16 => ⟨S8192x8192, .i32⟩
  | 17 => ⟨S8192x8192, .i32⟩
  | 18 => ⟨S8192x8192, .i1⟩
  | 19 => ⟨S12x8192x8192, .f32⟩
  | 20 => ⟨S_, .f32⟩
  | 21 => ⟨S12x8192x8192, .f32⟩
  | 22 => ⟨S12x8192x8192, .f32⟩
  | 23 => ⟨S12x8192x8192, .f32⟩
  | 24 => ⟨S_, .f32⟩
  | 25 => ⟨S12x8192x8192, .f32⟩
  | 26 => ⟨S12x8192x8192, .f32⟩
  | 27 => ⟨S12x8192x8192, .f32⟩
  | 28 => ⟨S12x8192x8192, .f32⟩
  | 29 => ⟨S12x8192x8192, .i1⟩
  | 30 => ⟨S12x8192x8192, .f32⟩
  | 31 => ⟨S12x8192x8192, .f32⟩
  | 32 => ⟨S12x8192x8192, .f32⟩
  | 33 => ⟨S12x8192x8192, .f32⟩
  | 34 => ⟨S12x8192x8192, .f32⟩
  | 35 => ⟨S12x8192x8192, .f32⟩
  | 36 => ⟨S12x8192x8192, .f32⟩
  | 37 => ⟨S12x8192x8192, .f32⟩
  | 38 => ⟨S_, .f32⟩
  | 39 => ⟨S12x8192x8192, .f32⟩
  | 40 => ⟨S12x8192x8192, .i1⟩
  | 41 => ⟨S_, .f32⟩
  | 42 => ⟨S12x8192x8192, .f32⟩
  | 43 => ⟨S12x8192x8192, .f32⟩
  | 44 => ⟨S_, .f32⟩
  | 45 => ⟨S12x8192x8192, .f32⟩
  | 46 => ⟨S12x8192x8192, .i1⟩
  | 47 => ⟨S_, .f32⟩
  | 48 => ⟨S12x8192x8192, .f32⟩
  | 49 => ⟨S12x8192x8192, .f32⟩
  | 50 => ⟨S12x8192x8192, .f32⟩
  | 51 => ⟨S12x8192x8192, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S12x8192x8192, .f32⟩
  | 60 => ⟨S12x8192x8192, .i1⟩
  | 61 => ⟨S_, .f32⟩
  | 62 => ⟨S12x8192x8192, .f32⟩
  | 63 => ⟨S12x8192x8192, .f32⟩
  | 64 => ⟨S12x8192x8192, .f32⟩
  | 65 => ⟨S12x8192x8192, .f32⟩
  | 66 => ⟨S12x8192x8192, .f32⟩
  | 67 => ⟨S_, .f32⟩
  | 68 => ⟨S12x8192x8192, .f32⟩
  | 69 => ⟨S12x8192x8192, .f32⟩
  | 70 => ⟨S12x8192x8192, .f32⟩
  | 71 => ⟨S12x8192x8192, .f32⟩
  | 72 => ⟨S12x8192x8192, .f32⟩
  | 73 => ⟨S_, .f32⟩
  | 74 => ⟨S12x8192x8192, .f32⟩
  | 75 => ⟨S12x8192x8192, .f32⟩
  | 76 => ⟨S12x8192x8192, .f32⟩
  | 77 => ⟨S12x8192x8192, .f32⟩
  | 78 => ⟨S12x8192x8192, .i1⟩
  | 79 => ⟨S12x8192x8192, .f32⟩
  | 80 => ⟨S12x8192x8192, .f32⟩
  | 81 => ⟨S12x8192x8192, .f32⟩
  | 82 => ⟨S12x8192x8192, .f32⟩
  | 83 => ⟨S12x8192x8192, .f32⟩
  | 84 => ⟨S12x8192x8192, .f32⟩
  | 85 => ⟨S12x8192x8192, .f32⟩
  | 86 => ⟨S12x8192x8192, .f32⟩
  | 87 => ⟨S_, .f32⟩
  | 88 => ⟨S12x8192x8192, .f32⟩
  | 89 => ⟨S12x8192x8192, .i1⟩
  | 90 => ⟨S_, .f32⟩
  | 91 => ⟨S12x8192x8192, .f32⟩
  | 92 => ⟨S12x8192x8192, .f32⟩
  | 93 => ⟨S_, .f32⟩
  | 94 => ⟨S12x8192x8192, .f32⟩
  | 95 => ⟨S12x8192x8192, .i1⟩
  | 96 => ⟨S_, .f32⟩
  | 97 => ⟨S12x8192x8192, .f32⟩
  | 98 => ⟨S12x8192x8192, .f32⟩
  | 99 => ⟨S12x8192x8192, .f32⟩
  | 100 => ⟨S12x8192x8192, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S_, .f32⟩
  | 108 => ⟨S12x8192x8192, .f32⟩
  | 109 => ⟨S12x8192x8192, .i1⟩
  | 110 => ⟨S_, .f32⟩
  | 111 => ⟨S12x8192x8192, .f32⟩
  | 112 => ⟨S12x8192x8192, .f32⟩
  | 113 => ⟨S12x8192x8192, .f32⟩
  | 114 => ⟨S12x8192x8192, .f32⟩
  | 115 => ⟨S12x8192x8192, .f32⟩
  | 116 => ⟨S_, .f32⟩
  | 117 => ⟨S12x8192x8192, .f32⟩
  | 118 => ⟨S12x8192x8192, .f32⟩
  | 119 => ⟨S12x8192x8192, .f32⟩
  | 120 => ⟨S_, .f32⟩
  | 121 => ⟨S_, .f32⟩
  | 122 => ⟨S12x8192x8192, .i1⟩
  | 123 => ⟨S12x8192x8192, .f32⟩
  | 124 => ⟨S12x8192x8192, .f32⟩
  | 125 => ⟨S_, .f32⟩
  | 126 => ⟨S12x8192x8192, .f32⟩
  | 127 => ⟨S_, .f32⟩
  | _ => ⟨S8192x4096, .f32⟩

abbrev hbmTy0_1 (i : Nat) : BufTy := match i % 128 with
  | 0 => ⟨S_, .f32⟩
  | 1 => ⟨S12x8192x8192, .f32⟩
  | 2 => ⟨S12x8192x8192, .f32⟩
  | 3 => ⟨S12x8192x8192, .f32⟩
  | 4 => ⟨S12x8192x8192, .f32⟩
  | 5 => ⟨S_, .f32⟩
  | 6 => ⟨S_, .f32⟩
  | 7 => ⟨S12x8192x8192, .i1⟩
  | 8 => ⟨S12x8192x8192, .f32⟩
  | 9 => ⟨S12x8192x8192, .f32⟩
  | 10 => ⟨S_, .f32⟩
  | 11 => ⟨S12x8192x8192, .f32⟩
  | 12 => ⟨S12x8192x128, .f32⟩
  | 13 => ⟨S8192x12x128, .f32⟩
  | 14 => ⟨S8192x1536, .f32⟩
  | 15 => ⟨S8192x1536, .f32⟩
  | 16 => ⟨S8192x1536, .f32⟩
  | 17 => ⟨S_, .f32⟩
  | 18 => ⟨S8192x1536, .f32⟩
  | 19 => ⟨S8192x1536, .f32⟩
  | 20 => ⟨S_, .f32⟩
  | 21 => ⟨S8192x1536, .f32⟩
  | 22 => ⟨S8192x1536, .f32⟩
  | 23 => ⟨S_, .f32⟩
  | 24 => ⟨S8192x1536, .f32⟩
  | 25 => ⟨S8192x1536, .f32⟩
  | 26 => ⟨S8192x1536, .f32⟩
  | 27 => ⟨S8192x1536, .f32⟩
  | 28 => ⟨S8192x1536, .f32⟩
  | 29 => ⟨S8192x1536, .f32⟩
  | 30 => ⟨S8192x1536, .f32⟩
  | 31 => ⟨S8192x1536, .f32⟩
  | 32 => ⟨S8192x1536, .f32⟩
  | 33 => ⟨S8192x1536, .f32⟩
  | 34 => ⟨S8192x1536, .f32⟩
  | 35 => ⟨S8192x1536, .f32⟩
  | 36 => ⟨S8192x12x128, .f32⟩
  | 37 => ⟨S12x8192x128, .f32⟩
  | 38 => ⟨S12x128x8192, .f32⟩
  | 39 => ⟨S12x8192x128, .f32⟩
  | 40 => ⟨S12x8192x8192, .f32⟩
  | 41 => ⟨S_, .f32⟩
  | 42 => ⟨S12x8192x8192, .f32⟩
  | 43 => ⟨S12x8192x8192, .f32⟩
  | 44 => ⟨S12x8192x8192, .f32⟩
  | 45 => ⟨S12x8192x8192, .f32⟩
  | 46 => ⟨S_, .f32⟩
  | 47 => ⟨S_, .f32⟩
  | 48 => ⟨S12x8192x8192, .f32⟩
  | 49 => ⟨S12x8192x8192, .f32⟩
  | 50 => ⟨S_, .f32⟩
  | 51 => ⟨S12x8192x8192, .f32⟩
  | 52 => ⟨S12x8192x8192, .f32⟩
  | 53 => ⟨S12x8192x8192, .f32⟩
  | 54 => ⟨S12x8192x8192, .f32⟩
  | 55 => ⟨S12x8192x8192, .f32⟩
  | 56 => ⟨S12x8192x8192, .f32⟩
  | 57 => ⟨S12x8192x8192, .f32⟩
  | 58 => ⟨S12x8192x8192, .f32⟩
  | 59 => ⟨S12x8192x8192, .f32⟩
  | 60 => ⟨S12x8192x8192, .f32⟩
  | 61 => ⟨S_, .f32⟩
  | 62 => ⟨S12x8192x8192, .f32⟩
  | 63 => ⟨S12x8192x8192, .f32⟩
  | 64 => ⟨S12x8192x128, .f32⟩
  | 65 => ⟨S12x8192x128, .f32⟩
  | 66 => ⟨S8192x12x128, .f32⟩
  | 67 => ⟨S8192x1536, .f32⟩
  | 68 => ⟨S8192x12x128, .f32⟩
  | 69 => ⟨S8192x1536, .f32⟩
  | 70 => ⟨S8192x12x128, .f32⟩
  | 71 => ⟨S8192x1536, .f32⟩
  | 72 => ⟨S8192x1536, .bf16⟩
  | 73 => ⟨S8192x1536, .bf16⟩
  | 74 => ⟨S1536x8192, .f32⟩
  | 75 => ⟨S1536x8192, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v19_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v19_2 : Ref sig .tc := ⟨.hbm, 69, rfl⟩
abbrev main_v19_0 : Ref sig .tc := ⟨.hbm, 70, rfl⟩
abbrev main_v20 : Ref sig .tc := ⟨.hbm, 71, rfl⟩
abbrev main_call1_v0 : Ref sig .tc := ⟨.hbm, 72, rfl⟩
abbrev main_call1_call0_cst : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_v2 : Ref sig .tc := ⟨.hbm, 76, rfl⟩
abbrev main_call1_call0_v3 : Ref sig .tc := ⟨.hbm, 77, rfl⟩
abbrev main_call1_call0_v4 : Ref sig .tc := ⟨.hbm, 78, rfl⟩
abbrev main_call1_call0_v5 : Ref sig .tc := ⟨.hbm, 79, rfl⟩
abbrev main_call1_call0_v6 : Ref sig .tc := ⟨.hbm, 80, rfl⟩
abbrev main_call1_call0_v7 : Ref sig .tc := ⟨.hbm, 81, rfl⟩
abbrev main_call1_call0_v8 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_v11 : Ref sig .tc := ⟨.hbm, 85, rfl⟩
abbrev main_call1_v1_0 : Ref sig .tc := ⟨.hbm, 86, rfl⟩
abbrev main_call1_call0_cst_0 : Ref sig .tc := ⟨.hbm, 87, rfl⟩
abbrev main_call1_call0_v13 : Ref sig .tc := ⟨.hbm, 88, rfl⟩
abbrev main_call1_call0_v14 : Ref sig .tc := ⟨.hbm, 89, rfl⟩
abbrev main_call1_call0_cst_1 : Ref sig .tc := ⟨.hbm, 90, rfl⟩
abbrev main_call1_call0_v15 : Ref sig .tc := ⟨.hbm, 91, rfl⟩
abbrev main_call1_call0_v16 : Ref sig .tc := ⟨.hbm, 92, rfl⟩
abbrev main_call1_call0_cst_2 : Ref sig .tc := ⟨.hbm, 93, rfl⟩
abbrev main_call1_call0_v17 : Ref sig .tc := ⟨.hbm, 94, rfl⟩
abbrev main_call1_call0_v18 : Ref sig .tc := ⟨.hbm, 95, rfl⟩
abbrev main_call1_call0_cst_3 : Ref sig .tc := ⟨.hbm, 96, rfl⟩
abbrev main_call1_call0_v19 : Ref sig .tc := ⟨.hbm, 97, rfl⟩
abbrev main_call1_call0_v20 : Ref sig .tc := ⟨.hbm, 98, rfl⟩
abbrev main_call1_call0_v21 : Ref sig .tc := ⟨.hbm, 99, rfl⟩
abbrev main_v21_1 : Ref sig .tc := ⟨.hbm, 100, rfl⟩
abbrev main_call1_call0_cst_4 : Ref sig .tc := ⟨.hbm, 101, rfl⟩
abbrev main_call1_call0_cst_5 : Ref sig .tc := ⟨.hbm, 102, rfl⟩
abbrev main_call1_call0_v23 : Ref sig .tc := ⟨.hbm, 103, rfl⟩
abbrev main_call1_call0_cst_6 : Ref sig .tc := ⟨.hbm, 104, rfl⟩
abbrev main_call1_call0_cst_7 : Ref sig .tc := ⟨.hbm, 105, rfl⟩
abbrev main_call1_call0_v24 : Ref sig .tc := ⟨.hbm, 106, rfl⟩
abbrev main_call1_call0_cst_8 : Ref sig .tc := ⟨.hbm, 107, rfl⟩
abbrev main_call1_call0_v25 : Ref sig .tc := ⟨.hbm, 108, rfl⟩
abbrev main_call1_call0_v26 : Ref sig .tc := ⟨.hbm, 109, rfl⟩
abbrev main_call1_call0_cst_9 : Ref sig .tc := ⟨.hbm, 110, rfl⟩
abbrev main_call1_call0_v27 : Ref sig .tc := ⟨.hbm, 111, rfl⟩
abbrev main_call1_call0_v28 : Ref sig .tc := ⟨.hbm, 112, rfl⟩
abbrev main_call1_call0_v29 : Ref sig .tc := ⟨.hbm, 113, rfl⟩
abbrev main_call1_call0_v30 : Ref sig .tc := ⟨.hbm, 114, rfl⟩
abbrev main_call1_call0_v31 : Ref sig .tc := ⟨.hbm, 115, rfl⟩
abbrev main_call1_call0_cst_10 : Ref sig .tc := ⟨.hbm, 116, rfl⟩
abbrev main_call1_call0_v32 : Ref sig .tc := ⟨.hbm, 117, rfl⟩
abbrev main_v21_2 : Ref sig .tc := ⟨.hbm, 118, rfl⟩
abbrev main_v21_0 : Ref sig .tc := ⟨.hbm, 119, rfl⟩
abbrev main_cst_0 : Ref sig .tc := ⟨.hbm, 120, rfl⟩
abbrev main_call2_v0 : Ref sig .tc := ⟨.hbm, 121, rfl⟩
abbrev main_v22_1 : Ref sig .tc := ⟨.hbm, 122, rfl⟩
abbrev main_call2_v2 : Ref sig .tc := ⟨.hbm, 123, rfl⟩
abbrev main_v22_0 : Ref sig .tc := ⟨.hbm, 124, rfl⟩
abbrev main_call2_cst : Ref sig .tc := ⟨.hbm, 125, rfl⟩
abbrev main_v22_2 : Ref sig .tc := ⟨.hbm, 126, rfl⟩
abbrev main_call3_cst : Ref sig .tc := ⟨.hbm, 127, rfl⟩
abbrev main_call3_v0 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_cst_1 : Ref sig .tc := ⟨.hbm, 133, rfl⟩
abbrev main_call4_v0 : Ref sig .tc := ⟨.hbm, 134, rfl⟩
abbrev main_v27_1 : Ref sig .tc := ⟨.hbm, 135, rfl⟩
abbrev main_call4_v2 : Ref sig .tc := ⟨.hbm, 136, rfl⟩
abbrev main_v27_0 : Ref sig .tc := ⟨.hbm, 137, rfl⟩
abbrev main_call4_cst : Ref sig .tc := ⟨.hbm, 138, rfl⟩
abbrev main_v27_2 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_call5_v0 : Ref sig .tc := ⟨.hbm, 143, rfl⟩
abbrev main_call5_v1 : Ref sig .tc := ⟨.hbm, 144, rfl⟩
abbrev main_call5_cst : Ref sig .tc := ⟨.hbm, 145, rfl⟩
abbrev main_call5_v2 : Ref sig .tc := ⟨.hbm, 146, rfl⟩
abbrev main_call5_v3 : Ref sig .tc := ⟨.hbm, 147, rfl⟩
abbrev main_call5_cst_0 : Ref sig .tc := ⟨.hbm, 148, rfl⟩
abbrev main_call5_v4 : Ref sig .tc := ⟨.hbm, 149, rfl⟩
abbrev main_v31_2 : Ref sig .tc := ⟨.hbm, 150, rfl⟩
abbrev main_call5_cst_1 : Ref sig .tc := ⟨.hbm, 151, rfl⟩
abbrev main_call5_v6 : Ref sig .tc := ⟨.hbm, 152, rfl⟩
abbrev main_call5_v7 : Ref sig .tc := ⟨.hbm, 153, rfl⟩
abbrev main_v31_1 : Ref sig .tc := ⟨.hbm, 154, rfl⟩
abbrev main_v31_0 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_call6_v0 : Ref sig .tc := ⟨.hbm, 160, rfl⟩
abbrev main_call6_v1 : Ref sig .tc := ⟨.hbm, 161, rfl⟩
abbrev main_call6_v2 : Ref sig .tc := ⟨.hbm, 162, rfl⟩
abbrev main_v36 : Ref sig .tc := ⟨.hbm, 163, rfl⟩
abbrev main_v37 : Ref sig .tc := ⟨.hbm, 164, rfl⟩
abbrev main_v38 : Ref sig .tc := ⟨.hbm, 165, rfl⟩
abbrev main_v39 : Ref sig .tc := ⟨.hbm, 166, rfl⟩
abbrev main_v40 : Ref sig .tc := ⟨.hbm, 167, rfl⟩
abbrev main_v41 : Ref sig .tc := ⟨.hbm, 168, rfl⟩
abbrev main_call7_cst : Ref sig .tc := ⟨.hbm, 169, rfl⟩
abbrev main_call7_v0 : Ref sig .tc := ⟨.hbm, 170, rfl⟩
abbrev main_v42 : Ref sig .tc := ⟨.hbm, 171, rfl⟩
abbrev main_v43 : Ref sig .tc := ⟨.hbm, 172, rfl⟩
abbrev main_v44 : Ref sig .tc := ⟨.hbm, 173, rfl⟩
abbrev main_call8_cst : Ref sig .tc := ⟨.hbm, 174, rfl⟩
abbrev main_call8_v0 : Ref sig .tc := ⟨.hbm, 175, rfl⟩
abbrev main_v45 : Ref sig .tc := ⟨.hbm, 176, rfl⟩
abbrev main_v46 : Ref sig .tc := ⟨.hbm, 177, rfl⟩
abbrev main_call9_cst : Ref sig .tc := ⟨.hbm, 178, rfl⟩
abbrev main_call9_v0 : Ref sig .tc := ⟨.hbm, 179, rfl⟩
abbrev main_v47 : Ref sig .tc := ⟨.hbm, 180, rfl⟩
abbrev main_call10_v0 : Ref sig .tc := ⟨.hbm, 181, rfl⟩
abbrev main_call10_v1 : Ref sig .tc := ⟨.hbm, 182, rfl⟩
abbrev main_v48 : Ref sig .tc := ⟨.hbm, 183, rfl⟩
abbrev main_v49 : Ref sig .tc := ⟨.hbm, 184, rfl⟩
abbrev main_call11_v0 : Ref sig .tc := ⟨.hbm, 185, rfl⟩
abbrev main_call11_v1 : Ref sig .tc := ⟨.hbm, 186, rfl⟩
abbrev main_v50 : Ref sig .tc := ⟨.hbm, 187, rfl⟩
abbrev main_v51 : Ref sig .tc := ⟨.hbm, 188, rfl⟩
abbrev main_cst_2 : Ref sig .tc := ⟨.hbm, 189, rfl⟩
abbrev main_v52 : Ref sig .tc := ⟨.hbm, 190, rfl⟩
abbrev main_v53 : Ref sig .tc := ⟨.hbm, 191, rfl⟩
abbrev main_v54 : Ref sig .tc := ⟨.hbm, 192, rfl⟩
abbrev main_v55 : Ref sig .tc := ⟨.hbm, 193, rfl⟩
abbrev main_v56 : Ref sig .tc := ⟨.hbm, 194, rfl⟩
abbrev main_v57 : Ref sig .tc := ⟨.hbm, 195, rfl⟩
abbrev main_v58 : Ref sig .tc := ⟨.hbm, 196, rfl⟩
abbrev main_v59 : Ref sig .tc := ⟨.hbm, 197, rfl⟩
abbrev main_v60 : Ref sig .tc := ⟨.hbm, 198, rfl⟩
abbrev main_v61 : Ref sig .tc := ⟨.hbm, 199, rfl⟩
abbrev main_v62 : Ref sig .tc := ⟨.hbm, 200, rfl⟩
abbrev main_v63 : Ref sig .tc := ⟨.hbm, 201, rfl⟩
abbrev main_v64 : Ref sig .tc := ⟨.hbm, 202, rfl⟩
abbrev main_v65 : Ref sig .tc := ⟨.hbm, 203, rfl⟩

abbrev nD : Nat := 1
abbrev τ : Topo := Topo.v7x

variable {F : FTy → Type} [FloatOps F]
-- ==== Kernel5.lean ====
abbrev S8192x4096 : Shape := ⟨2, ![8192, 4096]⟩
abbrev S8192x3072 : Shape := ⟨2, ![8192, 3072]⟩
abbrev S8192x1536 : Shape := ⟨2, ![8192, 1536]⟩
abbrev S1024x128 : Shape := ⟨2, ![1024, 128]⟩
abbrev S8192x128 : Shape := ⟨2, ![8192, 128]⟩
abbrev S1024x1 : Shape := ⟨2, ![1024, 1]⟩
abbrev S2x1024x256 : Shape := ⟨3, ![2, 1024, 256]⟩
abbrev S1024x256 : Shape := ⟨2, ![1024, 256]⟩
abbrev S256x256 : Shape := ⟨2, ![256, 256]⟩
abbrev S256x128 : Shape := ⟨2, ![256, 128]⟩
abbrev S1x256x256 : Shape := ⟨3, ![1, 256, 256]⟩
abbrev S512x128 : Shape := ⟨2, ![512, 128]⟩
abbrev S512x256 : Shape := ⟨2, ![512, 256]⟩
abbrev S1x512x256 : Shape := ⟨3, ![1, 512, 256]⟩
abbrev S256x1 : Shape := ⟨2, ![256, 1]⟩
abbrev S768x128 : Shape := ⟨2, ![768, 128]⟩
abbrev S768x256 : Shape := ⟨2, ![768, 256]⟩
abbrev S1x768x256 : Shape := ⟨3, ![1, 768, 256]⟩
abbrev S1x1024x256 : Shape := ⟨3, ![1, 1024, 256]⟩

abbrev nBuf : Space → Nat
  | .hbm => 6
  | .vmem => 19
  | .smem => 0
  | _ => 0

abbrev bufTy : (tb : Table) → Fin (tcTables nBuf tb) → BufTy
  | .hbm, ⟨0, _⟩ => ⟨S8192x4096, .f32⟩
  | .hbm, ⟨1, _⟩ => ⟨S8192x3072, .f32⟩
  | .hbm, ⟨2, _⟩ => ⟨S8192x3072, .bf16⟩
  | .hbm, ⟨3, _⟩ => ⟨S8192x1536, .bf16⟩
  | .hbm, ⟨4, _⟩ => ⟨S8192x1536, .f32⟩
  | .hbm, ⟨5, _⟩ => ⟨S8192x1536, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .bf16⟩
  | .local _ .vmem, ⟨15, _⟩ => ⟨S1024x128, .f32⟩
  | .local _ .vmem, ⟨16, _⟩ => ⟨S1024x1, .f32⟩
  | .local _ .vmem, ⟨17, _⟩ => ⟨S2x1024x256, .f32⟩
  | .local _ .vmem, ⟨18, _⟩ => ⟨S1024x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 8], ![false, false]⟩

def k0_mult1 (i : grid0.Coords) : BitVec 32 :=
  let arg1 : BitVec 32 := BitVec.ofNat 32 (i 1).val
  let c4_i32 : BitVec 32 := 4#32
  let v20 : BitVec 32 := Scalar.muli arg1 c4_i32
  let c4_i32_10 : BitVec 32 := 4#32
  let v21 : BitVec 32 := Scalar.addi v20 c4_i32_10
  let c1_i32 : BitVec 32 := 1#32
  let v22 : BitVec 32 := Scalar.subi v21 c1_i32
  let c256_i32 : BitVec 32 := 256#32
  let v23 : BitVec 32 := Scalar.muli v22 c256_i32
  v23
def k0_off1 (i : grid0.Coords) (c4_i32_10 : BitVec 32) : Fin 2 → Nat :=
  let arg1 : BitVec 32 := BitVec.ofNat 32 (i 1).val
  let c4_i32 : BitVec 32 := 4#32
  let v20 : BitVec 32 := Scalar.muli arg1 c4_i32
  let v21 : BitVec 32 := Scalar.addi v20 c4_i32_10
  let c1_i32 : BitVec 32 := 1#32
  let v22 : BitVec 32 := Scalar.subi v21 c1_i32
  let c256_i32 : BitVec 32 := 256#32
  let v23 : BitVec 32 := Scalar.muli v22 c256_i32
  let v24 : BitVec 32 := v23
  let v25 : Index := Scalar.indexCast v24
  let c0_11 : Index := 0#32
  ![v25.toNat, 0]
def k0_mult2 (i : grid0.Coords) : BitVec 32 :=
  let arg1 : BitVec 32 := BitVec.ofNat 32 (i 1).val
  let c4_i32 : BitVec 32 := 4#32
  let v20 : BitVec 32 := Scalar.muli arg1 c4_i32
  let c3_i32 : BitVec 32 := 3#32
  let v35 : BitVec 32 := Scalar.addi v20 c3_i32
  let c1_i32_18 : BitVec 32 := 1#32
  let v36 : BitVec 32 := Scalar.subi v35 c1_i32_18
  let c256_i32_19 : BitVec 32 := 256#32
  let v37 : BitVec 32 := Scalar.muli v36 c256_i32_19
  v37
def k0_mult3 (i : grid0.Coords) : BitVec 32 :=
  let arg1 : BitVec 32 := BitVec.ofNat 32 (i 1).val
  let c4_i32 : BitVec 32 := 4#32
  let v20 : BitVec 32 := Scalar.muli arg1 c4_i32
  let c2_i32 : BitVec 32 := 2#32
  let v89 : BitVec 32 := Scalar.addi v20 c2_i32
  let c1_i32_42 : BitVec 32 := 1#32
  let v90 : BitVec 32 := Scalar.addi v89 c1_i32_42
  let c256_i32_43 : BitVec 32 := 256#32
  let v91 : BitVec 32 := Scalar.muli v90 c256_i32_43
  v91
def k0_off2 (i : grid0.Coords) (c2_i32 : BitVec 32) : Fin 2 → Nat :=
  let arg1 : BitVec 32 := BitVec.ofNat 32 (i 1).val
  let c4_i32 : BitVec 32 := 4#32
  let v20 : BitVec 32 := Scalar.muli arg1 c4_i32
  let v89 : BitVec 32 := Scalar.addi v20 c2_i32
  let c1_i32_42 : BitVec 32 := 1#32
  let v90 : BitVec 32 := Scalar.addi v89 c1_i32_42
  let c256_i32_43 : BitVec 32 := 256#32
  let v91 : BitVec 32 := Scalar.muli v90 c256_i32_43
  let v92 : BitVec 32 := v91
  let v93 : Index := Scalar.indexCast v92
  let c0_44 : Index := 0#32
  ![v93.toNat, 0]
def k0_mult4 (i : grid0.Coords) : BitVec 32 :=
  let arg1 : BitVec 32 := BitVec.ofNat 32 (i 1).val
  let c4_i32 : BitVec 32 := 4#32
  let v20 : BitVec 32 := Scalar.muli arg1 c4_i32
  let c2_i32_52 : BitVec 32 := 2#32
  let v103 : BitVec 32 := Scalar.addi v20 c2_i32_52
  let c1_i32_53 : BitVec 32 := 1#32
  let v104 : BitVec 32 := Scalar.subi v103 c1_i32_53
  let c256_i32_54 : BitVec 32 := 256#32
  let v105 : BitVec 32 := Scalar.muli v104 c256_i32_54
  v105
def k0_mult5 (i : grid0.Coords) : BitVec 32 :=
  let arg1 : BitVec 32 := BitVec.ofNat 32 (i 1).val
  let c4_i32 : BitVec 32 := 4#32
  let v20 : BitVec 32 := Scalar.muli arg1 c4_i32
  let c1_i32_92 : BitVec 32 := 1#32
  let v190 : BitVec 32 := Scalar.addi v20 c1_i32_92
  let c1_i32_93 : BitVec 32 := 1#32
  let v191 : BitVec 32 := Scalar.addi v190 c1_i32_93
  let c256_i32_94 : BitVec 32 := 256#32
  let v192 : BitVec 32 := Scalar.muli v191 c256_i32_94
  v192
def k0_mult6 (i : grid0.Coords) : BitVec 32 :=
  let arg1 : BitVec 32 := BitVec.ofNat 32 (i 1).val
  let c4_i32 : BitVec 32 := 4#32
  let v20 : BitVec 32 := Scalar.muli arg1 c4_i32
  let c1_i32_103 : BitVec 32 := 1#32
  let v204 : BitVec 32 := Scalar.addi v20 c1_i32_103
  let c1_i32_104 : BitVec 32 := 1#32
  let v205 : BitVec 32 := Scalar.subi v204 c1_i32_104
  let c256_i32_105 : BitVec 32 := 256#32
  let v206 : BitVec 32 := Scalar.muli v205 c256_i32_105
  v206
def k0_mult7 (i : grid0.Coords) : BitVec 32 :=
  let arg1 : BitVec 32 := BitVec.ofNat 32 (i 1).val
  let c4_i32 : BitVec 32 := 4#32
  let v20 : BitVec 32 := Scalar.muli arg1 c4_i32
  let c0_i32 : BitVec 32 := 0#32
  let v324 : BitVec 32 := Scalar.addi v20 c0_i32
  let c1_i32_158 : BitVec 32 := 1#32
  let v325 : BitVec 32 := Scalar.addi v324 c1_i32_158
  let c256_i32_159 : BitVec 32 := 256#32
  let v326 : BitVec 32 := Scalar.muli v325 c256_i32_159
  v326
def k0_mult8 (i : grid0.Coords) : BitVec 32 :=
  let arg1 : BitVec 32 := BitVec.ofNat 32 (i 1).val
  let c4_i32 : BitVec 32 := 4#32
  let v20 : BitVec 32 := Scalar.muli arg1 c4_i32
  let c1_i32_168 : BitVec 32 := 1#32
  let v338 : BitVec 32 := Scalar.subi v20 c1_i32_168
  let c0_i32_169 : BitVec 32 := 0#32
  let v339 : BitVec 32 := Scalar.maxsi v338 c0_i32_169
  let c256_i32_170 : BitVec 32 := 256#32
  let v340 : BitVec 32 := Scalar.muli v339 c256_i32_170
  v340
def k0_off3 (i : grid0.Coords) : Fin 2 → Nat :=
  let arg1 : BitVec 32 := BitVec.ofNat 32 (i 1).val
  let c4_i32 : BitVec 32 := 4#32
  let v20 : BitVec 32 := Scalar.muli arg1 c4_i32
  let c1_i32_168 : BitVec 32 := 1#32
  let v338 : BitVec 32 := Scalar.subi v20 c1_i32_168
  let c0_i32_169 : BitVec 32 := 0#32
  let v339 : BitVec 32 := Scalar.maxsi v338 c0_i32_169
  let c256_i32_170 : BitVec 32 := 256#32
  let v340 : BitVec 32 := Scalar.muli v339 c256_i32_170
  let v341 : BitVec 32 := v340
  let v342 : Index := Scalar.indexCast v341
  let c0_171 : Index := 0#32
  ![v342.toNat, 0]
@[reducible] def k0_t1_loop (i : grid0.Coords) : Scf.Loop 32 :=
  let c0_i32_245 : BitVec 32 := 0#32
  let arg1 : BitVec 32 := BitVec.ofNat 32 (i 1).val
  let c4_i32 : BitVec 32 := 4#32
  let v20 : BitVec 32 := Scalar.muli arg1 c4_i32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let c1_i32_247 : BitVec 32 := 1#32
  ⟨c0_i32_245, v512, c1_i32_247⟩
def k0_mult9 (i : grid0.Coords) (k0_t1 : Fin (k0_t1_loop i).trips) : BitVec 32 :=
  let arg1 : BitVec 32 := BitVec.ofNat 32 (i 1).val
  let c4_i32 : BitVec 32 := 4#32
  let v20 : BitVec 32 := Scalar.muli arg1 c4_i32
  let c1_i32_274 : BitVec 32 := 1#32
  let v543 : BitVec 32 := Scalar.subi v20 c1_i32_274
  let c2_i32_273 : BitVec 32 := 2#32
  let c0_i32_245 : BitVec 32 := 0#32
  let c1_i32_247 : BitVec 32 := 1#32
  let arg14 : BitVec 32 := Scf.iv c0_i32_245 c1_i32_247 k0_t1
  let v542 : BitVec 32 := Scalar.muli c2_i32_273 arg14
  let v544 : BitVec 32 := Scalar.subi v543 v542
  let c1_i32_275 : BitVec 32 := 1#32
  let v545 : BitVec 32 := Scalar.addi v544 c1_i32_275
  let c256_i32_276 : BitVec 32 := 256#32
  let v546 : BitVec 32 := Scalar.muli v545 c256_i32_276
  v546
def k0_off4 (i : grid0.Coords) (k0_t1 : Fin (k0_t1_loop i).trips) : Fin 2 → Nat :=
  let arg1 : BitVec 32 := BitVec.ofNat 32 (i 1).val
  let c4_i32 : BitVec 32 := 4#32
  let v20 : BitVec 32 := Scalar.muli arg1 c4_i32
  let c1_i32_274 : BitVec 32 := 1#32
  let v543 : BitVec 32 := Scalar.subi v20 c1_i32_274
  let c2_i32_273 : BitVec 32 := 2#32
  let c0_i32_245 : BitVec 32 := 0#32
  let c1_i32_247 : BitVec 32 := 1#32
  let arg14 : BitVec 32 := Scf.iv c0_i32_245 c1_i32_247 k0_t1
  let v542 : BitVec 32 := Scalar.muli c2_i32_273 arg14
  let v544 : BitVec 32 := Scalar.subi v543 v542
  let c1_i32_275 : BitVec 32 := 1#32
  let v545 : BitVec 32 := Scalar.addi v544 c1_i32_275
  let c256_i32_276 : BitVec 32 := 256#32
  let v546 : BitVec 32 := Scalar.muli v545 c256_i32_276
  let v547 : BitVec 32 := v546
  let v548 : Index := Scalar.indexCast v547
  let c0_277 : Index := 0#32
  ![v548.toNat, 0]
def k0_mult10 (i : grid0.Coords) (k0_t1 : Fin (k0_t1_loop i).trips) : BitVec 32 :=
  let arg1 : BitVec 32 := BitVec.ofNat 32 (i 1).val
  let c4_i32 : BitVec 32 := 4#32
  let v20 : BitVec 32 := Scalar.muli arg1 c4_i32
  let c1_i32_274 : BitVec 32 := 1#32
  let v543 : BitVec 32 := Scalar.subi v20 c1_i32_274
  let c2_i32_273 : BitVec 32 := 2#32
  let c0_i32_245 : BitVec 32 := 0#32
  let c1_i32_247 : BitVec 32 := 1#32
  let arg14 : BitVec 32 := Scf.iv c0_i32_245 c1_i32_247 k0_t1
  let v542 : BitVec 32 := Scalar.muli c2_i32_273 arg14
  let v544 : BitVec 32 := Scalar.subi v543 v542
  let c1_i32_285 : BitVec 32 := 1#32
  let v558 : BitVec 32 := Scalar.subi v544 c1_i32_285
  let c0_i32_286 : BitVec 32 := 0#32
  let v559 : BitVec 32 := Scalar.maxsi v558 c0_i32_286
  let c256_i32_287 : BitVec 32 := 256#32
  let v560 : BitVec 32 := Scalar.muli v559 c256_i32_287
  v560
def k0_off5 (i : grid0.Coords) (k0_t1 : Fin (k0_t1_loop i).trips) : Fin 2 → Nat :=
  let arg1 : BitVec 32 := BitVec.ofNat 32 (i 1).val
  let c4_i32 : BitVec 32 := 4#32
  let v20 : BitVec 32 := Scalar.muli arg1 c4_i32
  let c1_i32_274 : BitVec 32 := 1#32
  let v543 : BitVec 32 := Scalar.subi v20 c1_i32_274
  let c2_i32_273 : BitVec 32 := 2#32
  let c0_i32_245 : BitVec 32 := 0#32
  let c1_i32_247 : BitVec 32 := 1#32
  let arg14 : BitVec 32 := Scf.iv c0_i32_245 c1_i32_247 k0_t1
  let v542 : BitVec 32 := Scalar.muli c2_i32_273 arg14
  let v544 : BitVec 32 := Scalar.subi v543 v542
  let c1_i32_285 : BitVec 32 := 1#32
  let v558 : BitVec 32 := Scalar.subi v544 c1_i32_285
  let c0_i32_286 : BitVec 32 := 0#32
  let v559 : BitVec 32 := Scalar.maxsi v558 c0_i32_286
  let c256_i32_287 : BitVec 32 := 256#32
  let v560 : BitVec 32 := Scalar.muli v559 c256_i32_287
  let v561 : BitVec 32 := v560
  let v562 : Index := Scalar.indexCast v561
  let c0_288 : Index := 0#32
  ![v562.toNat, 0]
def k0_mult11 (i : grid0.Coords) (k0_t1 : Fin (k0_t1_loop i).trips) : BitVec 32 :=
  let arg1 : BitVec 32 := BitVec.ofNat 32 (i 1).val
  let c4_i32 : BitVec 32 := 4#32
  let v20 : BitVec 32 := Scalar.muli arg1 c4_i32
  let c1_i32_354 : BitVec 32 := 1#32
  let v706 : BitVec 32 := Scalar.subi v20 c1_i32_354
  let c2_i32_352 : BitVec 32 := 2#32
  let c0_i32_245 : BitVec 32 := 0#32
  let c1_i32_247 : BitVec 32 := 1#32
  let arg14 : BitVec 32 := Scf.iv c0_i32_245 c1_i32_247 k0_t1
  let v704 : BitVec 32 := Scalar.muli c2_i32_352 arg14
  let c1_i32_353 : BitVec 32 := 1#32
  let v705 : BitVec 32 := Scalar.addi v704 c1_i32_353
  let v707 : BitVec 32 := Scalar.subi v706 v705
  let c1_i32_355 : BitVec 32 := 1#32
  let v708 : BitVec 32 := Scalar.addi v707 c1_i32_355
  let c256_i32_356 : BitVec 32 := 256#32
  let v709 : BitVec 32 := Scalar.muli v708 c256_i32_356
  v709
def k0_off6 (i : grid0.Coords) (k0_t1 : Fin (k0_t1_loop i).trips) : Fin 2 → Nat :=
  let arg1 : BitVec 32 := BitVec.ofNat 32 (i 1).val
  let c4_i32 : BitVec 32 := 4#32
  let v20 : BitVec 32 := Scalar.muli arg1 c4_i32
  let c1_i32_354 : BitVec 32 := 1#32
  let v706 : BitVec 32 := Scalar.subi v20 c1_i32_354
  let c2_i32_352 : BitVec 32 := 2#32
  let c0_i32_245 : BitVec 32 := 0#32
  let c1_i32_247 : BitVec 32 := 1#32
  let arg14 : BitVec 32 := Scf.iv c0_i32_245 c1_i32_247 k0_t1
  let v704 : BitVec 32 := Scalar.muli c2_i32_352 arg14
  let c1_i32_353 : BitVec 32 := 1#32
  let v705 : BitVec 32 := Scalar.addi v704 c1_i32_353
  let v707 : BitVec 32 := Scalar.subi v706 v705
  let c1_i32_355 : BitVec 32 := 1#32
  let v708 : BitVec 32 := Scalar.addi v707 c1_i32_355
  let c256_i32_356 : BitVec 32 := 256#32
  let v709 : BitVec 32 := Scalar.muli v708 c256_i32_356
  let v710 : BitVec 32 := v709
  let v711 : Index := Scalar.indexCast v710
  let c0_357 : Index := 0#32
  ![v711.toNat, 0]
def k0_mult12 (i : grid0.Coords) (k0_t1 : Fin (k0_t1_loop i).trips) : BitVec 32 :=
  let arg1 : BitVec 32 := BitVec.ofNat 32 (i 1).val
  let c4_i32 : BitVec 32 := 4#32
  let v20 : BitVec 32 := Scalar.muli arg1 c4_i32
  let c1_i32_354 : BitVec 32 := 1#32
  let v706 : BitVec 32 := Scalar.subi v20 c1_i32_354
  let c2_i32_352 : BitVec 32 := 2#32
  let c0_i32_245 : BitVec 32 := 0#32
  let c1_i32_247 : BitVec 32 := 1#32
  let arg14 : BitVec 32 := Scf.iv c0_i32_245 c1_i32_247 k0_t1
  let v704 : BitVec 32 := Scalar.muli c2_i32_352 arg14
  let c1_i32_353 : BitVec 32 := 1#32
  let v705 : BitVec 32 := Scalar.addi v704 c1_i32_353
  let v707 : BitVec 32 := Scalar.subi v706 v705
  let c1_i32_365 : BitVec 32 := 1#32
  let v721 : BitVec 32 := Scalar.subi v707 c1_i32_365
  let c0_i32_366 : BitVec 32 := 0#32
  let v722 : BitVec 32 := Scalar.maxsi v721 c0_i32_366
  let c256_i32_367 : BitVec 32 := 256#32
  let v723 : BitVec 32 := Scalar.muli v722 c256_i32_367
  v723
def k0_off7 (i : grid0.Coords) (k0_t1 : Fin (k0_t1_loop i).trips) : Fin 2 → Nat :=
  let arg1 : BitVec 32 := BitVec.ofNat 32 (i 1).val
  let c4_i32 : BitVec 32 := 4#32
  let v20 : BitVec 32 := Scalar.muli arg1 c4_i32
  let c1_i32_354 : BitVec 32 := 1#32
  let v706 : BitVec 32 := Scalar.subi v20 c1_i32_354
  let c2_i32_352 : BitVec 32 := 2#32
  let c0_i32_245 : BitVec 32 := 0#32
  let c1_i32_247 : BitVec 32 := 1#32
  let arg14 : BitVec 32 := Scf.iv c0_i32_245 c1_i32_247 k0_t1
  let v704 : BitVec 32 := Scalar.muli c2_i32_352 arg14
  let c1_i32_353 : BitVec 32 := 1#32
  let v705 : BitVec 32 := Scalar.addi v704 c1_i32_353
  let v707 : BitVec 32 := Scalar.subi v706 v705
  let c1_i32_365 : BitVec 32 := 1#32
  let v721 : BitVec 32 := Scalar.subi v707 c1_i32_365
  let c0_i32_366 : BitVec 32 := 0#32
  let v722 : BitVec 32 := Scalar.maxsi v721 c0_i32_366
  let c256_i32_367 : BitVec 32 := 256#32
  let v723 : BitVec 32 := Scalar.muli v722 c256_i32_367
  let v724 : BitVec 32 := v723
  let v725 : Index := Scalar.indexCast v724
  let c0_368 : Index := 0#32
  ![v725.toNat, 0]
@[reducible] def k0_t2_loop (i : grid0.Coords) : Scf.Loop 32 :=
  let c0_i32_245 : BitVec 32 := 0#32
  let arg1 : BitVec 32 := BitVec.ofNat 32 (i 1).val
  let c4_i32 : BitVec 32 := 4#32
  let v20 : BitVec 32 := Scalar.muli arg1 c4_i32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let v509 : BitVec 32 := Scalar.addi c0_i32_245 v508
  let c1_i32_248 : BitVec 32 := 1#32
  ⟨v512, v509, c1_i32_248⟩
def k0_mult13 (i : grid0.Coords) (k0_t2 : Fin (k0_t2_loop i).trips) : BitVec 32 :=
  let arg1 : BitVec 32 := BitVec.ofNat 32 (i 1).val
  let c4_i32 : BitVec 32 := 4#32
  let v20 : BitVec 32 := Scalar.muli arg1 c4_i32
  let c1_i32_274 : BitVec 32 := 1#32
  let v543 : BitVec 32 := Scalar.subi v20 c1_i32_274
  let c2_i32_273 : BitVec 32 := 2#32
  let c0_i32_245 : BitVec 32 := 0#32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let c1_i32_248 : BitVec 32 := 1#32
  let arg14 : BitVec 32 := Scf.iv v512 c1_i32_248 k0_t2
  let v542 : BitVec 32 := Scalar.muli c2_i32_273 arg14
  let v544 : BitVec 32 := Scalar.subi v543 v542
  let c1_i32_275 : BitVec 32 := 1#32
  let v545 : BitVec 32 := Scalar.addi v544 c1_i32_275
  let c256_i32_276 : BitVec 32 := 256#32
  let v546 : BitVec 32 := Scalar.muli v545 c256_i32_276
  v546
def k0_off8 (i : grid0.Coords) (k0_t2 : Fin (k0_t2_loop i).trips) : Fin 2 → Nat :=
  let arg1 : BitVec 32 := BitVec.ofNat 32 (i 1).val
  let c4_i32 : BitVec 32 := 4#32
  let v20 : BitVec 32 := Scalar.muli arg1 c4_i32
  let c1_i32_274 : BitVec 32 := 1#32
  let v543 : BitVec 32 := Scalar.subi v20 c1_i32_274
  let c2_i32_273 : BitVec 32 := 2#32
  let c0_i32_245 : BitVec 32 := 0#32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let c1_i32_248 : BitVec 32 := 1#32
  let arg14 : BitVec 32 := Scf.iv v512 c1_i32_248 k0_t2
  let v542 : BitVec 32 := Scalar.muli c2_i32_273 arg14
  let v544 : BitVec 32 := Scalar.subi v543 v542
  let c1_i32_275 : BitVec 32 := 1#32
  let v545 : BitVec 32 := Scalar.addi v544 c1_i32_275
  let c256_i32_276 : BitVec 32 := 256#32
  let v546 : BitVec 32 := Scalar.muli v545 c256_i32_276
  let v547 : BitVec 32 := v546
  let v548 : Index := Scalar.indexCast v547
  let c0_277 : Index := 0#32
  ![v548.toNat, 0]
def k0_mult14 (i : grid0.Coords) (k0_t2 : Fin (k0_t2_loop i).trips) : BitVec 32 :=
  let arg1 : BitVec 32 := BitVec.ofNat 32 (i 1).val
  let c4_i32 : BitVec 32 := 4#32
  let v20 : BitVec 32 := Scalar.muli arg1 c4_i32
  let c1_i32_274 : BitVec 32 := 1#32
  let v543 : BitVec 32 := Scalar.subi v20 c1_i32_274
  let c2_i32_273 : BitVec 32 := 2#32
  let c0_i32_245 : BitVec 32 := 0#32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let c1_i32_248 : BitVec 32 := 1#32
  let arg14 : BitVec 32 := Scf.iv v512 c1_i32_248 k0_t2
  let v542 : BitVec 32 := Scalar.muli c2_i32_273 arg14
  let v544 : BitVec 32 := Scalar.subi v543 v542
  let c1_i32_285 : BitVec 32 := 1#32
  let v558 : BitVec 32 := Scalar.subi v544 c1_i32_285
  let c0_i32_286 : BitVec 32 := 0#32
  let v559 : BitVec 32 := Scalar.maxsi v558 c0_i32_286
  let c256_i32_287 : BitVec 32 := 256#32
  let v560 : BitVec 32 := Scalar.muli v559 c256_i32_287
  v560
def k0_off9 (i : grid0.Coords) (k0_t2 : Fin (k0_t2_loop i).trips) : Fin 2 → Nat :=
  let arg1 : BitVec 32 := BitVec.ofNat 32 (i 1).val
  let c4_i32 : BitVec 32 := 4#32
  let v20 : BitVec 32 := Scalar.muli arg1 c4_i32
  let c1_i32_274 : BitVec 32 := 1#32
  let v543 : BitVec 32 := Scalar.subi v20 c1_i32_274
  let c2_i32_273 : BitVec 32 := 2#32
  let c0_i32_245 : BitVec 32 := 0#32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let c1_i32_248 : BitVec 32 := 1#32
  let arg14 : BitVec 32 := Scf.iv v512 c1_i32_248 k0_t2
  let v542 : BitVec 32 := Scalar.muli c2_i32_273 arg14
  let v544 : BitVec 32 := Scalar.subi v543 v542
  let c1_i32_285 : BitVec 32 := 1#32
  let v558 : BitVec 32 := Scalar.subi v544 c1_i32_285
  let c0_i32_286 : BitVec 32 := 0#32
  let v559 : BitVec 32 := Scalar.maxsi v558 c0_i32_286
  let c256_i32_287 : BitVec 32 := 256#32
  let v560 : BitVec 32 := Scalar.muli v559 c256_i32_287
  let v561 : BitVec 32 := v560
  let v562 : Index := Scalar.indexCast v561
  let c0_288 : Index := 0#32
  ![v562.toNat, 0]
def k0_mult15 (i : grid0.Coords) (k0_t2 : Fin (k0_t2_loop i).trips) : BitVec 32 :=
  let arg1 : BitVec 32 := BitVec.ofNat 32 (i 1).val
  let c4_i32 : BitVec 32 := 4#32
  let v20 : BitVec 32 := Scalar.muli arg1 c4_i32
  let c1_i32_354 : BitVec 32 := 1#32
  let v706 : BitVec 32 := Scalar.subi v20 c1_i32_354
  let c2_i32_352 : BitVec 32 := 2#32
  let c0_i32_245 : BitVec 32 := 0#32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let c1_i32_248 : BitVec 32 := 1#32
  let arg14 : BitVec 32 := Scf.iv v512 c1_i32_248 k0_t2
  let v704 : BitVec 32 := Scalar.muli c2_i32_352 arg14
  let c1_i32_353 : BitVec 32 := 1#32
  let v705 : BitVec 32 := Scalar.addi v704 c1_i32_353
  let v707 : BitVec 32 := Scalar.subi v706 v705
  let c1_i32_355 : BitVec 32 := 1#32
  let v708 : BitVec 32 := Scalar.addi v707 c1_i32_355
  let c256_i32_356 : BitVec 32 := 256#32
  let v709 : BitVec 32 := Scalar.muli v708 c256_i32_356
  v709
def k0_off10 (i : grid0.Coords) (k0_t2 : Fin (k0_t2_loop i).trips) : Fin 2 → Nat :=
  let arg1 : BitVec 32 := BitVec.ofNat 32 (i 1).val
  let c4_i32 : BitVec 32 := 4#32
  let v20 : BitVec 32 := Scalar.muli arg1 c4_i32
  let c1_i32_354 : BitVec 32 := 1#32
  let v706 : BitVec 32 := Scalar.subi v20 c1_i32_354
  let c2_i32_352 : BitVec 32 := 2#32
  let c0_i32_245 : BitVec 32 := 0#32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let c1_i32_248 : BitVec 32 := 1#32
  let arg14 : BitVec 32 := Scf.iv v512 c1_i32_248 k0_t2
  let v704 : BitVec 32 := Scalar.muli c2_i32_352 arg14
  let c1_i32_353 : BitVec 32 := 1#32
  let v705 : BitVec 32 := Scalar.addi v704 c1_i32_353
  let v707 : BitVec 32 := Scalar.subi v706 v705
  let c1_i32_355 : BitVec 32 := 1#32
  let v708 : BitVec 32 := Scalar.addi v707 c1_i32_355
  let c256_i32_356 : BitVec 32 := 256#32
  let v709 : BitVec 32 := Scalar.muli v708 c256_i32_356
  let v710 : BitVec 32 := v709
  let v711 : Index := Scalar.indexCast v710
  let c0_357 : Index := 0#32
  ![v711.toNat, 0]
def k0_mult16 (i : grid0.Coords) (k0_t2 : Fin (k0_t2_loop i).trips) : BitVec 32 :=
  let arg1 : BitVec 32 := BitVec.ofNat 32 (i 1).val
  let c4_i32 : BitVec 32 := 4#32
  let v20 : BitVec 32 := Scalar.muli arg1 c4_i32
  let c1_i32_354 : BitVec 32 := 1#32
  let v706 : BitVec 32 := Scalar.subi v20 c1_i32_354
  let c2_i32_352 : BitVec 32 := 2#32
  let c0_i32_245 : BitVec 32 := 0#32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let c1_i32_248 : BitVec 32 := 1#32
  let arg14 : BitVec 32 := Scf.iv v512 c1_i32_248 k0_t2
  let v704 : BitVec 32 := Scalar.muli c2_i32_352 arg14
  let c1_i32_353 : BitVec 32 := 1#32
  let v705 : BitVec 32 := Scalar.addi v704 c1_i32_353
  let v707 : BitVec 32 := Scalar.subi v706 v705
  let c1_i32_365 : BitVec 32 := 1#32
  let v721 : BitVec 32 := Scalar.subi v707 c1_i32_365
  let c0_i32_366 : BitVec 32 := 0#32
  let v722 : BitVec 32 := Scalar.maxsi v721 c0_i32_366
  let c256_i32_367 : BitVec 32 := 256#32
  let v723 : BitVec 32 := Scalar.muli v722 c256_i32_367
  v723
def k0_off11 (i : grid0.Coords) (k0_t2 : Fin (k0_t2_loop i).trips) : Fin 2 → Nat :=
  let arg1 : BitVec 32 := BitVec.ofNat 32 (i 1).val
  let c4_i32 : BitVec 32 := 4#32
  let v20 : BitVec 32 := Scalar.muli arg1 c4_i32
  let c1_i32_354 : BitVec 32 := 1#32
  let v706 : BitVec 32 := Scalar.subi v20 c1_i32_354
  let c2_i32_352 : BitVec 32 := 2#32
  let c0_i32_245 : BitVec 32 := 0#32
  let c0_i32_238 : BitVec 32 := 0#32
  let v492 : BitVec 1 := Scalar.cmpi .sgt v20 c0_i32_238
  let v493 : BitVec 32 := Scalar.extui v492
  let c0_i32_239 : BitVec 32 := 0#32
  let v494 : BitVec 1 := Scalar.cmpi .slt v20 c0_i32_239
  let v495 : BitVec 32 := Scalar.extui v494
  let v496 : BitVec 32 := Scalar.subi v493 v495
  let c2_i32_237 : BitVec 32 := 2#32
  let c0_i32_240 : BitVec 32 := 0#32
  let v497 : BitVec 1 := Scalar.cmpi .sgt c2_i32_237 c0_i32_240
  let v498 : BitVec 32 := Scalar.extui v497
  let c0_i32_241 : BitVec 32 := 0#32
  let v499 : BitVec 1 := Scalar.cmpi .slt c2_i32_237 c0_i32_241
  let v500 : BitVec 32 := Scalar.extui v499
  let v501 : BitVec 32 := Scalar.subi v498 v500
  let v502 : BitVec 1 := Scalar.cmpi .ne v496 v501
  let v503 : BitVec 32 := Scalar.remsi v20 c2_i32_237
  let c0_i32_242 : BitVec 32 := 0#32
  let v504 : BitVec 1 := Scalar.cmpi .ne v503 c0_i32_242
  let v505 : BitVec 1 := Scalar.andi v502 v504
  let v491 : BitVec 32 := Scalar.divsi v20 c2_i32_237
  let c1_i32_243 : BitVec 32 := 1#32
  let v506 : BitVec 32 := Scalar.subi v491 c1_i32_243
  let v507 : BitVec 32 := Scalar.select v505 v506 v491
  let v508 : BitVec 32 := Scalar.subi v507 c0_i32_245
  let c1_i32_246 : BitVec 32 := 1#32
  let v510 : BitVec 32 := Scalar.divsi v508 c1_i32_246
  let v511 : BitVec 32 := Scalar.muli v510 c1_i32_246
  let v512 : BitVec 32 := Scalar.addi c0_i32_245 v511
  let c1_i32_248 : BitVec 32 := 1#32
  let arg14 : BitVec 32 := Scf.iv v512 c1_i32_248 k0_t2
  let v704 : BitVec 32 := Scalar.muli c2_i32_352 arg14
  let c1_i32_353 : BitVec 32 := 1#32
  let v705 : BitVec 32 := Scalar.addi v704 c1_i32_353
  let v707 : BitVec 32 := Scalar.subi v706 v705
  let c1_i32_365 : BitVec 32 := 1#32
  let v721 : BitVec 32 := Scalar.subi v707 c1_i32_365
  let c0_i32_366 : BitVec 32 := 0#32
  let v722 : BitVec 32 := Scalar.maxsi v721 c0_i32_366
  let c256_i32_367 : BitVec 32 := 256#32
  let v723 : BitVec 32 := Scalar.muli v722 c256_i32_367
  let v724 : BitVec 32 := v723
  let v725 : Index := Scalar.indexCast v724
  let c0_368 : Index := 0#32
  ![v725.toNat, 0]
def k0_mult17 : BitVec 32 :=
  let c0_i32_249 : BitVec 32 := 0#32
  c0_i32_249
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8192x4096 : Shape := ⟨2, ![8192, 4096]⟩
abbrev S8192x3072 : Shape := ⟨2, ![8192, 3072]⟩
abbrev S8192x1536 : Shape := ⟨2, ![8192, 1536]⟩
abbrev S8192x12x128 : Shape := ⟨3, ![8192, 12, 128]⟩
abbrev S12x8192x128 : Shape := ⟨3, ![12, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S12x8192x8192 : Shape := ⟨3, ![12, 8192, 8192]⟩
abbrev S_ : Shape := ⟨0, ![]⟩
abbrev S12x8192 : Shape := ⟨2, ![12, 8192]⟩
abbrev S8192x12 : Shape := ⟨2, ![8192, 12]⟩
abbrev S8192x12x1 : Shape := ⟨3, ![8192, 12, 1]⟩

abbrev nBuf : Space → Nat
  | .hbm => 128
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x3072, .f32⟩
  | .hbm, ⟨2, _⟩ => ⟨S8192x1536, .f32⟩
  | .hbm, ⟨3, _⟩ => ⟨S8192x1536, .f32⟩
  | .hbm, ⟨4, _⟩ => ⟨S8192x1536, .f32⟩
  | .hbm, ⟨5, _⟩ => ⟨S8192x12x128, .f32⟩
  | .hbm, ⟨6, _⟩ => ⟨S12x8192x128, .f32⟩
  | .hbm, ⟨7, _⟩ => ⟨S8192x12x128, .f32⟩
  | .hbm, ⟨8, _⟩ => ⟨S12x8192x128, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S12x8192x8192, .f32⟩
  | .hbm, ⟨16, _⟩ => ⟨S_, .f32⟩
  | .hbm, ⟨17, _⟩ => ⟨S12x8192x8192, .f32⟩
  | .hbm, ⟨18, _⟩ => ⟨S12x8192x8192, .f32⟩
  | .hbm, ⟨19, _⟩ => ⟨S12x8192x8192, .f32⟩
  | .hbm, ⟨20, _⟩ => ⟨S12x8192x8192, .f32⟩
  | .hbm, ⟨21, _⟩ => ⟨S_, .f32⟩
  | .hbm, ⟨22, _⟩ => ⟨S12x8192x8192, .f32⟩
  | .hbm, ⟨23, _⟩ => ⟨S12x8192x8192, .f32⟩
  | .hbm, ⟨24, _⟩ => ⟨S12x8192x8192, .f32⟩
  | .hbm, ⟨25, _⟩ => ⟨S12x8192x8192, .f32⟩
  | .hbm, ⟨26, _⟩ => ⟨S12x8192x8192, .i1⟩
  | .hbm, ⟨27, _⟩ => ⟨S12x8192x8192, .f32⟩
  | .hbm, ⟨28, _⟩ => ⟨S12x8192x8192, .f32⟩
  | .hbm, ⟨29, _⟩ => ⟨S12x8192x8192, .f32⟩
  | .hbm, ⟨30, _⟩ => ⟨S12x8192x8192, .f32⟩
  | .hbm, ⟨31, _⟩ => ⟨S12x8192x8192, .f32⟩
  | .hbm, ⟨32, _⟩ => ⟨S12x8192x8192, .f32⟩
  | .hbm, ⟨33, _⟩ => ⟨S12x8192x8192, .f32⟩
  | .hbm, ⟨34, _⟩ => ⟨S12x8192x8192, .f32⟩
  | .hbm, ⟨35, _⟩ => ⟨S12x8192x8192, .f32⟩
  | .hbm, ⟨36, _⟩ => ⟨S_, .f32⟩
  | .hbm, ⟨37, _⟩ => ⟨S_, .f32⟩
  | .hbm, ⟨38, _⟩ => ⟨S12x8192x8192, .i1⟩
  | .hbm, ⟨39, _⟩ => ⟨S12x8192x8192, .f32⟩
  | .hbm, ⟨40, _⟩ => ⟨S12x8192x8192, .f32⟩
  | .hbm, ⟨41, _⟩ => ⟨S_, .f32⟩
  | .hbm, ⟨42, _⟩ => ⟨S12x8192, .f32⟩
  | .hbm, ⟨43, _⟩ => ⟨S12x8192, .f32⟩
  | .hbm, ⟨44, _⟩ => ⟨S8192x12, .f32⟩
  | .hbm, ⟨45, _⟩ => ⟨S8192x12x1, .f32⟩
  | .hbm, ⟨46, _⟩ => ⟨S8192x12x128, .f32⟩
  | .hbm, ⟨47, _⟩ => ⟨S8192x1536, .f32⟩
  | .hbm, ⟨48, _⟩ => ⟨S8192x12x128, .f32⟩
  | .hbm, ⟨49, _⟩ => ⟨S12x8192x128, .f32⟩
  | .hbm, ⟨50, _⟩ => ⟨S8192x12x128, .f32⟩
  | .hbm, ⟨51, _⟩ => ⟨S12x8192x128, .f32⟩
  | .hbm, ⟨52, _⟩ => ⟨S8192x12x128, .f32⟩
  | .hbm, ⟨53, _⟩ => ⟨S12x8192x128, .f32⟩
  | .hbm, ⟨54, _⟩ => ⟨S8192, .i32⟩
  | .hbm, ⟨55, _⟩ => ⟨S1x8192, .i32⟩
  | .hbm, ⟨56, _⟩ => ⟨S8192x1, .i32⟩
  | .hbm, ⟨57, _⟩ => ⟨S8192x8192, .i32⟩
  | .hbm, ⟨58, _⟩ => ⟨S8192x8192, .i32⟩
  | .hbm, ⟨59, _⟩ => ⟨S8192x8192, .i1⟩
  | .hbm, ⟨60, _⟩ => ⟨S12x8192x8192, .f32⟩
  | .hbm, ⟨61, _⟩ => ⟨S_, .f32⟩
  | .hbm, ⟨62, _⟩ => ⟨S12x8192x8192, .f32⟩
  | .hbm, ⟨63, _⟩ => ⟨S12x8192x8192, .f32⟩
  | .hbm, ⟨64, _⟩ => ⟨S12x8192x8192, .f32⟩
  | .hbm, ⟨65, _⟩ => ⟨S_, .f32⟩
  | .hbm, ⟨66, _⟩ => ⟨S12x8192x8192, .f32⟩
  | .hbm, ⟨67, _⟩ => ⟨S12x8192x8192, .f32⟩
  | .hbm, ⟨68, _⟩ => ⟨S12x8192x8192, .f32⟩
  | .hbm, ⟨69, _⟩ => ⟨S12x8192x8192, .f32⟩
  | .hbm, ⟨70, _⟩ => ⟨S12x8192x8192, .i1⟩
  | .hbm, ⟨71, _⟩ => ⟨S12x8192x8192, .f32⟩
  | .hbm, ⟨72, _⟩ => ⟨S12x8192x8192, .f32⟩
  | .hbm, ⟨73, _⟩ => ⟨S12x8192x8192, .f32⟩
  | .hbm, ⟨74, _⟩ => ⟨S12x8192x8192, .f32⟩
  | .hbm, ⟨75, _⟩ => ⟨S12x8192x8192, .f32⟩
  | .hbm, ⟨76, _⟩ => ⟨S12x8192x8192, .f32⟩
  | .hbm, ⟨77, _⟩ => ⟨S12x8192x8192, .f32⟩
  | .hbm, ⟨78, _⟩ => ⟨S12x8192x8192, .f32⟩
  | .hbm, ⟨79, _⟩ => ⟨S12x8192x8192, .f32⟩
  | .hbm, ⟨80, _⟩ => ⟨S12x8192x8192, .f32⟩
  | .hbm, ⟨81, _⟩ => ⟨S12x8192x8192, .f32⟩
  | .hbm, ⟨82, _⟩ => ⟨S_, .f32⟩
  | .hbm, ⟨83, _⟩ => ⟨S12x8192x8192, .f32⟩
  | .hbm, ⟨84, _⟩ => ⟨S12x8192x8192, .f32⟩
  | .hbm, ⟨85, _⟩ => ⟨S12x8192x8192, .f32⟩
  | .hbm, ⟨86, _⟩ => ⟨S12x8192x8192, .f32⟩
  | .hbm, ⟨87, _⟩ => ⟨S12x8192x8192, .i1⟩
  | .hbm, ⟨88, _⟩ => ⟨S12x8192x8192, .f32⟩
  | .hbm, ⟨89, _⟩ => ⟨S12x8192x8192, .f32⟩
  | .hbm, ⟨90, _⟩ => ⟨S12x8192x8192, .f32⟩
  | .hbm, ⟨91, _⟩ => ⟨S12x8192x8192, .f32⟩
  | .hbm, ⟨92, _⟩ => ⟨S12x8192x8192, .f32⟩
  | .hbm, ⟨93, _⟩ => ⟨S12x8192x8192, .f32⟩
  | .hbm, ⟨94, _⟩ => ⟨S12x8192x8192, .f32⟩
  | .hbm, ⟨95, _⟩ => ⟨S12x8192x8192, .f32⟩
  | .hbm, ⟨96, _⟩ => ⟨S12x8192x8192, .f32⟩
  | .hbm, ⟨97, _⟩ => ⟨S_, .f32⟩
  | .hbm, ⟨98, _⟩ => ⟨S_, .f32⟩
  | .hbm, ⟨99, _⟩ => ⟨S12x8192x8192, .i1⟩
  | .hbm, ⟨100, _⟩ => ⟨S12x8192x8192, .f32⟩
  | .hbm, ⟨101, _⟩ => ⟨S12x8192x8192, .f32⟩
  | .hbm, ⟨102, _⟩ => ⟨S_, .f32⟩
  | .hbm, ⟨103, _⟩ => ⟨S_, .f32⟩
  | .hbm, ⟨104, _⟩ => ⟨S12x8192x8192, .f32⟩
  | .hbm, ⟨105, _⟩ => ⟨S12x8192x8192, .f32⟩
  | .hbm, ⟨106, _⟩ => ⟨S12x8192x8192, .f32⟩
  | .hbm, ⟨107, _⟩ => ⟨S12x8192x8192, .f32⟩
  | .hbm, ⟨108, _⟩ => ⟨S_, .f32⟩
  | .hbm, ⟨109, _⟩ => ⟨S_, .f32⟩
  | .hbm, ⟨110, _⟩ => ⟨S12x8192x8192, .i1⟩
  | .hbm, ⟨111, _⟩ => ⟨S12x8192x8192, .f32⟩
  | .hbm, ⟨112, _⟩ => ⟨S12x8192x8192, .f32⟩
  | .hbm, ⟨113, _⟩ => ⟨S12x8192x128, .f32⟩
  | .hbm, ⟨114, _⟩ => ⟨S8192x12x128, .f32⟩
  | .hbm, ⟨115, _⟩ => ⟨S8192x1536, .f32⟩
  | .hbm, ⟨116, _⟩ => ⟨S8192x1536, .f32⟩
  | .hbm, ⟨117, _⟩ => ⟨S8192x1536, .f32⟩
  | .hbm, ⟨118, _⟩ => ⟨S8192x1536, .f32⟩
  | .hbm, ⟨119, _⟩ => ⟨S_, .f32⟩
  | .hbm, ⟨120, _⟩ => ⟨S8192x1536, .f32⟩
  | .hbm, ⟨121, _⟩ => ⟨S8192x1536, .f32⟩
  | .hbm, ⟨122, _⟩ => ⟨S_, .f32⟩
  | .hbm, ⟨123, _⟩ => ⟨S8192x1536, .f32⟩
  | .hbm, ⟨124, _⟩ => ⟨S8192x1536, .f32⟩
  | .hbm, ⟨125, _⟩ => ⟨S8192x1536, .f32⟩
  | .hbm, ⟨126, _⟩ => ⟨S8192x1536, .f32⟩
  | .hbm, ⟨127, _⟩ => ⟨S8192x1536, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_call2_v0 : Ref sig .tc := ⟨.hbm, 64, rfl⟩
abbrev main_call2_call0_cst : Ref sig .tc := ⟨.hbm, 65, rfl⟩
abbrev main_call2_call0_v0 : Ref sig .tc := ⟨.hbm, 66, rfl⟩
abbrev main_call2_call0_v1 : Ref sig .tc := ⟨.hbm, 67, rfl⟩
abbrev main_call2_call0_v2 : Ref sig .tc := ⟨.hbm, 68, rfl⟩
abbrev main_call2_call0_v3 : Ref sig .tc := ⟨.hbm, 69, rfl⟩
abbrev main_call2_call0_v4 : Ref sig .tc := ⟨.hbm, 70, rfl⟩
abbrev main_call2_call0_v5 : Ref sig .tc := ⟨.hbm, 71, rfl⟩
abbrev main_call2_call0_v6 : Ref sig .tc := ⟨.hbm, 72, rfl⟩
abbrev main_call2_call0_v7 : Ref sig .tc := ⟨.hbm, 73, rfl⟩
abbrev main_call2_call0_v8 : Ref sig .tc := ⟨.hbm, 74, rfl⟩
abbrev main_call2_call0_v9 : Ref sig .tc := ⟨.hbm, 75, rfl⟩
abbrev main_call2_call0_v10 : Ref sig .tc := ⟨.hbm, 76, rfl⟩
abbrev main_call2_call0_v11 : Ref sig .tc := ⟨.hbm, 77, rfl⟩
abbrev main_call2_v1 : Ref sig .tc := ⟨.hbm, 78, rfl⟩
abbrev main_v40 : Ref sig .tc := ⟨.hbm, 79, rfl⟩
abbrev main_v41 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1 : Ref sig .tc := ⟨.hbm, 95, rfl⟩
abbrev main_v42 : Ref sig .tc := ⟨.hbm, 96, rfl⟩
abbrev main_cst_3 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v43 : Ref sig .tc := ⟨.hbm, 101, rfl⟩
abbrev main_call5_cst : Ref sig .tc := ⟨.hbm, 102, rfl⟩
abbrev main_call5_v0 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_cst_4 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_call7_v0 : Ref sig .tc := ⟨.hbm, 117, rfl⟩
abbrev main_call7_v1 : Ref sig .tc := ⟨.hbm, 118, rfl⟩
abbrev main_call7_cst : Ref sig .tc := ⟨.hbm, 119, rfl⟩
abbrev main_call7_v2 : Ref sig .tc := ⟨.hbm, 120, rfl⟩
abbrev main_call7_v3 : Ref sig .tc := ⟨.hbm, 121, rfl⟩
abbrev main_call7_cst_0 : Ref sig .tc := ⟨.hbm, 122, rfl⟩
abbrev main_call7_v4 : Ref sig .tc := ⟨.hbm, 123, rfl⟩
abbrev main_call7_v5 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩

abbrev nD : Nat := 1
abbrev τ : Topo := Topo.v7x

variable {F : FTy → Type} [FloatOps F]
-- ==== Kernel6.lean ====
abbrev S8192x4096 : Shape := ⟨2, ![8192, 4096]⟩
abbrev S256x4096 : Shape := ⟨2, ![256, 4096]⟩
abbrev S8192x512 : Shape := ⟨2, ![8192, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S256x4096, .bf16⟩
  | .hbm, ⟨3, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x4096 : Shape := ⟨2, ![8192, 4096]⟩
abbrev S256x4096 : Shape := ⟨2, ![256, 4096]⟩
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S8192x512, .f32⟩
  | .hbm, ⟨3, _⟩ => ⟨S8192x512, .f32⟩
  | .hbm, ⟨4, _⟩ => ⟨S256x512, .f32⟩
  | .hbm, ⟨5, _⟩ => ⟨S256x512, .f32⟩
  | .hbm, ⟨6, _⟩ => ⟨S8192x4x128, .f32⟩
  | .hbm, ⟨7, _⟩ => ⟨S256x4x128, .f32⟩
  | .hbm, ⟨8, _⟩ => ⟨S256x4x128, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x128x8192, .f32⟩
  | .hbm, ⟨28, _⟩ => ⟨S8192x4x128, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S2048x4096 : Shape := ⟨2, ![2048, 4096]⟩
abbrev S1x2048 : Shape := ⟨2, ![1, 2048]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S1x2048, .f32⟩
  | .hbm, ⟨4, _⟩ => ⟨S2048x4096, .bf16⟩
  | .hbm, ⟨5, _⟩ => ⟨S8192x4096, .f32⟩
  | .hbm, ⟨6, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S8192x2048 : Shape := ⟨2, ![8192, 2048]⟩
abbrev S2048 : Shape := ⟨1, ![2048]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4096, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S8192x4096 : Shape := ⟨2, ![8192, 4096]⟩
abbrev S2048x4096 : Shape := ⟨2, ![2048, 4096]⟩
abbrev S8192x2048 : Shape := ⟨2, ![8192, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x4096, .bf16⟩
  | .hbm, ⟨3, _⟩ => ⟨S2048x4096, .bf16⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x4096 : Shape := ⟨2, ![8192, 4096]⟩
abbrev S2048x4096 : Shape := ⟨2, ![2048, 4096]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S_, .f32⟩
  | .hbm, ⟨3, _⟩ => ⟨S8192x2048, .f32⟩
  | .hbm, ⟨4, _⟩ => ⟨S8192x4096, .f32⟩
  | .hbm, ⟨5, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8192x2048 : Shape := ⟨2, ![8192, 2048]⟩
abbrev S8192x3072 : Shape := ⟨2, ![8192, 3072]⟩
abbrev S4x1x2048x768 : Shape := ⟨4, ![4, 1, 2048, 768]⟩
abbrev S2048x512 : Shape := ⟨2, ![2048, 512]⟩
abbrev S2048x768 : Shape := ⟨2, ![2048, 768]⟩
abbrev S1x1x512x768 : Shape := ⟨4, ![1, 1, 512, 768]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x2048, .bf16⟩
  | .hbm, ⟨3, _⟩ => ⟨S8192x3072, .bf16⟩
  | .hbm, ⟨4, _⟩ => ⟨S4x1x2048x768, .f32⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S1x1x512x768, .f32⟩
  | .local _ .vmem, ⟨5, _⟩ => ⟨S1x1x512x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩
abbrev S1x2048x4x768 : Shape := ⟨4, ![1, 2048, 4, 768]⟩
abbrev S4x1x2048x768 : Shape := ⟨4, ![4, 1, 2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S_, .f32⟩
  | .hbm, ⟨3, _⟩ => ⟨S2048x3072, .f32⟩
  | .hbm, ⟨4, _⟩ => ⟨S8192x3072, .f32⟩
  | .hbm, ⟨5, _⟩ => ⟨S3072x2048, .f32⟩
  | .hbm, ⟨6, _⟩ => ⟨S2048x3072, .f32⟩
  | .hbm, ⟨7, _⟩ => ⟨S1x2048x4x768, .f32⟩
  | .hbm, ⟨8, _⟩ => ⟨S4x1x2048x768, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2x2048x1024 : Shape := ⟨3, ![2, 2048, 1024]⟩
abbrev S4096x1024 : Shape := ⟨2, ![4096, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S2x2048x1024 : Shape := ⟨3, ![2, 2048, 1024]⟩
abbrev S_ : Shape := ⟨0, ![]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048x1024, .f32⟩
  | .hbm, ⟨36, _⟩ => ⟨S2x2048x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S1536x8192 : Shape := ⟨2, ![1536, 8192]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1536x8192, .f32⟩
  | .hbm, ⟨1, _⟩ => ⟨S1536x8192, .f32⟩
  | .hbm, ⟨2, _⟩ => ⟨S1536x8192, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | _, _ => ⟨S1536x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S1536x8192 : Shape := ⟨2, ![1536, 8192]⟩

abbrev nBuf : Space → Nat
  | .hbm => 4
  | .vmem => 0
  | .smem => 0
  | _ => 0

abbrev bufTy : (tb : Table) → Fin (tcTables nBuf tb) → BufTy
  | .hbm, ⟨0, _⟩ => ⟨S1536x8192, .f32⟩
  | .hbm, ⟨1, _⟩ => ⟨S1536x8192, .f32⟩
  | .hbm, ⟨2, _⟩ => ⟨S1536x8192, .f32⟩
  | .hbm, ⟨3, _⟩ => ⟨S1536x8192, .bf16⟩
  | _, _ => ⟨S1536x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Reals.lean ====
/- Extended reals that are real numbers: the operations of the two programs on them are the real operations. The simp
   set `reals` pushes the coercion outwards, so that an equation of finite extended reals becomes one of reals. -/
module

public import Idealize.ShloMosaic.Lib.Pointwise
public import Idealize.ShloMosaic.Lib.IdealHost
public import Idealize.ShloMosaic.PureOps.Ideal.Laws

@[expose] public section

noncomputable section

namespace Cert.Reals

open Idealize.ShloMosaic
open scoped BigOperators

/-- A finite extended real is a real number. -/
theorem exists_coe {x : EReal} (h : max x (-x) < ⊤) : ∃ r : ℝ, x = (r : EReal) := by
  induction x using EReal.rec with
  | bot => simp at h
  | top => simp at h
  | coe r => exact ⟨r, rfl⟩

theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.mpr h.le), if_neg h.ne']

theorem sqrt_real {x : ℝ} (h : 0 ≤ x) : Ideal.sqrt (x : EReal) = ((Real.sqrt x : ℝ) : EReal) := by
  rw [Ideal.sqrt_coe, if_neg (not_lt.mpr h)]

theorem log_real {x : ℝ} (h : 0 < x) : Ideal.log (x : EReal) = ((Real.log x : ℝ) : EReal) := by
  rw [Ideal.log_coe, if_neg (not_le.mpr h)]

theorem log1p_real {x : ℝ} (h : 0 < 1 + x) : Ideal.log1p (x : EReal) = ((Real.log (1 + x) : ℝ) : EReal) := by
  unfold Ideal.log1p
  rw [← EReal.coe_one, ← EReal.coe_add, log_real h]

theorem max_real (x y : ℝ) : max (x : EReal) (y : EReal) = ((max x y : ℝ) : EReal) :=
  (EReal.coe_strictMono.monotone.map_max).symm

/-- A sum over the rows, taken block by block. -/
theorem sum_blocks {M : Type*} [AddCommMonoid M] (a b : ℕ) {k : ℕ} (hk : k = a * b) (f : ℕ → M) :
    ∑ n ∈ Finset.range a, ∑ p : Fin b, f (n * b + p.val) = ∑ r : Fin k, f r.val := by
  subst hk
  rw [Fin.sum_univ_eq_sum_range f (a * b)]
  induction a with
  | zero => simp
  | succ a ih =>
    rw [Finset.sum_range_succ, ih, Nat.succ_mul, Finset.sum_range_add, ← Fin.sum_univ_eq_sum_range (fun x => f (a * b + x)) b]

/-- Row number `n` of an array of `k` rows, for a number known to be small. -/
def rowOf (k : ℕ) [NeZero k] (n : ℕ) : Fin k := Fin.ofNat k n

theorem rowOf_val {k : ℕ} [NeZero k] (r : Fin k) : rowOf k r.val = r := Fin.ext (Nat.mod_eq_of_lt r.isLt)

theorem rowOf_lt {k : ℕ} [NeZero k] {n : ℕ} (h : n < k) : (rowOf k n).val = n := Nat.mod_eq_of_lt h

/-! ## The literals of the programs -/

theorem lit_inf : Ideal.ofBits .f32 0x7F800000#32 = ⊤ := by simp [Ideal.ofBits, Ideal.ieee]
theorem lit_neg_inf : Ideal.ofBits .f32 0xFF800000#32 = ⊥ := by simp [Ideal.ofBits, Ideal.ieee]
theorem lit_zero : Ideal.ofBits .f32 0x00000000#32 = ((0 : ℝ) : EReal) := by simp [Ideal.ofBits, Ideal.ieee]
theorem lit_neg_zero : Ideal.ofBits .f32 0x80000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_2048_inv : Ideal.ofBits .f32 0x3A000000#32 = ((1 / 2048 : ℝ) : EReal) := by
  simp [Ideal.ofBits, Ideal.ieee, -EReal.coe_mul]; norm_num
theorem lit_4096_inv : Ideal.ofBits .f32 0x39800000#32 = ((1 / 4096 : ℝ) : EReal) := by
  simp [Ideal.ofBits, Ideal.ieee, -EReal.coe_mul]; norm_num

/-- The norms' small constant: the value of the word nearest to one millionth. -/
def eps : ℝ := 8796093 / 2 ^ 43

theorem eps_pos : 0 < eps := by unfold eps; positivity

theorem lit_eps : Ideal.ofBits .f32 0x358637BD#32 = (eps : EReal) := by
  unfold eps
  simp [Ideal.ofBits, Ideal.ieee, -EReal.coe_mul]; norm_num

/-! ## Reading a finiteness precondition -/

theorem and_one : ∀ {a b : BitVec 1}, IntOp.andi a b = 1#1 → a = 1#1 ∧ b = 1#1 := by decide

/-- An extended real whose absolute value compares below infinity is a real number. -/
theorem real_of_cmp {x : EReal}
    (h : BitVec.ofBool (decide (FloatOps.absf (F := Ideal) (φ := .f32) x < Ideal.ofBits .f32 0x7F800000#32)) = 1#1) :
    ∃ r : ℝ, x = (r : EReal) := by
  rw [lit_inf] at h
  by_cases hx : FloatOps.absf (F := Ideal) (φ := .f32) x < (⊤ : EReal)
  · exact exists_coe hx
  · simp [hx] at h

end Cert.Reals

end
-- ==== Proof.Norm.lean ====
/- The norm of a row and its derivative. `scale x` is the factor by which the norm multiplies the row `x`, `pull x d g q`
   is the kernels' closed form of the row's gradient at column `q` for the cotangent `d` and the gains `g`, `chain x d g q`
   is what the chain rule gives operation by operation. On real rows the two are one real number (`pull_eq_chain`). -/
module

public import proofs.«01_k».proof.Proof.Reals

@[expose] public section

noncomputable section

namespace Cert.Norm

open Idealize.ShloMosaic Cert.Reals
open scoped BigOperators

/-- The norms' constant under the root, and the number of columns, as extended reals. -/
abbrev epsE : EReal := Ideal.ofBits .f32 0x358637BD#32
abbrev colsE : EReal := Ideal.ofBits .f32 0x45000000#32

/-- The factor of a row: one over the root of the mean square. -/
def scale (x : Fin 2048 → EReal) : EReal := Ideal.rsqrt (Ideal.div (∑ k, x k * x k) colsE + epsE)

/-- The kernels' gradient of the row at column `q`. -/
def pull (x d g : Fin 2048 → EReal) (q : Fin 2048) : EReal :=
  scale x * (d q * g q - x q * scale x * Ideal.div (∑ k, d k * g k * (x k * scale x)) colsE)

/-- The mean square of a real row, with the constant added. -/
def meanSq (X : Fin 2048 → ℝ) : ℝ := (∑ k, X k * X k) / 2048 + eps

theorem meanSq_pos (X : Fin 2048 → ℝ) : 0 < meanSq X :=
  add_pos_of_nonneg_of_pos (div_nonneg (Finset.sum_nonneg fun k _ => mul_self_nonneg (X k)) (by norm_num)) eps_pos

/-- The real factor of a row. -/
def fac (X : Fin 2048 → ℝ) : ℝ := (Real.sqrt (meanSq X))⁻¹

theorem fac_sq (X : Fin 2048 → ℝ) : fac X * fac X * meanSq X = 1 := by
  have h := meanSq_pos X
  unfold fac
  rw [← mul_inv, Real.mul_self_sqrt h.le, inv_mul_cancel₀ h.ne']

theorem scaleArg_coe (X : Fin 2048 → ℝ) :
    Ideal.div (∑ k, (X k : EReal) * (X k : EReal)) colsE + epsE = (meanSq X : EReal) := by
  simp only [← EReal.coe_mul, sum_coe, colsE, epsE, lit_2048, lit_eps]
  rw [div_real _ (by norm_num), ← EReal.coe_add]
  rfl

theorem scale_coe (X : Fin 2048 → ℝ) : scale (fun k => (X k : EReal)) = (fac X : EReal) := by
  unfold scale
  rw [scaleArg_coe, rsqrt_real (meanSq_pos X)]
  rfl

/-- The kernels' gradient of a real row. -/
def pullR (X D G : Fin 2048 → ℝ) (q : Fin 2048) : ℝ :=
  fac X * (D q * G q - X q * fac X * ((∑ k, D k * G k * (X k * fac X)) / 2048))

theorem pull_coe (X D G : Fin 2048 → ℝ) (q : Fin 2048) :
    pull (fun k => (X k : EReal)) (fun k => (D k : EReal)) (fun k => (G k : EReal)) q = (pullR X D G q : EReal) := by
  unfold pull
  simp only [scale_coe, ← EReal.coe_mul, sum_coe, colsE, lit_2048]
  rw [div_real _ (by norm_num)]
  simp only [← EReal.coe_mul, ← EReal.coe_sub]
  rfl

/-- The chain rule's gradient of a real row: the cotangent times the gains through the factor, and the cotangent of the
    factor through the mean square, once for each of the two equal multiplicands of the square. -/
theorem pullR_eq (X D G : Fin 2048 → ℝ) (q : Fin 2048) :
    D q * G q * fac X
        + X q * ((∑ k, X k * (D k * G k)) * (-(1 / 2) * (fac X / meanSq X)) / 2048)
        + (∑ k, X k * (D k * G k)) * (-(1 / 2) * (fac X / meanSq X)) / 2048 * X q
      = pullR X D G q := by
  have hm := (meanSq_pos X).ne'
  have hf : fac X / meanSq X = fac X * fac X * fac X := by
    rw [div_eq_iff hm, mul_assoc (fac X * fac X), mul_comm (fac X) (meanSq X), ← mul_assoc, fac_sq, one_mul]
  have hs : (∑ k, D k * G k * (X k * fac X)) = (∑ k, X k * (D k * G k)) * fac X := by
    rw [Finset.sum_mul]
    exact Finset.sum_congr rfl fun k _ => by ring
  unfold pullR
  rw [hf, hs]
  ring

end Cert.Norm

end
-- ==== Proof.RmsKernel.lean ====
/- The norm's backward kernel, read: over any memory, the row gradients are each row's `pull` on the residual cotangent,
   and the gains' gradient the running sum over the 32 row blocks of each block's column sum. -/
module

public import proofs.«01_k».proof.Proof.Norm
public import proofs.«01_k».proof.Proof.Gen.KernelIdeal.Value

@[expose] public section

noncomputable section

namespace Cert.Rms

open Idealize.ShloMosaic Idealize.ShloMosaic.TcCoe Idealize.SL.Sem Cert.KernelIdeal Cert.KernelIdeal.Gen Cert.Norm
open scoped BigOperators

theorem hz : (![0, 0] : Fin 2 → Nat) = fun _ => 0 := funext fun a => by fin_cases a <;> rfl

/-! ## The body's values at an element -/

theorem pay4 (v0 v11 v16 : Vec Ideal S256x2048 .f32) (v12 : Vec Ideal S1x2048 .f32) (p : Fin 256) (q : Fin 2048) :
    k0_pay4 (F := Ideal) v0 v11 v12 v16 (ix2 p q)
      = v16 (ix2 p q) + pull (fun k => v0 (ix2 p k)) (fun k => v11 (ix2 p k)) (fun k => v12 (ix2 0 k)) q := by
  pointwise [k0_pay4, k0_pay3, k0_pay2]
  rfl

theorem pay5 (v0 v11 v16 : Vec Ideal S256x2048 .f32) (v12 : Vec Ideal S1x2048 .f32) (p : Fin 256) (q : Fin 2048) :
    k0_pay5 (F := Ideal) v0 v11 v12 v16 (ix2 p q) = k0_pay4 (F := Ideal) v0 v11 v12 v16 (ix2 p q) := rfl

theorem pay6 (v0 v11 : Vec Ideal S256x2048 .f32) (q : Fin 2048) :
    k0_pay6 (F := Ideal) v0 v11 (ix2 0 q) = ∑ p : Fin 256, v11 (ix2 p q) * (v0 (ix2 p q) * scale fun k => v0 (ix2 p k)) := by
  pointwise [k0_pay6, k0_pay3, k0_pay2]
  rfl

theorem pay1 (v33 v40 : Vec Ideal S1x2048 .f32) (q : Fin 2048) :
    k0_pay1 (F := Ideal) v33 v40 (ix2 0 q) = v40 (ix2 0 q) + v33 (ix2 0 q) := by
  pointwise [k0_pay1]

variable {F : FTy → Type} [FloatOps F]

/-! ## What a point leaves in the outputs' buffers -/

section Out
variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S1x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1x2048 .f32) (h6 : a6.IsWhole)
  (a7 : Memref sig .tc .vmem S256x2048 .bf16) (h7 : a7.IsWhole)
  (x0 x1 x3 : Vec F S256x2048 .f32) (x2 xo : Vec F S1x2048 .f32)

theorem out_A_4 (hc0 : cond0_0 i) (hc1 : ¬cond0_1 i) :
    out0_A_4 c i a1 h1 a2 h2 a3 h3 a4 h4 a5 h5 a6 h6 a7 h7 hc0 hc1 x0 x1 x2 x3 = k0_pay4 x1 x0 x2 x3 := by
  unfold out0_A_4
  refine (View.read_writes_eq_canon _ _ _ fun y => cover0_A_4 ..).trans ?_
  unfold kernelRun0_A
  dsimp only
  rw [View.canon_unit_zero hz]
  simp only [View.readAt_eq_ld, h1.read_unread, h2.read_unread, h3.read_unread, h4.read_unread,
    View.ld_unit_zero (S := S256x2048) hz, View.ld_unit_zero (S := S1x2048) hz, shapeCast_self]

theorem out_A_5 (hc0 : cond0_0 i) (hc1 : ¬cond0_1 i) :
    out0_A_5 c i a1 h1 a2 h2 a3 h3 a4 h4 a5 h5 a6 h6 a7 h7 hc0 hc1 x0 x1 x2 x3 = k0_pay6 x1 x0 := by
  unfold out0_A_5
  refine (View.read_writes_eq_canon _ _ _ fun y => cover0_A_5 ..).trans ?_
  unfold kernelRun0_A
  dsimp only
  sl_unfold_words
  rw [View.canon_unit_zero hz]
  simp only [View.readAt_eq_ld, h1.read_unread, h2.read_unread,
    View.ld_unit_zero (S := S256x2048) hz, shapeCast_self]

theorem out_A_6 (hc0 : cond0_0 i) (hc1 : ¬cond0_1 i) :
    out0_A_6 c i a1 h1 a2 h2 a3 h3 a4 h4 a5 h5 a6 h6 a7 h7 hc0 hc1 x0 x1 x2 x3 = k0_pay5 x1 x0 x2 x3 := by
  unfold out0_A_6
  refine (View.read_writes_eq_canon _ _ _ fun y => cover0_A_6 ..).trans ?_
  unfold kernelRun0_A
  dsimp only
  rw [View.canon_unit_zero hz]
  simp only [View.readAt_eq_ld, h1.read_unread, h2.read_unread, h3.read_unread, h4.read_unread,
    View.ld_unit_zero (S := S256x2048) hz, View.ld_unit_zero (S := S1x2048) hz, shapeCast_self]

theorem out_B_4 (hc0 : ¬cond0_0 i) (hc1 : cond0_1 i) :
    out0_B_4 c i a1 h1 a2 h2 a3 h3 a4 h4 a5 h5 a6 h6 a7 h7 hc0 hc1 x0 x1 x2 x3 xo = k0_pay4 x1 x0 x2 x3 := by
  unfold out0_B_4
  refine (View.read_writes_eq_canon _ _ _ fun y => cover0_B_4 ..).trans ?_
  unfold kernelRun0_B
  dsimp only
  rw [View.canon_unit_zero hz]
  simp only [View.readAt_eq_ld, h1.read_unread, h2.read_unread, h3.read_unread, h4.read_unread,
    View.ld_unit_zero (S := S256x2048) hz, View.ld_unit_zero (S := S1x2048) hz, shapeCast_self]

theorem out_B_5 (hc0 : ¬cond0_0 i) (hc1 : cond0_1 i) :
    out0_B_5 c i a1 h1 a2 h2 a3 h3 a4 h4 a5 h5 a6 h6 a7 h7 hc0 hc1 x0 x1 x2 x3 xo = k0_pay1 (k0_pay6 x1 x0) xo := by
  unfold out0_B_5
  refine (View.read_writes_eq_canon _ _ _ fun y => cover0_B_5 ..).trans ?_
  unfold kernelRun0_B
  dsimp only
  sl_unfold_words
  rw [View.canon_unit_zero hz]
  simp only [View.readAt_eq_ld, h1.read_unread, h2.read_unread, h6.read_unread,
    View.ld_unit_zero (S := S256x2048) hz, View.ld_unit_zero (S := S1x2048) hz, shapeCast_self]

theorem out_B_6 (hc0 : ¬cond0_0 i) (hc1 : cond0_1 i) :
    out0_B_6 c i a1 h1 a2 h2 a3 h3 a4 h4 a5 h5 a6 h6 a7 h7 hc0 hc1 x0 x1 x2 x3 xo = k0_pay5 x1 x0 x2 x3 := by
  unfold out0_B_6
  refine (View.read_writes_eq_canon _ _ _ fun y => cover0_B_6 ..).trans ?_
  unfold kernelRun0_B
  dsimp only
  rw [View.canon_unit_zero hz]
  simp only [View.readAt_eq_ld, h1.read_unread, h2.read_unread, h3.read_unread, h4.read_unread,
    View.ld_unit_zero (S := S256x2048) hz, View.ld_unit_zero (S := S1x2048) hz, shapeCast_self]
end Out

variable (m : (ℓ : Loc nD τ sig) → Buf (Elt F) ℓ) (c : Dev nD)

theorem not_case (t : Fin cfg0.N) (h : ¬t.val % 32 = 0) : 1 ≤ t.val := by omega

theorem zero_case (t : Fin cfg0.N) (h : t.val % 32 = 0) : ¬1 ≤ t.val := by
  have : t.val < 32 := t.isLt
  omega

/-- The rows' gradient after point `t`: the body's value of the point's blocks. -/
theorem outs_dx (t : Fin cfg0.N) :
    (outsAt0 m c t.val t.isLt).1 = k0_pay4 (iblk m c 1 t) (iblk m c 0 t) (iblk m c 2 t) (iblk m c 3 t) := by
  by_cases h : t.val % 32 = 0
  · simp only [outsAt0_A m c t h (zero_case t h)]; exact out_A_4 ..
  · simp only [outsAt0_B m c t h (not_case t h)]; exact out_B_4 ..

/-- The rounded copy of it. -/
theorem outs_dxb (t : Fin cfg0.N) :
    (outsAt0 m c t.val t.isLt).2.2 = k0_pay5 (iblk m c 1 t) (iblk m c 0 t) (iblk m c 2 t) (iblk m c 3 t) := by
  by_cases h : t.val % 32 = 0
  · simp only [outsAt0_A m c t h (zero_case t h)]; exact out_A_6 ..
  · simp only [outsAt0_B m c t h (not_case t h)]; exact out_B_6 ..

/-- The gains' gradient after point `0`, and after every later point over what the point before left. -/
theorem outs_dg_zero (t : Fin cfg0.N) (h : t.val % 32 = 0) :
    (outsAt0 m c t.val t.isLt).2.1 = k0_pay6 (iblk m c 1 t) (iblk m c 0 t) := by
  simp only [outsAt0_A m c t h (zero_case t h)]; exact out_A_5 ..

theorem outs_dg_succ (t : Fin cfg0.N) (h : ¬t.val % 32 = 0) :
    (outsAt0 m c t.val t.isLt).2.1
      = k0_pay1 (k0_pay6 (iblk m c 1 t) (iblk m c 0 t)) (outsAt0 m c (t.val - 1) (Nat.lt_of_le_of_lt (Nat.sub_le _ _) t.isLt)).2.1 := by
  simp only [outsAt0_B m c t h (not_case t h)]; exact out_B_5 ..

/-! ## The blocks, as rows of the arrays -/

/-- The row of the array that row `p` of the block of point `t` is. -/
abbrev row (t : ℕ) (p : Fin 256) : Fin 8192 := Reals.rowOf 8192 (t * 256 + p.val)

theorem row_val (t : Fin cfg0.N) (p : Fin 256) : (row t.val p).val = t.val * 256 + p.val :=
  Reals.rowOf_lt (by have : t.val < 32 := t.isLt; omega)

theorem index0 : ∀ t : Fin cfg0.N, win0_0.index t 0 = t.val ∧ win0_0.index t 1 = 0 :=
  (by decide +kernel : ∀ t : Fin grid0.N, _)
theorem index2 : ∀ t : Fin cfg0.N, win0_2.index t 0 = 0 ∧ win0_2.index t 1 = 0 :=
  (by decide +kernel : ∀ t : Fin grid0.N, _)

theorem iblk0 (t : Fin cfg0.N) (p : Fin 256) (q : Fin 2048) :
    (iblk m c 0 t : Vec F S256x2048 .f32) (ix2 p q) = m ((c : Thread nD τ).loc main_arg0) (ix2 (row t.val p) q) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 256 + 1 * p.val = (row t.val p).val; rw [(index0 t).1, row_val]; omega
  | ⟨1, _⟩ => show win0_0.index t 1 * 2048 + 1 * q.val = q.val; rw [(index0 t).2]; omega

theorem iblk1 (t : Fin cfg0.N) (p : Fin 256) (q : Fin 2048) :
    (iblk m c 1 t : Vec F S256x2048 .f32) (ix2 p q) = m ((c : Thread nD τ).loc main_arg1) (ix2 (row t.val p) q) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_0.index t 0 * 256 + 1 * p.val = (row t.val p).val; rw [(index0 t).1, row_val]; omega
  | ⟨1, _⟩ => show win0_0.index t 1 * 2048 + 1 * q.val = q.val; rw [(index0 t).2]; omega

theorem iblk3 (t : Fin cfg0.N) (p : Fin 256) (q : Fin 2048) :
    (iblk m c 3 t : Vec F S256x2048 .f32) (ix2 p q) = m ((c : Thread nD τ).loc main_arg3) (ix2 (row t.val p) q) := by
  refine Eq.trans ?_ (congrFun (V_main_arg3 m c) _)
  unfold iblk
  rw [View.read_apply]
  show V m c main_arg3 _ = V m c main_arg3 _
  congr 1
  funext a
  apply Fin.ext
  match a with
  | ⟨0, _⟩ => show win0_0.index t 0 * 256 + 1 * p.val = (row t.val p).val; rw [(index0 t).1, row_val]; omega
  | ⟨1, _⟩ => show win0_0.index t 1 * 2048 + 1 * q.val = q.val; rw [(index0 t).2]; omega

theorem as_row (g : Vec F S2048 .f32) (h : S2048.ShapeCasts S1x2048) (q : Fin 2048) :
    shapeCast S1x2048 g h (ix2 0 q) = g (ix1 q) := by
  pointwise []

/-- The gains the region reads are the argument's, laid out as one row by the host. -/
theorem V_gains (q : Fin 2048) : V m c main_v0 (ix2 0 q) = m ((c : Thread nD τ).loc main_arg2) (ix1 q) := by
  refine Eq.trans (congrFun ?_ _) (as_row (m ((c : Thread nD τ).loc main_arg2)) (by decide) q)
  dsimp only [V, hostOps0]
  after_results_simp <;> rfl

theorem iblk2 (t : Fin cfg0.N) (q : Fin 2048) :
    (iblk m c 2 t : Vec F S1x2048 .f32) (ix2 0 q) = m ((c : Thread nD τ).loc main_arg2) (ix1 q) := by
  refine Eq.trans ?_ (V_gains m c q)
  unfold iblk
  rw [View.read_apply]
  show V m c main_v0 _ = V m c main_v0 _
  congr 1
  funext a
  apply Fin.ext
  match a with
  | ⟨0, _⟩ => show win0_2.index t 0 * 1 + 1 * 0 = 0; rw [(index2 t).1]
  | ⟨1, _⟩ => show win0_2.index t 1 * 2048 + 1 * q.val = q.val; rw [(index2 t).2]; omega

/-! ## The result arrays -/

/-- The rows' gradients of whole arrays: cotangent, rows, gains, residual cotangent. -/
def dxOf (a0 a1 a3 : Vec Ideal S8192x2048 .f32) (a2 : Vec Ideal S2048 .f32) : Vec Ideal S8192x2048 .f32 := fun i =>
  a3 i + pull (fun k => a1 (ix2 (i 0) k)) (fun k => a0 (ix2 (i 0) k)) (fun k => a2 (ix1 k)) (i 1)

/-- The gains' gradient of whole arrays. -/
def dgOf (a0 a1 : Vec Ideal S8192x2048 .f32) : Vec Ideal S1x2048 .f32 := fun i =>
  ∑ r : Fin 8192, a0 (ix2 r (i 1)) * (a1 (ix2 r (i 1)) * scale fun k => a1 (ix2 r k))

theorem dgOf_apply (a0 a1 : Vec Ideal S8192x2048 .f32) (q : Fin 2048) :
    dgOf a0 a1 (ix2 0 q) = ∑ r : Fin 8192, a0 (ix2 r q) * (a1 (ix2 r q) * scale fun k => a1 (ix2 r k)) := rfl

section Final
variable (m : (ℓ : Loc nD τ sig) → Buf (Elt Ideal) ℓ) (c : Dev nD)

abbrev A0 : Vec Ideal S8192x2048 .f32 := m ((c : Thread nD τ).loc main_arg0)
abbrev A1 : Vec Ideal S8192x2048 .f32 := m ((c : Thread nD τ).loc main_arg1)
abbrev A2 : Vec Ideal S2048 .f32 := m ((c : Thread nD τ).loc main_arg2)
abbrev A3 : Vec Ideal S8192x2048 .f32 := m ((c : Thread nD τ).loc main_arg3)

theorem index4 : ∀ t : Fin cfg0.N, win0_4.index t 0 = t.val ∧ win0_4.index t 1 = 0 :=
  (by decide +kernel : ∀ t : Fin grid0.N, _)

/-- One element of a row block's gradient. -/
theorem block_dx (t : Fin cfg0.N) (p : Fin 256) (q : Fin 2048) :
    k0_pay4 (F := Ideal) (iblk m c 1 t) (iblk m c 0 t) (iblk m c 2 t) (iblk m c 3 t) (ix2 p q)
      = dxOf (A0 m c) (A1 m c) (A3 m c) (A2 m c) (ix2 (row t.val p) q) := by
  rw [pay4]
  unfold dxOf
  refine congrArg₂ (· + ·) (iblk3 m c t p q) ?_
  congr 1
  · exact funext fun k => iblk1 m c t p k
  · exact funext fun k => iblk0 m c t p k
  · exact funext fun k => iblk2 m c t k

/-- Where block `t` of a row-blocked result lies in its array. -/
theorem emb_rows (t : Fin cfg0.N) (p : Fin 256) (q : Fin 2048) :
    ((cfg0.win 4).blk t).view.emb (ix2 p q) = (ix2 (row t.val p) q : S8192x2048.Idx) := by
  funext a
  apply Fin.ext
  match a with
  | ⟨0, _⟩ => show win0_4.index t 0 * 256 + 1 * p.val = (row t.val p).val; rw [(index4 t).1, row_val]; omega
  | ⟨1, _⟩ => show win0_4.index t 1 * 2048 + 1 * q.val = q.val; rw [(index4 t).2]; omega

/-- Every row lies in the block of the point its number over 256 names. -/
theorem cover_rows (i : S8192x2048.Idx) : ∃ t : Fin cfg0.N, i ∈ ((View.whole main_v1_0).slice (win0_4.rect t)).set := by
  have h0 : (i 0 : Nat) < 8192 := (i 0).isLt
  have h1 : (i 1 : Nat) < 2048 := (i 1).isLt
  refine ⟨⟨(i 0 : Nat) / 256, by show _ < 32; omega⟩, ?_⟩
  rw [View.set_slice_whole, Rect.mem_set_unit]
  intro a
  match a with
  | ⟨0, _⟩ =>
    show win0_4.index _ 0 * 256 ≤ (i 0 : Nat) ∧ (i 0 : Nat) < win0_4.index _ 0 * 256 + 256
    rw [(index4 _).1]; dsimp only; omega
  | ⟨1, _⟩ =>
    show win0_4.index _ 1 * 2048 ≤ (i 1 : Nat) ∧ (i 1 : Nat) < win0_4.index _ 1 * 2048 + 2048
    rw [(index4 _).2]; omega

theorem final_dx : (dats m 0 c).arrAt 4 cfg0.N = dxOf (A0 m c) (A1 m c) (A3 m c) (A2 m c) :=
  (dats m 0 c).arrAt_eq_of_cover 4 _ (fun t _ => by
      rw [Value.flushed4, outs_dx]
      funext j
      rw [eq_ix2 j, View.read_apply]
      refine (block_dx m c t _ _).trans (congrArg _ ?_)
      exact (emb_rows t _ _).symm)
    fun i => let ⟨t, h⟩ := cover_rows i; ⟨t, flush0_4 t, h⟩

theorem final_dxb : (dats m 0 c).arrAt 6 cfg0.N = (dxOf (A0 m c) (A1 m c) (A3 m c) (A2 m c) : Vec Ideal S8192x2048 .f32) :=
  (dats m 0 c).arrAt_eq_of_cover 6 _ (fun t _ => by
      rw [Value.flushed6, outs_dxb]
      funext j
      rw [eq_ix2 j, View.read_apply]
      refine (block_dx m c t _ _).trans (congrArg _ ?_)
      exact (emb_rows t _ _).symm)
    fun i => let ⟨t, h⟩ := cover_rows i; ⟨t, flush0_6 t, h⟩

/-- The gains' gradient after point `n`: the sum of the column sums of the blocks up to it. -/
theorem outs_dg (q : Fin 2048) : ∀ (n : ℕ) (h : n < cfg0.N), (outsAt0 m c n h).2.1 (ix2 0 q)
    = ∑ s ∈ Finset.range (n + 1), ∑ p : Fin 256,
        A0 m c (ix2 (row s p) q) * (A1 m c (ix2 (row s p) q) * scale fun k => A1 m c (ix2 (row s p) k))
  | n, h => by
    have hp : k0_pay6 (F := Ideal) (iblk m c 1 ⟨n, h⟩) (iblk m c 0 ⟨n, h⟩) (ix2 0 q) = ∑ p : Fin 256,
        A0 m c (ix2 (row n p) q) * (A1 m c (ix2 (row n p) q) * scale fun k => A1 m c (ix2 (row n p) k)) := by
      rw [pay6]
      refine Finset.sum_congr rfl fun p _ => congrArg₂ (· * ·) (iblk0 m c ⟨n, h⟩ p q) ?_
      refine congrArg₂ (· * ·) (iblk1 m c ⟨n, h⟩ p q) (congrArg scale ?_)
      exact funext fun k => iblk1 m c ⟨n, h⟩ p k
    match n, h, hp with
    | 0, h, hp =>
      rw [outs_dg_zero m c ⟨0, h⟩ rfl, hp]
      simp
    | n + 1, h, hp =>
      have h32 : n + 1 < 32 := h
      rw [outs_dg_succ m c ⟨n + 1, h⟩ (by dsimp only; omega), pay1, hp, Finset.sum_range_succ _ (n + 1)]
      exact congrArg (· + _) (outs_dg q n (Nat.lt_of_succ_lt h))

theorem index5 : ∀ t : Fin cfg0.N, win0_5.index t 0 = 0 ∧ win0_5.index t 1 = 0 :=
  (by decide +kernel : ∀ t : Fin grid0.N, _)

theorem cover_row (t : Fin cfg0.N) (i : S1x2048.Idx) : i ∈ ((View.whole main_v1_1).slice (win0_5.rect t)).set := by
  have h0 : (i 0 : Nat) < 1 := (i 0).isLt
  have h1 : (i 1 : Nat) < 2048 := (i 1).isLt
  rw [View.set_slice_whole, Rect.mem_set_unit]
  intro a
  match a with
  | ⟨0, _⟩ =>
    show win0_5.index t 0 * 1 ≤ (i 0 : Nat) ∧ (i 0 : Nat) < win0_5.index t 0 * 1 + 1
    rw [(index5 t).1]; omega
  | ⟨1, _⟩ =>
    show win0_5.index t 1 * 2048 ≤ (i 1 : Nat) ∧ (i 1 : Nat) < win0_5.index t 1 * 2048 + 2048
    rw [(index5 t).2]; omega

theorem emb_row (t : Fin cfg0.N) (q : Fin 2048) : ((cfg0.win 5).blk t).view.emb (ix2 0 q) = (ix2 0 q : S1x2048.Idx) := by
  funext a
  apply Fin.ext
  match a with
  | ⟨0, _⟩ => show win0_5.index t 0 * 1 + 1 * 0 = 0; rw [(index5 t).1]
  | ⟨1, _⟩ => show win0_5.index t 1 * 2048 + 1 * q.val = q.val; rw [(index5 t).2]; omega

theorem outs_dg_last (t : Fin cfg0.N) (ht : t.val = 31) (q : Fin 2048) :
    (outsAt0 m c t.val t.isLt).2.1 (ix2 0 q) = dgOf (A0 m c) (A1 m c) (ix2 0 q) := by
  refine (outs_dg m c q t.val t.isLt).trans ?_
  rw [ht, Reals.sum_blocks 32 256 (k := 8192) rfl fun n => A0 m c (ix2 (Reals.rowOf 8192 n) q)
    * (A1 m c (ix2 (Reals.rowOf 8192 n) q) * scale fun k => A1 m c (ix2 (Reals.rowOf 8192 n) k))]
  simp only [Reals.rowOf_val]
  rfl

theorem final_dg : (dats m 0 c).arrAt 5 cfg0.N = dgOf (A0 m c) (A1 m c) :=
  (dats m 0 c).arrAt_eq_of_cover 5 _ (fun t hf => by
      have ht : t.val = 31 := by have := (flush0_5 t).mp hf; have : t.val < 32 := t.isLt; omega
      rw [Value.flushed5]
      funext j
      obtain ⟨q, rfl⟩ : ∃ q : Fin 2048, j = (ix2 0 q : S1x2048.Idx) :=
        ⟨j 1, by rw [eq_ix2 j]; congr 1; exact Subsingleton.elim _ _⟩
      rw [View.read_apply]
      have h := outs_dg_last m c t ht q
      generalize dgOf (A0 m c) (A1 m c) = G at h ⊢
      exact h.trans (congrArg G (emb_row t q).symm))
    fun i => ⟨⟨31, show 31 < 32 by omega⟩, (flush0_5 _).mpr rfl, cover_row _ i⟩

end Final

end Cert.Rms
end
-- ==== Proof.RmsRef.lean ====
/- The norm's derivative, read operation by operation: on finite arguments the reference's results are the arrays the
   kernel leaves. -/
module

public import proofs.«01_k».proof.Defs
public import proofs.«01_k».proof.Proof.RmsKernel
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rms_finite

@[expose] public section

noncomputable section

namespace Cert.Rms

open Idealize.ShloMosaic Idealize.ShloMosaic.TcCoe Idealize.SL.Sem Cert.ReferenceIdeal Cert.ReferenceIdeal.Read Cert.Norm Cert.Reals
open scoped BigOperators

section Ref
variable (a3 : Vec Ideal S8192x2048 .f32) (X D : S8192x2048.Idx → ℝ) (G : S2048.Idx → ℝ) (r : Fin 8192) (q : Fin 2048)

/-- Real arrays as arrays of the program. -/
abbrev up2 (X : S8192x2048.Idx → ℝ) : Vec Ideal S8192x2048 .f32 := fun i => (X i : EReal)
abbrev up1 (G : S2048.Idx → ℝ) : Vec Ideal S2048 .f32 := fun i => (G i : EReal)

theorem ref_arg : val_main_v6 (F := Ideal) (up2 X) (ix2 r 0) = (meanSq fun k => X (ix2 r k) : ℝ) := by
  pointwise [val_main_v6, val_main_v5, val_main_v4, val_main_v3, val_main_v2, val_main_v1, val_main_v0, val_main_cst,
    val_main_cst_0, val_main_cst_1]
  exact scaleArg_coe fun k => X (ix2 r k)

theorem ref_fac : val_main_v7 (F := Ideal) (up2 X) (ix2 r 0) = (fac fun k => X (ix2 r k) : ℝ) := by
  pointwise [val_main_v7]
  rw [ref_arg, rsqrt_real (meanSq_pos _)]
  rfl

theorem ref_10 : val_main_v10 (F := Ideal) (up2 X) (ix2 r 0)
    = ((-(1 / 2) * ((fac fun k => X (ix2 r k)) / meanSq fun k => X (ix2 r k)) : ℝ) : EReal) := by
  pointwise [val_main_v10, val_main_v9, val_main_cst_2, val_main_v8]
  rw [ref_arg, ref_fac, lit_neg_half, div_real _ (meanSq_pos _).ne', ← EReal.coe_mul]

theorem ref_24 : val_main_v24 (F := Ideal) (up2 D) (up2 X) (up1 G) (ix2 r 0)
    = ((∑ k, X (ix2 r k) * (D (ix2 r k) * G (ix1 k)) : ℝ) : EReal) := by
  pointwise [val_main_v24, val_main_v23, val_main_v22, val_main_v20, val_main_v19, val_main_v13, val_main_cst_5]
  simp only [← EReal.coe_mul, sum_coe]

/-- The rows' gradient. -/
theorem ref_dx : val_main_v36 (F := Ideal) (up2 D) (up2 X) (up1 G) a3 (ix2 r q)
    = dxOf (up2 D) (up2 X) a3 (up1 G) (ix2 r q) := by
  pointwise [val_main_v36, val_main_v35, val_main_v34, val_main_v33, val_main_v32, val_main_v31, val_main_v30, val_main_cst_7,
    val_main_v29, val_main_v28, val_main_cst_6, val_main_v27, val_main_v26, val_main_v25, val_main_v20, val_main_v19, val_main_v13]
  simp only [Fin.sum_univ_one]
  rw [ref_fac, ref_24, ref_10, lit_2048]
  simp only [← EReal.coe_mul]
  rw [div_real _ (by norm_num)]
  simp only [← EReal.coe_mul, ← EReal.coe_add]
  rw [pullR_eq (fun k => X (ix2 r k)) (fun k => D (ix2 r k)) (fun k => G (ix1 k)) q, ← pull_coe]
  rfl

/-- The gains' gradient: a sum over the rows, laid out as a row, summed over its one entry, and laid out again. -/
theorem ref_dg : val_main_v37 (F := Ideal) (up2 D) (up2 X) (ix2 0 q) = dgOf (up2 D) (up2 X) (ix2 0 q) := by
  pointwise [val_main_v37, val_main_v21, val_main_cst_4, val_main_v18, val_main_v17, val_main_cst_3, val_main_v16, val_main_v12,
    val_main_v11]
  rw [dgOf_apply]
  rw [Fin.sum_univ_one]
  refine Finset.sum_congr rfl fun s _ => ?_
  rw [ref_fac, scale_coe]
  exact mul_comm _ _
end Ref

/-- What the precondition says of the arguments: each is an array of real numbers. -/
theorem finite_args {a0 a1 a3 : Vec Ideal S8192x2048 .f32} {a2 : Vec Ideal S2048 .f32}
    (h : Cert.Pre_rms_finite.fn (F := Ideal) a0 a1 a2 a3 = fun _ => 1#1) :
    ∃ D X G, a0 = up2 D ∧ a1 = up2 X ∧ a2 = up1 G := by
  have key : ∀ (r : Fin 8192) (q : Fin 2048), (∃ d : ℝ, a0 (ix2 r q) = d) ∧ (∃ x : ℝ, a1 (ix2 r q) = x) ∧ ∃ g : ℝ, a2 (ix1 q) = g := by
    intro r q
    have := congrFun h (ix2 r q)
    revert this
    pointwise [Cert.Pre_rms_finite.fn]
    intro h
    obtain ⟨h, h2⟩ := and_one h
    obtain ⟨h0, h1⟩ := and_one h
    exact ⟨real_of_cmp h0, real_of_cmp h1, real_of_cmp h2⟩
  refine ⟨fun i => (a0 i).toReal, fun i => (a1 i).toReal, fun i => (a2 i).toReal, ?_, ?_, ?_⟩
  · funext i
    obtain ⟨d, hd⟩ := (key (i 0) (i 1)).1
    rw [← eq_ix2 i] at hd
    simp only [up2, hd, EReal.toReal_coe]
  · funext i
    obtain ⟨d, hd⟩ := (key (i 0) (i 1)).2.1
    rw [← eq_ix2 i] at hd
    simp only [up2, hd, EReal.toReal_coe]
  · funext i
    obtain ⟨d, hd⟩ := (key 0 (i 0)).2.2
    rw [← eq_ix1 i] at hd
    simp only [up1, hd, EReal.toReal_coe]

/-- The two arrays of row gradients, and the two of the gains' gradient. -/
theorem ref_dx_all (X D : S8192x2048.Idx → ℝ) (G : S2048.Idx → ℝ) (a3 : Vec Ideal S8192x2048 .f32) :
    val_main_v36 (F := Ideal) (up2 D) (up2 X) (up1 G) a3 = dxOf (up2 D) (up2 X) a3 (up1 G) := by
  funext i
  rw [eq_ix2 i]
  exact ref_dx a3 X D G (i 0) (i 1)

theorem ref_dg_all (X D : S8192x2048.Idx → ℝ) : val_main_v37 (F := Ideal) (up2 D) (up2 X) = dgOf (up2 D) (up2 X) := by
  funext i
  obtain ⟨q, rfl⟩ : ∃ q : Fin 2048, i = (ix2 0 q : S1x2048.Idx) :=
    ⟨i 1, by rw [eq_ix2 i]; congr 1; exact Subsingleton.elim _ _⟩
  exact ref_dg X D q

/-- The kernel's three results are the derivative's. -/
theorem algebraic : Cert.algebraic_KernelIdeal_ReferenceIdeal_pre_rms_finite := by
  intro m g m' g' hpre hargs
  refine ⟨fun c => dxOf (A0 m c) (A1 m c) (A3 m c) (A2 m c), fun c => dgOf (A0 m c) (A1 m c),
    fun c => (dxOf (A0 m c) (A1 m c) (A3 m c) (A2 m c) : Vec Ideal S8192x2048 .f32), ?_, ?_⟩
  · refine (θ_run Cert.KernelIdeal.defs _ _).mono (fun r h c => ?_) (Cert.KernelIdeal.Value.run_blocks m g)
    obtain ⟨h4, h5, h6, h⟩ := h c
    exact ⟨h4.trans (final_dx m c), h5.trans (final_dg m c), h6.trans (final_dxb m c), h⟩
  · refine (θ_run Cert.ReferenceIdeal.defs _ _).mono (fun r h c => ?_) (Cert.ReferenceIdeal.Value.run m' g')
    obtain ⟨h36, h37, h38, h⟩ := h c
    obtain ⟨e0, e1, e2, e3⟩ := hargs c
    obtain ⟨D, X, G, hD, hX, hG⟩ := finite_args (hpre c)
    have k36 := ref_dx_all X D G (A3 m c)
    have k37 := ref_dg_all X D
    rw [← hD, ← hX, ← hG] at k36
    rw [← hD, ← hX] at k37
    refine ⟨?_, ?_, ?_, h⟩
    · rw [h36, val_main_v36_eq, e0, e1, e2, e3]; exact k36
    · rw [h37, val_main_v37_eq, e0, e1]; exact k37
    · rw [h38, val_main_v38_eq, e0, e1, e2, e3]; exact k36

end Cert.Rms
-- ==== Proof.LossKernel.lean ====
/- The loss's backward kernel, read: over any memory, the row gradients are each row's `pull` of the error's cotangent,
   the gains' gradient the sum over the row blocks of each block's column sum, and the loss the sum over the row blocks
   of each block's squared error, each scaled. -/
module

public import proofs.«01_k».proof.Proof.Norm
public import proofs.«01_k».proof.Proof.Gen.Kernel2Ideal.Value

@[expose] public section

noncomputable section

namespace Cert.Loss

open Idealize.ShloMosaic Idealize.ShloMosaic.TcCoe Idealize.SL.Sem Cert.Kernel2Ideal Cert.Kernel2Ideal.Gen Cert.Norm
open scoped BigOperators

theorem hz : (![0, 0] : Fin 2 → Nat) = fun _ => 0 := funext fun a => by fin_cases a <;> rfl

/-- A row's error at a column: the normed row times the gains, minus the target. -/
def errOf (x g t : Fin 2048 → EReal) (q : Fin 2048) : EReal := x q * scale x * g q - t q

/-- The cotangent of the normed row: the error over the number of columns. -/
def cotOf (x g t : Fin 2048 → EReal) (q : Fin 2048) : EReal := errOf x g t q * Ideal.ofBits .f32 0x3A000000#32

/-! ## The body's values at an element -/

section Pay
variable (v0 v15 : Vec Ideal S256x2048 .f32) (v11 : Vec Ideal S1x2048 .f32) (p : Fin 256) (q : Fin 2048)

theorem pay7 : k0_pay7 (F := Ideal) v0 v11 v15 (ix2 p q)
    = errOf (fun k => v0 (ix2 p k)) (fun k => v11 (ix2 0 k)) (fun k => v15 (ix2 p k)) q := by
  pointwise [k0_pay7, k0_pay6, k0_pay5, k0_pay4]
  rfl

theorem pay8 : k0_pay8 (F := Ideal) v0 v11 v15 (ix2 p q)
    = cotOf (fun k => v0 (ix2 p k)) (fun k => v11 (ix2 0 k)) (fun k => v15 (ix2 p k)) q := by
  pointwise [k0_pay8]
  rw [pay7]
  rfl

theorem pay9 : k0_pay9 (F := Ideal) v0 v11 v15 (ix2 p q)
    = pull (fun k => v0 (ix2 p k)) (cotOf (fun k => v0 (ix2 p k)) (fun k => v11 (ix2 0 k)) (fun k => v15 (ix2 p k)))
        (fun k => v11 (ix2 0 k)) q := by
  pointwise [k0_pay9, k0_pay6, k0_pay5, k0_pay4]
  simp only [pay8]
  rfl

theorem pay11 : k0_pay11 (F := Ideal) v0 v11 v15 (ix2 0 q) = ∑ p : Fin 256,
    cotOf (fun k => v0 (ix2 p k)) (fun k => v11 (ix2 0 k)) (fun k => v15 (ix2 p k)) q * (v0 (ix2 p q) * scale fun k => v0 (ix2 p k)) := by
  pointwise [k0_pay11, k0_pay5, k0_pay4]
  simp only [pay8]
  rfl

theorem pay2 (v36 v50 : Vec Ideal S1x2048 .f32) : k0_pay2 (F := Ideal) v36 v50 (ix2 0 q) = v50 (ix2 0 q) + v36 (ix2 0 q) := by
  pointwise [k0_pay2]

/-- A block's part of the loss. -/
theorem pay1 : k0_pay1 (F := Ideal) (k0_pay12 v0 v11 v15) (ix2 0 0) = (∑ q : Fin 2048, ∑ p : Fin 256,
    errOf (fun k => v0 (ix2 p k)) (fun k => v11 (ix2 0 k)) (fun k => v15 (ix2 p k)) q
      * errOf (fun k => v0 (ix2 p k)) (fun k => v11 (ix2 0 k)) (fun k => v15 (ix2 p k)) q) * Ideal.ofBits .f32 0x39800000#32 := by
  pointwise [k0_pay1, k0_pay12]
  simp only [pay7]

theorem pay3 (v38 : Vec Ideal S2048 .f32) (v54 : Vec Ideal S1x1 .f32) :
    k0_pay3 (F := Ideal) v38 v54 (ix2 0 0) = v54 (ix2 0 0) + k0_pay1 (F := Ideal) v38 (ix2 0 0) := by
  pointwise [k0_pay3]
end Pay

variable {F : FTy → Type} [FloatOps F]

/-! ## What a point leaves in the outputs' buffers -/

section Out
variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S1x2048 .f32) (h5 : a5.IsWhole) (a6 : Memref sig .tc .vmem S1x1 .f32) (h6 : a6.IsWhole)
  (a7 : Memref sig .tc .vmem S256x2048 .bf16) (h7 : a7.IsWhole)
  (x0 x2 : Vec F S256x2048 .f32) (x1 xo4 : Vec F S1x2048 .f32) (xo5 : Vec F S1x1 .f32)

theorem out_A_3 (hc0 : cond0_0 i) (hc1 : ¬cond0_1 i) :
    out0_A_3 c i a1 h1 a2 h2 a3 h3 a4 h4 a5 h5 a6 h6 a7 h7 hc0 hc1 x0 x1 x2 = k0_pay9 x0 x1 x2 := by
  unfold out0_A_3
  refine (View.read_writes_eq_canon _ _ _ fun y => cover0_A_3 ..).trans ?_
  unfold kernelRun0_A
  dsimp only
  rw [View.canon_unit_zero hz]
  simp only [View.readAt_eq_ld, h1.read_unread, h2.read_unread, h3.read_unread,
    View.ld_unit_zero (S := S256x2048) hz, View.ld_unit_zero (S := S1x2048) hz, shapeCast_self]

theorem out_A_4 (hc0 : cond0_0 i) (hc1 : ¬cond0_1 i) :
    out0_A_4 c i a1 h1 a2 h2 a3 h3 a4 h4 a5 h5 a6 h6 a7 h7 hc0 hc1 x0 x1 x2 = k0_pay11 x0 x1 x2 := by
  unfold out0_A_4
  refine (View.read_writes_eq_canon _ _ _ fun y => cover0_A_4 ..).trans ?_
  unfold kernelRun0_A
  dsimp only
  sl_unfold_words
  rw [View.canon_unit_zero hz]
  simp only [View.readAt_eq_ld, h1.read_unread, h2.read_unread, h3.read_unread,
    View.ld_unit_zero (S := S256x2048) hz, View.ld_unit_zero (S := S1x2048) hz, shapeCast_self]

theorem out_A_5 (hc0 : cond0_0 i) (hc1 : ¬cond0_1 i) :
    out0_A_5 c i a1 h1 a2 h2 a3 h3 a4 h4 a5 h5 a6 h6 a7 h7 hc0 hc1 x0 x1 x2 = k0_pay1 (k0_pay12 x0 x1 x2) := by
  unfold out0_A_5
  refine (View.read_writes_eq_canon _ _ _ fun y => cover0_A_5 ..).trans ?_
  unfold kernelRun0_A
  dsimp only
  sl_unfold_words
  rw [View.canon_unit_zero hz]
  simp only [View.readAt_eq_ld, h1.read_unread, h2.read_unread, h3.read_unread,
    View.ld_unit_zero (S := S256x2048) hz, View.ld_unit_zero (S := S1x2048) hz, shapeCast_self]

theorem out_A_6 (hc0 : cond0_0 i) (hc1 : ¬cond0_1 i) :
    out0_A_6 c i a1 h1 a2 h2 a3 h3 a4 h4 a5 h5 a6 h6 a7 h7 hc0 hc1 x0 x1 x2 = k0_pay10 x0 x1 x2 := by
  unfold out0_A_6
  refine (View.read_writes_eq_canon _ _ _ fun y => cover0_A_6 ..).trans ?_
  unfold kernelRun0_A
  dsimp only
  rw [View.canon_unit_zero hz]
  simp only [View.readAt_eq_ld, h1.read_unread, h2.read_unread, h3.read_unread,
    View.ld_unit_zero (S := S256x2048) hz, View.ld_unit_zero (S := S1x2048) hz, shapeCast_self]

theorem out_B_3 (hc0 : ¬cond0_0 i) (hc1 : cond0_1 i) :
    out0_B_3 c i a1 h1 a2 h2 a3 h3 a4 h4 a5 h5 a6 h6 a7 h7 hc0 hc1 x0 x1 x2 xo4 xo5 = k0_pay9 x0 x1 x2 := by
  unfold out0_B_3
  refine (View.read_writes_eq_canon _ _ _ fun y => cover0_B_3 ..).trans ?_
  unfold kernelRun0_B
  dsimp only
  rw [View.canon_unit_zero hz]
  simp only [View.readAt_eq_ld, h1.read_unread, h2.read_unread, h3.read_unread,
    View.ld_unit_zero (S := S256x2048) hz, View.ld_unit_zero (S := S1x2048) hz, shapeCast_self]

theorem out_B_4 (hc0 : ¬cond0_0 i) (hc1 : cond0_1 i) :
    out0_B_4 c i a1 h1 a2 h2 a3 h3 a4 h4 a5 h5 a6 h6 a7 h7 hc0 hc1 x0 x1 x2 xo4 xo5 = k0_pay2 (k0_pay11 x0 x1 x2) xo4 := by
  unfold out0_B_4
  refine (View.read_writes_eq_canon _ _ _ fun y => cover0_B_4 ..).trans ?_
  unfold kernelRun0_B
  dsimp only
  sl_unfold_words
  rw [View.canon_unit_zero hz]
  simp only [View.readAt_eq_ld, h1.read_unread, h2.read_unread, h3.read_unread, h5.read_unread,
    View.ld_unit_zero (S := S256x2048) hz, View.ld_unit_zero (S := S1x2048) hz, shapeCast_self]

theorem out_B_5 (hc0 : ¬cond0_0 i) (hc1 : cond0_1 i) :
    out0_B_5 c i a1 h1 a2 h2 a3 h3 a4 h4 a5 h5 a6 h6 a7 h7 hc0 hc1 x0 x1 x2 xo4 xo5 = k0_pay3 (k0_pay12 x0 x1 x2) xo5 := by
  unfold out0_B_5
  refine (View.read_writes_eq_canon _ _ _ fun y => cover0_B_5 ..).trans ?_
  unfold kernelRun0_B
  dsimp only
  sl_unfold_words
  rw [View.canon_unit_zero hz]
  simp only [View.readAt_eq_ld, h1.read_unread, h2.read_unread, h3.read_unread, h6.read_unread,
    View.ld_unit_zero (S := S256x2048) hz, View.ld_unit_zero (S := S1x2048) hz, View.ld_unit_zero (S := S1x1) hz, shapeCast_self]

theorem out_B_6 (hc0 : ¬cond0_0 i) (hc1 : cond0_1 i) :
    out0_B_6 c i a1 h1 a2 h2 a3 h3 a4 h4 a5 h5 a6 h6 a7 h7 hc0 hc1 x0 x1 x2 xo4 xo5 = k0_pay10 x0 x1 x2 := by
  unfold out0_B_6
  refine (View.read_writes_eq_canon _ _ _ fun y => cover0_B_6 ..).trans ?_
  unfold kernelRun0_B
  dsimp only
  rw [View.canon_unit_zero hz]
  simp only [View.readAt_eq_ld, h1.read_unread, h2.read_unread, h3.read_unread,
    View.ld_unit_zero (S := S256x2048) hz, View.ld_unit_zero (S := S1x2048) hz, shapeCast_self]

end Out

section Points
variable (m : (ℓ : Loc nD τ sig) → Buf (Elt F) ℓ) (c : Dev nD)

theorem not_case (t : Fin cfg0.N) (h : ¬t.val % 32 = 0) : 1 ≤ t.val := by omega

theorem zero_case (t : Fin cfg0.N) (h : t.val % 32 = 0) : ¬1 ≤ t.val := by
  have : t.val < 32 := t.isLt
  omega

/-- The rows' gradient after point `t`, and its rounded copy: the body's value of the point's blocks. -/
theorem outs_dx (t : Fin cfg0.N) : (outsAt0 m c t.val t.isLt).1 = k0_pay9 (iblk m c 0 t) (iblk m c 1 t) (iblk m c 2 t) := by
  by_cases h : t.val % 32 = 0
  · simp only [outsAt0_A m c t h (zero_case t h)]; exact out_A_3 ..
  · simp only [outsAt0_B m c t h (not_case t h)]; exact out_B_3 ..

theorem outs_dxb (t : Fin cfg0.N) : (outsAt0 m c t.val t.isLt).2.2.2 = k0_pay10 (iblk m c 0 t) (iblk m c 1 t) (iblk m c 2 t) := by
  by_cases h : t.val % 32 = 0
  · simp only [outsAt0_A m c t h (zero_case t h)]; exact out_A_6 ..
  · simp only [outsAt0_B m c t h (not_case t h)]; exact out_B_6 ..

/-- The gains' gradient and the loss after the first point, and after a later point over what the point before left. -/
theorem outs_dg_zero (t : Fin cfg0.N) (h : t.val % 32 = 0) :
    (outsAt0 m c t.val t.isLt).2.1 = k0_pay11 (iblk m c 0 t) (iblk m c 1 t) (iblk m c 2 t) := by
  simp only [outsAt0_A m c t h (zero_case t h)]; exact out_A_4 ..

theorem outs_dg_succ (t : Fin cfg0.N) (h : ¬t.val % 32 = 0) :
    (outsAt0 m c t.val t.isLt).2.1 = k0_pay2 (k0_pay11 (iblk m c 0 t) (iblk m c 1 t) (iblk m c 2 t))
      (outsAt0 m c (t.val - 1) (Nat.lt_of_le_of_lt (Nat.sub_le _ _) t.isLt)).2.1 := by
  simp only [outsAt0_B m c t h (not_case t h)]; exact out_B_4 ..

theorem outs_loss_zero (t : Fin cfg0.N) (h : t.val % 32 = 0) :
    (outsAt0 m c t.val t.isLt).2.2.1 = k0_pay1 (k0_pay12 (iblk m c 0 t) (iblk m c 1 t) (iblk m c 2 t)) := by
  simp only [outsAt0_A m c t h (zero_case t h)]; exact out_A_5 ..

theorem outs_loss_succ (t : Fin cfg0.N) (h : ¬t.val % 32 = 0) :
    (outsAt0 m c t.val t.isLt).2.2.1 = k0_pay3 (k0_pay12 (iblk m c 0 t) (iblk m c 1 t) (iblk m c 2 t))
      (outsAt0 m c (t.val - 1) (Nat.lt_of_le_of_lt (Nat.sub_le _ _) t.isLt)).2.2.1 := by
  simp only [outsAt0_B m c t h (not_case t h)]; exact out_B_5 ..

/-! ## The blocks, as rows of the arrays -/

/-- The row of the array that row `p` of the block of point `t` is. -/
abbrev row (t : ℕ) (p : Fin 256) : Fin 8192 := Reals.rowOf 8192 (t * 256 + p.val)

theorem row_val (t : Fin cfg0.N) (p : Fin 256) : (row t.val p).val = t.val * 256 + p.val :=
  Reals.rowOf_lt (by have : t.val < 32 := t.isLt; omega)

/-- The row-blocked windows' block of point `t` starts at row `256 t`, the others' stay at the corner. -/
theorem index_row : ∀ t : Fin cfg0.N, win0_0.index t 0 = t.val ∧ win0_0.index t 1 = 0 :=
  (by decide +kernel : ∀ t : Fin grid0.N, _)
theorem index_fix : ∀ t : Fin cfg0.N, win0_1.index t 0 = 0 ∧ win0_1.index t 1 = 0 :=
  (by decide +kernel : ∀ t : Fin grid0.N, _)

/-- Where an element of a row block, and of the one row, lies in its array. -/
theorem emb_rows (t : Fin cfg0.N) (p : Fin 256) (q : Fin 2048) :
    ((cfg0.win 0).blk t).view.emb (ix2 p q) = (ix2 (row t.val p) q : S8192x2048.Idx) := by
  funext a
  apply Fin.ext
  match a with
  | ⟨0, _⟩ => show win0_0.index t 0 * 256 + 1 * p.val = (row t.val p).val; rw [(index_row t).1, row_val]; omega
  | ⟨1, _⟩ => show win0_0.index t 1 * 2048 + 1 * q.val = q.val; rw [(index_row t).2]; omega

theorem emb_row (t : Fin cfg0.N) (q : Fin 2048) : ((cfg0.win 1).blk t).view.emb (ix2 0 q) = (ix2 0 q : S1x2048.Idx) := by
  funext a
  apply Fin.ext
  match a with
  | ⟨0, _⟩ => show win0_1.index t 0 * 1 + 1 * 0 = 0; rw [(index_fix t).1]
  | ⟨1, _⟩ => show win0_1.index t 1 * 2048 + 1 * q.val = q.val; rw [(index_fix t).2]; omega

theorem iblk0 (t : Fin cfg0.N) (p : Fin 256) (q : Fin 2048) :
    (iblk m c 0 t : Vec F S256x2048 .f32) (ix2 p q) = m ((c : Thread nD τ).loc main_arg0) (ix2 (row t.val p) q) := by
  refine Eq.trans ?_ (congrFun (V_main_arg0 m c) _)
  unfold iblk
  rw [View.read_apply]
  exact congrArg (V m c main_arg0) (emb_rows t p q)

theorem iblk2 (t : Fin cfg0.N) (p : Fin 256) (q : Fin 2048) :
    (iblk m c 2 t : Vec F S256x2048 .f32) (ix2 p q) = m ((c : Thread nD τ).loc main_arg2) (ix2 (row t.val p) q) := by
  refine Eq.trans ?_ (congrFun (V_main_arg2 m c) _)
  unfold iblk
  rw [View.read_apply]
  exact congrArg (V m c main_arg2) (emb_rows t p q)

theorem as_row (g : Vec F S2048 .f32) (h : S2048.ShapeCasts S1x2048) (q : Fin 2048) :
    shapeCast S1x2048 g h (ix2 0 q) = g (ix1 q) := by
  pointwise []

/-- The gains the region reads are the argument's, laid out as one row by the host. -/
theorem V_gains (q : Fin 2048) : V m c main_v0 (ix2 0 q) = m ((c : Thread nD τ).loc main_arg1) (ix1 q) := by
  refine Eq.trans (congrFun ?_ _) (as_row (m ((c : Thread nD τ).loc main_arg1)) (by decide) q)
  dsimp only [V, hostOps0]
  after_results_simp <;> rfl

theorem iblk1 (t : Fin cfg0.N) (q : Fin 2048) :
    (iblk m c 1 t : Vec F S1x2048 .f32) (ix2 0 q) = m ((c : Thread nD τ).loc main_arg1) (ix1 q) := by
  refine Eq.trans ?_ (V_gains m c q)
  unfold iblk
  rw [View.read_apply]
  exact congrArg (V m c main_v0) (emb_row t q)
end Points

/-! ## The result arrays -/

section Of
variable (a0 a2 : Vec Ideal S8192x2048 .f32) (a1 : Vec Ideal S2048 .f32)

/-- The error and its cotangent at a row and a column of whole arrays. -/
def err (r : Fin 8192) (q : Fin 2048) : EReal := errOf (fun k => a0 (ix2 r k)) (fun k => a1 (ix1 k)) (fun k => a2 (ix2 r k)) q
def cot (r : Fin 8192) (q : Fin 2048) : EReal := cotOf (fun k => a0 (ix2 r k)) (fun k => a1 (ix1 k)) (fun k => a2 (ix2 r k)) q

/-- The rows' gradients, the gains' gradient and the loss of whole arrays: rows, gains, target. -/
def dxOf : Vec Ideal S8192x2048 .f32 := fun i => pull (fun k => a0 (ix2 (i 0) k)) (cot a0 a2 a1 (i 0)) (fun k => a1 (ix1 k)) (i 1)

def dgOf : Vec Ideal S1x2048 .f32 := fun i =>
  ∑ r : Fin 8192, cot a0 a2 a1 r (i 1) * (a0 (ix2 r (i 1)) * scale fun k => a0 (ix2 r k))

def lossOf : Vec Ideal S1x1 .f32 := fun _ => ∑ s ∈ Finset.range 32,
  (∑ q : Fin 2048, ∑ p : Fin 256, err a0 a2 a1 (row s p) q * err a0 a2 a1 (row s p) q) * Ideal.ofBits .f32 0x39800000#32

theorem dgOf_apply (q : Fin 2048) :
    dgOf a0 a2 a1 (ix2 0 q) = ∑ r : Fin 8192, cot a0 a2 a1 r q * (a0 (ix2 r q) * scale fun k => a0 (ix2 r k)) := rfl
end Of

section Final
variable (m : (ℓ : Loc nD τ sig) → Buf (Elt Ideal) ℓ) (c : Dev nD)

abbrev A0 : Vec Ideal S8192x2048 .f32 := m ((c : Thread nD τ).loc main_arg0)
abbrev A1 : Vec Ideal S2048 .f32 := m ((c : Thread nD τ).loc main_arg1)
abbrev A2 : Vec Ideal S8192x2048 .f32 := m ((c : Thread nD τ).loc main_arg2)

/-- The blocks of point `t`, row by row. -/
theorem rows0 (t : Fin cfg0.N) (p : Fin 256) :
    (fun k : Fin 2048 => (iblk m c 0 t : Vec Ideal S256x2048 .f32) (ix2 p k)) = fun k => A0 m c (ix2 (row t.val p) k) :=
  funext fun k => iblk0 m c t p k
theorem rows1 (t : Fin cfg0.N) :
    (fun k : Fin 2048 => (iblk m c 1 t : Vec Ideal S1x2048 .f32) (ix2 0 k)) = fun k => A1 m c (ix1 k) :=
  funext fun k => iblk1 m c t k
theorem rows2 (t : Fin cfg0.N) (p : Fin 256) :
    (fun k : Fin 2048 => (iblk m c 2 t : Vec Ideal S256x2048 .f32) (ix2 p k)) = fun k => A2 m c (ix2 (row t.val p) k) :=
  funext fun k => iblk2 m c t p k

theorem block_dx (t : Fin cfg0.N) (p : Fin 256) (q : Fin 2048) :
    k0_pay9 (F := Ideal) (iblk m c 0 t) (iblk m c 1 t) (iblk m c 2 t) (ix2 p q)
      = dxOf (A0 m c) (A2 m c) (A1 m c) (ix2 (row t.val p) q) := by
  rw [pay9, rows0, rows1, rows2]
  rfl

theorem block_dg (t : Fin cfg0.N) (q : Fin 2048) :
    k0_pay11 (F := Ideal) (iblk m c 0 t) (iblk m c 1 t) (iblk m c 2 t) (ix2 0 q)
      = ∑ p : Fin 256, cot (A0 m c) (A2 m c) (A1 m c) (row t.val p) q
          * (A0 m c (ix2 (row t.val p) q) * scale fun k => A0 m c (ix2 (row t.val p) k)) := by
  rw [pay11]
  refine Finset.sum_congr rfl fun p _ => ?_
  rw [rows0, rows1, rows2]
  exact congrArg₂ (· * ·) rfl (congrArg₂ (· * ·) (iblk0 m c t p q) rfl)

theorem block_loss (t : Fin cfg0.N) :
    k0_pay1 (F := Ideal) (k0_pay12 (iblk m c 0 t) (iblk m c 1 t) (iblk m c 2 t)) (ix2 0 0)
      = (∑ q : Fin 2048, ∑ p : Fin 256, err (A0 m c) (A2 m c) (A1 m c) (row t.val p) q * err (A0 m c) (A2 m c) (A1 m c) (row t.val p) q)
          * Ideal.ofBits .f32 0x39800000#32 := by
  rw [pay1]
  refine congrArg (· * _) (Finset.sum_congr rfl fun q _ => Finset.sum_congr rfl fun p _ => ?_)
  rw [rows0, rows1, rows2]
  rfl

/-- The running sums after point `n`. -/
theorem outs_dg (q : Fin 2048) : ∀ (n : ℕ) (h : n < cfg0.N), (outsAt0 m c n h).2.1 (ix2 0 q)
    = ∑ s ∈ Finset.range (n + 1), ∑ p : Fin 256, cot (A0 m c) (A2 m c) (A1 m c) (row s p) q
          * (A0 m c (ix2 (row s p) q) * scale fun k => A0 m c (ix2 (row s p) k))
  | 0, h => by
    rw [outs_dg_zero m c ⟨0, h⟩ rfl, block_dg]
    simp
  | n + 1, h => by
    have h32 : n + 1 < 32 := h
    rw [outs_dg_succ m c ⟨n + 1, h⟩ (by dsimp only; omega), pay2, block_dg, Finset.sum_range_succ _ (n + 1)]
    exact congrArg (· + _) (outs_dg q n (Nat.lt_of_succ_lt h))

theorem outs_loss : ∀ (n : ℕ) (h : n < cfg0.N), (outsAt0 m c n h).2.2.1 (ix2 0 0)
    = ∑ s ∈ Finset.range (n + 1), (∑ q : Fin 2048, ∑ p : Fin 256,
        err (A0 m c) (A2 m c) (A1 m c) (row s p) q * err (A0 m c) (A2 m c) (A1 m c) (row s p) q) * Ideal.ofBits .f32 0x39800000#32
  | 0, h => by
    rw [outs_loss_zero m c ⟨0, h⟩ rfl, block_loss]
    simp
  | n + 1, h => by
    have h32 : n + 1 < 32 := h
    rw [outs_loss_succ m c ⟨n + 1, h⟩ (by dsimp only; omega), pay3, block_loss, Finset.sum_range_succ _ (n + 1)]
    exact congrArg (· + _) (outs_loss n (Nat.lt_of_succ_lt h))

/-- Every row lies in the block of the point its number over 256 names. -/
theorem cover_rows (i : S8192x2048.Idx) : ∃ t : Fin cfg0.N, i ∈ ((View.whole main_arg0).slice (win0_0.rect t)).set := by
  have h0 : (i 0 : Nat) < 8192 := (i 0).isLt
  have h1 : (i 1 : Nat) < 2048 := (i 1).isLt
  refine ⟨⟨(i 0 : Nat) / 256, by show _ < 32; omega⟩, ?_⟩
  rw [View.set_slice_whole, Rect.mem_set_unit]
  intro a
  match a with
  | ⟨0, _⟩ =>
    show win0_0.index _ 0 * 256 ≤ (i 0 : Nat) ∧ (i 0 : Nat) < win0_0.index _ 0 * 256 + 256
    rw [(index_row _).1]; dsimp only; omega
  | ⟨1, _⟩ =>
    show win0_0.index _ 1 * 2048 ≤ (i 1 : Nat) ∧ (i 1 : Nat) < win0_0.index _ 1 * 2048 + 2048
    rw [(index_row _).2]; omega

theorem cover_row (t : Fin cfg0.N) (i : S1x2048.Idx) : i ∈ ((View.whole main_v0).slice (win0_1.rect t)).set := by
  have h0 : (i 0 : Nat) < 1 := (i 0).isLt
  have h1 : (i 1 : Nat) < 2048 := (i 1).isLt
  rw [View.set_slice_whole, Rect.mem_set_unit]
  intro a
  match a with
  | ⟨0, _⟩ =>
    show win0_1.index t 0 * 1 ≤ (i 0 : Nat) ∧ (i 0 : Nat) < win0_1.index t 0 * 1 + 1
    rw [(index_fix t).1]; omega
  | ⟨1, _⟩ =>
    show win0_1.index t 1 * 2048 ≤ (i 1 : Nat) ∧ (i 1 : Nat) < win0_1.index t 1 * 2048 + 2048
    rw [(index_fix t).2]; omega

theorem final_dx : (dats m 0 c).arrAt 3 cfg0.N = dxOf (A0 m c) (A2 m c) (A1 m c) :=
  (dats m 0 c).arrAt_eq_of_cover 3 _ (fun t _ => by
      rw [Value.flushed3, outs_dx]
      funext j
      rw [eq_ix2 j, View.read_apply]
      refine (block_dx m c t _ _).trans (congrArg _ ?_)
      exact (emb_rows t _ _).symm)
    fun i => let ⟨t, h⟩ := cover_rows i; ⟨t, flush0_3 t, h⟩

theorem final_dxb : (dats m 0 c).arrAt 6 cfg0.N = (dxOf (A0 m c) (A2 m c) (A1 m c) : Vec Ideal S8192x2048 .f32) :=
  (dats m 0 c).arrAt_eq_of_cover 6 _ (fun t _ => by
      rw [Value.flushed6, outs_dxb]
      funext j
      rw [eq_ix2 j, View.read_apply]
      refine (block_dx m c t _ _).trans (congrArg _ ?_)
      exact (emb_rows t _ _).symm)
    fun i => let ⟨t, h⟩ := cover_rows i; ⟨t, flush0_6 t, h⟩

theorem last_point {t : Fin cfg0.N} (h : t.val % 32 = 31) : t.val = 31 := by
  have : t.val < 32 := t.isLt
  omega

theorem outs_dg_last (t : Fin cfg0.N) (ht : t.val = 31) (q : Fin 2048) :
    (outsAt0 m c t.val t.isLt).2.1 (ix2 0 q) = dgOf (A0 m c) (A2 m c) (A1 m c) (ix2 0 q) := by
  refine (outs_dg m c q t.val t.isLt).trans ?_
  rw [ht, Reals.sum_blocks 32 256 (k := 8192) rfl fun n => cot (A0 m c) (A2 m c) (A1 m c) (Reals.rowOf 8192 n) q
    * (A0 m c (ix2 (Reals.rowOf 8192 n) q) * scale fun k => A0 m c (ix2 (Reals.rowOf 8192 n) k))]
  simp only [Reals.rowOf_val]
  rfl

theorem emb_row4 (t : Fin cfg0.N) (q : Fin 2048) : ((cfg0.win 4).blk t).view.emb (ix2 0 q) = (ix2 0 q : S1x2048.Idx) :=
  emb_row t q

theorem cover_row4 (t : Fin cfg0.N) (i : S1x2048.Idx) : i ∈ ((View.whole main_v1_1).slice (win0_4.rect t)).set :=
  cover_row t i

theorem final_dg : (dats m 0 c).arrAt 4 cfg0.N = dgOf (A0 m c) (A2 m c) (A1 m c) :=
  (dats m 0 c).arrAt_eq_of_cover 4 _ (fun t hf => by
      rw [Value.flushed4]
      funext j
      obtain ⟨q, rfl⟩ : ∃ q : Fin 2048, j = (ix2 0 q : S1x2048.Idx) :=
        ⟨j 1, by rw [eq_ix2 j]; congr 1; exact Subsingleton.elim _ _⟩
      rw [View.read_apply]
      have h := outs_dg_last m c t (last_point ((flush0_4 t).mp hf)) q
      generalize dgOf (A0 m c) (A2 m c) (A1 m c) = G at h ⊢
      exact h.trans (congrArg G (emb_row4 t q).symm))
    fun i => ⟨⟨31, show 31 < 32 by omega⟩, (flush0_4 _).mpr rfl, cover_row4 _ i⟩

theorem eq_corner (j : S1x1.Idx) : j = ix2 0 0 := funext fun a => match a with
  | ⟨0, _⟩ => Subsingleton.elim (α := Fin 1) _ _
  | ⟨1, _⟩ => Subsingleton.elim (α := Fin 1) _ _

theorem index5 : ∀ t : Fin cfg0.N, win0_5.index t 0 = 0 ∧ win0_5.index t 1 = 0 :=
  (by decide +kernel : ∀ t : Fin grid0.N, _)

theorem cover_corner (t : Fin cfg0.N) (i : S1x1.Idx) : i ∈ ((View.whole main_v1_2).slice (win0_5.rect t)).set := by
  have h0 : (i 0 : Nat) < 1 := (i 0).isLt
  have h1 : (i 1 : Nat) < 1 := (i 1).isLt
  rw [View.set_slice_whole, Rect.mem_set_unit]
  intro a
  match a with
  | ⟨0, _⟩ =>
    show win0_5.index t 0 * 1 ≤ (i 0 : Nat) ∧ (i 0 : Nat) < win0_5.index t 0 * 1 + 1
    rw [(index5 t).1]; omega
  | ⟨1, _⟩ =>
    show win0_5.index t 1 * 1 ≤ (i 1 : Nat) ∧ (i 1 : Nat) < win0_5.index t 1 * 1 + 1
    rw [(index5 t).2]; omega

theorem outs_loss_last (t : Fin cfg0.N) (ht : t.val = 31) (i : S1x1.Idx) :
    (outsAt0 m c t.val t.isLt).2.2.1 (ix2 0 0) = lossOf (A0 m c) (A2 m c) (A1 m c) i := by
  refine (outs_loss m c t.val t.isLt).trans ?_
  rw [ht]
  rfl

theorem final_loss : (dats m 0 c).arrAt 5 cfg0.N = lossOf (A0 m c) (A2 m c) (A1 m c) :=
  (dats m 0 c).arrAt_eq_of_cover 5 _ (fun t hf => by
      rw [Value.flushed5]
      funext j
      obtain rfl : j = (ix2 0 0 : S1x1.Idx) := eq_corner j
      rw [View.read_apply]
      have h := outs_loss_last m c t (last_point ((flush0_5 t).mp hf))
      generalize lossOf (A0 m c) (A2 m c) (A1 m c) = G at h ⊢
      exact h _)
    fun i => ⟨⟨31, show 31 < 32 by omega⟩, (flush0_5 _).mpr rfl, cover_corner _ i⟩
end Final

end Cert.Loss
end
-- ==== Proof.LossRef.lean ====
/- The derivative of the last norm and the loss, read operation by operation: on finite arguments the reference's results
   are the arrays the kernel leaves. -/
module

public import proofs.«01_k».proof.Defs
public import proofs.«01_k».proof.Proof.LossKernel
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_loss_finite

@[expose] public section

noncomputable section

namespace Cert.Loss

open Idealize.ShloMosaic Idealize.ShloMosaic.TcCoe Idealize.SL.Sem Cert.Reference2Ideal Cert.Reference2Ideal.Read Cert.Norm Cert.Reals
open scoped BigOperators

section Ref
variable (X T : S8192x2048.Idx → ℝ) (G : S2048.Idx → ℝ) (r : Fin 8192) (q : Fin 2048)

/-- Real arrays as arrays of the program. -/
abbrev up2 (X : S8192x2048.Idx → ℝ) : Vec Ideal S8192x2048 .f32 := fun i => (X i : EReal)
abbrev up1 (G : S2048.Idx → ℝ) : Vec Ideal S2048 .f32 := fun i => (G i : EReal)

/-- The real error. -/
def errR : ℝ := X (ix2 r q) * (fac fun k => X (ix2 r k)) * G (ix1 q) - T (ix2 r q)

theorem err_coe : err (up2 X) (up2 T) (up1 G) r q = (errR X T G r q : EReal) := by
  unfold err errOf
  rw [scale_coe]
  simp only [← EReal.coe_mul, ← EReal.coe_sub]
  rfl

theorem cot_coe : cot (up2 X) (up2 T) (up1 G) r q = ((errR X T G r q / 2048 : ℝ) : EReal) := by
  show err (up2 X) (up2 T) (up1 G) r q * _ = _
  rw [err_coe, lit_2048_inv, ← EReal.coe_mul, mul_one_div]

theorem ref_arg : val_main_v6 (F := Ideal) (up2 X) (ix2 r 0) = (meanSq fun k => X (ix2 r k) : ℝ) := by
  pointwise [val_main_v6, val_main_v5, val_main_v4, val_main_v3, val_main_v2, val_main_v1, val_main_v0, val_main_cst,
    val_main_cst_0, val_main_cst_1]
  exact scaleArg_coe fun k => X (ix2 r k)

theorem ref_fac : val_main_v7 (F := Ideal) (up2 X) (ix2 r 0) = (fac fun k => X (ix2 r k) : ℝ) := by
  pointwise [val_main_v7]
  rw [ref_arg, rsqrt_real (meanSq_pos _)]
  rfl

theorem ref_10 : val_main_v10 (F := Ideal) (up2 X) (ix2 r 0)
    = ((-(1 / 2) * ((fac fun k => X (ix2 r k)) / meanSq fun k => X (ix2 r k)) : ℝ) : EReal) := by
  pointwise [val_main_v10, val_main_v9, val_main_cst_2, val_main_v8]
  rw [ref_arg, ref_fac, lit_neg_half, div_real _ (meanSq_pos _).ne', ← EReal.coe_mul]

theorem ref_err : val_main_v16 (F := Ideal) (up2 X) (up1 G) (up2 T) (ix2 r q) = (errR X T G r q : EReal) := by
  pointwise [val_main_v16, val_main_v15, val_main_v14, val_main_v13, val_main_v12, val_main_v11]
  rw [ref_fac]
  simp only [← EReal.coe_mul, ← EReal.coe_sub]
  rfl

theorem ref_cot : val_main_v30 (F := Ideal) (up2 X) (up1 G) (up2 T) (ix2 r q) = ((errR X T G r q / 2048 : ℝ) : EReal) := by
  pointwise [val_main_v30, val_main_v29, val_main_v28, val_main_v27, val_main_cst_10, val_main_v26, val_main_v25, val_main_cst_8,
    val_main_cst_9, val_main_v19, val_main_v18, val_main_cst_3]
  rw [ref_err]
  simp only [lit_half, lit_one, lit_two, lit_2048, ← EReal.coe_mul]
  rw [div_real _ (by norm_num), ← EReal.coe_mul]
  congr 1
  ring

theorem ref_39 : val_main_v39 (F := Ideal) (up2 X) (up1 G) (up2 T) (ix2 r 0)
    = ((∑ k, X (ix2 r k) * (errR X T G r k / 2048 * G (ix1 k)) : ℝ) : EReal) := by
  pointwise [val_main_v39, val_main_v38, val_main_cst_13, val_main_v37, val_main_v35, val_main_v34, val_main_v13]
  simp only [ref_cot, ← EReal.coe_mul, sum_coe]

/-- The rows' gradient. -/
theorem ref_dx : val_main_v50 (F := Ideal) (up2 X) (up1 G) (up2 T) (ix2 r q) = dxOf (up2 X) (up2 T) (up1 G) (ix2 r q) := by
  pointwise [val_main_v50, val_main_v49, val_main_v48, val_main_v47, val_main_v46, val_main_v45, val_main_cst_15,
    val_main_v44, val_main_v43, val_main_cst_14, val_main_v42, val_main_v41, val_main_v40, val_main_v35, val_main_v34, val_main_v13]
  simp only [Fin.sum_univ_one]
  rw [ref_fac, ref_39, ref_10, ref_cot, lit_2048]
  simp only [← EReal.coe_mul]
  rw [div_real _ (by norm_num)]
  simp only [← EReal.coe_mul, ← EReal.coe_add]
  rw [pullR_eq (fun k => X (ix2 r k)) (fun k => errR X T G r k / 2048) (fun k => G (ix1 k)) q, ← pull_coe]
  unfold dxOf
  refine congrArg (fun d => pull _ d _ _) (funext fun k => ?_)
  exact (cot_coe X T G r k).symm

/-- The gains' gradient: a sum over the rows, laid out as a row, summed over its one entry, and laid out again. -/
theorem ref_dg : val_main_v51 (F := Ideal) (up2 X) (up1 G) (up2 T) (ix2 0 q) = dgOf (up2 X) (up2 T) (up1 G) (ix2 0 q) := by
  pointwise [val_main_v51, val_main_v36, val_main_cst_12, val_main_v33, val_main_v32, val_main_cst_11, val_main_v31, val_main_v12,
    val_main_v11]
  rw [dgOf_apply, Fin.sum_univ_one]
  refine Finset.sum_congr rfl fun s _ => ?_
  rw [ref_fac, scale_coe, ref_cot, cot_coe]
  exact mul_comm _ _

/-- The loss, from the rows' mean squared errors and from the row blocks' scaled squared errors. -/
theorem loss_real (E : Fin 8192 → Fin 2048 → ℝ) :
    1 / 2 * (∑ r, (∑ k, E r k * E r k) / 2048)
      = ∑ s ∈ Finset.range 32, (∑ q : Fin 2048, ∑ p : Fin 256, E (row s p) q * E (row s p) q) * (1 / 4096) := by
  rw [← Finset.sum_mul]
  simp only [Finset.sum_comm (s := (Finset.univ : Finset (Fin 2048)))]
  rw [sum_blocks 32 256 (k := 8192) rfl fun n => ∑ q : Fin 2048, E (rowOf 8192 n) q * E (rowOf 8192 n) q]
  simp only [rowOf_val]
  rw [← Finset.sum_div]
  ring

theorem ref_loss : val_main_v52 (F := Ideal) (up2 X) (up1 G) (up2 T) (ix2 0 0) = lossOf (up2 X) (up2 T) (up1 G) (ix2 0 0) := by
  pointwise [val_main_v52, val_main_v24, val_main_cst_7, val_main_v23, val_main_cst_6, val_main_v22, val_main_v21, val_main_cst_5,
    val_main_v20, val_main_cst_4, val_main_v17]
  unfold lossOf
  simp only [ref_err, err_coe, ← EReal.coe_mul, sum_coe, lit_2048, lit_half, lit_4096_inv]
  simp only [div_real _ (show (2048 : ℝ) ≠ 0 by norm_num), sum_coe, ← EReal.coe_mul]
  rw [loss_real]
end Ref

/-- What the precondition says of the arguments: each is an array of real numbers. -/
theorem finite_args {a0 a2 : Vec Ideal S8192x2048 .f32} {a1 : Vec Ideal S2048 .f32}
    (h : Cert.Pre_loss_finite.fn (F := Ideal) a0 a1 a2 = fun _ => 1#1) :
    ∃ X G T, a0 = up2 X ∧ a1 = up1 G ∧ a2 = up2 T := by
  have key : ∀ (r : Fin 8192) (q : Fin 2048), (∃ d : ℝ, a0 (ix2 r q) = d) ∧ (∃ x : ℝ, a2 (ix2 r q) = x) ∧ ∃ g : ℝ, a1 (ix1 q) = g := by
    intro r q
    have := congrFun h (ix2 r q)
    revert this
    pointwise [Cert.Pre_loss_finite.fn]
    intro h
    obtain ⟨h, h2⟩ := and_one h
    obtain ⟨h0, h1⟩ := and_one h
    exact ⟨real_of_cmp h0, real_of_cmp h1, real_of_cmp h2⟩
  refine ⟨fun i => (a0 i).toReal, fun i => (a1 i).toReal, fun i => (a2 i).toReal, ?_, ?_, ?_⟩
  · funext i
    obtain ⟨d, hd⟩ := (key (i 0) (i 1)).1
    rw [← eq_ix2 i] at hd
    simp only [up2, hd, EReal.toReal_coe]
  · funext i
    obtain ⟨d, hd⟩ := (key 0 (i 0)).2.2
    rw [← eq_ix1 i] at hd
    simp only [up1, hd, EReal.toReal_coe]
  · funext i
    obtain ⟨d, hd⟩ := (key (i 0) (i 1)).2.1
    rw [← eq_ix2 i] at hd
    simp only [up2, hd, EReal.toReal_coe]

section All
variable (X T : S8192x2048.Idx → ℝ) (G : S2048.Idx → ℝ)

theorem ref_dx_all : val_main_v50 (F := Ideal) (up2 X) (up1 G) (up2 T) = dxOf (up2 X) (up2 T) (up1 G) := by
  funext i
  rw [eq_ix2 i]
  exact ref_dx X T G (i 0) (i 1)

theorem ref_dg_all : val_main_v51 (F := Ideal) (up2 X) (up1 G) (up2 T) = dgOf (up2 X) (up2 T) (up1 G) := by
  funext i
  obtain ⟨q, rfl⟩ : ∃ q : Fin 2048, i = (ix2 0 q : S1x2048.Idx) :=
    ⟨i 1, by rw [eq_ix2 i]; congr 1; exact Subsingleton.elim _ _⟩
  exact ref_dg X T G q

theorem ref_loss_all : val_main_v52 (F := Ideal) (up2 X) (up1 G) (up2 T) = lossOf (up2 X) (up2 T) (up1 G) := by
  funext i
  obtain rfl := eq_corner i
  exact ref_loss X T G
end All

/-- The kernel's four results are the loss and its derivative. -/
theorem algebraic : Cert.algebraic_Kernel2Ideal_Reference2Ideal_pre_loss_finite := by
  intro m g m' g' hpre hargs
  refine ⟨fun c => dxOf (A0 m c) (A2 m c) (A1 m c), fun c => dgOf (A0 m c) (A2 m c) (A1 m c),
    fun c => lossOf (A0 m c) (A2 m c) (A1 m c), fun c => (dxOf (A0 m c) (A2 m c) (A1 m c) : Vec Ideal S8192x2048 .f32), ?_, ?_⟩
  · refine (θ_run Cert.Kernel2Ideal.defs _ _).mono (fun r h c => ?_) (Cert.Kernel2Ideal.Value.run_blocks m g)
    obtain ⟨h3, h4, h5, h6, h⟩ := h c
    exact ⟨h3.trans (final_dx m c), h4.trans (final_dg m c), h5.trans (final_loss m c), h6.trans (final_dxb m c), h⟩
  · refine (θ_run Cert.Reference2Ideal.defs _ _).mono (fun r h c => ?_) (Cert.Reference2Ideal.Value.run m' g')
    obtain ⟨h50, h51, h52, h53, h⟩ := h c
    obtain ⟨e0, e1, e2⟩ := hargs c
    obtain ⟨X, G, T, hX, hG, hT⟩ := finite_args (hpre c)
    have k50 := ref_dx_all X T G
    have k51 := ref_dg_all X T G
    have k52 := ref_loss_all X T G
    rw [← hX, ← hG, ← hT] at k50 k51 k52
    refine ⟨?_, ?_, ?_, ?_, h⟩
    · rw [h50, val_main_v50_eq, e0, e1, e2]; exact k50
    · rw [h51, val_main_v51_eq, e0, e1, e2]; exact k51
    · rw [h52, val_main_v52_eq, e0, e1, e2]; exact k52
    · rw [h53, val_main_v53_eq, e0, e1, e2]; exact k50

end Cert.Loss
end
-- ==== Proof.MemKernel.lean ====
/- The memory attention's backward kernel, read. A body works on four heads of 128 columns; what it leaves at a column of
   a head is that head's own value, written here once for all four. -/
module

public import proofs.«01_k».proof.Proof.Reals
public import proofs.«01_k».proof.Proof.Gen.Kernel3Ideal.Value

@[expose] public section

noncomputable section

namespace Cert.Mem

open Idealize.ShloMosaic Idealize.ShloMosaic.TcCoe Idealize.SL.Sem Cert.Kernel3Ideal Cert.Kernel3Ideal.Gen
open scoped BigOperators

variable {F : FTy → Type} [FloatOps F]

/-! ## Heads: 128 columns of 512 -/

/-- Column `d` of head `h`. -/
def col (h : Fin 4) (d : Fin 128) : Fin 512 := ⟨h.val * 128 + d.val, by omega⟩

/-- The head and its column that a column is. -/
theorem eq_col (j : Fin 512) : j = col ⟨j.val / 128, by omega⟩ ⟨j.val % 128, by omega⟩ := Fin.ext (Nat.div_add_mod' _ _).symm

/-- The columns of head `h` of an array. -/
def slice {R : ℕ} {e : EltTy} (X : Vec F ⟨2, ![R, 512]⟩ e) (h : Fin 4) : Vec F ⟨2, ![R, 128]⟩ e := fun j => X (ix2 (j 0) (col h (j 1)))

theorem ld_slice {R o : ℕ} {e : EltTy} (X : Vec F ⟨2, ![R, 512]⟩ e) (h : Fin 4)
    (inb : ∀ a, (![0, o] : Fin 2 → ℕ) a + (![R, 128] : Fin 2 → ℕ) a ≤ (![R, 512] : Fin 2 → ℕ) a) (ho : o = h.val * 128) :
    View.ld X (Rect.unit (s := ⟨2, ![R, 512]⟩) ![0, o] ![R, 128] inb) = slice X h := by
  subst ho
  funext j
  refine congrArg X (funext fun a => Fin.ext ?_)
  match a with
  | ⟨0, _⟩ => show 0 + 1 * (j 0).val = (j 0).val; omega
  | ⟨1, _⟩ => show h.val * 128 + 1 * (j 1).val = h.val * 128 + (j 1).val; omega

/-- A column of a head is what that head's store left: the later stores are of other heads. -/
theorem canon_hit {R o : ℕ} {e : EltTy} (inb : ∀ a, (![0, o] : Fin 2 → ℕ) a + (![R, 128] : Fin 2 → ℕ) a ≤ (![R, 512] : Fin 2 → ℕ) a)
    (w : Vec F ⟨2, ![R, 128]⟩ e) (L : List (View.Piece (Elt F) ⟨2, ![R, 512]⟩ e)) (p : Fin R) (h : Fin 4) (d : Fin 128) (ho : o = h.val * 128) :
    View.canon (⟨Rect.unit (s := ⟨2, ![R, 512]⟩) ![0, o] ![R, 128] inb, w⟩ :: L) (ix2 p (col h d)) = w (ix2 p d) := by
  subst ho
  refine Eq.trans (congrArg _ (funext fun a => Fin.ext ?_)) (View.canon_cons_emb (Rect.unit (s := ⟨2, ![R, 512]⟩) ![0, h.val * 128] ![R, 128] inb) w L (ix2 p d))
  match a with
  | ⟨0, _⟩ => show p.val = 0 + 1 * p.val; omega
  | ⟨1, _⟩ => show h.val * 128 + d.val = h.val * 128 + 1 * d.val; omega

theorem canon_miss {R o : ℕ} {e : EltTy} (inb : ∀ a, (![0, o] : Fin 2 → ℕ) a + (![R, 128] : Fin 2 → ℕ) a ≤ (![R, 512] : Fin 2 → ℕ) a)
    (w : Vec F ⟨2, ![R, 128]⟩ e) (L : List (View.Piece (Elt F) ⟨2, ![R, 512]⟩ e)) (p : Fin R) (c : Fin 512) (ho : c.val < o ∨ o + 128 ≤ c.val) :
    View.canon (⟨Rect.unit (s := ⟨2, ![R, 512]⟩) ![0, o] ![R, 128] inb, w⟩ :: L) (ix2 p c) = View.canon L (ix2 p c) := by
  refine View.canon_cons_of_not_mem _ L fun hm => ?_
  have h1 : o ≤ c.val ∧ c.val < o + 128 := (Rect.mem_set_unit (s := ⟨2, ![R, 512]⟩) (inb := inb)).mp hm 1
  omega

/-- The four heads' stores, the last head's last. -/
theorem canon_heads {R : ℕ} {e : EltTy} (inb0 inb1 inb2 inb3) (w0 w1 w2 w3 : Vec F ⟨2, ![R, 128]⟩ e)
    (L : List (View.Piece (Elt F) ⟨2, ![R, 512]⟩ e)) (p : Fin R) (h : Fin 4) (d : Fin 128) :
    View.canon (⟨Rect.unit (s := ⟨2, ![R, 512]⟩) ![0, 384] ![R, 128] inb3, w3⟩ :: ⟨Rect.unit (s := ⟨2, ![R, 512]⟩) ![0, 256] ![R, 128] inb2, w2⟩
        :: ⟨Rect.unit (s := ⟨2, ![R, 512]⟩) ![0, 128] ![R, 128] inb1, w1⟩ :: ⟨Rect.unit (s := ⟨2, ![R, 512]⟩) ![0, 0] ![R, 128] inb0, w0⟩ :: L)
        (ix2 p (col h d)) = (![w0, w1, w2, w3] : Fin 4 → _) h (ix2 p d) := by
  match h with
  | 0 =>
    rw [canon_miss inb3 w3 _ p (col 0 d) (by dsimp [col]; omega), canon_miss inb2 w2 _ p (col 0 d) (by dsimp [col]; omega),
      canon_miss inb1 w1 _ p (col 0 d) (by dsimp [col]; omega), canon_hit inb0 w0 _ p 0 d rfl]; rfl
  | 1 =>
    rw [canon_miss inb3 w3 _ p (col 1 d) (by dsimp [col]; omega), canon_miss inb2 w2 _ p (col 1 d) (by dsimp [col]; omega),
      canon_hit inb1 w1 _ p 1 d rfl]; rfl
  | 2 => rw [canon_miss inb3 w3 _ p (col 2 d) (by dsimp [col]; omega), canon_hit inb2 w2 _ p 2 d rfl]; rfl
  | 3 => rw [canon_hit inb3 w3 _ p 3 d rfl]; rfl

/-- A head's columns of a buffer zeroed and then stored to at an earlier head: still the zeroes. -/
theorem read_other {sg : RefSig} {κ : Kind} {sp : Space} {R o o' : ℕ} {e : EltTy} (v : View sg κ sp ⟨2, ![R, 512]⟩ e)
    (inb : ∀ a, (![0, o] : Fin 2 → ℕ) a + (![R, 128] : Fin 2 → ℕ) a ≤ (![R, 512] : Fin 2 → ℕ) a)
    (inb' : ∀ a, (![0, o'] : Fin 2 → ℕ) a + (![R, 128] : Fin 2 → ℕ) a ≤ (![R, 512] : Fin 2 → ℕ) a)
    (w : Vec F ⟨2, ![R, 128]⟩ e) (L : List (View.Piece (Elt F) ⟨2, ![R, 512]⟩ e)) (ho : o' + 128 ≤ o) :
    v.readCov (⟨Rect.unit (s := ⟨2, ![R, 512]⟩) ![0, o'] ![R, 128] inb', w⟩ :: L) (Rect.unit (s := ⟨2, ![R, 512]⟩) ![0, o] ![R, 128] inb).toLoadRect
      = v.readCov L (Rect.unit (s := ⟨2, ![R, 512]⟩) ![0, o] ![R, 128] inb).toLoadRect := by
  rw [View.readCov_eq_canon', View.readCov_eq_canon']
  funext j
  refine View.canon_cons_of_not_mem _ L fun hm => ?_
  have h1 : o' ≤ o + 1 * (j 1).val ∧ o + 1 * (j 1).val < o' + 128 := (Rect.mem_set_unit (s := ⟨2, ![R, 512]⟩) (inb := inb')).mp hm 1
  omega

theorem hz : (![0, 0] : Fin 2 → Nat) = fun _ => 0 := funext fun a => by fin_cases a <;> rfl

theorem read_whole {sg : RefSig} {κ : Kind} {sp : Space} {R : ℕ} {e : EltTy} (v : View sg κ sp ⟨2, ![R, 512]⟩ e)
    (inb : ∀ a, (![0, 0] : Fin 2 → ℕ) a + (![R, 512] : Fin 2 → ℕ) a ≤ (![R, 512] : Fin 2 → ℕ) a) (B : Rect ⟨2, ![R, 512]⟩)
    (w : Vec F ⟨2, ![R, 512]⟩ e) :
    v.readCov [⟨Rect.unit (s := ⟨2, ![R, 512]⟩) ![0, 0] ![R, 512] inb, w⟩] B.toLoadRect = View.ld w B := by
  rw [View.readCov_eq_canon', View.canon_unit_zero (S := ⟨2, ![R, 512]⟩) hz inb w]

/-! ## One head's values -/

section Head
variable (q g dy : Vec F S512x128 .f32) (k v : Vec F S256x128 .bf16) (acc : Vec F S256x128 .f32)

/-- The scores' cotangent, and the four gradients' blocks: the queries', the gate's, the keys' and the values'. -/
def headDs : FVec F S512x256 .bf16 := k0_pay42 (k0_pay20 (k0_pay16 g dy) v) (k0_pay28 (k0_pay24 (k0_pay12 q k)))
def headDq : FVec F S512x128 .bf16 := k0_pay56 (headDs q g dy k v) k
def headDg : FVec F S512x128 .bf16 := k0_pay54 (k0_pay51 g) (k0_pay52 (k0_pay36 (k0_pay24 (k0_pay12 q k)) v) dy) (k0_pay53 g)
def headDk : FVec F S256x128 .f32 := k0_pay57 (k0_pay8 q) (headDs q g dy k v) acc
def headDv : FVec F S256x128 .f32 := k0_pay55 (k0_pay16 g dy) (k0_pay32 (k0_pay24 (k0_pay12 q k))) acc
end Head

section Out
variable (c : Dev nD) (i : grid0.Coords)
  (a1 : Memref sig .tc .vmem S512x512 .f32) (h1 : a1.IsWhole) (a2 : Memref sig .tc .vmem S512x512 .f32) (h2 : a2.IsWhole)
  (a3 : Memref sig .tc .vmem S256x512 .bf16) (h3 : a3.IsWhole) (a4 : Memref sig .tc .vmem S256x512 .bf16) (h4 : a4.IsWhole)
  (a5 : Memref sig .tc .vmem S512x512 .f32) (h5 : a5.IsWhole) (a6 : Memref sig .tc .vmem S512x512 .bf16) (h6 : a6.IsWhole)
  (a7 : Memref sig .tc .vmem S512x512 .bf16) (h7 : a7.IsWhole) (a8 : Memref sig .tc .vmem S256x512 .f32) (h8 : a8.IsWhole)
  (a9 : Memref sig .tc .vmem S256x512 .f32) (h9 : a9.IsWhole)
  (x0 x1 x4 : Vec F S512x512 .f32) (x2 x3 : Vec F S256x512 .bf16) (xo7 xo8 : Vec F S256x512 .f32)
  (p : Fin 512) (n : Fin 256) (h : Fin 4) (d : Fin 128)

theorem out_A_5 (hc0 : cond0_0 i) :
    out0_A_5 c i a1 h1 a2 h2 a3 h3 a4 h4 a5 h5 a6 h6 a7 h7 a8 h8 a9 h9 hc0 x0 x1 x2 x3 x4 (ix2 p (col h d))
      = headDq (slice x0 h) (slice x1 h) (slice x4 h) (slice x2 h) (slice x3 h) (ix2 p d) := by
  unfold out0_A_5
  refine (congrFun (View.read_writes_eq_canon _ _ _ fun y => cover0_A_5 ..) _).trans ?_
  unfold kernelRun0_A
  dsimp only
  sl_unfold_words
  simp only [View.readAt_eq_ld, h1.read_unread, h2.read_unread, h3.read_unread, h4.read_unread, h5.read_unread]
  refine (canon_heads ..).trans (congrFun ?_ _)
  match h with
  | 0 => simp only [Matrix.cons_val, ld_slice (o := 0) (h := 0) _ _ rfl]; rfl
  | 1 => simp only [Matrix.cons_val, ld_slice (o := 128) (h := 1) _ _ rfl]; rfl
  | 2 => simp only [Matrix.cons_val, ld_slice (o := 256) (h := 2) _ _ rfl]; rfl
  | 3 => simp only [Matrix.cons_val, ld_slice (o := 384) (h := 3) _ _ rfl]; rfl

theorem out_B_5 (hc0 : ¬cond0_0 i) :
    out0_B_5 c i a1 h1 a2 h2 a3 h3 a4 h4 a5 h5 a6 h6 a7 h7 a8 h8 a9 h9 hc0 x0 x1 x2 x3 x4 xo7 xo8 (ix2 p (col h d))
      = headDq (slice x0 h) (slice x1 h) (slice x4 h) (slice x2 h) (slice x3 h) (ix2 p d) := by
  unfold out0_B_5
  refine (congrFun (View.read_writes_eq_canon _ _ _ fun y => cover0_B_5 ..) _).trans ?_
  unfold kernelRun0_B
  dsimp only
  sl_unfold_words
  simp only [View.readAt_eq_ld, h1.read_unread, h2.read_unread, h3.read_unread, h4.read_unread, h5.read_unread]
  refine (canon_heads ..).trans (congrFun ?_ _)
  match h with
  | 0 => simp only [Matrix.cons_val, ld_slice (o := 0) (h := 0) _ _ rfl]; rfl
  | 1 => simp only [Matrix.cons_val, ld_slice (o := 128) (h := 1) _ _ rfl]; rfl
  | 2 => simp only [Matrix.cons_val, ld_slice (o := 256) (h := 2) _ _ rfl]; rfl
  | 3 => simp only [Matrix.cons_val, ld_slice (o := 384) (h := 3) _ _ rfl]; rfl

theorem out_A_6 (hc0 : cond0_0 i) :
    out0_A_6 c i a1 h1 a2 h2 a3 h3 a4 h4 a5 h5 a6 h6 a7 h7 a8 h8 a9 h9 hc0 x0 x1 x2 x3 x4 (ix2 p (col h d))
      = headDg (slice x0 h) (slice x1 h) (slice x4 h) (slice x2 h) (slice x3 h) (ix2 p d) := by
  unfold out0_A_6
  refine (congrFun (View.read_writes_eq_canon _ _ _ fun y => cover0_A_6 ..) _).trans ?_
  unfold kernelRun0_A
  dsimp only
  sl_unfold_words
  simp only [View.readAt_eq_ld, h1.read_unread, h2.read_unread, h3.read_unread, h4.read_unread, h5.read_unread]
  refine (canon_heads ..).trans (congrFun ?_ _)
  match h with
  | 0 => simp only [Matrix.cons_val, ld_slice (o := 0) (h := 0) _ _ rfl]; rfl
  | 1 => simp only [Matrix.cons_val, ld_slice (o := 128) (h := 1) _ _ rfl]; rfl
  | 2 => simp only [Matrix.cons_val, ld_slice (o := 256) (h := 2) _ _ rfl]; rfl
  | 3 => simp only [Matrix.cons_val, ld_slice (o := 384) (h := 3) _ _ rfl]; rfl

theorem out_B_6 (hc0 : ¬cond0_0 i) :
    out0_B_6 c i a1 h1 a2 h2 a3 h3 a4 h4 a5 h5 a6 h6 a7 h7 a8 h8 a9 h9 hc0 x0 x1 x2 x3 x4 xo7 xo8 (ix2 p (col h d))
      = headDg (slice x0 h) (slice x1 h) (slice x4 h) (slice x2 h) (slice x3 h) (ix2 p d) := by
  unfold out0_B_6
  refine (congrFun (View.read_writes_eq_canon _ _ _ fun y => cover0_B_6 ..) _).trans ?_
  unfold kernelRun0_B
  dsimp only
  sl_unfold_words
  simp only [View.readAt_eq_ld, h1.read_unread, h2.read_unread, h3.read_unread, h4.read_unread, h5.read_unread]
  refine (canon_heads ..).trans (congrFun ?_ _)
  match h with
  | 0 => simp only [Matrix.cons_val, ld_slice (o := 0) (h := 0) _ _ rfl]; rfl
  | 1 => simp only [Matrix.cons_val, ld_slice (o := 128) (h := 1) _ _ rfl]; rfl
  | 2 => simp only [Matrix.cons_val, ld_slice (o := 256) (h := 2) _ _ rfl]; rfl
  | 3 => simp only [Matrix.cons_val, ld_slice (o := 384) (h := 3) _ _ rfl]; rfl

theorem out_A_7 (hc0 : cond0_0 i) :
    out0_A_7 c i a1 h1 a2 h2 a3 h3 a4 h4 a5 h5 a6 h6 a7 h7 a8 h8 a9 h9 hc0 x0 x1 x2 x3 x4 (ix2 n (col h d))
      = headDk (slice x0 h) (slice x1 h) (slice x4 h) (slice x2 h) (slice x3 h) (slice k0_pay5 h) (ix2 n d) := by
  unfold out0_A_7
  refine (congrFun (View.read_writes_eq_canon _ _ _ fun y => cover0_A_7 ..) _).trans ?_
  unfold kernelRun0_A
  dsimp only
  sl_unfold_words
  simp only [View.readAt_eq_ld, h1.read_unread, h2.read_unread, h3.read_unread, h4.read_unread, h5.read_unread]
  refine (canon_heads ..).trans (congrFun ?_ _)
  match h with
  | 0 => simp (discharger := decide) only [Matrix.cons_val, read_other, read_whole, ld_slice (o := 0) (h := 0) _ _ rfl]; rfl
  | 1 => simp (discharger := decide) only [Matrix.cons_val, read_other, read_whole, ld_slice (o := 128) (h := 1) _ _ rfl]; rfl
  | 2 => simp (discharger := decide) only [Matrix.cons_val, read_other, read_whole, ld_slice (o := 256) (h := 2) _ _ rfl]; rfl
  | 3 => simp (discharger := decide) only [Matrix.cons_val, read_other, read_whole, ld_slice (o := 384) (h := 3) _ _ rfl]; rfl

theorem out_B_7 (hc0 : ¬cond0_0 i) :
    out0_B_7 c i a1 h1 a2 h2 a3 h3 a4 h4 a5 h5 a6 h6 a7 h7 a8 h8 a9 h9 hc0 x0 x1 x2 x3 x4 xo7 xo8 (ix2 n (col h d))
      = headDk (slice x0 h) (slice x1 h) (slice x4 h) (slice x2 h) (slice x3 h) (slice xo7 h) (ix2 n d) := by
  unfold out0_B_7
  refine (congrFun (View.read_writes_eq_canon _ _ _ fun y => cover0_B_7 ..) _).trans ?_
  unfold kernelRun0_B
  dsimp only
  sl_unfold_words
  simp only [View.readAt_eq_ld, h1.read_unread, h2.read_unread, h3.read_unread, h4.read_unread, h5.read_unread, h8.read_unread]
  refine (canon_heads ..).trans (congrFun ?_ _)
  match h with
  | 0 => simp only [Matrix.cons_val, ld_slice (o := 0) (h := 0) _ _ rfl]; rfl
  | 1 => simp only [Matrix.cons_val, ld_slice (o := 128) (h := 1) _ _ rfl]; rfl
  | 2 => simp only [Matrix.cons_val, ld_slice (o := 256) (h := 2) _ _ rfl]; rfl
  | 3 => simp only [Matrix.cons_val, ld_slice (o := 384) (h := 3) _ _ rfl]; rfl

theorem out_A_8 (hc0 : cond0_0 i) :
    out0_A_8 c i a1 h1 a2 h2 a3 h3 a4 h4 a5 h5 a6 h6 a7 h7 a8 h8 a9 h9 hc0 x0 x1 x2 x3 x4 (ix2 n (col h d))
      = headDv (slice x0 h) (slice x1 h) (slice x4 h) (slice x2 h) (slice k0_pay6 h) (ix2 n d) := by
  unfold out0_A_8
  refine (congrFun (View.read_writes_eq_canon _ _ _ fun y => cover0_A_8 ..) _).trans ?_
  unfold kernelRun0_A
  dsimp only
  sl_unfold_words
  simp only [View.readAt_eq_ld, h1.read_unread, h2.read_unread, h3.read_unread, h4.read_unread, h5.read_unread]
  refine (canon_heads ..).trans (congrFun ?_ _)
  match h with
  | 0 => simp (discharger := decide) only [Matrix.cons_val, read_other, read_whole, ld_slice (o := 0) (h := 0) _ _ rfl]; rfl
  | 1 => simp (discharger := decide) only [Matrix.cons_val, read_other, read_whole, ld_slice (o := 128) (h := 1) _ _ rfl]; rfl
  | 2 => simp (discharger := decide) only [Matrix.cons_val, read_other, read_whole, ld_slice (o := 256) (h := 2) _ _ rfl]; rfl
  | 3 => simp (discharger := decide) only [Matrix.cons_val, read_other, read_whole, ld_slice (o := 384) (h := 3) _ _ rfl]; rfl

theorem out_B_8 (hc0 : ¬cond0_0 i) :
    out0_B_8 c i a1 h1 a2 h2 a3 h3 a4 h4 a5 h5 a6 h6 a7 h7 a8 h8 a9 h9 hc0 x0 x1 x2 x3 x4 xo7 xo8 (ix2 n (col h d))
      = headDv (slice x0 h) (slice x1 h) (slice x4 h) (slice x2 h) (slice xo8 h) (ix2 n d) := by
  unfold out0_B_8
  refine (congrFun (View.read_writes_eq_canon _ _ _ fun y => cover0_B_8 ..) _).trans ?_
  unfold kernelRun0_B
  dsimp only
  sl_unfold_words
  simp only [View.readAt_eq_ld, h1.read_unread, h2.read_unread, h3.read_unread, h4.read_unread, h5.read_unread, h9.read_unread]
  refine (canon_heads ..).trans (congrFun ?_ _)
  match h with
  | 0 => simp only [Matrix.cons_val, ld_slice (o := 0) (h := 0) _ _ rfl]; rfl
  | 1 => simp only [Matrix.cons_val, ld_slice (o := 128) (h := 1) _ _ rfl]; rfl
  | 2 => simp only [Matrix.cons_val, ld_slice (o := 256) (h := 2) _ _ rfl]; rfl
  | 3 => simp only [Matrix.cons_val, ld_slice (o := 384) (h := 3) _ _ rfl]; rfl

end Out

/-! ## A head's values at an element -/

/-- A row's scores against the keys, their softmax, the cotangent of an attended value, and of a score. -/
def scoreOf (q : Fin 128 → EReal) (k : Fin 256 → Fin 128 → EReal) (n : Fin 256) : EReal :=
  (∑ x, q x * k n x) * Ideal.ofBits .f32 1035273459#32
def probOf (s : Fin 256 → EReal) (n : Fin 256) : EReal :=
  Ideal.div (Ideal.exp (s n - Finset.fold max (Ideal.ofBits .f32 4286578688#32) s Finset.univ))
    (∑ x, Ideal.exp (s x - Finset.fold max (Ideal.ofBits .f32 4286578688#32) s Finset.univ))
def outCot (g dy : EReal) : EReal := dy * (g * Ideal.div 1 (1 + Ideal.exp (0 - g)))
def dsOf (P : Fin 256 → EReal) (v : Fin 256 → Fin 128 → EReal) (o : Fin 128 → EReal) (n : Fin 256) : EReal :=
  P n * (∑ x, o x * v n x - ∑ x, (∑ y, o y * v x y) * P x) * Ideal.ofBits .f32 1035273459#32

section Elem
variable (q g dy : Vec Ideal S512x128 .f32) (k v : Vec Ideal S256x128 .bf16) (acc : Vec Ideal S256x128 .f32)
  (p : Fin 512) (n : Fin 256) (d : Fin 128)

/-- Row `p` of a block, and a block as its rows. -/
abbrev rowAt {R C : ℕ} {e : EltTy} (X : Vec Ideal ⟨2, ![R, C]⟩ e) (p : Fin R) : Fin C → Elt Ideal e := fun x => X (ix2 p x)

/-- The softmax of row `p`, and the cotangent of its attended value. -/
def probAt : Fin 256 → EReal := probOf (scoreOf (rowAt q p) fun n => rowAt k n)
def cotAt : Fin 128 → EReal := fun d => outCot (g (ix2 p d)) (dy (ix2 p d))

theorem score_at : k0_pay12 q k (ix2 p n) = scoreOf (rowAt q p) (fun n => rowAt k n) n := by
  pointwise [k0_pay12, k0_pay8]
  rfl

theorem prob_at : k0_pay28 (k0_pay24 (k0_pay12 q k)) (ix2 p n) = probAt q k p n := by
  pointwise [k0_pay28, k0_pay24]
  simp only [score_at]
  rfl

theorem cot_at : k0_pay16 g dy (ix2 p d) = cotAt g dy p d := by
  pointwise [k0_pay16]
  rfl

theorem ds_at : headDs q g dy k v (ix2 p n) = dsOf (probAt q k p) (fun n => rowAt v n) (cotAt g dy p) n := by
  pointwise [headDs, k0_pay42, k0_pay20]
  simp only [prob_at, cot_at]
  rfl

theorem dq_at : headDq q g dy k v (ix2 p d)
    = ∑ n, dsOf (probAt q k p) (fun n => rowAt v n) (cotAt g dy p) n * k (ix2 n d) := by
  unfold headDq
  pointwise [k0_pay56]
  simp only [ds_at]

theorem dk_at : headDk q g dy k v acc (ix2 n d)
    = acc (ix2 n d) + ∑ p, dsOf (probAt q k p) (fun n => rowAt v n) (cotAt g dy p) n * q (ix2 p d) := by
  pointwise [headDk, k0_pay57, k0_pay8]
  simp only [ds_at]

theorem dv_at : headDv q g dy k acc (ix2 n d) = acc (ix2 n d) + ∑ p, probAt q k p n * cotAt g dy p d := by
  pointwise [headDv, k0_pay55, k0_pay32]
  simp only [prob_at, cot_at]

theorem att_at : k0_pay36 (k0_pay24 (k0_pay12 q k)) v (ix2 p d) = ∑ n, probAt q k p n * v (ix2 n d) := by
  pointwise [k0_pay36, k0_pay32]
  simp only [prob_at]

/-- The gate's gradient of an attended value `o`. -/
def gateOf (o g dy : EReal) : EReal :=
  dy * o * (Ideal.div 1 (1 + Ideal.exp (0 - g)) * (1 + g * (1 - Ideal.div 1 (1 + Ideal.exp (0 - g)))))

theorem dg_at : headDg q g dy k v (ix2 p d) = gateOf (∑ n, probAt q k p n * v (ix2 n d)) (g (ix2 p d)) (dy (ix2 p d)) := by
  pointwise [headDg, k0_pay54, k0_pay51, k0_pay52, k0_pay53]
  rw [att_at]
  rfl

end Elem

/-! ## The result arrays, of whole arguments: the projections, the memory's keys and values, the cotangent -/

section Of
variable (a0 : Vec Ideal S8192x4096 .f32) (a1 : Vec Ideal S256x4096 .f32) (a2 : Vec Ideal S8192x2048 .f32)
  (r : Fin 8192) (h : Fin 4) (d : Fin 128) (n : Fin 256)

/-- A head's queries, gates, output cotangents, keys and values: its columns of the arguments. -/
def Q : EReal := a0 (ix2 r ⟨3072 + (col h d).val, by omega⟩)
def G : EReal := a0 (ix2 r ⟨3584 + (col h d).val, by omega⟩)
def D : EReal := a2 (ix2 r ⟨1536 + (col h d).val, by omega⟩)
def K : EReal := a1 (ix2 n ⟨(col h d).val, by omega⟩)
def V : EReal := a1 (ix2 n ⟨512 + (col h d).val, by omega⟩)

def P : Fin 256 → EReal := probOf (scoreOf (Q a0 r h) (fun n d => K a1 h d n))
def C : Fin 128 → EReal := fun d => outCot (G a0 r h d) (D a2 r h d)
def S : Fin 256 → EReal := dsOf (P a0 a1 r h) (fun n d => V a1 h d n) (C a0 a2 r h)

def dq : EReal := ∑ n, S a0 a1 a2 r h n * K a1 h d n
def dg : EReal := gateOf (∑ n, P a0 a1 r h n * V a1 h d n) (G a0 r h d) (D a2 r h d)
def dk : EReal := ∑ r : Fin 8192, S a0 a1 a2 r h n * Q a0 r h d
def dv : EReal := ∑ r : Fin 8192, P a0 a1 r h n * C a0 a2 r h d

/-- The head of a column, and its place there. -/
abbrev hd (j : Fin 512) : Fin 4 := ⟨j.val / 128, by omega⟩
abbrev lo (j : Fin 512) : Fin 128 := ⟨j.val % 128, by omega⟩

theorem hd_col : hd (col h d) = h := Fin.ext (show (h.val * 128 + d.val) / 128 = h.val by omega)
theorem lo_col : lo (col h d) = d := Fin.ext (show (h.val * 128 + d.val) % 128 = d.val by omega)

def dqOf : Vec Ideal S8192x512 .bf16 := fun i => dq a0 a1 a2 (i 0) (hd (i 1)) (lo (i 1))
def dgOf : Vec Ideal S8192x512 .bf16 := fun i => dg a0 a1 a2 (i 0) (hd (i 1)) (lo (i 1))
def dkOf : Vec Ideal S256x512 .f32 := fun i => dk a0 a1 a2 (hd (i 1)) (lo (i 1)) (i 0)
def dvOf : Vec Ideal S256x512 .f32 := fun i => dv a0 a1 a2 (hd (i 1)) (lo (i 1)) (i 0)

theorem dqOf_col : dqOf a0 a1 a2 (ix2 r (col h d)) = dq a0 a1 a2 r h d := by
  show dq a0 a1 a2 r (hd (col h d)) (lo (col h d)) = _
  rw [hd_col, lo_col]
theorem dgOf_col : dgOf a0 a1 a2 (ix2 r (col h d)) = dg a0 a1 a2 r h d := by
  show dg a0 a1 a2 r (hd (col h d)) (lo (col h d)) = _
  rw [hd_col, lo_col]
theorem dkOf_col : dkOf a0 a1 a2 (ix2 n (col h d)) = dk a0 a1 a2 h d n := by
  show dk a0 a1 a2 (hd (col h d)) (lo (col h d)) n = _
  rw [hd_col, lo_col]
theorem dvOf_col : dvOf a0 a1 a2 (ix2 n (col h d)) = dv a0 a1 a2 h d n := by
  show dv a0 a1 a2 (hd (col h d)) (lo (col h d)) n = _
  rw [hd_col, lo_col]
end Of

/-! ## The points -/

section Points
variable (m : (ℓ : Loc nD τ sig) → Buf (Elt F) ℓ) (c : Dev nD) (t : Fin cfg0.N) (p : Fin 512) (n : Fin 256) (h : Fin 4) (d : Fin 128)

theorem outs_dq : (outsAt0 m c t.val t.isLt).1 (ix2 p (col h d)) = headDq (slice (R := 512) (e := .f32) (iblk m c 0 t) h)
    (slice (R := 512) (e := .f32) (iblk m c 1 t) h) (slice (R := 512) (e := .f32) (iblk m c 4 t) h)
    (slice (R := 256) (e := .bf16) (iblk m c 2 t) h) (slice (R := 256) (e := .bf16) (iblk m c 3 t) h) (ix2 p d) := by
  by_cases h0 : t.val % 16 = 0
  · simp only [outsAt0_A m c t h0]; exact out_A_5 ..
  · simp only [outsAt0_B m c t h0]; exact out_B_5 ..

theorem outs_dg : (outsAt0 m c t.val t.isLt).2.1 (ix2 p (col h d)) = headDg (slice (R := 512) (e := .f32) (iblk m c 0 t) h)
    (slice (R := 512) (e := .f32) (iblk m c 1 t) h) (slice (R := 512) (e := .f32) (iblk m c 4 t) h)
    (slice (R := 256) (e := .bf16) (iblk m c 2 t) h) (slice (R := 256) (e := .bf16) (iblk m c 3 t) h) (ix2 p d) := by
  by_cases h0 : t.val % 16 = 0
  · simp only [outsAt0_A m c t h0]; exact out_A_6 ..
  · simp only [outsAt0_B m c t h0]; exact out_B_6 ..

theorem outs_dk_zero (h0 : t.val % 16 = 0) : (outsAt0 m c t.val t.isLt).2.2.1 (ix2 n (col h d))
    = headDk (slice (R := 512) (e := .f32) (iblk m c 0 t) h) (slice (R := 512) (e := .f32) (iblk m c 1 t) h)
        (slice (R := 512) (e := .f32) (iblk m c 4 t) h) (slice (R := 256) (e := .bf16) (iblk m c 2 t) h)
        (slice (R := 256) (e := .bf16) (iblk m c 3 t) h) (slice k0_pay5 h) (ix2 n d) := by
  simp only [outsAt0_A m c t h0]; exact out_A_7 ..

theorem outs_dk_succ (h0 : ¬t.val % 16 = 0) : (outsAt0 m c t.val t.isLt).2.2.1 (ix2 n (col h d))
    = headDk (slice (R := 512) (e := .f32) (iblk m c 0 t) h) (slice (R := 512) (e := .f32) (iblk m c 1 t) h)
        (slice (R := 512) (e := .f32) (iblk m c 4 t) h) (slice (R := 256) (e := .bf16) (iblk m c 2 t) h)
        (slice (R := 256) (e := .bf16) (iblk m c 3 t) h)
        (slice (outsAt0 m c (t.val - 1) (Nat.lt_of_le_of_lt (Nat.sub_le _ _) t.isLt)).2.2.1 h) (ix2 n d) := by
  simp only [outsAt0_B m c t h0]; exact out_B_7 ..

theorem outs_dv_zero (h0 : t.val % 16 = 0) : (outsAt0 m c t.val t.isLt).2.2.2 (ix2 n (col h d))
    = headDv (slice (R := 512) (e := .f32) (iblk m c 0 t) h) (slice (R := 512) (e := .f32) (iblk m c 1 t) h)
        (slice (R := 512) (e := .f32) (iblk m c 4 t) h) (slice (R := 256) (e := .bf16) (iblk m c 2 t) h) (slice k0_pay6 h) (ix2 n d) := by
  simp only [outsAt0_A m c t h0]; exact out_A_8 ..

theorem outs_dv_succ (h0 : ¬t.val % 16 = 0) : (outsAt0 m c t.val t.isLt).2.2.2 (ix2 n (col h d))
    = headDv (slice (R := 512) (e := .f32) (iblk m c 0 t) h) (slice (R := 512) (e := .f32) (iblk m c 1 t) h)
        (slice (R := 512) (e := .f32) (iblk m c 4 t) h) (slice (R := 256) (e := .bf16) (iblk m c 2 t) h)
        (slice (outsAt0 m c (t.val - 1) (Nat.lt_of_le_of_lt (Nat.sub_le _ _) t.isLt)).2.2.2 h) (ix2 n d) := by
  simp only [outsAt0_B m c t h0]; exact out_B_8 ..

/-- The row of the array that row `p` of the block of point `t` is. -/
abbrev row (t : ℕ) (p : Fin 512) : Fin 8192 := Reals.rowOf 8192 (t * 512 + p.val)

theorem row_val : (row t.val p).val = t.val * 512 + p.val :=
  Reals.rowOf_lt (by have : t.val < 16 := t.isLt; omega)

/-- Which block each window has at point `t`. -/
theorem index0 : ∀ t : Fin cfg0.N, win0_0.index t 0 = t.val ∧ win0_0.index t 1 = 6 := (by decide +kernel : ∀ t : Fin grid0.N, _)
theorem index1 : ∀ t : Fin cfg0.N, win0_1.index t 0 = t.val ∧ win0_1.index t 1 = 7 := (by decide +kernel : ∀ t : Fin grid0.N, _)
theorem index2 : ∀ t : Fin cfg0.N, win0_2.index t 0 = 0 ∧ win0_2.index t 1 = 0 := (by decide +kernel : ∀ t : Fin grid0.N, _)
theorem index3 : ∀ t : Fin cfg0.N, win0_3.index t 0 = 0 ∧ win0_3.index t 1 = 1 := (by decide +kernel : ∀ t : Fin grid0.N, _)
theorem index4 : ∀ t : Fin cfg0.N, win0_4.index t 0 = t.val ∧ win0_4.index t 1 = 3 := (by decide +kernel : ∀ t : Fin grid0.N, _)
theorem index5 : ∀ t : Fin cfg0.N, win0_5.index t 0 = t.val ∧ win0_5.index t 1 = 0 := (by decide +kernel : ∀ t : Fin grid0.N, _)
theorem index6 : ∀ t : Fin cfg0.N, win0_6.index t 0 = t.val ∧ win0_6.index t 1 = 0 := (by decide +kernel : ∀ t : Fin grid0.N, _)
theorem index7 : ∀ t : Fin cfg0.N, win0_7.index t 0 = 0 ∧ win0_7.index t 1 = 0 := (by decide +kernel : ∀ t : Fin grid0.N, _)
theorem index8 : ∀ t : Fin cfg0.N, win0_8.index t 0 = 0 ∧ win0_8.index t 1 = 0 := (by decide +kernel : ∀ t : Fin grid0.N, _)
end Points

section Final
variable (m : (ℓ : Loc nD τ sig) → Buf (Elt Ideal) ℓ) (c : Dev nD) (t : Fin cfg0.N) (p : Fin 512) (n : Fin 256) (j : Fin 512)
  (h : Fin 4) (d : Fin 128)

abbrev A0 : Vec Ideal S8192x4096 .f32 := m ((c : Thread nD τ).loc main_arg0)
abbrev A1 : Vec Ideal S256x4096 .f32 := m ((c : Thread nD τ).loc main_arg1)
abbrev A2 : Vec Ideal S8192x2048 .f32 := m ((c : Thread nD τ).loc main_arg2)

theorem emb0 : ((cfg0.win 0).blk t).view.emb (ix2 p j) = (ix2 (row t.val p) ⟨3072 + j.val, by omega⟩ : S8192x4096.Idx) := by
  funext a
  apply Fin.ext
  match a with
  | ⟨0, _⟩ => show win0_0.index t 0 * 512 + 1 * p.val = (row t.val p).val; rw [(index0 t).1, row_val]; omega
  | ⟨1, _⟩ => show win0_0.index t 1 * 512 + 1 * j.val = 3072 + j.val; rw [(index0 t).2]; omega
theorem emb1 : ((cfg0.win 1).blk t).view.emb (ix2 p j) = (ix2 (row t.val p) ⟨3584 + j.val, by omega⟩ : S8192x4096.Idx) := by
  funext a
  apply Fin.ext
  match a with
  | ⟨0, _⟩ => show win0_1.index t 0 * 512 + 1 * p.val = (row t.val p).val; rw [(index1 t).1, row_val]; omega
  | ⟨1, _⟩ => show win0_1.index t 1 * 512 + 1 * j.val = 3584 + j.val; rw [(index1 t).2]; omega
theorem emb4 : ((cfg0.win 4).blk t).view.emb (ix2 p j) = (ix2 (row t.val p) ⟨1536 + j.val, by omega⟩ : S8192x2048.Idx) := by
  funext a
  apply Fin.ext
  match a with
  | ⟨0, _⟩ => show win0_4.index t 0 * 512 + 1 * p.val = (row t.val p).val; rw [(index4 t).1, row_val]; omega
  | ⟨1, _⟩ => show win0_4.index t 1 * 512 + 1 * j.val = 1536 + j.val; rw [(index4 t).2]; omega
theorem emb2 : ((cfg0.win 2).blk t).view.emb (ix2 n j) = (ix2 n ⟨j.val, by omega⟩ : S256x4096.Idx) := by
  funext a
  apply Fin.ext
  match a with
  | ⟨0, _⟩ => show win0_2.index t 0 * 256 + 1 * n.val = n.val; rw [(index2 t).1]; omega
  | ⟨1, _⟩ => show win0_2.index t 1 * 512 + 1 * j.val = j.val; rw [(index2 t).2]; omega
theorem emb3 : ((cfg0.win 3).blk t).view.emb (ix2 n j) = (ix2 n ⟨512 + j.val, by omega⟩ : S256x4096.Idx) := by
  funext a
  apply Fin.ext
  match a with
  | ⟨0, _⟩ => show win0_3.index t 0 * 256 + 1 * n.val = n.val; rw [(index3 t).1]; omega
  | ⟨1, _⟩ => show win0_3.index t 1 * 512 + 1 * j.val = 512 + j.val; rw [(index3 t).2]; omega
theorem emb5 : ((cfg0.win 5).blk t).view.emb (ix2 p j) = (ix2 (row t.val p) j : S8192x512.Idx) := by
  funext a
  apply Fin.ext
  match a with
  | ⟨0, _⟩ => show win0_5.index t 0 * 512 + 1 * p.val = (row t.val p).val; rw [(index5 t).1, row_val]; omega
  | ⟨1, _⟩ => show win0_5.index t 1 * 512 + 1 * j.val = j.val; rw [(index5 t).2]; omega
theorem emb6 : ((cfg0.win 6).blk t).view.emb (ix2 p j) = (ix2 (row t.val p) j : S8192x512.Idx) := by
  funext a
  apply Fin.ext
  match a with
  | ⟨0, _⟩ => show win0_6.index t 0 * 512 + 1 * p.val = (row t.val p).val; rw [(index6 t).1, row_val]; omega
  | ⟨1, _⟩ => show win0_6.index t 1 * 512 + 1 * j.val = j.val; rw [(index6 t).2]; omega
theorem emb7 : ((cfg0.win 7).blk t).view.emb (ix2 n j) = (ix2 n j : S256x512.Idx) := by
  funext a
  apply Fin.ext
  match a with
  | ⟨0, _⟩ => show win0_7.index t 0 * 256 + 1 * n.val = n.val; rw [(index7 t).1]; omega
  | ⟨1, _⟩ => show win0_7.index t 1 * 512 + 1 * j.val = j.val; rw [(index7 t).2]; omega
theorem emb8 : ((cfg0.win 8).blk t).view.emb (ix2 n j) = (ix2 n j : S256x512.Idx) := by
  funext a
  apply Fin.ext
  match a with
  | ⟨0, _⟩ => show win0_8.index t 0 * 256 + 1 * n.val = n.val; rw [(index8 t).1]; omega
  | ⟨1, _⟩ => show win0_8.index t 1 * 512 + 1 * j.val = j.val; rw [(index8 t).2]; omega

/-- The keys and values the region reads are the argument's, rounded by the host: over the reals, the argument's. -/
theorem V_memkv : Gen.V m c main_v0 = A1 m c := by
  refine Eq.trans (b := (truncf .bf16 (A1 m c : FVec Ideal S256x4096 .f32) bitsLt_bf16_f32 : FVec Ideal S256x4096 .bf16)) ?_ (funext fun i => ?_)
  · dsimp only [Gen.V, hostOps0]
    after_results_simp <;> rfl
  · rw [eq_ix2 i]
    pointwise []

theorem block_q : rowAt (slice (R := 512) (e := .f32) (iblk m c 0 t) h) p = Q (A0 m c) (row t.val p) h := by
  funext d
  refine Eq.trans ?_ (congrFun (V_main_arg0 m c) _)
  show iblk m c 0 t (ix2 p (col h d)) = _
  unfold iblk
  rw [View.read_apply]
  exact congrArg (Gen.V m c main_arg0) (emb0 t p (col h d))
theorem block_g : rowAt (slice (R := 512) (e := .f32) (iblk m c 1 t) h) p = G (A0 m c) (row t.val p) h := by
  funext d
  refine Eq.trans ?_ (congrFun (V_main_arg0 m c) _)
  show iblk m c 1 t (ix2 p (col h d)) = _
  unfold iblk
  rw [View.read_apply]
  exact congrArg (Gen.V m c main_arg0) (emb1 t p (col h d))
theorem block_d : rowAt (slice (R := 512) (e := .f32) (iblk m c 4 t) h) p = D (A2 m c) (row t.val p) h := by
  funext d
  refine Eq.trans ?_ (congrFun (V_main_arg2 m c) _)
  show iblk m c 4 t (ix2 p (col h d)) = _
  unfold iblk
  rw [View.read_apply]
  exact congrArg (Gen.V m c main_arg2) (emb4 t p (col h d))
theorem block_k : rowAt (slice (R := 256) (e := .bf16) (iblk m c 2 t) h) n = fun d => K (A1 m c) h d n := by
  funext d
  refine Eq.trans ?_ (congrFun (V_memkv m c) _)
  show iblk m c 2 t (ix2 n (col h d)) = _
  unfold iblk
  rw [View.read_apply]
  exact congrArg (Gen.V m c main_v0) (emb2 t n (col h d))
theorem block_v : rowAt (slice (R := 256) (e := .bf16) (iblk m c 3 t) h) n = fun d => V (A1 m c) h d n := by
  funext d
  refine Eq.trans ?_ (congrFun (V_memkv m c) _)
  show iblk m c 3 t (ix2 n (col h d)) = _
  unfold iblk
  rw [View.read_apply]
  exact congrArg (Gen.V m c main_v0) (emb3 t n (col h d))

theorem block_P : probAt (slice (R := 512) (e := .f32) (iblk m c 0 t) h) (slice (R := 256) (e := .bf16) (iblk m c 2 t) h) p
    = P (A0 m c) (A1 m c) (row t.val p) h := by
  unfold probAt P
  rw [block_q]
  simp only [block_k]

theorem block_C : cotAt (slice (R := 512) (e := .f32) (iblk m c 1 t) h) (slice (R := 512) (e := .f32) (iblk m c 4 t) h) p
    = C (A0 m c) (A2 m c) (row t.val p) h :=
  funext fun d => congrArg₂ outCot (congrFun (block_g m c t p h) d) (congrFun (block_d m c t p h) d)

theorem point_dq : (outsAt0 m c t.val t.isLt).1 (ix2 p (col h d)) = dq (A0 m c) (A1 m c) (A2 m c) (row t.val p) h d := by
  rw [outs_dq, dq_at, block_P, block_C]
  simp only [block_v]
  exact Finset.sum_congr rfl fun n _ => congrArg (_ * ·) (congrFun (block_k m c t n h) d)

theorem point_dg : (outsAt0 m c t.val t.isLt).2.1 (ix2 p (col h d)) = dg (A0 m c) (A1 m c) (A2 m c) (row t.val p) h d := by
  rw [outs_dg, dg_at, block_P]
  refine congr (congrArg₂ gateOf (Finset.sum_congr rfl fun n _ => congrArg (_ * ·) (congrFun (block_v m c t n h) d))
    (congrFun (block_g m c t p h) d)) (congrFun (block_d m c t p h) d)

/-- What a row adds to the keys' and to the values' gradient. -/
def dkTerm (r : Fin 8192) : EReal := S (A0 m c) (A1 m c) (A2 m c) r h n * Q (A0 m c) r h d
def dvTerm (r : Fin 8192) : EReal := P (A0 m c) (A1 m c) r h n * C (A0 m c) (A2 m c) r h d

theorem point_dk (acc : Vec Ideal S256x128 .f32) : headDk (slice (R := 512) (e := .f32) (iblk m c 0 t) h)
      (slice (R := 512) (e := .f32) (iblk m c 1 t) h) (slice (R := 512) (e := .f32) (iblk m c 4 t) h)
      (slice (R := 256) (e := .bf16) (iblk m c 2 t) h) (slice (R := 256) (e := .bf16) (iblk m c 3 t) h) acc (ix2 n d)
    = acc (ix2 n d) + ∑ p : Fin 512, dkTerm m c n h d (row t.val p) := by
  rw [dk_at]
  refine congrArg (_ + ·) (Finset.sum_congr rfl fun p _ => ?_)
  rw [block_P, block_C]
  simp only [block_v]
  exact congrArg (_ * ·) (congrFun (block_q m c t p h) d)

theorem point_dv (acc : Vec Ideal S256x128 .f32) : headDv (slice (R := 512) (e := .f32) (iblk m c 0 t) h)
      (slice (R := 512) (e := .f32) (iblk m c 1 t) h) (slice (R := 512) (e := .f32) (iblk m c 4 t) h)
      (slice (R := 256) (e := .bf16) (iblk m c 2 t) h) acc (ix2 n d)
    = acc (ix2 n d) + ∑ p : Fin 512, dvTerm m c n h d (row t.val p) := by
  rw [dv_at]
  refine congrArg (_ + ·) (Finset.sum_congr rfl fun p _ => ?_)
  rw [block_P, block_C]
  rfl

theorem zero5 : slice (F := Ideal) (R := 256) (e := .f32) (k0_pay5 (F := Ideal)) h (ix2 n d) = 0 := by
  show k0_pay5 (F := Ideal) (ix2 n (col h d)) = 0
  pointwise [k0_pay5]
theorem zero6 : slice (F := Ideal) (R := 256) (e := .f32) (k0_pay6 (F := Ideal)) h (ix2 n d) = 0 := by
  show k0_pay6 (F := Ideal) (ix2 n (col h d)) = 0
  pointwise [k0_pay6]

/-- The running sums after point `s`. -/
theorem outs_dk : ∀ (s : ℕ) (hs : s < cfg0.N), (outsAt0 m c s hs).2.2.1 (ix2 n (col h d))
    = ∑ s ∈ Finset.range (s + 1), ∑ p : Fin 512, dkTerm m c n h d (row s p)
  | 0, hs => by
    rw [outs_dk_zero m c ⟨0, hs⟩ n h d rfl, point_dk, zero5]
    simp
  | s + 1, hs => by
    have h16 : s + 1 < 16 := hs
    rw [outs_dk_succ m c ⟨s + 1, hs⟩ n h d (by dsimp only; omega), point_dk, Finset.sum_range_succ _ (s + 1)]
    exact congrArg (· + _) (outs_dk s (Nat.lt_of_succ_lt hs))

theorem outs_dv : ∀ (s : ℕ) (hs : s < cfg0.N), (outsAt0 m c s hs).2.2.2 (ix2 n (col h d))
    = ∑ s ∈ Finset.range (s + 1), ∑ p : Fin 512, dvTerm m c n h d (row s p)
  | 0, hs => by
    rw [outs_dv_zero m c ⟨0, hs⟩ n h d rfl, point_dv, zero6]
    simp
  | s + 1, hs => by
    have h16 : s + 1 < 16 := hs
    rw [outs_dv_succ m c ⟨s + 1, hs⟩ n h d (by dsimp only; omega), point_dv, Finset.sum_range_succ _ (s + 1)]
    exact congrArg (· + _) (outs_dv s (Nat.lt_of_succ_lt hs))

/-- All blocks' rows are the array's. -/
theorem sum_rows (f : Fin 8192 → EReal) : ∑ s ∈ Finset.range (15 + 1), ∑ p : Fin 512, f (row s p) = ∑ r, f r := by
  refine (Reals.sum_blocks 16 512 (k := 8192) rfl fun n => f (Reals.rowOf 8192 n)).trans ?_
  simp only [Reals.rowOf_val]

/-! ## The final arrays -/

theorem cover5 (i : S8192x512.Idx) : ∃ t : Fin cfg0.N, i ∈ ((View.whole main_v1_0).slice (win0_5.rect t)).set := by
  have h0 : (i 0 : Nat) < 8192 := (i 0).isLt
  have h1 : (i 1 : Nat) < 512 := (i 1).isLt
  refine ⟨⟨(i 0 : Nat) / 512, by show _ < 16; omega⟩, ?_⟩
  rw [View.set_slice_whole, Rect.mem_set_unit]
  intro a
  match a with
  | ⟨0, _⟩ =>
    show win0_5.index _ 0 * 512 ≤ (i 0 : Nat) ∧ (i 0 : Nat) < win0_5.index _ 0 * 512 + 512
    rw [(index5 _).1]; dsimp only; omega
  | ⟨1, _⟩ =>
    show win0_5.index _ 1 * 512 ≤ (i 1 : Nat) ∧ (i 1 : Nat) < win0_5.index _ 1 * 512 + 512
    rw [(index5 _).2]; omega

theorem cover6 (i : S8192x512.Idx) : ∃ t : Fin cfg0.N, i ∈ ((View.whole main_v1_1).slice (win0_6.rect t)).set := cover5 i

theorem cover7 (i : S256x512.Idx) : i ∈ ((View.whole main_v1_2).slice (win0_7.rect t)).set := by
  have h0 : (i 0 : Nat) < 256 := (i 0).isLt
  have h1 : (i 1 : Nat) < 512 := (i 1).isLt
  rw [View.set_slice_whole, Rect.mem_set_unit]
  intro a
  match a with
  | ⟨0, _⟩ =>
    show win0_7.index t 0 * 256 ≤ (i 0 : Nat) ∧ (i 0 : Nat) < win0_7.index t 0 * 256 + 256
    rw [(index7 t).1]; omega
  | ⟨1, _⟩ =>
    show win0_7.index t 1 * 512 ≤ (i 1 : Nat) ∧ (i 1 : Nat) < win0_7.index t 1 * 512 + 512
    rw [(index7 t).2]; omega

theorem cover8 (i : S256x512.Idx) : i ∈ ((View.whole main_v1_3).slice (win0_8.rect t)).set := cover7 t i

theorem final_dq : (dats m 0 c).arrAt 5 cfg0.N = dqOf (A0 m c) (A1 m c) (A2 m c) :=
  (dats m 0 c).arrAt_eq_of_cover 5 _ (fun t _ => by
      rw [Value.flushed5]
      funext j
      obtain ⟨p, k, rfl⟩ : ∃ (p : Fin 512) (k : Fin 512), j = (ix2 p k : S512x512.Idx) := ⟨j 0, j 1, eq_ix2 j⟩
      rw [View.read_apply, eq_col k]
      refine (point_dq m c t p _ _).trans ((dqOf_col (A0 m c) (A1 m c) (A2 m c) (row t.val p) _ _).symm.trans ?_)
      generalize dqOf (A0 m c) (A1 m c) (A2 m c) = W
      exact congrArg W (emb5 t p _).symm)
    fun i => let ⟨t, h⟩ := cover5 i; ⟨t, flush0_5 t, h⟩

theorem final_dg : (dats m 0 c).arrAt 6 cfg0.N = dgOf (A0 m c) (A1 m c) (A2 m c) :=
  (dats m 0 c).arrAt_eq_of_cover 6 _ (fun t _ => by
      rw [Value.flushed6]
      funext j
      obtain ⟨p, k, rfl⟩ : ∃ (p : Fin 512) (k : Fin 512), j = (ix2 p k : S512x512.Idx) := ⟨j 0, j 1, eq_ix2 j⟩
      rw [View.read_apply, eq_col k]
      refine (point_dg m c t p _ _).trans ((dgOf_col (A0 m c) (A1 m c) (A2 m c) (row t.val p) _ _).symm.trans ?_)
      generalize dgOf (A0 m c) (A1 m c) (A2 m c) = W
      exact congrArg W (emb6 t p _).symm)
    fun i => let ⟨t, h⟩ := cover6 i; ⟨t, flush0_6 t, h⟩

theorem last_point {t : Fin cfg0.N} (h : t.val % 16 = 15) : t.val = 15 := by
  have : t.val < 16 := t.isLt
  omega

theorem last_dk (ht : t.val = 15) : (outsAt0 m c t.val t.isLt).2.2.1 (ix2 n (col h d)) = dkOf (A0 m c) (A1 m c) (A2 m c) (ix2 n (col h d)) := by
  rw [dkOf_col]
  refine (outs_dk m c n h d t.val t.isLt).trans ?_
  rw [ht, sum_rows]
  rfl

theorem last_dv (ht : t.val = 15) : (outsAt0 m c t.val t.isLt).2.2.2 (ix2 n (col h d)) = dvOf (A0 m c) (A1 m c) (A2 m c) (ix2 n (col h d)) := by
  rw [dvOf_col]
  refine (outs_dv m c n h d t.val t.isLt).trans ?_
  rw [ht, sum_rows]
  rfl

theorem final_dk : (dats m 0 c).arrAt 7 cfg0.N = dkOf (A0 m c) (A1 m c) (A2 m c) :=
  (dats m 0 c).arrAt_eq_of_cover 7 _ (fun t hf => by
      rw [Value.flushed7]
      funext j
      obtain ⟨n, k, rfl⟩ : ∃ (n : Fin 256) (k : Fin 512), j = (ix2 n k : S256x512.Idx) := ⟨j 0, j 1, eq_ix2 j⟩
      rw [View.read_apply, eq_col k]
      have h := last_dk m c t n ⟨k.val / 128, by omega⟩ ⟨k.val % 128, by omega⟩ (last_point ((flush0_7 t).mp hf))
      generalize dkOf (A0 m c) (A1 m c) (A2 m c) = W at h ⊢
      exact h.trans (congrArg W (emb7 t n _).symm))
    fun i => ⟨⟨15, show 15 < 16 by omega⟩, (flush0_7 _).mpr rfl, cover7 _ i⟩

theorem final_dv : (dats m 0 c).arrAt 8 cfg0.N = dvOf (A0 m c) (A1 m c) (A2 m c) :=
  (dats m 0 c).arrAt_eq_of_cover 8 _ (fun t hf => by
      rw [Value.flushed8]
      funext j
      obtain ⟨n, k, rfl⟩ : ∃ (n : Fin 256) (k : Fin 512), j = (ix2 n k : S256x512.Idx) := ⟨j 0, j 1, eq_ix2 j⟩
      rw [View.read_apply, eq_col k]
      have h := last_dv m c t n ⟨k.val / 128, by omega⟩ ⟨k.val % 128, by omega⟩ (last_point ((flush0_8 t).mp hf))
      generalize dvOf (A0 m c) (A1 m c) (A2 m c) = W at h ⊢
      exact h.trans (congrArg W (emb8 t n _).symm))
    fun i => ⟨⟨15, show 15 < 16 by omega⟩, (flush0_8 _).mpr rfl, cover8 _ i⟩
end Final
end Cert.Mem
end
-- ==== Proof.MemRef.lean ====
/- The derivative of the memory attention, read operation by operation: on finite arguments the reference's results are
   the arrays the kernel leaves. The reference divides the exponentials' cotangent by the row sum and subtracts the row
   sum's own cotangent; the kernel multiplies the softmax by the centred cotangent: the same real number. -/
module

public import proofs.«01_k».proof.Defs
public import proofs.«01_k».proof.Proof.MemKernel
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_mem_finite
public import Idealize.ShloMosaic.Lib.ReduceAll

@[expose] public section

noncomputable section

namespace Cert.Mem

open Idealize.ShloMosaic Idealize.ShloMosaic.TcCoe Idealize.SL.Sem Cert.Reference3Ideal Cert.Reference3Ideal.Gen Cert.Reference3Ideal.Read Cert.Reals
open scoped BigOperators

/-- The scale of the scores: the value of the word nearest to `1/√128`. -/
def lam : ℝ := 11863283 / 2 ^ 27

theorem lit_lam : Ideal.ofBits .f32 1035273459#32 = (lam : EReal) := by
  unfold lam
  simp [Ideal.ofBits, Ideal.ieee, -EReal.coe_mul]; norm_num

theorem exp_real (x : ℝ) : Ideal.exp (x : EReal) = ((Real.exp x : ℝ) : EReal) := rfl

/-- The maximum of a row of real numbers, from minus infinity, is a real number. -/
theorem fold_max_real (s : Fin 256 → ℝ) :
    ∃ M : ℝ, Finset.fold max (Ideal.ofBits .f32 4286578688#32) (fun x => (s x : EReal)) Finset.univ = (M : EReal) := by
  rw [lit_neg_inf]
  have key : ∀ t : Finset (Fin 256), t.Nonempty → ∃ M : ℝ, Finset.fold max (⊥ : EReal) (fun x => (s x : EReal)) t = (M : EReal) := by
    intro t ht
    induction ht using Finset.Nonempty.cons_induction with
    | singleton a => exact ⟨s a, by rw [Finset.fold_singleton]; exact max_eq_left bot_le⟩
    | cons a t ha _ ih =>
      obtain ⟨M, hM⟩ := ih
      exact ⟨max (s a) M, by rw [Finset.fold_cons, hM, max_real]⟩
  exact key _ Finset.univ_nonempty

/-! ## One row -/

section Row
variable (q o : Fin 128 → ℝ) (k v : Fin 256 → Fin 128 → ℝ) (n : Fin 256)

def scoreR : ℝ := (∑ x, q x * k n x) * lam
def massR : ℝ := ∑ n, Real.exp (scoreR q k n)
def probR : ℝ := Real.exp (scoreR q k n) / massR q k

theorem massR_pos : 0 < massR q k := Finset.sum_pos (fun _ _ => Real.exp_pos _) Finset.univ_nonempty

theorem score_coe : scoreOf (fun x => (q x : EReal)) (fun n x => (k n x : EReal)) n = (scoreR q k n : EReal) := by
  unfold scoreOf scoreR
  simp only [lit_lam, ← EReal.coe_mul, sum_coe]

theorem prob_shift (s : Fin 256 → ℝ) (M : ℝ) :
    Real.exp (s n - M) / ∑ x, Real.exp (s x - M) = Real.exp (s n) / ∑ x, Real.exp (s x) := by
  simp only [Real.exp_sub, ← Finset.sum_div]
  rw [div_div_div_cancel_right₀ (Real.exp_pos M).ne']

theorem prob_coe : probOf (scoreOf (fun x => (q x : EReal)) (fun n x => (k n x : EReal))) n = (probR q k n : EReal) := by
  obtain ⟨M, hM⟩ := fold_max_real (scoreR q k)
  have hs : scoreOf (fun x => (q x : EReal)) (fun n x => (k n x : EReal)) = fun n => (scoreR q k n : EReal) :=
    funext fun n => score_coe q k n
  unfold probOf
  rw [hs, hM]
  simp only [← EReal.coe_sub, exp_real, sum_coe]
  rw [div_real _ (Finset.sum_pos (fun _ _ => Real.exp_pos _) Finset.univ_nonempty).ne', prob_shift]
  rfl

/-- The score's cotangent. -/
def dsR : ℝ := probR q k n * (∑ x, o x * v n x - ∑ x, (∑ y, o y * v x y) * probR q k x) * lam

theorem ds_coe : dsOf (probOf (scoreOf (fun x => (q x : EReal)) (fun n x => (k n x : EReal)))) (fun n x => (v n x : EReal))
    (fun x => (o x : EReal)) n = (dsR q o k v n : EReal) := by
  unfold dsOf dsR
  simp only [prob_coe, lit_lam, ← EReal.coe_mul, sum_coe, ← EReal.coe_sub]

end Row

/-- The logistic function of the gate, and the gate's values. -/
def sig (g : ℝ) : ℝ := 1 / (1 + Real.exp (-g))

theorem sig_coe (g : ℝ) : Ideal.div 1 (1 + Ideal.exp (-(g : EReal))) = (sig g : EReal) := by
  have h : (1 : EReal) = ((1 : ℝ) : EReal) := rfl
  rw [h, ← EReal.coe_neg, exp_real, ← EReal.coe_add, div_real _ (by positivity)]
  rfl

theorem outCot_coe (g dy : ℝ) : outCot (g : EReal) (dy : EReal) = ((dy * (g * sig g) : ℝ) : EReal) := by
  unfold outCot
  rw [zero_sub, sig_coe, ← EReal.coe_mul, ← EReal.coe_mul]

theorem gateOf_coe (o g dy : ℝ) :
    gateOf (o : EReal) (g : EReal) (dy : EReal) = ((dy * o * (sig g * (1 + g * (1 - sig g))) : ℝ) : EReal) := by
  have h : (1 : EReal) = ((1 : ℝ) : EReal) := rfl
  unfold gateOf
  rw [zero_sub, sig_coe, h]
  simp only [← EReal.coe_mul, ← EReal.coe_sub, ← EReal.coe_add]

/-! ## The reference -/

section Ref
variable (X0 : S8192x4096.Idx → ℝ) (X1 : S256x4096.Idx → ℝ) (X2 : S8192x2048.Idx → ℝ)
  (r : Fin 8192) (h : Fin 4) (d : Fin 128) (n : Fin 256)

/-- Real arrays as arrays of the program. -/
abbrev u0 : Vec Ideal S8192x4096 .f32 := fun i => (X0 i : EReal)
abbrev u1 : Vec Ideal S256x4096 .f32 := fun i => (X1 i : EReal)
abbrev u2 : Vec Ideal S8192x2048 .f32 := fun i => (X2 i : EReal)

def qR : ℝ := X0 (ix2 r ⟨3072 + (col h d).val, by omega⟩)
def gR : ℝ := X0 (ix2 r ⟨3584 + (col h d).val, by omega⟩)
def yR : ℝ := X2 (ix2 r ⟨1536 + (col h d).val, by omega⟩)
def kR : ℝ := X1 (ix2 n ⟨(col h d).val, by omega⟩)
def vR : ℝ := X1 (ix2 n ⟨512 + (col h d).val, by omega⟩)

abbrev keys : Fin 256 → Fin 128 → ℝ := fun n d => kR X1 h d n
abbrev vals : Fin 256 → Fin 128 → ℝ := fun n d => vR X1 h d n
def oR : ℝ := yR X2 r h d * (gR X0 r h d * sig (gR X0 r h d))

/-- A stage at an element of a head. -/
theorem ref_q : val_main_v4 (F := Ideal) (u0 X0) (ix3 r h d) = (qR X0 r h d : EReal) := by
  pointwise [val_main_v4, val_main_v0]
  rfl
theorem ref_k : val_main_v5 (F := Ideal) (u1 X1) (ix3 n h d) = (kR X1 h d n : EReal) := by
  pointwise [val_main_v5, val_main_v2]
  rfl
theorem ref_v : val_main_v6 (F := Ideal) (u1 X1) (ix3 n h d) = (vR X1 h d n : EReal) := by
  pointwise [val_main_v6, val_main_v3]
  rfl

theorem ref_score : val_main_v9 (F := Ideal) (u0 X0) (u1 X1) (ix3 h r n) = (scoreR (qR X0 r h) (keys X1 h) n : EReal) := by
  pointwise [val_main_v9, val_main_v8, val_main_v7, val_main_cst]
  simp only [ref_q, ref_k, lit_lam, ← EReal.coe_mul, sum_coe]
  rfl

theorem max_row (W : Vec Ideal S4x8192x256 .f32) :
    Host.reduce FloatOps.maximumf W (val_main_cst_0 (F := Ideal)) reducesTo_S4x8192x256_S4x8192_d2 h_S_ (ix2 h r)
      = Finset.fold max (Ideal.ofBits .f32 4286578688#32) (fun n => W (ix3 h r n)) Finset.univ := by
  pointwise [val_main_cst_0]

theorem max_bot (W : Vec Ideal S4x8192 .f32) :
    maximumf (val_main_v16 (F := Ideal)) W (ix2 h r) = max (Ideal.ofBits .f32 4286578688#32) (W (ix2 h r)) := by
  pointwise [val_main_v16, val_main_cst_2]

theorem exp_stage (W : FVec Ideal S4x8192x256 .f32) (M : FVec Ideal S4x8192 .f32) :
    (Host.exp (subf W (broadcastInDim S4x8192x256 ![0, 1, 2] bcast_S4x8192x1_S4x8192x256_0_1_2
        (broadcastInDim S4x8192x1 ![0, 1] bcast_S4x8192_S4x8192x1_0_1 M : FVec Ideal S4x8192x1 .f32))) : FVec Ideal S4x8192x256 .f32) (ix3 h r n)
      = Ideal.exp (W (ix3 h r n) - M (ix2 h r)) := by
  pointwise []

theorem ref_max : ∃ M : ℝ, val_main_v17 (F := Ideal) (u0 X0) (u1 X1) (ix2 h r) = (M : EReal) := by
  obtain ⟨M, hM⟩ := fold_max_real (scoreR (qR X0 r h) (keys X1 h))
  refine ⟨M, ?_⟩
  have h10 : val_main_v10 (F := Ideal) (u0 X0) (u1 X1) (ix2 h r) = (M : EReal) := by
    refine (max_row r h (val_main_v9 (F := Ideal) (u0 X0) (u1 X1))).trans ?_
    simp only [ref_score, hM]
  refine (max_bot r h (val_main_v10 (F := Ideal) (u0 X0) (u1 X1))).trans ?_
  rw [h10, lit_neg_inf]
  exact max_eq_right bot_le

/-- The exponentials, shifted by the row's maximum `M`, and their sum. -/
theorem ref_exp {M : ℝ} (hM : val_main_v17 (F := Ideal) (u0 X0) (u1 X1) (ix2 h r) = (M : EReal)) :
    val_main_v30 (F := Ideal) (u0 X0) (u1 X1) (ix3 h r n) = (Real.exp (scoreR (qR X0 r h) (keys X1 h) n - M) : EReal) := by
  refine (exp_stage r h n (val_main_v9 (F := Ideal) (u0 X0) (u1 X1)) (val_main_v17 (F := Ideal) (u0 X0) (u1 X1))).trans ?_
  rw [hM, ref_score, ← EReal.coe_sub, exp_real]

theorem ref_sum {M : ℝ} (hM : val_main_v17 (F := Ideal) (u0 X0) (u1 X1) (ix2 h r) = (M : EReal)) :
    val_main_v32 (F := Ideal) (u0 X0) (u1 X1) (ix3 h r 0)
      = ((∑ n, Real.exp (scoreR (qR X0 r h) (keys X1 h) n - M) : ℝ) : EReal) := by
  pointwise [val_main_v32, val_main_v31, val_main_cst_8]
  simp only [ref_exp X0 X1 r h _ hM, sum_coe]

theorem sum_pos' (s : Fin 256 → ℝ) (M : ℝ) : 0 < ∑ n, Real.exp (s n - M) :=
  Finset.sum_pos (fun _ _ => Real.exp_pos _) Finset.univ_nonempty

theorem ref_prob : val_main_v34 (F := Ideal) (u0 X0) (u1 X1) (ix3 h r n) = (probR (qR X0 r h) (keys X1 h) n : EReal) := by
  obtain ⟨M, hM⟩ := ref_max X0 X1 r h
  pointwise [val_main_v34, val_main_v33]
  rw [ref_exp X0 X1 r h n hM, ref_sum X0 X1 r h hM, div_real _ (sum_pos' _ M).ne', prob_shift]
  rfl

theorem ref_cot : val_main_v48 (F := Ideal) (u0 X0) (u2 X2) (ix3 h d r) = (oR X0 X2 r h d : EReal) := by
  pointwise [val_main_v48, val_main_v47, val_main_v45, val_main_v43, val_main_v41_0, val_main_v1, val_main_v41_2, val_main_call0_v7,
    val_main_call0_v6, val_main_call0_cst_1, val_main_call0_v4, val_main_call0_cst_0, val_main_call0_v3, val_main_call0_v2,
    val_main_call0_cst, val_main_call0_v1, val_main_call0_v0]
  rw [sig_coe, ← EReal.coe_mul, ← EReal.coe_mul]
  rfl

/-- The score's cotangent, divided by the row sum and less the row sum's own cotangent. -/
theorem ds_real (e b : Fin 256 → ℝ) (l : ℝ) (hl : l ≠ 0) :
    (b n / l + -∑ x, b x * (1 / (l * l)) * e x) * e n * lam = e n / l * (b n - ∑ x, b x * (e x / l)) * lam := by
  have : ∑ x, b x * (1 / (l * l)) * e x = (∑ x, b x * (e x / l)) / l := by
    rw [Finset.sum_div]
    refine Finset.sum_congr rfl fun x _ => ?_
    field_simp
  rw [this]
  field_simp
  ring

theorem ref_dp : val_main_v49 (F := Ideal) (u0 X0) (u1 X1) (u2 X2) (ix3 h r n)
    = ((∑ x, oR X0 X2 r h x * vR X1 h x n : ℝ) : EReal) := by
  pointwise [val_main_v49]
  simp only [ref_cot, ref_v, ← EReal.coe_mul, sum_coe]

theorem ref_59 {M : ℝ} (hM : val_main_v17 (F := Ideal) (u0 X0) (u1 X1) (ix2 h r) = (M : EReal)) :
    val_main_v59 (F := Ideal) (u0 X0) (u1 X1) (u2 X2) (ix3 h r n)
      = (((∑ x, oR X0 X2 r h x * vR X1 h x n) / ∑ n, Real.exp (scoreR (qR X0 r h) (keys X1 h) n - M) : ℝ) : EReal) := by
  pointwise [val_main_v59, val_main_v58]
  rw [ref_dp, ref_sum X0 X1 r h hM, div_real _ (sum_pos' _ M).ne']

theorem ref_54 {M : ℝ} (hM : val_main_v17 (F := Ideal) (u0 X0) (u1 X1) (ix2 h r) = (M : EReal)) :
    val_main_v54 (F := Ideal) (u0 X0) (u1 X1) (u2 X2) (ix3 h r n)
      = (((∑ x, oR X0 X2 r h x * vR X1 h x n) * (1 / ((∑ n, Real.exp (scoreR (qR X0 r h) (keys X1 h) n - M))
          * ∑ n, Real.exp (scoreR (qR X0 r h) (keys X1 h) n - M))) * Real.exp (scoreR (qR X0 r h) (keys X1 h) n - M) : ℝ) : EReal) := by
  pointwise [val_main_v54, val_main_v53, val_main_v52, val_main_v37, val_main_v36, val_main_v35, val_main_cst_9]
  have h1 : (1 : EReal) = ((1 : ℝ) : EReal) := rfl
  rw [ref_dp, ref_sum X0 X1 r h hM, ref_exp X0 X1 r h n hM, h1, ← EReal.coe_mul, div_real _ (mul_pos (sum_pos' _ M) (sum_pos' _ M)).ne',
    ← EReal.coe_mul, ← EReal.coe_mul]

theorem ref_57 {M : ℝ} (hM : val_main_v17 (F := Ideal) (u0 X0) (u1 X1) (ix2 h r) = (M : EReal)) :
    val_main_v57 (F := Ideal) (u0 X0) (u1 X1) (u2 X2) (ix3 h r 0)
      = ((-∑ n, (∑ x, oR X0 X2 r h x * vR X1 h x n) * (1 / ((∑ n, Real.exp (scoreR (qR X0 r h) (keys X1 h) n - M))
          * ∑ n, Real.exp (scoreR (qR X0 r h) (keys X1 h) n - M))) * Real.exp (scoreR (qR X0 r h) (keys X1 h) n - M) : ℝ) : EReal) := by
  pointwise [val_main_v57, val_main_v56, val_main_v55, val_main_cst_10]
  simp only [ref_54 X0 X1 X2 r h _ hM, sum_coe, ← EReal.coe_neg]

theorem ref_ds : val_main_v65 (F := Ideal) (u0 X0) (u1 X1) (u2 X2) (ix3 h r n)
    = (dsR (qR X0 r h) (oR X0 X2 r h) (keys X1 h) (vals X1 h) n : EReal) := by
  obtain ⟨M, hM⟩ := ref_max X0 X1 r h
  pointwise [val_main_v65, val_main_v64, val_main_cst_12, val_main_v63, val_main_v62, val_main_v61, val_main_v60, val_main_cst_11]
  simp only [Fin.sum_univ_one]
  rw [ref_59 X0 X1 X2 r h n hM, ref_57 X0 X1 X2 r h hM, ref_exp X0 X1 r h n hM, lit_lam, ← EReal.coe_add, ← EReal.coe_mul, ← EReal.coe_mul]
  refine (congrArg _ (ds_real n (fun x => Real.exp (scoreR (qR X0 r h) (keys X1 h) x - M))
    (fun x => ∑ y, oR X0 X2 r h y * vR X1 h y x) _ (sum_pos' _ M).ne')).trans ?_
  simp only [prob_shift]
  rfl

/-- The programs' results at a column of a head. -/
theorem P_coe : P (u0 X0) (u1 X1) r h n = (probR (qR X0 r h) (keys X1 h) n : EReal) := prob_coe (qR X0 r h) (keys X1 h) n

theorem C_coe : C (u0 X0) (u2 X2) r h d = (oR X0 X2 r h d : EReal) := outCot_coe (gR X0 r h d) (yR X2 r h d)

theorem S_coe : S (u0 X0) (u1 X1) (u2 X2) r h n = (dsR (qR X0 r h) (oR X0 X2 r h) (keys X1 h) (vals X1 h) n : EReal) := by
  have hC : C (u0 X0) (u2 X2) r h = fun d => (oR X0 X2 r h d : EReal) := funext fun d => C_coe X0 X2 r h d
  unfold S
  rw [hC]
  exact ds_coe (qR X0 r h) (oR X0 X2 r h) (keys X1 h) (vals X1 h) n

theorem ref_dq (j : Fin 512) : val_main_v72 (F := Ideal) (u0 X0) (u1 X1) (u2 X2) (ix2 r j)
    = dq (u0 X0) (u1 X1) (u2 X2) r (hd j) (lo j) := by
  pointwise [val_main_v72, val_main_v69, val_main_v68]
  simp only [ref_ds, ref_k]
  exact Finset.sum_congr rfl fun n _ => congrArg (· * _) (S_coe X0 X1 X2 r (hd j) n).symm

theorem ref_dk (j : Fin 512) : val_main_v71 (F := Ideal) (u0 X0) (u1 X1) (u2 X2) (ix2 n j)
    = dk (u0 X0) (u1 X1) (u2 X2) (hd j) (lo j) n := by
  pointwise [val_main_v71, val_main_v67, val_main_v66]
  simp only [ref_ds, ref_q]
  exact Finset.sum_congr rfl fun r _ => congrArg (· * _) (S_coe X0 X1 X2 r (hd j) n).symm

theorem ref_dv (j : Fin 512) : val_main_v70 (F := Ideal) (u0 X0) (u1 X1) (u2 X2) (ix2 n j)
    = dv (u0 X0) (u1 X1) (u2 X2) (hd j) (lo j) n := by
  pointwise [val_main_v70, val_main_v51, val_main_v50]
  simp only [ref_cot, ref_prob]
  exact Finset.sum_congr rfl fun r _ => (mul_comm _ _).trans
    (congrArg₂ (· * ·) (P_coe X0 X1 r (hd j) n).symm (C_coe X0 X2 r (hd j) (lo j)).symm)

theorem ref_att (j : Fin 512) : val_main_v40 (F := Ideal) (u0 X0) (u1 X1) (ix2 r j)
    = ((∑ n, probR (qR X0 r (hd j)) (keys X1 (hd j)) n * vR X1 (hd j) (lo j) n : ℝ) : EReal) := by
  pointwise [val_main_v40, val_main_v39, val_main_v38]
  simp only [ref_v, ref_prob, ← EReal.coe_mul, sum_coe]
  exact congrArg _ (Finset.sum_congr rfl fun n _ => mul_comm _ _)

theorem gate_entry (j : Fin 512) : u0 X0 (ix2 r ⟨3584 + j.val, by omega⟩) = (gR X0 r (hd j) (lo j) : EReal) :=
  congrArg (u0 X0) (congrArg (ix2 r) (Fin.ext (congrArg (3584 + ·) (congrArg Fin.val (eq_col j)))))
theorem cot_entry (j : Fin 512) : u2 X2 (ix2 r ⟨1536 + j.val, by omega⟩) = (yR X2 r (hd j) (lo j) : EReal) :=
  congrArg (u2 X2) (congrArg (ix2 r) (Fin.ext (congrArg (1536 + ·) (congrArg Fin.val (eq_col j)))))

theorem ref_dg (j : Fin 512) : val_main_v46 (F := Ideal) (u0 X0) (u1 X1) (u2 X2) (ix2 r j)
    = dg (u0 X0) (u1 X1) (u2 X2) r (hd j) (lo j) := by
  pointwise [val_main_v46, val_main_call1_v2, val_main_call1_v1, val_main_call1_v0, val_main_v44, val_main_v43, val_main_v41_1,
    val_main_v41_2, val_main_call0_v7, val_main_call0_v6, val_main_call0_cst_1, val_main_call0_v4, val_main_call0_cst_0,
    val_main_call0_v3, val_main_call0_v2, val_main_call0_cst, val_main_call0_v1, val_main_call0_v0, val_main_v1]
  rw [ref_att, gate_entry X0 r j, cot_entry X2 r j, sig_coe]
  have h1 : (1 : EReal) = ((1 : ℝ) : EReal) := rfl
  have hD : dg (u0 X0) (u1 X1) (u2 X2) r (hd j) (lo j) = gateOf
      ((∑ n, probR (qR X0 r (hd j)) (keys X1 (hd j)) n * vR X1 (hd j) (lo j) n : ℝ) : EReal)
      (gR X0 r (hd j) (lo j) : EReal) (yR X2 r (hd j) (lo j) : EReal) := by
    unfold dg
    simp only [P_coe, ← sum_coe, EReal.coe_mul]
    rfl
  rw [hD, gateOf_coe, h1]
  simp only [← EReal.coe_mul, ← EReal.coe_sub, ← EReal.coe_add]
  refine congrArg Real.toEReal ?_
  ring

end Ref

/-! ## The precondition -/

theorem finite_args {a0 : Vec Ideal S8192x4096 .f32} {a1 : Vec Ideal S256x4096 .f32} {a2 : Vec Ideal S8192x2048 .f32}
    (h : Cert.Pre_mem_finite.fn (F := Ideal) a0 a1 a2 = fun _ => 1#1) :
    ∃ X0 X1 X2, a0 = u0 X0 ∧ a1 = u1 X1 ∧ a2 = u2 X2 := by
  have h0 := congrFun h ix0
  unfold Cert.Pre_mem_finite.fn at h0
  dsimp only at h0
  obtain ⟨h0, h2⟩ := and_one h0
  obtain ⟨h0, h1⟩ := and_one h0
  have k0 : ∀ i, ∃ x : ℝ, a0 i = x := fun i => real_of_cmp (Host.reduce_andi_all _ _ _ _ ix0 h0 i)
  have k1 : ∀ i, ∃ x : ℝ, a1 i = x := fun i => real_of_cmp (Host.reduce_andi_all _ _ _ _ ix0 h1 i)
  have k2 : ∀ i, ∃ x : ℝ, a2 i = x := fun i => real_of_cmp (Host.reduce_andi_all _ _ _ _ ix0 h2 i)
  choose X0 e0 using k0
  choose X1 e1 using k1
  choose X2 e2 using k2
  exact ⟨X0, X1, X2, funext e0, funext e1, funext e2⟩

section All
variable (X0 : S8192x4096.Idx → ℝ) (X1 : S256x4096.Idx → ℝ) (X2 : S8192x2048.Idx → ℝ)

theorem all_dq : val_main_v72 (F := Ideal) (u0 X0) (u1 X1) (u2 X2) = (dqOf (u0 X0) (u1 X1) (u2 X2) : S8192x512.Idx → EReal) := by
  funext i
  rw [eq_ix2 i]
  exact ref_dq X0 X1 X2 (i 0) (i 1)
theorem all_dg : val_main_v46 (F := Ideal) (u0 X0) (u1 X1) (u2 X2) = (dgOf (u0 X0) (u1 X1) (u2 X2) : S8192x512.Idx → EReal) := by
  funext i
  rw [eq_ix2 i]
  exact ref_dg X0 X1 X2 (i 0) (i 1)
theorem all_dk : val_main_v71 (F := Ideal) (u0 X0) (u1 X1) (u2 X2) = dkOf (u0 X0) (u1 X1) (u2 X2) := by
  funext i
  rw [eq_ix2 i]
  exact ref_dk X0 X1 X2 (i 0) (i 1)
theorem all_dv : val_main_v70 (F := Ideal) (u0 X0) (u1 X1) (u2 X2) = dvOf (u0 X0) (u1 X1) (u2 X2) := by
  funext i
  rw [eq_ix2 i]
  exact ref_dv X0 X1 X2 (i 0) (i 1)
end All

/-- The kernel's four results are the derivative of the memory attention. -/
theorem algebraic : Cert.algebraic_Kernel3Ideal_Reference3Ideal_pre_mem_finite := by
  intro m g m' g' hpre hargs
  refine ⟨fun c => dqOf (A0 m c) (A1 m c) (A2 m c), fun c => dgOf (A0 m c) (A1 m c) (A2 m c),
    fun c => dkOf (A0 m c) (A1 m c) (A2 m c), fun c => dvOf (A0 m c) (A1 m c) (A2 m c), ?_, ?_⟩
  · refine (θ_run Cert.Kernel3Ideal.defs _ _).mono (fun r h c => ?_) (Cert.Kernel3Ideal.Value.run_blocks m g)
    obtain ⟨h5, h6, h7, h8, h⟩ := h c
    exact ⟨h5.trans (final_dq m c), h6.trans (final_dg m c), h7.trans (final_dk m c), h8.trans (final_dv m c), h⟩
  · refine (θ_run Cert.Reference3Ideal.defs _ _).mono (fun r h c => ?_) (Cert.Reference3Ideal.Value.run m' g')
    obtain ⟨h73, h74, h71, h70, h⟩ := h c
    obtain ⟨e0, e1, e2⟩ := hargs c
    obtain ⟨X0, X1, X2, hX0, hX1, hX2⟩ := finite_args (hpre c)
    have k72 := all_dq X0 X1 X2
    have k46 := all_dg X0 X1 X2
    have k71 := all_dk X0 X1 X2
    have k70 := all_dv X0 X1 X2
    rw [← hX0, ← hX1, ← hX2] at k72 k46 k71 k70
    refine ⟨?_, ?_, ?_, ?_, h⟩
    · rw [h73, val_main_v73_eq, e0, e1, e2]; exact k72
    · rw [h74, val_main_v74_eq, e0, e1, e2]; exact k46
    · rw [h71, val_main_v71_eq, e0, e1, e2]; exact k71
    · rw [h70, val_main_v70_eq, e0, e1, e2]; exact k70

end Cert.Mem
end
-- ==== Proof.SbCut.lean ====
module

public import proofs.«01_k».proof.Proof.Gen.Kernel4Ideal.Frame
public import proofs.«01_k».proof.Proof.Gen.Kernel4Ideal.Skeleton
public import Idealize.ShloMosaic.Lib.Tactic
public import Idealize.ShloMosaic.Lib.Tactic.Stretches
public import Idealize.ShloMosaic.Lib.Tactic.OpenCalls
public meta import Idealize.ShloMosaic.Lib.Tactic.Stretches
public meta import Idealize.ShloMosaic.Lib.Tactic.OpenCalls

/-!
  The body of the attention's backward kernel, cut into stretches, and what a stretch owns.

  The body of one grid point (a head and a block of 1024 rows) walks over the key blocks from the first one on.  Its pieces are the
  opening (casts, transposes, the gate's gradient, the accumulators), the loop over pairs of whole key blocks, the four key blocks
  on the diagonal and the last application of the stored gradients.  A trip of the loop is two half trips.
-/

@[expose] public section

set_option maxRecDepth 65536
set_option maxHeartbeats 4000000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

cut_chain trip := k0_t1_body at 9
open_calls flat := k0_part57_skel [k0_part34, k0_part42, k0_part53, k0_part56]
cut_chain whole := cc0_sb_bwd_skel at 2
cut_chain body := flat at 4, 6, 29, 42, 58, 67

/-- What a stretch changes: the query gradient so far, the two running sums of a row, the logits and weight cotangents of two key
    blocks, the weights and logit gradients waiting to be applied, the key and value gradients so far. -/
structure St (F : FTy → Type) where
  acc : Vec F S1024x128 .f32
  left : Vec F S1024x1 .f32
  rune : Vec F S1024x1 .f32
  z : Vec F S2x1024x256 .f32
  dw : Vec F S2x1024x256 .f32
  wp : Vec F S1024x256 .bf16
  dzp : Vec F S1024x256 .bf16
  dk : Vec F S128x8192 .f32
  dv : Vec F S128x8192 .f32

/-- What a stretch reads: keys, values, the row block's queries and output cotangents, and both transposed. -/
structure Src (F : FTy → Type) where
  k : Vec F S8192x128 .bf16
  v : Vec F S8192x128 .bf16
  q : Vec F S1024x128 .bf16
  d : Vec F S1024x128 .bf16
  qt : Vec F S128x1024 .bf16
  dt : Vec F S128x1024 .bf16

/-- What the opening reads: the row block's queries, gates, outputs, sums of log keeps and output cotangents. -/
structure Inp (F : FTy → Type) where
  q : Vec F S1024x128 .f32
  g : Vec F S1024x128 .f32
  o : Vec F S1024x128 .f32
  tl : Vec F S1024x128 .f32
  dy : Vec F S1024x128 .f32

omit [FloatOps F] in
/-- Owning a whole buffer at `X` is owning its one content that reads as `X`. -/
theorem owns_open (c : Dev nD) {sh : Shape} {e : EltTy} {a : Memref sig .tc .vmem sh e} (ha : a.IsWhole) (X : Vec F sh e) :
    (owns (c : Thread nD τ) a fullShare X : sProp 𝕄) ⊢ iprop(a.view.loc (c : Thread nD τ) ↦[a.view.set]{fullShare} ha.unread X) := by
  unfold owns
  iintro ⟨%f, %h, H⟩
  obtain rfl := ha.eq_unread h
  iexact H

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

section

omit [FloatOps F]

/-- The buffers a stretch changes, at `s`. -/
def HSt (arg17 : Memref sig .tc .vmem S1024x128 .f32) (arg18 : Memref sig .tc .vmem S1024x1 .f32) (arg19 : Memref sig .tc .vmem S1024x1 .f32) (arg20 : Memref sig .tc .vmem S2x1024x256 .f32) (arg21 : Memref sig .tc .vmem S2x1024x256 .f32) (arg22 : Memref sig .tc .vmem S1024x256 .bf16) (arg23 : Memref sig .tc .vmem S1024x256 .bf16) (arg11 : Memref sig .tc .vmem S128x8192 .f32) (arg12 : Memref sig .tc .vmem S128x8192 .f32) (s : St F) : sProp 𝕄 :=
  iprop(owns (c : Thread nD τ) arg17 fullShare s.acc ∗ owns (c : Thread nD τ) arg18 fullShare s.left ∗
    owns (c : Thread nD τ) arg19 fullShare s.rune ∗ owns (c : Thread nD τ) arg20 fullShare s.z ∗
    owns (c : Thread nD τ) arg21 fullShare s.dw ∗ owns (c : Thread nD τ) arg22 fullShare s.wp ∗
    owns (c : Thread nD τ) arg23 fullShare s.dzp ∗ owns (c : Thread nD τ) arg11 fullShare s.dk ∗
    owns (c : Thread nD τ) arg12 fullShare s.dv)

theorem HSt_open (s : St F) : HSt c arg17 arg18 arg19 arg20 arg21 arg22 arg23 arg11 arg12 s ⊢
    iprop((arg17.view.loc (c : Thread nD τ) ↦[arg17.view.set]{fullShare} harg17.unread s.acc) ∗
      (arg18.view.loc (c : Thread nD τ) ↦[arg18.view.set]{fullShare} harg18.unread s.left) ∗
      (arg19.view.loc (c : Thread nD τ) ↦[arg19.view.set]{fullShare} harg19.unread s.rune) ∗
      (arg20.view.loc (c : Thread nD τ) ↦[arg20.view.set]{fullShare} harg20.unread s.z) ∗
      (arg21.view.loc (c : Thread nD τ) ↦[arg21.view.set]{fullShare} harg21.unread s.dw) ∗
      (arg22.view.loc (c : Thread nD τ) ↦[arg22.view.set]{fullShare} harg22.unread s.wp) ∗
      (arg23.view.loc (c : Thread nD τ) ↦[arg23.view.set]{fullShare} harg23.unread s.dzp) ∗
      (arg11.view.loc (c : Thread nD τ) ↦[arg11.view.set]{fullShare} harg11.unread s.dk) ∗
      (arg12.view.loc (c : Thread nD τ) ↦[arg12.view.set]{fullShare} harg12.unread s.dv)) := by
  unfold HSt
  exact BIClass.sep_mono (owns_open c harg17 _) <| BIClass.sep_mono (owns_open c harg18 _) <| BIClass.sep_mono (owns_open c harg19 _) <| BIClass.sep_mono (owns_open c harg20 _) <| BIClass.sep_mono (owns_open c harg21 _) <| BIClass.sep_mono (owns_open c harg22 _) <| BIClass.sep_mono (owns_open c harg23 _) <| BIClass.sep_mono (owns_open c harg11 _) <| owns_open c harg12 _

theorem HSt_close (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f11 : arg11.view.ty.Contents (Elt F)) (f12 : arg12.view.ty.Contents (Elt F)) :
    iprop((arg17.view.loc (c : Thread nD τ) ↦[arg17.view.set]{fullShare} f17) ∗
      (arg18.view.loc (c : Thread nD τ) ↦[arg18.view.set]{fullShare} f18) ∗
      (arg19.view.loc (c : Thread nD τ) ↦[arg19.view.set]{fullShare} f19) ∗
      (arg20.view.loc (c : Thread nD τ) ↦[arg20.view.set]{fullShare} f20) ∗
      (arg21.view.loc (c : Thread nD τ) ↦[arg21.view.set]{fullShare} f21) ∗
      (arg22.view.loc (c : Thread nD τ) ↦[arg22.view.set]{fullShare} f22) ∗
      (arg23.view.loc (c : Thread nD τ) ↦[arg23.view.set]{fullShare} f23) ∗
      (arg11.view.loc (c : Thread nD τ) ↦[arg11.view.set]{fullShare} f11) ∗
      (arg12.view.loc (c : Thread nD τ) ↦[arg12.view.set]{fullShare} f12)) ⊢
      HSt c arg17 arg18 arg19 arg20 arg21 arg22 arg23 arg11 arg12 ({ acc := arg17.view.read (Elt F) f17, left := arg18.view.read (Elt F) f18, rune := arg19.view.read (Elt F) f19, z := arg20.view.read (Elt F) f20, dw := arg21.view.read (Elt F) f21, wp := arg22.view.read (Elt F) f22, dzp := arg23.view.read (Elt F) f23, dk := arg11.view.read (Elt F) f11, dv := arg12.view.read (Elt F) f12 } : St F) := by
  unfold HSt owns
  iintro ⟨H17, H18, H19, H20, H21, H22, H23, H11, H12⟩
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H11]
  · iexists _; isplitr; swap; · iexact H11
    ipureintro; rfl
  iexists _; isplitr; swap; · iexact H12
  ipureintro; rfl

theorem HSt_back (s : St F) :
    iprop((arg17.view.loc (c : Thread nD τ) ↦[arg17.view.set]{fullShare} harg17.unread s.acc) ∗
      (arg18.view.loc (c : Thread nD τ) ↦[arg18.view.set]{fullShare} harg18.unread s.left) ∗
      (arg19.view.loc (c : Thread nD τ) ↦[arg19.view.set]{fullShare} harg19.unread s.rune) ∗
      (arg20.view.loc (c : Thread nD τ) ↦[arg20.view.set]{fullShare} harg20.unread s.z) ∗
      (arg21.view.loc (c : Thread nD τ) ↦[arg21.view.set]{fullShare} harg21.unread s.dw) ∗
      (arg22.view.loc (c : Thread nD τ) ↦[arg22.view.set]{fullShare} harg22.unread s.wp) ∗
      (arg23.view.loc (c : Thread nD τ) ↦[arg23.view.set]{fullShare} harg23.unread s.dzp) ∗
      (arg11.view.loc (c : Thread nD τ) ↦[arg11.view.set]{fullShare} harg11.unread s.dk) ∗
      (arg12.view.loc (c : Thread nD τ) ↦[arg12.view.set]{fullShare} harg12.unread s.dv)) ⊢ HSt c arg17 arg18 arg19 arg20 arg21 arg22 arg23 arg11 arg12 s := by
  unfold HSt owns
  iintro ⟨H17, H18, H19, H20, H21, H22, H23, H11, H12⟩
  isplitl [H17]
  · iexists _; isplitr; swap; · iexact H17
    ipureintro; exact harg17.read_unread _
  isplitl [H18]
  · iexists _; isplitr; swap; · iexact H18
    ipureintro; exact harg18.read_unread _
  isplitl [H19]
  · iexists _; isplitr; swap; · iexact H19
    ipureintro; exact harg19.read_unread _
  isplitl [H20]
  · iexists _; isplitr; swap; · iexact H20
    ipureintro; exact harg20.read_unread _
  isplitl [H21]
  · iexists _; isplitr; swap; · iexact H21
    ipureintro; exact harg21.read_unread _
  isplitl [H22]
  · iexists _; isplitr; swap; · iexact H22
    ipureintro; exact harg22.read_unread _
  isplitl [H23]
  · iexists _; isplitr; swap; · iexact H23
    ipureintro; exact harg23.read_unread _
  isplitl [H11]
  · iexists _; isplitr; swap; · iexact H11
    ipureintro; exact harg11.read_unread _
  iexists _; isplitr; swap; · iexact H12
  ipureintro; exact harg12.read_unread _

/-- The buffers a stretch reads, at `s`. -/
def HSrc (arg4 : Memref sig .tc .vmem S8192x128 .bf16) (arg5 : Memref sig .tc .vmem S8192x128 .bf16) (arg13 : Memref sig .tc .vmem S1024x128 .bf16) (arg14 : Memref sig .tc .vmem S1024x128 .bf16) (arg15 : Memref sig .tc .vmem S128x1024 .bf16) (arg16 : Memref sig .tc .vmem S128x1024 .bf16) (s : Src F) : sProp 𝕄 :=
  iprop(owns (c : Thread nD τ) arg4 fullShare s.k ∗ owns (c : Thread nD τ) arg5 fullShare s.v ∗
    owns (c : Thread nD τ) arg13 fullShare s.q ∗ owns (c : Thread nD τ) arg14 fullShare s.d ∗
    owns (c : Thread nD τ) arg15 fullShare s.qt ∗ owns (c : Thread nD τ) arg16 fullShare s.dt)

theorem HSrc_open (s : Src F) : HSrc c arg4 arg5 arg13 arg14 arg15 arg16 s ⊢
    iprop((arg4.view.loc (c : Thread nD τ) ↦[arg4.view.set]{fullShare} harg4.unread s.k) ∗
      (arg5.view.loc (c : Thread nD τ) ↦[arg5.view.set]{fullShare} harg5.unread s.v) ∗
      (arg13.view.loc (c : Thread nD τ) ↦[arg13.view.set]{fullShare} harg13.unread s.q) ∗
      (arg14.view.loc (c : Thread nD τ) ↦[arg14.view.set]{fullShare} harg14.unread s.d) ∗
      (arg15.view.loc (c : Thread nD τ) ↦[arg15.view.set]{fullShare} harg15.unread s.qt) ∗
      (arg16.view.loc (c : Thread nD τ) ↦[arg16.view.set]{fullShare} harg16.unread s.dt)) := by
  unfold HSrc
  exact BIClass.sep_mono (owns_open c harg4 _) <| BIClass.sep_mono (owns_open c harg5 _) <| BIClass.sep_mono (owns_open c harg13 _) <| BIClass.sep_mono (owns_open c harg14 _) <| BIClass.sep_mono (owns_open c harg15 _) <| owns_open c harg16 _

theorem HSrc_close (f4 : arg4.view.ty.Contents (Elt F)) (f5 : arg5.view.ty.Contents (Elt F)) (f13 : arg13.view.ty.Contents (Elt F)) (f14 : arg14.view.ty.Contents (Elt F)) (f15 : arg15.view.ty.Contents (Elt F)) (f16 : arg16.view.ty.Contents (Elt F)) :
    iprop((arg4.view.loc (c : Thread nD τ) ↦[arg4.view.set]{fullShare} f4) ∗
      (arg5.view.loc (c : Thread nD τ) ↦[arg5.view.set]{fullShare} f5) ∗
      (arg13.view.loc (c : Thread nD τ) ↦[arg13.view.set]{fullShare} f13) ∗
      (arg14.view.loc (c : Thread nD τ) ↦[arg14.view.set]{fullShare} f14) ∗
      (arg15.view.loc (c : Thread nD τ) ↦[arg15.view.set]{fullShare} f15) ∗
      (arg16.view.loc (c : Thread nD τ) ↦[arg16.view.set]{fullShare} f16)) ⊢
      HSrc c arg4 arg5 arg13 arg14 arg15 arg16 ({ k := arg4.view.read (Elt F) f4, v := arg5.view.read (Elt F) f5, q := arg13.view.read (Elt F) f13, d := arg14.view.read (Elt F) f14, qt := arg15.view.read (Elt F) f15, dt := arg16.view.read (Elt F) f16 } : Src F) := by
  unfold HSrc owns
  iintro ⟨H4, H5, H13, H14, H15, H16⟩
  isplitl [H4]
  · iexists _; isplitr; swap; · iexact H4
    ipureintro; rfl
  isplitl [H5]
  · iexists _; isplitr; swap; · iexact H5
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  iexists _; isplitr; swap; · iexact H16
  ipureintro; rfl

theorem HSrc_back (s : Src F) :
    iprop((arg4.view.loc (c : Thread nD τ) ↦[arg4.view.set]{fullShare} harg4.unread s.k) ∗
      (arg5.view.loc (c : Thread nD τ) ↦[arg5.view.set]{fullShare} harg5.unread s.v) ∗
      (arg13.view.loc (c : Thread nD τ) ↦[arg13.view.set]{fullShare} harg13.unread s.q) ∗
      (arg14.view.loc (c : Thread nD τ) ↦[arg14.view.set]{fullShare} harg14.unread s.d) ∗
      (arg15.view.loc (c : Thread nD τ) ↦[arg15.view.set]{fullShare} harg15.unread s.qt) ∗
      (arg16.view.loc (c : Thread nD τ) ↦[arg16.view.set]{fullShare} harg16.unread s.dt)) ⊢ HSrc c arg4 arg5 arg13 arg14 arg15 arg16 s := by
  unfold HSrc owns
  iintro ⟨H4, H5, H13, H14, H15, H16⟩
  isplitl [H4]
  · iexists _; isplitr; swap; · iexact H4
    ipureintro; exact harg4.read_unread _
  isplitl [H5]
  · iexists _; isplitr; swap; · iexact H5
    ipureintro; exact harg5.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  iexists _; isplitr; swap; · iexact H16
  ipureintro; exact harg16.read_unread _

/-- The blocks the opening reads, at `s`. -/
def HIn (arg2 : Memref sig .tc .vmem S1024x128 .f32) (arg3 : Memref sig .tc .vmem S1024x128 .f32) (arg6 : Memref sig .tc .vmem S1024x128 .f32) (arg7 : Memref sig .tc .vmem S1024x128 .f32) (arg8 : Memref sig .tc .vmem S1024x128 .f32) (s : Inp F) : sProp 𝕄 :=
  iprop(owns (c : Thread nD τ) arg2 fullShare s.q ∗ owns (c : Thread nD τ) arg3 fullShare s.g ∗
    owns (c : Thread nD τ) arg6 fullShare s.o ∗ owns (c : Thread nD τ) arg7 fullShare s.tl ∗
    owns (c : Thread nD τ) arg8 fullShare s.dy)

theorem HIn_open (s : Inp F) : HIn c arg2 arg3 arg6 arg7 arg8 s ⊢
    iprop((arg2.view.loc (c : Thread nD τ) ↦[arg2.view.set]{fullShare} harg2.unread s.q) ∗
      (arg3.view.loc (c : Thread nD τ) ↦[arg3.view.set]{fullShare} harg3.unread s.g) ∗
      (arg6.view.loc (c : Thread nD τ) ↦[arg6.view.set]{fullShare} harg6.unread s.o) ∗
      (arg7.view.loc (c : Thread nD τ) ↦[arg7.view.set]{fullShare} harg7.unread s.tl) ∗
      (arg8.view.loc (c : Thread nD τ) ↦[arg8.view.set]{fullShare} harg8.unread s.dy)) := by
  unfold HIn
  exact BIClass.sep_mono (owns_open c harg2 _) <| BIClass.sep_mono (owns_open c harg3 _) <| BIClass.sep_mono (owns_open c harg6 _) <| BIClass.sep_mono (owns_open c harg7 _) <| owns_open c harg8 _

theorem HIn_back (s : Inp F) :
    iprop((arg2.view.loc (c : Thread nD τ) ↦[arg2.view.set]{fullShare} harg2.unread s.q) ∗
      (arg3.view.loc (c : Thread nD τ) ↦[arg3.view.set]{fullShare} harg3.unread s.g) ∗
      (arg6.view.loc (c : Thread nD τ) ↦[arg6.view.set]{fullShare} harg6.unread s.o) ∗
      (arg7.view.loc (c : Thread nD τ) ↦[arg7.view.set]{fullShare} harg7.unread s.tl) ∗
      (arg8.view.loc (c : Thread nD τ) ↦[arg8.view.set]{fullShare} harg8.unread s.dy)) ⊢ HIn c arg2 arg3 arg6 arg7 arg8 s := by
  unfold HIn owns
  iintro ⟨H2, H3, H6, H7, H8⟩
  isplitl [H2]
  · iexists _; isplitr; swap; · iexact H2
    ipureintro; exact harg2.read_unread _
  isplitl [H3]
  · iexists _; isplitr; swap; · iexact H3
    ipureintro; exact harg3.read_unread _
  isplitl [H6]
  · iexists _; isplitr; swap; · iexact H6
    ipureintro; exact harg6.read_unread _
  isplitl [H7]
  · iexists _; isplitr; swap; · iexact H7
    ipureintro; exact harg7.read_unread _
  iexists _; isplitr; swap; · iexact H8
  ipureintro; exact harg8.read_unread _

end

end Cert.Proof.Sb

end
-- ==== Proof.SbOpen.lean ====
module

public import proofs.«01_k».proof.Proof.SbCut

/-!
  The opening of a grid point, at a head's first row block, where the key and value gradients are cleared, and at a later one.
-/

@[expose] public section

set_option maxRecDepth 65536
set_option maxHeartbeats 800000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

/-- The opening of a head's first row block. -/
def openFirst (h0 : Scalar.cmpi .ne (Scalar.extui (Scalar.cmpi .eq (BitVec.ofNat 32 (i 1).val) 0#32)) 0#32 = 1#1) (p : Inp F) (e : Src F) (s : St F) (g0 : Vec F S1024x128 .bf16) :
    { r : Vec F S1024x128 .bf16 × Src F × St F // ∀ {R : Type} (κ : _) (Q : R → sProp 𝕄),
        iprop(HIn c arg2 arg3 arg6 arg7 arg8 p ∗ owns (c : Thread nD τ) arg10 fullShare g0 ∗ HSrc c arg4 arg5 arg13 arg14 arg15 arg16 e ∗
            HSt c arg17 arg18 arg19 arg20 arg21 arg22 arg23 arg11 arg12 s ∗
            (∀ b1 b2 b3 b4, (HIn c arg2 arg3 arg6 arg7 arg8 p ∗ owns (c : Thread nD τ) arg10 fullShare r.1 ∗
                HSrc c arg4 arg5 arg13 arg14 arg15 arg16 r.2.1 ∗ HSt c arg17 arg18 arg19 arg20 arg21 arg22 arg23 arg11 arg12 r.2.2) -∗
              wp frame (wpE (defs₀ (F := F)) Variants.none c none) Set.univ (κ (k0_pay262 (F := F)) b1 b2 b3 b4) Q))
          ⊢ wp frame (wpE (defs₀ (F := F)) Variants.none c none) Set.univ
              (body1 (R := R) i
                _ harg2 _ harg3 _ harg4 _ harg5 _ harg6 _ harg7 _ harg8 _ harg9 _ harg10 _ harg11 _ harg12 _ harg13 _ harg14
                _ harg15 _ harg16 _ harg17 _ harg18 _ harg19 _ harg20 _ harg21 _ harg22 _ harg23 κ) Q } := by
  refine ⟨⟨?_, ⟨?_, ?_, ?_, ?_, ?_, ?_⟩, ⟨?_, ?_, ?_, ?_, ?_, ?_, ?_, ?_, ?_⟩⟩, fun {R} κ Q => ?run⟩
  case run =>
    dsimp only
    iintro ⟨HI, H10, HE, HS, Hk⟩
    ihave HI := (HIn_open c harg2 harg3 harg6 harg7 harg8 p) $$ HI
    ihave HE := (HSrc_open c harg4 harg5 harg13 harg14 harg15 harg16 e) $$ HE
    ihave HS := (HSt_open c harg11 harg12 harg17 harg18 harg19 harg20 harg21 harg22 harg23 s) $$ HS
    icases HI with ⟨I2, I3, I6, I7, I8⟩
    icases HE with ⟨E4, E5, E13, E14, E15, E16⟩
    icases HS with ⟨H17, H18, H19, H20, H21, H22, H23, H11, H12⟩
    unfold owns
    icases H10 with ⟨%f10, %hf10, H10⟩
    obtain rfl := harg10.eq_unread hf10
    unfold body1
    sl_exec
    iapply Hk
    isplitl [I2 I3 I6 I7 I8]
    · iapply (HIn_back c harg2 harg3 harg6 harg7 harg8 p)
      iframe
    isplitl [H10]
    · iexists _; isplitr; swap; · iexact H10
      ipureintro; rfl
    isplitl [E4 E5 E13 E14 E15 E16]
    · iapply (HSrc_close c)
      isplitl [E4]; · iexact E4
      isplitl [E5]; · iexact E5
      isplitl [E13]; · iexact E13
      isplitl [E14]; · iexact E14
      isplitl [E15]; · iexact E15
      iexact E16
    iapply (HSt_close c)
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H11]; · iexact H11
    iexact H12

/-- The opening of a later row block. -/
def openLater (h0 : ¬ Scalar.cmpi .ne (Scalar.extui (Scalar.cmpi .eq (BitVec.ofNat 32 (i 1).val) 0#32)) 0#32 = 1#1) (p : Inp F) (e : Src F) (s : St F) (g0 : Vec F S1024x128 .bf16) :
    { r : Vec F S1024x128 .bf16 × Src F × St F // ∀ {R : Type} (κ : _) (Q : R → sProp 𝕄),
        iprop(HIn c arg2 arg3 arg6 arg7 arg8 p ∗ owns (c : Thread nD τ) arg10 fullShare g0 ∗ HSrc c arg4 arg5 arg13 arg14 arg15 arg16 e ∗
            HSt c arg17 arg18 arg19 arg20 arg21 arg22 arg23 arg11 arg12 s ∗
            (∀ b1 b2 b3 b4, (HIn c arg2 arg3 arg6 arg7 arg8 p ∗ owns (c : Thread nD τ) arg10 fullShare r.1 ∗
                HSrc c arg4 arg5 arg13 arg14 arg15 arg16 r.2.1 ∗ HSt c arg17 arg18 arg19 arg20 arg21 arg22 arg23 arg11 arg12 r.2.2) -∗
              wp frame (wpE (defs₀ (F := F)) Variants.none c none) Set.univ (κ (k0_pay262 (F := F)) b1 b2 b3 b4) Q))
          ⊢ wp frame (wpE (defs₀ (F := F)) Variants.none c none) Set.univ
              (body1 (R := R) i
                _ harg2 _ harg3 _ harg4 _ harg5 _ harg6 _ harg7 _ harg8 _ harg9 _ harg10 _ harg11 _ harg12 _ harg13 _ harg14
                _ harg15 _ harg16 _ harg17 _ harg18 _ harg19 _ harg20 _ harg21 _ harg22 _ harg23 κ) Q } := by
  refine ⟨⟨?_, ⟨?_, ?_, ?_, ?_, ?_, ?_⟩, ⟨?_, ?_, ?_, ?_, ?_, ?_, ?_, ?_, ?_⟩⟩, fun {R} κ Q => ?run⟩
  case run =>
    dsimp only
    iintro ⟨HI, H10, HE, HS, Hk⟩
    ihave HI := (HIn_open c harg2 harg3 harg6 harg7 harg8 p) $$ HI
    ihave HE := (HSrc_open c harg4 harg5 harg13 harg14 harg15 harg16 e) $$ HE
    ihave HS := (HSt_open c harg11 harg12 harg17 harg18 harg19 harg20 harg21 harg22 harg23 s) $$ HS
    icases HI with ⟨I2, I3, I6, I7, I8⟩
    icases HE with ⟨E4, E5, E13, E14, E15, E16⟩
    icases HS with ⟨H17, H18, H19, H20, H21, H22, H23, H11, H12⟩
    unfold owns
    icases H10 with ⟨%f10, %hf10, H10⟩
    obtain rfl := harg10.eq_unread hf10
    unfold body1
    sl_exec
    iapply Hk
    isplitl [I2 I3 I6 I7 I8]
    · iapply (HIn_back c harg2 harg3 harg6 harg7 harg8 p)
      iframe
    isplitl [H10]
    · iexists _; isplitr; swap; · iexact H10
      ipureintro; rfl
    isplitl [E4 E5 E13 E14 E15 E16]
    · iapply (HSrc_close c)
      isplitl [E4]; · iexact E4
      isplitl [E5]; · iexact E5
      isplitl [E13]; · iexact E13
      isplitl [E14]; · iexact E14
      isplitl [E15]; · iexact E15
      iexact E16
    iapply (HSt_close c)
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H11]; · iexact H11
    iexact H12

end Cert.Proof.Sb

end
-- ==== Proof.SbHalf1.lean ====
module

public import proofs.«01_k».proof.Proof.SbCut

/-!
  The two halves of a trip: each applies the stored gradients of the key block before, forms the logits of the next one and
  differentiates its own.  What a half leaves in the buffers is found by running it.
-/

@[expose] public section

set_option maxRecDepth 65536
set_option maxHeartbeats 800000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

/-- The first half of a trip. -/
def half1 (v52 : FVec F S256x256 .bf16) (k0_t1 : Fin (k0_t1_loop i).trips) (e : Src F) (s : St F) :
    { s' : St F // ∀ {R : Type} (κ : _) (Q : R → sProp 𝕄),
        iprop(HSrc c arg4 arg5 arg13 arg14 arg15 arg16 e ∗ HSt c arg17 arg18 arg19 arg20 arg21 arg22 arg23 arg11 arg12 s ∗
            (∀ a b, (HSrc c arg4 arg5 arg13 arg14 arg15 arg16 e ∗ HSt c arg17 arg18 arg19 arg20 arg21 arg22 arg23 arg11 arg12 s') -∗
              wp frame (wpE (defs₀ (F := F)) Variants.none c none) Set.univ (κ a b) Q))
          ⊢ wp frame (wpE (defs₀ (F := F)) Variants.none c none) Set.univ
              (trip1 (R := R) i
                _ harg2 _ harg3 _ harg4 _ harg5 _ harg6 _ harg7 _ harg8 _ harg9 _ harg10 _ harg11 _ harg12 _ harg13 _ harg14
                _ harg15 _ harg16 _ harg17 _ harg18 _ harg19 _ harg20 _ harg21 _ harg22 _ harg23
                v52 k0_t1 κ) Q } := by
  refine ⟨⟨?_, ?_, ?_, ?_, ?_, ?_, ?_, ?_, ?_⟩, fun {R} κ Q => ?run⟩
  case run =>
    iintro ⟨HE, HS, Hk⟩
    ihave HE := (HSrc_open c harg4 harg5 harg13 harg14 harg15 harg16 e) $$ HE
    ihave HS := (HSt_open c harg11 harg12 harg17 harg18 harg19 harg20 harg21 harg22 harg23 s) $$ HS
    icases HE with ⟨E4, E5, E13, E14, E15, E16⟩
    icases HS with ⟨H17, H18, H19, H20, H21, H22, H23, H11, H12⟩
    unfold trip1
    sl_exec
    iapply Hk
    isplitl [E4 E5 E13 E14 E15 E16]
    · iapply (HSrc_back c harg4 harg5 harg13 harg14 harg15 harg16 e)
      iframe
    iapply (HSt_close c)
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H11]; · iexact H11
    iexact H12

end Cert.Proof.Sb

end
-- ==== Proof.SbHalf2.lean ====
module

public import proofs.«01_k».proof.Proof.SbCut

/-!
  The second half of a trip of the loop over pairs of key blocks.
-/

@[expose] public section

set_option maxRecDepth 65536
set_option maxHeartbeats 800000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

/-- The second half of a trip. -/
def half2 (v52 : FVec F S256x256 .bf16) (k0_t1 : Fin (k0_t1_loop i).trips) (e : Src F) (s : St F) :
    { s' : St F // ∀ (v1290 v1294 : BitVec 32) {R : Type} (κ : _) (Q : R → sProp 𝕄),
        iprop(HSrc c arg4 arg5 arg13 arg14 arg15 arg16 e ∗ HSt c arg17 arg18 arg19 arg20 arg21 arg22 arg23 arg11 arg12 s ∗
            ((HSrc c arg4 arg5 arg13 arg14 arg15 arg16 e ∗ HSt c arg17 arg18 arg19 arg20 arg21 arg22 arg23 arg11 arg12 s') -∗
              wp frame (wpE (defs₀ (F := F)) Variants.none c none) Set.univ κ Q))
          ⊢ wp frame (wpE (defs₀ (F := F)) Variants.none c none) Set.univ
              (trip2 (R := R) i
                _ harg2 _ harg3 _ harg4 _ harg5 _ harg6 _ harg7 _ harg8 _ harg9 _ harg10 _ harg11 _ harg12 _ harg13 _ harg14
                _ harg15 _ harg16 _ harg17 _ harg18 _ harg19 _ harg20 _ harg21 _ harg22 _ harg23
                v52 k0_t1 v1290 v1294 κ) Q } := by
  refine ⟨⟨?_, ?_, ?_, ?_, ?_, ?_, ?_, ?_, ?_⟩, fun _ _ {R} κ Q => ?run⟩
  case run =>
    iintro ⟨HE, HS, Hk⟩
    ihave HE := (HSrc_open c harg4 harg5 harg13 harg14 harg15 harg16 e) $$ HE
    ihave HS := (HSt_open c harg11 harg12 harg17 harg18 harg19 harg20 harg21 harg22 harg23 s) $$ HS
    icases HE with ⟨E4, E5, E13, E14, E15, E16⟩
    icases HS with ⟨H17, H18, H19, H20, H21, H22, H23, H11, H12⟩
    unfold trip2
    sl_exec
    iapply Hk
    isplitl [E4 E5 E13 E14 E15 E16]
    · iapply (HSrc_back c harg4 harg5 harg13 harg14 harg15 harg16 e)
      iframe
    iapply (HSt_close c)
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H11]; · iexact H11
    iexact H12

end Cert.Proof.Sb

end
-- ==== Proof.SbLoop.lean ====
module

public import proofs.«01_k».proof.Proof.SbHalf1
public import proofs.«01_k».proof.Proof.SbHalf2

/-!
  The loop over pairs of key blocks below the diagonal.
-/

@[expose] public section

set_option maxRecDepth 65536
set_option maxHeartbeats 800000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

theorem trips1 (i : grid0.Coords) : (k0_t1_loop i).trips = 2 * (i 1).val :=
  (by decide +kernel : ∀ i : grid0.Coords, (k0_t1_loop i).trips = 2 * (i 1).val) i

theorem trips2 (i : grid0.Coords) : (k0_t2_loop i).trips = 0 :=
  (by decide +kernel : ∀ i : grid0.Coords, (k0_t2_loop i).trips = 0) i

/-- A trip of the loop: its two halves. -/
def trip (v52 : FVec F S256x256 .bf16) (e : Src F) (t : Fin (k0_t1_loop i).trips) (s : St F) : St F :=
  (half2 c i
      harg2 harg3 harg4 harg5 harg6 harg7 harg8 harg9 harg10 harg11 harg12 harg13 harg14 harg15 harg16 harg17 harg18 harg19
      harg20 harg21 harg22 harg23
      v52 t e
    (half1 c i
      harg2 harg3 harg4 harg5 harg6 harg7 harg8 harg9 harg10 harg11 harg12 harg13 harg14 harg15 harg16 harg17 harg18 harg19
      harg20 harg21 harg22 harg23
      v52 t e s).1).1

/-- The state after `k` trips of the loop. -/
def loop (v52 : FVec F S256x256 .bf16) (e : Src F) (s : St F) : ℕ → St F
  | 0 => s
  | k + 1 => if h : k < (k0_t1_loop i).trips then
      trip c i
        harg2 harg3 harg4 harg5 harg6 harg7 harg8 harg9 harg10 harg11 harg12 harg13 harg14 harg15 harg16 harg17 harg18 harg19
        harg20 harg21 harg22 harg23
        v52 e ⟨k, h⟩ (loop v52 e s k)
    else loop v52 e s k

/-- A trip runs from a state to the one that `trip` names. -/
theorem trip_run (v52 : FVec F S256x256 .bf16) (v74 c2 v94 v99 : BitVec 32) (e : Src F) (t : Fin (k0_t1_loop i).trips) (s : St F) (u : PUnit) :
    iprop(HSrc c arg4 arg5 arg13 arg14 arg15 arg16 e ∗ HSt c arg17 arg18 arg19 arg20 arg21 arg22 arg23 arg11 arg12 s)
      ⊢ wp frame (wpE (defs₀ (F := F)) Variants.none c none) Set.univ
          (k0_t1_body (F := F) i
            _ harg2 _ harg3 _ harg4 _ harg5 _ harg6 _ harg7 _ harg8 _ harg9 _ harg10 _ harg11 _ harg12 _ harg13 _ harg14 _ harg15
            _ harg16 _ harg17 _ harg18 _ harg19 _ harg20 _ harg21 _ harg22 _ harg23
            v52 v74 c2 v94 v99 t u)
          fun _ => iprop(HSrc c arg4 arg5 arg13 arg14 arg15 arg16 e ∗ HSt c arg17 arg18 arg19 arg20 arg21 arg22 arg23 arg11 arg12 (trip c i
            harg2 harg3 harg4 harg5 harg6 harg7 harg8 harg9 harg10 harg11 harg12 harg13 harg14 harg15 harg16 harg17 harg18 harg19
            harg20 harg21 harg22 harg23
            v52 e t s)) := by
  iintro ⟨HE, HS⟩
  rw [trip1.eq]
  iapply (half1 c i
      harg2 harg3 harg4 harg5 harg6 harg7 harg8 harg9 harg10 harg11 harg12 harg13 harg14 harg15 harg16 harg17 harg18 harg19
      harg20 harg21 harg22 harg23
      v52 t e s).2
  isplitl [HE]; · iexact HE
  isplitl [HS]; · iexact HS
  iintro %a %b ⟨HE, HS⟩
  rw [trip2.eq]
  iapply (half2 c i
      harg2 harg3 harg4 harg5 harg6 harg7 harg8 harg9 harg10 harg11 harg12 harg13 harg14 harg15 harg16 harg17 harg18 harg19
      harg20 harg21 harg22 harg23
      v52 t e _).2 a b
  isplitl [HE]; · iexact HE
  isplitl [HS]; · iexact HS
  iintro ⟨HE, HS⟩
  unfold trip2.tail
  rw [wp_pure]
  imodintro
  isplitl [HE]; · iexact HE
  unfold trip
  iexact HS

/-- The loop runs from a state to the one after its trips; the loop for a remainder has no trip. -/
theorem loops (v52 : FVec F S256x256 .bf16) (v74 c2 v94 v99 : BitVec 32) (e : Src F) (s : St F) {R : Type} (κ : _) (Q : R → sProp 𝕄) :
    iprop(HSrc c arg4 arg5 arg13 arg14 arg15 arg16 e ∗ HSt c arg17 arg18 arg19 arg20 arg21 arg22 arg23 arg11 arg12 s ∗
        ((HSrc c arg4 arg5 arg13 arg14 arg15 arg16 e ∗ HSt c arg17 arg18 arg19 arg20 arg21 arg22 arg23 arg11 arg12 (loop c i
            harg2 harg3 harg4 harg5 harg6 harg7 harg8 harg9 harg10 harg11 harg12 harg13 harg14 harg15 harg16 harg17 harg18 harg19
            harg20 harg21 harg22 harg23
            v52 e s (k0_t1_loop i).trips)) -∗ wp frame (wpE (defs₀ (F := F)) Variants.none c none) Set.univ κ Q))
      ⊢ wp frame (wpE (defs₀ (F := F)) Variants.none c none) Set.univ
          (body2 (R := R) i
            _ harg2 _ harg3 _ harg4 _ harg5 _ harg6 _ harg7 _ harg8 _ harg9 _ harg10 _ harg11 _ harg12 _ harg13 _ harg14 _ harg15
            _ harg16 _ harg17 _ harg18 _ harg19 _ harg20 _ harg21 _ harg22 _ harg23
            v52 v74 c2 v94 v99 κ) Q := by
  iintro ⟨HE, HS, Hk⟩
  unfold body2
  sl_for (fun k _ => iprop(HSrc c arg4 arg5 arg13 arg14 arg15 arg16 e ∗ HSt c arg17 arg18 arg19 arg20 arg21 arg22 arg23 arg11 arg12 (loop c i
            harg2 harg3 harg4 harg5 harg6 harg7 harg8 harg9 harg10 harg11 harg12 harg13 harg14 harg15 harg16 harg17 harg18 harg19
            harg20 harg21 harg22 harg23
            v52 e s k))) $$ [HE HS]
  · intro k acc
    have h := trip_run c i
      harg2 harg3 harg4 harg5 harg6 harg7 harg8 harg9 harg10 harg11 harg12 harg13 harg14 harg15 harg16 harg17 harg18 harg19
      harg20 harg21 harg22 harg23
      v52 v74 c2 v94 v99 e k (loop c i
        harg2 harg3 harg4 harg5 harg6 harg7 harg8 harg9 harg10 harg11 harg12 harg13 harg14 harg15 harg16 harg17 harg18 harg19
        harg20 harg21 harg22 harg23
        v52 e s k.val) acc
    have hl : loop c i
        harg2 harg3 harg4 harg5 harg6 harg7 harg8 harg9 harg10 harg11 harg12 harg13 harg14 harg15 harg16 harg17 harg18 harg19
        harg20 harg21 harg22 harg23
        v52 e s (k.val + 1) = trip c i
        harg2 harg3 harg4 harg5 harg6 harg7 harg8 harg9 harg10 harg11 harg12 harg13 harg14 harg15 harg16 harg17 harg18 harg19
        harg20 harg21 harg22 harg23
        v52 e k (loop c i
        harg2 harg3 harg4 harg5 harg6 harg7 harg8 harg9 harg10 harg11 harg12 harg13 harg14 harg15 harg16 harg17 harg18 harg19
        harg20 harg21 harg22 harg23
        v52 e s k.val) := by
      rw [loop, dif_pos k.isLt]
    rw [hl]
    exact h
  · isplitl [HE]; · iexact HE
    iexact HS
  iintro %u ⟨HE, HS⟩
  sl_for0 (trips2 i)
  iapply Hk
  isplitl [HE]; · iexact HE
  iexact HS

end Cert.Proof.Sb

end
-- ==== Proof.SbDiag0.lean ====
module

public import proofs.«01_k».proof.Proof.SbCut

/-!
  The first key block on the diagonal, where the first 256 rows are masked.
-/

@[expose] public section

set_option maxRecDepth 65536
set_option maxHeartbeats 800000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

/-- The first key block on the diagonal. -/
def diag0 (v52 : FVec F S256x256 .bf16) (e : Src F) (s : St F) :
    { s' : St F // ∀ (v74 : BitVec 32) {R : Type} (κ : _) (Q : R → sProp 𝕄),
        iprop(HSrc c arg4 arg5 arg13 arg14 arg15 arg16 e ∗ HSt c arg17 arg18 arg19 arg20 arg21 arg22 arg23 arg11 arg12 s ∗
            ((HSrc c arg4 arg5 arg13 arg14 arg15 arg16 e ∗ HSt c arg17 arg18 arg19 arg20 arg21 arg22 arg23 arg11 arg12 s') -∗
              wp frame (wpE (defs₀ (F := F)) Variants.none c none) Set.univ κ Q))
          ⊢ wp frame (wpE (defs₀ (F := F)) Variants.none c none) Set.univ
              (body3 (R := R) i
                _ harg2 _ harg3 _ harg4 _ harg5 _ harg6 _ harg7 _ harg8 _ harg9 _ harg10 _ harg11 _ harg12 _ harg13 _ harg14
                _ harg15 _ harg16 _ harg17 _ harg18 _ harg19 _ harg20 _ harg21 _ harg22 _ harg23
                v52 v74 κ) Q } := by
  refine ⟨⟨?_, ?_, ?_, ?_, ?_, ?_, ?_, ?_, ?_⟩, fun _ {R} κ Q => ?run⟩
  case run =>
    iintro ⟨HE, HS, Hk⟩
    ihave HE := (HSrc_open c harg4 harg5 harg13 harg14 harg15 harg16 e) $$ HE
    ihave HS := (HSt_open c harg11 harg12 harg17 harg18 harg19 harg20 harg21 harg22 harg23 s) $$ HS
    icases HE with ⟨E4, E5, E13, E14, E15, E16⟩
    icases HS with ⟨H17, H18, H19, H20, H21, H22, H23, H11, H12⟩
    unfold body3
    sl_exec
    iapply Hk
    isplitl [E4 E5 E13 E14 E15 E16]
    · iapply (HSrc_back c harg4 harg5 harg13 harg14 harg15 harg16 e)
      iframe
    iapply (HSt_close c)
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H11]; · iexact H11
    iexact H12

end Cert.Proof.Sb

end
-- ==== Proof.SbDiag1.lean ====
module

public import proofs.«01_k».proof.Proof.SbCut

/-!
  The second key block on the diagonal, met by the rows from 256 on.
-/

@[expose] public section

set_option maxRecDepth 65536
set_option maxHeartbeats 800000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

/-- The second key block on the diagonal. -/
def diag1 (v52 : FVec F S256x256 .bf16) (e : Src F) (s : St F) :
    { s' : St F // ∀ (v74 : BitVec 32) {R : Type} (κ : _) (Q : R → sProp 𝕄),
        iprop(HSrc c arg4 arg5 arg13 arg14 arg15 arg16 e ∗ HSt c arg17 arg18 arg19 arg20 arg21 arg22 arg23 arg11 arg12 s ∗
            (∀ a, (HSrc c arg4 arg5 arg13 arg14 arg15 arg16 e ∗ HSt c arg17 arg18 arg19 arg20 arg21 arg22 arg23 arg11 arg12 s') -∗
              wp frame (wpE (defs₀ (F := F)) Variants.none c none) Set.univ (κ a) Q))
          ⊢ wp frame (wpE (defs₀ (F := F)) Variants.none c none) Set.univ
              (body4 (R := R) i
                _ harg2 _ harg3 _ harg4 _ harg5 _ harg6 _ harg7 _ harg8 _ harg9 _ harg10 _ harg11 _ harg12 _ harg13 _ harg14
                _ harg15 _ harg16 _ harg17 _ harg18 _ harg19 _ harg20 _ harg21 _ harg22 _ harg23
                v52 v74 κ) Q } := by
  refine ⟨⟨?_, ?_, ?_, ?_, ?_, ?_, ?_, ?_, ?_⟩, fun _ {R} κ Q => ?run⟩
  case run =>
    iintro ⟨HE, HS, Hk⟩
    ihave HE := (HSrc_open c harg4 harg5 harg13 harg14 harg15 harg16 e) $$ HE
    ihave HS := (HSt_open c harg11 harg12 harg17 harg18 harg19 harg20 harg21 harg22 harg23 s) $$ HS
    icases HE with ⟨E4, E5, E13, E14, E15, E16⟩
    icases HS with ⟨H17, H18, H19, H20, H21, H22, H23, H11, H12⟩
    unfold body4
    sl_exec
    iapply Hk
    isplitl [E4 E5 E13 E14 E15 E16]
    · iapply (HSrc_back c harg4 harg5 harg13 harg14 harg15 harg16 e)
      iframe
    iapply (HSt_close c)
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H11]; · iexact H11
    iexact H12

end Cert.Proof.Sb

end
-- ==== Proof.SbDiag2.lean ====
module

public import proofs.«01_k».proof.Proof.SbCut

/-!
  The third and the fourth key block on the diagonal, and the last application of the stored gradients.
-/

@[expose] public section

set_option maxRecDepth 65536
set_option maxHeartbeats 800000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

/-- The third key block on the diagonal. -/
def diag2 (v52 : FVec F S256x256 .bf16) (e : Src F) (s : St F) :
    { s' : St F // ∀ (v74 v672 : BitVec 32) {R : Type} (κ : _) (Q : R → sProp 𝕄),
        iprop(HSrc c arg4 arg5 arg13 arg14 arg15 arg16 e ∗ HSt c arg17 arg18 arg19 arg20 arg21 arg22 arg23 arg11 arg12 s ∗
            ((HSrc c arg4 arg5 arg13 arg14 arg15 arg16 e ∗ HSt c arg17 arg18 arg19 arg20 arg21 arg22 arg23 arg11 arg12 s') -∗
              wp frame (wpE (defs₀ (F := F)) Variants.none c none) Set.univ κ Q))
          ⊢ wp frame (wpE (defs₀ (F := F)) Variants.none c none) Set.univ
              (body5 (R := R) i
                _ harg2 _ harg3 _ harg4 _ harg5 _ harg6 _ harg7 _ harg8 _ harg9 _ harg10 _ harg11 _ harg12 _ harg13 _ harg14
                _ harg15 _ harg16 _ harg17 _ harg18 _ harg19 _ harg20 _ harg21 _ harg22 _ harg23
                v52 v74 v672 κ) Q } := by
  refine ⟨⟨?_, ?_, ?_, ?_, ?_, ?_, ?_, ?_, ?_⟩, fun _ _ {R} κ Q => ?run⟩
  case run =>
    iintro ⟨HE, HS, Hk⟩
    ihave HE := (HSrc_open c harg4 harg5 harg13 harg14 harg15 harg16 e) $$ HE
    ihave HS := (HSt_open c harg11 harg12 harg17 harg18 harg19 harg20 harg21 harg22 harg23 s) $$ HS
    icases HE with ⟨E4, E5, E13, E14, E15, E16⟩
    icases HS with ⟨H17, H18, H19, H20, H21, H22, H23, H11, H12⟩
    unfold body5
    sl_exec
    iapply Hk
    isplitl [E4 E5 E13 E14 E15 E16]
    · iapply (HSrc_back c harg4 harg5 harg13 harg14 harg15 harg16 e)
      iframe
    iapply (HSt_close c)
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H11]; · iexact H11
    iexact H12

/-- The fourth key block on the diagonal. -/
def diag3 (v52 : FVec F S256x256 .bf16) (e : Src F) (s : St F) :
    { s' : St F // ∀ (v74 : BitVec 32) {R : Type} (κ : _) (Q : R → sProp 𝕄),
        iprop(HSrc c arg4 arg5 arg13 arg14 arg15 arg16 e ∗ HSt c arg17 arg18 arg19 arg20 arg21 arg22 arg23 arg11 arg12 s ∗
            ((HSrc c arg4 arg5 arg13 arg14 arg15 arg16 e ∗ HSt c arg17 arg18 arg19 arg20 arg21 arg22 arg23 arg11 arg12 s') -∗
              wp frame (wpE (defs₀ (F := F)) Variants.none c none) Set.univ κ Q))
          ⊢ wp frame (wpE (defs₀ (F := F)) Variants.none c none) Set.univ
              (body6 (R := R) i
                _ harg2 _ harg3 _ harg4 _ harg5 _ harg6 _ harg7 _ harg8 _ harg9 _ harg10 _ harg11 _ harg12 _ harg13 _ harg14
                _ harg15 _ harg16 _ harg17 _ harg18 _ harg19 _ harg20 _ harg21 _ harg22 _ harg23
                v52 v74 κ) Q } := by
  refine ⟨⟨?_, ?_, ?_, ?_, ?_, ?_, ?_, ?_, ?_⟩, fun _ {R} κ Q => ?run⟩
  case run =>
    iintro ⟨HE, HS, Hk⟩
    ihave HE := (HSrc_open c harg4 harg5 harg13 harg14 harg15 harg16 e) $$ HE
    ihave HS := (HSt_open c harg11 harg12 harg17 harg18 harg19 harg20 harg21 harg22 harg23 s) $$ HS
    icases HE with ⟨E4, E5, E13, E14, E15, E16⟩
    icases HS with ⟨H17, H18, H19, H20, H21, H22, H23, H11, H12⟩
    unfold body6
    sl_exec
    iapply Hk
    isplitl [E4 E5 E13 E14 E15 E16]
    · iapply (HSrc_back c harg4 harg5 harg13 harg14 harg15 harg16 e)
      iframe
    iapply (HSt_close c)
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H11]; · iexact H11
    iexact H12

/-- The last application of the stored gradients. -/
def applyLast (e : Src F) (s : St F) :
    { s' : St F // ∀ {R : Type} (κ : _) (Q : R → sProp 𝕄),
        iprop(HSrc c arg4 arg5 arg13 arg14 arg15 arg16 e ∗ HSt c arg17 arg18 arg19 arg20 arg21 arg22 arg23 arg11 arg12 s ∗
            ((HSrc c arg4 arg5 arg13 arg14 arg15 arg16 e ∗ HSt c arg17 arg18 arg19 arg20 arg21 arg22 arg23 arg11 arg12 s') -∗
              wp frame (wpE (defs₀ (F := F)) Variants.none c none) Set.univ κ Q))
          ⊢ wp frame (wpE (defs₀ (F := F)) Variants.none c none) Set.univ
              (body7 (R := R) i
                arg4 arg11 arg12 arg15 arg16 arg17 arg22 arg23
                 κ) Q } := by
  refine ⟨⟨?_, ?_, ?_, ?_, ?_, ?_, ?_, ?_, ?_⟩, fun {R} κ Q => ?run⟩
  case run =>
    iintro ⟨HE, HS, Hk⟩
    ihave HE := (HSrc_open c harg4 harg5 harg13 harg14 harg15 harg16 e) $$ HE
    ihave HS := (HSt_open c harg11 harg12 harg17 harg18 harg19 harg20 harg21 harg22 harg23 s) $$ HS
    icases HE with ⟨E4, E5, E13, E14, E15, E16⟩
    icases HS with ⟨H17, H18, H19, H20, H21, H22, H23, H11, H12⟩
    unfold body7
    sl_exec
    iapply Hk
    isplitl [E4 E5 E13 E14 E15 E16]
    · iapply (HSrc_back c harg4 harg5 harg13 harg14 harg15 harg16 e)
      iframe
    iapply (HSt_close c)
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H11]; · iexact H11
    iexact H12

end Cert.Proof.Sb

end
-- ==== Proof.SbBody.lean ====
module

public import proofs.«01_k».proof.Proof.SbOpen
public import proofs.«01_k».proof.Proof.SbLoop
public import proofs.«01_k».proof.Proof.SbDiag0
public import proofs.«01_k».proof.Proof.SbDiag1
public import proofs.«01_k».proof.Proof.SbDiag2

/-!
  The whole body of a grid point: its stretches one after the other.
-/

@[expose] public section

set_option maxRecDepth 65536
set_option maxHeartbeats 800000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

/-- What the opening leaves: the gate's gradient, what the stretches read, and the state they start from. -/
def opened (p : Inp F) (e : Src F) (s : St F) (g0 : Vec F S1024x128 .bf16) : Vec F S1024x128 .bf16 × Src F × St F :=
  if h : Scalar.cmpi .ne (Scalar.extui (Scalar.cmpi .eq (BitVec.ofNat 32 (i 1).val) 0#32)) 0#32 = 1#1 then
    (openFirst c i
      harg2 harg3 harg4 harg5 harg6 harg7 harg8 harg9 harg10 harg11 harg12 harg13 harg14 harg15 harg16 harg17 harg18 harg19
      harg20 harg21 harg22 harg23
      h p e s g0).1
  else
    (openLater c i
      harg2 harg3 harg4 harg5 harg6 harg7 harg8 harg9 harg10 harg11 harg12 harg13 harg14 harg15 harg16 harg17 harg18 harg19
      harg20 harg21 harg22 harg23
      h p e s g0).1

/-- The state after the loop and the diagonal, before the query gradient is written. -/
def ended (e : Src F) (s : St F) : St F :=
  let s1 := loop c i
      harg2 harg3 harg4 harg5 harg6 harg7 harg8 harg9 harg10 harg11 harg12 harg13 harg14 harg15 harg16 harg17 harg18 harg19
      harg20 harg21 harg22 harg23
      (k0_pay262 (F := F)) e s (k0_t1_loop i).trips
  let s2 := (diag0 c i
      harg2 harg3 harg4 harg5 harg6 harg7 harg8 harg9 harg10 harg11 harg12 harg13 harg14 harg15 harg16 harg17 harg18 harg19
      harg20 harg21 harg22 harg23
      (k0_pay262 (F := F)) e s1).1
  let s3 := (diag1 c i
      harg2 harg3 harg4 harg5 harg6 harg7 harg8 harg9 harg10 harg11 harg12 harg13 harg14 harg15 harg16 harg17 harg18 harg19
      harg20 harg21 harg22 harg23
      (k0_pay262 (F := F)) e s2).1
  let s4 := (diag2 c i
      harg2 harg3 harg4 harg5 harg6 harg7 harg8 harg9 harg10 harg11 harg12 harg13 harg14 harg15 harg16 harg17 harg18 harg19
      harg20 harg21 harg22 harg23
      (k0_pay262 (F := F)) e s3).1
  let s5 := (diag3 c i
      harg2 harg3 harg4 harg5 harg6 harg7 harg8 harg9 harg10 harg11 harg12 harg13 harg14 harg15 harg16 harg17 harg18 harg19
      harg20 harg21 harg22 harg23
      (k0_pay262 (F := F)) e s4).1
  (applyLast c i
      harg4 harg5 harg11 harg12 harg13 harg14 harg15 harg16 harg17 harg18 harg19 harg20 harg21 harg22 harg23
      e s5).1

/-- The opening, at either kind of row block. -/
theorem open_run (p : Inp F) (e : Src F) (s : St F) (g0 : Vec F S1024x128 .bf16) {R : Type} (κ : _) (Q : R → sProp 𝕄) :
    iprop(HIn c arg2 arg3 arg6 arg7 arg8 p ∗ owns (c : Thread nD τ) arg10 fullShare g0 ∗ HSrc c arg4 arg5 arg13 arg14 arg15 arg16 e ∗ HSt c arg17 arg18 arg19 arg20 arg21 arg22 arg23 arg11 arg12 s ∗
        (∀ b1 b2 b3 b4, (HIn c arg2 arg3 arg6 arg7 arg8 p ∗
            owns (c : Thread nD τ) arg10 fullShare (opened c i
              harg2 harg3 harg4 harg5 harg6 harg7 harg8 harg9 harg10 harg11 harg12 harg13 harg14 harg15 harg16 harg17 harg18
              harg19 harg20 harg21 harg22 harg23
              p e s g0).1 ∗
            HSrc c arg4 arg5 arg13 arg14 arg15 arg16 (opened c i
              harg2 harg3 harg4 harg5 harg6 harg7 harg8 harg9 harg10 harg11 harg12 harg13 harg14 harg15 harg16 harg17 harg18
              harg19 harg20 harg21 harg22 harg23
              p e s g0).2.1 ∗
            HSt c arg17 arg18 arg19 arg20 arg21 arg22 arg23 arg11 arg12 (opened c i
              harg2 harg3 harg4 harg5 harg6 harg7 harg8 harg9 harg10 harg11 harg12 harg13 harg14 harg15 harg16 harg17 harg18
              harg19 harg20 harg21 harg22 harg23
              p e s g0).2.2) -∗
          wp frame (wpE (defs₀ (F := F)) Variants.none c none) Set.univ (κ (k0_pay262 (F := F)) b1 b2 b3 b4) Q))
      ⊢ wp frame (wpE (defs₀ (F := F)) Variants.none c none) Set.univ
          (body1 (R := R) i
            _ harg2 _ harg3 _ harg4 _ harg5 _ harg6 _ harg7 _ harg8 _ harg9 _ harg10 _ harg11 _ harg12 _ harg13 _ harg14 _ harg15
            _ harg16 _ harg17 _ harg18 _ harg19 _ harg20 _ harg21 _ harg22 _ harg23
            κ) Q := by
  unfold opened
  split
  · rename_i h
    exact (openFirst c i
      harg2 harg3 harg4 harg5 harg6 harg7 harg8 harg9 harg10 harg11 harg12 harg13 harg14 harg15 harg16 harg17 harg18 harg19
      harg20 harg21 harg22 harg23
      h p e s g0).2 κ Q
  · rename_i h
    exact (openLater c i
      harg2 harg3 harg4 harg5 harg6 harg7 harg8 harg9 harg10 harg11 harg12 harg13 harg14 harg15 harg16 harg17 harg18 harg19
      harg20 harg21 harg22 harg23
      h p e s g0).2 κ Q

/-- The query gradient, written at the end. -/
def finish (s : St F) (q0 : Vec F S1024x128 .bf16) :
    { dq : Vec F S1024x128 .bf16 // ∀ Q : PUnit → sProp 𝕄,
      iprop(HSt c arg17 arg18 arg19 arg20 arg21 arg22 arg23 arg11 arg12 s ∗ owns (c : Thread nD τ) arg9 fullShare q0 ∗
          ((HSt c arg17 arg18 arg19 arg20 arg21 arg22 arg23 arg11 arg12 s ∗ owns (c : Thread nD τ) arg9 fullShare dq) -∗ Q ⟨⟩))
        ⊢ wp frame (wpE (defs₀ (F := F)) Variants.none c none) Set.univ (body7.tail arg17)
            fun v => wp frame (wpE (defs₀ (F := F)) Variants.none c none) Set.univ (whole1.tail (F := F) arg9 harg9 v) Q } := by
  refine ⟨?_, fun Q => ?run⟩
  case run =>
    iintro ⟨HS, H9, Hk⟩
    unfold body7.tail whole1.tail
    rw [← wp_bind]
    ihave HS := (HSt_open c harg11 harg12 harg17 harg18 harg19 harg20 harg21 harg22 harg23 _) $$ HS
    icases HS with ⟨H17, H18, H19, H20, H21, H22, H23, H11, H12⟩
    ihave H9 := (owns_open c harg9 q0) $$ H9
    sl_exec
    sl_step
    iapply Hk
    isplitl [H17 H18 H19 H20 H21 H22 H23 H11 H12]
    · iapply (HSt_back c harg11 harg12 harg17 harg18 harg19 harg20 harg21 harg22 harg23)
      iframe
    unfold owns
    iexists _; isplitr; swap; · iexact H9
    ipureintro; rfl

/-- The body's run: what it leaves in every buffer. -/
def bodyRun (p : Inp F) (e : Src F) (s : St F) (q0 g0 : Vec F S1024x128 .bf16) :
    { dq : Vec F S1024x128 .bf16 // ∀ Q : PUnit → sProp 𝕄,
      iprop(HIn c arg2 arg3 arg6 arg7 arg8 p ∗ owns (c : Thread nD τ) arg9 fullShare q0 ∗
          owns (c : Thread nD τ) arg10 fullShare g0 ∗ HSrc c arg4 arg5 arg13 arg14 arg15 arg16 e ∗
          HSt c arg17 arg18 arg19 arg20 arg21 arg22 arg23 arg11 arg12 s ∗
          ((HIn c arg2 arg3 arg6 arg7 arg8 p ∗ owns (c : Thread nD τ) arg9 fullShare dq ∗
              owns (c : Thread nD τ) arg10 fullShare (opened c i
                harg2 harg3 harg4 harg5 harg6 harg7 harg8 harg9 harg10 harg11 harg12 harg13 harg14 harg15 harg16 harg17 harg18
                harg19 harg20 harg21 harg22 harg23
                p e s g0).1 ∗
              HSrc c arg4 arg5 arg13 arg14 arg15 arg16 (opened c i
                harg2 harg3 harg4 harg5 harg6 harg7 harg8 harg9 harg10 harg11 harg12 harg13 harg14 harg15 harg16 harg17 harg18
                harg19 harg20 harg21 harg22 harg23
                p e s g0).2.1 ∗
              HSt c arg17 arg18 arg19 arg20 arg21 arg22 arg23 arg11 arg12 (ended c i
                harg2 harg3 harg4 harg5 harg6 harg7 harg8 harg9 harg10 harg11 harg12 harg13 harg14 harg15 harg16 harg17 harg18
                harg19 harg20 harg21 harg22 harg23
                (opened c i
                  harg2 harg3 harg4 harg5 harg6 harg7 harg8 harg9 harg10 harg11 harg12 harg13 harg14 harg15 harg16 harg17 harg18
                  harg19 harg20 harg21 harg22 harg23
                  p e s g0).2.1 (opened c i
                  harg2 harg3 harg4 harg5 harg6 harg7 harg8 harg9 harg10 harg11 harg12 harg13 harg14 harg15 harg16 harg17 harg18
                  harg19 harg20 harg21 harg22 harg23
                  p e s g0).2.2)) -∗ Q ⟨⟩))
        ⊢ wp frame (wpE (defs₀ (F := F)) Variants.none c none) Set.univ
            (cc0_sb_bwd (F := F) i
              _ harg2 _ harg3 _ harg4 _ harg5 _ harg6 _ harg7 _ harg8 _ harg9 _ harg10 _ harg11 _ harg12 _ harg13 _ harg14
              _ harg15 _ harg16 _ harg17 _ harg18 _ harg19 _ harg20 _ harg21 _ harg22 _ harg23) Q } := by
  refine ⟨?_, fun Q => ?run⟩
  case run =>
    iintro ⟨HI, H9, H10, HE, HS, Hk⟩
    rw [cc0_sb_bwd_eq_skeleton]
    rw [whole1.eq]
    unfold whole1
    rw [wp_bind, k0_part57_eq_skeleton, flat.eq, body1.eq]
    iapply (open_run c i
        harg2 harg3 harg4 harg5 harg6 harg7 harg8 harg9 harg10 harg11 harg12 harg13 harg14 harg15 harg16 harg17 harg18 harg19
        harg20 harg21 harg22 harg23
        p e s g0)
    isplitl [HI]; · iexact HI
    isplitl [H10]; · iexact H10
    isplitl [HE]; · iexact HE
    isplitl [HS]; · iexact HS
    iintro %b1 %b2 %b3 %b4 ⟨HI, H10, HE, HS⟩
    rw [body2.eq]
    iapply (loops c i
        harg2 harg3 harg4 harg5 harg6 harg7 harg8 harg9 harg10 harg11 harg12 harg13 harg14 harg15 harg16 harg17 harg18 harg19
        harg20 harg21 harg22 harg23)
    isplitl [HE]; · iexact HE
    isplitl [HS]; · iexact HS
    iintro ⟨HE, HS⟩
    rw [body3.eq]
    iapply (diag0 c i
        harg2 harg3 harg4 harg5 harg6 harg7 harg8 harg9 harg10 harg11 harg12 harg13 harg14 harg15 harg16 harg17 harg18 harg19
        harg20 harg21 harg22 harg23
        _ _ _).2 _
    isplitl [HE]; · iexact HE
    isplitl [HS]; · iexact HS
    iintro ⟨HE, HS⟩
    rw [body4.eq]
    iapply (diag1 c i
        harg2 harg3 harg4 harg5 harg6 harg7 harg8 harg9 harg10 harg11 harg12 harg13 harg14 harg15 harg16 harg17 harg18 harg19
        harg20 harg21 harg22 harg23
        _ _ _).2 _
    isplitl [HE]; · iexact HE
    isplitl [HS]; · iexact HS
    iintro %b ⟨HE, HS⟩
    rw [body5.eq]
    iapply (diag2 c i
        harg2 harg3 harg4 harg5 harg6 harg7 harg8 harg9 harg10 harg11 harg12 harg13 harg14 harg15 harg16 harg17 harg18 harg19
        harg20 harg21 harg22 harg23
        _ _ _).2 _ _
    isplitl [HE]; · iexact HE
    isplitl [HS]; · iexact HS
    iintro ⟨HE, HS⟩
    rw [body6.eq]
    iapply (diag3 c i
        harg2 harg3 harg4 harg5 harg6 harg7 harg8 harg9 harg10 harg11 harg12 harg13 harg14 harg15 harg16 harg17 harg18 harg19
        harg20 harg21 harg22 harg23
        _ _ _).2 _
    isplitl [HE]; · iexact HE
    isplitl [HS]; · iexact HS
    iintro ⟨HE, HS⟩
    rw [body7.eq]
    iapply (applyLast c i
        harg4 harg5 harg11 harg12 harg13 harg14 harg15 harg16 harg17 harg18 harg19 harg20 harg21 harg22 harg23
        _ _).2
    isplitl [HE]; · iexact HE
    isplitl [HS]; · iexact HS
    iintro ⟨HE, HS⟩
    iapply (finish c harg9 harg11 harg12 harg17 harg18 harg19 harg20 harg21 harg22 harg23 (ended c i
          harg2 harg3 harg4 harg5 harg6 harg7 harg8 harg9 harg10 harg11 harg12 harg13 harg14 harg15 harg16 harg17 harg18 harg19
          harg20 harg21 harg22 harg23 _ _) q0).2
    isplitl [HS]; · iexact HS
    isplitl [H9]; · iexact H9
    iintro ⟨HS, H9⟩
    iapply Hk
    isplitl [HI]; · iexact HI
    isplitl [H9]; · iexact H9
    isplitl [H10]; · iexact H10
    isplitl [HE]; · iexact HE
    iexact HS

end Cert.Proof.Sb

end
-- ==== Proof.SbFrame.lean ====
module

public import proofs.«01_k».proof.Proof.SbBody
public import proofs.«01_k».proof.Proof.Gen.Kernel4Ideal.Frame
public import Idealize.ShloMosaic.Lib.ValueIdxCore

/-!
  The run of the whole call at any values: what a grid point's body does to the staging buffers, and from it that the call ends
  with its arguments unchanged. The results' contents are left unnamed here.
-/

@[expose] public section

set_option maxRecDepth 65536
set_option maxHeartbeats 800000

noncomputable section

namespace Cert.Proof.Sb

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

variable {F : FTy → Type} [FloatOps F]

local notation "𝕄" => MT nD τ sig Unit (Elt F) ℕ (UR sig nD τ) ℕ

/-! ## The scratch buffers -/

/-- The scratch buffers' contents: the four casts of a row block and the seven running buffers. -/
structure Scr (F : FTy → Type) where
  q : Vec F S1024x128 .bf16
  d : Vec F S1024x128 .bf16
  qt : Vec F S128x1024 .bf16
  dt : Vec F S128x1024 .bf16
  acc : Vec F S1024x128 .f32
  left : Vec F S1024x1 .f32
  rune : Vec F S1024x1 .f32
  z : Vec F S2x1024x256 .f32
  dw : Vec F S2x1024x256 .f32
  wp : Vec F S1024x256 .bf16
  dzp : Vec F S1024x256 .bf16

/-- The scratch buffers, held at `x`. -/
def HScr (c : Dev nD) (x : Scr F) : sProp 𝕄 :=
  iprop(owns (c : Thread nD τ) (Memref.whole cc0_scratch0) fullShare x.q ∗
    owns (c : Thread nD τ) (Memref.whole cc0_scratch1) fullShare x.d ∗
    owns (c : Thread nD τ) (Memref.whole cc0_scratch2) fullShare x.qt ∗
    owns (c : Thread nD τ) (Memref.whole cc0_scratch3) fullShare x.dt ∗
    owns (c : Thread nD τ) (Memref.whole cc0_scratch4) fullShare x.acc ∗
    owns (c : Thread nD τ) (Memref.whole cc0_scratch5) fullShare x.left ∗
    owns (c : Thread nD τ) (Memref.whole cc0_scratch6) fullShare x.rune ∗
    owns (c : Thread nD τ) (Memref.whole cc0_scratch7) fullShare x.z ∗
    owns (c : Thread nD τ) (Memref.whole cc0_scratch8) fullShare x.dw ∗
    owns (c : Thread nD τ) (Memref.whole cc0_scratch9) fullShare x.wp ∗
    owns (c : Thread nD τ) (Memref.whole cc0_scratch10) fullShare x.dzp)

theorem scr_open (c : Dev nD) : (Pipeline.ΦA (U := UR sig nD τ) spec0 c : sProp 𝕄) ⊢
    iprop((∃ x : Scr F, HScr c x) ∗ ∃ r, prngReg c r) := by
  unfold Pipeline.ΦA
  rw [scopedRest0_eq]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩⟩, HR⟩
  isplitr [HR]
  · iexists (⟨f0, f1, f2, f3, f4, f5, f6, f7, f8, f9, f10⟩ : Scr F)
    unfold HScr
    simp only [owns_whole]
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  · iexact HR

theorem scr_close (c : Dev nD) (x : Scr F) : (HScr c x : sProp 𝕄) ⊢
    Pipeline.scopedRest (Ix := Unit) (Name := ℕ) (U := UR sig nD τ) (Lvl := ℕ) (Val := Elt F) spec0 c := by
  rw [scopedRest0_eq]
  unfold HScr
  simp only [owns_whole]
  iintro ⟨S0, S1, S2, S3, S4, S5, S6, S7, S8, S9, S10⟩
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  iexists _; iexact S10

/-! ## The body at a point -/

variable (c : Dev nD) (t : Fin cfg0.N)

/-- What the stretches read at a point: the head's keys and values and the scratch casts. -/
abbrev srcOf (k v : Vec F S8192x128 .bf16) (x : Scr F) : Src F := ⟨k, v, x.q, x.d, x.qt, x.dt⟩

/-- The running state at a point: the scratch buffers and the two accumulated results. -/
abbrev stOf (x : Scr F) (dk dv : Vec F S128x8192 .f32) : St F := ⟨x.acc, x.left, x.rune, x.z, x.dw, x.wp, x.dzp, dk, dv⟩

/-- What the opening leaves at point `t`. -/
abbrev openedAt (p : Inp F) (e : Src F) (s : St F) (g0 : Vec F S1024x128 .bf16) : Vec F S1024x128 .bf16 × Src F × St F :=
  opened c (grid0.coords t) (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3))
    (hstage0_4 ((cfg0.slots t 4).cast nbuf0_4)) (hstage0_5 ((cfg0.slots t 5).cast nbuf0_5))
    (hstage0_6 ((cfg0.slots t 6).cast nbuf0_6)) (hstage0_7 ((cfg0.slots t 7).cast nbuf0_7))
    (hstage0_8 ((cfg0.slots t 8).cast nbuf0_8)) (hstage0_9 ((cfg0.slots t 9).cast nbuf0_9))
    (hstage0_10 ((cfg0.slots t 10).cast nbuf0_10)) (arg13 := Memref.whole cc0_scratch0) (Memref.isWhole_whole _)
    (arg14 := Memref.whole cc0_scratch1) (Memref.isWhole_whole _)
    (arg15 := Memref.whole cc0_scratch2) (Memref.isWhole_whole _)
    (arg16 := Memref.whole cc0_scratch3) (Memref.isWhole_whole _)
    (arg17 := Memref.whole cc0_scratch4) (Memref.isWhole_whole _)
    (arg18 := Memref.whole cc0_scratch5) (Memref.isWhole_whole _)
    (arg19 := Memref.whole cc0_scratch6) (Memref.isWhole_whole _)
    (arg20 := Memref.whole cc0_scratch7) (Memref.isWhole_whole _)
    (arg21 := Memref.whole cc0_scratch8) (Memref.isWhole_whole _)
    (arg22 := Memref.whole cc0_scratch9) (Memref.isWhole_whole _)
    (arg23 := Memref.whole cc0_scratch10) (Memref.isWhole_whole _) p e s g0

/-- The state the body ends with at point `t`. -/
abbrev endedAt (e : Src F) (s : St F) : St F :=
  ended c (grid0.coords t) (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3))
    (hstage0_4 ((cfg0.slots t 4).cast nbuf0_4)) (hstage0_5 ((cfg0.slots t 5).cast nbuf0_5))
    (hstage0_6 ((cfg0.slots t 6).cast nbuf0_6)) (hstage0_7 ((cfg0.slots t 7).cast nbuf0_7))
    (hstage0_8 ((cfg0.slots t 8).cast nbuf0_8)) (hstage0_9 ((cfg0.slots t 9).cast nbuf0_9))
    (hstage0_10 ((cfg0.slots t 10).cast nbuf0_10)) (arg13 := Memref.whole cc0_scratch0) (Memref.isWhole_whole _)
    (arg14 := Memref.whole cc0_scratch1) (Memref.isWhole_whole _)
    (arg15 := Memref.whole cc0_scratch2) (Memref.isWhole_whole _)
    (arg16 := Memref.whole cc0_scratch3) (Memref.isWhole_whole _)
    (arg17 := Memref.whole cc0_scratch4) (Memref.isWhole_whole _)
    (arg18 := Memref.whole cc0_scratch5) (Memref.isWhole_whole _)
    (arg19 := Memref.whole cc0_scratch6) (Memref.isWhole_whole _)
    (arg20 := Memref.whole cc0_scratch7) (Memref.isWhole_whole _)
    (arg21 := Memref.whole cc0_scratch8) (Memref.isWhole_whole _)
    (arg22 := Memref.whole cc0_scratch9) (Memref.isWhole_whole _)
    (arg23 := Memref.whole cc0_scratch10) (Memref.isWhole_whole _) e s

/-- The body's run at point `t`. -/
abbrev runAt (p : Inp F) (e : Src F) (s : St F) (q0 g0 : Vec F S1024x128 .bf16) :=
  bodyRun c (grid0.coords t) (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3))
    (hstage0_4 ((cfg0.slots t 4).cast nbuf0_4)) (hstage0_5 ((cfg0.slots t 5).cast nbuf0_5))
    (hstage0_6 ((cfg0.slots t 6).cast nbuf0_6)) (hstage0_7 ((cfg0.slots t 7).cast nbuf0_7))
    (hstage0_8 ((cfg0.slots t 8).cast nbuf0_8)) (hstage0_9 ((cfg0.slots t 9).cast nbuf0_9))
    (hstage0_10 ((cfg0.slots t 10).cast nbuf0_10)) (arg13 := Memref.whole cc0_scratch0) (Memref.isWhole_whole _)
    (arg14 := Memref.whole cc0_scratch1) (Memref.isWhole_whole _)
    (arg15 := Memref.whole cc0_scratch2) (Memref.isWhole_whole _)
    (arg16 := Memref.whole cc0_scratch3) (Memref.isWhole_whole _)
    (arg17 := Memref.whole cc0_scratch4) (Memref.isWhole_whole _)
    (arg18 := Memref.whole cc0_scratch5) (Memref.isWhole_whole _)
    (arg19 := Memref.whole cc0_scratch6) (Memref.isWhole_whole _)
    (arg20 := Memref.whole cc0_scratch7) (Memref.isWhole_whole _)
    (arg21 := Memref.whole cc0_scratch8) (Memref.isWhole_whole _)
    (arg22 := Memref.whole cc0_scratch9) (Memref.isWhole_whole _)
    (arg23 := Memref.whole cc0_scratch10) (Memref.isWhole_whole _) p e s q0 g0

theorem openedAt_k (p : Inp F) (e : Src F) (s : St F) (g0 : Vec F S1024x128 .bf16) : (openedAt c t p e s g0).2.1.k = e.k := by
  unfold openedAt opened
  split <;> exact Memref.IsWhole.read_unread _ _

theorem openedAt_v (p : Inp F) (e : Src F) (s : St F) (g0 : Vec F S1024x128 .bf16) : (openedAt c t p e s g0).2.1.v = e.v := by
  unfold openedAt opened
  split <;> exact Memref.IsWhole.read_unread _ _

omit [FloatOps F] in
/-- Holding a buffer at equal contents. -/
theorem owns_at {sh : Shape} {e : EltTy} {M : Memref sig .tc .vmem sh e} {X Y : Vec F sh e} (h : X = Y) :
    (owns (c : Thread nD τ) M fullShare X : sProp 𝕄) ⊢ owns (c : Thread nD τ) M fullShare Y := by rw [h]

/-- The body at point `t` on any contents: the inputs stay, and the results come from the run. -/
theorem point_run (p : Inp F) (k v : Vec F S8192x128 .bf16) (q0 g0 : Vec F S1024x128 .bf16) (dk dv : Vec F S128x8192 .f32)
    (x : Scr F) :
    iprop(HScr c x ∗ owns (c : Thread nD τ) (st0_0 t) fullShare p.q ∗ owns (c : Thread nD τ) (st0_1 t) fullShare p.g ∗
        owns (c : Thread nD τ) (st0_2 t) fullShare k ∗ owns (c : Thread nD τ) (st0_3 t) fullShare v ∗
        owns (c : Thread nD τ) (st0_4 t) fullShare p.o ∗ owns (c : Thread nD τ) (st0_5 t) fullShare p.tl ∗
        owns (c : Thread nD τ) (st0_6 t) fullShare p.dy ∗ owns (c : Thread nD τ) (st0_7 t) fullShare q0 ∗
        owns (c : Thread nD τ) (st0_8 t) fullShare g0 ∗ owns (c : Thread nD τ) (st0_9 t) fullShare dk ∗
        owns (c : Thread nD τ) (st0_10 t) fullShare dv)
      ⊢ wp frame (wpE (defs₀ (F := F)) Variants.none c none) Set.univ (bodyAt0 t) fun _ =>
        iprop((Pipeline.scopedRest (Ix := Unit) (Name := ℕ) (U := UR sig nD τ) (Lvl := ℕ) (Val := Elt F) spec0 c) ∗
          owns (c : Thread nD τ) (st0_0 t) fullShare p.q ∗ owns (c : Thread nD τ) (st0_1 t) fullShare p.g ∗
          owns (c : Thread nD τ) (st0_2 t) fullShare k ∗ owns (c : Thread nD τ) (st0_3 t) fullShare v ∗
          owns (c : Thread nD τ) (st0_4 t) fullShare p.o ∗ owns (c : Thread nD τ) (st0_5 t) fullShare p.tl ∗
          owns (c : Thread nD τ) (st0_6 t) fullShare p.dy ∗
          owns (c : Thread nD τ) (st0_7 t) fullShare (runAt c t p (srcOf k v x) (stOf x dk dv) q0 g0).1 ∗
          owns (c : Thread nD τ) (st0_8 t) fullShare (openedAt c t p (srcOf k v x) (stOf x dk dv) g0).1 ∗
          owns (c : Thread nD τ) (st0_9 t) fullShare (endedAt c t (openedAt c t p (srcOf k v x) (stOf x dk dv) g0).2.1
            (openedAt c t p (srcOf k v x) (stOf x dk dv) g0).2.2).dk ∗
          owns (c : Thread nD τ) (st0_10 t) fullShare (endedAt c t (openedAt c t p (srcOf k v x) (stOf x dk dv) g0).2.1
            (openedAt c t p (srcOf k v x) (stOf x dk dv) g0).2.2).dv) := by
  iintro ⟨HX, H0, H1, H2, H3, H4, H5, H6, H7, H8, H9, H10⟩
  unfold HScr
  icases HX with ⟨S0, S1, S2, S3, S4, S5, S6, S7, S8, S9, S10⟩
  iapply (runAt c t p (srcOf k v x) (stOf x dk dv) q0 g0).2
  unfold HIn HSrc HSt
  isplitl [H0 H1 H4 H5 H6]
  · isplitl [H0]; · iexact H0
    isplitl [H1]; · iexact H1
    isplitl [H4]; · iexact H4
    isplitl [H5]; · iexact H5
    iexact H6
  isplitl [H7]; · iexact H7
  isplitl [H8]; · iexact H8
  isplitl [H2 H3 S0 S1 S2 S3]
  · isplitl [H2]; · iexact H2
    isplitl [H3]; · iexact H3
    isplitl [S0]; · iexact S0
    isplitl [S1]; · iexact S1
    isplitl [S2]; · iexact S2
    iexact S3
  isplitl [S4 S5 S6 S7 S8 S9 S10 H9 H10]
  · isplitl [S4]; · iexact S4
    isplitl [S5]; · iexact S5
    isplitl [S6]; · iexact S6
    isplitl [S7]; · iexact S7
    isplitl [S8]; · iexact S8
    isplitl [S9]; · iexact S9
    isplitl [S10]; · iexact S10
    isplitl [H9]; · iexact H9
    iexact H10
  iintro ⟨⟨H0, H1, H4, H5, H6⟩, H7, H8, ⟨H2, H3, S0, S1, S2, S3⟩, ⟨S4, S5, S6, S7, S8, S9, S10, H9, H10⟩⟩
  isplitl [S0 S1 S2 S3 S4 S5 S6 S7 S8 S9 S10]
  · iapply (scr_close c ⟨_, _, _, _, _, _, _, _, _, _, _⟩)
    unfold HScr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  isplitl [H0]; · iexact H0
  isplitl [H1]; · iexact H1
  isplitl [H2]
  · iapply (owns_at c (openedAt_k c t p (srcOf k v x) (stOf x dk dv) g0)); iexact H2
  isplitl [H3]
  · iapply (owns_at c (openedAt_v c t p (srcOf k v x) (stOf x dk dv) g0)); iexact H3
  isplitl [H4]; · iexact H4
  isplitl [H5]; · iexact H5
  isplitl [H6]; · iexact H6
  isplitl [H7]; · iexact H7
  isplitl [H8]; · iexact H8
  isplitl [H9]; · iexact H9
  iexact H10

/-! ## The pipeline's proof data -/

/-- Named contents of the four results' buffers after each point. -/
structure Outs (F : FTy → Type) where
  dq : Fin cfg0.N → Vec F S1024x128 .bf16
  dg : Fin cfg0.N → Vec F S1024x128 .bf16
  dk : Fin cfg0.N → Vec F S128x8192 .f32
  dv : Fin cfg0.N → Vec F S128x8192 .f32

variable (m : (ℓ : Loc nD τ sig) → Buf (Elt F) ℓ) (ρ : Dev nD → PrngReg) (O : Dev nD → Outs F)

/-- Every input's buffer at its block, the results' at the named contents, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (O c).dq t
    | ⟨8, _⟩ => (O c).dg t
    | ⟨9, _⟩ => (O c).dk t
    | ⟨10, _⟩ => (O c).dv t
  Φ _ := Pipeline.ΦA spec0 c
  q w := Pipeline.shareOf spec0 w
  owed _ := 0

theorem dats_A (c : Dev nD) (w : Fin cfg0.W) : (dats m O 0 c).A w = V m c (Pipeline.arrRef spec0 w) := by
  dsimp only [dats]

theorem before_0 (d) : (dats m O 0 c).before 0 t d = iblk m c 0 t :=
  before0_0_of m _ (dats_A m O c 0) (fun t => by dsimp only [dats]) t d
theorem before_1 (d) : (dats m O 0 c).before 1 t d = iblk m c 1 t :=
  before0_1_of m _ (dats_A m O c 1) (fun t => by dsimp only [dats]) t d
theorem before_2 (d) : (dats m O 0 c).before 2 t d = iblk m c 2 t :=
  before0_2_of m _ (dats_A m O c 2) (fun t => by dsimp only [dats]) t d
theorem before_3 (d) : (dats m O 0 c).before 3 t d = iblk m c 3 t :=
  before0_3_of m _ (dats_A m O c 3) (fun t => by dsimp only [dats]) t d
theorem before_4 (d) : (dats m O 0 c).before 4 t d = iblk m c 4 t :=
  before0_4_of m _ (dats_A m O c 4) (fun t => by dsimp only [dats]) t d
theorem before_5 (d) : (dats m O 0 c).before 5 t d = iblk m c 5 t :=
  before0_5_of m _ (dats_A m O c 5) (fun t => by dsimp only [dats]) t d
theorem before_6 (d) : (dats m O 0 c).before 6 t d = iblk m c 6 t :=
  before0_6_of m _ (dats_A m O c 6) (fun t => by dsimp only [dats]) t d

/-- The row block's inputs at point `t`. -/
abbrev inpAt (c : Dev nD) (t : Fin cfg0.N) : Inp F := ⟨iblk m c 0 t, iblk m c 1 t, iblk m c 4 t, iblk m c 5 t, iblk m c 6 t⟩

theorem defs₀_row (t : Fin cfg0.N) : defs₀ (F := F) .tc cfg0.body (cfg0.bodyArgs t (cfg0.slots t)) = bodyAt0 t := by
  unfold defs₀; rw [Defs.onTc_tc]

/-- The windows whose contents the frame leaves unnamed: the results'. -/
def unnamed (w : Fin cfg0.W) : Bool := decide (7 ≤ w.val)

theorem forget_body (t : Fin cfg0.N) :
    iprop((dats m O 0 c).Φ t.castSucc ∗ (dats m O 0 c).owesAt () t.castSucc ∗
        (∃ d, owns (c : Thread nD τ) (st0_0 t) fullShare ((dats m O 0 c).before 0 t d)) ∗
        (∃ d, owns (c : Thread nD τ) (st0_1 t) fullShare ((dats m O 0 c).before 1 t d)) ∗
        (∃ d, owns (c : Thread nD τ) (st0_2 t) fullShare ((dats m O 0 c).before 2 t d)) ∗
        (∃ d, owns (c : Thread nD τ) (st0_3 t) fullShare ((dats m O 0 c).before 3 t d)) ∗
        (∃ d, owns (c : Thread nD τ) (st0_4 t) fullShare ((dats m O 0 c).before 4 t d)) ∗
        (∃ d, owns (c : Thread nD τ) (st0_5 t) fullShare ((dats m O 0 c).before 5 t d)) ∗
        (∃ d, owns (c : Thread nD τ) (st0_6 t) fullShare ((dats m O 0 c).before 6 t d)) ∗
        (∃ X, owns (c : Thread nD τ) (st0_7 t) fullShare X) ∗ (∃ X, owns (c : Thread nD τ) (st0_8 t) fullShare X) ∗
        (∃ X, owns (c : Thread nD τ) (st0_9 t) fullShare X) ∗ (∃ X, owns (c : Thread nD τ) (st0_10 t) fullShare X))
      ⊢ wp frame (wpE (defs₀ (F := F)) Variants.none c none) Set.univ (bodyAt0 t) fun _ =>
        iprop((dats m O 0 c).Φ t.succ ∗ (dats m O 0 c).owesAt () t.succ ∗
          owns (c : Thread nD τ) (st0_0 t) fullShare ((dats m O 0 c).after 0 t) ∗
          owns (c : Thread nD τ) (st0_1 t) fullShare ((dats m O 0 c).after 1 t) ∗
          owns (c : Thread nD τ) (st0_2 t) fullShare ((dats m O 0 c).after 2 t) ∗
          owns (c : Thread nD τ) (st0_3 t) fullShare ((dats m O 0 c).after 3 t) ∗
          owns (c : Thread nD τ) (st0_4 t) fullShare ((dats m O 0 c).after 4 t) ∗
          owns (c : Thread nD τ) (st0_5 t) fullShare ((dats m O 0 c).after 5 t) ∗
          owns (c : Thread nD τ) (st0_6 t) fullShare ((dats m O 0 c).after 6 t) ∗
          (∃ X, owns (c : Thread nD τ) (st0_7 t) fullShare X) ∗ (∃ X, owns (c : Thread nD τ) (st0_8 t) fullShare X) ∗
          (∃ X, owns (c : Thread nD τ) (st0_9 t) fullShare X) ∗ (∃ X, owns (c : Thread nD τ) (st0_10 t) fullShare X)) := by
  simp only [before_0, before_1, before_2, before_3, before_4, before_5, before_6]
  rw [show (dats m O 0 c).Φ t.castSucc = Pipeline.ΦA spec0 c from rfl, show (dats m O 0 c).Φ t.succ = Pipeline.ΦA spec0 c from rfl,
    show (dats m O 0 c).owesAt () t.succ = (dats m O 0 c).owesAt () t.castSucc from rfl]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩, ⟨%X8, H8⟩, ⟨%X9, H9⟩, ⟨%X10, H10⟩⟩
  ihave HΦ := (scr_open c) $$ HΦ
  icases HΦ with ⟨⟨%x, HX⟩, HR⟩
  iapply (wp_wand_r frame (wpE (defs₀ (F := F)) Variants.none c none) Set.univ)
  isplitl [HX H0 H1 H2 H3 H4 H5 H6 H7 H8 H9 H10]
  · iapply (point_run c t (inpAt m c t) (iblk m c 2 t) (iblk m c 3 t) X7 X8 X9 X10 x)
    isplitl [HX]; · iexact HX
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %_ ⟨HX, H0, H1, H2, H3, H4, H5, H6, H7, H8, H9, H10⟩
  isplitl [HX HR]
  · unfold Pipeline.ΦA
    isplitl [HX]; · iexact HX
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

theorem forget_obligation (c : Dev nD) :
    BodyObligation (dats (F := F) m O 0 c) (defs₀ (F := F)) Variants.none () Set.univ unnamed := fun t => by
  rw [bigSep_W0, bigSep_W0, defs₀_row]
  exact forget_body m O t (c := c)

/-! ## The run and the frame -/

-- the run theorem's implicit arguments are found by unifying its conclusion with this one
set_option backward.isDefEq.respectTransparency.types false in
theorem forget_run : θ_run defs (onTc (τ := τ) (main (F := F))) (s₀ m ρ)
    (fun r => RDat.FramePost cfg0 (fun c => (dats m O 0 c).toRForget unnamed) (V m) r ∧ r.2.sem = fun _ => 0) :=
  Pipeline.θ_run_frame_forget_shared (Q' := _) cfgs (dats m O) (0 : Fin 1) launch₀0 defs₀ Variants.none unnamed m ρ main
    (hbody := fun c => (forget_obligation m O c).loose) (hq := fun _ _ _ => rfl)
    (howed := fun _ _ => rfl) (V := V m) (hmain := hmain m Variants.none) (hA := dats_A m O) (hΦ := fun _ _ => rfl)

/-- Some contents of the results' buffers; nothing is said of them in the frame. -/
def anyOuts (c : Dev nD) : Outs F where
  dq t _ := iblk m c 2 t (ValueIdx.ix2 (⟨0, by decide⟩ : Fin 8192) (⟨0, by decide⟩ : Fin 128))
  dg t _ := iblk m c 2 t (ValueIdx.ix2 (⟨0, by decide⟩ : Fin 8192) (⟨0, by decide⟩ : Fin 128))
  dk t _ := iblk m c 0 t (ValueIdx.ix2 (⟨0, by decide⟩ : Fin 1024) (⟨0, by decide⟩ : Fin 128))
  dv t _ := iblk m c 0 t (ValueIdx.ix2 (⟨0, by decide⟩ : Fin 1024) (⟨0, by decide⟩ : Fin 128))

/-- The call ends, its arguments unchanged and its counters at zero. -/
theorem frame_sb : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1.arr_in c 1 rfl).trans ((dats_A m (anyOuts m) c 1).trans (V_main_arg0 m c)),
        ((h.1 c).2 main_arg1 (Pipeline.mem_restRefs_of main_arg1 (by decide) (by decide))).trans (V_main_arg1 m c),
        (h.1.arr_in c 6 rfl).trans ((dats_A m (anyOuts m) c 6).trans (V_main_arg2 m c))⟩, h.2⟩)
    (forget_run m ρ (anyOuts m))

end Cert.Proof.Sb

end
-- ==== Proof.SbGroup.lean ====
module

public import proofs.«01_k».proof.Proof.SbCut
public import Idealize.ShloMosaic.Lib.WholeRead
public import Idealize.ShloMosaic.Lib.VecWindow

/-!
  What a stretch leaves of one group of 256 rows, written once: the soft thresholds of the group's logits, their running sums, the
  weights, the gradient of the logits, and both carried columns.  The key block on the diagonal masks one group.
-/

@[expose] public section

set_option maxRecDepth 65536

noncomputable section

namespace Cert.Proof.Sb

open Cert.Kernel4Ideal Cert.Kernel4Ideal.Gen
open Idealize.ShloMosaic Idealize.ShloMosaic.TcCoe

variable {F : FTy → Type} [FloatOps F] {sg : RefSig}

/-- A group of rows: its number, and whether its keys at and after the row are masked. -/
structure Grp where
  g : Fin 4
  m : Bool

/-- The entries strictly before the diagonal where `m` says so, all of them otherwise. -/
def before (m : Bool) (x : FVec F S256x256 .f32) : FVec F S256x256 .f32 :=
  bif m then select k0_pay300 x (broadcast S256x256 (Scalar.ofBits .f32 0x00000000#32)) else x

/-- A group's logits as a square. -/
def square (z : Vec F S1x256x256 .f32) : FVec F S256x256 .f32 := shapeCast S256x256 z shapeCasts_S1x256x256_S256x256

/-- The soft thresholds of a group's logits. -/
def soft (m : Bool) (z : Vec F S1x256x256 .f32) : FVec F S256x256 .f32 :=
  before m (addf (maximumf (square z) (broadcast S256x256 (Scalar.ofBits .f32 0x00000000#32)))
    (log (addf (broadcast S256x256 (Scalar.ofBits .f32 0x3F800000#32))
      (exp (subf (broadcast S256x256 (Scalar.ofBits .f32 0x00000000#32)) (absf (square z)))))))

/-- Running sums along the keys, as two products with a triangle of ones: of the rounded entries and of what rounding leaves. -/
def sums (v52 : FVec F S256x256 .bf16) (x : FVec F S256x256 .f32) : FVec F S256x256 .f32 :=
  addf
    (matmul dot_S256x256_S256x256_S256x256_1_0_0_1_n_n none (truncf .bf16 x bitsLt_bf16_f32) v52 (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) v52 (constant S256x256 .f32 0x00000000#32))

/-- The last column of a group's running sums. -/
def lastCol (x : FVec F S256x256 .f32) : FVec F S256x1 .f32 := extractStridedSlice S256x1 ![0, 255] x slices_S256x256_o0_255_S256x1

/-- The weights. -/
def weights (v52 : FVec F S256x256 .bf16) (m : Bool) (z : Vec F S1x256x256 .f32) (l : Vec F S256x1 .f32) : FVec F S256x256 .f32 :=
  before m (exp (subf (subf (square z) (soft m z)) (subf (broadcastTo S256x256 l broadcasts_S256x1_S256x256) (sums v52 (soft m z)))))

/-- What is left of the row's sum of log keeps after the group. -/
def leftNext (v52 : FVec F S256x256 .bf16) (m : Bool) (z : Vec F S1x256x256 .f32) (l : Vec F S256x1 .f32) : FVec F S256x1 .f32 :=
  shapeCast S256x1 (subf l (lastCol (sums v52 (soft m z)))) shapeCasts_S256x1_S256x1

/-- The weights' cotangents times the weights. -/
def pulls (v52 : FVec F S256x256 .bf16) (m : Bool) (z d : Vec F S1x256x256 .f32) (l : Vec F S256x1 .f32) : FVec F S256x256 .f32 :=
  mulf (square d) (weights v52 m z l)

/-- The running sum of those products after the group. -/
def runNext (v52 : FVec F S256x256 .bf16) (m : Bool) (z d : Vec F S1x256x256 .f32) (l ru : Vec F S256x1 .f32) : FVec F S256x1 .f32 :=
  shapeCast S256x1 (addf ru (lastCol (sums v52 (pulls v52 m z d l)))) shapeCasts_S256x1_S256x1

/-- The rounded weights. -/
def weightsOut (v52 : FVec F S256x256 .bf16) (m : Bool) (z : Vec F S1x256x256 .f32) (l : Vec F S256x1 .f32) : FVec F S256x256 .bf16 :=
  shapeCast S256x256 (truncf .bf16 (weights v52 m z l) bitsLt_bf16_f32) shapeCasts_S256x256_S256x256

/-- The rounded gradient of the logits. -/
def gradOut (v52 : FVec F S256x256 .bf16) (m : Bool) (z d : Vec F S1x256x256 .f32) (l ru : Vec F S256x1 .f32) : FVec F S256x256 .bf16 :=
  shapeCast S256x256 (truncf .bf16
    (before m (mulf
      (subf (pulls v52 m z d l)
        (mulf (exp (subf (square z) (soft m z)))
          (addf (broadcastTo S256x256 ru broadcasts_S256x1_S256x256) (sums v52 (pulls v52 m z d l)))))
      (broadcast S256x256 (Scalar.ofBits .f32 0x3DB504F3#32)))) bitsLt_bf16_f32) shapeCasts_S256x256_S256x256

/-! ## Where a group is read and written -/

theorem slot_inb (slot : Fin 2) (g : Fin 4) : ∀ a, (![slot.val, 256 * g.val, 0] : Fin 3 → ℕ) a + S1x256x256.size a ≤ S2x1024x256.size a := by
  revert slot g; decide

theorem col_inb (g : Fin 4) : ∀ a, (![256 * g.val, 0] : Fin 2 → ℕ) a + S256x1.size a ≤ S1024x1.size a := by revert g; decide

theorem row_inb (g : Fin 4) : ∀ a, (![256 * g.val, 0] : Fin 2 → ℕ) a + S256x256.size a ≤ S1024x256.size a := by revert g; decide

/-- The groups from `u` on, last first, the first of them masked where `m` says so. -/
def rowsFrom (m : Bool) : Fin 4 → List Grp
  | 0 => [⟨3, false⟩, ⟨2, false⟩, ⟨1, false⟩, ⟨0, m⟩]
  | 1 => [⟨3, false⟩, ⟨2, false⟩, ⟨1, m⟩]
  | 2 => [⟨3, false⟩, ⟨2, m⟩]
  | 3 => [⟨3, m⟩]

variable
  {arg18 : Memref sg .tc .vmem S1024x1 .f32} (harg18 : arg18.IsWhole)
  {arg19 : Memref sg .tc .vmem S1024x1 .f32} (harg19 : arg19.IsWhole)
  {arg20 : Memref sg .tc .vmem S2x1024x256 .f32} (harg20 : arg20.IsWhole)
  {arg21 : Memref sg .tc .vmem S2x1024x256 .f32} (harg21 : arg21.IsWhole)
  {arg22 : Memref sg .tc .vmem S1024x256 .bf16} (harg22 : arg22.IsWhole)
  {arg23 : Memref sg .tc .vmem S1024x256 .bf16} (harg23 : arg23.IsWhole)

/-- A group's square of a slot. -/
def rdSlot {a : Memref sg .tc .vmem S2x1024x256 .f32} (h : a.IsWhole) (slot : Fin 2) (x : Vec F S2x1024x256 .f32) (g : Fin 4) :
    Vec F S1x256x256 .f32 :=
  View.readAt (Elt F) a.view (Rect.unit (s := S2x1024x256) ![slot.val, 256 * g.val, 0] S1x256x256.size (slot_inb slot g)).toLoadRect (h.unread x)

/-- A group's part of a column. -/
def rdCol {a : Memref sg .tc .vmem S1024x1 .f32} (h : a.IsWhole) (x : Vec F S1024x1 .f32) (g : Fin 4) : Vec F S256x1 .f32 :=
  View.readAt (Elt F) a.view (Rect.unit (s := S1024x1) ![256 * g.val, 0] S256x1.size (col_inb g)).toLoadRect (h.unread x)

/-- A column after the groups' writes. -/
def colAfter {a : Memref sg .tc .vmem S1024x1 .f32} (h : a.IsWhole) (x : Vec F S1024x1 .f32) (L : List Grp) (f : Grp → Vec F S256x1 .f32) :
    Vec F S1024x1 .f32 :=
  View.read (Elt F) a.view (a.view.writes (Elt F) (h.unread x)
    (L.map fun p => ⟨Rect.unit (s := S1024x1) ![256 * p.g.val, 0] S256x1.size (col_inb p.g), f p⟩))

/-- A square buffer after the groups' writes. -/
def rowsAfter {a : Memref sg .tc .vmem S1024x256 .bf16} (h : a.IsWhole) (x : Vec F S1024x256 .bf16) (L : List Grp)
    (f : Grp → Vec F S256x256 .bf16) : Vec F S1024x256 .bf16 :=
  View.read (Elt F) a.view (a.view.writes (Elt F) (h.unread x)
    (L.map fun p => ⟨Rect.unit (s := S1024x256) ![256 * p.g.val, 0] S256x256.size (row_inb p.g), f p⟩))

/-- What the groups' part of a stretch leaves: both columns, the rounded weights and the rounded gradient of the logits. -/
structure Part (F : FTy → Type) where
  left : Vec F S1024x1 .f32
  rune : Vec F S1024x1 .f32
  wp : Vec F S1024x256 .bf16
  dzp : Vec F S1024x256 .bf16

/-- The groups from `u` on of a stretch that reads its logits from a slot. -/
def groups (v52 : FVec F S256x256 .bf16) (slot : Fin 2) (u : Fin 4) (m : Bool) (s : St F) : Part F where
  left := colAfter harg18 s.left (rowsFrom m u) fun p => leftNext v52 p.m (rdSlot harg20 slot s.z p.g) (rdCol harg18 s.left p.g)
  rune := colAfter harg19 s.rune (rowsFrom m u) fun p =>
    runNext v52 p.m (rdSlot harg20 slot s.z p.g) (rdSlot harg21 slot s.dw p.g) (rdCol harg18 s.left p.g) (rdCol harg19 s.rune p.g)
  wp := rowsAfter harg22 s.wp (rowsFrom m u) fun p => weightsOut v52 p.m (rdSlot harg20 slot s.z p.g) (rdCol harg18 s.left p.g)
  dzp := rowsAfter harg23 s.dzp (rowsFrom m u) fun p =>
    gradOut v52 p.m (rdSlot harg20 slot s.z p.g) (rdSlot harg21 slot s.dw p.g) (rdCol harg18 s.left p.g) (rdCol harg19 s.rune p.g)

/-- That part of a state. -/
def St.part (s : St F) : Part F := ⟨s.left, s.rune, s.wp, s.dzp⟩

end Cert.Proof.Sb
-- ==== Proof.SbReal.lean ====
module

public import proofs.«01_k».proof.Proof.SbGroup
public import proofs.«01_k».proof.Proof.Reals
public import Idealize.ShloMosaic.Lib.Pointwise
public import Idealize.ShloMosaic.Lib.WordCmp

/-!
  The group's functions on real numbers: the soft thresholds, their running sums, the weights and the gradient of the logits of 256
  rows, as real functions of the real logits, cotangents and carried columns.
-/

@[expose] public section

noncomputable section

namespace Cert.Proof.Sb

open Cert.Kernel4Ideal Cert.Kernel4Ideal.Gen Cert.Reals
open Idealize.ShloMosaic Idealize.ShloMosaic.TcCoe
open Idealize.ShloMosaic.Pointwise
open scoped BigOperators

/-- The scale of the logits: the value of the word nearest to `1/√128`. -/
def sc : ℝ := 11863283 / 2 ^ 27

theorem lit_sc : Ideal.ofBits .f32 0x3DB504F3#32 = (sc : EReal) := by
  unfold sc
  simp [Ideal.ofBits, Ideal.ieee, -EReal.coe_mul]; norm_num

/-- The soft threshold, `log (1 + eˣ)` in the form both programs compute it. -/
def softR (x : ℝ) : ℝ := max x 0 + Real.log (1 + Real.exp (0 - max x (-x)))

/-- Key `j` of row `r` counts: all do, or those before the row. -/
def On (m : Bool) (r j : ℕ) : Prop := m = true → j < r

instance (m : Bool) (r j : ℕ) : Decidable (On m r j) := by unfold On; infer_instance

/-- The masked soft threshold. -/
def spR (m : Bool) (ζ : ℕ → ℕ → ℝ) (r j : ℕ) : ℝ := if On m r j then softR (ζ r j) else 0

/-- The weight: `l` is the row's sum of log keeps that is left. -/
def wR (m : Bool) (ζ : ℕ → ℕ → ℝ) (l : ℕ → ℝ) (r j : ℕ) : ℝ :=
  if On m r j then Real.exp (ζ r j - softR (ζ r j) - (l r - ∑ b ∈ Finset.range (j + 1), spR m ζ r b)) else 0

/-- The weight times its cotangent. -/
def eR (m : Bool) (ζ δ : ℕ → ℕ → ℝ) (l : ℕ → ℝ) (r j : ℕ) : ℝ := δ r j * wR m ζ l r j

/-- The gradient of the logits, scaled: `ρ` is the row's running sum of the products so far. -/
def dzR (m : Bool) (ζ δ : ℕ → ℕ → ℝ) (l ρ : ℕ → ℝ) (r j : ℕ) : ℝ :=
  if On m r j then
    (eR m ζ δ l r j - Real.exp (ζ r j - softR (ζ r j)) * (ρ r + ∑ b ∈ Finset.range (j + 1), eR m ζ δ l r b)) * sc
  else 0

/-! ## The operations at an index -/

theorem mask_at (r j : Fin 256) : k0_pay300 (ix2 r j) = BitVec.ofBool (decide (j.val < r.val)) := by
  pointwise [k0_pay300]
  exact WordCmp.cmpi_slt_ofNat (by omega) (by omega)

theorem tri_at (r j : Fin 256) : k0_pay262 (F := Ideal) (ix2 r j) = (((if r.val ≤ j.val then 1 else 0 : ℝ)) : EReal) := by
  pointwise [k0_pay262]
  rw [WordCmp.cmpi_sle_ofNat (by omega) (by omega), WordCmp.select_ofBool]
  by_cases h : r.val ≤ j.val <;> simp [h]

theorem square_at (z : Vec Ideal S1x256x256 .f32) (r j : Fin 256) : square z (ix2 r j) = z (ix3 0 r j) := by
  pointwise [square]

theorem last_at (x : FVec Ideal S256x256 .f32) (r : Fin 256) : lastCol x (ix2 r 0) = x (ix2 r 255) := by
  pointwise [lastCol]

theorem before_at (m : Bool) (x : FVec Ideal S256x256 .f32) (y : ℕ → ℕ → ℝ) (h : ∀ r j : Fin 256, x (ix2 r j) = (y r j : EReal)) (r j : Fin 256) :
    before m x (ix2 r j) = ((if On m r j then y r j else 0 : ℝ) : EReal) := by
  cases m
  · simp [before, On, h]
  · simp only [before, cond_true, On, true_implies]
    pointwise []
    rw [mask_at, WordCmp.select_ofBool, h]
    by_cases hj : j.val < r.val <;> simp [hj]

theorem soft_at (m : Bool) (z : Vec Ideal S1x256x256 .f32) (ζ : ℕ → ℕ → ℝ) (h : ∀ r j : Fin 256, z (ix3 0 r j) = (ζ r j : EReal)) (r j : Fin 256) :
    soft m z (ix2 r j) = (spR m ζ r j : EReal) := by
  refine (before_at m _ (fun r j => softR (ζ r j)) (fun r j => ?_) r j).trans rfl
  pointwise []
  rw [square_at, h, Ideal.absf_def, ← EReal.coe_zero, ← EReal.coe_one, ← EReal.coe_neg, max_real, max_real, ← EReal.coe_sub, Ideal.exp_coe, ← EReal.coe_add,
    log_real (by positivity), ← EReal.coe_add]
  rfl

theorem sums_at (x : FVec Ideal S256x256 .f32) (y : ℕ → ℕ → ℝ) (h : ∀ r j : Fin 256, x (ix2 r j) = (y r j : EReal)) (r j : Fin 256) :
    sums (k0_pay262 (F := Ideal)) x (ix2 r j) = ((∑ b ∈ Finset.range (j.val + 1), y r b : ℝ) : EReal) := by
  pointwise [sums]
  have h1 : ∀ b : Fin 256, x (ix2 r b) * k0_pay262 (F := Ideal) (ix2 b j) = ((if b.val ∈ Finset.range (j.val + 1) then y r b else 0 : ℝ) : EReal) := fun b => by
    rw [h, tri_at, ← EReal.coe_mul, mul_ite, mul_one, mul_zero]
    simp only [Finset.mem_range, Nat.lt_succ_iff]
  have h2 : ∀ b : Fin 256, (x (ix2 r b) - x (ix2 r b)) * k0_pay262 (F := Ideal) (ix2 b j) = ((0 : ℝ) : EReal) := fun b => by
    rw [h, tri_at, ← EReal.coe_sub, sub_self, ← EReal.coe_mul, zero_mul]
  rw [Finset.sum_congr rfl fun b _ => h1 b, Finset.sum_congr rfl fun b _ => h2 b, sum_coe, sum_coe, Finset.sum_const_zero, ← EReal.coe_add, add_zero,
    Fin.sum_univ_eq_sum_range (fun b => if b ∈ Finset.range (j.val + 1) then y r b else 0) 256, Finset.sum_ite_mem,
    Finset.inter_eq_right.mpr fun b hb => Finset.mem_range.mpr (lt_of_lt_of_le (Finset.mem_range.mp hb) j.isLt)]

section

variable (m : Bool) (z d : Vec Ideal S1x256x256 .f32) (l ru : Vec Ideal S256x1 .f32) (ζ δ : ℕ → ℕ → ℝ) (lam ρ : ℕ → ℝ)
  (hz : ∀ r j : Fin 256, z (ix3 0 r j) = (ζ r j : EReal)) (hd : ∀ r j : Fin 256, d (ix3 0 r j) = (δ r j : EReal))
  (hl : ∀ r : Fin 256, l (ix2 r 0) = (lam r : EReal)) (hr : ∀ r : Fin 256, ru (ix2 r 0) = (ρ r : EReal))

local notation "tri" => k0_pay262 (F := Ideal)

include hz hl in
theorem weights_at (r j : Fin 256) : weights tri m z l (ix2 r j) = (wR m ζ lam r j : EReal) := by
  by_cases ho : On m r j
  · have : ∀ r j : Fin 256, exp (subf (subf (square z) (soft m z)) (subf (broadcastTo S256x256 l broadcasts_S256x1_S256x256) (sums tri (soft m z)))) (ix2 r j)
        = ((Real.exp (ζ r j - spR m ζ r j - (lam r - ∑ b ∈ Finset.range (j.val + 1), spR m ζ r b)) : ℝ) : EReal) := fun r j => by
      pointwise []
      rw [square_at, hz, soft_at m z ζ hz, sums_at _ _ (soft_at m z ζ hz), hl, ← EReal.coe_sub, ← EReal.coe_sub, ← EReal.coe_sub, Ideal.exp_coe]
    refine (before_at m _ (fun r j => Real.exp (ζ r j - spR m ζ r j - (lam r - ∑ b ∈ Finset.range (j + 1), spR m ζ r b))) this r j).trans ?_
    rw [if_pos ho, wR, if_pos ho, spR, if_pos ho]
  · have : ∀ r j : Fin 256, exp (subf (subf (square z) (soft m z)) (subf (broadcastTo S256x256 l broadcasts_S256x1_S256x256) (sums tri (soft m z)))) (ix2 r j)
        = ((Real.exp (ζ r j - spR m ζ r j - (lam r - ∑ b ∈ Finset.range (j.val + 1), spR m ζ r b)) : ℝ) : EReal) := fun r j => by
      pointwise []
      rw [square_at, hz, soft_at m z ζ hz, sums_at _ _ (soft_at m z ζ hz), hl, ← EReal.coe_sub, ← EReal.coe_sub, ← EReal.coe_sub, Ideal.exp_coe]
    refine (before_at m _ (fun r j => Real.exp (ζ r j - spR m ζ r j - (lam r - ∑ b ∈ Finset.range (j + 1), spR m ζ r b))) this r j).trans ?_
    rw [if_neg ho, wR, if_neg ho]

include hz hl in
theorem leftNext_at (r : Fin 256) :
    leftNext tri m z l (ix2 r 0) = ((lam r - ∑ b ∈ Finset.range 256, spR m ζ r b : ℝ) : EReal) := by
  pointwise [leftNext]
  rw [last_at, sums_at _ _ (soft_at m z ζ hz), hl, ← EReal.coe_sub]
  rfl

include hz hd hl in
theorem pulls_at (r j : Fin 256) : pulls tri m z d l (ix2 r j) = (eR m ζ δ lam r j : EReal) := by
  pointwise [pulls]
  rw [square_at, hd, weights_at m z l ζ lam hz hl, ← EReal.coe_mul]
  rfl

include hz hd hl hr in
theorem runNext_at (r : Fin 256) :
    runNext tri m z d l ru (ix2 r 0) = ((ρ r + ∑ b ∈ Finset.range 256, eR m ζ δ lam r b : ℝ) : EReal) := by
  pointwise [runNext]
  rw [last_at, sums_at _ _ (pulls_at m z d l ζ δ lam hz hd hl), hr, ← EReal.coe_add]
  rfl

include hz hl in
theorem weightsOut_at (r j : Fin 256) : weightsOut tri m z l (ix2 r j) = (wR m ζ lam r j : EReal) := by
  pointwise [weightsOut]
  exact weights_at m z l ζ lam hz hl r j

include hz hd hl hr in
theorem gradOut_at (r j : Fin 256) : gradOut tri m z d l ru (ix2 r j) = (dzR m ζ δ lam ρ r j : EReal) := by
  have : ∀ r j : Fin 256, mulf
      (subf (pulls tri m z d l)
        (mulf (exp (subf (square z) (soft m z)))
          (addf (broadcastTo S256x256 ru broadcasts_S256x1_S256x256) (sums tri (pulls tri m z d l)))))
      (broadcast S256x256 (Scalar.ofBits (F := Ideal) .f32 0x3DB504F3#32)) (ix2 r j)
      = (((eR m ζ δ lam r j - Real.exp (ζ r j - spR m ζ r j) * (ρ r + ∑ b ∈ Finset.range (j.val + 1), eR m ζ δ lam r b)) * sc : ℝ) : EReal) := fun r j => by
    pointwise []
    rw [square_at, hz, soft_at m z ζ hz, pulls_at m z d l ζ δ lam hz hd hl, sums_at _ _ (pulls_at m z d l ζ δ lam hz hd hl), hr, lit_sc, ← EReal.coe_sub,
      Ideal.exp_coe, ← EReal.coe_add, ← EReal.coe_mul, ← EReal.coe_sub, ← EReal.coe_mul]
  pointwise [gradOut]
  refine (before_at m _ (fun r j => (eR m ζ δ lam r j - Real.exp (ζ r j - spR m ζ r j) * (ρ r + ∑ b ∈ Finset.range (j + 1), eR m ζ δ lam r b)) * sc)
    this r j).trans ?_
  by_cases ho : On m r j
  · rw [if_pos ho, dzR, if_pos ho, spR, if_pos ho]
  · rw [if_neg ho, dzR, if_neg ho]

end

end Cert.Proof.Sb
-- ==== Proof.SbRead.lean ====
module

public import proofs.«01_k».proof.Proof.SbReal
public import Idealize.ShloMosaic.Lib.WritesUnit

/-!
  What the buffers hold after a stretch's writes, element by element: the groups' rows, the accumulator's rows, one block of columns of
  a key gradient, and one slot of logits.
-/

@[expose] public section

noncomputable section

namespace Cert.Proof.Sb

open Cert.Kernel4Ideal Cert.Kernel4Ideal.Gen Cert.Reals
open Idealize.ShloMosaic Idealize.ShloMosaic.TcCoe
open Idealize.ShloMosaic.Pointwise
open scoped BigOperators

variable {sg : RefSig}

/-- Row `r` of group `g`. -/
def row (g : Fin 4) (r : Fin 256) : Fin 1024 := ⟨256 * g.val + r.val, by omega⟩

theorem exists_row (R : Fin 1024) : ∃ g r, R = row g r :=
  ⟨⟨R.val / 256, by omega⟩, ⟨R.val % 256, by omega⟩, Fin.ext (by dsimp [row]; omega)⟩

instance : DecidableEq Grp := fun a b =>
  if h : a.g = b.g ∧ a.m = b.m then .isTrue (by cases a; cases b; simp_all) else .isFalse (by rintro rfl; exact h ⟨rfl, rfl⟩)

theorem find_rows (m : Bool) (u g : Fin 4) :
    (rowsFrom m u).find? (fun p => p.g = g) = if u ≤ g then some ⟨g, m && decide (g = u)⟩ else none := by
  revert m u g; decide

/-- After the groups' writes a group's row is the last one's that wrote it. -/
theorem rows_read {w : ℕ} {e : EltTy} {a : Memref sg .tc .vmem ⟨2, ![1024, w]⟩ e} (f0 : a.view.ty.Contents (Elt Ideal)) (L : List Grp)
    (inb : ∀ g : Fin 4, ∀ x, (![256 * g.val, 0] : Fin 2 → ℕ) x + (![256, w] : Fin 2 → ℕ) x ≤ (![1024, w] : Fin 2 → ℕ) x)
    (f : Grp → Vec Ideal ⟨2, ![256, w]⟩ e) (g : Fin 4) (r : Fin 256) (c : Fin w) :
    View.read (Elt Ideal) a.view (a.view.writes (Elt Ideal) f0
        (L.map fun p => ⟨Rect.unit (s := ⟨2, ![1024, w]⟩) ![256 * p.g.val, 0] ![256, w] (inb p.g), f p⟩)) (ix2 (row g r) c)
      = match L.find? (fun p => p.g = g) with
        | some p => f p (ix2 r c)
        | none => View.read (Elt Ideal) a.view f0 (ix2 (row g r) c) := by
  induction L with
  | nil => rfl
  | cons p L ih =>
    by_cases h : p.g = g
    · rw [List.find?_cons_of_pos (by simpa using h)]
      subst h
      exact View.read_writes_cons_rows_of_mem (o := 256 * p.g.val) a.view f0 (inb p.g) (f p) _ (ix2 (row p.g r) c) (ix2 r c) rfl rfl rfl
    · rw [List.find?_cons_of_neg (by simpa using h), ← ih]
      exact View.read_writes_cons_rows_of_not_mem (o := 256 * p.g.val) (W := 256) a.view f0 (inb p.g) (f p) _ (ix2 (row g r) c) rfl rfl (by
        have : p.g.val ≠ g.val := fun hh => h (Fin.ext hh)
        have hr : ((ix2 (row g r) c) (0 : Fin 2)).val = 256 * g.val + r.val := rfl
        omega)

theorem colAfter_at {a : Memref sg .tc .vmem S1024x1 .f32} (h : a.IsWhole) (x : Vec Ideal S1024x1 .f32) (m : Bool) (u : Fin 4)
    (f : Grp → Vec Ideal S256x1 .f32) (g : Fin 4) (r : Fin 256) :
    colAfter h x (rowsFrom m u) f (ix2 (row g r) 0) = if u ≤ g then f ⟨g, m && decide (g = u)⟩ (ix2 r 0) else x (ix2 (row g r) 0) := by
  refine (rows_read (w := 1) (h.unread x) (rowsFrom m u) col_inb f g r 0).trans ?_
  rw [find_rows]
  by_cases hu : u ≤ g
  · simp only [hu, if_true]
  · simp only [hu, if_false]
    exact congrFun (h.read_unread x) _

theorem rowsAfter_at {a : Memref sg .tc .vmem S1024x256 .bf16} (h : a.IsWhole) (x : Vec Ideal S1024x256 .bf16) (m : Bool) (u : Fin 4)
    (f : Grp → Vec Ideal S256x256 .bf16) (g : Fin 4) (r c : Fin 256) :
    rowsAfter h x (rowsFrom m u) f (ix2 (row g r) c) = if u ≤ g then f ⟨g, m && decide (g = u)⟩ (ix2 r c) else x (ix2 (row g r) c) := by
  refine (rows_read (w := 256) (h.unread x) (rowsFrom m u) row_inb f g r c).trans ?_
  rw [find_rows]
  by_cases hu : u ≤ g
  · simp only [hu, if_true]
  · simp only [hu, if_false]
    exact congrFun (h.read_unread x) _

theorem rdSlot_at {a : Memref sg .tc .vmem S2x1024x256 .f32} (h : a.IsWhole) (slot : Fin 2) (x : Vec Ideal S2x1024x256 .f32) (g : Fin 4) (r j : Fin 256) :
    rdSlot h slot x g (ix3 0 r j) = x (ix3 slot (row g r) j) := by
  refine (h.readAt_unread x _ _).trans (congrArg x (funext fun t => Fin.ext ?_))
  match t with
  | 0 => show slot.val + 1 * 0 = slot.val; omega
  | 1 => show 256 * g.val + 1 * r.val = 256 * g.val + r.val; omega
  | 2 => show 0 + 1 * j.val = j.val; omega

theorem rdCol_at {a : Memref sg .tc .vmem S1024x1 .f32} (h : a.IsWhole) (x : Vec Ideal S1024x1 .f32) (g : Fin 4) (r : Fin 256) :
    rdCol h x g (ix2 r 0) = x (ix2 (row g r) 0) := by
  refine (h.readAt_unread x _ _).trans (congrArg x (funext fun t => Fin.ext ?_))
  match t with
  | 0 => show 256 * g.val + 1 * r.val = 256 * g.val + r.val; omega
  | 1 => rfl

/-! ## A rectangle of a rank-2 buffer -/

theorem rd2 {A B p q : ℕ} {e : EltTy} {a : Memref sg .tc .vmem ⟨2, ![A, B]⟩ e} (h : a.IsWhole) (x : Vec Ideal ⟨2, ![A, B]⟩ e) {off off' : Fin 2 → ℕ}
    (inb : ∀ t, off t + (![p, q] : Fin 2 → ℕ) t ≤ (![A, B] : Fin 2 → ℕ) t) (ho : off = off') (i : Fin p) (j : Fin q) (I : Fin A) (J : Fin B)
    (hI : I.val = off' 0 + i.val) (hJ : J.val = off' 1 + j.val) :
    View.readAt (Elt Ideal) a.view (Rect.unit (s := ⟨2, ![A, B]⟩) off ![p, q] inb).toLoadRect (h.unread x) (ix2 i j) = x (ix2 I J) := by
  subst ho
  refine (h.readAt_unread x _ _).trans (congrArg x (funext fun t => Fin.ext ?_))
  match t with
  | 0 => show off 0 + 1 * i.val = I.val; omega
  | 1 => show off 1 + 1 * j.val = J.val; omega

section

variable {n lo b : ℕ}
  {ak : Memref sg .tc .vmem S8192x128 .bf16} (hk : ak.IsWhole) (xk : Vec Ideal S8192x128 .bf16)
  (K : ℕ → Fin 128 → ℝ) (hK : ∀ (j : Fin 8192) c, xk (ix2 j c) = (K j c : EReal))

include hK in
/-- The accumulator's rows from `lo` on take the product of the gradient's rows with a block of keys. -/
theorem acc_read (hn : lo + n = 1024) (hb : 256 * b + 256 ≤ 8192)
    {aa : Memref sg .tc .vmem S1024x128 .f32} (ha : aa.IsWhole) (xa : Vec Ideal S1024x128 .f32)
    {ad : Memref sg .tc .vmem S1024x256 .bf16} (hd : ad.IsWhole) (xd : Vec Ideal S1024x256 .bf16)
    (off : Fin 2 → ℕ) (hoff : off = ![256 * b, 0]) (i0 i1 i2 i3)
    (pay : Vec Ideal S256x128 .bf16 → Vec Ideal ⟨2, ![n, 128]⟩ .f32 → Vec Ideal ⟨2, ![n, 256]⟩ .bf16 → Vec Ideal ⟨2, ![n, 128]⟩ .f32)
    (hp : ∀ k a d r c, pay k a d (ix2 r c) = a (ix2 r c) + ∑ j : Fin 256, d (ix2 r j) * k (ix2 j c))
    (A : Fin 1024 → Fin 128 → ℝ) (hA : ∀ R c, xa (ix2 R c) = (A R c : EReal))
    (D : Fin 1024 → ℕ → ℝ) (hD : ∀ (R : Fin 1024) (j : Fin 256), lo ≤ R.val → xd (ix2 R j) = (D R j : EReal)) (R : Fin 1024) (c : Fin 128) :
    View.read (Elt Ideal) aa.view (aa.view.writes (Elt Ideal) (ha.unread xa) [⟨Rect.unit (s := S1024x128) ![lo, 0] ![n, 128] i0,
        pay (View.readAt (Elt Ideal) ak.view (Rect.unit (s := S8192x128) off S256x128.size i1).toLoadRect (hk.unread xk))
          (View.readAt (Elt Ideal) aa.view (Rect.unit (s := S1024x128) ![lo, 0] ![n, 128] i2).toLoadRect (ha.unread xa))
          (View.readAt (Elt Ideal) ad.view (Rect.unit (s := S1024x256) ![lo, 0] ![n, 256] i3).toLoadRect (hd.unread xd))⟩]) (ix2 R c)
      = ((A R c + if lo ≤ R.val then ∑ j ∈ Finset.range 256, D R j * K (256 * b + j) c else 0 : ℝ) : EReal) := by
  by_cases hR : lo ≤ R.val
  · rw [if_pos hR]
    refine (View.read_writes_cons_rows_of_mem (o := lo) aa.view _ i0 _ [] (ix2 R c) (ix2 (⟨R.val - lo, by omega⟩ : Fin n) c) rfl
      (by show R.val = lo + (R.val - lo); omega) rfl).trans ?_
    rw [hp, rd2 (A := 1024) (B := 128) ha xa i2 rfl _ _ R c (by show R.val = lo + (R.val - lo); omega) (by show c.val = 0 + c.val; omega), hA]
    rw [Finset.sum_congr rfl fun (j : Fin 256) _ => show _ = ((D R j * K (256 * b + j.val) c : ℝ) : EReal) from by
      rw [rd2 (A := 1024) (B := 256) hd xd i3 rfl _ j R j (by show R.val = lo + (R.val - lo); omega) (by show j.val = 0 + j.val; omega), hD R j hR,
        rd2 (A := 8192) (B := 128) hk xk i1 hoff j c ⟨256 * b + j.val, by omega⟩ c rfl (by show c.val = 0 + c.val; omega), hK, ← EReal.coe_mul]]
    rw [sum_coe, ← EReal.coe_add, Fin.sum_univ_eq_sum_range (fun j => D R j * K (256 * b + j) c) 256]
  · rw [if_neg hR, add_zero, ← hA]
    refine (View.read_writes_cons_rows_of_not_mem (o := lo) (W := n) aa.view _ i0 _ [] (ix2 R c) rfl rfl (Or.inl (by show R.val < lo; omega))).trans ?_
    exact congrFun (ha.read_unread xa) _

/-- A block of 256 columns of a key gradient takes the product of a transposed block of rows with the rows' entries. -/
theorem cols_read (hn : lo + n = 1024) (hb : 256 * b + 256 ≤ 8192)
    {ax : Memref sg .tc .vmem S128x8192 .f32} (hx : ax.IsWhole) (xx : Vec Ideal S128x8192 .f32)
    {aq : Memref sg .tc .vmem S128x1024 .bf16} (hq : aq.IsWhole) (xq : Vec Ideal S128x1024 .bf16)
    {ad : Memref sg .tc .vmem S1024x256 .bf16} (hd : ad.IsWhole) (xd : Vec Ideal S1024x256 .bf16)
    (off : Fin 2 → ℕ) (hoff : off = ![0, 256 * b]) (i0 i1 i2 i3)
    (pay : Vec Ideal S128x256 .f32 → Vec Ideal ⟨2, ![128, n]⟩ .bf16 → Vec Ideal ⟨2, ![n, 256]⟩ .bf16 → Vec Ideal S128x256 .f32)
    (hp : ∀ x q d c j, pay x q d (ix2 c j) = x (ix2 c j) + ∑ r : Fin n, q (ix2 c r) * d (ix2 r j))
    (X : Fin 128 → ℕ → ℝ) (hX : ∀ c (J : Fin 8192), xx (ix2 c J) = (X c J : EReal))
    (Q : ℕ → Fin 128 → ℝ) (hQ : ∀ c (R : Fin 1024), xq (ix2 c R) = (Q R c : EReal))
    (D : ℕ → ℕ → ℝ) (hD : ∀ (R : Fin 1024) (j : Fin 256), lo ≤ R.val → xd (ix2 R j) = (D R j : EReal)) (c : Fin 128) (J : Fin 8192) :
    View.read (Elt Ideal) ax.view (ax.view.writes (Elt Ideal) (hx.unread xx) [⟨Rect.unit (s := S128x8192) off S128x256.size i0,
        pay (View.readAt (Elt Ideal) ax.view (Rect.unit (s := S128x8192) off S128x256.size i1).toLoadRect (hx.unread xx))
          (View.readAt (Elt Ideal) aq.view (Rect.unit (s := S128x1024) ![0, lo] ![128, n] i2).toLoadRect (hq.unread xq))
          (View.readAt (Elt Ideal) ad.view (Rect.unit (s := S1024x256) ![lo, 0] ![n, 256] i3).toLoadRect (hd.unread xd))⟩]) (ix2 c J)
      = ((X c J + if 256 * b ≤ J.val ∧ J.val < 256 * b + 256 then ∑ r ∈ Finset.range n, Q (lo + r) c * D (lo + r) (J.val - 256 * b) else 0 : ℝ) : EReal) := by
  by_cases hJ : 256 * b ≤ J.val ∧ J.val < 256 * b + 256
  · rw [if_pos hJ]
    obtain ⟨h1, h2⟩ := hJ
    refine (View.read_writes_cons_unit_of_mem ax.view _ i0 _ [] (ix2 c J) (ix2 c (⟨J.val - 256 * b, by omega⟩ : Fin 256)) hoff
      (Fin.forall_fin_two.mpr ⟨by show c.val = 0 + c.val; omega, by show J.val = 256 * b + (J.val - 256 * b); omega⟩)).trans ?_
    rw [hp, rd2 (A := 128) (B := 8192) hx xx i1 hoff _ _ c J (by show c.val = 0 + c.val; omega) (by show J.val = 256 * b + (J.val - 256 * b); omega), hX]
    rw [Finset.sum_congr rfl fun (r : Fin n) _ => show _ = ((Q (lo + r.val) c * D (lo + r.val) (J.val - 256 * b) : ℝ) : EReal) from by
      rw [rd2 (A := 128) (B := 1024) hq xq i2 rfl c r c ⟨lo + r.val, by omega⟩ (by show c.val = 0 + c.val; omega) rfl, hQ,
        rd2 (A := 1024) (B := 256) hd xd i3 rfl r _ ⟨lo + r.val, by omega⟩ ⟨J.val - 256 * b, by omega⟩ rfl (by show J.val - 256 * b = 0 + (J.val - 256 * b); omega),
        hD _ _ (by show lo ≤ lo + r.val; omega), ← EReal.coe_mul]]
    rw [sum_coe, ← EReal.coe_add, Fin.sum_univ_eq_sum_range (fun r => Q (lo + r) c * D (lo + r) (J.val - 256 * b)) n]
  · rw [if_neg hJ, add_zero, ← hX]
    refine (View.read_writes_cons_unit_of_not_mem ax.view _ i0 _ [] (ix2 c J) hoff (1 : Fin 2) ?_).trans (congrFun (hx.read_unread xx) _)
    show J.val < 256 * b ∨ 256 * b + 256 ≤ J.val
    omega

include hK in
/-- A slot's rows from `lo` on take the products of a block of rows with a block of keys, times a factor. -/
theorem slot_read (hn : lo + n = 1024) (hb : 256 * b + 256 ≤ 8192)
    {az : Memref sg .tc .vmem S2x1024x256 .f32} (hz : az.IsWhole) (xz : Vec Ideal S2x1024x256 .f32) (slot : Fin 2)
    {aq : Memref sg .tc .vmem S1024x128 .bf16} (hq : aq.IsWhole) (xq : Vec Ideal S1024x128 .bf16)
    (off : Fin 2 → ℕ) (hoff : off = ![256 * b, 0]) (i0 i1 i2)
    (pay : Vec Ideal S256x128 .bf16 → Vec Ideal ⟨2, ![n, 128]⟩ .bf16 → Vec Ideal ⟨3, ![1, n, 256]⟩ .f32) (fac : ℝ)
    (hp : ∀ k q r j, pay k q (ix3 0 r j) = (∑ c : Fin 128, q (ix2 r c) * k (ix2 j c)) * (fac : EReal))
    (Q : Fin 1024 → Fin 128 → ℝ) (hQ : ∀ R c, xq (ix2 R c) = (Q R c : EReal)) (R : Fin 1024) (hR : lo ≤ R.val) (j : Fin 256) :
    View.read (Elt Ideal) az.view (az.view.writes (Elt Ideal) (hz.unread xz) [⟨Rect.unit (s := S2x1024x256) ![slot.val, lo, 0] ![1, n, 256] i0,
        pay (View.readAt (Elt Ideal) ak.view (Rect.unit (s := S8192x128) off S256x128.size i1).toLoadRect (hk.unread xk))
          (View.readAt (Elt Ideal) aq.view (Rect.unit (s := S1024x128) ![lo, 0] ![n, 128] i2).toLoadRect (hq.unread xq))⟩]) (ix3 slot R j)
      = (((∑ c, Q R c * K (256 * b + j.val) c) * fac : ℝ) : EReal) := by
  refine (View.read_writes_cons_unit_of_mem az.view _ i0 _ [] (ix3 slot R j) (ix3 (0 : Fin 1) (⟨R.val - lo, by omega⟩ : Fin n) j) rfl ?_).trans ?_
  · intro t
    match t with
    | 0 => show slot.val = slot.val + 0; omega
    | 1 => show R.val = lo + (R.val - lo); omega
    | 2 => show j.val = 0 + j.val; omega
  rw [hp]
  rw [Finset.sum_congr rfl fun (c : Fin 128) _ => show _ = ((Q R c * K (256 * b + j.val) c : ℝ) : EReal) from by
    rw [rd2 (A := 1024) (B := 128) hq xq i2 rfl _ c R c (by show R.val = lo + (R.val - lo); omega) (by show c.val = 0 + c.val; omega), hQ,
      rd2 (A := 8192) (B := 128) hk xk i1 hoff j c ⟨256 * b + j.val, by omega⟩ c rfl (by show c.val = 0 + c.val; omega), hK, ← EReal.coe_mul]]
  rw [sum_coe, ← EReal.coe_mul]

end

end Cert.Proof.Sb
-- ==== Proof.SbInv.lean ====
module

public import proofs.«01_k».proof.Proof.SbRead

/-!
  The row block's walk over the key blocks, as real functions: what is true after `k` key blocks, and that a stretch which works as
  `groups` says and applies the stored gradients of the block before takes it to `k + 1`.
-/

@[expose] public section

noncomputable section

namespace Cert.Proof.Sb

open Cert.Kernel4Ideal Cert.Kernel4Ideal.Gen Cert.Reals
open Idealize.ShloMosaic Idealize.ShloMosaic.TcCoe
open Idealize.ShloMosaic.Pointwise
open scoped BigOperators

/-- One block of 1024 rows of one head: its number, its queries and output cotangents, the head's keys and values, and each row's
sum of log keeps. -/
structure Blk where
  qi : ℕ
  Q : ℕ → Fin 128 → ℝ
  D : ℕ → Fin 128 → ℝ
  K : ℕ → Fin 128 → ℝ
  V : ℕ → Fin 128 → ℝ
  TL : ℕ → ℝ

namespace Blk

variable (B : Blk)

/-- The logit of row `R` and key `j`. -/
def Z (R j : ℕ) : ℝ := (∑ c, B.Q R c * B.K j c) * sc

/-- The cotangent of the weight. -/
def DW (R j : ℕ) : ℝ := (∑ c, B.D R c * B.V j c) * 1

/-- The masked soft threshold. -/
def SP (R j : ℕ) : ℝ := if j < 1024 * B.qi + R then softR (B.Z R j) else 0

/-- The weight. -/
def W (R j : ℕ) : ℝ :=
  if j < 1024 * B.qi + R then Real.exp (B.Z R j - softR (B.Z R j) - (B.TL R - ∑ b ∈ Finset.range (j + 1), B.SP R b)) else 0

/-- The weight times its cotangent. -/
def E (R j : ℕ) : ℝ := B.DW R j * B.W R j

/-- The gradient of the logit before the scale, times the scale. -/
def DZ (R j : ℕ) : ℝ :=
  if j < 1024 * B.qi + R then
    (B.E R j - Real.exp (B.Z R j - softR (B.Z R j)) * ∑ b ∈ Finset.range (j + 1), B.E R b) * sc
  else 0

/-- What the stretches read is the row block's. -/
structure Src (e : Sb.Src Ideal) : Prop where
  k : ∀ (j : Fin 8192) c, e.k (ix2 j c) = (B.K j c : EReal)
  v : ∀ (j : Fin 8192) c, e.v (ix2 j c) = (B.V j c : EReal)
  q : ∀ (R : Fin 1024) c, e.q (ix2 R c) = (B.Q R c : EReal)
  d : ∀ (R : Fin 1024) c, e.d (ix2 R c) = (B.D R c : EReal)
  qt : ∀ c (R : Fin 1024), e.qt (ix2 c R) = (B.Q R c : EReal)
  dt : ∀ c (R : Fin 1024), e.dt (ix2 c R) = (B.D R c : EReal)

/-- A block's stored entries: those of block `k - 1`, nothing before the first block. -/
def stored (k : ℕ) (f : ℕ → ℕ → ℝ) (R j : ℕ) : ℝ := if k = 0 then 0 else f R (256 * (k - 1) + j)

/-- What is true after `k` key blocks, with the gradients of all of them but the last applied. -/
structure Inv (X Y : Fin 128 → ℕ → ℝ) (k : ℕ) (s : St Ideal) : Prop where
  left : ∀ R : Fin 1024, s.left (ix2 R 0) = ((B.TL R - ∑ j ∈ Finset.range (256 * k), B.SP R j : ℝ) : EReal)
  rune : ∀ R : Fin 1024, s.rune (ix2 R 0) = ((∑ j ∈ Finset.range (256 * k), B.E R j : ℝ) : EReal)
  acc : ∀ (R : Fin 1024) c, s.acc (ix2 R c) = ((∑ j ∈ Finset.range (256 * (k - 1)), B.DZ R j * B.K j c : ℝ) : EReal)
  dk : ∀ c (J : Fin 8192), s.dk (ix2 c J) = ((X c J + if J.val < 256 * (k - 1) then ∑ R ∈ Finset.range 1024, B.Q R c * B.DZ R J else 0 : ℝ) : EReal)
  dv : ∀ c (J : Fin 8192), s.dv (ix2 c J) = ((Y c J + if J.val < 256 * (k - 1) then ∑ R ∈ Finset.range 1024, B.D R c * B.W R J else 0 : ℝ) : EReal)
  wp : ∀ (R : Fin 1024) (j : Fin 256), 256 * (k - 1 - 4 * B.qi) ≤ R.val → s.wp (ix2 R j) = (stored k B.W R j : EReal)
  dzp : ∀ (R : Fin 1024) (j : Fin 256), 256 * (k - 1 - 4 * B.qi) ≤ R.val → s.dzp (ix2 R j) = (stored k B.DZ R j : EReal)

/-- The logits and the weights' cotangents of key block `k` are in a slot. -/
structure Ready (k : ℕ) (slot : Fin 2) (s : St Ideal) : Prop where
  z : ∀ (R : Fin 1024) (j : Fin 256), 256 * (k - 4 * B.qi) ≤ R.val → s.z (ix3 slot R j) = (B.Z R (256 * k + j) : EReal)
  dw : ∀ (R : Fin 1024) (j : Fin 256), 256 * (k - 4 * B.qi) ≤ R.val → s.dw (ix3 slot R j) = (B.DW R (256 * k + j) : EReal)

/-! ## The rows at and after the mask -/

theorem SP_off {R j : ℕ} (h : ¬ j < 1024 * B.qi + R) : B.SP R j = 0 := if_neg h
theorem W_off {R j : ℕ} (h : ¬ j < 1024 * B.qi + R) : B.W R j = 0 := if_neg h
theorem E_off {R j : ℕ} (h : ¬ j < 1024 * B.qi + R) : B.E R j = 0 := by rw [E, W_off B h, mul_zero]
theorem DZ_off {R j : ℕ} (h : ¬ j < 1024 * B.qi + R) : B.DZ R j = 0 := if_neg h

/-! ## A group's functions are the row block's -/

section Group

variable {k : ℕ} {u g : Fin 4} {m : Bool} (hk : k < 4 * B.qi + 4) (hu : u.val = k - 4 * B.qi) (hm : m = decide (4 * B.qi ≤ k)) (hg : u ≤ g)

include hk hu hm hg in
theorem on_iff {r j : ℕ} (hr : r < 256) (hj : j < 256) : On (m && decide (g = u)) r j ↔ 256 * k + j < 1024 * B.qi + (256 * g.val + r) := by
  have hg' : u.val ≤ g.val := hg
  have := g.isLt
  subst hm
  unfold On
  by_cases h1 : 4 * B.qi ≤ k <;> by_cases h2 : g = u
  · subst h2; simp only [h1, decide_true, Bool.and_true, forall_const]; omega
  · have : g.val ≠ u.val := fun h => h2 (Fin.ext h)
    simp only [h1, h2, decide_true, decide_false, Bool.and_false, Bool.false_eq_true, false_implies, true_iff]; omega
  · simp only [h1, decide_false, Bool.false_and, Bool.false_eq_true, false_implies, true_iff]; omega
  · simp only [h1, decide_false, Bool.false_and, Bool.false_eq_true, false_implies, true_iff]; omega

/-- The group's logits, cotangents and carried columns. -/
def gz (k : ℕ) (g : Fin 4) (r j : ℕ) : ℝ := B.Z (256 * g.val + r) (256 * k + j)
def gd (k : ℕ) (g : Fin 4) (r j : ℕ) : ℝ := B.DW (256 * g.val + r) (256 * k + j)
def gl (k : ℕ) (g : Fin 4) (r : ℕ) : ℝ := B.TL (256 * g.val + r) - ∑ j ∈ Finset.range (256 * k), B.SP (256 * g.val + r) j
def gr (k : ℕ) (g : Fin 4) (r : ℕ) : ℝ := ∑ j ∈ Finset.range (256 * k), B.E (256 * g.val + r) j

include hk hu hm hg in
theorem g_sp {r j : ℕ} (hr : r < 256) (hj : j < 256) : spR (m && decide (g = u)) (B.gz k g) r j = B.SP (256 * g.val + r) (256 * k + j) :=
  if_congr (on_iff B hk hu hm hg hr hj) rfl rfl

include hk hu hm hg in
theorem g_sum {r j : ℕ} (hr : r < 256) (hj : j ≤ 256) :
    ∑ b ∈ Finset.range j, spR (m && decide (g = u)) (B.gz k g) r b = ∑ b ∈ Finset.range j, B.SP (256 * g.val + r) (256 * k + b) :=
  Finset.sum_congr rfl fun b hb => g_sp B hk hu hm hg hr (by have := Finset.mem_range.mp hb; omega)

include hk hu hm hg in
theorem g_w {r j : ℕ} (hr : r < 256) (hj : j < 256) : wR (m && decide (g = u)) (B.gz k g) (B.gl k g) r j = B.W (256 * g.val + r) (256 * k + j) := by
  refine if_congr (on_iff B hk hu hm hg hr hj) ?_ rfl
  rw [g_sum B hk hu hm hg hr (Nat.succ_le_of_lt hj), gl, sub_sub (B.TL _), ← Finset.sum_range_add]
  rfl

include hk hu hm hg in
theorem g_e {r j : ℕ} (hr : r < 256) (hj : j < 256) : eR (m && decide (g = u)) (B.gz k g) (B.gd k g) (B.gl k g) r j = B.E (256 * g.val + r) (256 * k + j) :=
  congrArg (B.DW (256 * g.val + r) (256 * k + j) * ·) (g_w B hk hu hm hg hr hj)

include hk hu hm hg in
theorem g_esum {r j : ℕ} (hr : r < 256) (hj : j ≤ 256) :
    ∑ b ∈ Finset.range j, eR (m && decide (g = u)) (B.gz k g) (B.gd k g) (B.gl k g) r b = ∑ b ∈ Finset.range j, B.E (256 * g.val + r) (256 * k + b) :=
  Finset.sum_congr rfl fun b hb => g_e B hk hu hm hg hr (by have := Finset.mem_range.mp hb; omega)

include hk hu hm hg in
theorem g_dz {r j : ℕ} (hr : r < 256) (hj : j < 256) :
    dzR (m && decide (g = u)) (B.gz k g) (B.gd k g) (B.gl k g) (B.gr k g) r j = B.DZ (256 * g.val + r) (256 * k + j) := by
  refine if_congr (on_iff B hk hu hm hg hr hj) ?_ rfl
  rw [g_esum B hk hu hm hg hr (Nat.succ_le_of_lt hj), g_e B hk hu hm hg hr hj, gr, ← Finset.sum_range_add]
  rfl

end Group

/-! ## The sums after one more block -/

theorem block_sum (f : ℕ → ℝ) (k : ℕ) : ∑ j ∈ Finset.range (256 * (k + 1)), f j = ∑ j ∈ Finset.range (256 * k), f j + ∑ j ∈ Finset.range 256, f (256 * k + j) := by
  rw [Nat.mul_succ, Finset.sum_range_add]

theorem acc_next {k lo R : ℕ} (c : Fin 128) (hlo : lo = 256 * (k - 1 - 4 * B.qi)) :
    (∑ j ∈ Finset.range (256 * (k - 1)), B.DZ R j * B.K j c) + (if lo ≤ R then ∑ j ∈ Finset.range 256, stored k B.DZ R j * B.K (256 * (k - 1) + j) c else 0)
      = ∑ j ∈ Finset.range (256 * (k + 1 - 1)), B.DZ R j * B.K j c := by
  cases k with
  | zero => simp [stored]
  | succ k =>
    simp only [stored, Nat.succ_ne_zero, if_false, Nat.add_sub_cancel] at hlo ⊢
    rw [block_sum]
    congr 1
    split_ifs with h
    · rfl
    · refine (Finset.sum_eq_zero fun j _ => ?_).symm
      rw [DZ_off B (by omega), zero_mul]

theorem cols_next {k lo n J : ℕ} (P f : ℕ → ℕ → ℝ) (c : ℕ) (hlo : lo = 256 * (k - 1 - 4 * B.qi)) (hn : lo + n = 1024)
    (hf : ∀ R j, ¬ j < 1024 * B.qi + R → f R j = 0) :
    ((if J < 256 * (k - 1) then ∑ R ∈ Finset.range 1024, P R c * f R J else 0)
      + if 256 * (k - 1) ≤ J ∧ J < 256 * (k - 1) + 256 then ∑ r ∈ Finset.range n, P (lo + r) c * stored k f (lo + r) (J - 256 * (k - 1)) else 0)
      = if J < 256 * (k + 1 - 1) then ∑ R ∈ Finset.range 1024, P R c * f R J else 0 := by
  cases k with
  | zero => simp [stored]
  | succ k =>
    simp only [stored, Nat.succ_ne_zero, if_false, Nat.add_sub_cancel] at hlo ⊢
    by_cases h1 : J < 256 * k
    · rw [if_pos h1, if_neg (by omega), if_pos (by omega), add_zero]
    · rw [if_neg h1, zero_add]
      by_cases h2 : J < 256 * (k + 1)
      · rw [if_pos (by omega), if_pos h2, ← hn, Finset.sum_range_add, Finset.sum_eq_zero (s := Finset.range lo), zero_add]
        · refine Finset.sum_congr rfl fun r _ => ?_
          rw [show 256 * k + (J - 256 * k) = J from by omega]
        · intro R hR
          have := Finset.mem_range.mp hR
          rw [hf R J (by omega), mul_zero]
      · rw [if_neg (by omega), if_neg h2]

/-! ## One more key block -/

section Next

variable
  {arg18 : Memref sig .tc .vmem S1024x1 .f32} {harg18 : arg18.IsWhole}
  {arg19 : Memref sig .tc .vmem S1024x1 .f32} {harg19 : arg19.IsWhole}
  {arg20 : Memref sig .tc .vmem S2x1024x256 .f32} {harg20 : arg20.IsWhole}
  {arg21 : Memref sig .tc .vmem S2x1024x256 .f32} {harg21 : arg21.IsWhole}
  {arg22 : Memref sig .tc .vmem S1024x256 .bf16} {harg22 : arg22.IsWhole}
  {arg23 : Memref sig .tc .vmem S1024x256 .bf16} {harg23 : arg23.IsWhole}

theorem next {X Y : Fin 128 → ℕ → ℝ} {k n lo : ℕ} {slot : Fin 2} {u : Fin 4} {m : Bool} {s s' : St Ideal} (hI : Inv B X Y k s) (hR : Ready B k slot s)
    (hk : k < 4 * B.qi + 4) (hu : u.val = k - 4 * B.qi) (hm : m = decide (4 * B.qi ≤ k)) (hlo : lo = 256 * (k - 1 - 4 * B.qi)) (hn : lo + n = 1024)
    (hp : s'.part = groups harg18 harg19 harg20 harg21 harg22 harg23 (k0_pay262 (F := Ideal)) slot u m s)
    (hacc : ∀ (R : Fin 1024) c, s'.acc (ix2 R c) = (((∑ j ∈ Finset.range (256 * (k - 1)), B.DZ R j * B.K j c)
      + if lo ≤ R.val then ∑ j ∈ Finset.range 256, stored k B.DZ R j * B.K (256 * (k - 1) + j) c else 0 : ℝ) : EReal))
    (hdk : ∀ c (J : Fin 8192), s'.dk (ix2 c J) = (((X c J + if J.val < 256 * (k - 1) then ∑ R ∈ Finset.range 1024, B.Q R c * B.DZ R J else 0)
      + if 256 * (k - 1) ≤ J.val ∧ J.val < 256 * (k - 1) + 256 then ∑ r ∈ Finset.range n, B.Q (lo + r) c * stored k B.DZ (lo + r) (J.val - 256 * (k - 1)) else 0 : ℝ) : EReal))
    (hdv : ∀ c (J : Fin 8192), s'.dv (ix2 c J) = (((Y c J + if J.val < 256 * (k - 1) then ∑ R ∈ Finset.range 1024, B.D R c * B.W R J else 0)
      + if 256 * (k - 1) ≤ J.val ∧ J.val < 256 * (k - 1) + 256 then ∑ r ∈ Finset.range n, B.D (lo + r) c * stored k B.W (lo + r) (J.val - 256 * (k - 1)) else 0 : ℝ) : EReal)) :
    Inv B X Y (k + 1) s' := by
  have hz : ∀ g : Fin 4, u ≤ g → ∀ r j : Fin 256, rdSlot harg20 slot s.z g (ix3 0 r j) = (B.gz k g r j : EReal) := fun g hg r j => by
    have hg' : u.val ≤ g.val := hg
    rw [rdSlot_at, hR.z (row g r) j (by rw [← hu]; show _ ≤ 256 * g.val + r.val; omega)]; rfl
  have hd : ∀ g : Fin 4, u ≤ g → ∀ r j : Fin 256, rdSlot harg21 slot s.dw g (ix3 0 r j) = (B.gd k g r j : EReal) := fun g hg r j => by
    have hg' : u.val ≤ g.val := hg
    rw [rdSlot_at, hR.dw (row g r) j (by rw [← hu]; show _ ≤ 256 * g.val + r.val; omega)]; rfl
  have hl : ∀ (g : Fin 4) (r : Fin 256), rdCol harg18 s.left g (ix2 r 0) = (B.gl k g r : EReal) := fun g r => by rw [rdCol_at, hI.left]; rfl
  have hr : ∀ (g : Fin 4) (r : Fin 256), rdCol harg19 s.rune g (ix2 r 0) = (B.gr k g r : EReal) := fun g r => by rw [rdCol_at, hI.rune]; rfl
  have hoff : ∀ (g : Fin 4) (r : Fin 256), ¬ u ≤ g → ∀ j, ¬ 256 * k + j < 1024 * B.qi + (row g r).val := fun g r hg j => by
    have hg' : ¬ u.val ≤ g.val := hg
    show ¬ 256 * k + j < 1024 * B.qi + (256 * g.val + r.val)
    omega
  have hl' : s'.left = (groups harg18 harg19 harg20 harg21 harg22 harg23 (k0_pay262 (F := Ideal)) slot u m s).left := congrArg Part.left hp
  have hr' : s'.rune = (groups harg18 harg19 harg20 harg21 harg22 harg23 (k0_pay262 (F := Ideal)) slot u m s).rune := congrArg Part.rune hp
  have hw' : s'.wp = (groups harg18 harg19 harg20 harg21 harg22 harg23 (k0_pay262 (F := Ideal)) slot u m s).wp := congrArg Part.wp hp
  have hz' : s'.dzp = (groups harg18 harg19 harg20 harg21 harg22 harg23 (k0_pay262 (F := Ideal)) slot u m s).dzp := congrArg Part.dzp hp
  refine ⟨fun R => ?_, fun R => ?_, fun R c => ?_, fun c J => ?_, fun c J => ?_, fun R j h => ?_, fun R j h => ?_⟩
  · obtain ⟨g, r, rfl⟩ := exists_row R
    rw [hl', groups]
    refine (colAfter_at harg18 _ m u _ g r).trans ?_
    rw [block_sum]
    by_cases hg : u ≤ g
    · rw [if_pos hg, leftNext_at _ _ _ _ _ (hz g hg) (hl g), g_sum B hk hu hm hg r.isLt le_rfl, gl, sub_sub]; rfl
    · rw [if_neg hg, hI.left, Finset.sum_eq_zero (s := Finset.range 256) fun j _ => SP_off B (hoff g r hg j), add_zero]
  · obtain ⟨g, r, rfl⟩ := exists_row R
    rw [hr', groups]
    refine (colAfter_at harg19 _ m u _ g r).trans ?_
    rw [block_sum]
    by_cases hg : u ≤ g
    · rw [if_pos hg, runNext_at _ _ _ _ _ _ _ _ _ (hz g hg) (hd g hg) (hl g) (hr g), g_esum B hk hu hm hg r.isLt le_rfl]; rfl
    · rw [if_neg hg, hI.rune, Finset.sum_eq_zero (s := Finset.range 256) fun j _ => E_off B (hoff g r hg j), add_zero]
  · rw [hacc, acc_next B c hlo]
  · rw [hdk, add_assoc, cols_next B (fun R _ => B.Q R c) B.DZ 0 hlo hn fun R j h => DZ_off B h]
  · rw [hdv, add_assoc, cols_next B (fun R _ => B.D R c) B.W 0 hlo hn fun R j h => W_off B h]
  · obtain ⟨g, r, rfl⟩ := exists_row R
    have hg : u ≤ g := by
      have : 256 * (k + 1 - 1 - 4 * B.qi) ≤ 256 * g.val + r.val := h
      show u.val ≤ g.val
      omega
    rw [hw', groups]
    refine (rowsAfter_at harg22 _ m u _ g r j).trans ?_
    rw [if_pos hg, weightsOut_at _ _ _ _ _ (hz g hg) (hl g), g_w B hk hu hm hg r.isLt j.isLt]; rfl
  · obtain ⟨g, r, rfl⟩ := exists_row R
    have hg : u ≤ g := by
      have : 256 * (k + 1 - 1 - 4 * B.qi) ≤ 256 * g.val + r.val := h
      show u.val ≤ g.val
      omega
    rw [hz', groups]
    refine (rowsAfter_at harg23 _ m u _ g r j).trans ?_
    rw [if_pos hg, gradOut_at _ _ _ _ _ _ _ _ _ (hz g hg) (hd g hg) (hl g) (hr g), g_dz B hk hu hm hg r.isLt j.isLt]; rfl

end Next

end Blk

end Cert.Proof.Sb
-- ==== Proof.SbPay.lean ====
module

public import proofs.«01_k».proof.Proof.SbRead

/-!
  The products of a stretch at an index: what the accumulator's rows take, what a block of columns of a key gradient takes, and the
  logits of the next block, for the sizes the kernel has.
-/

@[expose] public section

noncomputable section

namespace Cert.Proof.Sb

open Cert.Kernel4Ideal Cert.Kernel4Ideal.Gen Cert.Reals
open Idealize.ShloMosaic Idealize.ShloMosaic.TcCoe
open Idealize.ShloMosaic.Pointwise
open scoped BigOperators

theorem acc_half1 (k : Vec Ideal S256x128 .bf16) (a : Vec Ideal S1024x128 .f32) (d : Vec Ideal S1024x256 .bf16) (r : Fin 1024) (c : Fin 128) :
    k0_pay2 k a d (ix2 r c) = a (ix2 r c) + ∑ j : Fin 256, d (ix2 r j) * k (ix2 j c) := by pointwise [k0_pay2]

theorem acc_half2 (k : Vec Ideal S256x128 .bf16) (a : Vec Ideal S1024x128 .f32) (d : Vec Ideal S1024x256 .bf16) (r : Fin 1024) (c : Fin 128) :
    k0_pay66 k a d (ix2 r c) = a (ix2 r c) + ∑ j : Fin 256, d (ix2 r j) * k (ix2 j c) := by pointwise [k0_pay66]

theorem acc_diag0 (k : Vec Ideal S256x128 .bf16) (a : Vec Ideal S1024x128 .f32) (d : Vec Ideal S1024x256 .bf16) (r : Fin 1024) (c : Fin 128) :
    k0_pay283 k a d (ix2 r c) = a (ix2 r c) + ∑ j : Fin 256, d (ix2 r j) * k (ix2 j c) := by pointwise [k0_pay283]

theorem acc_diag1 (k : Vec Ideal S256x128 .bf16) (a : Vec Ideal S1024x128 .f32) (d : Vec Ideal S1024x256 .bf16) (r : Fin 1024) (c : Fin 128) :
    k0_pay353 k a d (ix2 r c) = a (ix2 r c) + ∑ j : Fin 256, d (ix2 r j) * k (ix2 j c) := by pointwise [k0_pay353]

theorem acc_diag2 (k : Vec Ideal S256x128 .bf16) (a : Vec Ideal S768x128 .f32) (d : Vec Ideal S768x256 .bf16) (r : Fin 768) (c : Fin 128) :
    k0_pay407 k a d (ix2 r c) = a (ix2 r c) + ∑ j : Fin 256, d (ix2 r j) * k (ix2 j c) := by pointwise [k0_pay407]

theorem acc_diag3 (k : Vec Ideal S256x128 .bf16) (a : Vec Ideal S512x128 .f32) (d : Vec Ideal S512x256 .bf16) (r : Fin 512) (c : Fin 128) :
    k0_pay446 (k0_pay445 k) a d (ix2 r c) = a (ix2 r c) + ∑ j : Fin 256, d (ix2 r j) * k (ix2 j c) := by pointwise [k0_pay445, k0_pay446]

theorem acc_last (k : Vec Ideal S256x128 .bf16) (a : Vec Ideal S256x128 .f32) (d : Vec Ideal S256x256 .bf16) (r : Fin 256) (c : Fin 128) :
    k0_pay465 k a d (ix2 r c) = a (ix2 r c) + ∑ j : Fin 256, d (ix2 r j) * k (ix2 j c) := by pointwise [k0_pay465]

theorem cols_half1_k (x : Vec Ideal S128x256 .f32) (q : Vec Ideal S128x1024 .bf16) (d : Vec Ideal S1024x256 .bf16) (c : Fin 128) (j : Fin 256) :
    k0_pay3 x q d (ix2 c j) = x (ix2 c j) + ∑ r : Fin 1024, q (ix2 c r) * d (ix2 r j) := by pointwise [k0_pay3]

theorem cols_half1_v (x : Vec Ideal S128x256 .f32) (q : Vec Ideal S128x1024 .bf16) (d : Vec Ideal S1024x256 .bf16) (c : Fin 128) (j : Fin 256) :
    k0_pay4 x q d (ix2 c j) = x (ix2 c j) + ∑ r : Fin 1024, q (ix2 c r) * d (ix2 r j) := by pointwise [k0_pay4]

theorem cols_half2_k (x : Vec Ideal S128x256 .f32) (q : Vec Ideal S128x1024 .bf16) (d : Vec Ideal S1024x256 .bf16) (c : Fin 128) (j : Fin 256) :
    k0_pay67 x q d (ix2 c j) = x (ix2 c j) + ∑ r : Fin 1024, q (ix2 c r) * d (ix2 r j) := by pointwise [k0_pay67]

theorem cols_half2_v (x : Vec Ideal S128x256 .f32) (q : Vec Ideal S128x1024 .bf16) (d : Vec Ideal S1024x256 .bf16) (c : Fin 128) (j : Fin 256) :
    k0_pay68 x q d (ix2 c j) = x (ix2 c j) + ∑ r : Fin 1024, q (ix2 c r) * d (ix2 r j) := by pointwise [k0_pay68]

theorem cols_diag0_k (x : Vec Ideal S128x256 .f32) (q : Vec Ideal S128x1024 .bf16) (d : Vec Ideal S1024x256 .bf16) (c : Fin 128) (j : Fin 256) :
    k0_pay285 (k0_pay284 x) q d (ix2 c j) = x (ix2 c j) + ∑ r : Fin 1024, q (ix2 c r) * d (ix2 r j) := by pointwise [k0_pay284, k0_pay285]

theorem cols_diag0_v (x : Vec Ideal S128x256 .f32) (q : Vec Ideal S128x1024 .bf16) (d : Vec Ideal S1024x256 .bf16) (c : Fin 128) (j : Fin 256) :
    k0_pay286 x q d (ix2 c j) = x (ix2 c j) + ∑ r : Fin 1024, q (ix2 c r) * d (ix2 r j) := by pointwise [k0_pay286]

theorem cols_diag1_k (x : Vec Ideal S128x256 .f32) (q : Vec Ideal S128x1024 .bf16) (d : Vec Ideal S1024x256 .bf16) (c : Fin 128) (j : Fin 256) :
    k0_pay355 (k0_pay354 x) q d (ix2 c j) = x (ix2 c j) + ∑ r : Fin 1024, q (ix2 c r) * d (ix2 r j) := by pointwise [k0_pay354, k0_pay355]

theorem cols_diag1_v (x : Vec Ideal S128x256 .f32) (q : Vec Ideal S128x1024 .bf16) (d : Vec Ideal S1024x256 .bf16) (c : Fin 128) (j : Fin 256) :
    k0_pay356 x q d (ix2 c j) = x (ix2 c j) + ∑ r : Fin 1024, q (ix2 c r) * d (ix2 r j) := by pointwise [k0_pay356]

theorem cols_diag2_k (x : Vec Ideal S128x256 .f32) (q : Vec Ideal S128x768 .bf16) (d : Vec Ideal S768x256 .bf16) (c : Fin 128) (j : Fin 256) :
    k0_pay408 x q d (ix2 c j) = x (ix2 c j) + ∑ r : Fin 768, q (ix2 c r) * d (ix2 r j) := by pointwise [k0_pay408]

theorem cols_diag2_v (x : Vec Ideal S128x256 .f32) (q : Vec Ideal S128x768 .bf16) (d : Vec Ideal S768x256 .bf16) (c : Fin 128) (j : Fin 256) :
    k0_pay409 x q d (ix2 c j) = x (ix2 c j) + ∑ r : Fin 768, q (ix2 c r) * d (ix2 r j) := by pointwise [k0_pay409]

theorem cols_diag3_k (x : Vec Ideal S128x256 .f32) (q : Vec Ideal S128x512 .bf16) (d : Vec Ideal S512x256 .bf16) (c : Fin 128) (j : Fin 256) :
    k0_pay447 x q d (ix2 c j) = x (ix2 c j) + ∑ r : Fin 512, q (ix2 c r) * d (ix2 r j) := by pointwise [k0_pay447]

theorem cols_diag3_v (x : Vec Ideal S128x256 .f32) (q : Vec Ideal S128x512 .bf16) (d : Vec Ideal S512x256 .bf16) (c : Fin 128) (j : Fin 256) :
    k0_pay448 x q d (ix2 c j) = x (ix2 c j) + ∑ r : Fin 512, q (ix2 c r) * d (ix2 r j) := by pointwise [k0_pay448]

theorem cols_last_k (x : Vec Ideal S128x256 .f32) (q : Vec Ideal S128x256 .bf16) (d : Vec Ideal S256x256 .bf16) (c : Fin 128) (j : Fin 256) :
    k0_pay466 x q d (ix2 c j) = x (ix2 c j) + ∑ r : Fin 256, q (ix2 c r) * d (ix2 r j) := by pointwise [k0_pay466]

theorem cols_last_v (x : Vec Ideal S128x256 .f32) (q : Vec Ideal S128x256 .bf16) (d : Vec Ideal S256x256 .bf16) (c : Fin 128) (j : Fin 256) :
    k0_pay467 x q d (ix2 c j) = x (ix2 c j) + ∑ r : Fin 256, q (ix2 c r) * d (ix2 r j) := by pointwise [k0_pay467]

theorem slot_half1_z (k : Vec Ideal S256x128 .bf16) (q : Vec Ideal S1024x128 .bf16) (r : Fin 1024) (j : Fin 256) :
    k0_pay5 k q (ix3 0 r j) = (∑ c : Fin 128, q (ix2 r c) * k (ix2 j c)) * (sc : EReal) := by
  pointwise [k0_pay5]
  rw [lit_sc]

theorem slot_half1_w (k : Vec Ideal S256x128 .bf16) (q : Vec Ideal S1024x128 .bf16) (r : Fin 1024) (j : Fin 256) :
    k0_pay6 k q (ix3 0 r j) = (∑ c : Fin 128, q (ix2 r c) * k (ix2 j c)) * ((1 : ℝ) : EReal) := by
  pointwise [k0_pay6]
  rw [EReal.coe_one, mul_one]

theorem slot_half2_z (k : Vec Ideal S256x128 .bf16) (q : Vec Ideal S1024x128 .bf16) (r : Fin 1024) (j : Fin 256) :
    k0_pay70 (k0_pay69 k) q (ix3 0 r j) = (∑ c : Fin 128, q (ix2 r c) * k (ix2 j c)) * (sc : EReal) := by
  pointwise [k0_pay69, k0_pay70]
  rw [lit_sc]

theorem slot_half2_w (k : Vec Ideal S256x128 .bf16) (q : Vec Ideal S1024x128 .bf16) (r : Fin 1024) (j : Fin 256) :
    k0_pay71 k q (ix3 0 r j) = (∑ c : Fin 128, q (ix2 r c) * k (ix2 j c)) * ((1 : ℝ) : EReal) := by
  pointwise [k0_pay71]
  rw [EReal.coe_one, mul_one]

theorem slot_diag0_z (k : Vec Ideal S256x128 .bf16) (q : Vec Ideal S768x128 .bf16) (r : Fin 768) (j : Fin 256) :
    k0_pay288 k q (ix3 0 r j) = (∑ c : Fin 128, q (ix2 r c) * k (ix2 j c)) * (sc : EReal) := by
  pointwise [k0_pay288]
  rw [lit_sc]

theorem slot_diag0_w (k : Vec Ideal S256x128 .bf16) (q : Vec Ideal S768x128 .bf16) (r : Fin 768) (j : Fin 256) :
    k0_pay289 (k0_pay287 k) q (ix3 0 r j) = (∑ c : Fin 128, q (ix2 r c) * k (ix2 j c)) * ((1 : ℝ) : EReal) := by
  pointwise [k0_pay287, k0_pay289]
  rw [EReal.coe_one, mul_one]

theorem slot_diag1_z (k : Vec Ideal S256x128 .bf16) (q : Vec Ideal S512x128 .bf16) (r : Fin 512) (j : Fin 256) :
    k0_pay357 k q (ix3 0 r j) = (∑ c : Fin 128, q (ix2 r c) * k (ix2 j c)) * (sc : EReal) := by
  pointwise [k0_pay357]
  rw [lit_sc]

theorem slot_diag1_w (k : Vec Ideal S256x128 .bf16) (q : Vec Ideal S512x128 .bf16) (r : Fin 512) (j : Fin 256) :
    k0_pay359 (k0_pay358 k q) (ix3 0 r j) = (∑ c : Fin 128, q (ix2 r c) * k (ix2 j c)) * ((1 : ℝ) : EReal) := by
  pointwise [k0_pay358, k0_pay359]
  rw [EReal.coe_one, mul_one]

theorem slot_diag2_z (k : Vec Ideal S256x128 .bf16) (q : Vec Ideal S256x128 .bf16) (r : Fin 256) (j : Fin 256) :
    k0_pay410 k q (ix3 0 r j) = (∑ c : Fin 128, q (ix2 r c) * k (ix2 j c)) * (sc : EReal) := by
  pointwise [k0_pay410]
  rw [lit_sc]

theorem slot_diag2_w (k : Vec Ideal S256x128 .bf16) (q : Vec Ideal S256x128 .bf16) (r : Fin 256) (j : Fin 256) :
    k0_pay411 k q (ix3 0 r j) = (∑ c : Fin 128, q (ix2 r c) * k (ix2 j c)) * ((1 : ℝ) : EReal) := by
  pointwise [k0_pay411]
  rw [EReal.coe_one, mul_one]

theorem slot_open_z (k : Vec Ideal S256x128 .bf16) (q : Vec Ideal S1024x128 .bf16) (r : Fin 1024) (j : Fin 256) :
    k0_pay269 k q (ix3 0 r j) = (∑ c : Fin 128, q (ix2 r c) * k (ix2 j c)) * (sc : EReal) := by
  pointwise [k0_pay269]
  rw [lit_sc]

theorem slot_open_w (k : Vec Ideal S256x128 .bf16) (q : Vec Ideal S1024x128 .bf16) (r : Fin 1024) (j : Fin 256) :
    k0_pay270 k q (ix3 0 r j) = (∑ c : Fin 128, q (ix2 r c) * k (ix2 j c)) * ((1 : ℝ) : EReal) := by
  pointwise [k0_pay270]
  rw [EReal.coe_one, mul_one]

end Cert.Proof.Sb
-- ==== Proof.SbGroups.lean ====
module

public import proofs.«01_k».proof.Proof.SbGroup
public import proofs.«01_k».proof.Proof.SbHalf1
public import proofs.«01_k».proof.Proof.SbHalf2
public import proofs.«01_k».proof.Proof.SbDiag0
public import proofs.«01_k».proof.Proof.SbDiag1
public import proofs.«01_k».proof.Proof.SbDiag2

/-!
  Every stretch of the body leaves its groups of rows as `groups` says: the two halves of a trip work on all four, unmasked; the key
  block number `u` on the diagonal works on the groups from `u` on, the first of them masked.
-/

@[expose] public section

set_option maxRecDepth 65536

noncomputable section

namespace Cert.Proof.Sb

open Cert.Kernel4Ideal Cert.Kernel4Ideal.Gen
open Idealize.ShloMosaic Idealize.ShloMosaic.TcCoe Idealize.ShloMosaic.Tactic

variable {F : FTy → Type} [FloatOps F]

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

/-- The first half of a trip. -/
theorem half1_groups (v52 : FVec F S256x256 .bf16) (t : Fin (k0_t1_loop i).trips) (e : Src F) (s : St F) :
    (half1 c i
        harg2 harg3 harg4 harg5 harg6 harg7 harg8 harg9 harg10 harg11 harg12 harg13 harg14 harg15 harg16 harg17 harg18 harg19
        harg20 harg21 harg22 harg23
        v52 t e s).1.part = groups harg18 harg19 harg20 harg21 harg22 harg23 v52 0 0 false s := by
  sl_kernel_rfl

/-- The second half of a trip. -/
theorem half2_groups (v52 : FVec F S256x256 .bf16) (t : Fin (k0_t1_loop i).trips) (e : Src F) (s : St F) :
    (half2 c i
        harg2 harg3 harg4 harg5 harg6 harg7 harg8 harg9 harg10 harg11 harg12 harg13 harg14 harg15 harg16 harg17 harg18 harg19
        harg20 harg21 harg22 harg23
        v52 t e s).1.part = groups harg18 harg19 harg20 harg21 harg22 harg23 v52 1 0 false s := by
  sl_kernel_rfl

/-- The key block number 0 on the diagonal. -/
theorem diag0_groups (v52 : FVec F S256x256 .bf16) (e : Src F) (s : St F) :
    (diag0 c i
        harg2 harg3 harg4 harg5 harg6 harg7 harg8 harg9 harg10 harg11 harg12 harg13 harg14 harg15 harg16 harg17 harg18 harg19
        harg20 harg21 harg22 harg23
        v52 e s).1.part = groups harg18 harg19 harg20 harg21 harg22 harg23 v52 0 0 true s := by
  sl_kernel_rfl

/-- The key block number 1 on the diagonal. -/
theorem diag1_groups (v52 : FVec F S256x256 .bf16) (e : Src F) (s : St F) :
    (diag1 c i
        harg2 harg3 harg4 harg5 harg6 harg7 harg8 harg9 harg10 harg11 harg12 harg13 harg14 harg15 harg16 harg17 harg18 harg19
        harg20 harg21 harg22 harg23
        v52 e s).1.part = groups harg18 harg19 harg20 harg21 harg22 harg23 v52 1 1 true s := by
  sl_kernel_rfl

/-- The key block number 2 on the diagonal. -/
theorem diag2_groups (v52 : FVec F S256x256 .bf16) (e : Src F) (s : St F) :
    (diag2 c i
        harg2 harg3 harg4 harg5 harg6 harg7 harg8 harg9 harg10 harg11 harg12 harg13 harg14 harg15 harg16 harg17 harg18 harg19
        harg20 harg21 harg22 harg23
        v52 e s).1.part = groups harg18 harg19 harg20 harg21 harg22 harg23 v52 0 2 true s := by
  sl_kernel_rfl

/-- The key block number 3 on the diagonal. -/
theorem diag3_groups (v52 : FVec F S256x256 .bf16) (e : Src F) (s : St F) :
    (diag3 c i
        harg2 harg3 harg4 harg5 harg6 harg7 harg8 harg9 harg10 harg11 harg12 harg13 harg14 harg15 harg16 harg17 harg18 harg19
        harg20 harg21 harg22 harg23
        v52 e s).1.part = groups harg18 harg19 harg20 harg21 harg22 harg23 v52 1 3 true s := by
  sl_kernel_rfl

end Cert.Proof.Sb
-- ==== Proof.SbSteps.lean ====
module

public import proofs.«01_k».proof.Proof.SbInv
public import proofs.«01_k».proof.Proof.SbPay
public import proofs.«01_k».proof.Proof.SbGroups
public import proofs.«01_k».proof.Proof.SbLoop
public import proofs.«01_k».proof.Proof.SbDiag0
public import proofs.«01_k».proof.Proof.SbDiag1
public import proofs.«01_k».proof.Proof.SbDiag2

/-!
  Every stretch of the body takes what is true after `k` key blocks to what is true after `k + 1`.
-/

@[expose] public section

set_option maxRecDepth 65536

noncomputable section

namespace Cert.Proof.Sb

open Cert.Kernel4Ideal Cert.Kernel4Ideal.Gen Cert.Reals
open Idealize.ShloMosaic Idealize.ShloMosaic.TcCoe Idealize.ShloMosaic.Tactic
open Idealize.ShloMosaic.Pointwise
open scoped BigOperators

/-! ## Where a stretch reads and writes, as multiples of a key block -/

theorem off1_eq : ∀ (i : grid0.Coords) (t : Fin (k0_t1_loop i).trips), k0_off1 i t = ![256 * (2 * t.val - 1), 0] := by decide +kernel
theorem off2_eq : ∀ (i : grid0.Coords) (t : Fin (k0_t1_loop i).trips), k0_off2 i t = ![0, 256 * (2 * t.val - 1)] := by decide +kernel
theorem off3_eq : ∀ (i : grid0.Coords) (t : Fin (k0_t1_loop i).trips), k0_off3 i t = ![256 * (2 * t.val + 1), 0] := by decide +kernel
theorem off4_eq : ∀ (i : grid0.Coords) (t : Fin (k0_t1_loop i).trips), k0_off4 i t = ![256 * (2 * t.val + 1 - 1), 0] := by decide +kernel
theorem off5_eq : ∀ (i : grid0.Coords) (t : Fin (k0_t1_loop i).trips), k0_off5 i t = ![0, 256 * (2 * t.val + 1 - 1)] := by decide +kernel
theorem off6_eq : ∀ (i : grid0.Coords) (t : Fin (k0_t1_loop i).trips), k0_off6 i t = ![256 * (2 * t.val + 1 + 1), 0] := by decide +kernel
theorem off13_eq : ∀ (i : grid0.Coords), k0_off13 i = ![256 * (4 * (i 1).val - 1), 0] := by decide +kernel
theorem off14_eq : ∀ (i : grid0.Coords), k0_off14 i = ![0, 256 * (4 * (i 1).val - 1)] := by decide +kernel
theorem off15_eq : ∀ (i : grid0.Coords) (u : Fin 3), k0_off15 i (BitVec.ofNat 32 u.val) = ![256 * (4 * (i 1).val + u.val + 1), 0] := by decide +kernel
theorem off16_eq : ∀ (i : grid0.Coords) (u : Fin 4), k0_off16 i (BitVec.ofNat 32 (1 + u.val)) = ![256 * (4 * (i 1).val + u.val + 1 - 1), 0] := by decide +kernel
theorem off17_eq : ∀ (i : grid0.Coords) (u : Fin 4), k0_off17 i (BitVec.ofNat 32 (1 + u.val)) = ![0, 256 * (4 * (i 1).val + u.val + 1 - 1)] := by decide +kernel

namespace Blk

variable (B : Blk)

variable {X Y : Fin 128 → ℕ → ℝ} {e : Sb.Src Ideal} {s : St Ideal} (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

section Loop

variable (hE : B.Src e) (hi : B.qi = (i 1).val) (t : Fin (k0_t1_loop i).trips)

include hE hi in
/-- The first half of trip `t` works on key block `2 t`. -/
theorem half1_step (hI : Inv B X Y (2 * t.val) s) (hR : Ready B (2 * t.val) 0 s) :
    Inv B X Y (2 * t.val + 1) (half1 c i harg2 harg3 harg4 harg5 harg6 harg7 harg8 harg9 harg10 harg11 harg12 harg13 harg14 harg15 harg16 harg17 harg18 harg19 harg20
      harg21 harg22 harg23
      (k0_pay262 (F := Ideal)) t e s).1 ∧
      Ready B (2 * t.val + 1) 1 (half1 c i harg2 harg3 harg4 harg5 harg6 harg7 harg8 harg9 harg10 harg11 harg12 harg13 harg14 harg15 harg16 harg17 harg18 harg19 harg20
      harg21 harg22 harg23
      (k0_pay262 (F := Ideal)) t e s).1 := by
  have ht := lt_of_lt_of_eq t.isLt (trips1 i)
  have hq : (i 1).val < 8 := (i 1).isLt
  have hk : (2 * t.val) < 4 * B.qi + 4 := by omega
  have hlo : 0 = 256 * ((2 * t.val) - 1 - 4 * B.qi) := by omega
  have hb : 256 * ((2 * t.val) - 1) + 256 ≤ 8192 := by omega
  refine ⟨next B (lo := 0) (n := 1024) hI hR hk (u := 0) (m := false) (show 0 = _ by omega) (decide_eq_false (by omega)).symm hlo rfl
    (half1_groups c i harg2 harg3 harg4 harg5 harg6 harg7 harg8 harg9 harg10 harg11 harg12 harg13 harg14 harg15 harg16 harg17 harg18 harg19 harg20
      harg21 harg22 harg23
      (k0_pay262 (F := Ideal)) t e s) (fun R d => ?_) (fun d J => ?_) (fun d J => ?_), fun R j h => ?_, fun R j h => ?_⟩
  · exact acc_read harg4 e.k B.K hE.k rfl hb harg17 s.acc harg23 s.dzp _ (off1_eq i t) _ _ _ _ k0_pay2 acc_half1 _ hI.acc
      (fun R j => stored (2 * t.val) B.DZ R j) (fun R j h => hI.dzp R j (hlo ▸ h)) R d
  · exact cols_read rfl hb harg11 s.dk harg15 e.qt harg23 s.dzp _ (off2_eq i t) _ _ _ _ k0_pay3 cols_half1_k
      (fun d J => X d J + if J < 256 * ((2 * t.val) - 1) then ∑ R ∈ Finset.range 1024, B.Q R d * B.DZ R J else 0) hI.dk B.Q hE.qt
      (stored (2 * t.val) B.DZ) (fun R j h => hI.dzp R j (hlo ▸ h)) d J
  · exact cols_read rfl hb harg12 s.dv harg16 e.dt harg22 s.wp _ (off2_eq i t) _ _ _ _ k0_pay4 cols_half1_v
      (fun d J => Y d J + if J < 256 * ((2 * t.val) - 1) then ∑ R ∈ Finset.range 1024, B.D R d * B.W R J else 0) hI.dv B.D hE.dt
      (stored (2 * t.val) B.W) (fun R j h => hI.wp R j (hlo ▸ h)) d J
  · exact slot_read (lo := 0) (n := 1024) harg4 e.k B.K hE.k rfl (by omega) harg20 s.z 1 harg13 e.q _ (off3_eq i t) _ _ _ k0_pay5 sc slot_half1_z _ hE.q R (by omega) j
  · exact slot_read (lo := 0) (n := 1024) harg5 e.v B.V hE.v rfl (by omega) harg21 s.dw 1 harg14 e.d _ (off3_eq i t) _ _ _ k0_pay6 1 slot_half1_w _ hE.d R (by omega) j

include hE hi in
/-- The second half of trip `t` works on key block `2 t + 1`. -/
theorem half2_step (hI : Inv B X Y (2 * t.val + 1) s) (hR : Ready B (2 * t.val + 1) 1 s) :
    Inv B X Y (2 * t.val + 1 + 1) (half2 c i harg2 harg3 harg4 harg5 harg6 harg7 harg8 harg9 harg10 harg11 harg12 harg13 harg14 harg15 harg16 harg17 harg18 harg19 harg20
      harg21 harg22 harg23
      (k0_pay262 (F := Ideal)) t e s).1 ∧
      Ready B (2 * t.val + 1 + 1) 0 (half2 c i harg2 harg3 harg4 harg5 harg6 harg7 harg8 harg9 harg10 harg11 harg12 harg13 harg14 harg15 harg16 harg17 harg18 harg19 harg20
      harg21 harg22 harg23
      (k0_pay262 (F := Ideal)) t e s).1 := by
  have ht := lt_of_lt_of_eq t.isLt (trips1 i)
  have hq : (i 1).val < 8 := (i 1).isLt
  have hk : (2 * t.val + 1) < 4 * B.qi + 4 := by omega
  have hlo : 0 = 256 * ((2 * t.val + 1) - 1 - 4 * B.qi) := by omega
  have hb : 256 * ((2 * t.val + 1) - 1) + 256 ≤ 8192 := by omega
  refine ⟨next B (lo := 0) (n := 1024) hI hR hk (u := 0) (m := false) (show 0 = _ by omega) (decide_eq_false (by omega)).symm hlo rfl
    (half2_groups c i harg2 harg3 harg4 harg5 harg6 harg7 harg8 harg9 harg10 harg11 harg12 harg13 harg14 harg15 harg16 harg17 harg18 harg19 harg20
      harg21 harg22 harg23
      (k0_pay262 (F := Ideal)) t e s) (fun R d => ?_) (fun d J => ?_) (fun d J => ?_), fun R j h => ?_, fun R j h => ?_⟩
  · exact acc_read harg4 e.k B.K hE.k rfl hb harg17 s.acc harg23 s.dzp _ (off4_eq i t) _ _ _ _ k0_pay66 acc_half2 _ hI.acc
      (fun R j => stored (2 * t.val + 1) B.DZ R j) (fun R j h => hI.dzp R j (hlo ▸ h)) R d
  · exact cols_read rfl hb harg11 s.dk harg15 e.qt harg23 s.dzp _ (off5_eq i t) _ _ _ _ k0_pay67 cols_half2_k
      (fun d J => X d J + if J < 256 * ((2 * t.val + 1) - 1) then ∑ R ∈ Finset.range 1024, B.Q R d * B.DZ R J else 0) hI.dk B.Q hE.qt
      (stored (2 * t.val + 1) B.DZ) (fun R j h => hI.dzp R j (hlo ▸ h)) d J
  · exact cols_read rfl hb harg12 s.dv harg16 e.dt harg22 s.wp _ (off5_eq i t) _ _ _ _ k0_pay68 cols_half2_v
      (fun d J => Y d J + if J < 256 * ((2 * t.val + 1) - 1) then ∑ R ∈ Finset.range 1024, B.D R d * B.W R J else 0) hI.dv B.D hE.dt
      (stored (2 * t.val + 1) B.W) (fun R j h => hI.wp R j (hlo ▸ h)) d J
  · exact slot_read (lo := 0) (n := 1024) harg4 e.k B.K hE.k rfl (by omega) harg20 s.z 0 harg13 e.q _ (off6_eq i t) _ _ _ (fun k q => k0_pay70 (k0_pay69 k) q) sc slot_half2_z _ hE.q R (by omega) j
  · exact slot_read (lo := 0) (n := 1024) harg5 e.v B.V hE.v rfl (by omega) harg21 s.dw 0 harg14 e.d _ (off6_eq i t) _ _ _ k0_pay71 1 slot_half2_w _ hE.d R (by omega) j

end Loop

section Diagonal

variable (hE : B.Src e) (hi : B.qi = (i 1).val)

include hE hi in
/-- The first key block on the diagonal. -/
theorem diag0_step (hI : Inv B X Y (4 * (i 1).val) s) (hR : Ready B (4 * (i 1).val) 0 s) :
    Inv B X Y (4 * (i 1).val + 1) (diag0 c i harg2 harg3 harg4 harg5 harg6 harg7 harg8 harg9 harg10 harg11 harg12 harg13 harg14 harg15 harg16 harg17 harg18 harg19 harg20
      harg21 harg22 harg23
      (k0_pay262 (F := Ideal)) e s).1 ∧
      Ready B (4 * (i 1).val + 1) 1 (diag0 c i harg2 harg3 harg4 harg5 harg6 harg7 harg8 harg9 harg10 harg11 harg12 harg13 harg14 harg15 harg16 harg17 harg18 harg19 harg20
      harg21 harg22 harg23
      (k0_pay262 (F := Ideal)) e s).1 := by
  have hq : (i 1).val < 8 := (i 1).isLt
  have hk : (4 * (i 1).val) < 4 * B.qi + 4 := by omega
  have hlo : 0 = 256 * ((4 * (i 1).val) - 1 - 4 * B.qi) := by omega
  have hb : 256 * ((4 * (i 1).val) - 1) + 256 ≤ 8192 := by omega
  refine ⟨next B (lo := 0) (n := 1024) hI hR hk (u := 0) (m := true) (show 0 = _ by omega) (decide_eq_true (by omega)).symm hlo rfl
    (diag0_groups c i harg2 harg3 harg4 harg5 harg6 harg7 harg8 harg9 harg10 harg11 harg12 harg13 harg14 harg15 harg16 harg17 harg18 harg19 harg20
      harg21 harg22 harg23
      (k0_pay262 (F := Ideal)) e s) (fun R d => ?_) (fun d J => ?_) (fun d J => ?_), fun R j h => ?_, fun R j h => ?_⟩
  · exact acc_read harg4 e.k B.K hE.k rfl hb harg17 s.acc harg23 s.dzp _ (off13_eq i) _ _ _ _ k0_pay283 acc_diag0 _ hI.acc
      (fun R j => stored (4 * (i 1).val) B.DZ R j) (fun R j h => hI.dzp R j (hlo ▸ h)) R d
  · exact cols_read rfl hb harg11 s.dk harg15 e.qt harg23 s.dzp _ (off14_eq i) _ _ _ _ (fun x q d => k0_pay285 (k0_pay284 x) q d) cols_diag0_k
      (fun d J => X d J + if J < 256 * ((4 * (i 1).val) - 1) then ∑ R ∈ Finset.range 1024, B.Q R d * B.DZ R J else 0) hI.dk B.Q hE.qt
      (stored (4 * (i 1).val) B.DZ) (fun R j h => hI.dzp R j (hlo ▸ h)) d J
  · exact cols_read rfl hb harg12 s.dv harg16 e.dt harg22 s.wp _ (off14_eq i) _ _ _ _ k0_pay286 cols_diag0_v
      (fun d J => Y d J + if J < 256 * ((4 * (i 1).val) - 1) then ∑ R ∈ Finset.range 1024, B.D R d * B.W R J else 0) hI.dv B.D hE.dt
      (stored (4 * (i 1).val) B.W) (fun R j h => hI.wp R j (hlo ▸ h)) d J
  · exact slot_read (lo := 256) (n := 768) harg4 e.k B.K hE.k rfl (by omega) harg20 s.z 1 harg13 e.q _ (off15_eq i 0) _ _ _ k0_pay288 sc slot_diag0_z _ hE.q R (by omega) j
  · exact slot_read (lo := 256) (n := 768) harg5 e.v B.V hE.v rfl (by omega) harg21 s.dw 1 harg14 e.d _ (off15_eq i 0) _ _ _ (fun k q => k0_pay289 (k0_pay287 k) q) 1 slot_diag0_w _ hE.d R (by omega) j

include hE hi in
/-- The second key block on the diagonal. -/
theorem diag1_step (hI : Inv B X Y (4 * (i 1).val + 1) s) (hR : Ready B (4 * (i 1).val + 1) 1 s) :
    Inv B X Y (4 * (i 1).val + 1 + 1) (diag1 c i harg2 harg3 harg4 harg5 harg6 harg7 harg8 harg9 harg10 harg11 harg12 harg13 harg14 harg15 harg16 harg17 harg18 harg19 harg20
      harg21 harg22 harg23
      (k0_pay262 (F := Ideal)) e s).1 ∧
      Ready B (4 * (i 1).val + 1 + 1) 0 (diag1 c i harg2 harg3 harg4 harg5 harg6 harg7 harg8 harg9 harg10 harg11 harg12 harg13 harg14 harg15 harg16 harg17 harg18 harg19 harg20
      harg21 harg22 harg23
      (k0_pay262 (F := Ideal)) e s).1 := by
  have hq : (i 1).val < 8 := (i 1).isLt
  have hk : (4 * (i 1).val + 1) < 4 * B.qi + 4 := by omega
  have hlo : 0 = 256 * ((4 * (i 1).val + 1) - 1 - 4 * B.qi) := by omega
  have hb : 256 * ((4 * (i 1).val + 1) - 1) + 256 ≤ 8192 := by omega
  refine ⟨next B (lo := 0) (n := 1024) hI hR hk (u := 1) (m := true) (show 1 = _ by omega) (decide_eq_true (by omega)).symm hlo rfl
    (diag1_groups c i harg2 harg3 harg4 harg5 harg6 harg7 harg8 harg9 harg10 harg11 harg12 harg13 harg14 harg15 harg16 harg17 harg18 harg19 harg20
      harg21 harg22 harg23
      (k0_pay262 (F := Ideal)) e s) (fun R d => ?_) (fun d J => ?_) (fun d J => ?_), fun R j h => ?_, fun R j h => ?_⟩
  · exact acc_read harg4 e.k B.K hE.k rfl hb harg17 s.acc harg23 s.dzp _ (off16_eq i 0) _ _ _ _ k0_pay353 acc_diag1 _ hI.acc
      (fun R j => stored (4 * (i 1).val + 1) B.DZ R j) (fun R j h => hI.dzp R j (hlo ▸ h)) R d
  · exact cols_read rfl hb harg11 s.dk harg15 e.qt harg23 s.dzp _ (off17_eq i 0) _ _ _ _ (fun x q d => k0_pay355 (k0_pay354 x) q d) cols_diag1_k
      (fun d J => X d J + if J < 256 * ((4 * (i 1).val + 1) - 1) then ∑ R ∈ Finset.range 1024, B.Q R d * B.DZ R J else 0) hI.dk B.Q hE.qt
      (stored (4 * (i 1).val + 1) B.DZ) (fun R j h => hI.dzp R j (hlo ▸ h)) d J
  · exact cols_read rfl hb harg12 s.dv harg16 e.dt harg22 s.wp _ (off17_eq i 0) _ _ _ _ k0_pay356 cols_diag1_v
      (fun d J => Y d J + if J < 256 * ((4 * (i 1).val + 1) - 1) then ∑ R ∈ Finset.range 1024, B.D R d * B.W R J else 0) hI.dv B.D hE.dt
      (stored (4 * (i 1).val + 1) B.W) (fun R j h => hI.wp R j (hlo ▸ h)) d J
  · exact slot_read (lo := 512) (n := 512) harg4 e.k B.K hE.k rfl (by omega) harg20 s.z 0 harg13 e.q _ (off15_eq i 1) _ _ _ k0_pay357 sc slot_diag1_z _ hE.q R (by omega) j
  · exact slot_read (lo := 512) (n := 512) harg5 e.v B.V hE.v rfl (by omega) harg21 s.dw 0 harg14 e.d _ (off15_eq i 1) _ _ _ (fun k q => k0_pay359 (k0_pay358 k q)) 1 slot_diag1_w _ hE.d R (by omega) j

include hE hi in
/-- The third key block on the diagonal. -/
theorem diag2_step (hI : Inv B X Y (4 * (i 1).val + 2) s) (hR : Ready B (4 * (i 1).val + 2) 0 s) :
    Inv B X Y (4 * (i 1).val + 2 + 1) (diag2 c i harg2 harg3 harg4 harg5 harg6 harg7 harg8 harg9 harg10 harg11 harg12 harg13 harg14 harg15 harg16 harg17 harg18 harg19 harg20
      harg21 harg22 harg23
      (k0_pay262 (F := Ideal)) e s).1 ∧
      Ready B (4 * (i 1).val + 2 + 1) 1 (diag2 c i harg2 harg3 harg4 harg5 harg6 harg7 harg8 harg9 harg10 harg11 harg12 harg13 harg14 harg15 harg16 harg17 harg18 harg19 harg20
      harg21 harg22 harg23
      (k0_pay262 (F := Ideal)) e s).1 := by
  have hq : (i 1).val < 8 := (i 1).isLt
  have hk : (4 * (i 1).val + 2) < 4 * B.qi + 4 := by omega
  have hlo : 256 = 256 * ((4 * (i 1).val + 2) - 1 - 4 * B.qi) := by omega
  have hb : 256 * ((4 * (i 1).val + 2) - 1) + 256 ≤ 8192 := by omega
  refine ⟨next B (lo := 256) (n := 768) hI hR hk (u := 2) (m := true) (show 2 = _ by omega) (decide_eq_true (by omega)).symm hlo rfl
    (diag2_groups c i harg2 harg3 harg4 harg5 harg6 harg7 harg8 harg9 harg10 harg11 harg12 harg13 harg14 harg15 harg16 harg17 harg18 harg19 harg20
      harg21 harg22 harg23
      (k0_pay262 (F := Ideal)) e s) (fun R d => ?_) (fun d J => ?_) (fun d J => ?_), fun R j h => ?_, fun R j h => ?_⟩
  · exact acc_read harg4 e.k B.K hE.k rfl hb harg17 s.acc harg23 s.dzp _ (off16_eq i 1) _ _ _ _ k0_pay407 acc_diag2 _ hI.acc
      (fun R j => stored (4 * (i 1).val + 2) B.DZ R j) (fun R j h => hI.dzp R j (hlo ▸ h)) R d
  · exact cols_read rfl hb harg11 s.dk harg15 e.qt harg23 s.dzp _ (off17_eq i 1) _ _ _ _ k0_pay408 cols_diag2_k
      (fun d J => X d J + if J < 256 * ((4 * (i 1).val + 2) - 1) then ∑ R ∈ Finset.range 1024, B.Q R d * B.DZ R J else 0) hI.dk B.Q hE.qt
      (stored (4 * (i 1).val + 2) B.DZ) (fun R j h => hI.dzp R j (hlo ▸ h)) d J
  · exact cols_read rfl hb harg12 s.dv harg16 e.dt harg22 s.wp _ (off17_eq i 1) _ _ _ _ k0_pay409 cols_diag2_v
      (fun d J => Y d J + if J < 256 * ((4 * (i 1).val + 2) - 1) then ∑ R ∈ Finset.range 1024, B.D R d * B.W R J else 0) hI.dv B.D hE.dt
      (stored (4 * (i 1).val + 2) B.W) (fun R j h => hI.wp R j (hlo ▸ h)) d J
  · exact slot_read (lo := 768) (n := 256) harg4 e.k B.K hE.k rfl (by omega) harg20 s.z 1 harg13 e.q _ (off15_eq i 2) _ _ _ k0_pay410 sc slot_diag2_z _ hE.q R (by omega) j
  · exact slot_read (lo := 768) (n := 256) harg5 e.v B.V hE.v rfl (by omega) harg21 s.dw 1 harg14 e.d _ (off15_eq i 2) _ _ _ k0_pay411 1 slot_diag2_w _ hE.d R (by omega) j

include hE hi in
/-- The fourth key block on the diagonal. -/
theorem diag3_step (hI : Inv B X Y (4 * (i 1).val + 3) s) (hR : Ready B (4 * (i 1).val + 3) 1 s) :
    Inv B X Y (4 * (i 1).val + 3 + 1) (diag3 c i harg2 harg3 harg4 harg5 harg6 harg7 harg8 harg9 harg10 harg11 harg12 harg13 harg14 harg15 harg16 harg17 harg18 harg19 harg20
      harg21 harg22 harg23
      (k0_pay262 (F := Ideal)) e s).1 := by
  have hq : (i 1).val < 8 := (i 1).isLt
  have hk : (4 * (i 1).val + 3) < 4 * B.qi + 4 := by omega
  have hlo : 512 = 256 * ((4 * (i 1).val + 3) - 1 - 4 * B.qi) := by omega
  have hb : 256 * ((4 * (i 1).val + 3) - 1) + 256 ≤ 8192 := by omega
  refine next B (lo := 512) (n := 512) hI hR hk (u := 3) (m := true) (show 3 = _ by omega) (decide_eq_true (by omega)).symm hlo rfl
    (diag3_groups c i harg2 harg3 harg4 harg5 harg6 harg7 harg8 harg9 harg10 harg11 harg12 harg13 harg14 harg15 harg16 harg17 harg18 harg19 harg20
      harg21 harg22 harg23
      (k0_pay262 (F := Ideal)) e s) (fun R d => ?_) (fun d J => ?_) (fun d J => ?_)
  · exact acc_read harg4 e.k B.K hE.k rfl hb harg17 s.acc harg23 s.dzp _ (off16_eq i 2) _ _ _ _ (fun k a d => k0_pay446 (k0_pay445 k) a d) acc_diag3 _ hI.acc
      (fun R j => stored (4 * (i 1).val + 3) B.DZ R j) (fun R j h => hI.dzp R j (hlo ▸ h)) R d
  · exact cols_read rfl hb harg11 s.dk harg15 e.qt harg23 s.dzp _ (off17_eq i 2) _ _ _ _ k0_pay447 cols_diag3_k
      (fun d J => X d J + if J < 256 * ((4 * (i 1).val + 3) - 1) then ∑ R ∈ Finset.range 1024, B.Q R d * B.DZ R J else 0) hI.dk B.Q hE.qt
      (stored (4 * (i 1).val + 3) B.DZ) (fun R j h => hI.dzp R j (hlo ▸ h)) d J
  · exact cols_read rfl hb harg12 s.dv harg16 e.dt harg22 s.wp _ (off17_eq i 2) _ _ _ _ k0_pay448 cols_diag3_v
      (fun d J => Y d J + if J < 256 * ((4 * (i 1).val + 3) - 1) then ∑ R ∈ Finset.range 1024, B.D R d * B.W R J else 0) hI.dv B.D hE.dt
      (stored (4 * (i 1).val + 3) B.W) (fun R j h => hI.wp R j (hlo ▸ h)) d J

end Diagonal

end Blk

end Cert.Proof.Sb

end
-- ==== Proof.SbStart.lean ====
module

public import proofs.«01_k».proof.Proof.SbSteps
public import proofs.«01_k».proof.Proof.SbBody

/-!
  The whole body of a grid point at finite inputs: the opening, the loop, the diagonal and the last application.
-/

@[expose] public section

set_option maxRecDepth 65536

noncomputable section

namespace Cert.Proof.Sb

open Cert.Kernel4Ideal Cert.Kernel4Ideal.Gen Cert.Reals
open Idealize.ShloMosaic Idealize.ShloMosaic.TcCoe Idealize.ShloMosaic.Tactic
open Idealize.ShloMosaic.Pointwise
open scoped BigOperators

/-! ## The opening's values -/

/-- The logistic function. -/
def sg (x : ℝ) : ℝ := 1 / (1 + Real.exp (-x))

theorem sig_open (g : Vec Ideal S1024x128 .f32) (G : ℝ) (r : Fin 1024) (c : Fin 128) (h : g (ix2 r c) = (G : EReal)) :
    k0_pay256 g (ix2 r c) = (sg G : EReal) := by
  have hp : 0 < 1 + Real.exp (-G) := by positivity
  pointwise [k0_pay256]
  rw [h, zero_sub, ← EReal.coe_neg, Ideal.exp_coe, ← EReal.coe_one, ← EReal.coe_add, sg]
  exact div_real _ hp.ne'

theorem d_open (g dy : Vec Ideal S1024x128 .f32) (G Y : ℝ) (r : Fin 1024) (c : Fin 128) (hg : g (ix2 r c) = (G : EReal)) (hy : dy (ix2 r c) = (Y : EReal)) :
    k0_pay258 g dy (ix2 r c) = ((Y * (G * sg G) : ℝ) : EReal) := by
  pointwise [k0_pay258, k0_pay257]
  rw [sig_open g G r c hg, hg, hy, ← EReal.coe_mul, ← EReal.coe_mul]

theorem dt_open (g dy : Vec Ideal S1024x128 .f32) (G Y : ℝ) (r : Fin 1024) (c : Fin 128) (hg : g (ix2 r c) = (G : EReal)) (hy : dy (ix2 r c) = (Y : EReal)) :
    k0_pay260 (k0_pay259 g dy) (ix2 c r) = ((Y * (G * sg G) : ℝ) : EReal) := by
  pointwise [k0_pay260, k0_pay259, k0_pay257]
  rw [sig_open g G r c hg, hg, hy, ← EReal.coe_mul, ← EReal.coe_mul]

theorem q_open (q : Vec Ideal S1024x128 .f32) (r : Fin 1024) (c : Fin 128) : k0_pay254 q (ix2 r c) = q (ix2 r c) := by pointwise [k0_pay254]

theorem qt_open (q : Vec Ideal S1024x128 .f32) (r : Fin 1024) (c : Fin 128) : k0_pay255 q (ix2 c r) = q (ix2 r c) := by pointwise [k0_pay255]

theorem left_open (x : Vec Ideal S1024x1 .f32) (r : Fin 1024) : k0_pay264 x (ix2 r 0) = x (ix2 r 0) := by pointwise [k0_pay264]

theorem dg_open (g dy o : Vec Ideal S1024x128 .f32) (G Y O : ℝ) (r : Fin 1024) (c : Fin 128) (hg : g (ix2 r c) = (G : EReal)) (hy : dy (ix2 r c) = (Y : EReal))
    (ho : o (ix2 r c) = (O : EReal)) : k0_pay261 g (k0_pay256 g) dy o (ix2 r c) = ((Y * O * (sg G * (1 + G * (1 - sg G))) : ℝ) : EReal) := by
  pointwise [k0_pay261]
  rw [sig_open g G r c hg, hg, hy, ho, ← EReal.coe_one, ← EReal.coe_sub, ← EReal.coe_mul, ← EReal.coe_mul, ← EReal.coe_add, ← EReal.coe_mul, ← EReal.coe_mul]

theorem zero_acc (r : Fin 1024) (c : Fin 128) : k0_pay263 (F := Ideal) (ix2 r c) = 0 := by pointwise [k0_pay263]
theorem zero_rune (r : Fin 1024) : k0_pay265 (F := Ideal) (ix2 r 0) = 0 := by pointwise [k0_pay265]
theorem zero_wp (r : Fin 1024) (j : Fin 256) : k0_pay267 (k0_pay266 (F := Ideal)) (ix2 r j) = 0 := by pointwise [k0_pay267, k0_pay266]
theorem zero_dzp (r : Fin 1024) (j : Fin 256) : k0_pay268 (F := Ideal) (ix2 r j) = 0 := by pointwise [k0_pay268]
theorem zero_dk (c : Fin 128) (j : Fin 8192) : k0_pay252 (F := Ideal) (ix2 c j) = 0 := by pointwise [k0_pay252]
theorem zero_dv (c : Fin 128) (j : Fin 8192) : k0_pay253 (F := Ideal) (ix2 c j) = 0 := by pointwise [k0_pay253]

theorem app4 {α β γ δ ε : Sort*} (f : α → β → γ → δ → ε) {a a' b b' c c' d d'} (ha : a = a') (hb : b = b') (hc : c = c') (hd : d = d') :
    f a b c d = f a' b' c' d' := by subst ha hb hc hd; rfl

theorem whole_at {sg : RefSig} {sh : Shape} {e : EltTy} {a : Memref sg .tc .vmem sh e} (h : a.IsWhole) (x : Vec Ideal sh e) {off : Fin sh.rank → ℕ}
    (inb : ∀ t, off t + sh.size t ≤ sh.size t) : View.readAt (Elt Ideal) a.view (Rect.unit off sh.size inb).toLoadRect (h.unread x) = x :=
  (View.readAt_full _ _ _).trans (h.read_unread x)

theorem slot_open_read {a : Memref sig .tc .vmem S2x1024x256 .f32} (h : a.IsWhole) (x : Vec Ideal S2x1024x256 .f32) (inb) (w : Vec Ideal S1x1024x256 .f32)
    (R : Fin 1024) (j : Fin 256) :
    View.read (Elt Ideal) a.view (a.view.writes (Elt Ideal) (h.unread x) [⟨Rect.unit (s := S2x1024x256) ![0, 0, 0] ![1, 1024, 256] inb, w⟩]) (ix3 0 R j)
      = w (ix3 0 R j) :=
  View.read_writes_cons_unit_of_mem a.view _ inb w [] (ix3 0 R j) (ix3 0 R j) rfl fun t => by
    match t with
    | 0 => rfl
    | 1 => show R.val = 0 + R.val; omega
    | 2 => show j.val = 0 + j.val; omega

/-- What the opening leaves: the gate's gradient, what the stretches read, and the state they start from. -/
structure Opened (p : Inp Ideal) (e : Src Ideal) (dk0 dv0 : Vec Ideal S128x8192 .f32) (r : Vec Ideal S1024x128 .bf16 × Src Ideal × St Ideal) : Prop where
  dg : r.1 = k0_pay261 p.g (k0_pay256 p.g) p.dy p.o
  k : r.2.1.k = e.k
  v : r.2.1.v = e.v
  q : r.2.1.q = k0_pay254 p.q
  d : r.2.1.d = k0_pay258 p.g p.dy
  qt : r.2.1.qt = k0_pay255 p.q
  dt : r.2.1.dt = k0_pay260 (k0_pay259 p.g p.dy)
  acc : r.2.2.acc = k0_pay263 (F := Ideal)
  left : ∀ R : Fin 1024, r.2.2.left (ix2 R 0) = p.tl (ix2 R 0)
  rune : r.2.2.rune = k0_pay265 (F := Ideal)
  z : ∃ kb : Vec Ideal S256x128 .bf16, (∀ (j : Fin 256) c, kb (ix2 j c) = e.k (ix2 ⟨j.val, by omega⟩ c)) ∧
    ∀ (R : Fin 1024) (j : Fin 256), r.2.2.z (ix3 0 R j) = k0_pay269 kb (k0_pay254 p.q) (ix3 0 R j)
  dw : ∃ kb : Vec Ideal S256x128 .bf16, (∀ (j : Fin 256) c, kb (ix2 j c) = e.v (ix2 ⟨j.val, by omega⟩ c)) ∧
    ∀ (R : Fin 1024) (j : Fin 256), r.2.2.dw (ix3 0 R j) = k0_pay270 kb (k0_pay258 p.g p.dy) (ix3 0 R j)
  wp : r.2.2.wp = k0_pay267 (k0_pay266 (F := Ideal))
  dzp : r.2.2.dzp = k0_pay268 (F := Ideal)
  dk : r.2.2.dk = dk0
  dv : r.2.2.dv = dv0

section Body

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

theorem openFirst_at (h) (p : Inp Ideal) (e : Src Ideal) (s : St Ideal) (g0 : Vec Ideal S1024x128 .bf16) :
    Opened p e (k0_pay252 (F := Ideal)) (k0_pay253 (F := Ideal)) (openFirst c i harg2 harg3 harg4 harg5 harg6 harg7 harg8 harg9 harg10 harg11 harg12 harg13 harg14 harg15 harg16 harg17 harg18 harg19 harg20
      harg21 harg22 harg23
      h p e s g0).1 := by
  refine ⟨?_, ?_, ?_, ?_, ?_, ?_, ?_, ?_, fun R => ?_, ?_, ?_, ?_, ?_, ?_, ?_, ?_⟩
  · exact (View.read_writes_full arg10.view _ _ _ []).trans
      (app4 k0_pay261 (whole_at harg3 _ _) (congrArg k0_pay256 (whole_at harg3 _ _)) (whole_at harg8 _ _) (whole_at harg6 _ _))
  · exact harg4.read_unread _
  · exact harg5.read_unread _
  · exact (View.read_writes_full arg13.view _ _ _ []).trans (congrArg k0_pay254 (whole_at harg2 _ _))
  · exact (View.read_writes_full arg14.view _ _ _ []).trans (congrArg₂ k0_pay258 (whole_at harg3 _ _) (whole_at harg8 _ _))
  · exact (View.read_writes_full arg15.view _ _ _ []).trans (congrArg k0_pay255 (whole_at harg2 _ _))
  · exact (View.read_writes_full arg16.view _ _ _ []).trans
      (congrArg k0_pay260 (congrArg₂ k0_pay259 (whole_at harg3 _ _) (whole_at harg8 _ _)))
  · exact View.read_writes_full arg17.view _ _ _ []
  · refine (congrFun (View.read_writes_full arg18.view _ _ _ []) _).trans ((left_open _ R).trans ?_)
    exact rd2 (A := 1024) (B := 128) harg7 p.tl _ rfl R 0 R 0 (by show R.val = 0 + R.val; omega) rfl
  · exact View.read_writes_full arg19.view _ _ _ []
  · refine ⟨?kb, fun j c => ?a, fun R j => ?b⟩
    case b =>
      have H : openFirst.sl.v82 harg2 p = k0_pay254 p.q := (View.readCov_full arg13.view _ _ _ []).trans (congrArg k0_pay254 (whole_at harg2 _ _))
      refine (slot_open_read harg20 s.z _ _ R j).trans ?_
      rw [H]
    case a =>
      exact rd2 (A := 8192) (B := 128) harg4 e.k _ rfl j c ⟨j.val, by omega⟩ c (by show j.val = 0 + j.val; omega) (by show c.val = 0 + c.val; omega)
  · refine ⟨?kc, fun j c => ?a', fun R j => ?b'⟩
    case b' =>
      have H : openFirst.sl.v89 harg3 harg8 p = k0_pay258 p.g p.dy :=
        (View.readCov_full arg14.view _ _ _ []).trans (congrArg₂ k0_pay258 (whole_at harg3 _ _) (whole_at harg8 _ _))
      refine (slot_open_read harg21 s.dw _ _ R j).trans ?_
      rw [H]
    case a' =>
      exact rd2 (A := 8192) (B := 128) harg5 e.v _ rfl j c ⟨j.val, by omega⟩ c (by show j.val = 0 + j.val; omega) (by show c.val = 0 + c.val; omega)
  · exact View.read_writes_full arg22.view _ _ _ []
  · exact View.read_writes_full arg23.view _ _ _ []
  · exact View.read_writes_full arg11.view _ _ _ []
  · exact View.read_writes_full arg12.view _ _ _ []

theorem openLater_at (h) (p : Inp Ideal) (e : Src Ideal) (s : St Ideal) (g0 : Vec Ideal S1024x128 .bf16) :
    Opened p e s.dk s.dv (openLater c i harg2 harg3 harg4 harg5 harg6 harg7 harg8 harg9 harg10 harg11 harg12 harg13 harg14 harg15 harg16 harg17 harg18 harg19 harg20
      harg21 harg22 harg23
      h p e s g0).1 := by
  refine ⟨?_, ?_, ?_, ?_, ?_, ?_, ?_, ?_, fun R => ?_, ?_, ?_, ?_, ?_, ?_, ?_, ?_⟩
  · exact (View.read_writes_full arg10.view _ _ _ []).trans
      (app4 k0_pay261 (whole_at harg3 _ _) (congrArg k0_pay256 (whole_at harg3 _ _)) (whole_at harg8 _ _) (whole_at harg6 _ _))
  · exact harg4.read_unread _
  · exact harg5.read_unread _
  · exact (View.read_writes_full arg13.view _ _ _ []).trans (congrArg k0_pay254 (whole_at harg2 _ _))
  · exact (View.read_writes_full arg14.view _ _ _ []).trans (congrArg₂ k0_pay258 (whole_at harg3 _ _) (whole_at harg8 _ _))
  · exact (View.read_writes_full arg15.view _ _ _ []).trans (congrArg k0_pay255 (whole_at harg2 _ _))
  · exact (View.read_writes_full arg16.view _ _ _ []).trans
      (congrArg k0_pay260 (congrArg₂ k0_pay259 (whole_at harg3 _ _) (whole_at harg8 _ _)))
  · exact View.read_writes_full arg17.view _ _ _ []
  · refine (congrFun (View.read_writes_full arg18.view _ _ _ []) _).trans ((left_open _ R).trans ?_)
    exact rd2 (A := 1024) (B := 128) harg7 p.tl _ rfl R 0 R 0 (by show R.val = 0 + R.val; omega) rfl
  · exact View.read_writes_full arg19.view _ _ _ []
  · refine ⟨?kb, fun j c => ?a, fun R j => ?b⟩
    case b =>
      have H : openLater.sl.v82 harg2 p = k0_pay254 p.q := (View.readCov_full arg13.view _ _ _ []).trans (congrArg k0_pay254 (whole_at harg2 _ _))
      refine (slot_open_read harg20 s.z _ _ R j).trans ?_
      rw [H]
    case a =>
      exact rd2 (A := 8192) (B := 128) harg4 e.k _ rfl j c ⟨j.val, by omega⟩ c (by show j.val = 0 + j.val; omega) (by show c.val = 0 + c.val; omega)
  · refine ⟨?kc, fun j c => ?a', fun R j => ?b'⟩
    case b' =>
      have H : openLater.sl.v89 harg3 harg8 p = k0_pay258 p.g p.dy :=
        (View.readCov_full arg14.view _ _ _ []).trans (congrArg₂ k0_pay258 (whole_at harg3 _ _) (whole_at harg8 _ _))
      refine (slot_open_read harg21 s.dw _ _ R j).trans ?_
      rw [H]
    case a' =>
      exact rd2 (A := 8192) (B := 128) harg5 e.v _ rfl j c ⟨j.val, by omega⟩ c (by show j.val = 0 + j.val; omega) (by show c.val = 0 + c.val; omega)
  · exact View.read_writes_full arg22.view _ _ _ []
  · exact View.read_writes_full arg23.view _ _ _ []
  · exact harg11.read_unread _
  · exact harg12.read_unread _

theorem first_iff : ∀ i : grid0.Coords,
    Scalar.cmpi .ne (Scalar.extui (Scalar.cmpi .eq (BitVec.ofNat 32 (i 1).val) 0#32)) 0#32 = 1#1 ↔ (i 1).val = 0 := by decide +kernel

/-- The opening at either kind of row block. -/
theorem opened_at (p : Inp Ideal) (e : Src Ideal) (s : St Ideal) (g0 : Vec Ideal S1024x128 .bf16) :
    Opened p e (if (i 1).val = 0 then k0_pay252 (F := Ideal) else s.dk) (if (i 1).val = 0 then k0_pay253 (F := Ideal) else s.dv) (opened c i harg2 harg3 harg4 harg5 harg6 harg7 harg8 harg9 harg10 harg11 harg12 harg13 harg14 harg15 harg16 harg17 harg18 harg19 harg20
      harg21 harg22 harg23
      p e s g0) := by
  unfold opened
  by_cases h : Scalar.cmpi .ne (Scalar.extui (Scalar.cmpi .eq (BitVec.ofNat 32 (i 1).val) 0#32)) 0#32 = 1#1
  · rw [dif_pos h, if_pos ((first_iff i).mp h), if_pos ((first_iff i).mp h)]
    exact openFirst_at ..
  · rw [dif_neg h, if_neg (mt (first_iff i).mpr h), if_neg (mt (first_iff i).mpr h)]
    exact openLater_at ..

end Body

end Cert.Proof.Sb

end
-- ==== Proof.SbEnd.lean ====
module

public import proofs.«01_k».proof.Proof.SbStart

/-!
  What a grid point leaves at finite inputs: the query gradient of its row block, and the key and value gradients with the row
  block's part added.
-/

@[expose] public section

set_option maxRecDepth 65536

noncomputable section

namespace Cert.Proof.Sb

open Cert.Kernel4Ideal Cert.Kernel4Ideal.Gen Cert.Reals
open Idealize.ShloMosaic Idealize.ShloMosaic.TcCoe Idealize.ShloMosaic.Tactic
open Idealize.ShloMosaic.Pointwise
open scoped BigOperators

/-- The rows a block's body is given, as real functions. -/
structure Rows (B : Blk) (G Y : ℕ → Fin 128 → ℝ) (p : Inp Ideal) (e : Src Ideal) : Prop where
  k : ∀ (j : Fin 8192) c, e.k (ix2 j c) = (B.K j c : EReal)
  v : ∀ (j : Fin 8192) c, e.v (ix2 j c) = (B.V j c : EReal)
  q : ∀ (R : Fin 1024) c, p.q (ix2 R c) = (B.Q R c : EReal)
  g : ∀ (R : Fin 1024) c, p.g (ix2 R c) = (G R c : EReal)
  y : ∀ (R : Fin 1024) c, p.dy (ix2 R c) = (Y R c : EReal)
  tl : ∀ R : Fin 1024, p.tl (ix2 R 0) = (B.TL R : EReal)
  d : ∀ (R : ℕ) c, B.D R c = Y R c * (G R c * sg (G R c))

namespace Blk

variable (B : Blk)

section Opening

variable {G Y : ℕ → Fin 128 → ℝ} {p : Inp Ideal} {e : Sb.Src Ideal} {dk0 dv0 : Vec Ideal S128x8192 .f32}
  {r : Vec Ideal S1024x128 .bf16 × Sb.Src Ideal × St Ideal} (hB : Rows B G Y p e) (hr : Opened p e dk0 dv0 r)

include hB in
theorem d_at (R : Fin 1024) (c : Fin 128) : k0_pay258 p.g p.dy (ix2 R c) = (B.D R c : EReal) := by
  rw [d_open p.g p.dy _ _ R c (hB.g R c) (hB.y R c), hB.d]

include hB hr in
theorem start_src : B.Src r.2.1 where
  k := by rw [hr.k]; exact hB.k
  v := by rw [hr.v]; exact hB.v
  q R c := by rw [hr.q, q_open]; exact hB.q R c
  d R c := by rw [hr.d]; exact B.d_at hB R c
  qt c R := by rw [hr.qt, qt_open]; exact hB.q R c
  dt c R := by rw [hr.dt, dt_open p.g p.dy _ _ R c (hB.g R c) (hB.y R c), hB.d]

include hB hr in
theorem start_inv {X W : Fin 128 → ℕ → ℝ} (hX : ∀ c (J : Fin 8192), dk0 (ix2 c J) = (X c J : EReal)) (hW : ∀ c (J : Fin 8192), dv0 (ix2 c J) = (W c J : EReal)) :
    B.Inv X W 0 r.2.2 where
  left R := by rw [hr.left, hB.tl, Nat.mul_zero, Finset.range_zero, Finset.sum_empty, sub_zero]
  rune R := by rw [hr.rune, zero_rune, Nat.mul_zero, Finset.range_zero, Finset.sum_empty, EReal.coe_zero]
  acc R c := by rw [hr.acc, zero_acc, Nat.zero_sub, Nat.mul_zero, Finset.range_zero, Finset.sum_empty, EReal.coe_zero]
  dk c J := by rw [hr.dk, hX, Nat.zero_sub, Nat.mul_zero, if_neg (Nat.not_lt_zero _), add_zero]
  dv c J := by rw [hr.dv, hW, Nat.zero_sub, Nat.mul_zero, if_neg (Nat.not_lt_zero _), add_zero]
  wp R j _ := by rw [hr.wp, zero_wp, stored, if_pos rfl, EReal.coe_zero]
  dzp R j _ := by rw [hr.dzp, zero_dzp, stored, if_pos rfl, EReal.coe_zero]

include hB hr in
theorem start_ready : B.Ready 0 0 r.2.2 where
  z R j _ := by
    obtain ⟨kb, hk, hz⟩ := hr.z
    rw [hz, slot_open_z, Z, EReal.coe_mul, ← sum_coe]
    refine congrArg (· * _) (Finset.sum_congr rfl fun c _ => ?_)
    rw [q_open, hB.q, hk, hB.k, ← EReal.coe_mul, Nat.mul_zero, Nat.zero_add]
  dw R j _ := by
    obtain ⟨kb, hk, hz⟩ := hr.dw
    rw [hz, slot_open_w, DW, EReal.coe_mul, ← sum_coe]
    refine congrArg (· * _) (Finset.sum_congr rfl fun c _ => ?_)
    rw [B.d_at hB, hk, hB.v, ← EReal.coe_mul, Nat.mul_zero, Nat.zero_add]

end Opening

section Body

variable {X Y : Fin 128 → ℕ → ℝ} {e : Sb.Src Ideal} {s : St Ideal} (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .f32} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .bf16} (harg10 : arg10.IsWhole)
  {arg11 : Memref sig .tc .vmem S128x8192 .f32} (harg11 : arg11.IsWhole)
  {arg12 : Memref sig .tc .vmem S128x8192 .f32} (harg12 : arg12.IsWhole)
  {arg13 : Memref sig .tc .vmem S1024x128 .bf16} (harg13 : arg13.IsWhole)
  {arg14 : Memref sig .tc .vmem S1024x128 .bf16} (harg14 : arg14.IsWhole)
  {arg15 : Memref sig .tc .vmem S128x1024 .bf16} (harg15 : arg15.IsWhole)
  {arg16 : Memref sig .tc .vmem S128x1024 .bf16} (harg16 : arg16.IsWhole)
  {arg17 : Memref sig .tc .vmem S1024x128 .f32} (harg17 : arg17.IsWhole)
  {arg18 : Memref sig .tc .vmem S1024x1 .f32} (harg18 : arg18.IsWhole)
  {arg19 : Memref sig .tc .vmem S1024x1 .f32} (harg19 : arg19.IsWhole)
  {arg20 : Memref sig .tc .vmem S2x1024x256 .f32} (harg20 : arg20.IsWhole)
  {arg21 : Memref sig .tc .vmem S2x1024x256 .f32} (harg21 : arg21.IsWhole)
  {arg22 : Memref sig .tc .vmem S1024x256 .bf16} (harg22 : arg22.IsWhole)
  {arg23 : Memref sig .tc .vmem S1024x256 .bf16} (harg23 : arg23.IsWhole)

theorem loop_at (hE : B.Src e) (hi : B.qi = (i 1).val) (hI : B.Inv X Y 0 s) (hR : B.Ready 0 0 s) : ∀ n : ℕ, n ≤ (k0_t1_loop i).trips →
    B.Inv X Y (2 * n) (loop c i harg2 harg3 harg4 harg5 harg6 harg7 harg8 harg9 harg10 harg11 harg12 harg13 harg14 harg15 harg16 harg17 harg18 harg19 harg20
      harg21 harg22 harg23
      (k0_pay262 (F := Ideal)) e s n) ∧
    B.Ready (2 * n) 0 (loop c i harg2 harg3 harg4 harg5 harg6 harg7 harg8 harg9 harg10 harg11 harg12 harg13 harg14 harg15 harg16 harg17 harg18 harg19 harg20
      harg21 harg22 harg23
      (k0_pay262 (F := Ideal)) e s n)
  | 0, _ => ⟨hI, hR⟩
  | n + 1, h => by
    obtain ⟨h1, h2⟩ := loop_at hE hi hI hR n (Nat.le_of_succ_le h)
    rw [loop, dif_pos (Nat.lt_of_succ_le h), trip]
    obtain ⟨h3, h4⟩ := half1_step B (e := e) c i harg2 harg3 harg4 harg5 harg6 harg7 harg8 harg9 harg10 harg11 harg12 harg13 harg14 harg15 harg16 harg17 harg18 harg19 harg20
      harg21 harg22 harg23
      hE hi ⟨n, Nat.lt_of_succ_le h⟩ h1 h2
    exact half2_step B (e := e) c i harg2 harg3 harg4 harg5 harg6 harg7 harg8 harg9 harg10 harg11 harg12 harg13 harg14 harg15 harg16 harg17 harg18 harg19 harg20
      harg21 harg22 harg23
      hE hi ⟨n, Nat.lt_of_succ_le h⟩ h3 h4

/-- The accumulators after the last key block. -/
structure Done (X Y : Fin 128 → ℕ → ℝ) (s : St Ideal) : Prop where
  acc : ∀ (R : Fin 1024) c, s.acc (ix2 R c) = ((∑ j ∈ Finset.range (256 * (4 * B.qi + 4)), B.DZ R j * B.K j c : ℝ) : EReal)
  dk : ∀ c (J : Fin 8192), s.dk (ix2 c J) = ((X c J + if J.val < 256 * (4 * B.qi + 4) then ∑ R ∈ Finset.range 1024, B.Q R c * B.DZ R J else 0 : ℝ) : EReal)
  dv : ∀ c (J : Fin 8192), s.dv (ix2 c J) = ((Y c J + if J.val < 256 * (4 * B.qi + 4) then ∑ R ∈ Finset.range 1024, B.D R c * B.W R J else 0 : ℝ) : EReal)

theorem last_step (hE : B.Src e) (hi : B.qi = (i 1).val) (hI : B.Inv X Y (4 * (i 1).val + 3 + 1) s) :
    B.Done X Y (applyLast c i
      harg4 harg5 harg11 harg12 harg13 harg14 harg15 harg16 harg17 harg18 harg19 harg20 harg21 harg22 harg23
      e s).1 := by
  have hq : (i 1).val < 8 := (i 1).isLt
  have hlo : 768 = 256 * (4 * (i 1).val + 3 + 1 - 1 - 4 * B.qi) := by omega
  have hb : 256 * (4 * (i 1).val + 3 + 1 - 1) + 256 ≤ 8192 := by omega
  refine ⟨fun R d => ?_, fun d J => ?_, fun d J => ?_⟩
  · rw [hi]
    refine (acc_read (lo := 768) (n := 256) harg4 e.k B.K hE.k rfl hb harg17 s.acc harg23 s.dzp _ (off16_eq i 3) _ _ _ _ k0_pay465 acc_last _ hI.acc
      (fun R j => stored (4 * (i 1).val + 3 + 1) B.DZ R j) (fun R j h => hI.dzp R j (hlo ▸ h)) R d).trans ?_
    exact congrArg Real.toEReal (acc_next B (k := 4 * (i 1).val + 3 + 1) d hlo)
  · rw [hi]
    refine (cols_read (lo := 768) (n := 256) rfl hb harg11 s.dk harg15 e.qt harg23 s.dzp _ (off17_eq i 3) _ _ _ _ k0_pay466 cols_last_k
      (fun d J => X d J + if J < 256 * (4 * (i 1).val + 3 + 1 - 1) then ∑ R ∈ Finset.range 1024, B.Q R d * B.DZ R J else 0) hI.dk B.Q hE.qt
      (stored (4 * (i 1).val + 3 + 1) B.DZ) (fun R j h => hI.dzp R j (hlo ▸ h)) d J).trans ?_
    exact congrArg Real.toEReal ((add_assoc _ _ _).trans (congrArg (X d J + ·)
      (cols_next B (k := 4 * (i 1).val + 3 + 1) (fun R _ => B.Q R d) B.DZ 0 hlo rfl fun R j h => DZ_off B h)))
  · rw [hi]
    refine (cols_read (lo := 768) (n := 256) rfl hb harg12 s.dv harg16 e.dt harg22 s.wp _ (off17_eq i 3) _ _ _ _ k0_pay467 cols_last_v
      (fun d J => Y d J + if J < 256 * (4 * (i 1).val + 3 + 1 - 1) then ∑ R ∈ Finset.range 1024, B.D R d * B.W R J else 0) hI.dv B.D hE.dt
      (stored (4 * (i 1).val + 3 + 1) B.W) (fun R j h => hI.wp R j (hlo ▸ h)) d J).trans ?_
    exact congrArg Real.toEReal ((add_assoc _ _ _).trans (congrArg (Y d J + ·)
      (cols_next B (k := 4 * (i 1).val + 3 + 1) (fun R _ => B.D R d) B.W 0 hlo rfl fun R j h => W_off B h)))

/-- The state after the loop, the diagonal and the last application. -/
theorem ended_at (hE : B.Src e) (hi : B.qi = (i 1).val) (hI : B.Inv X Y 0 s) (hR : B.Ready 0 0 s) :
    B.Done X Y (ended c i harg2 harg3 harg4 harg5 harg6 harg7 harg8 harg9 harg10 harg11 harg12 harg13 harg14 harg15 harg16 harg17 harg18 harg19 harg20
      harg21 harg22 harg23
      e s) := by
  obtain ⟨h1, h2⟩ := loop_at B c i harg2 harg3 harg4 harg5 harg6 harg7 harg8 harg9 harg10 harg11 harg12 harg13 harg14 harg15 harg16 harg17 harg18 harg19 harg20
      harg21 harg22 harg23
      hE hi hI hR _ le_rfl
  rw [show 2 * (k0_t1_loop i).trips = 4 * (i 1).val by have := trips1 i; omega] at h1 h2
  obtain ⟨h1, h2⟩ := diag0_step B c i harg2 harg3 harg4 harg5 harg6 harg7 harg8 harg9 harg10 harg11 harg12 harg13 harg14 harg15 harg16 harg17 harg18 harg19 harg20
      harg21 harg22 harg23
      hE hi h1 h2
  obtain ⟨h1, h2⟩ := diag1_step B c i harg2 harg3 harg4 harg5 harg6 harg7 harg8 harg9 harg10 harg11 harg12 harg13 harg14 harg15 harg16 harg17 harg18 harg19 harg20
      harg21 harg22 harg23
      hE hi h1 h2
  obtain ⟨h1, h2⟩ := diag2_step B c i harg2 harg3 harg4 harg5 harg6 harg7 harg8 harg9 harg10 harg11 harg12 harg13 harg14 harg15 harg16 harg17 harg18 harg19 harg20
      harg21 harg22 harg23
      hE hi h1 h2
  exact last_step B c i harg4 harg5 harg11 harg12 harg13 harg14 harg15 harg16 harg17 harg18 harg19 harg20 harg21 harg22 harg23
    hE hi (diag3_step B c i harg2 harg3 harg4 harg5 harg6 harg7 harg8 harg9 harg10 harg11 harg12 harg13 harg14 harg15 harg16 harg17 harg18 harg19 harg20
      harg21 harg22 harg23
      hE hi h1 h2)

end Body

/-! ## The sums over every key -/

theorem acc_sum (hq : B.qi < 8) (R : Fin 1024) (c : Fin 128) :
    ∑ j ∈ Finset.range (256 * (4 * B.qi + 4)), B.DZ R j * B.K j c = ∑ j ∈ Finset.range 8192, B.DZ R j * B.K j c := by
  refine Finset.sum_subset (Finset.range_subset_range.mpr (by omega)) fun j _ hj => ?_
  have : ¬ j < 256 * (4 * B.qi + 4) := fun h => hj (Finset.mem_range.mpr h)
  rw [DZ_off B (by omega), zero_mul]

theorem cols_sum (P f : ℕ → ℕ → ℝ) (hf : ∀ R j, ¬ j < 1024 * B.qi + R → f R j = 0) (J c : ℕ) :
    (if J < 256 * (4 * B.qi + 4) then ∑ R ∈ Finset.range 1024, P R c * f R J else 0) = ∑ R ∈ Finset.range 1024, P R c * f R J := by
  split_ifs with h
  · rfl
  · refine (Finset.sum_eq_zero fun R hR => ?_).symm
    have := Finset.mem_range.mp hR
    rw [hf R J (by omega), mul_zero]

end Blk

end Cert.Proof.Sb

end
-- ==== Proof.SbPoint.lean ====
module

public import proofs.«01_k».proof.Proof.SbEnd
public import proofs.«01_k».proof.Proof.SbFrame

/-!
  The arrays of the call as real functions, the row blocks cut from them, and what a grid point leaves in the four results'
  buffers, exactly.
-/

@[expose] public section

set_option maxRecDepth 65536

noncomputable section

namespace Cert.Proof.Sb

open Cert.Kernel4Ideal Cert.Kernel4Ideal.Gen Cert.Reals
open Idealize.ShloMosaic Idealize.ShloMosaic.TcCoe Idealize.ShloMosaic.Tactic
open Idealize.ShloMosaic.Pointwise
open scoped BigOperators

/-- The arrays the call reads, as real functions of a row and a column of the 12 heads: queries, gates, the saved output, the output's
cotangent, keys, values, and each row's saved sum. -/
structure Arrs where
  q : ℕ → ℕ → ℝ
  g : ℕ → ℕ → ℝ
  o : ℕ → ℕ → ℝ
  y : ℕ → ℕ → ℝ
  k : ℕ → ℕ → ℝ
  v : ℕ → ℕ → ℝ
  tl : ℕ → ℕ → ℝ

namespace Arrs

variable (A : Arrs)

/-- The cotangent of the ungated output. -/
def d (r a : ℕ) : ℝ := A.y r a * (A.g r a * sg (A.g r a))

/-- Row block `qi` of head `h`. -/
def block (h qi : ℕ) : Blk where
  qi := qi
  Q R c := A.q (1024 * qi + R) (128 * h + c.val)
  D R c := A.d (1024 * qi + R) (128 * h + c.val)
  K j c := A.k j (128 * h + c.val)
  V j c := A.v j (128 * h + c.val)
  TL R := A.tl (1024 * qi + R) h

/-- Head `h`, its rows counted from the array's first. -/
def head (h : ℕ) : Blk := A.block h 0

theorem block_Z (h qi R j : ℕ) : (A.block h qi).Z R j = (A.head h).Z (1024 * qi + R) j := by
  simp only [head, Blk.Z, block, Nat.mul_zero, Nat.zero_add]
theorem block_SP (h qi R j : ℕ) : (A.block h qi).SP R j = (A.head h).SP (1024 * qi + R) j := by
  simp only [Blk.SP, block_Z]; simp only [head, block, Nat.mul_zero, Nat.zero_add]
theorem block_DW (h qi R j : ℕ) : (A.block h qi).DW R j = (A.head h).DW (1024 * qi + R) j := by
  simp only [head, Blk.DW, block, Nat.mul_zero, Nat.zero_add]
theorem block_W (h qi R j : ℕ) : (A.block h qi).W R j = (A.head h).W (1024 * qi + R) j := by
  simp only [Blk.W, block_Z, block_SP]; simp only [head, block, Nat.mul_zero, Nat.zero_add]
theorem block_E (h qi R j : ℕ) : (A.block h qi).E R j = (A.head h).E (1024 * qi + R) j := by
  simp only [Blk.E, block_DW, block_W]
theorem block_DZ (h qi R j : ℕ) : (A.block h qi).DZ R j = (A.head h).DZ (1024 * qi + R) j := by
  simp only [Blk.DZ, block_Z, block_E]; simp only [head, block, Nat.mul_zero, Nat.zero_add]

/-- The four gradients. -/
def dq (r a : ℕ) : ℝ := ∑ j ∈ Finset.range 8192, (A.head (a / 128)).DZ r j * A.k j a
def dg (r a : ℕ) : ℝ := A.y r a * A.o r a * (sg (A.g r a) * (1 + A.g r a * (1 - sg (A.g r a))))
def dkTo (n : ℕ) (a J : ℕ) : ℝ := ∑ r ∈ Finset.range n, A.q r a * (A.head (a / 128)).DZ r J
def dvTo (n : ℕ) (a J : ℕ) : ℝ := ∑ r ∈ Finset.range n, A.d r a * (A.head (a / 128)).W r J

theorem dkTo_block (h qi : ℕ) (c : Fin 128) (J : ℕ) : A.dkTo (1024 * (qi + 1)) (128 * h + c.val) J
    = A.dkTo (1024 * qi) (128 * h + c.val) J + ∑ R ∈ Finset.range 1024, (A.block h qi).Q R c * (A.block h qi).DZ R J := by
  simp only [dkTo, Nat.mul_succ, Finset.sum_range_add, block_DZ]
  rw [show (128 * h + c.val) / 128 = h by omega]
  rfl

theorem dvTo_block (h qi : ℕ) (c : Fin 128) (J : ℕ) : A.dvTo (1024 * (qi + 1)) (128 * h + c.val) J
    = A.dvTo (1024 * qi) (128 * h + c.val) J + ∑ R ∈ Finset.range 1024, (A.block h qi).D R c * (A.block h qi).W R J := by
  simp only [dvTo, Nat.mul_succ, Finset.sum_range_add, block_W]
  rw [show (128 * h + c.val) / 128 = h by omega]
  rfl

/-- What the results' buffers hold after each point. -/
def outs : Outs Ideal where
  dq t i := (A.dq (1024 * (t.val % 8) + (i 0).val) (128 * (t.val / 8) + (i 1).val) : EReal)
  dg t i := (A.dg (1024 * (t.val % 8) + (i 0).val) (128 * (t.val / 8) + (i 1).val) : EReal)
  dk t i := (A.dkTo (1024 * (t.val % 8 + 1)) (128 * (t.val / 8) + (i 0).val) (i 1).val : EReal)
  dv t i := (A.dvTo (1024 * (t.val % 8 + 1)) (128 * (t.val / 8) + (i 0).val) (i 1).val : EReal)

end Arrs

/-- The arrays the windows are cut from, as the call finds them. -/
def src0 (m : (ℓ : Loc nD τ sig) → Buf (Elt Ideal) ℓ) (c : Dev nD) : Vec Ideal S8192x4096 .f32 := V m c main_arg0
def src2 (m : (ℓ : Loc nD τ sig) → Buf (Elt Ideal) ℓ) (c : Dev nD) : Vec Ideal S8192x3072 .bf16 := V m c main_v52
def src4 (m : (ℓ : Loc nD τ sig) → Buf (Elt Ideal) ℓ) (c : Dev nD) : Vec Ideal S8192x1536 .f32 := V m c main_v51
def src5 (m : (ℓ : Loc nD τ sig) → Buf (Elt Ideal) ℓ) (c : Dev nD) : Vec Ideal S8192x1536 .f32 := V m c main_v24
def src6 (m : (ℓ : Loc nD τ sig) → Buf (Elt Ideal) ℓ) (c : Dev nD) : Vec Ideal S8192x2048 .f32 := V m c main_arg2

/-- The buffers the call reads hold these arrays. -/
structure Held (A : Arrs) (m : (ℓ : Loc nD τ sig) → Buf (Elt Ideal) ℓ) (c : Dev nD) : Prop where
  q : ∀ (r : Fin 8192) (a : Fin 1536), src0 m c (ix2 r ⟨a.val, by omega⟩) = (A.q r a : EReal)
  g : ∀ (r : Fin 8192) (a : Fin 1536), src0 m c (ix2 r ⟨1536 + a.val, by omega⟩) = (A.g r a : EReal)
  y : ∀ (r : Fin 8192) (a : Fin 1536), src6 m c (ix2 r ⟨a.val, by omega⟩) = (A.y r a : EReal)
  k : ∀ (r : Fin 8192) (a : Fin 1536), src2 m c (ix2 r ⟨a.val, by omega⟩) = (A.k r a : EReal)
  v : ∀ (r : Fin 8192) (a : Fin 1536), src2 m c (ix2 r ⟨1536 + a.val, by omega⟩) = (A.v r a : EReal)
  o : ∀ (r : Fin 8192) (a : Fin 1536), src4 m c (ix2 r a) = (A.o r a : EReal)
  tl : ∀ (r : Fin 8192) (h : Fin 12), src5 m c (ix2 r ⟨128 * h.val, by omega⟩) = (A.tl r h : EReal)

/-- Which block each window has at point `t`. -/
theorem at0 : ∀ t : Fin cfg0.N, win0_0.index t = ![t.val % 8, t.val / 8] := (by decide +kernel : ∀ t : Fin grid0.N, _)
theorem at1 : ∀ t : Fin cfg0.N, win0_1.index t = ![t.val % 8, 12 + t.val / 8] := (by decide +kernel : ∀ t : Fin grid0.N, _)
theorem at2 : ∀ t : Fin cfg0.N, win0_2.index t = ![0, t.val / 8] := (by decide +kernel : ∀ t : Fin grid0.N, _)
theorem at3 : ∀ t : Fin cfg0.N, win0_3.index t = ![0, 12 + t.val / 8] := (by decide +kernel : ∀ t : Fin grid0.N, _)
theorem at4 : ∀ t : Fin cfg0.N, win0_4.index t = ![t.val % 8, t.val / 8] := (by decide +kernel : ∀ t : Fin grid0.N, _)
theorem at5 : ∀ t : Fin cfg0.N, win0_5.index t = ![t.val % 8, t.val / 8] := (by decide +kernel : ∀ t : Fin grid0.N, _)
theorem at6 : ∀ t : Fin cfg0.N, win0_6.index t = ![t.val % 8, t.val / 8] := (by decide +kernel : ∀ t : Fin grid0.N, _)
theorem at7 : ∀ t : Fin cfg0.N, win0_7.index t = ![t.val % 8, t.val / 8] := (by decide +kernel : ∀ t : Fin grid0.N, _)
theorem at8 : ∀ t : Fin cfg0.N, win0_8.index t = ![t.val % 8, t.val / 8] := (by decide +kernel : ∀ t : Fin grid0.N, _)
theorem at9 : ∀ t : Fin cfg0.N, win0_9.index t = ![t.val / 8, 0] := (by decide +kernel : ∀ t : Fin grid0.N, _)
theorem at10 : ∀ t : Fin cfg0.N, win0_10.index t = ![t.val / 8, 0] := (by decide +kernel : ∀ t : Fin grid0.N, _)
theorem coord1 : ∀ t : Fin cfg0.N, (grid0.coords t 1).val = t.val % 8 := (by decide +kernel : ∀ t : Fin grid0.N, _)

section Point

variable (t : Fin cfg0.N)

theorem t_lt : t.val < 96 := t.isLt

/-- The array's row that row `R` of point `t`'s block is, and the column. -/
abbrev rowAt (R : Fin 1024) : Fin 8192 := ⟨1024 * (t.val % 8) + R.val, by omega⟩
abbrev colAt (d : Fin 128) : Fin 1536 := ⟨128 * (t.val / 8) + d.val, by have := t_lt t; omega⟩
abbrev headOf : Fin 12 := ⟨t.val / 8, by have := t_lt t; omega⟩

theorem blk0 (R : Fin 1024) (d : Fin 128) : ((cfg0.win 0).blk t).view.emb (ix2 R d)
    = (ix2 (rowAt t R) ⟨(colAt t d).val, by have := t_lt t; dsimp only; omega⟩ : S8192x4096.Idx) := by
  have ht := t_lt t
  funext a
  apply Fin.ext
  match a with
  | ⟨0, _⟩ => show win0_0.index t 0 * 1024 + 1 * R.val = _; rw [at0]; simp; omega
  | ⟨1, _⟩ => show win0_0.index t 1 * 128 + 1 * d.val = _; rw [at0]; simp; omega
theorem blk1 (R : Fin 1024) (d : Fin 128) : ((cfg0.win 1).blk t).view.emb (ix2 R d)
    = (ix2 (rowAt t R) ⟨1536 + (colAt t d).val, by have := t_lt t; dsimp only; omega⟩ : S8192x4096.Idx) := by
  have ht := t_lt t
  funext a
  apply Fin.ext
  match a with
  | ⟨0, _⟩ => show win0_1.index t 0 * 1024 + 1 * R.val = _; rw [at1]; simp; omega
  | ⟨1, _⟩ => show win0_1.index t 1 * 128 + 1 * d.val = _; rw [at1]; simp; omega
theorem blk2 (j : Fin 8192) (d : Fin 128) : ((cfg0.win 2).blk t).view.emb (ix2 j d)
    = (ix2 j ⟨(colAt t d).val, by have := t_lt t; dsimp only; omega⟩ : S8192x3072.Idx) := by
  have ht := t_lt t
  funext a
  apply Fin.ext
  match a with
  | ⟨0, _⟩ => show win0_2.index t 0 * 8192 + 1 * j.val = _; rw [at2]; simp
  | ⟨1, _⟩ => show win0_2.index t 1 * 128 + 1 * d.val = _; rw [at2]; simp; omega
theorem blk3 (j : Fin 8192) (d : Fin 128) : ((cfg0.win 3).blk t).view.emb (ix2 j d)
    = (ix2 j ⟨1536 + (colAt t d).val, by have := t_lt t; dsimp only; omega⟩ : S8192x3072.Idx) := by
  have ht := t_lt t
  funext a
  apply Fin.ext
  match a with
  | ⟨0, _⟩ => show win0_3.index t 0 * 8192 + 1 * j.val = _; rw [at3]; simp
  | ⟨1, _⟩ => show win0_3.index t 1 * 128 + 1 * d.val = _; rw [at3]; simp; omega
theorem blk4 (R : Fin 1024) (d : Fin 128) : ((cfg0.win 4).blk t).view.emb (ix2 R d)
    = (ix2 (rowAt t R) (colAt t d) : S8192x1536.Idx) := by
  have ht := t_lt t
  funext a
  apply Fin.ext
  match a with
  | ⟨0, _⟩ => show win0_4.index t 0 * 1024 + 1 * R.val = _; rw [at4]; simp; omega
  | ⟨1, _⟩ => show win0_4.index t 1 * 128 + 1 * d.val = _; rw [at4]; simp; omega
theorem blk5 (R : Fin 1024) (d : Fin 128) : ((cfg0.win 5).blk t).view.emb (ix2 R d)
    = (ix2 (rowAt t R) (colAt t d) : S8192x1536.Idx) := by
  have ht := t_lt t
  funext a
  apply Fin.ext
  match a with
  | ⟨0, _⟩ => show win0_5.index t 0 * 1024 + 1 * R.val = _; rw [at5]; simp; omega
  | ⟨1, _⟩ => show win0_5.index t 1 * 128 + 1 * d.val = _; rw [at5]; simp; omega
theorem blk6 (R : Fin 1024) (d : Fin 128) : ((cfg0.win 6).blk t).view.emb (ix2 R d)
    = (ix2 (rowAt t R) ⟨(colAt t d).val, by have := t_lt t; dsimp only; omega⟩ : S8192x2048.Idx) := by
  have ht := t_lt t
  funext a
  apply Fin.ext
  match a with
  | ⟨0, _⟩ => show win0_6.index t 0 * 1024 + 1 * R.val = _; rw [at6]; simp; omega
  | ⟨1, _⟩ => show win0_6.index t 1 * 128 + 1 * d.val = _; rw [at6]; simp; omega
theorem blk7 (R : Fin 1024) (d : Fin 128) : ((cfg0.win 7).blk t).view.emb (ix2 R d)
    = (ix2 (rowAt t R) (colAt t d) : S8192x1536.Idx) := by
  have ht := t_lt t
  funext a
  apply Fin.ext
  match a with
  | ⟨0, _⟩ => show win0_7.index t 0 * 1024 + 1 * R.val = _; rw [at7]; simp; omega
  | ⟨1, _⟩ => show win0_7.index t 1 * 128 + 1 * d.val = _; rw [at7]; simp; omega
theorem blk8 (R : Fin 1024) (d : Fin 128) : ((cfg0.win 8).blk t).view.emb (ix2 R d)
    = (ix2 (rowAt t R) (colAt t d) : S8192x1536.Idx) := by
  have ht := t_lt t
  funext a
  apply Fin.ext
  match a with
  | ⟨0, _⟩ => show win0_8.index t 0 * 1024 + 1 * R.val = _; rw [at8]; simp; omega
  | ⟨1, _⟩ => show win0_8.index t 1 * 128 + 1 * d.val = _; rw [at8]; simp; omega

variable {m : (ℓ : Loc nD τ sig) → Buf (Elt Ideal) ℓ} {c : Dev nD}

theorem iblk0 (R : Fin 1024) (d : Fin 128) : iblk m c 0 t (ix2 R d) = src0 m c (ix2 (rowAt t R) ⟨(colAt t d).val, by have := t_lt t; dsimp only; omega⟩) := by
  unfold iblk
  rw [View.read_apply]
  exact congrArg (src0 m c) (blk0 t R d)
theorem iblk1 (R : Fin 1024) (d : Fin 128) : iblk m c 1 t (ix2 R d) = src0 m c (ix2 (rowAt t R) ⟨1536 + (colAt t d).val, by have := t_lt t; dsimp only; omega⟩) := by
  unfold iblk
  rw [View.read_apply]
  exact congrArg (src0 m c) (blk1 t R d)
theorem iblk2 (j : Fin 8192) (d : Fin 128) : iblk m c 2 t (ix2 j d) = src2 m c (ix2 j ⟨(colAt t d).val, by have := t_lt t; dsimp only; omega⟩) := by
  unfold iblk
  rw [View.read_apply]
  exact congrArg (src2 m c) (blk2 t j d)
theorem iblk3 (j : Fin 8192) (d : Fin 128) : iblk m c 3 t (ix2 j d) = src2 m c (ix2 j ⟨1536 + (colAt t d).val, by have := t_lt t; dsimp only; omega⟩) := by
  unfold iblk
  rw [View.read_apply]
  exact congrArg (src2 m c) (blk3 t j d)
theorem iblk4 (R : Fin 1024) (d : Fin 128) : iblk m c 4 t (ix2 R d) = src4 m c (ix2 (rowAt t R) (colAt t d)) := by
  unfold iblk
  rw [View.read_apply]
  exact congrArg (src4 m c) (blk4 t R d)
theorem iblk5 (R : Fin 1024) (d : Fin 128) : iblk m c 5 t (ix2 R d) = src5 m c (ix2 (rowAt t R) (colAt t d)) := by
  unfold iblk
  rw [View.read_apply]
  exact congrArg (src5 m c) (blk5 t R d)
theorem iblk6 (R : Fin 1024) (d : Fin 128) : iblk m c 6 t (ix2 R d) = src6 m c (ix2 (rowAt t R) ⟨(colAt t d).val, by have := t_lt t; dsimp only; omega⟩) := by
  unfold iblk
  rw [View.read_apply]
  exact congrArg (src6 m c) (blk6 t R d)

variable {A : Arrs} (hA : Held A m c)

include hA

theorem q_in (R : Fin 1024) (d : Fin 128) : iblk m c 0 t (ix2 R d) = (A.q (1024 * (t.val % 8) + R) (128 * (t.val / 8) + d) : EReal) := by
  exact (iblk0 t R d).trans (hA.q (rowAt t R) (colAt t d))
theorem g_in (R : Fin 1024) (d : Fin 128) : iblk m c 1 t (ix2 R d) = (A.g (1024 * (t.val % 8) + R) (128 * (t.val / 8) + d) : EReal) := by
  exact (iblk1 t R d).trans (hA.g (rowAt t R) (colAt t d))
theorem k_in (j : Fin 8192) (d : Fin 128) : iblk m c 2 t (ix2 j d) = (A.k j (128 * (t.val / 8) + d) : EReal) := by
  exact (iblk2 t j d).trans (hA.k j (colAt t d))
theorem v_in (j : Fin 8192) (d : Fin 128) : iblk m c 3 t (ix2 j d) = (A.v j (128 * (t.val / 8) + d) : EReal) := by
  exact (iblk3 t j d).trans (hA.v j (colAt t d))
theorem o_in (R : Fin 1024) (d : Fin 128) : iblk m c 4 t (ix2 R d) = (A.o (1024 * (t.val % 8) + R) (128 * (t.val / 8) + d) : EReal) := by
  exact (iblk4 t R d).trans (hA.o (rowAt t R) (colAt t d))
theorem y_in (R : Fin 1024) (d : Fin 128) : iblk m c 6 t (ix2 R d) = (A.y (1024 * (t.val % 8) + R) (128 * (t.val / 8) + d) : EReal) := by
  exact (iblk6 t R d).trans (hA.y (rowAt t R) (colAt t d))
theorem tl_in (R : Fin 1024) : iblk m c 5 t (ix2 R (0 : Fin 128)) = (A.tl (1024 * (t.val % 8) + R) (t.val / 8) : EReal) := by
  exact (iblk5 t R 0).trans (hA.tl (rowAt t R) (headOf t))

theorem rows (x : Scr Ideal) : Rows (A.block (t.val / 8) (t.val % 8))
    (fun R d => A.g (1024 * (t.val % 8) + R) (128 * (t.val / 8) + d.val)) (fun R d => A.y (1024 * (t.val % 8) + R) (128 * (t.val / 8) + d.val))
    (inpAt m c t) (srcOf (iblk m c 2 t) (iblk m c 3 t) x) := by
  constructor
  · intro j d; dsimp only [Arrs.block]; exact k_in t hA j d
  · intro j d; dsimp only [Arrs.block]; exact v_in t hA j d
  · intro j d; dsimp only [Arrs.block]; exact q_in t hA j d
  · intro j d; dsimp only [Arrs.block]; exact g_in t hA j d
  · intro j d; dsimp only [Arrs.block]; exact y_in t hA j d
  · intro R; dsimp only [Arrs.block]; exact tl_in t hA R
  · exact fun _ _ => rfl

variable (x : Scr Ideal) (q0 g0 : Vec Ideal S1024x128 .bf16) (dk dv : Vec Ideal S128x8192 .f32)

/-- The gate's gradient at a point. -/
theorem dg_point : (openedAt c t (inpAt m c t) (srcOf (iblk m c 2 t) (iblk m c 3 t) x) (stOf x dk dv) g0).1 = A.outs.dg t := by
  have h := opened_at (c := c) (i := grid0.coords t) (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3))
    (hstage0_4 ((cfg0.slots t 4).cast nbuf0_4)) (hstage0_5 ((cfg0.slots t 5).cast nbuf0_5))
    (hstage0_6 ((cfg0.slots t 6).cast nbuf0_6)) (hstage0_7 ((cfg0.slots t 7).cast nbuf0_7))
    (hstage0_8 ((cfg0.slots t 8).cast nbuf0_8)) (hstage0_9 ((cfg0.slots t 9).cast nbuf0_9))
    (hstage0_10 ((cfg0.slots t 10).cast nbuf0_10)) (arg13 := Memref.whole cc0_scratch0) (Memref.isWhole_whole _)
    (arg14 := Memref.whole cc0_scratch1) (Memref.isWhole_whole _)
    (arg15 := Memref.whole cc0_scratch2) (Memref.isWhole_whole _)
    (arg16 := Memref.whole cc0_scratch3) (Memref.isWhole_whole _)
    (arg17 := Memref.whole cc0_scratch4) (Memref.isWhole_whole _)
    (arg18 := Memref.whole cc0_scratch5) (Memref.isWhole_whole _)
    (arg19 := Memref.whole cc0_scratch6) (Memref.isWhole_whole _)
    (arg20 := Memref.whole cc0_scratch7) (Memref.isWhole_whole _)
    (arg21 := Memref.whole cc0_scratch8) (Memref.isWhole_whole _)
    (arg22 := Memref.whole cc0_scratch9) (Memref.isWhole_whole _)
    (arg23 := Memref.whole cc0_scratch10) (Memref.isWhole_whole _) (inpAt m c t)
    (srcOf (iblk m c 2 t) (iblk m c 3 t) x) (stOf x dk dv) g0
  refine h.dg.trans (funext fun i => ?_)
  obtain ⟨R, d, rfl⟩ : ∃ (R : Fin 1024) (d : Fin 128), i = (ix2 R d : S1024x128.Idx) := ⟨i 0, i 1, eq_ix2 i⟩
  have hB := rows t hA x
  exact dg_open _ _ _ _ _ _ R d (hB.g R d) (hB.y R d) (o_in t hA R d)

/-- The walk at a point. -/
theorem done_point (hk : t.val % 8 ≠ 0 → dk = A.outs.dk ⟨t.val - 1, Nat.lt_of_le_of_lt (Nat.sub_le _ _) t.isLt⟩)
    (hv : t.val % 8 ≠ 0 → dv = A.outs.dv ⟨t.val - 1, Nat.lt_of_le_of_lt (Nat.sub_le _ _) t.isLt⟩) :
    (A.block (t.val / 8) (t.val % 8)).Done (fun d J => A.dkTo (1024 * (t.val % 8)) (128 * (t.val / 8) + d.val) J)
      (fun d J => A.dvTo (1024 * (t.val % 8)) (128 * (t.val / 8) + d.val) J)
      (endedAt c t (openedAt c t (inpAt m c t) (srcOf (iblk m c 2 t) (iblk m c 3 t) x) (stOf x dk dv) g0).2.1
        (openedAt c t (inpAt m c t) (srcOf (iblk m c 2 t) (iblk m c 3 t) x) (stOf x dk dv) g0).2.2) := by
  have h := opened_at (c := c) (i := grid0.coords t) (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3))
    (hstage0_4 ((cfg0.slots t 4).cast nbuf0_4)) (hstage0_5 ((cfg0.slots t 5).cast nbuf0_5))
    (hstage0_6 ((cfg0.slots t 6).cast nbuf0_6)) (hstage0_7 ((cfg0.slots t 7).cast nbuf0_7))
    (hstage0_8 ((cfg0.slots t 8).cast nbuf0_8)) (hstage0_9 ((cfg0.slots t 9).cast nbuf0_9))
    (hstage0_10 ((cfg0.slots t 10).cast nbuf0_10)) (arg13 := Memref.whole cc0_scratch0) (Memref.isWhole_whole _)
    (arg14 := Memref.whole cc0_scratch1) (Memref.isWhole_whole _)
    (arg15 := Memref.whole cc0_scratch2) (Memref.isWhole_whole _)
    (arg16 := Memref.whole cc0_scratch3) (Memref.isWhole_whole _)
    (arg17 := Memref.whole cc0_scratch4) (Memref.isWhole_whole _)
    (arg18 := Memref.whole cc0_scratch5) (Memref.isWhole_whole _)
    (arg19 := Memref.whole cc0_scratch6) (Memref.isWhole_whole _)
    (arg20 := Memref.whole cc0_scratch7) (Memref.isWhole_whole _)
    (arg21 := Memref.whole cc0_scratch8) (Memref.isWhole_whole _)
    (arg22 := Memref.whole cc0_scratch9) (Memref.isWhole_whole _)
    (arg23 := Memref.whole cc0_scratch10) (Memref.isWhole_whole _) (inpAt m c t)
    (srcOf (iblk m c 2 t) (iblk m c 3 t) x) (stOf x dk dv) g0
  have hB := rows t hA x
  have hlt := t_lt t
  refine Blk.ended_at _ _ _ _ _ _ _ _ _ _ _ _ _ _ _ _ _ _ _ _ _ _ _ _ _ (Blk.start_src _ hB h) (coord1 t).symm
    (Blk.start_inv _ hB h ?_ ?_) (Blk.start_ready _ hB h)
  · intro d J
    rw [coord1]
    by_cases h0 : t.val % 8 = 0
    · rw [if_pos h0, zero_dk, h0]
      simp [Arrs.dkTo]
    · rw [if_neg h0]
      show dk (ix2 d J) = _
      rw [hk h0]
      show ((A.dkTo (1024 * ((t.val - 1) % 8 + 1)) (128 * ((t.val - 1) / 8) + d.val) J.val : ℝ) : EReal) = _
      rw [show (t.val - 1) % 8 + 1 = t.val % 8 by omega, show (t.val - 1) / 8 = t.val / 8 by omega]
  · intro d J
    rw [coord1]
    by_cases h0 : t.val % 8 = 0
    · rw [if_pos h0, zero_dv, h0]
      simp [Arrs.dvTo]
    · rw [if_neg h0]
      show dv (ix2 d J) = _
      rw [hv h0]
      show ((A.dvTo (1024 * ((t.val - 1) % 8 + 1)) (128 * ((t.val - 1) / 8) + d.val) J.val : ℝ) : EReal) = _
      rw [show (t.val - 1) % 8 + 1 = t.val % 8 by omega, show (t.val - 1) / 8 = t.val / 8 by omega]

variable {x q0 g0 dk dv}
variable (hk : t.val % 8 ≠ 0 → dk = A.outs.dk ⟨t.val - 1, Nat.lt_of_le_of_lt (Nat.sub_le _ _) t.isLt⟩)
    (hv : t.val % 8 ≠ 0 → dv = A.outs.dv ⟨t.val - 1, Nat.lt_of_le_of_lt (Nat.sub_le _ _) t.isLt⟩)
include hk hv

theorem dk_point : (endedAt c t (openedAt c t (inpAt m c t) (srcOf (iblk m c 2 t) (iblk m c 3 t) x) (stOf x dk dv) g0).2.1
        (openedAt c t (inpAt m c t) (srcOf (iblk m c 2 t) (iblk m c 3 t) x) (stOf x dk dv) g0).2.2).dk = A.outs.dk t := by
  have h := done_point t hA x g0 dk dv hk hv
  funext i
  obtain ⟨d, J, rfl⟩ : ∃ (d : Fin 128) (J : Fin 8192), i = (ix2 d J : S128x8192.Idx) := ⟨i 0, i 1, eq_ix2 i⟩
  rw [h.dk, Blk.cols_sum _ (fun R _ => (A.block (t.val / 8) (t.val % 8)).Q R d) (fun R j => (A.block (t.val / 8) (t.val % 8)).DZ R j)
    (fun R j hj => Blk.DZ_off _ hj) J d.val, ← A.dkTo_block]
  rfl

theorem dv_point : (endedAt c t (openedAt c t (inpAt m c t) (srcOf (iblk m c 2 t) (iblk m c 3 t) x) (stOf x dk dv) g0).2.1
        (openedAt c t (inpAt m c t) (srcOf (iblk m c 2 t) (iblk m c 3 t) x) (stOf x dk dv) g0).2.2).dv = A.outs.dv t := by
  have h := done_point t hA x g0 dk dv hk hv
  funext i
  obtain ⟨d, J, rfl⟩ : ∃ (d : Fin 128) (J : Fin 8192), i = (ix2 d J : S128x8192.Idx) := ⟨i 0, i 1, eq_ix2 i⟩
  rw [h.dv, Blk.cols_sum _ (fun R _ => (A.block (t.val / 8) (t.val % 8)).D R d) (fun R j => (A.block (t.val / 8) (t.val % 8)).W R j)
    (fun R j hj => Blk.W_off _ hj) J d.val, ← A.dvTo_block]
  rfl

theorem dq_point : (runAt c t (inpAt m c t) (srcOf (iblk m c 2 t) (iblk m c 3 t) x) (stOf x dk dv) q0 g0).1 = A.outs.dq t := by
  have h := done_point t hA x g0 dk dv hk hv
  have H : (runAt c t (inpAt m c t) (srcOf (iblk m c 2 t) (iblk m c 3 t) x) (stOf x dk dv) q0 g0).1
      = k0_pay1 (endedAt c t (openedAt c t (inpAt m c t) (srcOf (iblk m c 2 t) (iblk m c 3 t) x) (stOf x dk dv) g0).2.1
        (openedAt c t (inpAt m c t) (srcOf (iblk m c 2 t) (iblk m c 3 t) x) (stOf x dk dv) g0).2.2).acc := by
    unfold runAt bodyRun finish
    dsimp only
    refine (View.read_writes_full _ _ _ _ _).trans ?_
    refine congrArg k0_pay1 (whole_at _ _ _)
  rw [H]
  funext i
  obtain ⟨R, d, rfl⟩ : ∃ (R : Fin 1024) (d : Fin 128), i = (ix2 R d : S1024x128.Idx) := ⟨i 0, i 1, eq_ix2 i⟩
  refine Eq.trans (by pointwise [k0_pay1]) (h.acc R d) |>.trans ?_
  rw [Blk.acc_sum _ (by show t.val % 8 < 8; omega)]
  show _ = ((A.dq (1024 * (t.val % 8) + R.val) (128 * (t.val / 8) + d.val) : ℝ) : EReal)
  unfold Arrs.dq
  rw [show (128 * (t.val / 8) + d.val) / 128 = t.val / 8 by omega]
  simp only [Arrs.block_DZ]
  rfl

end Point

end Cert.Proof.Sb

end
-- ==== Proof.SbSoft.lean ====
/- The soft threshold of a real number and its derivative, and the operations' values at real numbers. -/
module

public import proofs.«01_k».proof.Proof.SbReal
public import Idealize.ShloMosaic.Lib.Pointwise

@[expose] public section

noncomputable section

namespace Cert.Proof.Sb

open Idealize.ShloMosaic Cert.Reals
open scoped BigOperators

/-- The soft threshold is the logarithm of one plus the exponential. -/
theorem softR_eq (x : ℝ) : softR x = Real.log (1 + Real.exp x) := by
  have h := Real.exp_pos x
  unfold softR
  rcases le_total 0 x with hx | hx
  · have h1 : max x (-x) = x := max_eq_left (by linarith)
    rw [max_eq_left hx, h1, zero_sub]
    have e : 1 + Real.exp x = Real.exp x * (1 + Real.exp (-x)) := by
      rw [mul_add, mul_one, ← Real.exp_add, add_neg_cancel, Real.exp_zero, add_comm]
    rw [e, Real.log_mul h.ne' (by positivity), Real.log_exp]
  · have h1 : max x (-x) = -x := max_eq_right (by linarith)
    rw [max_eq_right hx, h1, zero_sub, neg_neg, zero_add]

theorem softR_neg (x : ℝ) : softR (-x) = softR x - x := by
  have h := Real.exp_pos x
  rw [softR_eq, softR_eq]
  have e : 1 + Real.exp (-x) = (1 + Real.exp x) / Real.exp x := by
    rw [Real.exp_neg]; field_simp; ring
  rw [e, Real.log_div (by positivity) h.ne', Real.log_exp]

/-- The derivatives at a number and at its negative add up to one. -/
theorem slope_neg (x : ℝ) : Real.exp (-x - softR (-x)) = 1 - Real.exp (x - softR x) := by
  have h := Real.exp_pos x
  have hp : 0 < 1 + Real.exp x := by positivity
  rw [softR_neg, show -x - (softR x - x) = -softR x by ring, sub_eq_add_neg x, Real.exp_add, Real.exp_neg, softR_eq, Real.exp_log hp]
  field_simp
  ring

/-- The logarithm of one plus the exponential, as it is written for all numbers: the first branch is for what is not a number. -/
theorem soft_value (x : ℝ) : (if ((x : EReal) ≠ (x : EReal)) then (x : EReal) else
    max (x : EReal) 0 + Ideal.log1p (Ideal.exp (-max (x : EReal) (-(x : EReal))))) = (softR x : EReal) := by
  rw [if_neg (by simp), ← EReal.coe_zero, ← EReal.coe_neg, max_real, max_real, ← EReal.coe_neg, Ideal.exp_coe, log1p_real (by positivity), ← EReal.coe_add]
  unfold softR
  rw [zero_sub]

/-- Neither a real number nor its soft threshold is infinite, so the derivative is the exponential of their difference. -/
theorem slope_value (x : ℝ) : Ideal.exp ((if (x : EReal) = Ideal.ofBits .f32 2139095040#32 then (0 : EReal) else (x : EReal))
    - (if (softR x : EReal) = Ideal.ofBits .f32 2139095040#32 then (0 : EReal) else (softR x : EReal))) = (Real.exp (x - softR x) : EReal) := by
  rw [show (2139095040#32 : BitVec 32) = 0x7F800000#32 from rfl, lit_inf, if_neg (EReal.coe_ne_top _), if_neg (EReal.coe_ne_top _), ← EReal.coe_sub, Ideal.exp_coe]

/-- The sum over the later keys is the whole sum less the sum up to the key. -/
theorem sum_later (n : ℕ) (f : ℕ → ℝ) (j : ℕ) (hj : j < n) :
    ∑ b ∈ Finset.Ico j n, f b = ∑ b ∈ Finset.range n, f b - ∑ b ∈ Finset.range (j + 1), f b + f j := by
  have h1 := Finset.sum_range_add_sum_Ico f (Nat.le_of_lt hj)
  have h2 := Finset.sum_range_succ f j
  linarith

end Cert.Proof.Sb

end
-- ==== Proof.RunSum.lean ====
/- The running sum of a three-axis array along its last axis, read at an element: a window as wide as the axis, padded
   below, sums the entries up to and including the element; padded above, the entries from the element on. -/
module

public import Idealize.ShloMosaic.Lib.Pointwise
public import proofs.«01_k».proof.Proof.Reals

@[expose] public section

noncomputable section

namespace Cert.RunSum

open Idealize.ShloMosaic Idealize.ShloMosaic.Pointwise Cert.Reals
open scoped BigOperators

/-- A left fold of additions is the initial value plus the sum. -/
theorem foldl_add {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The windows of the last axis: an index of the window's shape is its last coordinate. -/
def lastAxis (N : Nat) : Fin N ≃ (⟨3, ![1, 1, N]⟩ : Shape).Idx where
  toFun w := ix3 (0 : Fin 1) (0 : Fin 1) w
  invFun i := i 2
  left_inv _ := rfl
  right_inv i := by
    refine funext fun a => Fin.ext ?_
    match a with
    | ⟨0, _⟩ => have h : (i 0).val < 1 := (i 0).isLt; show 0 = (i 0).val; omega
    | ⟨1, _⟩ => have h : (i 1).val < 1 := (i 1).isLt; show 0 = (i 1).val; omega
    | ⟨2, _⟩ => rfl

variable {A B N : Nat} {L H : Nat}

/-- An element of the window sum along the last axis, `L` places of padding below and `H` above. -/
theorem window_apply (x : FVec Ideal (⟨3, ![A, B, N]⟩ : Shape) .f32) (f : Nat → EReal) (init : FVec Ideal (⟨0, ![]⟩ : Shape) .f32)
    (hw : (⟨3, ![A, B, N]⟩ : Shape).ReduceWindows ![1, 1, N] ![1, 1, 1] ![0, 0, L] ![0, 0, H] ⟨3, ![A, B, N]⟩)
    (hu : 0 < (⟨0, ![]⟩ : Shape).numel) (hi : init (Shape.Idx.first hu) = 0) (a : Fin A) (b : Fin B) (j : Fin N)
    (hx : ∀ i : Fin N, x (ix3 a b i) = f i.val) :
    Host.reduceWindowAdd (F := Ideal) ![1, 1, N] ![1, 1, 1] ![0, 0, L] ![0, 0, H] x init hw hu (ix3 a b j)
      = ∑ w : Fin N, if L ≤ j.val + w.val ∧ j.val + w.val - L < N then f (j.val + w.val - L) else 0 := by
  show Host.reduceWindow (· + ·) ![1, 1, N] ![1, 1, 1] ![0, 0, L] ![0, 0, H] x (fun _ : (⟨0, ![]⟩ : Shape).Idx => init (Shape.Idx.first hu)) hw hu (ix3 a b j) = _
  unfold Host.reduceWindow
  dsimp only
  rw [foldl_add, hi, zero_add, ← List.ofFn_eq_map, List.sum_ofFn]
  rw [← Equiv.sum_comp ((lastAxis N).trans (⟨3, ![1, 1, N]⟩ : Shape).rowMajor)]
  simp only [Equiv.trans_apply, Equiv.symm_apply_apply]
  refine Finset.sum_congr rfl fun w _ => ?_
  by_cases h : L ≤ j.val + w.val ∧ j.val + w.val - L < N
  · rw [if_pos h, dif_pos (fun d => match d with
      | ⟨0, _⟩ => ⟨Nat.zero_le _, show a.val * 1 + 0 - 0 < A by have := a.isLt; omega⟩
      | ⟨1, _⟩ => ⟨Nat.zero_le _, show b.val * 1 + 0 - 0 < B by have := b.isLt; omega⟩
      | ⟨2, _⟩ => ⟨show L ≤ j.val * 1 + w.val by omega, show j.val * 1 + w.val - L < N by omega⟩)]
    refine (congrArg x (funext fun d => Fin.ext ?_)).trans (hx ⟨j.val + w.val - L, h.2⟩)
    match d with
    | ⟨0, _⟩ => show a.val * 1 + 0 - 0 = a.val; omega
    | ⟨1, _⟩ => show b.val * 1 + 0 - 0 = b.val; omega
    | ⟨2, _⟩ => show j.val * 1 + w.val - L = j.val + w.val - L; omega
  · rw [if_neg h, dif_neg (fun hin => h (by
      have h2 := hin ⟨2, by omega⟩
      have h3 : L ≤ j.val * 1 + w.val ∧ j.val * 1 + w.val - L < N := h2
      omega))]

/-- The sum of the entries from an element on. -/
theorem later_apply (x : FVec Ideal (⟨3, ![A, B, N]⟩ : Shape) .f32) (f : Nat → ℝ) (init : FVec Ideal (⟨0, ![]⟩ : Shape) .f32)
    (hw : (⟨3, ![A, B, N]⟩ : Shape).ReduceWindows ![1, 1, N] ![1, 1, 1] ![0, 0, 0] ![0, 0, H] ⟨3, ![A, B, N]⟩)
    (hu : 0 < (⟨0, ![]⟩ : Shape).numel) (hi : init (Shape.Idx.first hu) = 0) (a : Fin A) (b : Fin B) (j : Fin N)
    (hx : ∀ i : Fin N, x (ix3 a b i) = (f i.val : EReal)) :
    Host.reduceWindowAdd (F := Ideal) ![1, 1, N] ![1, 1, 1] ![0, 0, 0] ![0, 0, H] x init hw hu (ix3 a b j)
      = ((∑ b ∈ Finset.Ico j.val N, f b : ℝ) : EReal) := by
  have hj := j.isLt
  rw [window_apply x (fun n => (f n : EReal)) init hw hu hi a b j hx]
  rw [Fin.sum_univ_eq_sum_range (fun w => if 0 ≤ j.val + w ∧ j.val + w - 0 < N then ((f (j.val + w - 0) : ℝ) : EReal) else 0) N,
    ← Finset.sum_filter, show (Finset.range N).filter (fun w => 0 ≤ j.val + w ∧ j.val + w - 0 < N) = Finset.range (N - j.val) by
      ext w; simp only [Finset.mem_filter, Finset.mem_range]; omega, Finset.sum_Ico_eq_sum_range]
  simp only [Nat.sub_zero, sum_coe]

/-- The sum of the entries up to and including an element. -/
theorem upto_apply (x : FVec Ideal (⟨3, ![A, B, N]⟩ : Shape) .f32) (f : Nat → ℝ) (init : FVec Ideal (⟨0, ![]⟩ : Shape) .f32) (hL : L + 1 = N)
    (hw : (⟨3, ![A, B, N]⟩ : Shape).ReduceWindows ![1, 1, N] ![1, 1, 1] ![0, 0, L] ![0, 0, 0] ⟨3, ![A, B, N]⟩)
    (hu : 0 < (⟨0, ![]⟩ : Shape).numel) (hi : init (Shape.Idx.first hu) = 0) (a : Fin A) (b : Fin B) (j : Fin N)
    (hx : ∀ i : Fin N, x (ix3 a b i) = (f i.val : EReal)) :
    Host.reduceWindowAdd (F := Ideal) ![1, 1, N] ![1, 1, 1] ![0, 0, L] ![0, 0, 0] x init hw hu (ix3 a b j)
      = ((∑ b ∈ Finset.range (j.val + 1), f b : ℝ) : EReal) := by
  have hj := j.isLt
  rw [window_apply x (fun n => (f n : EReal)) init hw hu hi a b j hx]
  rw [Fin.sum_univ_eq_sum_range (fun w => if L ≤ j.val + w ∧ j.val + w - L < N then ((f (j.val + w - L) : ℝ) : EReal) else 0) N,
    ← Finset.sum_filter, show (Finset.range N).filter (fun w => L ≤ j.val + w ∧ j.val + w - L < N) = Finset.Ico (L - j.val) N by
      ext w; simp only [Finset.mem_filter, Finset.mem_range, Finset.mem_Ico]; omega, Finset.sum_Ico_eq_sum_range, sum_coe]
  rw [show N - (L - j.val) = j.val + 1 by omega]
  refine congrArg Real.toEReal (Finset.sum_congr rfl fun w _ => congrArg f (by omega))

end Cert.RunSum

end
-- ==== Proof.SbRef.lean ====
/- The derivative of the stick-breaking attention, read operation by operation: on finite arguments the reference's results are
   the real gradients the call leaves. The reference takes the running sum of the log keeps from the end, the call a row's whole
   sum less the running sum from the start. -/
module

public import proofs.«01_k».proof.Proof.SbPoint
public import proofs.«01_k».proof.Proof.SbSoft
public import proofs.«01_k».proof.Proof.RunSum
public import proofs.«01_k».proof.Proof.Gen.Reference4Ideal
public import proofs.«01_k».proof.Proof.Gen.Reference4Ideal.Run
public import proofs.«01_k».proof.Proof.Gen.Reference4Ideal.Read

@[expose] public section

set_option maxRecDepth 65536

noncomputable section

namespace Cert.Proof.Sb.Ref

open Idealize.ShloMosaic Idealize.ShloMosaic.TcCoe Idealize.SL.Sem
open Cert.Reference4Ideal Cert.Reference4Ideal.Gen Cert.Reference4Ideal.Read Cert.Reals
open Idealize.ShloMosaic.Pointwise
open scoped BigOperators

variable (X0 : S8192x4096.Idx → ℝ) (X1 : S8192x3072.Idx → ℝ) (X2 : S8192x2048.Idx → ℝ)

/-- Real arrays as arrays of the program. -/
abbrev u0 : Vec Ideal S8192x4096 .f32 := fun i => (X0 i : EReal)
abbrev u1 : Vec Ideal S8192x3072 .f32 := fun i => (X1 i : EReal)
abbrev u2 : Vec Ideal S8192x2048 .f32 := fun i => (X2 i : EReal)

/-- The arguments' columns, the row sums and the output still missing. -/
def given : Arrs where
  q r a := X0 (ix2 (rowOf 8192 r) (rowOf 4096 a))
  g r a := X0 (ix2 (rowOf 8192 r) (rowOf 4096 (1536 + a)))
  y r a := X2 (ix2 (rowOf 8192 r) (rowOf 2048 a))
  k r a := X1 (ix2 (rowOf 8192 r) (rowOf 3072 a))
  v r a := X1 (ix2 (rowOf 8192 r) (rowOf 3072 (1536 + a)))
  o _ _ := 0
  tl _ _ := 0

/-- With the row sums. -/
def summed : Arrs := { given X0 X1 X2 with tl := fun r h => ∑ b ∈ Finset.range 8192, ((given X0 X1 X2).head h).SP r b }

/-- With the output. -/
def arrs : Arrs := { summed X0 X1 X2 with
  o := fun r a => ∑ b ∈ Finset.range 8192, ((summed X0 X1 X2).head (a / 128)).W r b * (given X0 X1 X2).v b a }

theorem entry {R C : ℕ} [NeZero R] [NeZero C] (X : (⟨2, ![R, C]⟩ : Shape).Idx → ℝ) (r : Fin R) (n : ℕ) (a : ℕ) (hn : n < C) (h : n = a) :
    X (ix2 r ⟨n, hn⟩) = X (ix2 (rowOf R r.val) (rowOf C a)) := by
  subst h
  rw [rowOf_val]
  exact congrArg X (congrArg (ix2 r) (Fin.ext (rowOf_lt hn).symm))

variable (h : Fin 12) (r j : Fin 8192) (c : Fin 128)

local notation "𝔸" => arrs X0 X1 X2
local notation "ℍ" => Arrs.head (arrs X0 X1 X2) (Fin.val h)

theorem ref_q : val_main_v5 (F := Ideal) (u0 X0) (ix3 h r c) = ((𝔸).q r (128 * h.val + c.val) : EReal) := by
  pointwise [val_main_v5, val_main_v4, val_main_v0]
  exact congrArg Real.toEReal (entry X0 r _ _ _ (by omega))

theorem ref_k : val_main_v7 (F := Ideal) (u1 X1) (ix3 h j c) = ((𝔸).k j (128 * h.val + c.val) : EReal) := by
  pointwise [val_main_v7, val_main_v6, val_main_v2]
  exact congrArg Real.toEReal (entry X1 j _ _ _ (by omega))

theorem ref_v : val_main_v9 (F := Ideal) (u1 X1) (ix3 h j c) = ((𝔸).v j (128 * h.val + c.val) : EReal) := by
  pointwise [val_main_v9, val_main_v8, val_main_v3]
  exact congrArg Real.toEReal (entry X1 j _ _ _ (by omega))

theorem head_Q : (ℍ).Q r c = (𝔸).q r (128 * h.val + c.val) := by simp only [Arrs.head, Arrs.block, Nat.mul_zero, Nat.zero_add]
theorem head_D : (ℍ).D r c = (𝔸).d r (128 * h.val + c.val) := by simp only [Arrs.head, Arrs.block, Nat.mul_zero, Nat.zero_add]
theorem tl_sum : (𝔸).tl r h = ∑ b ∈ Finset.range 8192, (ℍ).SP r b := by
  show (∑ b ∈ Finset.range 8192, ((given X0 X1 X2).head h).SP r b : ℝ) = ∑ b ∈ Finset.range 8192, (ℍ).SP r b
  refine Finset.sum_congr rfl fun b _ => ?_
  unfold Blk.SP Blk.Z
  rfl
theorem head_TL : (ℍ).TL r = ∑ b ∈ Finset.range 8192, (ℍ).SP r b := by
  rw [← tl_sum]
  simp only [Arrs.head, Arrs.block, Nat.mul_zero, Nat.zero_add]
theorem head_on : (j.val < 1024 * (ℍ).qi + r.val) = (j.val < r.val) := by simp only [Arrs.head, Arrs.block, Nat.mul_zero, Nat.zero_add]

theorem zero_word : (constant S_ .f32 0#32 : FVec Ideal S_ .f32) ix0 = 0 := by pointwise []

/-- Which keys count. -/
theorem ref_mask : val_main_v15 (F := Ideal) (ix2 r j) = BitVec.ofBool (decide (j.val < r.val)) := by
  pointwise [val_main_v15, val_main_v14, val_main_v13, val_main_v12, val_main_v11, val_main_v10]
  exact WordCmp.cmpi_slt_ofNat (by omega) (by omega)

/-- The logit. -/
theorem ref_z : val_main_v18 (F := Ideal) (u0 X0) (u1 X1) (ix3 h r j) = ((ℍ).Z r j : EReal) := by
  pointwise [val_main_v18, val_main_v17, val_main_cst, val_main_v16]
  simp only [ref_q X0 X1 X2, ref_k X0 X1 X2, ← EReal.coe_mul, sum_coe]
  rw [show (1035273459#32 : BitVec 32) = 0x3DB504F3#32 from rfl, lit_sc, ← EReal.coe_mul]
  unfold Blk.Z
  simp only [head_Q X0 X1 X2 h]
  rfl

/-- The threshold of the negated logit, and its derivative. -/
theorem ref_soft_neg : val_main_call0_v1_0 (F := Ideal) (u0 X0) (u1 X1) (ix3 h r j) = (softR (-(ℍ).Z r j) : EReal) := by
  pointwise [val_main_call0_v1_0, val_main_call0_call0_v4, val_main_call0_call0_v6, val_main_call0_call0_v11, val_main_call0_call0_v10,
    val_main_call0_call0_v9, val_main_call0_call0_v8, val_main_call0_call0_v7, val_main_call0_call0_v5, val_main_call0_call0_v3,
    val_main_call0_call0_v2, val_main_call0_call0_v1, val_main_call0_call0_v0, val_main_call0_call0_cst, val_main_call0_v0]
  rw [ref_z X0 X1 X2, ← EReal.coe_neg, Ideal.absf_def]
  exact soft_value _

theorem ref_slope_neg : val_main_v19_1 (F := Ideal) (u0 X0) (u1 X1) (ix3 h r j)
    = ((1 - Real.exp ((ℍ).Z r j - softR ((ℍ).Z r j)) : ℝ) : EReal) := by
  pointwise [val_main_v19_1, val_main_call0_call0_v21, val_main_call0_call0_v20, val_main_call0_call0_v16, val_main_call0_call0_v18,
    val_main_call0_call0_v19, val_main_call0_call0_v17, val_main_call0_call0_v14, val_main_call0_call0_v15, val_main_call0_call0_v13,
    val_main_call0_call0_cst_0, val_main_call0_call0_cst_1, val_main_call0_call0_cst_2, val_main_call0_call0_cst_3, val_main_call0_v0]
  rw [ref_z X0 X1 X2, ref_soft_neg X0 X1 X2, ← EReal.coe_neg, slope_value, slope_neg]

/-- The threshold of the logit, and its derivative. -/
theorem ref_soft : val_main_call1_v1_0 (F := Ideal) (u0 X0) (u1 X1) (ix3 h r j) = (softR ((ℍ).Z r j) : EReal) := by
  pointwise [val_main_call1_v1_0, val_main_call1_call0_v4, val_main_call1_call0_v6, val_main_call1_call0_v11, val_main_call1_call0_v10,
    val_main_call1_call0_v9, val_main_call1_call0_v8, val_main_call1_call0_v7, val_main_call1_call0_v5, val_main_call1_call0_v3,
    val_main_call1_call0_v2, val_main_call1_call0_v1, val_main_call1_call0_v0, val_main_call1_call0_cst, val_main_call1_v0, val_main_v20]
  rw [ref_z X0 X1 X2, ← EReal.coe_neg, ← EReal.coe_neg, neg_neg, Ideal.absf_def]
  exact soft_value _

theorem ref_slope : val_main_v21_1 (F := Ideal) (u0 X0) (u1 X1) (ix3 h r j)
    = (Real.exp ((ℍ).Z r j - softR ((ℍ).Z r j)) : EReal) := by
  pointwise [val_main_v21_1, val_main_call1_call0_v21, val_main_call1_call0_v20, val_main_call1_call0_v16, val_main_call1_call0_v18,
    val_main_call1_call0_v19, val_main_call1_call0_v17, val_main_call1_call0_v14, val_main_call1_call0_v15, val_main_call1_call0_v13,
    val_main_call1_call0_cst_0, val_main_call1_call0_cst_1, val_main_call1_call0_cst_2, val_main_call1_call0_cst_3, val_main_call1_v0, val_main_v20]
  rw [ref_z X0 X1 X2, ref_soft X0 X1 X2, ← EReal.coe_neg, ← EReal.coe_neg, neg_neg, slope_value]

/-- The masked log keep. -/
theorem ref_keep : val_main_v22_0 (F := Ideal) (u0 X0) (u1 X1) (ix3 h r j) = ((-(ℍ).SP r j : ℝ) : EReal) := by
  pointwise [val_main_v22_0, val_main_v22_1, val_main_call2_v2, val_main_call2_v0, val_main_cst_0, val_main_v21_0]
  rw [ref_mask, WordCmp.select_ofBool, ref_soft X0 X1 X2, ← EReal.coe_neg]
  unfold Blk.SP
  simp only [head_on X0 X1 X2 h]
  by_cases hj : j.val < r.val <;> simp [hj, zero_word]

theorem ref_later : val_main_v23 (F := Ideal) (u0 X0) (u1 X1) (ix3 h r j)
    = ((∑ b ∈ Finset.Ico j.val 8192, -(ℍ).SP r b : ℝ) : EReal) := by
  refine RunSum.later_apply _ (fun b => -(ℍ).SP r b) _ _ _ ?_ h r j (fun i => ref_keep X0 X1 X2 h r i)
  exact (by pointwise [val_main_call3_v0, val_main_call3_cst] : val_main_call3_v0 (F := Ideal) ix0 = 0)

/-- The logarithm of the weight, where the key counts. -/
theorem ref_logw : val_main_v25 (F := Ideal) (u0 X0) (u1 X1) (ix3 h r j)
    = (((ℍ).Z r j - softR ((ℍ).Z r j) - ((ℍ).TL r - ∑ b ∈ Finset.range (j.val + 1), (ℍ).SP r b) : ℝ) : EReal) := by
  pointwise [val_main_v25, val_main_v24, val_main_v19_0]
  rw [ref_soft_neg X0 X1 X2, ref_later X0 X1 X2, ref_keep X0 X1 X2, ← EReal.coe_neg, ← EReal.coe_sub, ← EReal.coe_add, softR_neg]
  refine congrArg Real.toEReal ?_
  rw [Finset.sum_neg_distrib, sum_later 8192 _ j.val j.isLt, head_TL]
  ring

theorem ref_w : val_main_v27_0 (F := Ideal) (u0 X0) (u1 X1) (ix3 h r j) = ((ℍ).W r j : EReal) := by
  pointwise [val_main_v27_0, val_main_v27_1, val_main_call4_v2, val_main_call4_v0, val_main_cst_1, val_main_v26]
  rw [ref_mask, WordCmp.select_ofBool, ref_logw X0 X1 X2, Ideal.exp_coe]
  unfold Blk.W
  simp only [head_on X0 X1 X2 h]
  by_cases hj : j.val < r.val <;> simp [hj, zero_word]

/-! ## The output and the gate -/

theorem sig_real (g : ℝ) : Ideal.div 1 (1 + Ideal.exp (-(g : EReal))) = (sg g : EReal) := by
  have h : (1 : EReal) = ((1 : ℝ) : EReal) := rfl
  rw [h, ← EReal.coe_neg, Ideal.exp_coe, ← EReal.coe_add, div_real _ (by positivity)]
  rfl

variable (a : Fin 1536)

theorem ref_g : val_main_v1 (F := Ideal) (u0 X0) (ix2 r a) = ((𝔸).g r a : EReal) := by
  pointwise [val_main_v1]
  exact congrArg Real.toEReal (entry X0 r _ _ _ (by omega))
theorem ref_y : val_main_v33 (F := Ideal) (u2 X2) (ix2 r a) = ((𝔸).y r a : EReal) := by
  pointwise [val_main_v33]
  exact congrArg Real.toEReal (entry X2 r _ _ _ (by omega))

theorem ref_sig : val_main_v31_2 (F := Ideal) (u0 X0) (ix2 r a) = (sg ((𝔸).g r a) : EReal) := by
  pointwise [val_main_v31_2, val_main_call5_v4, val_main_call5_cst_0, val_main_call5_v3, val_main_call5_v2, val_main_call5_cst,
    val_main_call5_v1, val_main_call5_v0]
  rw [ref_g X0 X1 X2, sig_real]

theorem ref_d (r : Fin 8192) : val_main_v35 (F := Ideal) (u0 X0) (u2 X2) (ix2 r a) = ((𝔸).d r a : EReal) := by
  pointwise [val_main_v35, val_main_v31_0]
  rw [ref_y X0 X1 X2, ref_g X0 X1 X2, ref_sig X0 X1 X2, ← EReal.coe_mul, ← EReal.coe_mul]
  rfl

theorem ref_dh : val_main_v38 (F := Ideal) (u0 X0) (u2 X2) (ix3 h r c) = ((𝔸).d r (128 * h.val + c.val) : EReal) := by
  pointwise [val_main_v38, val_main_v37]
  rw [ref_d X0 X1 X2]
  exact congrArg (fun n => (((𝔸).d r n : ℝ) : EReal)) (by show h.val * 128 + c.val = _; omega)

theorem ref_o : val_main_v30 (F := Ideal) (u0 X0) (u1 X1) (ix2 r a) = ((𝔸).o r a : EReal) := by
  pointwise [val_main_v30, val_main_v29, val_main_v28]
  simp only [ref_w X0 X1 X2, ref_v X0 X1 X2, ← EReal.coe_mul, sum_coe]
  refine congrArg Real.toEReal ?_
  rw [Fin.sum_univ_eq_sum_range (fun b => ((𝔸).head (a.val / 128)).W r b * (𝔸).v b (128 * (a.val / 128) + a.val % 128)) 8192,
    Nat.div_add_mod]
  rfl

theorem ref_dg : val_main_v63 (F := Ideal) (u0 X0) (u1 X1) (u2 X2) (ix2 r a) = ((𝔸).dg r a : EReal) := by
  pointwise [val_main_v63, val_main_v36, val_main_call6_v0, val_main_call6_v1, val_main_call6_v2, val_main_v34, val_main_v31_1,
    val_main_call5_v7, val_main_call5_v6, val_main_call5_cst_1]
  have h1 : (1 : EReal) = ((1 : ℝ) : EReal) := rfl
  rw [ref_o X0 X1 X2, ref_y X0 X1 X2, ref_g X0 X1 X2, ref_sig X0 X1 X2, h1]
  simp only [← EReal.coe_mul, ← EReal.coe_sub, ← EReal.coe_add]
  refine congrArg Real.toEReal ?_
  unfold Arrs.dg
  ring

/-! ## The derivative of the weights -/

theorem ref_e : val_main_v43 (F := Ideal) (u0 X0) (u1 X1) (u2 X2) (ix3 h r j) = ((ℍ).E r j : EReal) := by
  pointwise [val_main_v43, val_main_v42, val_main_v27_1, val_main_call7_v0, val_main_call7_cst, val_main_v41, val_main_v26]
  simp only [ref_dh X0 X1 X2, ref_v X0 X1 X2, ← EReal.coe_mul, sum_coe]
  rw [ref_mask, WordCmp.select_ofBool, ref_logw X0 X1 X2, Ideal.exp_coe]
  unfold Blk.E Blk.W Blk.DW
  simp only [head_on X0 X1 X2 h, head_D X0 X1 X2 h]
  by_cases hj : j.val < r.val
  · simp only [hj, decide_true, if_true, ← EReal.coe_mul, mul_one]
    rfl
  · simp [hj]

theorem ref_upto : val_main_v45 (F := Ideal) (u0 X0) (u1 X1) (u2 X2) (ix3 h r j)
    = ((∑ b ∈ Finset.range (j.val + 1), (ℍ).E r b : ℝ) : EReal) := by
  refine RunSum.upto_apply _ (fun b => (ℍ).E r b) _ rfl _ _ ?_ h r j (fun i => ref_e X0 X1 X2 h r i)
  exact (by pointwise [val_main_call8_v0, val_main_call8_cst] : val_main_call8_v0 (F := Ideal) ix0 = 0)

/-- The logit's cotangent. -/
theorem ref_dz : val_main_v53 (F := Ideal) (u0 X0) (u1 X1) (u2 X2) (ix3 h r j) = ((ℍ).DZ r j : EReal) := by
  pointwise [val_main_v53, val_main_v52, val_main_cst_2, val_main_v51, val_main_v50, val_main_call11_v1, val_main_call11_v0, val_main_v49,
    val_main_v48, val_main_call10_v1, val_main_call10_v0, val_main_v47, val_main_v22_1, val_main_call9_v0, val_main_call9_cst, val_main_v46,
    val_main_v44]
  rw [ref_mask, WordCmp.select_ofBool, ref_e X0 X1 X2, ref_upto X0 X1 X2, ref_slope X0 X1 X2, ref_slope_neg X0 X1 X2,
    show (1035273459#32 : BitVec 32) = 0x3DB504F3#32 from rfl, lit_sc]
  unfold Blk.DZ
  simp only [head_on X0 X1 X2 h]
  by_cases hj : j.val < r.val
  · simp only [hj, decide_true, if_true, ← EReal.coe_mul, ← EReal.coe_add, ← EReal.coe_neg]
    refine congrArg Real.toEReal ?_
    rw [Finset.sum_range_succ]
    ring
  · have e0 : (ℍ).E r j = 0 := by
      unfold Blk.E Blk.W
      simp only [head_on X0 X1 X2 h, if_neg hj, mul_zero]
    simp [hj, e0]

/-! ## The three products -/

theorem ref_dq : val_main_v62 (F := Ideal) (u0 X0) (u1 X1) (u2 X2) (ix2 r a) = ((𝔸).dq r a : EReal) := by
  pointwise [val_main_v62, val_main_v61, val_main_v60, val_main_v55]
  simp only [ref_dz X0 X1 X2, ref_k X0 X1 X2, ← EReal.coe_mul, sum_coe]
  refine congrArg Real.toEReal ?_
  rw [Fin.sum_univ_eq_sum_range (fun b => ((𝔸).head (a.val / 128)).DZ r b * (𝔸).k b (128 * (a.val / 128) + a.val % 128)) 8192,
    Nat.div_add_mod]
  rfl

theorem ref_dk : val_main_v64 (F := Ideal) (u0 X0) (u1 X1) (u2 X2) (ix2 a j) = ((𝔸).dkTo 8192 a j : EReal) := by
  pointwise [val_main_v64, val_main_v59, val_main_v58, val_main_v54]
  simp only [ref_dz X0 X1 X2, ref_q X0 X1 X2, ← EReal.coe_mul, sum_coe]
  refine congrArg Real.toEReal ?_
  rw [Fin.sum_univ_eq_sum_range (fun b => ((𝔸).head (a.val / 128)).DZ b j * (𝔸).q b (128 * (a.val / 128) + a.val % 128)) 8192,
    Nat.div_add_mod]
  exact Finset.sum_congr rfl fun b _ => mul_comm _ _

theorem ref_dv : val_main_v65 (F := Ideal) (u0 X0) (u1 X1) (u2 X2) (ix2 a j) = ((𝔸).dvTo 8192 a j : EReal) := by
  pointwise [val_main_v65, val_main_v57, val_main_v56, val_main_v40, val_main_v39]
  simp only [ref_w X0 X1 X2, ref_dh X0 X1 X2, ← EReal.coe_mul, sum_coe]
  refine congrArg Real.toEReal ?_
  rw [Fin.sum_univ_eq_sum_range (fun b => (𝔸).d b (128 * (a.val / 128) + a.val % 128) * ((𝔸).head (a.val / 128)).W b j) 8192,
    Nat.div_add_mod]
  rfl

end Cert.Proof.Sb.Ref

end
-- ==== Proof.SbHost.lean ====
/- The host lines before the attention's backward call: what the buffers it reads hold on finite arguments. The forward lines
   that save the output are the reference's own, so is the log keep whose row sums the call gets. -/
module

public import proofs.«01_k».proof.Proof.SbRef
public import proofs.«01_k».proof.Proof.Gen.Kernel4Ideal
public import proofs.«01_k».proof.Proof.Gen.Kernel4Ideal.Frame

@[expose] public section

set_option maxRecDepth 65536

noncomputable section

namespace Cert.Proof.Sb

open Idealize.ShloMosaic Idealize.ShloMosaic.TcCoe Idealize.SL.Sem
open Cert.Kernel4Ideal Cert.Kernel4Ideal.Gen Cert.Reals
open Idealize.ShloMosaic.Pointwise
open scoped BigOperators

/-- The row sums the call gets, laid out as its input: a head's sum stands in each of its 128 columns. -/
def tailOf {F : FTy → Type} [FloatOps F] (x : Vec F S12x8192x8192 .f32) : Vec F S8192x1536 .f32 :=
  shapeCast _ (broadcastInDim S8192x12x128 ![0, 1, 2] bcast_S8192x12x1_S8192x12x128_0_1_2
    (broadcastInDim S8192x12x1 ![0, 1] bcast_S8192x12_S8192x12x1_0_1
      (transpose S8192x12 [1, 0]
        (Host.negf (Host.reduceAdd x (constant S_ .f32 0#32) reducesTo_S12x8192x8192_S12x8192_d2 h_S_))
        transposes_S12x8192_S8192x12_1_0))) shapeCasts_S8192x12x128_S8192x1536

section Prefix
variable {F : FTy → Type} [FloatOps F] (m : (ℓ : Loc nD τ sig) → Buf (Elt F) ℓ) (c : Dev nD)

/-- Keys and values are passed in half precision. -/
theorem V_kv : Gen.V m c main_v52 = truncf .bf16 (m ((c : Thread nD τ).loc main_arg1)) bitsLt_bf16_f32 := by sl_kernel_rfl

/-- The saved output comes from the forward lines. -/
theorem V_o : Gen.V m c main_v51
    = Cert.Reference4Ideal.Read.val_main_v30 (F := F) (m ((c : Thread nD τ).loc main_arg0)) (m ((c : Thread nD τ).loc main_arg1)) := by
  sl_kernel_rfl

/-- The row sums come from the forward lines. -/
theorem V_tl : Gen.V m c main_v24
    = tailOf (Cert.Reference4Ideal.Read.val_main_v22_0 (F := F) (m ((c : Thread nD τ).loc main_arg0)) (m ((c : Thread nD τ).loc main_arg1))) := by
  sl_kernel_rfl
end Prefix

variable (X0 : Cert.Reference4Ideal.S8192x4096.Idx → ℝ) (X1 : Cert.Reference4Ideal.S8192x3072.Idx → ℝ)
  (X2 : Cert.Reference4Ideal.S8192x2048.Idx → ℝ)

theorem tail_read (x : Vec Ideal S12x8192x8192 .f32) (r : Fin 8192) (h : Fin 12) (f : Fin 8192 → ℝ)
    (hx : ∀ j, x (ix3 h r j) = ((-f j : ℝ) : EReal)) :
    tailOf x (ix2 r ⟨128 * h.val, by omega⟩) = ((∑ j, f j : ℝ) : EReal) := by
  pointwise [tailOf]
  simp only [hx, sum_coe]
  rw [← EReal.coe_neg, Finset.sum_neg_distrib, neg_neg]

variable {m : (ℓ : Loc nD τ sig) → Buf (Elt Ideal) ℓ} {c : Dev nD}

/-- What the buffers hold on finite arguments. -/
theorem held (h0 : m ((c : Thread nD τ).loc main_arg0) = Ref.u0 X0) (h1 : m ((c : Thread nD τ).loc main_arg1) = Ref.u1 X1)
    (h2 : m ((c : Thread nD τ).loc main_arg2) = Ref.u2 X2) : Held (Ref.arrs X0 X1 X2) m c := by
  have e0 : src0 m c = Ref.u0 X0 := (V_main_arg0 m c).trans h0
  have e6 : src6 m c = Ref.u2 X2 := (V_main_arg2 m c).trans h2
  have e2 : src2 m c = (fun i => (X1 i : EReal)) := (V_kv m c).trans (by rw [h1]; rfl)
  have e4 : src4 m c = Cert.Reference4Ideal.Read.val_main_v30 (F := Ideal) (Ref.u0 X0) (Ref.u1 X1) := (V_o m c).trans (by rw [h0, h1])
  have e5 : src5 m c = tailOf (Cert.Reference4Ideal.Read.val_main_v22_0 (F := Ideal) (Ref.u0 X0) (Ref.u1 X1)) :=
    (V_tl m c).trans (by rw [h0, h1])
  constructor
  · intro r a
    rw [e0]
    exact congrArg Real.toEReal (Ref.entry X0 r _ _ _ rfl)
  · intro r a
    rw [e0]
    exact congrArg Real.toEReal (Ref.entry X0 r _ _ _ rfl)
  · intro r a
    rw [e6]
    exact congrArg Real.toEReal (Ref.entry X2 r _ _ _ rfl)
  · intro r a
    rw [e2]
    exact congrArg Real.toEReal (Ref.entry X1 r _ _ _ rfl)
  · intro r a
    rw [e2]
    exact congrArg Real.toEReal (Ref.entry X1 r _ _ _ rfl)
  · intro r a
    rw [e4]
    exact Ref.ref_o X0 X1 X2 r a
  · intro r h
    rw [e5, tail_read _ r h (fun j => ((Ref.arrs X0 X1 X2).head h.val).SP r.val j.val) (fun j => Ref.ref_keep X0 X1 X2 h r j)]
    rw [Ref.tl_sum]
    exact congrArg Real.toEReal (Fin.sum_univ_eq_sum_range (fun b => ((Ref.arrs X0 X1 X2).head h.val).SP r.val b) 8192)

end Cert.Proof.Sb

end
-- ==== Proof.SbExact.lean ====
module

public import proofs.«01_k».proof.Proof.SbPoint
public import Idealize.ShloMosaic.Lib.Pipeline.ValueKit.Geometry

/-!
  The call's run with every result named: the four arrays it leaves, over the arrays it reads.
-/

@[expose] public section

set_option maxRecDepth 65536

noncomputable section

namespace Cert.Proof.Sb

open Cert.Reals
open Idealize.ShloMosaic.Pointwise
open scoped BigOperators
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

variable {F : FTy → Type} [FloatOps F]

local notation "𝕄" => MT nD τ sig Unit (Elt F) ℕ (UR sig nD τ) ℕ

/-! ## The scratch buffers -/

variable (A : Dev nD → Arrs) (m : (ℓ : Loc nD τ sig) → Buf (Elt Ideal) ℓ) (ρ : Dev nD → PrngReg) (c : Dev nD)

/-- The proof data with the results named. -/
abbrev dat (c : Dev nD) := dats m (fun c => (A c).outs) 0 c

variable (t : Fin cfg0.N)

theorem no_flush9 (h : t.val % 8 ≠ 0) : (cfg0.win 9).flush ⟨t.val - 1, Nat.lt_of_le_of_lt (Nat.sub_le _ _) t.isLt⟩ = false := by
  rw [Bool.eq_false_iff]
  intro hf
  have := (flush0_9 _).mp hf
  dsimp only at this
  omega
theorem no_flush10 (h : t.val % 8 ≠ 0) : (cfg0.win 10).flush ⟨t.val - 1, Nat.lt_of_le_of_lt (Nat.sub_le _ _) t.isLt⟩ = false := by
  rw [Bool.eq_false_iff]
  intro hf
  have := (flush0_10 _).mp hf
  dsimp only at this
  omega

/-- Within a head the key and value buffers carry what the point before left. -/
theorem before_9 (d) (h : t.val % 8 ≠ 0) : (dat A m c).before 9 t d = (A c).outs.dk ⟨t.val - 1, Nat.lt_of_le_of_lt (Nat.sub_le _ _) t.isLt⟩ := by
  refine ((dat A m c).before_out_kept 9 rfl t (fun h0 => h (by rw [h0])) (no_flush9 t h) (fun _ => rfl) (fun _ _ => rfl) d).trans ?_
  dsimp only [dat, dats]
theorem before_10 (d) (h : t.val % 8 ≠ 0) : (dat A m c).before 10 t d = (A c).outs.dv ⟨t.val - 1, Nat.lt_of_le_of_lt (Nat.sub_le _ _) t.isLt⟩ := by
  refine ((dat A m c).before_out_kept 10 rfl t (fun h0 => h (by rw [h0])) (no_flush10 t h) (fun _ => rfl) (fun _ _ => rfl) d).trans ?_
  dsimp only [dat, dats]

variable {A m c} (hA : Held (A c) m c)

include hA in
theorem exact_body :
    iprop((dats m (fun c => (A c).outs) 0 c).Φ t.castSucc ∗ (dats m (fun c => (A c).outs) 0 c).owesAt () t.castSucc ∗
        (∃ d, owns (c : Thread nD τ) (st0_0 t) fullShare ((dat A m c).before 0 t d)) ∗
        (∃ d, owns (c : Thread nD τ) (st0_1 t) fullShare ((dat A m c).before 1 t d)) ∗
        (∃ d, owns (c : Thread nD τ) (st0_2 t) fullShare ((dat A m c).before 2 t d)) ∗
        (∃ d, owns (c : Thread nD τ) (st0_3 t) fullShare ((dat A m c).before 3 t d)) ∗
        (∃ d, owns (c : Thread nD τ) (st0_4 t) fullShare ((dat A m c).before 4 t d)) ∗
        (∃ d, owns (c : Thread nD τ) (st0_5 t) fullShare ((dat A m c).before 5 t d)) ∗
        (∃ d, owns (c : Thread nD τ) (st0_6 t) fullShare ((dat A m c).before 6 t d)) ∗
        (∃ d, owns (c : Thread nD τ) (st0_7 t) fullShare ((dat A m c).before 7 t d)) ∗
        (∃ d, owns (c : Thread nD τ) (st0_8 t) fullShare ((dat A m c).before 8 t d)) ∗
        (∃ d, owns (c : Thread nD τ) (st0_9 t) fullShare ((dat A m c).before 9 t d)) ∗
        (∃ d, owns (c : Thread nD τ) (st0_10 t) fullShare ((dat A m c).before 10 t d)))
      ⊢ wp frame (wpE (defs₀ (F := Ideal)) Variants.none c none) Set.univ (bodyAt0 t) fun _ =>
        iprop((dats m (fun c => (A c).outs) 0 c).Φ t.succ ∗ (dats m (fun c => (A c).outs) 0 c).owesAt () t.succ ∗
          owns (c : Thread nD τ) (st0_0 t) fullShare ((dats m (fun c => (A c).outs) 0 c).after 0 t) ∗
          owns (c : Thread nD τ) (st0_1 t) fullShare ((dats m (fun c => (A c).outs) 0 c).after 1 t) ∗
          owns (c : Thread nD τ) (st0_2 t) fullShare ((dats m (fun c => (A c).outs) 0 c).after 2 t) ∗
          owns (c : Thread nD τ) (st0_3 t) fullShare ((dats m (fun c => (A c).outs) 0 c).after 3 t) ∗
          owns (c : Thread nD τ) (st0_4 t) fullShare ((dats m (fun c => (A c).outs) 0 c).after 4 t) ∗
          owns (c : Thread nD τ) (st0_5 t) fullShare ((dats m (fun c => (A c).outs) 0 c).after 5 t) ∗
          owns (c : Thread nD τ) (st0_6 t) fullShare ((dats m (fun c => (A c).outs) 0 c).after 6 t) ∗
          owns (c : Thread nD τ) (st0_7 t) fullShare ((dats m (fun c => (A c).outs) 0 c).after 7 t) ∗
          owns (c : Thread nD τ) (st0_8 t) fullShare ((dats m (fun c => (A c).outs) 0 c).after 8 t) ∗
          owns (c : Thread nD τ) (st0_9 t) fullShare ((dats m (fun c => (A c).outs) 0 c).after 9 t) ∗
          owns (c : Thread nD τ) (st0_10 t) fullShare ((dats m (fun c => (A c).outs) 0 c).after 10 t)) := by
  simp only [before_0, before_1, before_2, before_3, before_4, before_5, before_6]
  rw [show (dats m (fun c => (A c).outs) 0 c).Φ t.castSucc = Pipeline.ΦA spec0 c from rfl, show (dats m (fun c => (A c).outs) 0 c).Φ t.succ = Pipeline.ΦA spec0 c from rfl,
    show (dats m (fun c => (A c).outs) 0 c).owesAt () t.succ = (dats m (fun c => (A c).outs) 0 c).owesAt () t.castSucc from rfl]
  have hk := fun d => before_9 A m c t d
  have hv := fun d => before_10 A m c t d
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ := (scr_open c) $$ HΦ
  icases HΦ with ⟨⟨%x, HX⟩, HR⟩
  iapply (wp_wand_r frame (wpE (defs₀ (F := Ideal)) Variants.none c none) Set.univ)
  isplitl [HX H0 H1 H2 H3 H4 H5 H6 H7 H8 H9 H10]
  · iapply (point_run c t (inpAt m c t) (iblk m c 2 t) (iblk m c 3 t) ((dat A m c).before 7 t d7) ((dat A m c).before 8 t d8)
      ((dat A m c).before 9 t d9) ((dat A m c).before 10 t d10) x)
    isplitl [HX]; · iexact HX
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %_ ⟨HX, H0, H1, H2, H3, H4, H5, H6, H7, H8, H9, H10⟩
  isplitl [HX HR]
  · unfold Pipeline.ΦA
    isplitl [HX]; · iexact HX
    iexact HR
  isplitl [Ho]; · iexact Ho
  dsimp only [dat, dats]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (owns_at c (dq_point t hA (hk d9) (hv d10))); iexact H7
  isplitl [H8]
  · iapply (owns_at c (dg_point t hA x _ ((dat A m c).before 9 t d9) ((dat A m c).before 10 t d10))); iexact H8
  isplitl [H9]
  · iapply (owns_at c (dk_point t hA (hk d9) (hv d10))); iexact H9
  iapply (owns_at c (dv_point t hA (hk d9) (hv d10))); iexact H10

omit hA in
theorem exact_obligation (hA : ∀ c, Held (A c) m c) (c : Dev nD) :
    BodyObligation (dat A m c) (defs₀ (F := Ideal)) Variants.none () Set.univ := fun t => by
  rw [bigSep_W0, bigSep_W0, defs₀_row]
  exact triple_restated (exact_body t (hA c)) rfl .rfl fun _ => .rfl

-- the run theorem's implicit arguments are found by unifying its conclusion with this one
set_option backward.isDefEq.respectTransparency.types false in
theorem exact_run (hA : ∀ c, Held (A c) m c) : θ_run defs (onTc (τ := τ) (main (F := Ideal))) (s₀ m ρ)
    (fun r => Pipeline.FramePost cfgs (dats m (fun c => (A c).outs)) 0 (V m) r ∧ r.2.sem = fun _ => 0) :=
  Pipeline.θ_run_frame_shared (Q' := _) cfgs (dats m (fun c => (A c).outs)) (0 : Fin 1) launch₀0 defs₀ Variants.none m ρ main
    (hbody := fun c => (exact_obligation hA c).loose) (hq := fun _ _ _ => rfl) (howed := fun _ _ => rfl) (V := V m)
    (hmain := hmain m Variants.none) (hA := dats_A m _) (hΦ := fun _ _ => rfl)

/-! ## The arrays -/

variable (A m c)

theorem last_dq : (dat A m c).arrAt 7 cfg0.N = fun i : S8192x1536.Idx => (((A c).dq (i 0).val (i 1).val : ℝ) : EReal) :=
  (dat A m c).arrAt_eq_of_covers 7 _ (by decide +kernel) fun t hf y => by
    blk_simp [at7]
    show (A c).outs.dq t y = _
    simp only [Arrs.outs, mul_comm _ 1024, mul_comm _ 128]
theorem last_dg : (dat A m c).arrAt 8 cfg0.N = fun i : S8192x1536.Idx => (((A c).dg (i 0).val (i 1).val : ℝ) : EReal) :=
  (dat A m c).arrAt_eq_of_covers 8 _ (by decide +kernel) fun t hf y => by
    blk_simp [at8]
    show (A c).outs.dg t y = _
    simp only [Arrs.outs, mul_comm _ 1024, mul_comm _ 128]
theorem last_dk : (dat A m c).arrAt 9 cfg0.N = fun i : S1536x8192.Idx => (((A c).dkTo 8192 (i 0).val (i 1).val : ℝ) : EReal) :=
  (dat A m c).arrAt_eq_of_covers 9 _ (by decide +kernel) fun t hf y => by
    have h7 := (flush0_9 t).mp hf
    blk_simp [at9]
    show (A c).outs.dk t y = _
    simp only [Arrs.outs, h7, mul_comm _ 128, zero_mul, zero_add]
theorem last_dv : (dat A m c).arrAt 10 cfg0.N = fun i : S1536x8192.Idx => (((A c).dvTo 8192 (i 0).val (i 1).val : ℝ) : EReal) :=
  (dat A m c).arrAt_eq_of_covers 10 _ (by decide +kernel) fun t hf y => by
    have h7 := (flush0_10 t).mp hf
    blk_simp [at10]
    show (A c).outs.dv t y = _
    simp only [Arrs.outs, h7, mul_comm _ 128, zero_mul, zero_add]

section Post

variable (r : PUnit × MemSt nD τ sig (Elt Ideal)) (h : Pipeline.FramePost cfgs (dats m (fun c => (A c).outs)) 0 (V m) r)
include h

theorem post_in : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 1).trans (((dat A m c).arrAt_in 1 rfl _).trans ((dats_A m _ c 1).trans (V_main_arg0 m c))),
    ((h c).2 main_arg1 (Pipeline.mem_restRefs_of main_arg1 (by decide) (by decide))).trans (V_main_arg1 m c),
    ((h c).1 6).trans (((dat A m c).arrAt_in 6 rfl _).trans ((dats_A m _ c 6).trans (V_main_arg2 m c)))⟩

theorem post_dq : r.2.mem ((c.tc : Thread nD τ).loc main_v53_0) = (fun i : S8192x1536.Idx => (((A c).dq (i 0).val (i 1).val : ℝ) : EReal)) := by
  have e : r.2.mem ((c.tc : Thread nD τ).loc main_v53_0) = (dat A m c).arrAt 7 cfg0.N := (h c).1 7
  rw [e]
  exact last_dq A m c

theorem post_dg : r.2.mem ((c.tc : Thread nD τ).loc main_v53_1) = (fun i : S8192x1536.Idx => (((A c).dg (i 0).val (i 1).val : ℝ) : EReal)) := by
  have e : r.2.mem ((c.tc : Thread nD τ).loc main_v53_1) = (dat A m c).arrAt 8 cfg0.N := (h c).1 8
  rw [e]
  exact last_dg A m c

theorem post_dk : r.2.mem ((c.tc : Thread nD τ).loc main_v53_2) = (fun i : S1536x8192.Idx => (((A c).dkTo 8192 (i 0).val (i 1).val : ℝ) : EReal)) := by
  have e : r.2.mem ((c.tc : Thread nD τ).loc main_v53_2) = (dat A m c).arrAt 9 cfg0.N := (h c).1 9
  rw [e]
  exact last_dk A m c

theorem post_dv : r.2.mem ((c.tc : Thread nD τ).loc main_v53_3) = (fun i : S1536x8192.Idx => (((A c).dvTo 8192 (i 0).val (i 1).val : ℝ) : EReal)) := by
  have e : r.2.mem ((c.tc : Thread nD τ).loc main_v53_3) = (dat A m c).arrAt 10 cfg0.N := (h c).1 10
  rw [e]
  exact last_dv A m c

end Post

/-- The call ends with its arguments as they were and with the four gradients in its results. -/
theorem sb_run (hA : ∀ c, Held (A c) m c) : θ_run defs (onTc (τ := τ) (main (F := Ideal))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v53_0) = (fun i : S8192x1536.Idx => (((A c).dq (i 0).val (i 1).val : ℝ) : EReal))
      ∧ r.2.mem ((c.tc : Thread nD τ).loc main_v53_1) = (fun i : S8192x1536.Idx => (((A c).dg (i 0).val (i 1).val : ℝ) : EReal))
      ∧ r.2.mem ((c.tc : Thread nD τ).loc main_v53_2) = (fun i : S1536x8192.Idx => (((A c).dkTo 8192 (i 0).val (i 1).val : ℝ) : EReal))
      ∧ r.2.mem ((c.tc : Thread nD τ).loc main_v53_3) = (fun i : S1536x8192.Idx => (((A c).dvTo 8192 (i 0).val (i 1).val : ℝ) : EReal)))
      ∧ r.2.sem = fun _ => 0) :=
  (θ_run defs _ _).mono (fun r h => ⟨fun c => ⟨post_in A m c r h.1, post_dq A m c r h.1, post_dg A m c r h.1, post_dk A m c r h.1, post_dv A m c r h.1⟩, h.2⟩) (exact_run ρ hA)

end Cert.Proof.Sb

end
-- ==== Proof.SbAlgebra.lean ====
/- The attention's backward call against the derivative of its forward lines: on finite arguments both programs end with the
   same four gradients. -/
module

public import proofs.«01_k».proof.Defs
public import proofs.«01_k».proof.Proof.SbHost
public import proofs.«01_k».proof.Proof.SbExact
public import proofs.«01_k».proof.Proof.Gen.Pre_sb_finite
public import Idealize.ShloMosaic.Lib.ReduceAll

@[expose] public section

set_option maxRecDepth 65536

noncomputable section

namespace Cert.Proof.Sb

open Idealize.ShloMosaic Idealize.ShloMosaic.TcCoe Idealize.SL.Sem
open Cert.Reference4Ideal Cert.Reference4Ideal.Gen Cert.Reference4Ideal.Read Cert.Reals

/-- A value below infinity in size is the real number it reads as. -/
theorem real_part {x : EReal} (h : ∃ r : ℝ, x = r) : x = ((x.toReal : ℝ) : EReal) := by
  obtain ⟨r, rfl⟩ := h
  rw [EReal.toReal_coe]

/-- The precondition makes every argument an array of real numbers. -/
theorem finite_args {a0 : Vec Ideal S8192x4096 .f32} {a1 : Vec Ideal S8192x3072 .f32} {a2 : Vec Ideal S8192x2048 .f32}
    (h : Cert.Pre_sb_finite.fn (F := Ideal) a0 a1 a2 = fun _ => 1#1) :
    ∃ X0 X1 X2, a0 = Ref.u0 X0 ∧ a1 = Ref.u1 X1 ∧ a2 = Ref.u2 X2 := by
  have all := congrFun h ix0
  unfold Cert.Pre_sb_finite.fn at all
  dsimp only at all
  obtain ⟨k01, k2⟩ := and_one all
  obtain ⟨k0, k1⟩ := and_one k01
  exact ⟨fun i => EReal.toReal (a0 i), fun i => EReal.toReal (a1 i), fun i => EReal.toReal (a2 i),
    funext fun i => real_part (real_of_cmp (Host.reduce_andi_all _ _ _ _ ix0 k0 i)),
    funext fun i => real_part (real_of_cmp (Host.reduce_andi_all _ _ _ _ ix0 k1 i)),
    funext fun i => real_part (real_of_cmp (Host.reduce_andi_all _ _ _ _ ix0 k2 i))⟩

section All
variable (X0 : S8192x4096.Idx → ℝ) (X1 : S8192x3072.Idx → ℝ) (X2 : S8192x2048.Idx → ℝ)

theorem all_dq : val_main_v62 (F := Ideal) (Ref.u0 X0) (Ref.u1 X1) (Ref.u2 X2)
    = fun i : S8192x1536.Idx => (((Ref.arrs X0 X1 X2).dq (i 0).val (i 1).val : ℝ) : EReal) := by
  funext i
  rw [eq_ix2 i]
  exact Ref.ref_dq X0 X1 X2 (i 0) (i 1)
theorem all_dg : val_main_v63 (F := Ideal) (Ref.u0 X0) (Ref.u1 X1) (Ref.u2 X2)
    = fun i : S8192x1536.Idx => (((Ref.arrs X0 X1 X2).dg (i 0).val (i 1).val : ℝ) : EReal) := by
  funext i
  rw [eq_ix2 i]
  exact Ref.ref_dg X0 X1 X2 (i 0) (i 1)
theorem all_dk : val_main_v64 (F := Ideal) (Ref.u0 X0) (Ref.u1 X1) (Ref.u2 X2)
    = fun i : S1536x8192.Idx => (((Ref.arrs X0 X1 X2).dkTo 8192 (i 0).val (i 1).val : ℝ) : EReal) := by
  funext i
  rw [eq_ix2 i]
  exact Ref.ref_dk X0 X1 X2 (i 1) (i 0)
theorem all_dv : val_main_v65 (F := Ideal) (Ref.u0 X0) (Ref.u1 X1) (Ref.u2 X2)
    = fun i : S1536x8192.Idx => (((Ref.arrs X0 X1 X2).dvTo 8192 (i 0).val (i 1).val : ℝ) : EReal) := by
  funext i
  rw [eq_ix2 i]
  exact Ref.ref_dv X0 X1 X2 (i 1) (i 0)
end All

/-- The kernel's four results are the derivative of the stick-breaking attention. -/
theorem algebraic : Cert.algebraic_Kernel4Ideal_Reference4Ideal_pre_sb_finite := by
  intro m g m' g' hpre hargs
  choose X0 X1 X2 hX0 hX1 hX2 using fun c => finite_args (hpre c)
  have hA : ∀ c, Held (Ref.arrs (X0 c) (X1 c) (X2 c)) m c := fun c => held (X0 c) (X1 c) (X2 c) (hX0 c) (hX1 c) (hX2 c)
  refine ⟨fun c => (fun i : S8192x1536.Idx => (((Ref.arrs (X0 c) (X1 c) (X2 c)).dq (i 0).val (i 1).val : ℝ) : EReal)),
    fun c => (fun i : S8192x1536.Idx => (((Ref.arrs (X0 c) (X1 c) (X2 c)).dg (i 0).val (i 1).val : ℝ) : EReal)),
    fun c => (fun i : S1536x8192.Idx => (((Ref.arrs (X0 c) (X1 c) (X2 c)).dkTo 8192 (i 0).val (i 1).val : ℝ) : EReal)),
    fun c => (fun i : S1536x8192.Idx => (((Ref.arrs (X0 c) (X1 c) (X2 c)).dvTo 8192 (i 0).val (i 1).val : ℝ) : EReal)), ?_, ?_⟩
  · refine (θ_run Cert.Kernel4Ideal.defs _ _).mono (fun r h c => ?_) (sb_run _ m g hA)
    obtain ⟨ha, hq, hg, hk, hv⟩ := h.1 c
    exact ⟨hq, hg, hk, hv, ha⟩
  · refine (θ_run Cert.Reference4Ideal.defs _ _).mono (fun r h c => ?_) (Cert.Reference4Ideal.Value.run m' g')
    obtain ⟨hq, hg, hk, hv, h⟩ := h c
    obtain ⟨e0, e1, e2⟩ := hargs c
    have k0 : StableHlo.launchContents m' c (Proc.devRef .tc main_arg0) = Ref.u0 (X0 c) := e0.trans (hX0 c)
    have k1 : StableHlo.launchContents m' c (Proc.devRef .tc main_arg1) = Ref.u1 (X1 c) := e1.trans (hX1 c)
    have k2 : StableHlo.launchContents m' c (Proc.devRef .tc main_arg2) = Ref.u2 (X2 c) := e2.trans (hX2 c)
    refine ⟨?_, ?_, ?_, ?_, h⟩
    · rw [hq, val_main_v62_eq, k0, k1, k2]; exact all_dq _ _ _
    · rw [hg, val_main_v63_eq, k0, k1, k2]; exact all_dg _ _ _
    · rw [hk, val_main_v64_eq, k0, k1, k2]; exact all_dk _ _ _
    · rw [hv, val_main_v65_eq, k0, k1, k2]; exact all_dv _ _ _

end Cert.Proof.Sb

end
-- ==== Proof.SfCut.lean ====
module

public import proofs.«01_k».proof.Proof.Gen.Kernel5Ideal.Frame
public import proofs.«01_k».proof.Proof.Gen.Kernel5Ideal.Skeleton
public import Idealize.ShloMosaic.Lib.Tactic
public import Idealize.ShloMosaic.Lib.Tactic.Stretches
public import Idealize.ShloMosaic.Lib.Tactic.OpenCalls
public meta import Idealize.ShloMosaic.Lib.Tactic.Stretches
public meta import Idealize.ShloMosaic.Lib.Tactic.OpenCalls

/-!
  The body of the attention's forward kernel, cut into stretches, and what a stretch owns.

  The body of one grid point (a head and a block of 1024 rows) walks over the key blocks from the diagonal back to the first one.
  Its pieces are the opening (the cast of the queries, the accumulators, the logits of the last key block), the four key blocks on
  the diagonal, the loop over pairs of whole key blocks and the end, which applies the last weights and writes the three results.
  Every piece in between applies the weights of the block before, computes the logits of the block after, and turns the logits of
  its own block into weights.
-/

@[expose] public section

set_option maxRecDepth 65536
set_option maxHeartbeats 4000000

noncomputable section

namespace Cert.Proof.Sf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open_calls flatTrip := k0_t1_body [k0_part5]
open_calls flat := cc0_sb_fwd_skel [k0_part18, k0_part19, k0_part22, k0_part25, k0_part30]
cut_chain trip := flatTrip at 9
cut_chain body := flat at 4, 14, 24, 45, 53, 55

/-- What a stretch changes: the value sum so far, the running sum of a row's log keeps, the logits of two key blocks and the weights
    waiting to be applied. -/
structure St (F : FTy → Type) where
  acc : Vec F S1024x128 .f32
  run : Vec F S1024x1 .f32
  z : Vec F S2x1024x256 .f32
  wp : Vec F S1024x256 .bf16

/-- What a stretch reads: keys, values and the row block's queries in bf16. -/
structure Src (F : FTy → Type) where
  k : Vec F S8192x128 .bf16
  v : Vec F S8192x128 .bf16
  q : Vec F S1024x128 .bf16

/-- The row block's queries and gates. -/
structure Inp (F : FTy → Type) where
  q : Vec F S1024x128 .f32
  g : Vec F S1024x128 .f32

/-- The three results of a row block: the gated output, the output and the sum of log keeps. -/
structure Out (F : FTy → Type) where
  y : Vec F S1024x128 .bf16
  o : Vec F S1024x128 .f32
  tl : Vec F S1024x128 .f32

omit [FloatOps F] in
/-- A whole buffer owned at `X` is one content, the one that reads as `X`. -/
theorem owns_open (c : Dev nD) {sh : Shape} {e : EltTy} {a : Memref sig .tc .vmem sh e} (ha : a.IsWhole) (X : Vec F sh e) :
    (owns (c : Thread nD τ) a fullShare X : sProp 𝕄) ⊢ iprop(a.view.loc (c : Thread nD τ) ↦[a.view.set]{fullShare} ha.unread X) := by
  unfold owns
  iintro ⟨%f, %hf, H⟩
  obtain rfl := ha.eq_unread hf
  iexact H

omit [FloatOps F] in
/-- The converse. -/
theorem owns_back (c : Dev nD) {sh : Shape} {e : EltTy} {a : Memref sig .tc .vmem sh e} (ha : a.IsWhole) (X : Vec F sh e) :
    iprop(a.view.loc (c : Thread nD τ) ↦[a.view.set]{fullShare} ha.unread X) ⊢ (owns (c : Thread nD τ) a fullShare X : sProp 𝕄) := by
  unfold owns
  iintro H
  iexists _; isplitr; swap; · iexact H
  ipureintro; exact ha.read_unread _

omit [FloatOps F] in
/-- Any content of a buffer is owned at what it reads as. -/
theorem owns_close (c : Dev nD) {sh : Shape} {e : EltTy} {a : Memref sig .tc .vmem sh e} (f : a.view.ty.Contents (Elt F)) :
    iprop(a.view.loc (c : Thread nD τ) ↦[a.view.set]{fullShare} f) ⊢
      (owns (c : Thread nD τ) a fullShare (a.view.read (Elt F) f) : sProp 𝕄) := by
  unfold owns
  iintro H
  iexists _; isplitr; swap; · iexact H
  ipureintro; rfl

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .bf16} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .f32} (harg10 : arg10.IsWhole)
  {arg11 : Memref sig .tc .vmem S1024x1 .f32} (harg11 : arg11.IsWhole)
  {arg12 : Memref sig .tc .vmem S2x1024x256 .f32} (harg12 : arg12.IsWhole)
  {arg13 : Memref sig .tc .vmem S1024x256 .bf16} (harg13 : arg13.IsWhole)

section

omit [FloatOps F]

/-- The buffers of a state. -/
def HSt (arg10 : Memref sig .tc .vmem S1024x128 .f32) (arg11 : Memref sig .tc .vmem S1024x1 .f32) (arg12 : Memref sig .tc .vmem S2x1024x256 .f32) (arg13 : Memref sig .tc .vmem S1024x256 .bf16) (s : St F) : sProp 𝕄 :=
  iprop(owns (c : Thread nD τ) arg10 fullShare s.acc ∗ owns (c : Thread nD τ) arg11 fullShare s.run ∗ owns (c : Thread nD τ) arg12 fullShare s.z ∗ owns (c : Thread nD τ) arg13 fullShare s.wp)

theorem HSt_open (s : St F) : HSt c arg10 arg11 arg12 arg13 s ⊢
    iprop((arg10.view.loc (c : Thread nD τ) ↦[arg10.view.set]{fullShare} harg10.unread s.acc) ∗
      (arg11.view.loc (c : Thread nD τ) ↦[arg11.view.set]{fullShare} harg11.unread s.run) ∗
      (arg12.view.loc (c : Thread nD τ) ↦[arg12.view.set]{fullShare} harg12.unread s.z) ∗
      (arg13.view.loc (c : Thread nD τ) ↦[arg13.view.set]{fullShare} harg13.unread s.wp)) := by
  unfold HSt
  exact BIClass.sep_mono (owns_open c harg10 _) <| BIClass.sep_mono (owns_open c harg11 _) <| BIClass.sep_mono (owns_open c harg12 _) <| owns_open c harg13 _

theorem HSt_back (s : St F) :
    iprop((arg10.view.loc (c : Thread nD τ) ↦[arg10.view.set]{fullShare} harg10.unread s.acc) ∗
      (arg11.view.loc (c : Thread nD τ) ↦[arg11.view.set]{fullShare} harg11.unread s.run) ∗
      (arg12.view.loc (c : Thread nD τ) ↦[arg12.view.set]{fullShare} harg12.unread s.z) ∗
      (arg13.view.loc (c : Thread nD τ) ↦[arg13.view.set]{fullShare} harg13.unread s.wp)) ⊢ HSt c arg10 arg11 arg12 arg13 s := by
  unfold HSt
  exact BIClass.sep_mono (owns_back c harg10 _) <| BIClass.sep_mono (owns_back c harg11 _) <| BIClass.sep_mono (owns_back c harg12 _) <| owns_back c harg13 _

theorem HSt_close (f10 : arg10.view.ty.Contents (Elt F)) (f11 : arg11.view.ty.Contents (Elt F)) (f12 : arg12.view.ty.Contents (Elt F)) (f13 : arg13.view.ty.Contents (Elt F)) :
    iprop((arg10.view.loc (c : Thread nD τ) ↦[arg10.view.set]{fullShare} f10) ∗
      (arg11.view.loc (c : Thread nD τ) ↦[arg11.view.set]{fullShare} f11) ∗
      (arg12.view.loc (c : Thread nD τ) ↦[arg12.view.set]{fullShare} f12) ∗
      (arg13.view.loc (c : Thread nD τ) ↦[arg13.view.set]{fullShare} f13)) ⊢
      HSt c arg10 arg11 arg12 arg13 { acc := arg10.view.read (Elt F) f10, run := arg11.view.read (Elt F) f11, z := arg12.view.read (Elt F) f12, wp := arg13.view.read (Elt F) f13 } := by
  unfold HSt
  exact BIClass.sep_mono (owns_close c f10) <| BIClass.sep_mono (owns_close c f11) <| BIClass.sep_mono (owns_close c f12) <| owns_close c f13

/-- The buffers of what a stretch reads. -/
def HSrc (arg4 : Memref sig .tc .vmem S8192x128 .bf16) (arg5 : Memref sig .tc .vmem S8192x128 .bf16) (arg9 : Memref sig .tc .vmem S1024x128 .bf16) (e : Src F) : sProp 𝕄 :=
  iprop(owns (c : Thread nD τ) arg4 fullShare e.k ∗ owns (c : Thread nD τ) arg5 fullShare e.v ∗ owns (c : Thread nD τ) arg9 fullShare e.q)

theorem HSrc_open (e : Src F) : HSrc c arg4 arg5 arg9 e ⊢
    iprop((arg4.view.loc (c : Thread nD τ) ↦[arg4.view.set]{fullShare} harg4.unread e.k) ∗
      (arg5.view.loc (c : Thread nD τ) ↦[arg5.view.set]{fullShare} harg5.unread e.v) ∗
      (arg9.view.loc (c : Thread nD τ) ↦[arg9.view.set]{fullShare} harg9.unread e.q)) := by
  unfold HSrc
  exact BIClass.sep_mono (owns_open c harg4 _) <| BIClass.sep_mono (owns_open c harg5 _) <| owns_open c harg9 _

theorem HSrc_back (e : Src F) :
    iprop((arg4.view.loc (c : Thread nD τ) ↦[arg4.view.set]{fullShare} harg4.unread e.k) ∗
      (arg5.view.loc (c : Thread nD τ) ↦[arg5.view.set]{fullShare} harg5.unread e.v) ∗
      (arg9.view.loc (c : Thread nD τ) ↦[arg9.view.set]{fullShare} harg9.unread e.q)) ⊢ HSrc c arg4 arg5 arg9 e := by
  unfold HSrc
  exact BIClass.sep_mono (owns_back c harg4 _) <| BIClass.sep_mono (owns_back c harg5 _) <| owns_back c harg9 _

theorem HSrc_close (f4 : arg4.view.ty.Contents (Elt F)) (f5 : arg5.view.ty.Contents (Elt F)) (f9 : arg9.view.ty.Contents (Elt F)) :
    iprop((arg4.view.loc (c : Thread nD τ) ↦[arg4.view.set]{fullShare} f4) ∗
      (arg5.view.loc (c : Thread nD τ) ↦[arg5.view.set]{fullShare} f5) ∗
      (arg9.view.loc (c : Thread nD τ) ↦[arg9.view.set]{fullShare} f9)) ⊢
      HSrc c arg4 arg5 arg9 { k := arg4.view.read (Elt F) f4, v := arg5.view.read (Elt F) f5, q := arg9.view.read (Elt F) f9 } := by
  unfold HSrc
  exact BIClass.sep_mono (owns_close c f4) <| BIClass.sep_mono (owns_close c f5) <| owns_close c f9

/-- The buffers of the two inputs of a row block. -/
def HIn (arg2 : Memref sig .tc .vmem S1024x128 .f32) (arg3 : Memref sig .tc .vmem S1024x128 .f32) (p : Inp F) : sProp 𝕄 :=
  iprop(owns (c : Thread nD τ) arg2 fullShare p.q ∗ owns (c : Thread nD τ) arg3 fullShare p.g)

theorem HIn_open (p : Inp F) : HIn c arg2 arg3 p ⊢
    iprop((arg2.view.loc (c : Thread nD τ) ↦[arg2.view.set]{fullShare} harg2.unread p.q) ∗
      (arg3.view.loc (c : Thread nD τ) ↦[arg3.view.set]{fullShare} harg3.unread p.g)) := by
  unfold HIn
  exact BIClass.sep_mono (owns_open c harg2 _) <| owns_open c harg3 _

theorem HIn_back (p : Inp F) :
    iprop((arg2.view.loc (c : Thread nD τ) ↦[arg2.view.set]{fullShare} harg2.unread p.q) ∗
      (arg3.view.loc (c : Thread nD τ) ↦[arg3.view.set]{fullShare} harg3.unread p.g)) ⊢ HIn c arg2 arg3 p := by
  unfold HIn
  exact BIClass.sep_mono (owns_back c harg2 _) <| owns_back c harg3 _

theorem HIn_close (f2 : arg2.view.ty.Contents (Elt F)) (f3 : arg3.view.ty.Contents (Elt F)) :
    iprop((arg2.view.loc (c : Thread nD τ) ↦[arg2.view.set]{fullShare} f2) ∗
      (arg3.view.loc (c : Thread nD τ) ↦[arg3.view.set]{fullShare} f3)) ⊢
      HIn c arg2 arg3 { q := arg2.view.read (Elt F) f2, g := arg3.view.read (Elt F) f3 } := by
  unfold HIn
  exact BIClass.sep_mono (owns_close c f2) <| owns_close c f3

/-- The buffers of the three results. -/
def HOut (arg6 : Memref sig .tc .vmem S1024x128 .bf16) (arg7 : Memref sig .tc .vmem S1024x128 .f32) (arg8 : Memref sig .tc .vmem S1024x128 .f32) (r : Out F) : sProp 𝕄 :=
  iprop(owns (c : Thread nD τ) arg6 fullShare r.y ∗ owns (c : Thread nD τ) arg7 fullShare r.o ∗ owns (c : Thread nD τ) arg8 fullShare r.tl)

theorem HOut_open (r : Out F) : HOut c arg6 arg7 arg8 r ⊢
    iprop((arg6.view.loc (c : Thread nD τ) ↦[arg6.view.set]{fullShare} harg6.unread r.y) ∗
      (arg7.view.loc (c : Thread nD τ) ↦[arg7.view.set]{fullShare} harg7.unread r.o) ∗
      (arg8.view.loc (c : Thread nD τ) ↦[arg8.view.set]{fullShare} harg8.unread r.tl)) := by
  unfold HOut
  exact BIClass.sep_mono (owns_open c harg6 _) <| BIClass.sep_mono (owns_open c harg7 _) <| owns_open c harg8 _

theorem HOut_back (r : Out F) :
    iprop((arg6.view.loc (c : Thread nD τ) ↦[arg6.view.set]{fullShare} harg6.unread r.y) ∗
      (arg7.view.loc (c : Thread nD τ) ↦[arg7.view.set]{fullShare} harg7.unread r.o) ∗
      (arg8.view.loc (c : Thread nD τ) ↦[arg8.view.set]{fullShare} harg8.unread r.tl)) ⊢ HOut c arg6 arg7 arg8 r := by
  unfold HOut
  exact BIClass.sep_mono (owns_back c harg6 _) <| BIClass.sep_mono (owns_back c harg7 _) <| owns_back c harg8 _

theorem HOut_close (f6 : arg6.view.ty.Contents (Elt F)) (f7 : arg7.view.ty.Contents (Elt F)) (f8 : arg8.view.ty.Contents (Elt F)) :
    iprop((arg6.view.loc (c : Thread nD τ) ↦[arg6.view.set]{fullShare} f6) ∗
      (arg7.view.loc (c : Thread nD τ) ↦[arg7.view.set]{fullShare} f7) ∗
      (arg8.view.loc (c : Thread nD τ) ↦[arg8.view.set]{fullShare} f8)) ⊢
      HOut c arg6 arg7 arg8 { y := arg6.view.read (Elt F) f6, o := arg7.view.read (Elt F) f7, tl := arg8.view.read (Elt F) f8 } := by
  unfold HOut
  exact BIClass.sep_mono (owns_close c f6) <| BIClass.sep_mono (owns_close c f7) <| owns_close c f8

end

end Cert.Proof.Sf

end
-- ==== Proof.SfDiag.lean ====
module

public import proofs.«01_k».proof.Proof.SfCut

/-!
  The runs over the four key blocks on the diagonal: what each piece leaves in the buffers.
-/

@[expose] public section

set_option maxRecDepth 65536
set_option maxHeartbeats 4000000

noncomputable section

namespace Cert.Proof.Sf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .bf16} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .f32} (harg10 : arg10.IsWhole)
  {arg11 : Memref sig .tc .vmem S1024x1 .f32} (harg11 : arg11.IsWhole)
  {arg12 : Memref sig .tc .vmem S2x1024x256 .f32} (harg12 : arg12.IsWhole)
  {arg13 : Memref sig .tc .vmem S1024x256 .bf16} (harg13 : arg13.IsWhole)

/-- The last key block on the diagonal. -/
def diag3 (v11 : FVec F S256x256 .bf16) (e : Src F) (s : St F) :
    { s' : St F // ∀ {R : Type} (κ : _) (Q : R → sProp 𝕄),
        iprop(HSrc c arg4 arg5 arg9 e ∗ HSt c arg10 arg11 arg12 arg13 s ∗
            ((HSrc c arg4 arg5 arg9 e ∗ HSt c arg10 arg11 arg12 arg13 s') -∗ wp frame (wpE (defs₀ (F := F)) Variants.none c none) Set.univ κ Q))
          ⊢ wp frame (wpE (defs₀ (F := F)) Variants.none c none) Set.univ (body2 (R := R) i arg4 arg9 arg11 arg12 arg13 harg13 v11 κ) Q } := by
  refine ⟨⟨?_, ?_, ?_, ?_⟩, fun {R} κ Q => ?run⟩
  case run =>
    iintro ⟨HE, HS, Hk⟩
    ihave HE := (HSrc_open c harg4 harg5 harg9 e) $$ HE
    ihave HS := (HSt_open c harg10 harg11 harg12 harg13 s) $$ HS
    icases HE with ⟨E4, E5, E9⟩
    icases HS with ⟨H10, H11, H12, H13⟩
    unfold body2
    sl_exec
    iapply Hk
    isplitl [E4 E5 E9]
    · iapply (HSrc_back c harg4 harg5 harg9 e)
      iframe
    iapply (HSt_close c)
    isplitl [H10]; · iexact H10
    isplitl [H11]; · iexact H11
    isplitl [H12]; · iexact H12
    iexact H13

/-- The third key block on the diagonal. -/
def diag2 (v11 : FVec F S256x256 .bf16) (e : Src F) (s : St F) :
    { s' : St F // ∀ (v20 : BitVec 32) {R : Type} (κ : _) (Q : R → sProp 𝕄),
        iprop(HSrc c arg4 arg5 arg9 e ∗ HSt c arg10 arg11 arg12 arg13 s ∗
            ((HSrc c arg4 arg5 arg9 e ∗ HSt c arg10 arg11 arg12 arg13 s') -∗ wp frame (wpE (defs₀ (F := F)) Variants.none c none) Set.univ κ Q))
          ⊢ wp frame (wpE (defs₀ (F := F)) Variants.none c none) Set.univ (body3 (R := R) i
                _ harg2 _ harg3 _ harg4 _ harg5 _ harg6 _ harg7 _ harg8 _ harg9 _ harg10 _ harg11 _ harg12 _ harg13 v11 v20 κ) Q } := by
  refine ⟨⟨?_, ?_, ?_, ?_⟩, fun _ {R} κ Q => ?run⟩
  case run =>
    iintro ⟨HE, HS, Hk⟩
    ihave HE := (HSrc_open c harg4 harg5 harg9 e) $$ HE
    ihave HS := (HSt_open c harg10 harg11 harg12 harg13 s) $$ HS
    icases HE with ⟨E4, E5, E9⟩
    icases HS with ⟨H10, H11, H12, H13⟩
    unfold body3
    sl_exec
    iapply Hk
    isplitl [E4 E5 E9]
    · iapply (HSrc_back c harg4 harg5 harg9 e)
      iframe
    iapply (HSt_close c)
    isplitl [H10]; · iexact H10
    isplitl [H11]; · iexact H11
    isplitl [H12]; · iexact H12
    iexact H13

/-- The second key block on the diagonal. -/
def diag1 (v11 : FVec F S256x256 .bf16) (e : Src F) (s : St F) :
    { s' : St F // ∀ {R : Type} (κ : _) (Q : R → sProp 𝕄),
        iprop(HSrc c arg4 arg5 arg9 e ∗ HSt c arg10 arg11 arg12 arg13 s ∗
            ((HSrc c arg4 arg5 arg9 e ∗ HSt c arg10 arg11 arg12 arg13 s') -∗ wp frame (wpE (defs₀ (F := F)) Variants.none c none) Set.univ κ Q))
          ⊢ wp frame (wpE (defs₀ (F := F)) Variants.none c none) Set.univ (body4 (R := R) i
                _ harg2 _ harg3 _ harg4 _ harg5 _ harg6 _ harg7 _ harg8 _ harg9 _ harg10 _ harg11 _ harg12 _ harg13 v11 κ) Q } := by
  refine ⟨⟨?_, ?_, ?_, ?_⟩, fun {R} κ Q => ?run⟩
  case run =>
    iintro ⟨HE, HS, Hk⟩
    ihave HE := (HSrc_open c harg4 harg5 harg9 e) $$ HE
    ihave HS := (HSt_open c harg10 harg11 harg12 harg13 s) $$ HS
    icases HE with ⟨E4, E5, E9⟩
    icases HS with ⟨H10, H11, H12, H13⟩
    unfold body4
    sl_exec
    iapply Hk
    isplitl [E4 E5 E9]
    · iapply (HSrc_back c harg4 harg5 harg9 e)
      iframe
    iapply (HSt_close c)
    isplitl [H10]; · iexact H10
    isplitl [H11]; · iexact H11
    isplitl [H12]; · iexact H12
    iexact H13

/-- The first key block on the diagonal. -/
def diag0 (v11 : FVec F S256x256 .bf16) (e : Src F) (s : St F) :
    { s' : St F // ∀ (v20 : BitVec 32) {R : Type} (κ : _) (Q : R → sProp 𝕄),
        iprop(HSrc c arg4 arg5 arg9 e ∗ HSt c arg10 arg11 arg12 arg13 s ∗
            (∀ b1 b2 b3 b4, (HSrc c arg4 arg5 arg9 e ∗ HSt c arg10 arg11 arg12 arg13 s') -∗ wp frame (wpE (defs₀ (F := F)) Variants.none c none) Set.univ (κ b1 b2 b3 b4) Q))
          ⊢ wp frame (wpE (defs₀ (F := F)) Variants.none c none) Set.univ (body5 (R := R) i
                _ harg2 _ harg3 _ harg4 _ harg5 _ harg6 _ harg7 _ harg8 _ harg9 _ harg10 _ harg11 _ harg12 _ harg13 v11 v20 κ) Q } := by
  refine ⟨⟨?_, ?_, ?_, ?_⟩, fun _ {R} κ Q => ?run⟩
  case run =>
    iintro ⟨HE, HS, Hk⟩
    ihave HE := (HSrc_open c harg4 harg5 harg9 e) $$ HE
    ihave HS := (HSt_open c harg10 harg11 harg12 harg13 s) $$ HS
    icases HE with ⟨E4, E5, E9⟩
    icases HS with ⟨H10, H11, H12, H13⟩
    unfold body5
    sl_exec
    iapply Hk
    isplitl [E4 E5 E9]
    · iapply (HSrc_back c harg4 harg5 harg9 e)
      iframe
    iapply (HSt_close c)
    isplitl [H10]; · iexact H10
    isplitl [H11]; · iexact H11
    isplitl [H12]; · iexact H12
    iexact H13

end Cert.Proof.Sf

end
-- ==== Proof.SfHalf.lean ====
module

public import proofs.«01_k».proof.Proof.SfCut

/-!
  The runs over the two halves of a trip of the loop over whole key blocks.
-/

@[expose] public section

set_option maxRecDepth 65536
set_option maxHeartbeats 4000000

noncomputable section

namespace Cert.Proof.Sf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .bf16} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .f32} (harg10 : arg10.IsWhole)
  {arg11 : Memref sig .tc .vmem S1024x1 .f32} (harg11 : arg11.IsWhole)
  {arg12 : Memref sig .tc .vmem S2x1024x256 .f32} (harg12 : arg12.IsWhole)
  {arg13 : Memref sig .tc .vmem S1024x256 .bf16} (harg13 : arg13.IsWhole)

/-- The first half of a trip. -/
def half1 (v11 : FVec F S256x256 .bf16) (t : Fin (k0_t1_loop i).trips) (e : Src F) (s : St F) :
    { s' : St F // ∀ (v20 : BitVec 32) {R : Type} (κ : _) (Q : R → sProp 𝕄),
        iprop(HSrc c arg4 arg5 arg9 e ∗ HSt c arg10 arg11 arg12 arg13 s ∗
            ((HSrc c arg4 arg5 arg9 e ∗ HSt c arg10 arg11 arg12 arg13 s') -∗ wp frame (wpE (defs₀ (F := F)) Variants.none c none) Set.univ κ Q))
          ⊢ wp frame (wpE (defs₀ (F := F)) Variants.none c none) Set.univ (trip1 (R := R) i
                _ harg2 _ harg3 _ harg4 _ harg5 _ harg6 _ harg7 _ harg8 _ harg9 _ harg10 _ harg11 _ harg12 _ harg13 v11 v20 t κ) Q } := by
  refine ⟨⟨?_, ?_, ?_, ?_⟩, fun _ {R} κ Q => ?run⟩
  case run =>
    iintro ⟨HE, HS, Hk⟩
    ihave HE := (HSrc_open c harg4 harg5 harg9 e) $$ HE
    ihave HS := (HSt_open c harg10 harg11 harg12 harg13 s) $$ HS
    icases HE with ⟨E4, E5, E9⟩
    icases HS with ⟨H10, H11, H12, H13⟩
    unfold trip1
    sl_exec
    iapply Hk
    isplitl [E4 E5 E9]
    · iapply (HSrc_back c harg4 harg5 harg9 e)
      iframe
    iapply (HSt_close c)
    isplitl [H10]; · iexact H10
    isplitl [H11]; · iexact H11
    isplitl [H12]; · iexact H12
    iexact H13

/-- The second half of a trip. -/
def half2 (v11 : FVec F S256x256 .bf16) (t : Fin (k0_t1_loop i).trips) (e : Src F) (s : St F) :
    { s' : St F // ∀ {R : Type} (κ : _) (Q : R → sProp 𝕄),
        iprop(HSrc c arg4 arg5 arg9 e ∗ HSt c arg10 arg11 arg12 arg13 s ∗
            ((HSrc c arg4 arg5 arg9 e ∗ HSt c arg10 arg11 arg12 arg13 s') -∗ wp frame (wpE (defs₀ (F := F)) Variants.none c none) Set.univ κ Q))
          ⊢ wp frame (wpE (defs₀ (F := F)) Variants.none c none) Set.univ (trip2 (R := R) i
                _ harg2 _ harg3 _ harg4 _ harg5 _ harg6 _ harg7 _ harg8 _ harg9 _ harg10 _ harg11 _ harg12 _ harg13 v11 t κ) Q } := by
  refine ⟨⟨?_, ?_, ?_, ?_⟩, fun {R} κ Q => ?run⟩
  case run =>
    iintro ⟨HE, HS, Hk⟩
    ihave HE := (HSrc_open c harg4 harg5 harg9 e) $$ HE
    ihave HS := (HSt_open c harg10 harg11 harg12 harg13 s) $$ HS
    icases HE with ⟨E4, E5, E9⟩
    icases HS with ⟨H10, H11, H12, H13⟩
    unfold trip2
    sl_exec
    iapply Hk
    isplitl [E4 E5 E9]
    · iapply (HSrc_back c harg4 harg5 harg9 e)
      iframe
    iapply (HSt_close c)
    isplitl [H10]; · iexact H10
    isplitl [H11]; · iexact H11
    isplitl [H12]; · iexact H12
    iexact H13

end Cert.Proof.Sf

end
-- ==== Proof.SfEnds.lean ====
module

public import proofs.«01_k».proof.Proof.SfCut

/-!
  The opening and the end of the body.
-/

@[expose] public section

set_option maxRecDepth 65536
set_option maxHeartbeats 4000000

noncomputable section

namespace Cert.Proof.Sf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  {arg2 : Memref sig .tc .vmem S1024x128 .f32} (harg2 : arg2.IsWhole)
  {arg3 : Memref sig .tc .vmem S1024x128 .f32} (harg3 : arg3.IsWhole)
  {arg4 : Memref sig .tc .vmem S8192x128 .bf16} (harg4 : arg4.IsWhole)
  {arg5 : Memref sig .tc .vmem S8192x128 .bf16} (harg5 : arg5.IsWhole)
  {arg6 : Memref sig .tc .vmem S1024x128 .bf16} (harg6 : arg6.IsWhole)
  {arg7 : Memref sig .tc .vmem S1024x128 .f32} (harg7 : arg7.IsWhole)
  {arg8 : Memref sig .tc .vmem S1024x128 .f32} (harg8 : arg8.IsWhole)
  {arg9 : Memref sig .tc .vmem S1024x128 .bf16} (harg9 : arg9.IsWhole)
  {arg10 : Memref sig .tc .vmem S1024x128 .f32} (harg10 : arg10.IsWhole)
  {arg11 : Memref sig .tc .vmem S1024x1 .f32} (harg11 : arg11.IsWhole)
  {arg12 : Memref sig .tc .vmem S2x1024x256 .f32} (harg12 : arg12.IsWhole)
  {arg13 : Memref sig .tc .vmem S1024x256 .bf16} (harg13 : arg13.IsWhole)

/-- The opening: the queries cast, the accumulators at zero, the logits of the last key block. -/
def opening (p : Inp F) (e : Src F) (s : St F) :
    { r : Src F × St F // ∀ {R : Type} (κ : _) (Q : R → sProp 𝕄),
        iprop(HIn c arg2 arg3 p ∗ HSrc c arg4 arg5 arg9 e ∗ HSt c arg10 arg11 arg12 arg13 s ∗
            (∀ b, (HIn c arg2 arg3 p ∗ HSrc c arg4 arg5 arg9 r.1 ∗ HSt c arg10 arg11 arg12 arg13 r.2) -∗ wp frame (wpE (defs₀ (F := F)) Variants.none c none) Set.univ (κ (k0_pay102 (F := F)) b) Q))
          ⊢ wp frame (wpE (defs₀ (F := F)) Variants.none c none) Set.univ (body1 (R := R) i
                _ harg2 _ harg3 _ harg4 _ harg5 _ harg6 _ harg7 _ harg8 _ harg9 _ harg10 _ harg11 _ harg12 _ harg13 κ) Q } := by
  refine ⟨⟨⟨?_, ?_, ?_⟩, ⟨?_, ?_, ?_, ?_⟩⟩, fun {R} κ Q => ?run⟩
  case run =>
    dsimp only
    iintro ⟨HI, HE, HS, Hk⟩
    ihave HI := (HIn_open c harg2 harg3 p) $$ HI
    icases HI with ⟨I2, I3⟩
    ihave HE := (HSrc_open c harg4 harg5 harg9 e) $$ HE
    ihave HS := (HSt_open c harg10 harg11 harg12 harg13 s) $$ HS
    icases HE with ⟨E4, E5, E9⟩
    icases HS with ⟨H10, H11, H12, H13⟩
    unfold body1
    sl_exec
    iapply Hk
    isplitl [I2 I3]
    · iapply (HIn_back c harg2 harg3 p)
      iframe
    isplitl [E4 E5 E9]
    · iapply (HSrc_close c)
      isplitl [E4]; · iexact E4
      isplitl [E5]; · iexact E5
      iexact E9
    iapply (HSt_close c)
    isplitl [H10]; · iexact H10
    isplitl [H11]; · iexact H11
    isplitl [H12]; · iexact H12
    iexact H13

/-- The end: the last weights applied, the three results written. -/
def closing (p : Inp F) (e : Src F) (s : St F) (r : Out F) :
    { x : Out F × St F // ∀ {R : Type} (κ : _) (Q : R → sProp 𝕄),
        iprop(HIn c arg2 arg3 p ∗ HSrc c arg4 arg5 arg9 e ∗ HSt c arg10 arg11 arg12 arg13 s ∗ HOut c arg6 arg7 arg8 r ∗
            ((HIn c arg2 arg3 p ∗ HSrc c arg4 arg5 arg9 e ∗ HSt c arg10 arg11 arg12 arg13 x.2 ∗ HOut c arg6 arg7 arg8 x.1) -∗ wp frame (wpE (defs₀ (F := F)) Variants.none c none) Set.univ κ Q))
          ⊢ wp frame (wpE (defs₀ (F := F)) Variants.none c none) Set.univ (body7 (R := R) arg3 arg5 arg6 harg6 arg7 arg8 arg10 arg11 arg13 κ) Q } := by
  refine ⟨⟨⟨?_, ?_, ?_⟩, ⟨?_, ?_, ?_, ?_⟩⟩, fun {R} κ Q => ?run⟩
  case run =>
    dsimp only
    iintro ⟨HI, HE, HS, HO, Hk⟩
    ihave HI := (HIn_open c harg2 harg3 p) $$ HI
    icases HI with ⟨I2, I3⟩
    ihave HO := (HOut_open c harg6 harg7 harg8 r) $$ HO
    icases HO with ⟨O6, O7, O8⟩
    ihave HE := (HSrc_open c harg4 harg5 harg9 e) $$ HE
    ihave HS := (HSt_open c harg10 harg11 harg12 harg13 s) $$ HS
    icases HE with ⟨E4, E5, E9⟩
    icases HS with ⟨H10, H11, H12, H13⟩
    unfold body7
    sl_exec
    iapply Hk
    isplitl [I2 I3]
    · iapply (HIn_back c harg2 harg3 p)
      iframe
    isplitl [E4 E5 E9]
    · iapply (HSrc_back c harg4 harg5 harg9 e)
      iframe
    isplitl [H10 H11 H12 H13]
    · iapply (HSt_close c)
      isplitl [H10]; · iexact H10
      isplitl [H11]; · iexact H11
      isplitl [H12]; · iexact H12
      iexact H13
    iapply (HOut_close c)
    isplitl [O6]; · iexact O6
    isplitl [O7]; · iexact O7
    iexact O8

end Cert.Proof.Sf

end
-- ==== Proof.SfBody.lean ====
module

public import proofs.«01_k».proof.Proof.SfDiag
public import proofs.«01_k».proof.Proof.SfHalf
public import proofs.«01_k».proof.Proof.SfEnds

/-!
  The body of the forward kernel as one run: the opening, the four key blocks on the diagonal, the loop, the end.  The buffers of a
  grid point are kept in one record from here on.
-/

@[expose] public section

set_option maxRecDepth 65536
set_option maxHeartbeats 4000000

noncomputable section

namespace Cert.Proof.Sf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The memories of a grid point, each a whole buffer. -/
structure Mems where
  a2 : Memref sig .tc .vmem S1024x128 .f32
  a3 : Memref sig .tc .vmem S1024x128 .f32
  a4 : Memref sig .tc .vmem S8192x128 .bf16
  a5 : Memref sig .tc .vmem S8192x128 .bf16
  a6 : Memref sig .tc .vmem S1024x128 .bf16
  a7 : Memref sig .tc .vmem S1024x128 .f32
  a8 : Memref sig .tc .vmem S1024x128 .f32
  a9 : Memref sig .tc .vmem S1024x128 .bf16
  a10 : Memref sig .tc .vmem S1024x128 .f32
  a11 : Memref sig .tc .vmem S1024x1 .f32
  a12 : Memref sig .tc .vmem S2x1024x256 .f32
  a13 : Memref sig .tc .vmem S1024x256 .bf16
  h2 : a2.IsWhole
  h3 : a3.IsWhole
  h4 : a4.IsWhole
  h5 : a5.IsWhole
  h6 : a6.IsWhole
  h7 : a7.IsWhole
  h8 : a8.IsWhole
  h9 : a9.IsWhole
  h10 : a10.IsWhole
  h11 : a11.IsWhole
  h12 : a12.IsWhole
  h13 : a13.IsWhole

namespace Mems

variable (M : Mems) (c : Dev nD) (i : grid0.Coords)

/-- What the stretches read, held at `e`; a state, held at `s`; the inputs and the results. -/
abbrev src (e : Src F) : sProp 𝕄 := HSrc c M.a4 M.a5 M.a9 e
abbrev st (s : St F) : sProp 𝕄 := HSt c M.a10 M.a11 M.a12 M.a13 s
abbrev inp (p : Inp F) : sProp 𝕄 := HIn c M.a2 M.a3 p
abbrev out (r : Out F) : sProp 𝕄 := HOut c M.a6 M.a7 M.a8 r

/-- The states after the opening, after each key block on the diagonal and after half trips. -/
def start (p : Inp F) (e : Src F) (s : St F) : Src F × St F := (opening c i M.h2 M.h3 M.h4 M.h5 M.h6 M.h7 M.h8 M.h9 M.h10 M.h11 M.h12 M.h13 p e s).1
def d3 (e : Src F) (s : St F) : St F := (diag3 c i M.h4 M.h5 M.h9 M.h10 M.h11 M.h12 M.h13 (k0_pay102 (F := F)) e s).1
def d2 (e : Src F) (s : St F) : St F := (diag2 c i M.h2 M.h3 M.h4 M.h5 M.h6 M.h7 M.h8 M.h9 M.h10 M.h11 M.h12 M.h13 (k0_pay102 (F := F)) e s).1
def d1 (e : Src F) (s : St F) : St F := (diag1 c i M.h2 M.h3 M.h4 M.h5 M.h6 M.h7 M.h8 M.h9 M.h10 M.h11 M.h12 M.h13 (k0_pay102 (F := F)) e s).1
def d0 (e : Src F) (s : St F) : St F := (diag0 c i M.h2 M.h3 M.h4 M.h5 M.h6 M.h7 M.h8 M.h9 M.h10 M.h11 M.h12 M.h13 (k0_pay102 (F := F)) e s).1
def t1 (e : Src F) (t : Fin (k0_t1_loop i).trips) (s : St F) : St F := (half1 c i M.h2 M.h3 M.h4 M.h5 M.h6 M.h7 M.h8 M.h9 M.h10 M.h11 M.h12 M.h13 (k0_pay102 (F := F)) t e s).1
def t2 (e : Src F) (t : Fin (k0_t1_loop i).trips) (s : St F) : St F := (half2 c i M.h2 M.h3 M.h4 M.h5 M.h6 M.h7 M.h8 M.h9 M.h10 M.h11 M.h12 M.h13 (k0_pay102 (F := F)) t e s).1

/-- The state after `k` trips of the loop. -/
def loop (e : Src F) (s : St F) : ℕ → St F
  | 0 => s
  | k + 1 => if h : k < (k0_t1_loop i).trips then M.t2 c i e ⟨k, h⟩ (M.t1 c i e ⟨k, h⟩ (loop e s k)) else loop e s k

theorem trips1 (i : grid0.Coords) : (k0_t1_loop i).trips = 2 * (i 1).val :=
  (by decide +kernel : ∀ i : grid0.Coords, (k0_t1_loop i).trips = 2 * (i 1).val) i

theorem trips2 (i : grid0.Coords) : (k0_t2_loop i).trips = 0 :=
  (by decide +kernel : ∀ i : grid0.Coords, (k0_t2_loop i).trips = 0) i

/-- The state before the end. -/
def walk (e : Src F) (s : St F) : St F :=
  M.loop c i e (M.d0 c i e (M.d1 c i e (M.d2 c i e (M.d3 c i e s)))) (k0_t1_loop i).trips

/-- A trip runs from a state to the one after its halves. -/
theorem trip_run (v20 c2 v491 v493 : BitVec 32) (v494 : BitVec 1) (e : Src F) (t : Fin (k0_t1_loop i).trips) (s : St F) (u : PUnit) :
    iprop(M.src c e ∗ M.st c s)
      ⊢ wp frame (wpE (defs₀ (F := F)) Variants.none c none) Set.univ (k0_t1_body (F := F) i M.a2 M.h2 M.a3 M.h3 M.a4 M.h4 M.a5 M.h5 M.a6 M.h6 M.a7 M.h7 M.a8 M.h8 M.a9 M.h9 M.a10 M.h10 M.a11 M.h11 M.a12 M.h12 M.a13 M.h13 (k0_pay102 (F := F)) v20 c2 v491 v493 v494 t u)
          fun _ => iprop(M.src c e ∗ M.st c (M.t2 c i e t (M.t1 c i e t s))) := by
  iintro ⟨HE, HS⟩
  rw [flatTrip.eq, trip1.eq]
  iapply (half1 c i M.h2 M.h3 M.h4 M.h5 M.h6 M.h7 M.h8 M.h9 M.h10 M.h11 M.h12 M.h13 (k0_pay102 (F := F)) t e s).2
  isplitl [HE]; · iexact HE
  isplitl [HS]; · iexact HS
  iintro ⟨HE, HS⟩
  rw [trip2.eq]
  iapply (half2 c i M.h2 M.h3 M.h4 M.h5 M.h6 M.h7 M.h8 M.h9 M.h10 M.h11 M.h12 M.h13 (k0_pay102 (F := F)) t e _).2
  isplitl [HE]; · iexact HE
  isplitl [HS]; · iexact HS
  iintro ⟨HE, HS⟩
  unfold trip2.tail
  rw [wp_pure]
  imodintro
  isplitl [HE]; · iexact HE
  unfold t2 t1
  iexact HS

/-- The loop runs through its trips; the loop for a remainder has no trip. -/
theorem loops (v20 c2 v491 v493 : BitVec 32) (v494 : BitVec 1) (e : Src F) (s : St F) {R : Type} (κ : _) (Q : R → sProp 𝕄) :
    iprop(M.src c e ∗ M.st c s ∗ ((M.src c e ∗ M.st c (M.loop c i e s (k0_t1_loop i).trips)) -∗ wp frame (wpE (defs₀ (F := F)) Variants.none c none) Set.univ κ Q))
      ⊢ wp frame (wpE (defs₀ (F := F)) Variants.none c none) Set.univ (body6 (R := R) i M.a2 M.h2 M.a3 M.h3 M.a4 M.h4 M.a5 M.h5 M.a6 M.h6 M.a7 M.h7 M.a8 M.h8 M.a9 M.h9 M.a10 M.h10 M.a11 M.h11 M.a12 M.h12 M.a13 M.h13 (k0_pay102 (F := F)) v20 c2 v491 v493 v494 κ) Q := by
  iintro ⟨HE, HS, Hk⟩
  unfold body6
  sl_for (fun k _ => iprop(M.src c e ∗ M.st c (M.loop c i e s k))) $$ [HE HS]
  · intro k acc
    have h := M.trip_run c i v20 c2 v491 v493 v494 e k (M.loop c i e s k.val) acc
    have hl : M.loop c i e s (k.val + 1) = M.t2 c i e k (M.t1 c i e k (M.loop c i e s k.val)) := by
      rw [loop, dif_pos k.isLt]
    rw [hl]
    exact h
  · isplitl [HE]; · iexact HE
    iexact HS
  iintro %u ⟨HE, HS⟩
  sl_for0 (trips2 i)
  iapply Hk
  isplitl [HE]; · iexact HE
  iexact HS

/-- What the end leaves. -/
def finish (p : Inp F) (e : Src F) (s : St F) (r : Out F) : Out F × St F := (closing c M.h2 M.h3 M.h4 M.h5 M.h6 M.h7 M.h8 M.h9 M.h10 M.h11 M.h12 M.h13 p e s r).1

/-- The results of the body. -/
def res (p : Inp F) (e : Src F) (s : St F) (r : Out F) : Out F × St F :=
  M.finish c p (M.start c i p e s).1 (M.walk c i (M.start c i p e s).1 (M.start c i p e s).2) r

/-- The body's run. -/
theorem body_run (p : Inp F) (e : Src F) (s : St F) (r : Out F) (Q : PUnit → sProp 𝕄) :
    iprop(M.inp c p ∗ M.src c e ∗ M.st c s ∗ M.out c r ∗
        ((M.inp c p ∗ M.src c (M.start c i p e s).1 ∗ M.st c (M.res c i p e s r).2 ∗ M.out c (M.res c i p e s r).1) -∗ Q ⟨⟩))
      ⊢ wp frame (wpE (defs₀ (F := F)) Variants.none c none) Set.univ (cc0_sb_fwd (F := F) i M.a2 M.h2 M.a3 M.h3 M.a4 M.h4 M.a5 M.h5 M.a6 M.h6 M.a7 M.h7 M.a8 M.h8 M.a9 M.h9 M.a10 M.h10 M.a11 M.h11 M.a12 M.h12 M.a13 M.h13) Q := by
  iintro ⟨HI, HE, HS, HO, Hk⟩
  rw [cc0_sb_fwd_eq_skeleton, flat.eq, body1.eq]
  iapply (opening c i M.h2 M.h3 M.h4 M.h5 M.h6 M.h7 M.h8 M.h9 M.h10 M.h11 M.h12 M.h13 p e s).2
  isplitl [HI]; · iexact HI
  isplitl [HE]; · iexact HE
  isplitl [HS]; · iexact HS
  iintro %b ⟨HI, HE, HS⟩
  rw [body2.eq]
  iapply (diag3 c i M.h4 M.h5 M.h9 M.h10 M.h11 M.h12 M.h13 _ _ _).2
  isplitl [HE]; · iexact HE
  isplitl [HS]; · iexact HS
  iintro ⟨HE, HS⟩
  rw [body3.eq]
  iapply (diag2 c i M.h2 M.h3 M.h4 M.h5 M.h6 M.h7 M.h8 M.h9 M.h10 M.h11 M.h12 M.h13 _ _ _).2
  isplitl [HE]; · iexact HE
  isplitl [HS]; · iexact HS
  iintro ⟨HE, HS⟩
  rw [body4.eq]
  iapply (diag1 c i M.h2 M.h3 M.h4 M.h5 M.h6 M.h7 M.h8 M.h9 M.h10 M.h11 M.h12 M.h13 _ _ _).2
  isplitl [HE]; · iexact HE
  isplitl [HS]; · iexact HS
  iintro ⟨HE, HS⟩
  rw [body5.eq]
  iapply (diag0 c i M.h2 M.h3 M.h4 M.h5 M.h6 M.h7 M.h8 M.h9 M.h10 M.h11 M.h12 M.h13 _ _ _).2
  isplitl [HE]; · iexact HE
  isplitl [HS]; · iexact HS
  iintro %b1 %b2 %b3 %b4 ⟨HE, HS⟩
  rw [body6.eq]
  iapply (M.loops c i)
  isplitl [HE]; · iexact HE
  isplitl [HS]; · iexact HS
  iintro ⟨HE, HS⟩
  rw [body7.eq]
  iapply (closing c M.h2 M.h3 M.h4 M.h5 M.h6 M.h7 M.h8 M.h9 M.h10 M.h11 M.h12 M.h13 p _ _ r).2
  isplitl [HI]; · iexact HI
  isplitl [HE]; · iexact HE
  isplitl [HS]; · iexact HS
  isplitl [HO]; · iexact HO
  iintro ⟨HI, HE, HS, HO⟩
  unfold body7.tail
  rw [wp_pure]
  imodintro
  iapply Hk
  unfold res finish walk start d0 d1 d2 d3
  isplitl [HI]; · iexact HI
  isplitl [HE]; · iexact HE
  isplitl [HS]; · iexact HS
  iexact HO

end Mems

end Cert.Proof.Sf

end
-- ==== Proof.SfGroup.lean ====
module

public import proofs.«01_k».proof.Proof.SbGroup
public import proofs.«01_k».proof.Proof.SfBody

/-!
  One group of 256 rows of a key block in the forward pass: the weights, the running sum of the soft thresholds, and what the groups of
  a stretch leave in the two buffers that take them.
-/

@[expose] public section

set_option maxRecDepth 65536
set_option maxHeartbeats 4000000

noncomputable section

namespace Cert.Proof.Sf

open Cert.Kernel5Ideal Cert.Kernel5Ideal.Gen
open Cert.Proof.Sb (Grp before square soft sums rowsFrom rdSlot rdCol colAfter rowsAfter)
open Idealize.ShloMosaic Idealize.ShloMosaic.TcCoe Idealize.ShloMosaic.Tactic

variable {F : FTy → Type} [FloatOps F]

/-- The first column of a group's running sums: the sum over the block. -/
def firstCol (x : FVec F S256x256 .f32) : FVec F S256x1 .f32 := extractStridedSlice S256x1 ![0, 0] x slices_S256x256_o0_0_S256x1

/-- The weights. -/
def weights (v11 : FVec F S256x256 .bf16) (m : Bool) (z : Vec F S1x256x256 .f32) (ru : Vec F S256x1 .f32) : FVec F S256x256 .f32 :=
  before m (exp (subf (subf (square z) (sums v11 (soft m z))) (broadcastTo S256x256 ru broadcasts_S256x1_S256x256)))

/-- The running sum after the group. -/
def runNext (v11 : FVec F S256x256 .bf16) (m : Bool) (z : Vec F S1x256x256 .f32) (ru : Vec F S256x1 .f32) : FVec F S256x1 .f32 :=
  shapeCast S256x1 (addf ru (firstCol (sums v11 (soft m z)))) shapeCasts_S256x1_S256x1

/-- The rounded weights. -/
def weightsOut (v11 : FVec F S256x256 .bf16) (m : Bool) (z : Vec F S1x256x256 .f32) (ru : Vec F S256x1 .f32) : FVec F S256x256 .bf16 :=
  shapeCast S256x256 (truncf .bf16 (weights v11 m z ru) bitsLt_bf16_f32) shapeCasts_S256x256_S256x256

/-- What the groups' part of a stretch leaves: the running sums and the rounded weights. -/
structure Part (F : FTy → Type) where
  run : Vec F S1024x1 .f32
  wp : Vec F S1024x256 .bf16

/-- That part of a state. -/
def St.part (s : St F) : Part F := ⟨s.run, s.wp⟩

namespace Mems

variable (M : Mems) (c : Dev nD) (i : grid0.Coords)

/-- The groups from `u` on of a stretch that reads its logits from a slot. -/
def groups (v11 : FVec F S256x256 .bf16) (slot : Fin 2) (u : Fin 4) (m : Bool) (s : St F) : Part F where
  run := colAfter M.h11 s.run (rowsFrom m u) fun p => runNext v11 p.m (rdSlot M.h12 slot s.z p.g) (rdCol M.h11 s.run p.g)
  wp := rowsAfter M.h13 s.wp (rowsFrom m u) fun p => weightsOut v11 p.m (rdSlot M.h12 slot s.z p.g) (rdCol M.h11 s.run p.g)

theorem d3_groups (v11 : FVec F S256x256 .bf16) (e : Src F) (s : St F) :
    (diag3 c i M.h4 M.h5 M.h9 M.h10 M.h11 M.h12 M.h13 v11 e s).1.part = M.groups v11 0 3 true s := by
  sl_kernel_rfl

theorem d2_groups (v11 : FVec F S256x256 .bf16) (e : Src F) (s : St F) :
    (diag2 c i M.h2 M.h3 M.h4 M.h5 M.h6 M.h7 M.h8 M.h9 M.h10 M.h11 M.h12 M.h13 v11 e s).1.part = M.groups v11 1 2 true s := by
  sl_kernel_rfl

theorem d1_groups (v11 : FVec F S256x256 .bf16) (e : Src F) (s : St F) :
    (diag1 c i M.h2 M.h3 M.h4 M.h5 M.h6 M.h7 M.h8 M.h9 M.h10 M.h11 M.h12 M.h13 v11 e s).1.part = M.groups v11 0 1 true s := by
  sl_kernel_rfl

theorem d0_groups (v11 : FVec F S256x256 .bf16) (e : Src F) (s : St F) :
    (diag0 c i M.h2 M.h3 M.h4 M.h5 M.h6 M.h7 M.h8 M.h9 M.h10 M.h11 M.h12 M.h13 v11 e s).1.part = M.groups v11 1 0 true s := by
  sl_kernel_rfl

theorem t1_groups (v11 : FVec F S256x256 .bf16) (t : Fin (k0_t1_loop i).trips) (e : Src F) (s : St F) :
    (half1 c i M.h2 M.h3 M.h4 M.h5 M.h6 M.h7 M.h8 M.h9 M.h10 M.h11 M.h12 M.h13 v11 t e s).1.part = M.groups v11 0 0 false s := by
  sl_kernel_rfl

theorem t2_groups (v11 : FVec F S256x256 .bf16) (t : Fin (k0_t1_loop i).trips) (e : Src F) (s : St F) :
    (half2 c i M.h2 M.h3 M.h4 M.h5 M.h6 M.h7 M.h8 M.h9 M.h10 M.h11 M.h12 M.h13 v11 t e s).1.part = M.groups v11 1 0 false s := by
  sl_kernel_rfl

end Mems

end Cert.Proof.Sf

end
-- ==== Proof.SfInv.lean ====
module

public import proofs.«01_k».proof.Proof.SbInv
public import proofs.«01_k».proof.Proof.SfGroup

/-!
  The forward walk of a row block over the key blocks, from the last one down, as real functions: what is true when the blocks from `k`
  on are done, and that a stretch which works as `groups` says and applies the stored weights of the block before takes it one block
  further down.
-/

@[expose] public section

noncomputable section

namespace Cert.Proof.Sf

open Cert.Kernel5Ideal Cert.Kernel5Ideal.Gen Cert.Reals
open Cert.Proof.Sb (Blk Grp On spR softR before square soft sums rowsFrom rdSlot rdCol colAfter rowsAfter row exists_row square_at before_at soft_at rdSlot_at
  rdCol_at colAfter_at rowsAfter_at)
open Cert.Proof.Sb.Blk (gz on_iff g_sp g_sum block_sum SP_off W_off)
open Idealize.ShloMosaic Idealize.ShloMosaic.TcCoe
open Idealize.ShloMosaic.Pointwise
open scoped BigOperators

/-! ## The operations at an index -/

theorem tri_at (r j : Fin 256) : k0_pay102 (F := Ideal) (ix2 r j) = (((if j.val ≤ r.val then 1 else 0 : ℝ)) : EReal) := by
  pointwise [k0_pay102]
  rw [WordCmp.cmpi_sge_ofNat (by omega) (by omega), WordCmp.select_ofBool]
  by_cases h : j.val ≤ r.val <;> simp [h]

theorem first_at (x : FVec Ideal S256x256 .f32) (r : Fin 256) : firstCol x (ix2 r 0) = x (ix2 r 0) := by
  pointwise [firstCol]

theorem sums_at (x : FVec Ideal S256x256 .f32) (y : ℕ → ℕ → ℝ) (h : ∀ r j : Fin 256, x (ix2 r j) = (y r j : EReal)) (r j : Fin 256) :
    sums (k0_pay102 (F := Ideal)) x (ix2 r j) = ((∑ b ∈ Finset.range 256, y r b - ∑ b ∈ Finset.range j, y r b : ℝ) : EReal) := by
  pointwise [sums]
  have h1 : ∀ b : Fin 256, x (ix2 r b) * k0_pay102 (F := Ideal) (ix2 b j)
      = ((y r b - (if b.val ∈ Finset.range j.val then y r b else 0) : ℝ) : EReal) := fun b => by
    rw [h, tri_at, ← EReal.coe_mul, mul_ite, mul_one, mul_zero]
    congr 1
    by_cases hb : b.val < j.val
    · rw [if_neg (by omega), if_pos (Finset.mem_range.mpr hb), sub_self]
    · rw [if_pos (by omega), if_neg (by simpa using hb), sub_zero]
  have h2 : ∀ b : Fin 256, (x (ix2 r b) - x (ix2 r b)) * k0_pay102 (F := Ideal) (ix2 b j) = ((0 : ℝ) : EReal) := fun b => by
    rw [h, tri_at, ← EReal.coe_sub, sub_self, ← EReal.coe_mul, zero_mul]
  rw [Finset.sum_congr rfl fun b _ => h1 b, Finset.sum_congr rfl fun b _ => h2 b, sum_coe, sum_coe, Finset.sum_const_zero, ← EReal.coe_add, add_zero,
    Finset.sum_sub_distrib, Fin.sum_univ_eq_sum_range (fun b => y r b) 256,
    Fin.sum_univ_eq_sum_range (fun b => if b ∈ Finset.range j.val then y r b else 0) 256, Finset.sum_ite_mem,
    Finset.inter_eq_right.mpr fun b hb => Finset.mem_range.mpr (lt_trans (Finset.mem_range.mp hb) j.isLt)]

section

variable (m : Bool) (z : Vec Ideal S1x256x256 .f32) (ru : Vec Ideal S256x1 .f32) (ζ : ℕ → ℕ → ℝ) (ρ : ℕ → ℝ)
  (hz : ∀ r j : Fin 256, z (ix3 0 r j) = (ζ r j : EReal)) (hr : ∀ r : Fin 256, ru (ix2 r 0) = (ρ r : EReal))

local notation "tri" => k0_pay102 (F := Ideal)

include hz hr in
theorem weightsOut_at (r j : Fin 256) : weightsOut tri m z ru (ix2 r j)
    = ((if On m r j then Real.exp (ζ r j - (∑ b ∈ Finset.range 256, spR m ζ r b - ∑ b ∈ Finset.range j, spR m ζ r b) - ρ r) else 0 : ℝ) : EReal) := by
  have : ∀ r j : Fin 256, exp (subf (subf (square z) (sums tri (soft m z))) (broadcastTo S256x256 ru broadcasts_S256x1_S256x256)) (ix2 r j)
      = ((Real.exp (ζ r j - (∑ b ∈ Finset.range 256, spR m ζ r b - ∑ b ∈ Finset.range j, spR m ζ r b) - ρ r) : ℝ) : EReal) := fun r j => by
    pointwise []
    rw [square_at, hz, sums_at _ _ (soft_at m z ζ hz), hr, ← EReal.coe_sub, ← EReal.coe_sub, Ideal.exp_coe]
  pointwise [weightsOut, weights]
  exact before_at m _ (fun r j => Real.exp (ζ r j - (∑ b ∈ Finset.range 256, spR m ζ r b - ∑ b ∈ Finset.range j, spR m ζ r b) - ρ r)) this r j

include hz hr in
theorem runNext_at (r : Fin 256) : runNext tri m z ru (ix2 r 0) = ((ρ r + ∑ b ∈ Finset.range 256, spR m ζ r b : ℝ) : EReal) := by
  pointwise [runNext]
  rw [first_at, sums_at _ _ (soft_at m z ζ hz) r 0, hr]
  show _ + ((_ - ∑ b ∈ Finset.range 0, _ : ℝ) : EReal) = _
  rw [Finset.sum_range_zero, sub_zero, ← EReal.coe_add]

end

/-! ## What is true when the blocks from `k` on are done -/

variable (B : Blk)

/-- What the stretches read is the row block's. -/
structure Held (e : Src Ideal) : Prop where
  k : ∀ (j : Fin 8192) c, e.k (ix2 j c) = (B.K j c : EReal)
  v : ∀ (j : Fin 8192) c, e.v (ix2 j c) = (B.V j c : EReal)
  q : ∀ (R : Fin 1024) c, e.q (ix2 R c) = (B.Q R c : EReal)

/-- Each row's sum of log keeps is that of the keys up to the block's last row. -/
def Total : Prop := ∀ R < 1024, B.TL R = ∑ j ∈ Finset.range (256 * (4 * B.qi + 4)), B.SP R j

/-- The part of the output that the keys from block `k` on give. -/
def top (k R : ℕ) (c : Fin 128) : ℝ :=
  ∑ j ∈ Finset.range (256 * (4 * B.qi + 4)), B.W R j * B.V j c - ∑ j ∈ Finset.range (256 * k), B.W R j * B.V j c

/-- The blocks from `k` on are done, the weights of block `k` are stored and those above it applied. -/
structure Inv (k : ℕ) (s : St Ideal) : Prop where
  run : ∀ R : Fin 1024, s.run (ix2 R 0) = ((B.TL R - ∑ j ∈ Finset.range (256 * k), B.SP R j : ℝ) : EReal)
  acc : ∀ (R : Fin 1024) c, s.acc (ix2 R c) = (top B (k + 1) R c : EReal)
  wp : k < 4 * B.qi + 4 → ∀ (R : Fin 1024) (j : Fin 256), 256 * (k - 4 * B.qi) ≤ R.val → s.wp (ix2 R j) = (B.W R (256 * k + j) : EReal)

/-- The logits of key block `k` are in a slot. -/
def Ready (k : ℕ) (slot : Fin 2) (s : St Ideal) : Prop :=
  ∀ (R : Fin 1024) (j : Fin 256), 256 * (k - 4 * B.qi) ≤ R.val → s.z (ix3 slot R j) = (B.Z R (256 * k + j) : EReal)

/-- The weight by the sum over the keys up to this one. -/
theorem W_eq {R j : ℕ} (h : j < 1024 * B.qi + R) : B.W R j = Real.exp (B.Z R j - B.TL R + ∑ b ∈ Finset.range j, B.SP R b) := by
  rw [Blk.W, if_pos h, Finset.sum_range_succ, Blk.SP, if_pos h]
  congr 1
  ring

/-- One more block of weights. -/
theorem top_next {k lo R : ℕ} (c : Fin 128) (hlo : lo = 256 * (k - 4 * B.qi)) (hR : R < 1024) :
    top B (k + 1) R c + (if lo ≤ R then ∑ j ∈ Finset.range 256, B.W R (256 * k + j) * B.V (256 * k + j) c else 0) = top B k R c := by
  unfold top
  rw [block_sum _ k]
  split_ifs with h
  · ring
  · rw [Finset.sum_eq_zero (s := Finset.range 256) fun j _ => by rw [W_off B (by omega), zero_mul]]
    ring

theorem top_all (R : ℕ) (c : Fin 128) : top B 0 R c = ∑ j ∈ Finset.range (256 * (4 * B.qi + 4)), B.W R j * B.V j c := by
  rw [top, Nat.mul_zero, Finset.sum_range_zero, sub_zero]

theorem top_start {R : ℕ} (hR : R < 1024) (c : Fin 128) : top B (4 * B.qi + 4 + 1) R c = 0 := by
  rw [top, block_sum _ (4 * B.qi + 4), Finset.sum_eq_zero (s := Finset.range 256) fun j _ => by rw [W_off B (by omega), zero_mul]]
  ring

/-- The group's running sums before block `k`. -/
def gru (k : ℕ) (g : Fin 4) (r : ℕ) : ℝ := B.TL (256 * g.val + r) - ∑ j ∈ Finset.range (256 * (k + 1)), B.SP (256 * g.val + r) j

section Next

variable (M : Mems)

/-- One more key block, once the weights of the block above are applied. -/
theorem next {k : ℕ} {slot : Fin 2} {u : Fin 4} {m : Bool} {s s' : St Ideal} (hI : Inv B (k + 1) s) (hR : Ready B k slot s)
    (hk : k < 4 * B.qi + 4) (hu : u.val = k - 4 * B.qi) (hm : m = decide (4 * B.qi ≤ k))
    (hp : s'.part = M.groups (k0_pay102 (F := Ideal)) slot u m s)
    (hacc : ∀ (R : Fin 1024) c, s'.acc (ix2 R c) = (top B (k + 1) R c : EReal)) :
    Inv B k s' := by
  have hz : ∀ g : Fin 4, u ≤ g → ∀ r j : Fin 256, rdSlot M.h12 slot s.z g (ix3 0 r j) = (gz B k g r j : EReal) := fun g hg r j => by
    have hg' : u.val ≤ g.val := hg
    rw [rdSlot_at, hR (row g r) j (by rw [← hu]; show _ ≤ 256 * g.val + r.val; omega)]; rfl
  have hr : ∀ (g : Fin 4) (r : Fin 256), rdCol M.h11 s.run g (ix2 r 0) = (gru B k g r : EReal) := fun g r => by rw [rdCol_at, hI.run]; rfl
  have hoff : ∀ (g : Fin 4) (r : Fin 256), ¬ u ≤ g → ∀ j, ¬ 256 * k + j < 1024 * B.qi + (row g r).val := fun g r hg j => by
    have hg' : ¬ u.val ≤ g.val := hg
    show ¬ 256 * k + j < 1024 * B.qi + (256 * g.val + r.val)
    omega
  have hr' : s'.run = (M.groups (k0_pay102 (F := Ideal)) slot u m s).run := congrArg Part.run hp
  have hw' : s'.wp = (M.groups (k0_pay102 (F := Ideal)) slot u m s).wp := congrArg Part.wp hp
  refine ⟨fun R => ?_, hacc, fun _ R j h => ?_⟩
  · obtain ⟨g, r, rfl⟩ := exists_row R
    rw [hr', Mems.groups]
    refine (colAfter_at M.h11 _ m u _ g r).trans ?_
    by_cases hg : u ≤ g
    · rw [if_pos hg, runNext_at _ _ _ _ _ (hz g hg) (hr g), g_sum B hk hu hm hg r.isLt le_rfl, gru, block_sum]
      congr 1
      show _ = B.TL (256 * g.val + r.val) - ∑ j ∈ Finset.range (256 * k), B.SP (256 * g.val + r.val) j
      ring
    · rw [if_neg hg, hI.run, block_sum, Finset.sum_eq_zero (s := Finset.range 256) fun j _ => SP_off B (hoff g r hg j), add_zero]
  · obtain ⟨g, r, rfl⟩ := exists_row R
    have hg : u ≤ g := by
      have : 256 * (k - 4 * B.qi) ≤ 256 * g.val + r.val := h
      show u.val ≤ g.val
      omega
    rw [hw', Mems.groups]
    refine (rowsAfter_at M.h13 _ m u _ g r j).trans ?_
    rw [if_pos hg, weightsOut_at _ _ _ _ _ (hz g hg) (hr g), g_sum B hk hu hm hg r.isLt le_rfl, g_sum B hk hu hm hg r.isLt j.isLt.le, gru]
    congr 1
    show _ = B.W (256 * g.val + r.val) (256 * k + j.val)
    by_cases ho : On (m && decide (g = u)) r j
    · have ho' := (on_iff B hk hu hm hg r.isLt j.isLt).mp ho
      rw [if_pos ho, W_eq B ho', Finset.sum_range_add, block_sum]
      congr 1
      show B.Z (256 * g.val + r.val) (256 * k + j.val) - _ - _ = _
      ring
    · rw [if_neg ho, W_off B fun h => ho ((on_iff B hk hu hm hg r.isLt j.isLt).mpr h)]

end Next

end Cert.Proof.Sf

end
-- ==== Proof.SfPay.lean ====
module

public import proofs.«01_k».proof.Proof.SfInv

/-!
  The stretches' other values at an index: the accumulator with one more block of values, and a block of logits.  Both as one step of
  the walk over the key blocks.
-/

@[expose] public section

noncomputable section

namespace Cert.Proof.Sf

open Cert.Kernel5Ideal Cert.Kernel5Ideal.Gen Cert.Reals
open Cert.Proof.Sb (Blk sc lit_sc acc_read slot_read)
open Idealize.ShloMosaic Idealize.ShloMosaic.TcCoe
open Idealize.ShloMosaic.Pointwise
open scoped BigOperators

/-- An accumulator's rows with one more block of values. -/
def IsAcc {n : ℕ} (pay : Vec Ideal S256x128 .bf16 → Vec Ideal ⟨2, ![n, 128]⟩ .f32 → Vec Ideal ⟨2, ![n, 256]⟩ .bf16 → Vec Ideal ⟨2, ![n, 128]⟩ .f32) : Prop :=
  ∀ v a w r c, pay v a w (ix2 r c) = a (ix2 r c) + ∑ j : Fin 256, w (ix2 r j) * v (ix2 j c)

theorem acc_end : IsAcc (n := 1024) k0_pay190 := fun v a w r c => by pointwise [k0_pay190]
theorem acc_t1 : IsAcc (n := 1024) k0_pay3 := fun v a w r c => by pointwise [k0_pay3]
theorem acc_t2 : IsAcc (n := 1024) k0_pay29 := fun v a w r c => by pointwise [k0_pay29]
theorem acc_d0 : IsAcc (n := 768) fun v a w => k0_pay154 (k0_pay153 v a w) := fun v a w r c => by pointwise [k0_pay153, k0_pay154]
theorem acc_d1 : IsAcc (n := 512) k0_pay133 := fun v a w r c => by pointwise [k0_pay133]
theorem acc_d2 : IsAcc (n := 256) k0_pay116 := fun v a w r c => by pointwise [k0_pay116]

/-- A block of logits. -/
def IsSlot {n : ℕ} (pay : Vec Ideal S256x128 .bf16 → Vec Ideal ⟨2, ![n, 128]⟩ .bf16 → Vec Ideal ⟨3, ![1, n, 256]⟩ .f32) : Prop :=
  ∀ k q r j, pay k q (ix3 0 r j) = (∑ c : Fin 128, q (ix2 r c) * k (ix2 j c)) * (sc : EReal)

theorem slot_t1 : IsSlot (n := 1024) k0_pay4 := fun k q r j => by pointwise [k0_pay4]; rw [lit_sc]
theorem slot_t2 : IsSlot (n := 1024) fun k q => k0_pay31 (k0_pay30 k q) (Scalar.ofBits .f32 0x3DB504F3#32) := fun k q r j => by
  pointwise [k0_pay30, k0_pay31]; rw [lit_sc]
theorem slot_d0 : IsSlot (n := 1024) k0_pay155 := fun k q r j => by pointwise [k0_pay155]; rw [lit_sc]
theorem slot_d1 : IsSlot (n := 1024) k0_pay134 := fun k q r j => by pointwise [k0_pay134]; rw [lit_sc]
theorem slot_d2 : IsSlot (n := 768) k0_pay117 := fun k q r j => by pointwise [k0_pay117]; rw [lit_sc]
theorem slot_d3 : IsSlot (n := 512) k0_pay107 := fun k q r j => by pointwise [k0_pay107]; rw [lit_sc]
theorem slot_open : IsSlot (n := 256) fun k q => k0_pay106 (k0_pay105 k q) := fun k q r j => by pointwise [k0_pay105, k0_pay106]; rw [lit_sc]

variable (B : Blk) (M : Mems) {e : Src Ideal} {s : St Ideal} (hE : Held B e)

include hE in
/-- The accumulator takes the block whose weights are stored. -/
theorem acc_step {k lo n : ℕ} (hI : Inv B k s) (hk : k < 4 * B.qi + 4) (hq : B.qi < 8) (hlo : lo = 256 * (k - 4 * B.qi)) (hn : lo + n = 1024)
    {off : Fin 2 → ℕ} (hoff : off = ![256 * k, 0])
    (pay : Vec Ideal S256x128 .bf16 → Vec Ideal ⟨2, ![n, 128]⟩ .f32 → Vec Ideal ⟨2, ![n, 256]⟩ .bf16 → Vec Ideal ⟨2, ![n, 128]⟩ .f32) (hp : IsAcc pay)
    (i0 i1 i2 i3) (R : Fin 1024) (c : Fin 128) :
    View.read (Elt Ideal) M.a10.view (M.a10.view.writes (Elt Ideal) (M.h10.unread s.acc) [⟨Rect.unit (s := S1024x128) ![lo, 0] ![n, 128] i0,
        pay (View.readAt (Elt Ideal) M.a5.view (Rect.unit (s := S8192x128) off S256x128.size i1).toLoadRect (M.h5.unread e.v))
          (View.readAt (Elt Ideal) M.a10.view (Rect.unit (s := S1024x128) ![lo, 0] ![n, 128] i2).toLoadRect (M.h10.unread s.acc))
          (View.readAt (Elt Ideal) M.a13.view (Rect.unit (s := S1024x256) ![lo, 0] ![n, 256] i3).toLoadRect (M.h13.unread s.wp))⟩]) (ix2 R c)
      = (top B k R c : EReal) :=
  (acc_read M.h5 e.v B.V hE.v hn (by omega) M.h10 s.acc M.h13 s.wp off hoff i0 i1 i2 i3 pay hp (fun R c => top B (k + 1) R c) hI.acc
    (fun R j => B.W R (256 * k + j)) (fun R j h => hI.wp hk R j (hlo ▸ h)) R c).trans (congrArg _ (top_next B c hlo R.isLt))

include hE in
/-- A slot takes a block of logits. -/
theorem slot_step {k lo n : ℕ} (slot : Fin 2) (hk : k < 4 * B.qi + 4) (hq : B.qi < 8) (hlo : lo = 256 * (k - 4 * B.qi)) (hn : lo + n = 1024)
    {off : Fin 2 → ℕ} (hoff : off = ![256 * k, 0]) (z : Vec Ideal S2x1024x256 .f32)
    (pay : Vec Ideal S256x128 .bf16 → Vec Ideal ⟨2, ![n, 128]⟩ .bf16 → Vec Ideal ⟨3, ![1, n, 256]⟩ .f32) (hp : IsSlot pay)
    (i0 i1 i2) (R : Fin 1024) (j : Fin 256) (hR : 256 * (k - 4 * B.qi) ≤ R.val) :
    View.read (Elt Ideal) M.a12.view (M.a12.view.writes (Elt Ideal) (M.h12.unread z) [⟨Rect.unit (s := S2x1024x256) ![slot.val, lo, 0] ![1, n, 256] i0,
        pay (View.readAt (Elt Ideal) M.a4.view (Rect.unit (s := S8192x128) off S256x128.size i1).toLoadRect (M.h4.unread e.k))
          (View.readAt (Elt Ideal) M.a9.view (Rect.unit (s := S1024x128) ![lo, 0] ![n, 128] i2).toLoadRect (M.h9.unread e.q))⟩]) (ix3 slot R j)
      = (B.Z R (256 * k + j) : EReal) :=
  slot_read M.h4 e.k B.K hE.k hn (by omega) M.h12 z slot M.h9 e.q off hoff i0 i1 i2 pay sc hp (fun R => B.Q R) hE.q R (hlo ▸ hR) j

end Cert.Proof.Sf

end
-- ==== Proof.SfSteps.lean ====
module

public import proofs.«01_k».proof.Proof.SfPay

/-!
  Every stretch of the forward body takes what is true when the key blocks from `k + 1` on are done to what is true when those from `k`
  on are.
-/

@[expose] public section

set_option maxRecDepth 65536

noncomputable section

namespace Cert.Proof.Sf

open Cert.Kernel5Ideal Cert.Kernel5Ideal.Gen Cert.Reals
open Cert.Proof.Sb (Blk)
open Idealize.ShloMosaic Idealize.ShloMosaic.TcCoe
open Idealize.ShloMosaic.Pointwise

/-! ## Where a stretch reads, as multiples of a key block -/

theorem off1_eq : ∀ (i : grid0.Coords) (u : Fin 4), k0_off1 i (BitVec.ofNat 32 (1 + u.val)) = ![256 * (4 * (i 1).val + u.val), 0] := by decide +kernel
theorem off2_eq : ∀ (i : grid0.Coords) (u : Fin 3), k0_off2 i (BitVec.ofNat 32 u.val) = ![256 * (4 * (i 1).val + u.val + 1), 0] := by decide +kernel
theorem off3_eq : ∀ (i : grid0.Coords), k0_off3 i = ![256 * (4 * (i 1).val - 1), 0] := by decide +kernel
theorem off4_eq : ∀ (i : grid0.Coords) (t : Fin (k0_t1_loop i).trips), k0_off4 i t = ![256 * (4 * (i 1).val - 2 * t.val), 0] := by decide +kernel
theorem off5_eq : ∀ (i : grid0.Coords) (t : Fin (k0_t1_loop i).trips), k0_off5 i t = ![256 * (4 * (i 1).val - 2 * t.val - 2), 0] := by decide +kernel
theorem off6_eq : ∀ (i : grid0.Coords) (t : Fin (k0_t1_loop i).trips), k0_off6 i t = ![256 * (4 * (i 1).val - 2 * t.val - 1), 0] := by decide +kernel
theorem off7_eq : ∀ (i : grid0.Coords) (t : Fin (k0_t1_loop i).trips), k0_off7 i t = ![256 * (4 * (i 1).val - 2 * t.val - 3), 0] := by decide +kernel

variable (B : Blk) (M : Mems) {e : Src Ideal} {s : St Ideal} (c : Dev nD) (i : grid0.Coords) (hE : Held B e) (hi : B.qi = (i 1).val)

theorem lt_eight (i : grid0.Coords) : (i 1).val < 8 := (i 1).isLt

include hE hi

theorem d3_step (hI : Inv B (4 * B.qi + 4) s) (hR : Ready B (4 * B.qi + 3) 0 s) :
    Inv B (4 * B.qi + 3) (M.d3 c i e s) ∧ Ready B (4 * B.qi + 2) 1 (M.d3 c i e s) := by
  have hq : B.qi < 8 := hi ▸ lt_eight i
  refine ⟨next B M (u := 3) (m := true) hI hR (by omega) (show 3 = _ by omega) (decide_eq_true (by omega)).symm
    (M.d3_groups c i (k0_pay102 (F := Ideal)) e s) (fun R d => ?_), fun R j h => ?_⟩
  · have h0 : (M.d3 c i e s).acc = s.acc := M.h10.read_unread s.acc
    have h1 := top_next B (k := 4 * B.qi + 4) (R := R) d rfl R.isLt
    rw [if_neg (by have := R.isLt; omega), add_zero] at h1
    rw [h0, hI.acc, h1]
  · exact slot_step B M hE (lo := 512) (n := 512) 1 (by omega) hq (by omega) rfl (hi ▸ off1_eq i 2) s.z k0_pay107 slot_d3 _ _ _ R j h

theorem d2_step (hI : Inv B (4 * B.qi + 3) s) (hR : Ready B (4 * B.qi + 2) 1 s) :
    Inv B (4 * B.qi + 2) (M.d2 c i e s) ∧ Ready B (4 * B.qi + 1) 0 (M.d2 c i e s) := by
  have hq : B.qi < 8 := hi ▸ lt_eight i
  refine ⟨next B M (u := 2) (m := true) hI hR (by omega) (show 2 = _ by omega) (decide_eq_true (by omega)).symm
    (M.d2_groups c i (k0_pay102 (F := Ideal)) e s) (fun R d => ?_), fun R j h => ?_⟩
  · exact acc_step B M hE (lo := 768) (n := 256) hI (by omega) hq (by omega) rfl (hi ▸ off2_eq i 2) k0_pay116 acc_d2 _ _ _ _ R d
  · exact slot_step B M hE (lo := 256) (n := 768) 0 (by omega) hq (by omega) rfl (hi ▸ off1_eq i 1) s.z k0_pay117 slot_d2 _ _ _ R j h

theorem d1_step (hI : Inv B (4 * B.qi + 2) s) (hR : Ready B (4 * B.qi + 1) 0 s) :
    Inv B (4 * B.qi + 1) (M.d1 c i e s) ∧ Ready B (4 * B.qi) 1 (M.d1 c i e s) := by
  have hq : B.qi < 8 := hi ▸ lt_eight i
  refine ⟨next B M (u := 1) (m := true) hI hR (by omega) (show 1 = _ by omega) (decide_eq_true (by omega)).symm
    (M.d1_groups c i (k0_pay102 (F := Ideal)) e s) (fun R d => ?_), fun R j h => ?_⟩
  · exact acc_step B M hE (lo := 512) (n := 512) hI (by omega) hq (by omega) rfl (hi ▸ off2_eq i 1) k0_pay133 acc_d1 _ _ _ _ R d
  · exact slot_step B M hE (lo := 0) (n := 1024) 1 (by omega) hq (by omega) rfl (hi ▸ off1_eq i 0) s.z k0_pay134 slot_d1 _ _ _ R j h

theorem d0_step (hI : Inv B (4 * B.qi + 1) s) (hR : Ready B (4 * B.qi) 1 s) :
    Inv B (4 * B.qi) (M.d0 c i e s) ∧ Ready B (4 * B.qi - 1) 0 (M.d0 c i e s) := by
  have hq : B.qi < 8 := hi ▸ lt_eight i
  refine ⟨next B M (u := 0) (m := true) hI hR (by omega) (show 0 = _ by omega) (decide_eq_true (by omega)).symm
    (M.d0_groups c i (k0_pay102 (F := Ideal)) e s) (fun R d => ?_), fun R j h => ?_⟩
  · exact acc_step B M hE (lo := 256) (n := 768) hI (by omega) hq (by omega) rfl (hi ▸ off2_eq i 0) (fun v a w => k0_pay154 (k0_pay153 v a w)) acc_d0
      _ _ _ _ R d
  · exact slot_step B M hE (lo := 0) (n := 1024) 0 (by omega) hq (by omega) rfl (hi ▸ off3_eq i) s.z k0_pay155 slot_d0 _ _ _ R j h

theorem t1_step (t : Fin (k0_t1_loop i).trips) (hI : Inv B (4 * B.qi - 2 * t.val) s) (hR : Ready B (4 * B.qi - 2 * t.val - 1) 0 s) :
    Inv B (4 * B.qi - 2 * t.val - 1) (M.t1 c i e t s) ∧ Ready B (4 * B.qi - 2 * t.val - 2) 1 (M.t1 c i e t s) := by
  have hq : B.qi < 8 := hi ▸ lt_eight i
  have ht : t.val < 2 * B.qi := hi ▸ Mems.trips1 i ▸ t.isLt
  have hk : 4 * B.qi - 2 * t.val - 1 + 1 = 4 * B.qi - 2 * t.val := by omega
  refine ⟨next B M (k := 4 * B.qi - 2 * t.val - 1) (u := 0) (m := false) (hk ▸ hI) hR (by omega) (show 0 = _ by omega) (decide_eq_false (by omega)).symm
    (M.t1_groups c i (k0_pay102 (F := Ideal)) t e s) (fun R d => ?_), fun R j h => ?_⟩
  · rw [hk]
    exact acc_step B M hE (lo := 0) (n := 1024) hI (by omega) hq (by omega) rfl (hi ▸ off4_eq i t) k0_pay3 acc_t1 _ _ _ _ R d
  · exact slot_step B M hE (lo := 0) (n := 1024) 1 (by omega) hq (by omega) rfl (hi ▸ off5_eq i t) s.z k0_pay4 slot_t1 _ _ _ R j h

theorem t2_step (t : Fin (k0_t1_loop i).trips) (hI : Inv B (4 * B.qi - 2 * t.val - 1) s) (hR : Ready B (4 * B.qi - 2 * t.val - 2) 1 s) :
    Inv B (4 * B.qi - 2 * t.val - 2) (M.t2 c i e t s) ∧ Ready B (4 * B.qi - 2 * t.val - 3) 0 (M.t2 c i e t s) := by
  have hq : B.qi < 8 := hi ▸ lt_eight i
  have ht : t.val < 2 * B.qi := hi ▸ Mems.trips1 i ▸ t.isLt
  have hk : 4 * B.qi - 2 * t.val - 2 + 1 = 4 * B.qi - 2 * t.val - 1 := by omega
  refine ⟨next B M (k := 4 * B.qi - 2 * t.val - 2) (u := 0) (m := false) (hk ▸ hI) hR (by omega) (show 0 = _ by omega) (decide_eq_false (by omega)).symm
    (M.t2_groups c i (k0_pay102 (F := Ideal)) t e s) (fun R d => ?_), fun R j h => ?_⟩
  · rw [hk]
    exact acc_step B M hE (lo := 0) (n := 1024) hI (by omega) hq (by omega) rfl (hi ▸ off6_eq i t) k0_pay29 acc_t2 _ _ _ _ R d
  · exact slot_step B M hE (lo := 0) (n := 1024) 0 (by omega) hq (by omega) rfl (hi ▸ off7_eq i t) s.z
      (fun k q => k0_pay31 (k0_pay30 k q) (Scalar.ofBits .f32 0x3DB504F3#32)) slot_t2 _ _ _ R j h

/-- The loop, two key blocks a trip. -/
theorem loop_step (hI : Inv B (4 * B.qi) s) (hR : Ready B (4 * B.qi - 1) 0 s) : ∀ t ≤ (k0_t1_loop i).trips,
    Inv B (4 * B.qi - 2 * t) (M.loop c i e s t) ∧ Ready B (4 * B.qi - 2 * t - 1) 0 (M.loop c i e s t) := by
  intro t
  induction t with
  | zero => exact fun _ => ⟨hI, hR⟩
  | succ t ih =>
    intro h
    obtain ⟨hI, hR⟩ := ih (Nat.le_of_succ_le h)
    obtain ⟨hI, hR⟩ := t1_step B M c i hE hi ⟨t, h⟩ hI hR
    obtain ⟨hI, hR⟩ := t2_step B M c i hE hi ⟨t, h⟩ hI hR
    rw [Mems.loop, dif_pos (show t < _ from h), show 4 * B.qi - 2 * (t + 1) = 4 * B.qi - 2 * t - 2 from by omega]
    exact ⟨hI, hR⟩

/-- The whole walk. -/
theorem walk_step (hI : Inv B (4 * B.qi + 4) s) (hR : Ready B (4 * B.qi + 3) 0 s) : Inv B 0 (M.walk c i e s) := by
  obtain ⟨hI, hR⟩ := d3_step B M c i hE hi hI hR
  obtain ⟨hI, hR⟩ := d2_step B M c i hE hi hI hR
  obtain ⟨hI, hR⟩ := d1_step B M c i hE hi hI hR
  obtain ⟨hI, hR⟩ := d0_step B M c i hE hi hI hR
  have h := (loop_step B M c i hE hi hI hR _ le_rfl).1
  rwa [show 4 * B.qi - 2 * (k0_t1_loop i).trips = 0 from by rw [Mems.trips1, ← hi]; omega] at h

end Cert.Proof.Sf

end
-- ==== Proof.SfEnd.lean ====
module

public import proofs.«01_k».proof.Proof.SfSteps
public import proofs.«01_k».proof.Proof.SbStart

/-!
  What a grid point of the forward pass leaves at finite inputs: the output of its row block, the gated output, and each row's sum of log
  keeps.
-/

@[expose] public section

set_option maxRecDepth 65536

noncomputable section

namespace Cert.Proof.Sf

open Cert.Kernel5Ideal Cert.Kernel5Ideal.Gen Cert.Reals
open Cert.Proof.Sb (Blk sg whole_at)
open Idealize.ShloMosaic Idealize.ShloMosaic.TcCoe
open Idealize.ShloMosaic.Pointwise
open scoped BigOperators

/-! ## The values of the opening and of the end at an index -/

theorem q_open (q : Vec Ideal S1024x128 .f32) (r : Fin 1024) (c : Fin 128) : k0_pay101 q (ix2 r c) = q (ix2 r c) := by pointwise [k0_pay101]
theorem zero_acc (r : Fin 1024) (c : Fin 128) : k0_pay103 (F := Ideal) (ix2 r c) = 0 := by pointwise [k0_pay103]
theorem zero_run (r : Fin 1024) : k0_pay104 (F := Ideal) (ix2 r 0) = 0 := by pointwise [k0_pay104]
theorem tl_end (x : Vec Ideal S1024x1 .f32) (r : Fin 1024) (c : Fin 128) : k0_pay1 x (ix2 r c) = x (ix2 r 0) := by pointwise [k0_pay1]

theorem y_end (o g : Vec Ideal S1024x128 .f32) (O G : ℝ) (r : Fin 1024) (c : Fin 128) (ho : o (ix2 r c) = (O : EReal)) (hg : g (ix2 r c) = (G : EReal)) :
    k0_pay2 o g (ix2 r c) = ((O * (G * sg G) : ℝ) : EReal) := by
  have hp : 0 < 1 + Real.exp (-G) := by positivity
  pointwise [k0_pay2]
  rw [ho, hg, zero_sub, ← EReal.coe_neg, Ideal.exp_coe, ← EReal.coe_one, ← EReal.coe_add, div_real _ hp.ne', ← EReal.coe_mul, ← EReal.coe_mul]
  rfl

theorem readAt_congr {sg : RefSig} {sh : Shape} {t : EltTy} {a : Memref sg .tc .vmem sh t} (b : LoadRect sh) {f f' : a.view.ty.Contents (Elt Ideal)}
    (h : View.read (Elt Ideal) a.view f = View.read (Elt Ideal) a.view f') : View.readAt (Elt Ideal) a.view b f = View.readAt (Elt Ideal) a.view b f' :=
  funext fun j => congrFun h (b.idx j)

theorem src_eq {a b : Src Ideal} (hk : a.k = b.k) (hv : a.v = b.v) (hq : a.q = b.q) : a = b := by
  cases a; cases b; simp_all

/-- The rows a block's body is given, as real functions. -/
structure Rows (B : Blk) (G : ℕ → Fin 128 → ℝ) (p : Inp Ideal) (e : Src Ideal) : Prop where
  k : ∀ (j : Fin 8192) c, e.k (ix2 j c) = (B.K j c : EReal)
  v : ∀ (j : Fin 8192) c, e.v (ix2 j c) = (B.V j c : EReal)
  q : ∀ (R : Fin 1024) c, p.q (ix2 R c) = (B.Q R c : EReal)
  g : ∀ (R : Fin 1024) c, p.g (ix2 R c) = (G R c : EReal)

variable (B : Blk) {G : ℕ → Fin 128 → ℝ} (M : Mems) {p : Inp Ideal} {e : Src Ideal} {s : St Ideal} {r : Out Ideal} (c : Dev nD) (i : grid0.Coords)
  (hB : Rows B G p e) (hi : B.qi = (i 1).val) (hT : Total B)

theorem start_src : (M.start c i p e s).1 = ⟨e.k, e.v, k0_pay101 p.q⟩ :=
  src_eq (M.h4.read_unread _) (M.h5.read_unread _) ((View.read_writes_full M.a9.view _ _ _ []).trans (congrArg k0_pay101 (whole_at M.h2 _ _)))

include hB in
theorem start_held : Held B (M.start c i p e s).1 := by
  rw [start_src]
  exact ⟨hB.k, hB.v, fun R d => (q_open _ _ _).trans (hB.q R d)⟩

include hB hT in
theorem start_inv : Inv B (4 * B.qi + 4) (M.start c i p e s).2 where
  run R := by
    have h : (M.start c i p e s).2.run = k0_pay104 (F := Ideal) := View.read_writes_full M.a11.view _ _ _ []
    rw [h, zero_run, hT R R.isLt, sub_self, EReal.coe_zero]
  acc R d := by
    have h : (M.start c i p e s).2.acc = k0_pay103 (F := Ideal) := View.read_writes_full M.a10.view _ _ _ []
    rw [h, zero_acc, top_start B R.isLt, EReal.coe_zero]
  wp h := absurd h (lt_irrefl _)

include hB hi in
theorem start_ready : Ready B (4 * B.qi + 3) 0 (M.start c i p e s).2 := fun R j h => by
  have hq : B.qi < 8 := hi ▸ lt_eight i
  have hE : Held B ⟨e.k, e.v, k0_pay101 p.q⟩ := ⟨hB.k, hB.v, fun R d => (q_open _ _ _).trans (hB.q R d)⟩
  have h9 : View.read (Elt Ideal) M.a9.view (M.h9.unread (k0_pay101 p.q)) = k0_pay101 p.q := M.h9.read_unread _
  have hv : opening.sl.v28 (arg9 := M.a9) M.h2 p = View.readAt (Elt Ideal) M.a9.view
      (Rect.unit (s := S1024x128) ![768, 0] ![256, 128] (by decide)).toLoadRect (M.h9.unread (k0_pay101 p.q)) :=
    readAt_congr _ (((View.read_writes_full M.a9.view _ _ _ []).trans (congrArg k0_pay101 (whole_at M.h2 _ _))).trans h9.symm)
  have h1 := slot_step B M hE (lo := 768) (n := 256) 0 (by omega) hq (by omega) rfl (hi ▸ off1_eq i 3) s.z (fun k q => k0_pay106 (k0_pay105 k q)) slot_open
    inb_S2x1024x256_S1x256x256_0_768_0 (k0_off1_inb i 3) (by decide) R j h
  rw [← hv] at h1
  exact h1

include hB hi hT in
theorem walk_inv : Inv B 0 (M.walk c i (M.start c i p e s).1 (M.start c i p e s).2) :=
  walk_step B M c i (start_held B M c i hB) hi (start_inv B M c i hB hT) (start_ready B M c i hB hi)

theorem finish_o (hE : Held B e) (hI : Inv B 0 s) (hq : B.qi < 8) (R : Fin 1024) (d : Fin 128) :
    (M.finish c p e s r).1.o (ix2 R d) = (top B 0 R d : EReal) := by
  have h := acc_step B M hE (lo := 0) (n := 1024) (off := ![0, 0]) hI (by omega) hq (by omega) rfl (by rw [Nat.mul_zero]) k0_pay190 acc_end
    inb_S1024x128_S1024x128_0_0 (by decide) inb_S1024x128_S1024x128_0_0 (by decide) R d
  refine Eq.trans (congrFun ?_ _) h
  refine ((View.read_writes_full M.a7.view _ _ _ []).trans (View.readCov_full M.a10.view _ _ _ [])).trans ?_
  symm
  exact View.read_writes_full M.a10.view _ _ _ []

theorem finish_y (hE : Held B e) (hI : Inv B 0 s) (hq : B.qi < 8) (hg : ∀ (R : Fin 1024) c, p.g (ix2 R c) = (G R c : EReal)) (R : Fin 1024) (d : Fin 128) :
    (M.finish c p e s r).1.y (ix2 R d) = ((top B 0 R d * (G R d * sg (G R d)) : ℝ) : EReal) := by
  have h7 : (M.finish c p e s r).1.o = closing.sl.v524 M.h5 M.h10 M.h13 e s := View.read_writes_full M.a7.view _ _ _ []
  have ho : (M.finish c p e s r).1.y = k0_pay2 (M.finish c p e s r).1.o p.g :=
    (View.read_writes_full M.a6.view _ _ _ []).trans (congrArg₂ k0_pay2 h7.symm (whole_at M.h3 _ _))
  rw [ho]
  exact y_end _ _ _ _ R d (finish_o B M c hE hI hq R d) (hg R d)

theorem finish_tl (hI : Inv B 0 s) (R : Fin 1024) (d : Fin 128) : (M.finish c p e s r).1.tl (ix2 R d) = (B.TL R : EReal) := by
  have h : (M.finish c p e s r).1.tl = k0_pay1 s.run :=
    (View.read_writes_full M.a8.view _ _ _ []).trans (congrArg k0_pay1 (whole_at M.h11 _ _))
  rw [h, tl_end, hI.run, Nat.mul_zero, Finset.sum_range_zero, sub_zero]

/-- The output of a row block, the gated output and the sums of log keeps. -/
structure Outs (B : Blk) (G : ℕ → Fin 128 → ℝ) (r : Out Ideal) : Prop where
  o : ∀ (R : Fin 1024) c, r.o (ix2 R c) = (top B 0 R c : EReal)
  y : ∀ (R : Fin 1024) c, r.y (ix2 R c) = ((top B 0 R c * (G R c * sg (G R c)) : ℝ) : EReal)
  tl : ∀ (R : Fin 1024) (c : Fin 128), r.tl (ix2 R c) = (B.TL R : EReal)

include hB hi hT in
theorem res_at : Outs B G (M.res c i p e s r).1 :=
  have hq : B.qi < 8 := hi ▸ lt_eight i
  have hI := walk_inv B M c i (s := s) hB hi hT
  have hE := start_held B M c i (s := s) hB
  ⟨finish_o B M c hE hI hq, finish_y B M c hE hI hq hB.g, finish_tl B M c hI⟩

end Cert.Proof.Sf

end
-- ==== Proof.SfFrame.lean ====
module

public import proofs.«01_k».proof.Proof.SfEnd
public import proofs.«01_k».proof.Proof.Gen.Kernel5Ideal.Frame
public import Idealize.ShloMosaic.Lib.ValueIdxCore

/-!
  The forward attention at a grid point: the buffers its body gets there, and what the body's run makes of them.
-/

@[expose] public section

set_option maxRecDepth 65536
set_option maxHeartbeats 800000

noncomputable section

namespace Cert.Proof.Sf

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

variable {F : FTy → Type} [FloatOps F]

local notation "𝕄" => MT nD τ sig Unit (Elt F) ℕ (UR sig nD τ) ℕ

/-- The buffers of point `t`: the staging buffers in use there, and the five scratch buffers. -/
abbrev memsAt (t : Fin cfg0.N) : Mems where
  a2 := st0_0 t
  a3 := st0_1 t
  a4 := st0_2 t
  a5 := st0_3 t
  a6 := st0_4 t
  a7 := st0_5 t
  a8 := st0_6 t
  a9 := Memref.whole cc0_scratch0
  a10 := Memref.whole cc0_scratch1
  a11 := Memref.whole cc0_scratch2
  a12 := Memref.whole cc0_scratch3
  a13 := Memref.whole cc0_scratch4
  h2 := hstage0_0 ((cfg0.slots t 0).cast nbuf0_0)
  h3 := hstage0_1 ((cfg0.slots t 1).cast nbuf0_1)
  h4 := hstage0_2 ((cfg0.slots t 2).cast nbuf0_2)
  h5 := hstage0_3 ((cfg0.slots t 3).cast nbuf0_3)
  h6 := hstage0_4 ((cfg0.slots t 4).cast nbuf0_4)
  h7 := hstage0_5 ((cfg0.slots t 5).cast nbuf0_5)
  h8 := hstage0_6 ((cfg0.slots t 6).cast nbuf0_6)
  h9 := Memref.isWhole_whole _
  h10 := Memref.isWhole_whole _
  h11 := Memref.isWhole_whole _
  h12 := Memref.isWhole_whole _
  h13 := Memref.isWhole_whole _

/-- The scratch buffers, the queries' cast at `q` and the running state at `s`. -/
def HScr (c : Dev nD) (q : Vec F S1024x128 .bf16) (s : St F) : sProp 𝕄 :=
  iprop(owns (c : Thread nD τ) (Memref.whole cc0_scratch0) fullShare q ∗
    HSt c (Memref.whole cc0_scratch1) (Memref.whole cc0_scratch2) (Memref.whole cc0_scratch3) (Memref.whole cc0_scratch4) s)

theorem scr_open (c : Dev nD) : (Pipeline.ΦA (U := UR sig nD τ) spec0 c : sProp 𝕄) ⊢
    iprop((∃ q : Vec F S1024x128 .bf16, ∃ s : St F, HScr c q s) ∗ ∃ r, prngReg c r) := by
  unfold Pipeline.ΦA
  rw [scopedRest0_eq]
  iintro ⟨⟨⟨%f0, S0⟩, ⟨%f1, S1⟩, ⟨%f2, S2⟩, ⟨%f3, S3⟩, ⟨%f4, S4⟩⟩, HR⟩
  isplitr [HR]
  · iexists (f0 : Vec F S1024x128 .bf16)
    iexists (⟨f1, f2, f3, f4⟩ : St F)
    unfold HScr HSt
    simp only [owns_whole]
    isplitl [S0]; · iexact S0
    isplitl [S1]; · iexact S1
    isplitl [S2]; · iexact S2
    isplitl [S3]; · iexact S3
    iexact S4
  · iexact HR

theorem scr_close (c : Dev nD) (q : Vec F S1024x128 .bf16) (s : St F) : (HScr c q s : sProp 𝕄) ⊢
    Pipeline.scopedRest (Ix := Unit) (Name := ℕ) (U := UR sig nD τ) (Lvl := ℕ) (Val := Elt F) spec0 c := by
  rw [scopedRest0_eq]
  unfold HScr HSt
  simp only [owns_whole]
  iintro ⟨S0, S1, S2, S3, S4⟩
  isplitl [S0]; · iexists _; iexact S0
  isplitl [S1]; · iexists _; iexact S1
  isplitl [S2]; · iexists _; iexact S2
  isplitl [S3]; · iexists _; iexact S3
  iexists _; iexact S4

variable (c : Dev nD) (t : Fin cfg0.N) (p : Inp F) (k v : Vec F S8192x128 .bf16) (q : Vec F S1024x128 .bf16) (s : St F) (r : Out F)

/-- What the body leaves in its results' buffers at point `t`. -/
abbrev left : Out F := ((memsAt t).res c (grid0.coords t) p ⟨k, v, q⟩ s r).1

theorem start_k : ((memsAt t).start c (grid0.coords t) p ⟨k, v, q⟩ s).1.k = k := (memsAt t).h4.read_unread _
theorem start_v : ((memsAt t).start c (grid0.coords t) p ⟨k, v, q⟩ s).1.v = v := (memsAt t).h5.read_unread _

omit [FloatOps F] in
/-- Holding a buffer at equal contents. -/
theorem owns_at {sh : Shape} {e : EltTy} {M : Memref sig .tc .vmem sh e} {X Y : Vec F sh e} (h : X = Y) :
    (owns (c : Thread nD τ) M fullShare X : sProp 𝕄) ⊢ owns (c : Thread nD τ) M fullShare Y := by rw [h]

/-- The body at point `t` on any contents: the inputs stay, and the results come from the run. -/
theorem point_run :
    iprop(HScr c q s ∗ owns (c : Thread nD τ) (st0_0 t) fullShare p.q ∗ owns (c : Thread nD τ) (st0_1 t) fullShare p.g ∗
        owns (c : Thread nD τ) (st0_2 t) fullShare k ∗ owns (c : Thread nD τ) (st0_3 t) fullShare v ∗
        owns (c : Thread nD τ) (st0_4 t) fullShare r.y ∗ owns (c : Thread nD τ) (st0_5 t) fullShare r.o ∗
        owns (c : Thread nD τ) (st0_6 t) fullShare r.tl)
      ⊢ wp frame (wpE (defs₀ (F := F)) Variants.none c none) Set.univ (bodyAt0 t) fun _ =>
        iprop((Pipeline.scopedRest (Ix := Unit) (Name := ℕ) (U := UR sig nD τ) (Lvl := ℕ) (Val := Elt F) spec0 c) ∗
          owns (c : Thread nD τ) (st0_0 t) fullShare p.q ∗ owns (c : Thread nD τ) (st0_1 t) fullShare p.g ∗
          owns (c : Thread nD τ) (st0_2 t) fullShare k ∗ owns (c : Thread nD τ) (st0_3 t) fullShare v ∗
          owns (c : Thread nD τ) (st0_4 t) fullShare (left c t p k v q s r).y ∗
          owns (c : Thread nD τ) (st0_5 t) fullShare (left c t p k v q s r).o ∗
          owns (c : Thread nD τ) (st0_6 t) fullShare (left c t p k v q s r).tl) := by
  iintro ⟨HX, H0, H1, H2, H3, H4, H5, H6⟩
  unfold HScr
  icases HX with ⟨Sq, Ss⟩
  iapply ((memsAt t).body_run c (grid0.coords t) p ⟨k, v, q⟩ s r)
  unfold Mems.inp Mems.src Mems.out HIn HSrc HOut
  isplitl [H0 H1]
  · isplitl [H0]; · iexact H0
    iexact H1
  isplitl [H2 H3 Sq]
  · isplitl [H2]; · iexact H2
    isplitl [H3]; · iexact H3
    iexact Sq
  isplitl [Ss]; · iexact Ss
  isplitl [H4 H5 H6]
  · isplitl [H4]; · iexact H4
    isplitl [H5]; · iexact H5
    iexact H6
  iintro ⟨⟨H0, H1⟩, ⟨H2, H3, Sq⟩, Ss, ⟨H4, H5, H6⟩⟩
  isplitl [Sq Ss]
  · iapply (scr_close c _ _)
    unfold HScr
    isplitl [Sq]; · iexact Sq
    iexact Ss
  isplitl [H0]; · iexact H0
  isplitl [H1]; · iexact H1
  isplitl [H2]
  · iapply (owns_at c (start_k c t p k v q s)); iexact H2
  isplitl [H3]
  · iapply (owns_at c (start_v c t p k v q s)); iexact H3
  isplitl [H4]; · iexact H4
  isplitl [H5]; · iexact H5
  iexact H6

/-! ## The pipeline's proof data -/

/-- Named contents of the three results' buffers after each point. -/
abbrev Named (F : FTy → Type) := Fin cfg0.N → Out F

variable (m : (ℓ : Loc nD τ sig) → Buf (Elt F) ℓ) (O : Dev nD → Named F)

/-- Every input's buffer at its block, the results' at the named contents, the scratch at anything. -/
def named (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (O c t).y
    | ⟨5, _⟩ => (O c t).o
    | ⟨6, _⟩ => (O c t).tl
  Φ _ := Pipeline.ΦA spec0 c
  q w := Pipeline.shareOf spec0 w
  owed _ := 0

theorem named_A (c : Dev nD) (w : Fin cfg0.W) : (named m O 0 c).A w = V m c (Pipeline.arrRef spec0 w) := by
  dsimp only [named]

theorem before_0 (d) : (named m O 0 c).before 0 t d = iblk m c 0 t :=
  before0_0_of m _ (named_A m O c 0) (fun t => by dsimp only [named]) t d
theorem before_1 (d) : (named m O 0 c).before 1 t d = iblk m c 1 t :=
  before0_1_of m _ (named_A m O c 1) (fun t => by dsimp only [named]) t d
theorem before_2 (d) : (named m O 0 c).before 2 t d = iblk m c 2 t :=
  before0_2_of m _ (named_A m O c 2) (fun t => by dsimp only [named]) t d
theorem before_3 (d) : (named m O 0 c).before 3 t d = iblk m c 3 t :=
  before0_3_of m _ (named_A m O c 3) (fun t => by dsimp only [named]) t d

/-- The row block's inputs at point `t`. -/
abbrev inpAt (c : Dev nD) (t : Fin cfg0.N) : Inp F := ⟨iblk m c 0 t, iblk m c 1 t⟩

/-- The run's results at every point are the named ones, whatever the buffers held before. -/
def Leaves (c : Dev nD) : Prop :=
  ∀ t q s r, left c t (inpAt m c t) (iblk m c 2 t) (iblk m c 3 t) q s r = O c t

variable {m O c} (hO : Leaves m O c)

include hO in
theorem named_body :
    iprop((named m O 0 c).Φ t.castSucc ∗ (named m O 0 c).owesAt () t.castSucc ∗
        (∃ d, owns (c : Thread nD τ) (st0_0 t) fullShare ((named m O 0 c).before 0 t d)) ∗
        (∃ d, owns (c : Thread nD τ) (st0_1 t) fullShare ((named m O 0 c).before 1 t d)) ∗
        (∃ d, owns (c : Thread nD τ) (st0_2 t) fullShare ((named m O 0 c).before 2 t d)) ∗
        (∃ d, owns (c : Thread nD τ) (st0_3 t) fullShare ((named m O 0 c).before 3 t d)) ∗
        (∃ d, owns (c : Thread nD τ) (st0_4 t) fullShare ((named m O 0 c).before 4 t d)) ∗
        (∃ d, owns (c : Thread nD τ) (st0_5 t) fullShare ((named m O 0 c).before 5 t d)) ∗
        (∃ d, owns (c : Thread nD τ) (st0_6 t) fullShare ((named m O 0 c).before 6 t d)))
      ⊢ wp frame (wpE (defs₀ (F := F)) Variants.none c none) Set.univ (bodyAt0 t) fun _ =>
        iprop((named m O 0 c).Φ t.succ ∗ (named m O 0 c).owesAt () t.succ ∗
          owns (c : Thread nD τ) (st0_0 t) fullShare ((named m O 0 c).after 0 t) ∗
          owns (c : Thread nD τ) (st0_1 t) fullShare ((named m O 0 c).after 1 t) ∗
          owns (c : Thread nD τ) (st0_2 t) fullShare ((named m O 0 c).after 2 t) ∗
          owns (c : Thread nD τ) (st0_3 t) fullShare ((named m O 0 c).after 3 t) ∗
          owns (c : Thread nD τ) (st0_4 t) fullShare ((named m O 0 c).after 4 t) ∗
          owns (c : Thread nD τ) (st0_5 t) fullShare ((named m O 0 c).after 5 t) ∗
          owns (c : Thread nD τ) (st0_6 t) fullShare ((named m O 0 c).after 6 t)) := by
  simp only [before_0, before_1, before_2, before_3]
  rw [show (named m O 0 c).Φ t.castSucc = Pipeline.ΦA spec0 c from rfl, show (named m O 0 c).Φ t.succ = Pipeline.ΦA spec0 c from rfl,
    show (named m O 0 c).owesAt () t.succ = (named m O 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ := (scr_open c) $$ HΦ
  icases HΦ with ⟨⟨%q, %s, HX⟩, HR⟩
  iapply (wp_wand_r frame (wpE (defs₀ (F := F)) Variants.none c none) Set.univ)
  isplitl [HX H0 H1 H2 H3 H4 H5 H6]
  · iapply (point_run c t (inpAt m c t) (iblk m c 2 t) (iblk m c 3 t) q s
      ⟨(named m O 0 c).before 4 t d4, (named m O 0 c).before 5 t d5, (named m O 0 c).before 6 t d6⟩)
    isplitl [HX]; · iexact HX
    isplitl [H0]; · iexact H0
    isplitl [H1]; · iexact H1
    isplitl [H2]; · iexact H2
    isplitl [H3]; · iexact H3
    isplitl [H4]; · iexact H4
    isplitl [H5]; · iexact H5
    iexact H6
  rw [hO t q s _]
  iintro %_ ⟨HX, H0, H1, H2, H3, H4, H5, H6⟩
  isplitl [HX HR]
  · unfold Pipeline.ΦA
    isplitl [HX]; · iexact HX
    iexact HR
  isplitl [Ho]; · iexact Ho
  dsimp only [named]
  isplitl [H0]; · iexact H0
  isplitl [H1]; · iexact H1
  isplitl [H2]; · iexact H2
  isplitl [H3]; · iexact H3
  isplitl [H4]; · iexact H4
  isplitl [H5]; · iexact H5
  iexact H6

omit hO in
theorem named_obligation (hO : ∀ c, Leaves m O c) (c : Dev nD) :
    BodyObligation (named m O 0 c) (defs₀ (F := F)) Variants.none () Set.univ := fun t => by
  rw [bigSep_W0, bigSep_W0, defs₀_row]
  exact triple_restated (named_body t (hO c)) rfl .rfl fun _ => .rfl

variable (ρ : Dev nD → PrngReg)

-- the run theorem's implicit arguments are found by unifying its conclusion with this one
set_option backward.isDefEq.respectTransparency.types false in
omit hO in
/-- The call ends, every array at what the named contents of the points make of it. -/
theorem named_run (hO : ∀ c, Leaves m O c) : θ_run defs (onTc (τ := τ) (main (F := F))) (s₀ m ρ)
    (fun r => Pipeline.FramePost cfgs (named m O) 0 (V m) r ∧ r.2.sem = fun _ => 0) :=
  Pipeline.θ_run_frame_shared (Q' := _) cfgs (named m O) (0 : Fin 1) launch₀0 defs₀ Variants.none m ρ main
    (hbody := fun c => (named_obligation hO c).loose) (hq := fun _ _ _ => rfl) (howed := fun _ _ => rfl) (V := V m)
    (hmain := hmain m Variants.none) (hA := named_A m _) (hΦ := fun _ _ => rfl)

end Cert.Proof.Sf

end
-- ==== Proof.SfPoint.lean ====
module

public import proofs.«01_k».proof.Proof.SfFrame
public import proofs.«01_k».proof.Proof.SbPoint
public import Idealize.ShloMosaic.Lib.Pipeline.ValueKit.Geometry

/-!
  The forward attention's run with every result named: the gated output, the output and the row sums it leaves, over the arrays it
  reads.
-/

@[expose] public section

set_option maxRecDepth 65536

noncomputable section

namespace Cert.Proof.Sf

open Cert.Kernel5Ideal Cert.Kernel5Ideal.Gen Cert.Reals
open Cert.Proof.Sb (Arrs Blk sg)
open Idealize.ShloMosaic Idealize.ShloMosaic.TcCoe Idealize.ShloMosaic.Tactic Idealize.SL.Sem
open Idealize.ShloMosaic.Pointwise
open scoped BigOperators

/-- A row's weights on the values, over every key. -/
def att (A : Arrs) (r a : ℕ) : ℝ := ∑ j ∈ Finset.range 8192, (A.head (a / 128)).W r j * A.v j a

/-- The three results after point `t`. -/
def outs (A : Arrs) : Named Ideal := fun t =>
  { y := fun i => ((att A (1024 * (t.val % 8) + (i 0).val) (128 * (t.val / 8) + (i 1).val)
      * (A.g (1024 * (t.val % 8) + (i 0).val) (128 * (t.val / 8) + (i 1).val) * sg (A.g (1024 * (t.val % 8) + (i 0).val) (128 * (t.val / 8) + (i 1).val))) : ℝ) : EReal)
    o := fun i => (att A (1024 * (t.val % 8) + (i 0).val) (128 * (t.val / 8) + (i 1).val) : EReal)
    tl := fun i => (A.tl (1024 * (t.val % 8) + (i 0).val) ((128 * (t.val / 8) + (i 1).val) / 128) : EReal) }

/-- The arrays the windows are cut from, as the call finds them. -/
def given (m : (ℓ : Loc nD τ sig) → Buf (Elt Ideal) ℓ) (c : Dev nD) : Vec Ideal S8192x4096 .f32 := V m c main_arg0
def pairs (m : (ℓ : Loc nD τ sig) → Buf (Elt Ideal) ℓ) (c : Dev nD) : Vec Ideal S8192x3072 .bf16 := V m c main_v0

/-- The buffers the call reads hold these arrays, whose row sums are those of the log keeps. -/
structure Reads (A : Arrs) (m : (ℓ : Loc nD τ sig) → Buf (Elt Ideal) ℓ) (c : Dev nD) : Prop where
  q : ∀ (r : Fin 8192) (a : Fin 1536), given m c (ix2 r ⟨a.val, by omega⟩) = (A.q r a : EReal)
  g : ∀ (r : Fin 8192) (a : Fin 1536), given m c (ix2 r ⟨1536 + a.val, by omega⟩) = (A.g r a : EReal)
  k : ∀ (r : Fin 8192) (a : Fin 1536), pairs m c (ix2 r ⟨a.val, by omega⟩) = (A.k r a : EReal)
  v : ∀ (r : Fin 8192) (a : Fin 1536), pairs m c (ix2 r ⟨1536 + a.val, by omega⟩) = (A.v r a : EReal)
  tl : ∀ r h, A.tl r h = ∑ j ∈ Finset.range 8192, (A.head h).SP r j

/-! ## Which part of its array each window has -/

theorem at0 : ∀ t : Fin cfg0.N, win0_0.index t = ![t.val % 8, t.val / 8] := (by decide +kernel : ∀ t : Fin grid0.N, _)
theorem at1 : ∀ t : Fin cfg0.N, win0_1.index t = ![t.val % 8, 12 + t.val / 8] := (by decide +kernel : ∀ t : Fin grid0.N, _)
theorem at2 : ∀ t : Fin cfg0.N, win0_2.index t = ![0, t.val / 8] := (by decide +kernel : ∀ t : Fin grid0.N, _)
theorem at3 : ∀ t : Fin cfg0.N, win0_3.index t = ![0, 12 + t.val / 8] := (by decide +kernel : ∀ t : Fin grid0.N, _)
theorem at4 : ∀ t : Fin cfg0.N, win0_4.index t = ![t.val % 8, t.val / 8] := (by decide +kernel : ∀ t : Fin grid0.N, _)
theorem at5 : ∀ t : Fin cfg0.N, win0_5.index t = ![t.val % 8, t.val / 8] := (by decide +kernel : ∀ t : Fin grid0.N, _)
theorem at6 : ∀ t : Fin cfg0.N, win0_6.index t = ![t.val % 8, t.val / 8] := (by decide +kernel : ∀ t : Fin grid0.N, _)
theorem coord1 : ∀ t : Fin cfg0.N, (grid0.coords t 1).val = t.val % 8 := (by decide +kernel : ∀ t : Fin grid0.N, _)

section Point

variable (t : Fin cfg0.N)

theorem t_lt : t.val < 96 := t.isLt

/-- The array's row that row `R` of point `t`'s block is, and the head's column. -/
abbrev rowAt (R : Fin 1024) : Fin 8192 := ⟨1024 * (t.val % 8) + R.val, by omega⟩
abbrev colAt (d : Fin 128) : Fin 1536 := ⟨128 * (t.val / 8) + d.val, by have := t_lt t; omega⟩

variable {m : (ℓ : Loc nD τ sig) → Buf (Elt Ideal) ℓ} {c : Dev nD} {A : Arrs} (hA : Reads A m c)

theorem blk0 (R : Fin 1024) (d : Fin 128) : iblk m c 0 t (ix2 R d) = given m c (ix2 (rowAt t R) ⟨(colAt t d).val, by have := t_lt t; dsimp only; omega⟩) := by
  unfold iblk
  rw [View.read_apply]
  refine congrArg (given m c) (funext fun a => Fin.ext ?_)
  match a with
  | ⟨0, _⟩ => show win0_0.index t 0 * 1024 + 1 * R.val = _; rw [at0]; simp; omega
  | ⟨1, _⟩ => show win0_0.index t 1 * 128 + 1 * d.val = _; rw [at0]; simp; omega
theorem blk1 (R : Fin 1024) (d : Fin 128) : iblk m c 1 t (ix2 R d) = given m c (ix2 (rowAt t R) ⟨1536 + (colAt t d).val, by have := t_lt t; dsimp only; omega⟩) := by
  unfold iblk
  rw [View.read_apply]
  refine congrArg (given m c) (funext fun a => Fin.ext ?_)
  match a with
  | ⟨0, _⟩ => show win0_1.index t 0 * 1024 + 1 * R.val = _; rw [at1]; simp; omega
  | ⟨1, _⟩ => show win0_1.index t 1 * 128 + 1 * d.val = _; rw [at1]; simp; omega
theorem blk2 (j : Fin 8192) (d : Fin 128) : iblk m c 2 t (ix2 j d) = pairs m c (ix2 j ⟨(colAt t d).val, by have := t_lt t; dsimp only; omega⟩) := by
  unfold iblk
  rw [View.read_apply]
  refine congrArg (pairs m c) (funext fun a => Fin.ext ?_)
  match a with
  | ⟨0, _⟩ => show win0_2.index t 0 * 8192 + 1 * j.val = _; rw [at2]; simp
  | ⟨1, _⟩ => show win0_2.index t 1 * 128 + 1 * d.val = _; rw [at2]; simp; omega
theorem blk3 (j : Fin 8192) (d : Fin 128) : iblk m c 3 t (ix2 j d) = pairs m c (ix2 j ⟨1536 + (colAt t d).val, by have := t_lt t; dsimp only; omega⟩) := by
  unfold iblk
  rw [View.read_apply]
  refine congrArg (pairs m c) (funext fun a => Fin.ext ?_)
  match a with
  | ⟨0, _⟩ => show win0_3.index t 0 * 8192 + 1 * j.val = _; rw [at3]; simp
  | ⟨1, _⟩ => show win0_3.index t 1 * 128 + 1 * d.val = _; rw [at3]; simp; omega

include hA

theorem rows (q : Vec Ideal S1024x128 .bf16) : Rows (A.block (t.val / 8) (t.val % 8)) (fun R d => A.g (1024 * (t.val % 8) + R) (128 * (t.val / 8) + d.val))
    (inpAt m c t) ⟨iblk m c 2 t, iblk m c 3 t, q⟩ where
  k j d := (blk2 t j d).trans (hA.k j (colAt t d))
  v j d := (blk3 t j d).trans (hA.v j (colAt t d))
  q R d := (blk0 t R d).trans (hA.q (rowAt t R) (colAt t d))
  g R d := (blk1 t R d).trans (hA.g (rowAt t R) (colAt t d))

theorem total : Total (A.block (t.val / 8) (t.val % 8)) := fun R hR => by
  have e : (A.block (t.val / 8) (t.val % 8)).TL R = A.tl (1024 * (t.val % 8) + R) (t.val / 8) := rfl
  rw [e, hA.tl]
  simp only [← Arrs.block_SP]
  refine (Finset.sum_subset (Finset.range_subset_range.mpr ?_) fun j _ hj => ?_).symm
  · show 256 * (4 * (t.val % 8) + 4) ≤ 8192
    omega
  · have h : ¬ j < 256 * (4 * (t.val % 8) + 4) := fun h => hj (Finset.mem_range.mpr h)
    exact Blk.SP_off _ (by show ¬ j < 1024 * (t.val % 8) + R; omega)

omit hA in
theorem top_att (R : Fin 1024) (d : Fin 128) : top (A.block (t.val / 8) (t.val % 8)) 0 R d
    = att A (1024 * (t.val % 8) + R.val) (128 * (t.val / 8) + d.val) := by
  have e : (128 * (t.val / 8) + d.val) / 128 = t.val / 8 := by omega
  rw [top_all, att, e]
  simp only [← Arrs.block_W]
  refine Finset.sum_subset (Finset.range_subset_range.mpr ?_) fun j _ hj => ?_
  · show 256 * (4 * (t.val % 8) + 4) ≤ 8192
    omega
  · have h : ¬ j < 256 * (4 * (t.val % 8) + 4) := fun h => hj (Finset.mem_range.mpr h)
    rw [Blk.W_off _ (by show ¬ j < 1024 * (t.val % 8) + R.val; omega), zero_mul]

/-- Every point leaves the named results, whatever it finds in the buffers it writes. -/
theorem leaves (O : Dev nD → Named Ideal) (hO : O c = outs A) : Leaves m O c := fun t q s r => by
  rw [hO]
  have h := res_at (A.block (t.val / 8) (t.val % 8)) (memsAt t) c (grid0.coords t) (s := s) (r := r) (rows t hA q) (coord1 t).symm (total t hA)
  have eo : (left c t (inpAt m c t) (iblk m c 2 t) (iblk m c 3 t) q s r).o = (outs A t).o := funext fun i => by
    obtain ⟨R, d, rfl⟩ : ∃ (R : Fin 1024) (d : Fin 128), i = (ix2 R d : S1024x128.Idx) := ⟨i 0, i 1, eq_ix2 i⟩
    exact (h.o R d).trans (congrArg Real.toEReal (top_att t R d))
  have ey : (left c t (inpAt m c t) (iblk m c 2 t) (iblk m c 3 t) q s r).y = (outs A t).y := funext fun i => by
    obtain ⟨R, d, rfl⟩ : ∃ (R : Fin 1024) (d : Fin 128), i = (ix2 R d : S1024x128.Idx) := ⟨i 0, i 1, eq_ix2 i⟩
    refine (h.y R d).trans ?_
    rw [top_att]
    rfl
  have et : (left c t (inpAt m c t) (iblk m c 2 t) (iblk m c 3 t) q s r).tl = (outs A t).tl := funext fun i => by
    obtain ⟨R, d, rfl⟩ : ∃ (R : Fin 1024) (d : Fin 128), i = (ix2 R d : S1024x128.Idx) := ⟨i 0, i 1, eq_ix2 i⟩
    refine (h.tl R d).trans ?_
    show ((A.tl (1024 * (t.val % 8) + R.val) (t.val / 8) : ℝ) : EReal) = ((A.tl (1024 * (t.val % 8) + R.val) ((128 * (t.val / 8) + d.val) / 128) : ℝ) : EReal)
    rw [show (128 * (t.val / 8) + d.val) / 128 = t.val / 8 by omega]
  calc left c t (inpAt m c t) (iblk m c 2 t) (iblk m c 3 t) q s r
      = ⟨(left c t (inpAt m c t) (iblk m c 2 t) (iblk m c 3 t) q s r).y, (left c t (inpAt m c t) (iblk m c 2 t) (iblk m c 3 t) q s r).o,
        (left c t (inpAt m c t) (iblk m c 2 t) (iblk m c 3 t) q s r).tl⟩ := rfl
    _ = ⟨(outs A t).y, (outs A t).o, (outs A t).tl⟩ := by rw [eo, ey, et]

end Point

/-! ## The arrays -/

variable (A : Dev nD → Arrs) (m : (ℓ : Loc nD τ sig) → Buf (Elt Ideal) ℓ) (ρ : Dev nD → PrngReg) (c : Dev nD)

/-- The proof data with the results named. -/
abbrev dat (c : Dev nD) := named m (fun c => outs (A c)) 0 c

/-- The three results, as arrays. -/
abbrev gated (A : Arrs) : Vec Ideal S8192x1536 .bf16 :=
  fun i : S8192x1536.Idx => ((att A (i 0).val (i 1).val * (A.g (i 0).val (i 1).val * sg (A.g (i 0).val (i 1).val)) : ℝ) : EReal)
abbrev plain (A : Arrs) : Vec Ideal S8192x1536 .f32 := fun i : S8192x1536.Idx => (att A (i 0).val (i 1).val : EReal)
abbrev tails (A : Arrs) : Vec Ideal S8192x1536 .f32 := fun i : S8192x1536.Idx => (A.tl (i 0).val ((i 1).val / 128) : EReal)

theorem last_y : (dat A m c).arrAt 4 cfg0.N
    = fun i : S8192x1536.Idx => ((att (A c) (i 0).val (i 1).val * ((A c).g (i 0).val (i 1).val * sg ((A c).g (i 0).val (i 1).val)) : ℝ) : EReal) :=
  (dat A m c).arrAt_eq_of_covers 4 _ (by decide +kernel) fun t hf y => by
    blk_simp [at4]
    show (outs (A c) t).y y = _
    simp only [outs, mul_comm _ 1024, mul_comm _ 128]
theorem last_o : (dat A m c).arrAt 5 cfg0.N = fun i : S8192x1536.Idx => ((att (A c) (i 0).val (i 1).val : ℝ) : EReal) :=
  (dat A m c).arrAt_eq_of_covers 5 _ (by decide +kernel) fun t hf y => by
    blk_simp [at5]
    show (outs (A c) t).o y = _
    simp only [outs, mul_comm _ 1024, mul_comm _ 128]
theorem last_tl : (dat A m c).arrAt 6 cfg0.N = fun i : S8192x1536.Idx => (((A c).tl (i 0).val ((i 1).val / 128) : ℝ) : EReal) :=
  (dat A m c).arrAt_eq_of_covers 6 _ (by decide +kernel) fun t hf y => by
    blk_simp [at6]
    show (outs (A c) t).tl y = _
    simp only [outs, mul_comm _ 1024, mul_comm _ 128]

section Post

variable (r : PUnit × MemSt nD τ sig (Elt Ideal)) (h : Pipeline.FramePost cfgs (named m (fun c => outs (A c))) 0 (V m) r)
include h

theorem post_in : r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 1).trans (((dat A m c).arrAt_in 1 rfl _).trans ((named_A m _ c 1).trans (V_main_arg0 m c))),
    ((h c).2 main_arg1 (Pipeline.mem_restRefs_of main_arg1 (by decide) (by decide))).trans (V_main_arg1 m c)⟩

theorem post_y : r.2.mem ((c.tc : Thread nD τ).loc main_v1_0) = gated (A c) := by
  have e : r.2.mem ((c.tc : Thread nD τ).loc main_v1_0) = (dat A m c).arrAt 4 cfg0.N := (h c).1 4
  rw [e]
  exact last_y A m c

theorem post_o : r.2.mem ((c.tc : Thread nD τ).loc main_v1_1) = plain (A c) := by
  have e : r.2.mem ((c.tc : Thread nD τ).loc main_v1_1) = (dat A m c).arrAt 5 cfg0.N := (h c).1 5
  rw [e]
  exact last_o A m c

theorem post_tl : r.2.mem ((c.tc : Thread nD τ).loc main_v1_2) = tails (A c) := by
  have e : r.2.mem ((c.tc : Thread nD τ).loc main_v1_2) = (dat A m c).arrAt 6 cfg0.N := (h c).1 6
  rw [e]
  exact last_tl A m c

end Post

variable {A m}

/-- The call ends with its arguments as they were and with the output, gated and plain, and the row sums in its results. -/
theorem sf_run (hA : ∀ c, Reads (A c) m c) : θ_run defs (onTc (τ := τ) (main (F := Ideal))) (s₀ m ρ) (fun r => ∀ c : Dev nD,
      r.2.mem ((c.tc : Thread nD τ).loc main_v1_0) = gated (A c)
      ∧ r.2.mem ((c.tc : Thread nD τ).loc main_v1_1) = plain (A c)
      ∧ r.2.mem ((c.tc : Thread nD τ).loc main_v1_2) = tails (A c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨post_y A m c r h.1, post_o A m c r h.1, post_tl A m c r h.1, post_in A m c r h.1⟩)
    (named_run (O := fun c => outs (A c)) ρ fun c => leaves (hA c) _ rfl)

end Cert.Proof.Sf

end
-- ==== Proof.SfRef.lean ====
/- The forward lines of the attention on finite arguments. They are the lines the backward call's host part runs too: the output
   and the row sums are the ones read there, and the gate multiplies the output. -/
module

public import proofs.«01_k».proof.Proof.SbHost
public import proofs.«01_k».proof.Proof.SfPoint
public import proofs.«01_k».proof.Proof.Gen.Reference5Ideal
public import proofs.«01_k».proof.Proof.Gen.Reference5Ideal.Run
public import proofs.«01_k».proof.Proof.Gen.Reference5Ideal.Read

@[expose] public section

set_option maxRecDepth 65536

noncomputable section

namespace Cert.Proof.Sf.Ref

open Idealize.ShloMosaic Idealize.ShloMosaic.TcCoe Idealize.SL.Sem
open Cert.Reference5Ideal Cert.Reference5Ideal.Gen Cert.Reference5Ideal.Read Cert.Reals
open Cert.Proof.Sb (Arrs Blk sg tailOf)
open Cert.Proof.Sb.Ref (u0 u1 entry sig_real)
open Idealize.ShloMosaic.Pointwise
open scoped BigOperators

/-! ## The lines shared with the backward call -/

section Shared
variable {F : FTy → Type} [FloatOps F] (a0 : Vec F S8192x4096 .f32) (a1 : Vec F S8192x3072 .f32)

theorem same_o : val_main_v51 (F := F) a0 a1 = Cert.Reference4Ideal.Read.val_main_v30 (F := F) a0 a1 := by sl_kernel_rfl
theorem same_tl : val_main_v24 (F := F) a0 a1 = tailOf (Cert.Reference4Ideal.Read.val_main_v22_0 (F := F) a0 a1) := by sl_kernel_rfl
end Shared

variable (X0 : S8192x4096.Idx → ℝ) (X1 : S8192x3072.Idx → ℝ)

/-- The arrays of the forward pass: those of the backward pass, with no cotangent. -/
def arrs : Arrs := Cert.Proof.Sb.Ref.arrs X0 X1 fun _ => 0

theorem tl_all (r h : ℕ) : (arrs X0 X1).tl r h = ∑ j ∈ Finset.range 8192, ((arrs X0 X1).head h).SP r j := by
  show (∑ b ∈ Finset.range 8192, ((Cert.Proof.Sb.Ref.given X0 X1 fun _ => 0).head h).SP r b : ℝ) = _
  refine Finset.sum_congr rfl fun b _ => ?_
  unfold Blk.SP Blk.Z
  rfl

theorem tail_all (x : Vec Ideal Cert.Kernel4Ideal.S12x8192x8192 .f32) (r : Fin 8192) (a : Fin 1536) (f : Fin 8192 → ℝ)
    (hx : ∀ j, x (ix3 (⟨a.val / 128, by omega⟩ : Fin 12) r j) = ((-f j : ℝ) : EReal)) :
    tailOf x (ix2 r a) = ((∑ j, f j : ℝ) : EReal) := by
  pointwise [tailOf]
  simp only [hx, sum_coe]
  rw [← EReal.coe_neg, Finset.sum_neg_distrib, neg_neg]

variable (r : Fin 8192) (a : Fin 1536)

theorem ref_o : val_main_v51 (F := Ideal) (u0 X0) (u1 X1) (ix2 r a) = (att (arrs X0 X1) r a : EReal) := by
  rw [same_o]
  exact Cert.Proof.Sb.Ref.ref_o X0 X1 (fun _ => 0) r a

theorem ref_tl : val_main_v24 (F := Ideal) (u0 X0) (u1 X1) (ix2 r a) = ((arrs X0 X1).tl r (a.val / 128) : EReal) := by
  rw [same_tl, tail_all _ r a (fun j => ((arrs X0 X1).head (a.val / 128)).SP r.val j.val)
    (fun j => Cert.Proof.Sb.Ref.ref_keep X0 X1 (fun _ => 0) ⟨a.val / 128, by omega⟩ r j), tl_all,
    Fin.sum_univ_eq_sum_range (fun j => ((arrs X0 X1).head (a.val / 128)).SP r.val j) 8192]

theorem ref_g : val_main_v52 (F := Ideal) (u0 X0) (ix2 r a) = ((arrs X0 X1).g r a : EReal) := by
  pointwise [val_main_v52]
  exact congrArg Real.toEReal (entry X0 r _ _ _ (by omega))

theorem ref_y : val_main_v55 (F := Ideal) (u0 X0) (u1 X1) (ix2 r a)
    = ((att (arrs X0 X1) r a * ((arrs X0 X1).g r a * sg ((arrs X0 X1).g r a)) : ℝ) : EReal) := by
  pointwise [val_main_v55, val_main_v54, val_main_v53, val_main_call7_v5, val_main_call7_v4, val_main_call7_v3, val_main_call7_v2,
    val_main_call7_v1, val_main_call7_v0, val_main_call7_cst, val_main_call7_cst_0]
  rw [ref_o, ref_g X0 X1, sig_real, ← EReal.coe_mul, ← EReal.coe_mul]

end Cert.Proof.Sf.Ref

end
-- ==== Proof.SfAlgebra.lean ====
/- The attention's forward call against its forward lines: on finite arguments both programs end with the same gated output,
   output and row sums. -/
module

public import proofs.«01_k».proof.Defs
public import proofs.«01_k».proof.Proof.SfRef
public import proofs.«01_k».proof.Proof.SbAlgebra
public import proofs.«01_k».proof.Proof.Gen.Pre_sbf_finite
public import Idealize.ShloMosaic.Lib.ReduceAll

@[expose] public section

set_option maxRecDepth 65536

noncomputable section

namespace Cert.Proof.Sf

open Idealize.ShloMosaic Idealize.ShloMosaic.TcCoe Idealize.SL.Sem
open Cert.Reference5Ideal Cert.Reference5Ideal.Gen Cert.Reference5Ideal.Read Cert.Reals
open Cert.Proof.Sb (real_part)
open Cert.Proof.Sb.Ref (u0 u1 entry)

/-- The precondition makes both arguments arrays of real numbers. -/
theorem finite_args {a0 : Vec Ideal S8192x4096 .f32} {a1 : Vec Ideal S8192x3072 .f32}
    (h : Cert.Pre_sbf_finite.fn (F := Ideal) a0 a1 = fun _ => 1#1) : ∃ X0 X1, a0 = u0 X0 ∧ a1 = u1 X1 := by
  have all := congrFun h ix0
  unfold Cert.Pre_sbf_finite.fn at all
  dsimp only at all
  obtain ⟨k0, k1⟩ := and_one all
  exact ⟨fun i => EReal.toReal (a0 i), fun i => EReal.toReal (a1 i),
    funext fun i => real_part (real_of_cmp (Host.reduce_andi_all _ _ _ _ ix0 k0 i)),
    funext fun i => real_part (real_of_cmp (Host.reduce_andi_all _ _ _ _ ix0 k1 i))⟩

section Prefix
variable {F : FTy → Type} [FloatOps F]
  (m : (ℓ : Loc Cert.Kernel5Ideal.nD Cert.Kernel5Ideal.τ Cert.Kernel5Ideal.sig) → Buf (Elt F) ℓ) (c : Dev Cert.Kernel5Ideal.nD)

/-- Keys and values are passed in half precision. -/
theorem V_kv : Cert.Kernel5Ideal.Gen.V m c Cert.Kernel5Ideal.main_v0
    = truncf .bf16 (m ((c : Thread Cert.Kernel5Ideal.nD Cert.Kernel5Ideal.τ).loc Cert.Kernel5Ideal.main_arg1))
      Cert.Kernel5Ideal.Facts₀.bitsLt_bf16_f32 := by sl_kernel_rfl
end Prefix

section All
variable (X0 : S8192x4096.Idx → ℝ) (X1 : S8192x3072.Idx → ℝ)

/-- What the buffers hold on finite arguments. -/
theorem reads {m : (ℓ : Loc Cert.Kernel5Ideal.nD Cert.Kernel5Ideal.τ Cert.Kernel5Ideal.sig) → Buf (Elt Ideal) ℓ} {c : Dev Cert.Kernel5Ideal.nD}
    (h0 : m ((c : Thread Cert.Kernel5Ideal.nD Cert.Kernel5Ideal.τ).loc Cert.Kernel5Ideal.main_arg0) = u0 X0)
    (h1 : m ((c : Thread Cert.Kernel5Ideal.nD Cert.Kernel5Ideal.τ).loc Cert.Kernel5Ideal.main_arg1) = u1 X1) : Reads (Ref.arrs X0 X1) m c := by
  have e0 : given m c = u0 X0 := (Cert.Kernel5Ideal.Gen.V_main_arg0 m c).trans h0
  have e1 : pairs m c = (fun i => (X1 i : EReal)) := (V_kv m c).trans (by rw [h1]; rfl)
  constructor
  · intro r a
    rw [e0]
    exact congrArg Real.toEReal (entry X0 r _ _ _ rfl)
  · intro r a
    rw [e0]
    exact congrArg Real.toEReal (entry X0 r _ _ _ rfl)
  · intro r a
    rw [e1]
    exact congrArg Real.toEReal (entry X1 r _ _ _ rfl)
  · intro r a
    rw [e1]
    exact congrArg Real.toEReal (entry X1 r _ _ _ rfl)
  · exact fun r h => Ref.tl_all X0 X1 r h

theorem all_y : val_main_v55 (F := Ideal) (u0 X0) (u1 X1) = gated (Ref.arrs X0 X1) := by
  funext i
  rw [eq_ix2 i]
  exact Ref.ref_y X0 X1 (i 0) (i 1)
theorem all_o : val_main_v51 (F := Ideal) (u0 X0) (u1 X1) = plain (Ref.arrs X0 X1) := by
  funext i
  rw [eq_ix2 i]
  exact Ref.ref_o X0 X1 (i 0) (i 1)
theorem all_tl : val_main_v24 (F := Ideal) (u0 X0) (u1 X1) = tails (Ref.arrs X0 X1) := by
  funext i
  rw [eq_ix2 i]
  exact Ref.ref_tl X0 X1 (i 0) (i 1)
end All

/-- The kernel's three results are those of the stick-breaking attention's lines. -/
theorem algebraic : Cert.algebraic_Kernel5Ideal_Reference5Ideal_pre_sbf_finite := by
  intro m g m' g' hpre hargs
  choose X0 X1 hX0 hX1 using fun c => finite_args (hpre c)
  have hA : ∀ c, Reads (Ref.arrs (X0 c) (X1 c)) m c := fun c => reads (X0 c) (X1 c) (hX0 c) (hX1 c)
  refine ⟨fun c => gated (Ref.arrs (X0 c) (X1 c)), fun c => plain (Ref.arrs (X0 c) (X1 c)), fun c => tails (Ref.arrs (X0 c) (X1 c)),
    sf_run g hA, ?_⟩
  refine (θ_run Cert.Reference5Ideal.defs _ _).mono (fun r h c => ?_) (Cert.Reference5Ideal.Value.run m' g')
  obtain ⟨hy, ho, ht, h⟩ := h c
  obtain ⟨e0, e1⟩ := hargs c
  have k0 : m' ((c.tc : Thread nD τ).loc main_arg0) = u0 (X0 c) := e0.trans (hX0 c)
  have k1 : m' ((c.tc : Thread nD τ).loc main_arg1) = u1 (X1 c) := e1.trans (hX1 c)
  refine ⟨?_, ?_, ?_, h⟩
  · rw [hy, val_main_v55_eq, k0, k1]; exact all_y _ _
  · rw [ho, val_main_v51_eq, k0, k1]; exact all_o _ _
  · rw [ht, val_main_v24_eq, k0, k1]; exact all_tl _ _

end Cert.Proof.Sf

end
-- ==== Proof.MemFwd.lean ====
/- The memory attention's forward kernel, read: a body leaves, at a column of a head, the head's attended value times the
   gate. Heads, blocks and rows are those of the backward kernel's reading. -/
module

public import proofs.«01_k».proof.Proof.MemKernel
public import proofs.«01_k».proof.Proof.Gen.Kernel6Ideal.Value

@[expose] public section

noncomputable section

namespace Cert.MemFwd

open Idealize.ShloMosaic Idealize.ShloMosaic.TcCoe Idealize.SL.Sem
open Cert.Mem (col eq_col slice ld_slice canon_heads scoreOf probOf rowAt Q G K V P hd lo hd_col lo_col)
open scoped BigOperators

/-- The gated value: an attended value times its gate through the logistic function. -/
def gated (o g : EReal) : EReal := o * (g * Ideal.div 1 (1 + Ideal.exp (-g)))

/-- The result of whole arguments, at row `r`, head `h`, column `d`. -/
def y (a0 : Vec Ideal ⟨2, ![8192, 4096]⟩ .f32) (a1 : Vec Ideal ⟨2, ![256, 4096]⟩ .f32) (r : Fin 8192) (h : Fin 4) (d : Fin 128) : EReal :=
  gated (∑ n, P a0 a1 r h n * V a1 h d n) (G a0 r h d)

def yOf (a0 : Vec Ideal ⟨2, ![8192, 4096]⟩ .f32) (a1 : Vec Ideal ⟨2, ![256, 4096]⟩ .f32) : Vec Ideal ⟨2, ![8192, 512]⟩ .bf16 :=
  fun i => y a0 a1 (i 0) (hd (i 1)) (lo (i 1))

theorem yOf_col (a0 : Vec Ideal ⟨2, ![8192, 4096]⟩ .f32) (a1 : Vec Ideal ⟨2, ![256, 4096]⟩ .f32) (r : Fin 8192) (h : Fin 4) (d : Fin 128) :
    yOf a0 a1 (ix2 r (col h d)) = y a0 a1 r h d := by
  show y a0 a1 r (hd (col h d)) (lo (col h d)) = _
  rw [hd_col, lo_col]

/-! ## The kernel -/

section Kernel
open Cert.Kernel6Ideal Cert.Kernel6Ideal.Gen

/-- One head's block: softmax of the scaled scores, times the values, times the gate. -/
def head {F : FTy → Type} [FloatOps F] (q g : Vec F S512x128 .f32) (k v : Vec F S256x128 .bf16) : FVec F S512x128 .bf16 :=
  k0_pay12 (k0_pay7 (k0_pay6 q k) v) g

theorem out_4 {F : FTy → Type} [FloatOps F] (x0 x1 : Vec F S512x512 .f32) (x2 x3 : Vec F S256x512 .bf16) (p : Fin 512) (h : Fin 4) (d : Fin 128) :
    out0_4 x0 x1 x2 x3 (ix2 p (col h d)) = head (slice x0 h) (slice x1 h) (slice x2 h) (slice x3 h) (ix2 p d) := by
  unfold out0_4
  refine (canon_heads ..).trans (congrFun ?_ _)
  match h with
  | 0 => simp only [Matrix.cons_val, ld_slice (o := 0) (h := 0) _ _ rfl]; rfl
  | 1 => simp only [Matrix.cons_val, ld_slice (o := 128) (h := 1) _ _ rfl]; rfl
  | 2 => simp only [Matrix.cons_val, ld_slice (o := 256) (h := 2) _ _ rfl]; rfl
  | 3 => simp only [Matrix.cons_val, ld_slice (o := 384) (h := 3) _ _ rfl]; rfl

section Elem
variable (q g : Vec Ideal S512x128 .f32) (k v : Vec Ideal S256x128 .bf16) (p : Fin 512) (n : Fin 256) (d : Fin 128)

theorem exp_at : k0_pay6 q k (ix2 p n) = Ideal.exp (scoreOf (rowAt q p) (fun n => rowAt k n) n
    - Finset.fold max (Ideal.ofBits .f32 4286578688#32) (scoreOf (rowAt q p) fun n => rowAt k n) Finset.univ) := by
  pointwise [k0_pay6]
  rfl

theorem att_at : k0_pay7 (k0_pay6 q k) v (ix2 p d) = ∑ n, probOf (scoreOf (rowAt q p) fun n => rowAt k n) n * v (ix2 n d) := by
  pointwise [k0_pay7]
  simp only [exp_at]
  rfl

theorem head_at : head q g k v (ix2 p d)
    = gated (∑ n, probOf (scoreOf (rowAt q p) fun n => rowAt k n) n * v (ix2 n d)) (g (ix2 p d)) := by
  unfold head
  pointwise [k0_pay12]
  rw [att_at, zero_sub]
  rfl
end Elem

theorem index0 : ∀ t : Fin cfg0.N, win0_0.index t 0 = t.val ∧ win0_0.index t 1 = 6 := (by decide +kernel : ∀ t : Fin grid0.N, _)
theorem index1 : ∀ t : Fin cfg0.N, win0_1.index t 0 = t.val ∧ win0_1.index t 1 = 7 := (by decide +kernel : ∀ t : Fin grid0.N, _)
theorem index2 : ∀ t : Fin cfg0.N, win0_2.index t 0 = 0 ∧ win0_2.index t 1 = 0 := (by decide +kernel : ∀ t : Fin grid0.N, _)
theorem index3 : ∀ t : Fin cfg0.N, win0_3.index t 0 = 0 ∧ win0_3.index t 1 = 1 := (by decide +kernel : ∀ t : Fin grid0.N, _)
theorem index4 : ∀ t : Fin cfg0.N, win0_4.index t 0 = t.val ∧ win0_4.index t 1 = 0 := (by decide +kernel : ∀ t : Fin grid0.N, _)

section Final
variable (m : (ℓ : Loc nD τ sig) → Buf (Elt Ideal) ℓ) (c : Dev nD) (t : Fin cfg0.N) (p : Fin 512) (n : Fin 256) (j : Fin 512)
  (h : Fin 4) (d : Fin 128)

abbrev A0 : Vec Ideal S8192x4096 .f32 := m ((c : Thread nD τ).loc main_arg0)
abbrev A1 : Vec Ideal S256x4096 .f32 := m ((c : Thread nD τ).loc main_arg1)

/-- The array's row that row `p` of point `t`'s block is. -/
abbrev row : Fin 8192 := ⟨t.val * 512 + p.val, by have : t.val < 16 := t.isLt; omega⟩

theorem emb0 : ((cfg0.win 0).blk t).view.emb (ix2 p j) = (ix2 (row t p) ⟨3072 + j.val, by omega⟩ : S8192x4096.Idx) := by
  refine funext fun a => Fin.ext ?_
  match a with
  | ⟨0, _⟩ => show win0_0.index t 0 * 512 + 1 * p.val = t.val * 512 + p.val; rw [(index0 t).1]; omega
  | ⟨1, _⟩ => show win0_0.index t 1 * 512 + 1 * j.val = 3072 + j.val; rw [(index0 t).2]; omega
theorem emb1 : ((cfg0.win 1).blk t).view.emb (ix2 p j) = (ix2 (row t p) ⟨3584 + j.val, by omega⟩ : S8192x4096.Idx) := by
  refine funext fun a => Fin.ext ?_
  match a with
  | ⟨0, _⟩ => show win0_1.index t 0 * 512 + 1 * p.val = t.val * 512 + p.val; rw [(index1 t).1]; omega
  | ⟨1, _⟩ => show win0_1.index t 1 * 512 + 1 * j.val = 3584 + j.val; rw [(index1 t).2]; omega
theorem emb2 : ((cfg0.win 2).blk t).view.emb (ix2 n j) = (ix2 n ⟨j.val, by omega⟩ : S256x4096.Idx) := by
  refine funext fun a => Fin.ext ?_
  match a with
  | ⟨0, _⟩ => show win0_2.index t 0 * 256 + 1 * n.val = n.val; rw [(index2 t).1]; omega
  | ⟨1, _⟩ => show win0_2.index t 1 * 512 + 1 * j.val = j.val; rw [(index2 t).2]; omega
theorem emb3 : ((cfg0.win 3).blk t).view.emb (ix2 n j) = (ix2 n ⟨512 + j.val, by omega⟩ : S256x4096.Idx) := by
  refine funext fun a => Fin.ext ?_
  match a with
  | ⟨0, _⟩ => show win0_3.index t 0 * 256 + 1 * n.val = n.val; rw [(index3 t).1]; omega
  | ⟨1, _⟩ => show win0_3.index t 1 * 512 + 1 * j.val = 512 + j.val; rw [(index3 t).2]; omega
theorem emb4 : ((cfg0.win 4).blk t).view.emb (ix2 p j) = (ix2 (row t p) j : S8192x512.Idx) := by
  refine funext fun a => Fin.ext ?_
  match a with
  | ⟨0, _⟩ => show win0_4.index t 0 * 512 + 1 * p.val = t.val * 512 + p.val; rw [(index4 t).1]; omega
  | ⟨1, _⟩ => show win0_4.index t 1 * 512 + 1 * j.val = j.val; rw [(index4 t).2]; omega

/-- The keys and values the region reads are the argument's, rounded by the host: over the reals, the argument's. -/
theorem V_memkv : Gen.V m c main_v0 = A1 m c := by
  refine Eq.trans (b := (truncf .bf16 (A1 m c : FVec Ideal S256x4096 .f32) bitsLt_bf16_f32 : FVec Ideal S256x4096 .bf16)) ?_ (funext fun i => ?_)
  · dsimp only [Gen.V, hostOps0]
    after_results_simp <;> rfl
  · rw [eq_ix2 i]
    pointwise []

theorem block_q : rowAt (slice (R := 512) (e := .f32) (iblk m c 0 t) h) p = Q (A0 m c) (row t p) h := by
  funext d
  refine Eq.trans ?_ (congrFun (V_main_arg0 m c) _)
  show iblk m c 0 t (ix2 p (col h d)) = _
  unfold iblk
  rw [View.read_apply]
  exact congrArg (Gen.V m c main_arg0) (emb0 t p (col h d))
theorem block_g : slice (R := 512) (e := .f32) (iblk m c 1 t) h (ix2 p d) = G (A0 m c) (row t p) h d := by
  refine Eq.trans ?_ (congrFun (V_main_arg0 m c) _)
  show iblk m c 1 t (ix2 p (col h d)) = _
  unfold iblk
  rw [View.read_apply]
  exact congrArg (Gen.V m c main_arg0) (emb1 t p (col h d))
theorem block_k : rowAt (slice (R := 256) (e := .bf16) (iblk m c 2 t) h) n = fun d => K (A1 m c) h d n := by
  funext d
  refine Eq.trans ?_ (congrFun (V_memkv m c) _)
  show iblk m c 2 t (ix2 n (col h d)) = _
  unfold iblk
  rw [View.read_apply]
  exact congrArg (Gen.V m c main_v0) (emb2 t n (col h d))
theorem block_v : slice (R := 256) (e := .bf16) (iblk m c 3 t) h (ix2 n d) = V (A1 m c) h d n := by
  refine Eq.trans ?_ (congrFun (V_memkv m c) _)
  show iblk m c 3 t (ix2 n (col h d)) = _
  unfold iblk
  rw [View.read_apply]
  exact congrArg (Gen.V m c main_v0) (emb3 t n (col h d))

theorem point : out0_4 (iblk m c 0 t) (iblk m c 1 t) (iblk m c 2 t) (iblk m c 3 t) (ix2 p (col h d)) = y (A0 m c) (A1 m c) (row t p) h d := by
  rw [out_4, head_at, block_q, block_g]
  simp only [block_k, block_v]
  rfl

theorem cover4 (i : S8192x512.Idx) : ∃ t : Fin cfg0.N, i ∈ ((View.whole main_v1).slice (win0_4.rect t)).set := by
  have h0 : (i 0 : Nat) < 8192 := (i 0).isLt
  have h1 : (i 1 : Nat) < 512 := (i 1).isLt
  refine ⟨⟨(i 0 : Nat) / 512, by show _ < 16; omega⟩, ?_⟩
  rw [View.set_slice_whole, Rect.mem_set_unit]
  intro a
  match a with
  | ⟨0, _⟩ =>
    show win0_4.index _ 0 * 512 ≤ (i 0 : Nat) ∧ (i 0 : Nat) < win0_4.index _ 0 * 512 + 512
    rw [(index4 _).1]; dsimp only; omega
  | ⟨1, _⟩ =>
    show win0_4.index _ 1 * 512 ≤ (i 1 : Nat) ∧ (i 1 : Nat) < win0_4.index _ 1 * 512 + 512
    rw [(index4 _).2]; omega

theorem final : (dats m 0 c).arrAt 4 cfg0.N = yOf (A0 m c) (A1 m c) :=
  (dats m 0 c).arrAt_eq_of_cover 4 _ (fun t _ => by
      rw [Value.flushed4]
      funext j
      obtain ⟨p, k, rfl⟩ : ∃ (p : Fin 512) (k : Fin 512), j = (ix2 p k : S512x512.Idx) := ⟨j 0, j 1, eq_ix2 j⟩
      rw [View.read_apply, eq_col k]
      refine (point m c t p _ _).trans ((yOf_col (A0 m c) (A1 m c) (row t p) _ _).symm.trans ?_)
      generalize yOf (A0 m c) (A1 m c) = W
      exact congrArg W (emb4 t p _).symm)
    fun i => let ⟨t, h⟩ := cover4 i; ⟨t, flush0_4 t, h⟩
end Final
end Kernel

end Cert.MemFwd

end
-- ==== Proof.MemFwdRef.lean ====
/- The forward lines of the memory attention, read at a column of a head: the expression that the kernel leaves there, up to
   the order of the factors, for all extended reals. -/
module

public import proofs.«01_k».proof.Defs
public import proofs.«01_k».proof.Proof.MemFwd
public import proofs.«01_k».proof.Proof.Gen.Reference6Ideal
public import proofs.«01_k».proof.Proof.Gen.Reference6Ideal.Run
public import proofs.«01_k».proof.Proof.Gen.Reference6Ideal.Read

@[expose] public section

noncomputable section

namespace Cert.MemFwd

open Idealize.ShloMosaic Idealize.ShloMosaic.TcCoe Idealize.SL.Sem
open Cert.Mem (col eq_col scoreOf probOf Q G K V P hd lo)
open scoped BigOperators

/-! ## The reference -/

section Ref
open Cert.Reference6Ideal Cert.Reference6Ideal.Gen Cert.Reference6Ideal.Read
variable (a0 : Vec Ideal S8192x4096 .f32) (a1 : Vec Ideal S256x4096 .f32) (r : Fin 8192) (h : Fin 4) (d : Fin 128) (n : Fin 256)

theorem ref_score : val_main_v9 (F := Ideal) a0 a1 (ix3 h r n) = scoreOf (Q a0 r h) (fun n d => K a1 h d n) n := by
  pointwise [val_main_v9, val_main_v8, val_main_v7, val_main_cst, val_main_v5, val_main_v4, val_main_v2, val_main_v0]
  rfl

/-- The maximum along a row, from minus infinity, once more against minus infinity. -/
theorem max_row (W : Vec Ideal S4x8192x256 .f32) :
    Host.reduce FloatOps.maximumf W (val_main_cst_0 (F := Ideal)) reducesTo_S4x8192x256_S4x8192_d2 h_S_ (ix2 h r)
      = Finset.fold max (Ideal.ofBits .f32 4286578688#32) (fun n => W (ix3 h r n)) Finset.univ := by
  pointwise [val_main_cst_0]

theorem max_bot (W : FVec Ideal S4x8192 .f32) :
    (maximumf (val_main_v11 (F := Ideal) : FVec Ideal S4x8192 .f32) W : FVec Ideal S4x8192 .f32) (ix2 h r) = W (ix2 h r) := by
  refine Eq.trans (b := max (Ideal.ofBits .f32 4286578688#32) (W (ix2 h r))) (by pointwise [val_main_v11, val_main_cst_1]) ?_
  rw [Reals.lit_neg_inf]
  exact max_eq_right bot_le

theorem ref_max : val_main_v12 (F := Ideal) a0 a1 (ix2 h r)
    = Finset.fold max (Ideal.ofBits .f32 4286578688#32) (scoreOf (Q a0 r h) fun n d => K a1 h d n) Finset.univ := by
  refine (max_bot r h (val_main_v10 (F := Ideal) a0 a1)).trans ((max_row r h (val_main_v9 (F := Ideal) a0 a1)).trans ?_)
  simp only [ref_score]

/-- An exponential of a row less a value of the row. -/
theorem exp_stage (W : FVec Ideal S4x8192x256 .f32) (M : FVec Ideal S4x8192 .f32) :
    (Host.exp (subf W (broadcastInDim S4x8192x256 ![0, 1, 2] bcast_S4x8192x1_S4x8192x256_0_1_2
        (broadcastInDim S4x8192x1 ![0, 1] bcast_S4x8192_S4x8192x1_0_1 M : FVec Ideal S4x8192x1 .f32))) : FVec Ideal S4x8192x256 .f32) (ix3 h r n)
      = Ideal.exp (W (ix3 h r n) - M (ix2 h r)) := by
  pointwise []

theorem ref_exp : val_main_v16 (F := Ideal) a0 a1 (ix3 h r n) = Ideal.exp (scoreOf (Q a0 r h) (fun n d => K a1 h d n) n
    - Finset.fold max (Ideal.ofBits .f32 4286578688#32) (scoreOf (Q a0 r h) fun n d => K a1 h d n) Finset.univ) := by
  refine (exp_stage r h n (val_main_v9 (F := Ideal) a0 a1) (val_main_v12 (F := Ideal) a0 a1)).trans ?_
  rw [ref_score, ref_max]

theorem ref_prob : val_main_v20 (F := Ideal) a0 a1 (ix3 h r n) = P a0 a1 r h n := by
  pointwise [val_main_v20, val_main_v19, val_main_v18, val_main_v17, val_main_cst_2]
  simp only [ref_exp]
  rfl

theorem ref_v : val_main_v6 (F := Ideal) a1 (ix3 n h d) = V a1 h d n := by
  pointwise [val_main_v6, val_main_v3]
  rfl

theorem ref_att (j : Fin 512) : val_main_v23 (F := Ideal) a0 a1 (ix2 r j) = ∑ n, P a0 a1 r (hd j) n * V a1 (hd j) (lo j) n := by
  pointwise [val_main_v23, val_main_v22, val_main_v21]
  simp only [ref_prob, ref_v]
  exact Finset.sum_congr rfl fun n _ => mul_comm _ _

theorem gate_entry (j : Fin 512) : a0 (ix2 r ⟨3584 + j.val, by omega⟩) = G a0 r (hd j) (lo j) :=
  congrArg a0 (congrArg (ix2 r) (Fin.ext (congrArg (3584 + ·) (congrArg Fin.val (eq_col j)))))

theorem ref_y (j : Fin 512) : val_main_v26 (F := Ideal) a0 a1 (ix2 r j) = y a0 a1 r (hd j) (lo j) := by
  pointwise [val_main_v26, val_main_v25, val_main_v24, val_main_call0_v5, val_main_call0_v4, val_main_call0_cst_0, val_main_call0_v3,
    val_main_call0_v2, val_main_call0_cst, val_main_call0_v1, val_main_call0_v0, val_main_v1]
  rw [ref_att, gate_entry a0 r j]
  rfl

theorem all_y : val_main_v26 (F := Ideal) a0 a1 = (yOf a0 a1 : S8192x512.Idx → EReal) := by
  funext i
  rw [eq_ix2 i]
  exact ref_y a0 a1 (i 0) (i 1)
end Ref

/-- The kernel's result is the memory attention times its gate. -/
theorem algebraic : Cert.algebraic_Kernel6Ideal_Reference6Ideal := by
  intro m g m' g' _ hargs
  refine ⟨fun c => yOf (A0 m c) (A1 m c), ?_, ?_⟩
  · refine (θ_run Cert.Kernel6Ideal.defs _ _).mono (fun r h c => ?_) (Cert.Kernel6Ideal.Value.run_blocks m g)
    obtain ⟨h4, h⟩ := h c
    exact ⟨h4.trans (final m c), h⟩
  · refine (θ_run Cert.Reference6Ideal.defs _ _).mono (fun r h c => ?_) (Cert.Reference6Ideal.Value.run m' g')
    obtain ⟨h26, h⟩ := h c
    obtain ⟨e0, e1⟩ := hargs c
    refine ⟨?_, h⟩
    rw [h26, Cert.Reference6Ideal.Read.val_main_v26_eq, e0, e1]
    exact all_y (A0 m c) (A1 m c)

end Cert.MemFwd

end
-- ==== Proof.NormMatmulRun.lean ====
module

public import proofs.«01_k».proof.Proof.Gen.Kernel7Ideal.Frame
public import proofs.«01_k».proof.Proof.Gen.Kernel7Ideal.Skeleton
public import Idealize.ShloMosaic.Lib.VecWindow

/-!
  The fused norm and product, run at a grid point: at the first column block the body stores the normed rows and multiplies
  them, at the others it multiplies the normed rows it finds.
-/

@[expose] public section

set_option maxRecDepth 16384

noncomputable section

namespace Cert.NormMatmul

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

section Run
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x2048 .bf16) (h6 : a6.IsWhole)
  (x : Vec F S1024x2048 .f32) (g : Vec F S1x2048 .f32) (w : Vec F S2048x1024 .bf16) (u : Vec F S1024x2048 .bf16)

/-- The body's buffers: the three inputs, the product's buffer at `o`, the normed rows' at `u`. -/
def Held (o : Vec F S1024x1024 .f32) (u : Vec F S1024x2048 .bf16) : sProp 𝕄 :=
  iprop(owns (c : Thread nD τ) a2 fullShare x ∗ owns (c : Thread nD τ) a3 fullShare g ∗ owns (c : Thread nD τ) a4 fullShare w ∗
    owns (c : Thread nD τ) a5 fullShare o ∗ owns (c : Thread nD τ) a6 fullShare u)

/-- At the first column block: whatever the results' buffers hold. -/
theorem run_first (hc : k0_cond1 i = 1#1) (o : Vec F S1024x1024 .f32) :
    (Held c a2 a3 a4 a5 a6 x g w o u : sProp 𝕄)
      ⊢ wp frame (wpE (defs₀ (F := F)) Variants.none c none) Set.univ (cc0_in_proj i a2 h2 a3 h3 a4 h4 a5 h5 a6 h6) fun _ =>
        Held c a2 a3 a4 a5 a6 x g w (k0_pay2 (k0_pay1 x g) w) (k0_pay1 x g) := by
  simp only [cc0_in_proj_eq_skeleton]; unfold cc0_in_proj_skel
  unfold Held owns
  iintro ⟨⟨%f0, %hf0, H0⟩, ⟨%f1, %hf1, H1⟩, ⟨%f2, %hf2, H2⟩, ⟨%f3, %hf3, H3⟩, ⟨%f4, %hf4, H4⟩⟩
  obtain rfl := h2.eq_unread hf0; obtain rfl := h3.eq_unread hf1; obtain rfl := h4.eq_unread hf2
  sl_exec (disch := sl_exact hc)
  sl_step
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    sl_unfold_words
    exact (View.read_writes_full ..).trans (congrArg₂ k0_pay2 ((View.readCov_full ..).trans (congrArg₂ k0_pay1 ((View.readAt_full ..).trans (h2.read_unread x)) ((View.readAt_full ..).trans (h3.read_unread g))))
      ((View.readAt_full ..).trans (h4.read_unread w)))
  · iexists _; isplitr
    swap; · iexact H4
    ipureintro
    sl_unfold_words
    exact (View.read_writes_full ..).trans (congrArg₂ k0_pay1 ((View.readAt_full ..).trans (h2.read_unread x)) ((View.readAt_full ..).trans (h3.read_unread g)))

/-- At the other column blocks: on the normed rows it finds. -/
theorem run_later (hc : ¬ k0_cond1 i = 1#1) (o : Vec F S1024x1024 .f32) :
    (Held c a2 a3 a4 a5 a6 x g w o u : sProp 𝕄)
      ⊢ wp frame (wpE (defs₀ (F := F)) Variants.none c none) Set.univ (cc0_in_proj i a2 h2 a3 h3 a4 h4 a5 h5 a6 h6) fun _ =>
        Held c a2 a3 a4 a5 a6 x g w (k0_pay2 u w) u := by
  simp only [cc0_in_proj_eq_skeleton]; unfold cc0_in_proj_skel
  unfold Held owns
  iintro ⟨⟨%f0, %hf0, H0⟩, ⟨%f1, %hf1, H1⟩, ⟨%f2, %hf2, H2⟩, ⟨%f3, %hf3, H3⟩, ⟨%f4, %hf4, H4⟩⟩
  obtain rfl := h4.eq_unread hf2; obtain rfl := h6.eq_unread hf4
  sl_exec (disch := sl_exact hc)
  sl_step
  isplitl [H0]
  · iexists _; isplitr; · ipureintro; exact hf0
    iexact H0
  isplitl [H1]
  · iexists _; isplitr; · ipureintro; exact hf1
    iexact H1
  isplitl [H2]
  · iexists _; isplitr; · ipureintro; exact h4.read_unread _
    iexact H2
  isplitl [H3]
  · iexists _; isplitr
    swap; · iexact H3
    ipureintro
    exact (View.read_writes_full ..).trans (congrArg₂ k0_pay2 ((View.readAt_full ..).trans (h6.read_unread u)) ((View.readAt_full ..).trans (h4.read_unread w)))
  · iexists _; isplitr; · ipureintro; exact h6.read_unread _
    iexact H4
end Run

end Cert.NormMatmul

end
-- ==== Proof.NormMatmulFrame.lean ====
module

public import proofs.«01_k».proof.Proof.NormMatmulRun
public import Idealize.ShloMosaic.Lib.Pipeline.TableIdle

/-!
  The fused norm and product as a whole: every buffer named at every point, the normed rows carried along the column blocks
  of one row block, and the call's run from them.
-/

@[expose] public section

set_option maxRecDepth 16384

noncomputable section

namespace Cert.NormMatmul

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

theorem at0 : ∀ t : Fin cfg0.N, win0_0.index t = ![t.val / 4, 0] := (by decide +kernel : ∀ t : Fin grid0.N, _)
theorem at1 : ∀ t : Fin cfg0.N, win0_1.index t = ![0, 0] := (by decide +kernel : ∀ t : Fin grid0.N, _)
theorem first : ∀ t : Fin cfg0.N, k0_cond1 (grid0.coords t) = 1#1 ↔ t.val % 4 = 0 := (by decide +kernel : ∀ t : Fin grid0.N, _)
theorem idle4 : ∀ t : Fin cfg0.N, cfg0.idle 4 (grid0.coords t) = decide (t.val % 4 ≠ 0) := (by decide +kernel : ∀ t : Fin grid0.N, idle0 4 (grid0.coords t) = _)

variable (m : (ℓ : Loc nD τ sig) → Buf (Elt F) ℓ) (c : Dev nD) (t : Fin cfg0.N)

/-- The rows' block and the gains' at point `t`. -/
abbrev rowsAt : Vec F S1024x2048 .f32 := iblk m c 0 t
abbrev gainsAt : Vec F S1x2048 .f32 := iblk m c 1 t
abbrev colsAt : Vec F S2048x1024 .bf16 := iblk m c 2 t
/-- The normed rows of point `t`'s row block. -/
def normed : Vec F S1024x2048 .bf16 := k0_pay1 (rowsAt m c t) (gainsAt m c t)

theorem rows_same (s : Fin cfg0.N) (h : s.val / 4 = t.val / 4) : rowsAt m c s = rowsAt m c t := by
  funext y
  unfold rowsAt iblk
  rw [View.read_apply, View.read_apply]
  refine congrArg (V m c main_arg0) (funext fun a => Fin.ext ?_)
  match a with
  | ⟨0, _⟩ => show win0_0.index s 0 * 1024 + 1 * (y 0).val = win0_0.index t 0 * 1024 + 1 * (y 0).val; rw [at0, at0, h]
  | ⟨1, _⟩ => show win0_0.index s 1 * 2048 + 1 * (y 1).val = win0_0.index t 1 * 2048 + 1 * (y 1).val; rw [at0, at0, h]

theorem gains_same (s : Fin cfg0.N) : gainsAt m c s = gainsAt m c t := by
  funext y
  unfold gainsAt iblk
  rw [View.read_apply, View.read_apply]
  refine congrArg (V m c main_v0) (funext fun a => Fin.ext ?_)
  match a with
  | ⟨0, _⟩ => show win0_1.index s 0 * 1 + 1 * (y 0).val = win0_1.index t 0 * 1 + 1 * (y 0).val; rw [at1, at1]
  | ⟨1, _⟩ => show win0_1.index s 1 * 2048 + 1 * (y 1).val = win0_1.index t 1 * 2048 + 1 * (y 1).val; rw [at1, at1]

theorem normed_same (s : Fin cfg0.N) (h : s.val / 4 = t.val / 4) : normed m c s = normed m c t := by
  unfold normed
  rw [rows_same m c t s h, gains_same m c t s]

/-- Every input's buffer at its block, the normed rows and their product with the columns' block in the results'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (normed m c t) (colsAt m c t)
    | ⟨4, _⟩ => normed m c t
  Φ _ := Pipeline.ΦA spec0 c
  q _ := fullShare
  owed _ := 0

theorem A_eq (w : Fin cfg0.W) : (dats m 0 c).A w = V m c (Pipeline.arrRef spec0 w) := by dsimp only [dats]

theorem before_0 (d) : (dats m 0 c).before 0 t d = iblk m c 0 t :=
  before0_0_of m _ (A_eq m c 0) (fun t => by dsimp only [dats]) t d
theorem before_1 (d) : (dats m 0 c).before 1 t d = iblk m c 1 t :=
  before0_1_of m _ (A_eq m c 1) (fun t => by dsimp only [dats]) t d
theorem before_2 (d) : (dats m 0 c).before 2 t d = iblk m c 2 t :=
  before0_2_of m _ (A_eq m c 2) (fun t => by dsimp only [dats]) t d

theorem fresh4 : ∀ t : Fin cfg0.N, cfg0.fresh 4 t.val = decide (t.val % 4 = 0) := fun t => by
  obtain ⟨n, hn⟩ := t
  induction n with
  | zero => exact Cfg.fresh_zero _ _
  | succ n ih =>
    have hn' : n < cfg0.N := by omega
    show cfg0.fresh 4 (n + 1) = decide ((n + 1) % 4 = 0)
    rw [Cfg.fresh_succ cfg0 4 n hn', show cfg0.fresh 4 n = decide (n % 4 = 0) from ih hn',
      show cfg0.idle 4 (cfg0.grid.coords ⟨n, hn'⟩) = decide (n % 4 ≠ 0) from idle4 ⟨n, hn'⟩,
      show (cfg0.win 4).flush ⟨n, hn'⟩ = decide (n % 4 = 3) from Bool.eq_iff_iff.mpr ((flush0_4 ⟨n, hn'⟩).trans decide_eq_true_iff.symm)]
    by_cases h : n % 4 = 0 <;> by_cases h3 : n % 4 = 3 <;> simp [h, h3] <;> omega

/-- Past the first column block the normed rows' buffer holds them. -/
theorem before_4 (h : t.val % 4 ≠ 0) (d) : (dats m 0 c).before 4 t d = normed m c t := by
  have carry : ∀ (s : Fin cfg0.N) (_ : s.val ≠ 0), s.val % 4 ≠ 0 → normed m c s = normed m c ⟨s.val - 1, by omega⟩ := fun s h0 hs =>
    (normed_same m c s _ (by dsimp only; omega)).symm
  rw [Dat.before_out_traj _ 4 rfl (fun _ _ => rfl) (fun s h0 hi _ => by
      dsimp only [dats]
      exact carry s h0 (of_decide_eq_true ((idle4 s).symm.trans hi))) t.val t rfl d,
    if_neg (by rw [fresh4]; simpa using h)]
  dsimp only [dats]
  exact (carry t (by omega) h).symm

/-- The normed rows are what the normed rows' buffer is to hold after the point. -/
theorem leaves_4 : (owns (c : Thread nD τ) (st0_4 t) fullShare (normed m c t) : sProp 𝕄) ⊢ (dats m 0 c).leavesExact 4 t := by
  by_cases h : t.val % 4 = 0
  · have hi : cfg0.idle 4 (cfg0.grid.coords t) = false := (idle4 t).trans (decide_eq_false (not_not.mpr h))
    unfold Dat.leavesExact
    rw [hi]
    dsimp only [dats]
    exact .rfl
  · have hi : cfg0.idle 4 (cfg0.grid.coords t) = true := (idle4 t).trans (decide_eq_true h)
    unfold Dat.leavesExact
    rw [hi]
    cases hf : (cfg0.win 4).flush t
    · dsimp only
      iintro H
      iexists (normed m c t)
      rw [before_4 m c t h]
      iexact H
    · dsimp only [dats]
      exact .rfl

/-- The body's call at a point, on its buffers. -/
theorem body_at (o : Vec F S1024x1024 .f32) (d) :
    (Held c (st0_0 t) (st0_1 t) (st0_2 t) (st0_3 t) (st0_4 t) (rowsAt m c t) (gainsAt m c t) (colsAt m c t) o ((dats m 0 c).before 4 t d) : sProp 𝕄)
      ⊢ wp frame (wpE (defs₀ (F := F)) Variants.none c none) Set.univ (bodyAt0 t) fun _ =>
        Held c (st0_0 t) (st0_1 t) (st0_2 t) (st0_3 t) (st0_4 t) (rowsAt m c t) (gainsAt m c t) (colsAt m c t)
          (k0_pay2 (normed m c t) (colsAt m c t)) (normed m c t) := by
  by_cases h : t.val % 4 = 0
  · exact run_first c (grid0.coords t) _ _ _ _ _ _ _ _ _ _ _ _ _ _ ((first t).mpr h) o
  · rw [before_4 m c t h]
    exact run_later c (grid0.coords t) _ _ _ _ _ _ _ _ _ _ _ _ _ _ (fun e => h ((first t).mp e)) o

theorem body :
    iprop((dats m 0 c).Φ t.castSucc ∗ (dats m 0 c).owesAt () t.castSucc ∗
        (∃ d, owns (c : Thread nD τ) (st0_0 t) fullShare ((dats m 0 c).before 0 t d)) ∗
        (∃ d, owns (c : Thread nD τ) (st0_1 t) fullShare ((dats m 0 c).before 1 t d)) ∗
        (∃ d, owns (c : Thread nD τ) (st0_2 t) fullShare ((dats m 0 c).before 2 t d)) ∗
        (∃ d, owns (c : Thread nD τ) (st0_3 t) fullShare ((dats m 0 c).before 3 t d)) ∗
        (∃ d, owns (c : Thread nD τ) (st0_4 t) fullShare ((dats m 0 c).before 4 t d)))
      ⊢ wp frame (wpE (defs₀ (F := F)) Variants.none c none) Set.univ (bodyAt0 t) fun _ =>
        iprop((dats m 0 c).Φ t.succ ∗ (dats m 0 c).owesAt () t.succ ∗
          owns (c : Thread nD τ) (st0_0 t) fullShare ((dats m 0 c).after 0 t) ∗
          owns (c : Thread nD τ) (st0_1 t) fullShare ((dats m 0 c).after 1 t) ∗
          owns (c : Thread nD τ) (st0_2 t) fullShare ((dats m 0 c).after 2 t) ∗
          owns (c : Thread nD τ) (st0_3 t) fullShare ((dats m 0 c).after 3 t) ∗
          (dats m 0 c).leavesExact 4 t) := by
  simp only [before_0, before_1, before_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  iapply (wp_wand_r frame (wpE (defs₀ (F := F)) Variants.none c none) Set.univ)
  isplitl [H0 H1 H2 H3 H4]
  · iapply (body_at m c t ((dats m 0 c).before 3 t d3) d4)
    unfold Held
    isplitl [H0]; · iexact H0
    isplitl [H1]; · iexact H1
    isplitl [H2]; · iexact H2
    isplitl [H3]; · iexact H3
    iexact H4
  unfold Held
  iintro %_ ⟨H0, H1, H2, H3, H4⟩
  isplitl [HΦ]; · iexact HΦ
  isplitl [Ho]; · iexact Ho
  isplitl [H0]; · dsimp only [dats]; iexact H0
  isplitl [H1]; · dsimp only [dats]; iexact H1
  isplitl [H2]; · dsimp only [dats]; iexact H2
  isplitl [H3]; · dsimp only [dats]; iexact H3
  iapply (leaves_4 m c t); iexact H4

/-- The body table's row is the body's call. -/
theorem table_row : defs₀ (F := F) .tc cfg0.body (cfg0.bodyArgs t (cfg0.slots t)) = bodyAt0 t := by unfold defs₀; rw [Defs.onTc_tc]

theorem obligation : BodyObligation (dats m 0 c) (defs₀ (F := F)) Variants.none () Set.univ := fun t => by
  rw [bigSep_W0, bigSep_W0, table_row]
  exact triple_restated (body m c t) rfl .rfl fun _ => .rfl

variable (ρ : Dev nD → PrngReg)

-- the run theorem's implicit arguments are found by unifying its conclusion with this one
set_option backward.isDefEq.respectTransparency.types false in
/-- The call ends, every array at what the named contents of the points make of it. -/
theorem run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem kept (r : PUnit × MemSt nD τ sig (Elt F)) (h : Pipeline.FramePost cfgs (dats m) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The call ends, its arguments as they were and every counter at zero. -/
theorem frame_nm : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept m c r h.1, h.2⟩) (run m ρ)

end Cert.NormMatmul

end
-- ==== Proof.NormMatmul.lean ====
/- The fused norm and product, read over the extended reals: the first result is the product of the normed rows with the
   columns, the second the normed rows. A point has one block of 1024 rows and one of 1024 columns. -/
module

public import proofs.«01_k».proof.Proof.Norm
public import proofs.«01_k».proof.Proof.NormMatmulFrame
public import Idealize.ShloMosaic.Lib.Pipeline.ValueKit.Geometry

@[expose] public section

set_option maxRecDepth 65536

noncomputable section

namespace Cert.NormMatmul

open Cert.Kernel7Ideal Cert.Kernel7Ideal.Gen Cert.Norm
open Idealize.ShloMosaic Idealize.ShloMosaic.TcCoe Idealize.ShloMosaic.Tactic Idealize.SL.Sem
open Idealize.ShloMosaic.Pointwise
open scoped BigOperators

/-- The normed row of `x` with the gains `g`, at column `q`. -/
def norm (x : Fin 2048 → EReal) (g : Fin 2048 → EReal) (q : Fin 2048) : EReal := x q * scale x * g q

section Arrays
variable (a0 : Vec Ideal S8192x2048 .f32) (a1 : Vec Ideal S2048 .f32) (a2 : Vec Ideal S2048x4096 .f32)

/-- The normed rows and their product, of whole arguments. -/
def uOf : Vec Ideal S8192x2048 .bf16 := fun i => norm (fun k => a0 (ix2 (i 0) k)) (fun k => a1 (ix1 k)) (i 1)
def oOf : Vec Ideal S8192x4096 .f32 := fun i => ∑ q, norm (fun k => a0 (ix2 (i 0) k)) (fun k => a1 (ix1 k)) q * a2 (ix2 q (i 1))
end Arrays

theorem pay1_at (x : Vec Ideal S1024x2048 .f32) (g : Vec Ideal S1x2048 .f32) (p : Fin 1024) (q : Fin 2048) :
    k0_pay1 x g (ix2 p q) = norm (fun k => x (ix2 p k)) (fun k => g (ix2 0 k)) q := by
  pointwise [k0_pay1]
  rfl

theorem pay2_at (u : Vec Ideal S1024x2048 .bf16) (w : Vec Ideal S2048x1024 .bf16) (p j : Fin 1024) :
    k0_pay2 u w (ix2 p j) = ∑ q, u (ix2 p q) * w (ix2 q j) := by
  pointwise [k0_pay2]

theorem at2 : ∀ t : Fin cfg0.N, win0_2.index t = ![0, t.val % 4] := (by decide +kernel : ∀ t : Fin grid0.N, _)
theorem at3 : ∀ t : Fin cfg0.N, win0_3.index t = ![t.val / 4, t.val % 4] := (by decide +kernel : ∀ t : Fin grid0.N, _)
theorem at4 : ∀ t : Fin cfg0.N, win0_4.index t = ![t.val / 4, 0] := (by decide +kernel : ∀ t : Fin grid0.N, _)

section Final
variable (m : (ℓ : Loc nD τ sig) → Buf (Elt Ideal) ℓ) (c : Dev nD) (t : Fin cfg0.N)

abbrev A0 : Vec Ideal S8192x2048 .f32 := m ((c : Thread nD τ).loc main_arg0)
abbrev A1 : Vec Ideal S2048 .f32 := m ((c : Thread nD τ).loc main_arg1)
abbrev A2 : Vec Ideal S2048x4096 .f32 := m ((c : Thread nD τ).loc main_arg2)

/-- The array's row that row `p` of point `t`'s block is, and the column that column `j` is. -/
abbrev row (p : Fin 1024) : Fin 8192 := ⟨t.val / 4 * 1024 + p.val, by have : t.val < 32 := t.isLt; omega⟩
abbrev col (j : Fin 1024) : Fin 4096 := ⟨t.val % 4 * 1024 + j.val, by omega⟩

/-- The gains laid out as a row, and the columns rounded: over the reals, the arguments. -/
theorem V_gains (q : Fin 2048) : V m c main_v0 (ix2 0 q) = A1 m c (ix1 q) := by
  refine (congrFun (g := (broadcastInDim S1x2048 ![1] bcast_S2048_S1x2048_1 (A1 m c) : Vec Ideal S1x2048 .f32)) ?_ _).trans ?_
  · dsimp only [V, hostOps0]
    after_results_simp <;> rfl
  · pointwise []
theorem V_cols : V m c main_v1 = A2 m c := by
  refine Eq.trans (b := (truncf .bf16 (A2 m c : FVec Ideal S2048x4096 .f32) bitsLt_bf16_f32 : FVec Ideal S2048x4096 .bf16)) ?_ (funext fun i => ?_)
  · dsimp only [V, hostOps0]
    after_results_simp <;> rfl
  · rw [eq_ix2 i]
    pointwise []

theorem rows_at (p : Fin 1024) (q : Fin 2048) : rowsAt m c t (ix2 p q) = A0 m c (ix2 (row t p) q) := by
  refine Eq.trans ?_ (congrFun (V_main_arg0 m c) _)
  unfold rowsAt iblk
  rw [View.read_apply]
  refine congrArg (V m c main_arg0) (funext fun a => Fin.ext ?_)
  match a with
  | ⟨0, _⟩ => show win0_0.index t 0 * 1024 + 1 * p.val = _; rw [at0]; simp
  | ⟨1, _⟩ => show win0_0.index t 1 * 2048 + 1 * q.val = _; rw [at0]; simp
theorem gains_at (q : Fin 2048) : gainsAt m c t (ix2 0 q) = A1 m c (ix1 q) := by
  refine Eq.trans ?_ (V_gains m c q)
  unfold gainsAt iblk
  rw [View.read_apply]
  refine congrArg (V m c main_v0) (funext fun a => Fin.ext ?_)
  match a with
  | ⟨0, _⟩ => show win0_1.index t 0 * 1 + 1 * 0 = _; rw [at1]; simp
  | ⟨1, _⟩ => show win0_1.index t 1 * 2048 + 1 * q.val = _; rw [at1]; simp
theorem cols_at (q : Fin 2048) (j : Fin 1024) : colsAt m c t (ix2 q j) = A2 m c (ix2 q (col t j)) := by
  refine Eq.trans ?_ (congrFun (V_cols m c) _)
  unfold colsAt iblk
  rw [View.read_apply]
  refine congrArg (V m c main_v1) (funext fun a => Fin.ext ?_)
  match a with
  | ⟨0, _⟩ => show win0_2.index t 0 * 2048 + 1 * q.val = _; rw [at2]; simp
  | ⟨1, _⟩ => show win0_2.index t 1 * 1024 + 1 * j.val = _; rw [at2]; simp

theorem normed_at (p : Fin 1024) (q : Fin 2048) : normed m c t (ix2 p q)
    = norm (fun k => A0 m c (ix2 (row t p) k)) (fun k => A1 m c (ix1 k)) q := by
  unfold normed
  rw [pay1_at]
  simp only [rows_at, gains_at]

theorem product_at (p j : Fin 1024) : k0_pay2 (normed m c t) (colsAt m c t) (ix2 p j)
    = ∑ q, norm (fun k => A0 m c (ix2 (row t p) k)) (fun k => A1 m c (ix1 k)) q * A2 m c (ix2 q (col t j)) := by
  rw [pay2_at]
  simp only [normed_at, cols_at]

theorem emb3 (p j : Fin 1024) : (win0_3.blk t).view.emb (ix2 p j) = (ix2 (row t p) (col t j) : S8192x4096.Idx) := by
  refine funext fun a => Fin.ext ?_
  match a with
  | ⟨0, _⟩ => show win0_3.index t 0 * 1024 + 1 * p.val = _; rw [at3]; simp
  | ⟨1, _⟩ => show win0_3.index t 1 * 1024 + 1 * j.val = _; rw [at3]; simp
theorem emb4 (p : Fin 1024) (q : Fin 2048) : (win0_4.blk t).view.emb (ix2 p q) = (ix2 (row t p) q : S8192x2048.Idx) := by
  refine funext fun a => Fin.ext ?_
  match a with
  | ⟨0, _⟩ => show win0_4.index t 0 * 1024 + 1 * p.val = _; rw [at4]; simp
  | ⟨1, _⟩ => show win0_4.index t 1 * 2048 + 1 * q.val = _; rw [at4]; simp

/-- What an output's array holds at the end, `W` being any array whose blocks are what the points leave. -/
theorem cover_o (W : Vec Ideal S8192x4096 .f32)
    (h : ∀ (t : Fin cfg0.N) (p j : Fin 1024), k0_pay2 (normed m c t) (colsAt m c t) (ix2 p j) = W (ix2 (row t p) (col t j))) :
    (dats m 0 c).arrAt 3 cfg0.N = W :=
  (dats m 0 c).arrAt_eq_of_covers 3 _ (by decide +kernel) fun t hf y => by
    obtain ⟨p, j, rfl⟩ : ∃ p j : Fin 1024, y = (ix2 p j : S1024x1024.Idx) := ⟨y 0, y 1, eq_ix2 y⟩
    blk_simp [at3]
    exact (h t p j).trans (congrArg W (emb3 t p j).symm)
theorem cover_u (W : Vec Ideal S8192x2048 .bf16)
    (h : ∀ (t : Fin cfg0.N) (p : Fin 1024) (q : Fin 2048), normed m c t (ix2 p q) = W (ix2 (row t p) q)) :
    (dats m 0 c).arrAt 4 cfg0.N = W :=
  (dats m 0 c).arrAt_eq_of_covers 4 _ (by decide +kernel) fun t hf y => by
    obtain ⟨p, q, rfl⟩ : ∃ (p : Fin 1024) (q : Fin 2048), y = (ix2 p q : S1024x2048.Idx) := ⟨y 0, y 1, eq_ix2 y⟩
    blk_simp [at4]
    exact (h t p q).trans (congrArg W (emb4 t p q).symm)

theorem final_o : (dats m 0 c).arrAt 3 cfg0.N = oOf (A0 m c) (A1 m c) (A2 m c) :=
  cover_o m c (oOf (A0 m c) (A1 m c) (A2 m c)) fun t p j => product_at m c t p j
theorem final_u : (dats m 0 c).arrAt 4 cfg0.N = uOf (A0 m c) (A1 m c) :=
  cover_u m c (uOf (A0 m c) (A1 m c)) fun t p q => normed_at m c t p q
end Final

end Cert.NormMatmul

end
-- ==== Proof.NormMatmulRef.lean ====
/- The norm and the product of the plain lines, read operation by operation: what the fused call leaves, for all extended
   reals. -/
module

public import proofs.«01_k».proof.Defs
public import proofs.«01_k».proof.Proof.NormMatmul
public import proofs.«01_k».proof.Proof.Gen.Reference7Ideal
public import proofs.«01_k».proof.Proof.Gen.Reference7Ideal.Run
public import proofs.«01_k».proof.Proof.Gen.Reference7Ideal.Read

@[expose] public section

noncomputable section

namespace Cert.NormMatmul

open Idealize.ShloMosaic Idealize.ShloMosaic.TcCoe Idealize.SL.Sem Cert.Norm
open scoped BigOperators

section Ref
open Cert.Reference7Ideal Cert.Reference7Ideal.Read
variable (a0 : Vec Ideal S8192x2048 .f32) (a1 : Vec Ideal S2048 .f32) (a2 : Vec Ideal S2048x4096 .f32) (r : Fin 8192)

theorem ref_scale : val_main_v7 (F := Ideal) a0 (ix2 r 0) = scale fun k => a0 (ix2 r k) := by
  pointwise [val_main_v7, val_main_v6, val_main_v5, val_main_v4, val_main_v3, val_main_v2, val_main_v1, val_main_v0, val_main_cst,
    val_main_cst_0, val_main_cst_1]
  rfl

theorem ref_norm (q : Fin 2048) : val_main_v12 (F := Ideal) a0 a1 (ix2 r q) = norm (fun k => a0 (ix2 r k)) (fun k => a1 (ix1 k)) q := by
  pointwise [val_main_v12, val_main_v11, val_main_v10, val_main_v9, val_main_v8]
  rw [ref_scale]
  rfl

theorem ref_o (j : Fin 4096) : val_main_v13 (F := Ideal) a0 a1 a2 (ix2 r j)
    = ∑ q, norm (fun k => a0 (ix2 r k)) (fun k => a1 (ix1 k)) q * a2 (ix2 q j) := by
  pointwise [val_main_v13]
  simp only [ref_norm]

theorem ref_u (q : Fin 2048) : val_main_v14 (F := Ideal) a0 a1 (ix2 r q) = norm (fun k => a0 (ix2 r k)) (fun k => a1 (ix1 k)) q := by
  pointwise [val_main_v14]
  exact ref_norm a0 a1 r q

theorem all_o : val_main_v13 (F := Ideal) a0 a1 a2 = (oOf a0 a1 a2 : S8192x4096.Idx → EReal) := by
  funext i
  rw [eq_ix2 i]
  exact ref_o a0 a1 a2 (i 0) (i 1)

theorem all_u : val_main_v14 (F := Ideal) a0 a1 = (uOf a0 a1 : S8192x2048.Idx → EReal) := by
  funext i
  rw [eq_ix2 i]
  exact ref_u a0 a1 (i 0) (i 1)
end Ref

/-- The call's two results are the product and the normed rows. -/
theorem algebraic : Cert.algebraic_Kernel7Ideal_Reference7Ideal := by
  intro m g m' g' _ hargs
  refine ⟨fun c => oOf (A0 m c) (A1 m c) (A2 m c), fun c => uOf (A0 m c) (A1 m c), ?_, ?_⟩
  · refine (θ_run Cert.Kernel7Ideal.defs _ _).mono (fun r h c => ?_) (run m g)
    exact ⟨((h.1 c).1 3).trans (final_o m c), ((h.1 c).1 4).trans (final_u m c), kept m c r h.1⟩
  · refine (θ_run Cert.Reference7Ideal.defs _ _).mono (fun r h c => ?_) (Cert.Reference7Ideal.Value.run m' g')
    obtain ⟨h13, h14, h⟩ := h c
    obtain ⟨e0, e1, e2⟩ := hargs c
    refine ⟨?_, ?_, h⟩
    · rw [h13, Cert.Reference7Ideal.Read.val_main_v13_eq, e0, e1, e2]
      exact all_o (A0 m c) (A1 m c) (A2 m c)
    · rw [h14, Cert.Reference7Ideal.Read.val_main_v14_eq, e0, e1]
      exact all_u (A0 m c) (A1 m c)

end Cert.NormMatmul

end
-- ==== Proof.ResProduct.lean ====
/- The product that adds the residual, read over the extended reals. A point has one block of 1024 rows and one of 1024 columns,
   and leaves the residual's block plus the whole product of the two. -/
module

public import proofs.«01_k».proof.Defs
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Pipeline.ValueKit.Geometry
public import Idealize.ShloMosaic.Lib.Pipeline.ValueKit.Acc

@[expose] public section

set_option maxRecDepth 65536

noncomputable section

namespace Cert.ResProduct

open Idealize.ShloMosaic Idealize.ShloMosaic.TcCoe Idealize.ShloMosaic.Tactic Idealize.SL.Sem
open Idealize.ShloMosaic.Pointwise
open scoped BigOperators

/-- The residual plus the product, of whole arguments. -/
def sumOf (a0 : Vec Ideal ⟨2, ![8192, 2048]⟩ .f32) (a1 : Vec Ideal ⟨2, ![2048, 2048]⟩ .f32) (a2 : Vec Ideal ⟨2, ![8192, 2048]⟩ .f32) :
    Vec Ideal ⟨2, ![8192, 2048]⟩ .f32 :=
  fun i => a2 i + ∑ q : Fin 2048, a0 (ix2 (i 0) q) * a1 (ix2 q (i 1))

section Kernel
open Cert.Kernel8Ideal Cert.Kernel8Ideal.Gen

theorem pay_at (h : Vec Ideal S1024x1024 .f32) (a : Vec Ideal S1024x2048 .bf16) (b : Vec Ideal S2048x1024 .bf16) (p j : Fin 1024) :
    k0_pay1 h a b (ix2 p j) = h (ix2 p j) + ∑ q, a (ix2 p q) * b (ix2 q j) := by
  pointwise [k0_pay1]

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)
theorem at3 : ∀ t : Fin cfg0.N, win0_3.index t = ![t.val / 2, t.val % 2] := (by decide +kernel : ∀ t : Fin grid0.N, _)

variable (m : (ℓ : Loc nD τ sig) → Buf (Elt Ideal) ℓ) (c : Dev nD) (t : Fin cfg0.N)

abbrev A0 : Vec Ideal S8192x2048 .f32 := m ((c : Thread nD τ).loc main_arg0)
abbrev A1 : Vec Ideal S2048x2048 .f32 := m ((c : Thread nD τ).loc main_arg1)
abbrev A2 : Vec Ideal S8192x2048 .f32 := m ((c : Thread nD τ).loc main_arg2)

/-- The array's row and column that a row and a column of point `t`'s block are. -/
abbrev row (p : Fin 1024) : Fin 8192 := ⟨t.val / 2 * 1024 + p.val, by have : t.val < 16 := t.isLt; omega⟩
abbrev col (j : Fin 1024) : Fin 2048 := ⟨t.val % 2 * 1024 + j.val, by omega⟩

/-- The factors that the host rounds: over the reals, the arguments. -/
theorem V_rows : V m c main_v0 = A0 m c := by
  dsimp only [V, hostOps0]
  after_results_simp <;> rfl
theorem V_cols : V m c main_v1 = A1 m c := by
  dsimp only [V, hostOps0]
  after_results_simp <;> rfl

theorem rows_at (p : Fin 1024) (q : Fin 2048) : iblk m c 0 t (ix2 p q : S1024x2048.Idx) = A0 m c (ix2 (row t p) q) := by
  refine Eq.trans ?_ (congrFun (V_rows m c) _)
  unfold iblk
  rw [View.read_apply]
  exact congrArg (V m c main_v0) (by blk_ext [at0])
theorem cols_at (q : Fin 2048) (j : Fin 1024) : iblk m c 1 t (ix2 q j : S2048x1024.Idx) = A1 m c (ix2 q (col t j)) := by
  refine Eq.trans ?_ (congrFun (V_cols m c) _)
  unfold iblk
  rw [View.read_apply]
  exact congrArg (V m c main_v1) (by blk_ext [at1])
theorem res_at (p j : Fin 1024) : iblk m c 2 t (ix2 p j : S1024x1024.Idx) = A2 m c (ix2 (row t p) (col t j)) := by
  refine Eq.trans ?_ (congrFun (V_main_arg2 m c) _)
  unfold iblk
  rw [View.read_apply]
  exact congrArg (V m c main_arg2) (by blk_ext [at2])

theorem emb3 (p j : Fin 1024) : (win0_3.blk t).view.emb (ix2 p j) = (ix2 (row t p) (col t j) : S8192x2048.Idx) := by
  blk_ext [at3]

theorem point (p j : Fin 1024) : k0_pay1 (iblk m c 2 t) (iblk m c 0 t) (iblk m c 1 t) (ix2 p j)
    = sumOf (A0 m c) (A1 m c) (A2 m c) (ix2 (row t p) (col t j)) := by
  rw [pay_at, res_at]
  simp only [rows_at, cols_at]
  rfl

/-- What the result's array holds at the end, `W` being any array whose blocks are what the points leave. -/
theorem cover (W : Vec Ideal S8192x2048 .f32) (h : ∀ (t : Fin cfg0.N) (p j : Fin 1024),
      k0_pay1 (iblk m c 2 t) (iblk m c 0 t) (iblk m c 1 t) (ix2 p j) = W (ix2 (row t p) (col t j))) :
    (dats m 0 c).arrAt 3 cfg0.N = W :=
  (dats m 0 c).arrAt_eq_of_covers 3 _ (by decide +kernel) fun t hf y => by
    obtain ⟨p, j, rfl⟩ : ∃ p j : Fin 1024, y = (ix2 p j : S1024x1024.Idx) := ⟨y 0, y 1, eq_ix2 y⟩
    blk_simp [at3]
    rw [after0_3]
    frame_out
    exact (h t p j).trans (congrArg W (emb3 t p j).symm)

theorem final : (dats m 0 c).arrAt 3 cfg0.N = sumOf (A0 m c) (A1 m c) (A2 m c) := cover m c _ (point m c)
end Kernel

section Ref
open Cert.Reference8Ideal Cert.Reference8Ideal.Read
variable (a0 : Vec Ideal S8192x2048 .f32) (a1 : Vec Ideal S2048x2048 .f32) (a2 : Vec Ideal S8192x2048 .f32)

theorem ref_at (r : Fin 8192) (j : Fin 2048) : val_main_v1 (F := Ideal) a0 a1 a2 (ix2 r j) = sumOf a0 a1 a2 (ix2 r j) := by
  pointwise [val_main_v1, val_main_v0]
  rfl

theorem ref_all : val_main_v1 (F := Ideal) a0 a1 a2 = (sumOf a0 a1 a2 : S8192x2048.Idx → EReal) := by
  funext i
  rw [eq_ix2 i]
  exact ref_at a0 a1 a2 (i 0) (i 1)
end Ref

/-- The call's result is the residual plus the product. -/
theorem algebraic : Cert.algebraic_Kernel8Ideal_Reference8Ideal := by
  intro m g m' g' _ hargs
  refine ⟨fun c => sumOf (A0 m c) (A1 m c) (A2 m c), ?_, ?_⟩
  · refine (θ_run Cert.Kernel8Ideal.defs _ _).mono (fun r h c => ?_) (Cert.Kernel8Ideal.Value.run_blocks m g)
    obtain ⟨hs, h⟩ := h c
    exact ⟨hs.trans (final m c), h⟩
  · refine (θ_run Cert.Reference8Ideal.defs _ _).mono (fun r h c => ?_) (Cert.Reference8Ideal.Value.run m' g')
    obtain ⟨hs, h⟩ := h c
    obtain ⟨e0, e1, e2⟩ := hargs c
    refine ⟨?_, h⟩
    rw [hs, Cert.Reference8Ideal.Read.val_main_v1_eq, e0, e1, e2]
    exact ref_all (A0 m c) (A1 m c) (A2 m c)

end Cert.ResProduct

end
-- ==== Proof.NtProduct.lean ====
/- The rows' cotangent of a product, read over the extended reals: a point has 1024 rows of the cotangent and 512 rows of the
   weights, and leaves every inner product of the two. -/
module

public import proofs.«01_k».proof.Defs
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.Pipeline.ValueKit.Geometry
public import Idealize.ShloMosaic.Lib.Pipeline.ValueKit.Acc

@[expose] public section

set_option maxRecDepth 65536

noncomputable section

namespace Cert.NtProduct

open Idealize.ShloMosaic Idealize.ShloMosaic.TcCoe Idealize.ShloMosaic.Tactic Idealize.SL.Sem
open Idealize.ShloMosaic.Pointwise
open scoped BigOperators

/-- Every inner product of a row of the cotangent and a row of the weights. -/
def duOf (ct : Vec Ideal ⟨2, ![8192, 4096]⟩ .f32) (w : Vec Ideal ⟨2, ![2048, 4096]⟩ .f32) : Vec Ideal ⟨2, ![8192, 2048]⟩ .f32 :=
  fun i => ∑ n : Fin 4096, ct (ix2 (i 0) n) * w (ix2 (i 1) n)

section Kernel
open Cert.Kernel9Ideal Cert.Kernel9Ideal.Gen

theorem pay_at (a : Vec Ideal S1024x4096 .bf16) (b : Vec Ideal S512x4096 .bf16) (p : Fin 1024) (j : Fin 512) :
    k0_pay1 a b (ix2 p j) = ∑ n, a (ix2 p n) * b (ix2 j n) := by
  pointwise [k0_pay1]

theorem at0 : ∀ t : Fin cfg0.N, win0_0.index t = ![t.val / 4, 0] := (by decide +kernel : ∀ t : Fin grid0.N, _)
theorem at1 : ∀ t : Fin cfg0.N, win0_1.index t = ![t.val % 4, 0] := (by decide +kernel : ∀ t : Fin grid0.N, _)
theorem at2 : ∀ t : Fin cfg0.N, win0_2.index t = ![t.val / 4, t.val % 4] := (by decide +kernel : ∀ t : Fin grid0.N, _)

variable (m : (ℓ : Loc nD τ sig) → Buf (Elt Ideal) ℓ) (c : Dev nD) (t : Fin cfg0.N)

abbrev Ct : Vec Ideal S8192x4096 .f32 := m ((c : Thread nD τ).loc main_arg0)
abbrev W : Vec Ideal S2048x4096 .f32 := m ((c : Thread nD τ).loc main_arg1)

/-- The cotangent's row and the weights' row that a row and a column of point `t`'s result are. -/
abbrev row (p : Fin 1024) : Fin 8192 := ⟨t.val / 4 * 1024 + p.val, by have : t.val < 32 := t.isLt; omega⟩
abbrev wrow (j : Fin 512) : Fin 2048 := ⟨t.val % 4 * 512 + j.val, by omega⟩

/-- Both factors are rounded by the host: over the reals, the arguments. -/
theorem V_ct : V m c main_v0 = Ct m c := by dsimp only [V, hostOps0]; after_results_simp <;> rfl
theorem V_w : V m c main_v1 = W m c := by dsimp only [V, hostOps0]; after_results_simp <;> rfl

theorem ct_at (p : Fin 1024) (n : Fin 4096) : iblk m c 0 t (ix2 p n : S1024x4096.Idx) = Ct m c (ix2 (row t p) n) :=
  (View.read_apply ..).trans ((congrArg (V m c main_v0) (by blk_ext [at0])).trans (congrFun (V_ct m c) _))
theorem w_at (j : Fin 512) (n : Fin 4096) : iblk m c 1 t (ix2 j n : S512x4096.Idx) = W m c (ix2 (wrow t j) n) :=
  (View.read_apply ..).trans ((congrArg (V m c main_v1) (by blk_ext [at1])).trans (congrFun (V_w m c) _))

theorem emb2 (p : Fin 1024) (j : Fin 512) : (win0_2.blk t).view.emb (ix2 p j) = (ix2 (row t p) (wrow t j) : S8192x2048.Idx) := by
  blk_ext [at2]

theorem point (p : Fin 1024) (j : Fin 512) :
    k0_pay1 (iblk m c 0 t) (iblk m c 1 t) (ix2 p j) = duOf (Ct m c) (W m c) (ix2 (row t p) (wrow t j)) := by
  rw [pay_at]
  simp only [ct_at, w_at]
  rfl

/-- What the result's array holds at the end: any array whose blocks are what the points leave. -/
theorem cover (D : Vec Ideal S8192x2048 .f32) (h : ∀ (t : Fin cfg0.N) (p : Fin 1024) (j : Fin 512),
      k0_pay1 (iblk m c 0 t) (iblk m c 1 t) (ix2 p j) = D (ix2 (row t p) (wrow t j))) : (dats m 0 c).arrAt 2 cfg0.N = D :=
  (dats m 0 c).arrAt_eq_of_covers 2 _ (by decide +kernel) fun t hf y => by
    obtain ⟨p, j, rfl⟩ : ∃ (p : Fin 1024) (j : Fin 512), y = (ix2 p j : S1024x512.Idx) := ⟨y 0, y 1, eq_ix2 y⟩
    blk_simp [at2]
    rw [after0_2]
    frame_out
    exact (h t p j).trans (congrArg D (emb2 t p j).symm)

theorem final : (dats m 0 c).arrAt 2 cfg0.N = duOf (Ct m c) (W m c) := cover m c _ (point m c)
end Kernel

section Ref
open Cert.Reference9Ideal Cert.Reference9Ideal.Read
variable (ct : Vec Ideal S8192x4096 .f32) (w : Vec Ideal S2048x4096 .f32)

theorem ref_at (r : Fin 8192) (j : Fin 2048) : val_main_v2 (F := Ideal) ct w (ix2 r j) = duOf ct w (ix2 r j) := by
  pointwise [val_main_v2]
  rfl

theorem ref_all : val_main_v2 (F := Ideal) ct w = (duOf ct w : S8192x2048.Idx → EReal) := by
  funext i
  rw [eq_ix2 i]
  exact ref_at ct w (i 0) (i 1)
end Ref

/-- The call's result is the product's cotangent at its rows. -/
theorem algebraic : Cert.algebraic_Kernel9Ideal_Reference9Ideal := by
  intro m g m' g' _ hargs
  refine ⟨fun c => duOf (Ct m c) (W m c), ?_, ?_⟩
  · refine (θ_run Cert.Kernel9Ideal.defs _ _).mono (fun r h c => ?_) (Cert.Kernel9Ideal.Value.run_blocks m g)
    exact ⟨(h c).1.trans (final m c), (h c).2⟩
  · refine (θ_run Cert.Reference9Ideal.defs _ _).mono (fun r h c => ?_) (Cert.Reference9Ideal.Value.run m' g')
    refine ⟨?_, (h c).2⟩
    rw [(h c).1, Cert.Reference9Ideal.Read.val_main_v2_eq, (hargs c).1, (hargs c).2]
    exact ref_all (Ct m c) (W m c)

end Cert.NtProduct

end
-- ==== Proof.TnProduct.lean ====
/- The weights' cotangent of a product, read over the extended reals. The result is cut into the columns of four chips; a block of
   512 rows of one chip's columns is the running sum, over four points, of the products of 2048 rows of the two arguments. -/
module

public import proofs.«01_k».proof.Defs
public import proofs.«01_k».proof.Proof.Reals
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Pipeline.ValueKit.Geometry
public import Idealize.ShloMosaic.Lib.Pipeline.ValueKit.Acc

@[expose] public section

set_option maxRecDepth 65536

noncomputable section

namespace Cert.TnProduct

open Idealize.ShloMosaic Idealize.ShloMosaic.TcCoe Idealize.ShloMosaic.Tactic Idealize.SL.Sem
open Idealize.ShloMosaic.Pointwise
open Cert.Reals (rowOf rowOf_val rowOf_lt sum_blocks)
open scoped BigOperators

/-- The inner product of a column of the rows and a column of the cotangent. -/
def dw (u : Vec Ideal ⟨2, ![8192, 2048]⟩ .f32) (ct : Vec Ideal ⟨2, ![8192, 3072]⟩ .f32) (r : Fin 2048) (k : Fin 3072) : EReal :=
  ∑ n : Fin 8192, u (ix2 n r) * ct (ix2 n k)

/-- Those of each chip's 768 columns. -/
def dwOf (u : Vec Ideal ⟨2, ![8192, 2048]⟩ .f32) (ct : Vec Ideal ⟨2, ![8192, 3072]⟩ .f32) : Vec Ideal ⟨4, ![4, 1, 2048, 768]⟩ .f32 :=
  fun i => dw u ct (i 2) (rowOf 3072 ((i 0).val * 768 + (i 3).val))

section Kernel
open Cert.Kernel10Ideal Cert.Kernel10Ideal.Gen

section Elem
variable (a : Vec Ideal S2048x512 .bf16) (b : Vec Ideal S2048x768 .bf16) (o : Vec Ideal S1x1x512x768 .f32) (p : Fin 512) (k : Fin 768)

theorem part_at : k0_pay1 a b (ix2 p k) = ∑ x, a (ix2 x p) * b (ix2 x k) := by
  pointwise [k0_pay1]
theorem first_at : k0_pay2 a b (ix4 0 0 p k) = ∑ x, a (ix2 x p) * b (ix2 x k) := by
  pointwise [k0_pay2]
  exact part_at a b p k
theorem later_at : k0_pay3 a b o (ix4 0 0 p k) = o (ix4 0 0 p k) + ∑ x, a (ix2 x p) * b (ix2 x k) := by
  pointwise [k0_pay3]
  rw [part_at]
end Elem

theorem at0 : ∀ t : Fin cfg0.N, win0_0.index t = ![t.val % 4, t.val / 16] := (by decide +kernel : ∀ t : Fin grid0.N, _)
theorem at1 : ∀ t : Fin cfg0.N, win0_1.index t = ![t.val % 4, t.val / 4 % 4] := (by decide +kernel : ∀ t : Fin grid0.N, _)
theorem at2 : ∀ t : Fin cfg0.N, win0_2.index t = ![t.val / 4 % 4, 0, t.val / 16, 0] := (by decide +kernel : ∀ t : Fin grid0.N, _)

variable (m : (ℓ : Loc nD τ sig) → Buf (Elt Ideal) ℓ) (c : Dev nD) (t : Fin cfg0.N)

abbrev U : Vec Ideal S8192x2048 .f32 := m ((c : Thread nD τ).loc main_arg0)
abbrev Ct : Vec Ideal S8192x3072 .f32 := m ((c : Thread nD τ).loc main_arg1)

/-- Of point `n`: the row that is row `x` of its blocks, the column of the rows that is column `p`, the cotangent's that is `k`. -/
abbrev row (s : ℕ) (x : Fin 2048) : Fin 8192 := rowOf 8192 (s * 2048 + x.val)
abbrev ucol (n : ℕ) (p : Fin 512) : Fin 2048 := rowOf 2048 (n / 16 * 512 + p.val)
abbrev ccol (n : ℕ) (k : Fin 768) : Fin 3072 := rowOf 3072 (n / 4 % 4 * 768 + k.val)

theorem row_val (x : Fin 2048) : (row (t.val % 4) x).val = t.val % 4 * 2048 + x.val := rowOf_lt (by omega)
theorem ucol_val (p : Fin 512) : (ucol t.val p).val = t.val / 16 * 512 + p.val := rowOf_lt (by have : t.val < 64 := t.isLt; omega)
theorem ccol_val (k : Fin 768) : (ccol t.val k).val = t.val / 4 % 4 * 768 + k.val := rowOf_lt (by omega)

/-- Both factors are rounded by the host: over the reals, the arguments. -/
theorem V_u : V m c main_v0 = U m c := by dsimp only [V, hostOps0]; after_results_simp <;> rfl
theorem V_ct : V m c main_v1 = Ct m c := by dsimp only [V, hostOps0]; after_results_simp <;> rfl

theorem emb0 (x : Fin 2048) (p : Fin 512) : (win0_0.blk t).view.emb (ix2 x p) = (ix2 (row (t.val % 4) x) (ucol t.val p) : S8192x2048.Idx) := by
  refine funext fun a => Fin.ext ?_
  match a with
  | ⟨0, _⟩ => show win0_0.index t 0 * 2048 + 1 * x.val = (row (t.val % 4) x).val; rw [at0, row_val]; simp
  | ⟨1, _⟩ => show win0_0.index t 1 * 512 + 1 * p.val = (ucol t.val p).val; rw [at0, ucol_val]; simp
theorem emb1 (x : Fin 2048) (k : Fin 768) : (win0_1.blk t).view.emb (ix2 x k) = (ix2 (row (t.val % 4) x) (ccol t.val k) : S8192x3072.Idx) := by
  refine funext fun a => Fin.ext ?_
  match a with
  | ⟨0, _⟩ => show win0_1.index t 0 * 2048 + 1 * x.val = (row (t.val % 4) x).val; rw [at1, row_val]; simp
  | ⟨1, _⟩ => show win0_1.index t 1 * 768 + 1 * k.val = (ccol t.val k).val; rw [at1, ccol_val]; simp
theorem emb2 (p : Fin 512) (k : Fin 768) : (win0_2.blk t).view.emb (ix4 0 0 p k)
    = (ix4 ⟨t.val / 4 % 4, by omega⟩ 0 (ucol t.val p) k : S4x1x2048x768.Idx) := by
  refine funext fun a => Fin.ext ?_
  match a with
  | ⟨0, _⟩ => show win0_2.index t 0 * 1 + 1 * 0 = t.val / 4 % 4; rw [at2]; simp
  | ⟨1, _⟩ => show win0_2.index t 1 * 1 + 1 * 0 = 0; rw [at2]; simp
  | ⟨2, _⟩ => show win0_2.index t 2 * 512 + 1 * p.val = (ucol t.val p).val; rw [at2, ucol_val]; simp
  | ⟨3, _⟩ => show win0_2.index t 3 * 768 + 1 * k.val = k.val; rw [at2]; simp

theorem u_at (x : Fin 2048) (p : Fin 512) : iblk m c 0 t (ix2 x p : S2048x512.Idx) = U m c (ix2 (row (t.val % 4) x) (ucol t.val p)) :=
  (View.read_apply ..).trans ((congrArg (V m c main_v0) (emb0 t x p)).trans (congrFun (V_u m c) _))
theorem ct_at (x : Fin 2048) (k : Fin 768) : iblk m c 1 t (ix2 x k : S2048x768.Idx) = Ct m c (ix2 (row (t.val % 4) x) (ccol t.val k)) :=
  (View.read_apply ..).trans ((congrArg (V m c main_v1) (emb1 t x k)).trans (congrFun (V_ct m c) _))

/-! ## The running sum -/

theorem outs_first (h : t.val % 4 = 0) : outsAt0 m c t.val t.isLt = k0_pay2 (iblk m c 0 t) (iblk m c 1 t) := by
  rw [outsAt0_A m c t h (by omega)]
  frame_out
theorem outs_later (h : ¬t.val % 4 = 0) : outsAt0 m c t.val t.isLt
    = k0_pay3 (iblk m c 0 t) (iblk m c 1 t) (outsAt0 m c (t.val - 1) (Nat.lt_of_le_of_lt (Nat.sub_le _ _) t.isLt)) := by
  rw [outsAt0_B m c t h (by omega)]
  frame_out

/-- The products of one point's blocks. -/
def part (n s : ℕ) (p : Fin 512) (k : Fin 768) : EReal :=
  ∑ x : Fin 2048, U m c (ix2 (row s x) (ucol n p)) * Ct m c (ix2 (row s x) (ccol n k))

abbrev Ub : Vec Ideal S2048x512 .bf16 := iblk m c 0 t
abbrev Cb : Vec Ideal S2048x768 .bf16 := iblk m c 1 t

theorem blocks_at (p : Fin 512) (k : Fin 768) : ∑ x, Ub m c t (ix2 x p) * Cb m c t (ix2 x k) = part m c t.val (t.val % 4) p k :=
  Finset.sum_congr rfl fun x _ => congrArg₂ (· * ·) (u_at m c t x p) (ct_at m c t x k)

theorem outs_at (p : Fin 512) (k : Fin 768) : ∀ (n : ℕ) (h : n < cfg0.N),
    outsAt0 m c n h (ix4 0 0 p k) = ∑ s ∈ Finset.range (n % 4 + 1), part m c n s p k
  | n, h => by
    by_cases h0 : n % 4 = 0
    · rw [outs_first m c ⟨n, h⟩ h0, first_at, h0, Finset.sum_range_one]
      exact (blocks_at m c ⟨n, h⟩ p k).trans (congrArg (part m c n · p k) h0)
    · match n, h, h0 with
      | n + 1, h, h0 =>
        have hs : (n + 1) % 4 = n % 4 + 1 := by omega
        have hp (s : ℕ) : part m c n s p k = part m c (n + 1) s p k := by
          unfold part ucol ccol
          rw [show (n + 1) / 16 = n / 16 by omega, show (n + 1) / 4 % 4 = n / 4 % 4 by omega]
        rw [outs_later m c ⟨n + 1, h⟩ h0, later_at, hs, Finset.sum_range_succ]
        refine congrArg₂ (· + ·) ((outs_at p k n (Nat.lt_of_succ_lt h)).trans (Finset.sum_congr rfl fun s _ => hp s)) ?_
        exact (blocks_at m c ⟨n + 1, h⟩ p k).trans (congrArg (part m c (n + 1) · p k) hs)

theorem outs_last (h : t.val % 4 = 3) (p : Fin 512) (k : Fin 768) : outsAt0 m c t.val t.isLt (ix4 0 0 p k)
    = dwOf (U m c) (Ct m c) (ix4 ⟨t.val / 4 % 4, by omega⟩ 0 (ucol t.val p) k) := by
  rw [outs_at, h]
  unfold part
  rw [sum_blocks 4 2048 (k := 8192) rfl fun n => U m c (ix2 (rowOf 8192 n) (ucol t.val p)) * Ct m c (ix2 (rowOf 8192 n) (ccol t.val k))]
  simp only [rowOf_val]
  rfl

/-- What the result's array holds at the end: any array whose blocks are what the last of four points leaves. -/
theorem cover (D : Vec Ideal S4x1x2048x768 .f32) (h : ∀ t : Fin cfg0.N, t.val % 4 = 3 → ∀ (p : Fin 512) (k : Fin 768),
      outsAt0 m c t.val t.isLt (ix4 0 0 p k) = D (ix4 ⟨t.val / 4 % 4, by omega⟩ 0 (ucol t.val p) k)) :
    (dats m 0 c).arrAt 2 cfg0.N = D :=
  (dats m 0 c).arrAt_eq_of_covers 2 _ (by decide +kernel) fun t hf y => by
    obtain ⟨p, k, rfl⟩ : ∃ (p : Fin 512) (k : Fin 768), y = (ix4 0 0 p k : S1x1x512x768.Idx) :=
      ⟨y 2, y 3, by rw [eq_ix4 y]; congr 1 <;> exact Subsingleton.elim _ _⟩
    blk_simp [at2]
    rw [after0_2]
    exact (h t ((flush0_2 t).mp hf) p k).trans (congrArg D (emb2 t p k).symm)

theorem final : (dats m 0 c).arrAt 2 cfg0.N = dwOf (U m c) (Ct m c) := cover m c _ (outs_last m c)
end Kernel

section Ref
open Cert.Reference10Ideal Cert.Reference10Ideal.Read
variable (u : Vec Ideal S8192x2048 .f32) (ct : Vec Ideal S8192x3072 .f32)

theorem ref_dw (r : Fin 2048) (k : Fin 3072) : val_main_v3 (F := Ideal) u ct (ix2 r k) = dw u ct r k := by
  pointwise [val_main_v3, val_main_v2]
  exact Finset.sum_congr rfl fun n _ => mul_comm _ _

theorem ref_at (j : Fin 4) (o : Fin 1) (r : Fin 2048) (k : Fin 768) :
    val_main_v5 (F := Ideal) u ct (ix4 j o r k) = dwOf u ct (ix4 j o r k) := by
  pointwise [val_main_v5, val_main_v4]
  exact (ref_dw u ct r _).trans (congrArg (dw u ct r) (Fin.ext (rowOf_lt (by omega)).symm))

theorem ref_all : val_main_v5 (F := Ideal) u ct = (dwOf u ct : S4x1x2048x768.Idx → EReal) := by
  funext i
  rw [eq_ix4 i]
  exact ref_at u ct (i 0) (i 1) (i 2) (i 3)
end Ref

/-- The call's result is the product's cotangent at its weights, cut into the chips' pieces. -/
theorem algebraic : Cert.algebraic_Kernel10Ideal_Reference10Ideal := by
  intro m g m' g' _ hargs
  refine ⟨fun c => dwOf (U m c) (Ct m c), ?_, ?_⟩
  · refine (θ_run Cert.Kernel10Ideal.defs _ _).mono (fun r h c => ?_) (Cert.Kernel10Ideal.Value.run_blocks m g)
    exact ⟨(h c).1.trans (final m c), (h c).2⟩
  · refine (θ_run Cert.Reference10Ideal.defs _ _).mono (fun r h c => ?_) (Cert.Reference10Ideal.Value.run m' g')
    refine ⟨?_, (h c).2⟩
    rw [(h c).1, Cert.Reference10Ideal.Read.val_main_v5_eq, (hargs c).1, (hargs c).2]
    exact ref_all (U m c) (Ct m c)

end Cert.TnProduct

end
-- ==== Proof.Adamw.lean ====
/- One step of the optimiser, read over the extended reals: every result is an element by element expression of the four arrays
   laid out as 4096 rows, and a point has 256 of those rows. -/
module

public import proofs.«01_k».proof.Defs
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pointwise
public import Idealize.ShloMosaic.Lib.Pipeline.ValueKit.Geometry
public import Idealize.ShloMosaic.Lib.Pipeline.ValueKit.Acc

@[expose] public section

set_option maxRecDepth 65536

noncomputable section

namespace Cert.Adamw

open Idealize.ShloMosaic Idealize.ShloMosaic.TcCoe Idealize.ShloMosaic.Tactic Idealize.SL.Sem
open Idealize.ShloMosaic.Pointwise

/-- A literal's value. -/
abbrev lit (b : BitVec 32) : EReal := Ideal.ofBits .f32 b

/-- The new moments of a gradient `g`, and the change of a weight `w`. -/
def mean (g m : EReal) : EReal := lit 0x3F666666#32 * m + lit 0x3DCCCCCD#32 * g
def square (g v : EReal) : EReal := lit 0x3F7FBE77#32 * v + lit 0x3A83126F#32 * (g * g)
def change (g w m v : EReal) : EReal := lit 0xBA83126F#32 * (Ideal.div (Ideal.div (mean g m) (lit 0x3F26BD02#32))
  (Ideal.sqrt (Ideal.div (square g v) (lit 0x3C231ACC#32)) + lit 0x322BCC77#32) + lit 0x3C23D70A#32 * w)

section Kernel
open Cert.Kernel11Ideal Cert.Kernel11Ideal.Gen

section Elem
variable (g w a v : Vec Ideal S256x1024 .f32) (p : Fin 256) (q : Fin 1024)

theorem mean_at : k0_pay2 g a (ix2 p q) = mean (g (ix2 p q)) (a (ix2 p q)) := by
  pointwise [k0_pay2, k0_pay1]
  rfl
theorem square_at : k0_pay3 g v (ix2 p q) = square (g (ix2 p q)) (v (ix2 p q)) := by
  pointwise [k0_pay3, k0_pay1]
  rfl
theorem change_at : k0_pay4 g a v w (ix2 p q) = change (g (ix2 p q)) (w (ix2 p q)) (a (ix2 p q)) (v (ix2 p q)) := by
  pointwise [k0_pay4]
  rw [mean_at, square_at]
  rfl
end Elem

/-- An array of the two layers, as 4096 rows. -/
def flat (x : Vec Ideal S2x2048x1024 .f32) : Vec Ideal S4096x1024 .f32 := shapeCast S4096x1024 x shapeCasts_S2x2048x1024_S4096x1024

/-- Every window walks the rows 256 at a time. -/
theorem at0 : ∀ t : Fin cfg0.N, win0_0.index t = ![t.val, 0] := (by decide +kernel : ∀ t : Fin grid0.N, _)

variable (m : (ℓ : Loc nD τ sig) → Buf (Elt Ideal) ℓ) (c : Dev nD) (t : Fin cfg0.N) (p : Fin 256) (q : Fin 1024)

abbrev G : Vec Ideal S2x2048x1024 .f32 := m ((c : Thread nD τ).loc main_arg0)
abbrev W : Vec Ideal S2x2048x1024 .f32 := m ((c : Thread nD τ).loc main_arg1)
abbrev M : Vec Ideal S2x2048x1024 .f32 := m ((c : Thread nD τ).loc main_arg2)
abbrev U : Vec Ideal S2x2048x1024 .f32 := m ((c : Thread nD τ).loc main_arg3)

abbrev row (t : Fin cfg0.N) (p : Fin 256) : Fin 4096 := ⟨t.val * 256 + p.val, by have : t.val < 16 := t.isLt; omega⟩

theorem emb : (win0_0.blk t).view.emb (ix2 p q) = (ix2 (row t p) q : S4096x1024.Idx) := by blk_ext [at0]

theorem V_g : V m c main_v0 = flat (G m c) := by dsimp only [V, hostOps0]; after_results_simp <;> rfl
theorem V_w : V m c main_v1 = flat (W m c) := by dsimp only [V, hostOps0]; after_results_simp <;> rfl
theorem V_m : V m c main_v2 = flat (M m c) := by dsimp only [V, hostOps0]; after_results_simp <;> rfl
theorem V_u : V m c main_v3 = flat (U m c) := by dsimp only [V, hostOps0]; after_results_simp <;> rfl

theorem g_at : iblk m c 0 t (ix2 p q : S256x1024.Idx) = flat (G m c) (ix2 (row t p) q) :=
  (View.read_apply ..).trans ((congrArg (V m c main_v0) (emb t p q)).trans (congrFun (V_g m c) _))
theorem w_at : iblk m c 1 t (ix2 p q : S256x1024.Idx) = flat (W m c) (ix2 (row t p) q) :=
  (View.read_apply ..).trans ((congrArg (V m c main_v1) (emb t p q)).trans (congrFun (V_w m c) _))
theorem m_at : iblk m c 2 t (ix2 p q : S256x1024.Idx) = flat (M m c) (ix2 (row t p) q) :=
  (View.read_apply ..).trans ((congrArg (V m c main_v2) (emb t p q)).trans (congrFun (V_m m c) _))
theorem u_at : iblk m c 3 t (ix2 p q : S256x1024.Idx) = flat (U m c) (ix2 (row t p) q) :=
  (View.read_apply ..).trans ((congrArg (V m c main_v3) (emb t p q)).trans (congrFun (V_u m c) _))

/-- The three results, of whole arguments. -/
def changeOf (g w a v : Vec Ideal S2x2048x1024 .f32) : Vec Ideal S4096x1024 .f32 :=
  fun i => change (flat g i) (flat w i) (flat a i) (flat v i)
def meanOf (g a : Vec Ideal S2x2048x1024 .f32) : Vec Ideal S4096x1024 .f32 := fun i => mean (flat g i) (flat a i)
def squareOf (g v : Vec Ideal S2x2048x1024 .f32) : Vec Ideal S4096x1024 .f32 := fun i => square (flat g i) (flat v i)

theorem change_point : k0_pay4 (iblk m c 0 t) (iblk m c 2 t) (iblk m c 3 t) (iblk m c 1 t) (ix2 p q)
    = changeOf (G m c) (W m c) (M m c) (U m c) (ix2 (row t p) q) := by
  rw [change_at, g_at, w_at, m_at, u_at]
  rfl
theorem mean_point : k0_pay2 (iblk m c 0 t) (iblk m c 2 t) (ix2 p q) = meanOf (G m c) (M m c) (ix2 (row t p) q) := by
  rw [mean_at, g_at, m_at]
  rfl
theorem square_point : k0_pay3 (iblk m c 0 t) (iblk m c 3 t) (ix2 p q) = squareOf (G m c) (U m c) (ix2 (row t p) q) := by
  rw [square_at, g_at, u_at]
  rfl

/-- An index of a block, as a row and a column. -/
theorem at_block (y : S256x1024.Idx) : ∃ (p : Fin 256) (q : Fin 1024), y = (ix2 p q : S256x1024.Idx) := ⟨y 0, y 1, eq_ix2 y⟩

/-- What each result's array holds at the end: any array whose blocks are what the points leave. -/
theorem cover_change (X : Vec Ideal S4096x1024 .f32) (h : ∀ t p q, k0_pay4 (iblk m c 0 t) (iblk m c 2 t) (iblk m c 3 t) (iblk m c 1 t) (ix2 p q)
      = X (ix2 (row t p) q)) : (dats m 0 c).arrAt 4 cfg0.N = X :=
  (dats m 0 c).arrAt_eq_of_covers 4 _ (by decide +kernel) fun t hf y => by
    obtain ⟨p, q, rfl⟩ := at_block y
    blk_simp [at0]
    rw [after0_4]
    frame_out
    exact (h t p q).trans (congrArg X (emb t p q).symm)
theorem cover_mean (X : Vec Ideal S4096x1024 .f32) (h : ∀ t p q, k0_pay2 (iblk m c 0 t) (iblk m c 2 t) (ix2 p q) = X (ix2 (row t p) q)) :
    (dats m 0 c).arrAt 5 cfg0.N = X :=
  (dats m 0 c).arrAt_eq_of_covers 5 _ (by decide +kernel) fun t hf y => by
    obtain ⟨p, q, rfl⟩ := at_block y
    blk_simp [at0]
    rw [after0_5]
    frame_out
    exact (h t p q).trans (congrArg X (emb t p q).symm)
theorem cover_square (X : Vec Ideal S4096x1024 .f32) (h : ∀ t p q, k0_pay3 (iblk m c 0 t) (iblk m c 3 t) (ix2 p q) = X (ix2 (row t p) q)) :
    (dats m 0 c).arrAt 6 cfg0.N = X :=
  (dats m 0 c).arrAt_eq_of_covers 6 _ (by decide +kernel) fun t hf y => by
    obtain ⟨p, q, rfl⟩ := at_block y
    blk_simp [at0]
    rw [after0_6]
    frame_out
    exact (h t p q).trans (congrArg X (emb t p q).symm)
end Kernel

section Ref
open Cert.Reference11Ideal Cert.Reference11Ideal.Read
variable (g w a v : Vec Ideal S2x2048x1024 .f32)

theorem ref_change : val_main_v24 (F := Ideal) g w a v = (changeOf g w a v : S4096x1024.Idx → EReal) := rfl
theorem ref_mean : val_main_v25 (F := Ideal) g a = (meanOf g a : S4096x1024.Idx → EReal) := rfl
theorem ref_square : val_main_v26 (F := Ideal) g v = (squareOf g v : S4096x1024.Idx → EReal) := rfl
end Ref

/-- The call's three results are the change and the new moments. -/
theorem algebraic : Cert.algebraic_Kernel11Ideal_Reference11Ideal := by
  intro m g m' g' _ hargs
  refine ⟨fun c => changeOf (G m c) (W m c) (M m c) (U m c), fun c => meanOf (G m c) (M m c), fun c => squareOf (G m c) (U m c), ?_, ?_⟩
  · refine (θ_run Cert.Kernel11Ideal.defs _ _).mono (fun r h c => ?_) (Cert.Kernel11Ideal.Value.run_blocks m g)
    obtain ⟨h4, h5, h6, h⟩ := h c
    exact ⟨h4.trans (cover_change m c _ (change_point m c)), h5.trans (cover_mean m c _ (mean_point m c)),
      h6.trans (cover_square m c _ (square_point m c)), h⟩
  · refine (θ_run Cert.Reference11Ideal.defs _ _).mono (fun r h c => ?_) (Cert.Reference11Ideal.Value.run m' g')
    obtain ⟨h24, h25, h26, h⟩ := h c
    obtain ⟨e0, e1, e2, e3⟩ := hargs c
    refine ⟨?_, ?_, ?_, h⟩
    · rw [h24, Cert.Reference11Ideal.Read.val_main_v24_eq, e0, e1, e2, e3]
      exact ref_change (G m c) (W m c) (M m c) (U m c)
    · rw [h25, Cert.Reference11Ideal.Read.val_main_v25_eq, e0, e2]
      exact ref_mean (G m c) (M m c)
    · rw [h26, Cert.Reference11Ideal.Read.val_main_v26_eq, e0, e3]
      exact ref_square (G m c) (U m c)

end Cert.Adamw

end
-- ==== Proof.SumCast.lean ====
/- The sum of the two layers' cotangents of the keys that they share: block by block the kernel adds and rounds, as the plain
   sum does. -/
module

public import proofs.«01_k».proof.Defs
public import proofs.«01_k».proof.Proof.Gen.Kernel12Ideal.Value
public import proofs.«01_k».proof.Proof.Gen.Reference12Ideal
public import proofs.«01_k».proof.Proof.Gen.Reference12Ideal.Run

@[expose] public section

noncomputable section

namespace Cert.SumCast

open Idealize.ShloMosaic Idealize.ShloMosaic.TcCoe Idealize.SL.Sem

/-- The call's result is the sum. -/
theorem algebraic : Cert.algebraic_Kernel12Ideal_Reference12Ideal := by
  intro m g m' g' _ hargs
  refine ⟨fun c => Cert.Kernel12Ideal.Value.G2 (F := Ideal) (m ((c.tc : Thread _ _).loc Cert.Kernel12Ideal.main_arg0))
    (m ((c.tc : Thread _ _).loc Cert.Kernel12Ideal.main_arg1)), Cert.Kernel12Ideal.Value.run m g, ?_⟩
  refine (θ_run Cert.Reference12Ideal.defs _ _).mono (fun r h c => ?_) (Cert.Reference12Ideal.Value.run m' g')
  obtain ⟨hs, h⟩ := h c
  obtain ⟨e0, e1⟩ := hargs c
  refine ⟨?_, h⟩
  rw [hs, e0, e1]
  rfl

end Cert.SumCast

end
-- ==== Proof.lean ====
/- The certificate of calls of the training step. Each call's kernel is proved to terminate with its arguments unchanged and
   its counters at zero. Over the extended reals a backward call leaves what differentiating the forward lines gives on
   finite arguments, a forward call what the forward lines give. The modules beside this one hold the proofs, one family per call. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Pre_rms_finite
public import proofs.«01_k».proof.Proof.Gen.Pre_loss_finite
public import Idealize.ShloMosaic.Adequacy
public import Idealize.ShloMosaic.Init

public import proofs.«01_k».proof.Proof.Gen.KernelIdeal.Value
public import proofs.«01_k».proof.Proof.Gen.Kernel2Ideal.Value
public import proofs.«01_k».proof.Proof.Gen.ReferenceIdeal.Read
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Pre_mem_finite
public import proofs.«01_k».proof.Proof.Gen.Kernel4.Frame
public import proofs.«01_k».proof.Proof.Gen.Kernel4Ideal.Frame
public import proofs.«01_k».proof.Proof.Gen.Reference4Ideal.Read
public import Idealize.ShloMosaic.Lib.Quiescent
public import proofs.«01_k».proof.Proof.RmsRef
public import proofs.«01_k».proof.Proof.LossRef
public import proofs.«01_k».proof.Proof.MemRef
public import proofs.«01_k».proof.Proof.Gen.Pre_sb_finite
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Pre_sbf_finite
public import proofs.«01_k».proof.Proof.SbFrame
public import proofs.«01_k».proof.Proof.SbAlgebra
public import proofs.«01_k».proof.Proof.SfAlgebra
public import proofs.«01_k».proof.Proof.Gen.Kernel7.Frame
public import proofs.«01_k».proof.Proof.Gen.Kernel7Ideal.Frame
public import proofs.«01_k».proof.Proof.Gen.Reference7Ideal.Read
public import proofs.«01_k».proof.Proof.MemFwdRef
public import proofs.«01_k».proof.Proof.NormMatmulRef
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Kernel6Ideal.Value
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Read
public import proofs.«01_k».proof.Proof.ResProduct
public import proofs.«01_k».proof.Proof.NtProduct
public import proofs.«01_k».proof.Proof.TnProduct
public import proofs.«01_k».proof.Proof.Adamw
public import proofs.«01_k».proof.Proof.SumCast

@[expose] public section

noncomputable section

namespace Cert.Proof

open Idealize.ShloMosaic Idealize.ShloMosaic.TcCoe Idealize.ShloMosaic.Tactic Idealize.SL.Sem

theorem frame_rms_reference : Cert.quiescent_ReferenceIdeal := fun m ρ _ =>
  (θ_run Cert.ReferenceIdeal.defs _ _).mono (fun r h => ⟨fun c => (h c).2.2.2, sem_eq_zero_of_no_sems rfl r.2⟩)
    (Cert.ReferenceIdeal.Value.run (F := Ideal) m ρ)

theorem frame_loss_reference : Cert.quiescent_Reference2Ideal := fun m ρ _ =>
  (θ_run Cert.Reference2Ideal.defs _ _).mono (fun r h => ⟨fun c => (h c).2.2.2.2, sem_eq_zero_of_no_sems rfl r.2⟩)
    (Cert.Reference2Ideal.Value.run (F := Ideal) m ρ)

theorem frame_mem_reference : Cert.quiescent_Reference3Ideal := fun m ρ _ =>
  (θ_run Cert.Reference3Ideal.defs _ _).mono (fun r h => ⟨fun c => (h c).2.2.2.2, sem_eq_zero_of_no_sems rfl r.2⟩)
    (Cert.Reference3Ideal.Value.run (F := Ideal) m ρ)

/-- The attention kernel's frame at the words, of the second of its two programs. -/
def sb_words : Prop :=
  ∀ (m : (ℓ : Loc Cert.Kernel4Ideal.nD Cert.Kernel4Ideal.τ Cert.Kernel4Ideal.sig) → Buf (Elt Bits) ℓ)
      (g : Dev Cert.Kernel4Ideal.nD → PrngReg), True →
    θ_run (Cert.Kernel4Ideal.defs (F := Bits)) (onTc (τ := Cert.Kernel4Ideal.τ) (Cert.Kernel4Ideal.main (F := Bits)))
      ⟨m, fun _ => 0, g⟩ (fun r => (∀ c : Dev Cert.Kernel4Ideal.nD,
        r.2.mem ((c.tc : Thread Cert.Kernel4Ideal.nD Cert.Kernel4Ideal.τ).loc Cert.Kernel4Ideal.main_arg0)
            = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1)
            = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2)
            = m ((c.tc : Thread Cert.Kernel4Ideal.nD Cert.Kernel4Ideal.τ).loc Cert.Kernel4Ideal.main_arg2))
        ∧ r.2.sem = fun _ => 0)

/-- The two programs have the same text, so the run at any values serves the first program's words too. -/
theorem sb_words_same : Cert.quiescent_Kernel4 = sb_words := by sl_kernel_rfl

theorem frame_sb_words : Cert.quiescent_Kernel4 :=
  sb_words_same.mpr fun m ρ _ => Cert.Proof.Sb.frame_sb (F := Bits) m ρ

theorem frame_sb_reference : Cert.quiescent_Reference4Ideal := fun m ρ _ =>
  (θ_run Cert.Reference4Ideal.defs _ _).mono (fun r h => ⟨fun c => (h c).2.2.2.2, sem_eq_zero_of_no_sems rfl r.2⟩)
    (Cert.Reference4Ideal.Value.run (F := Ideal) m ρ)

theorem frame_sbf_reference : Cert.quiescent_Reference5Ideal := fun m ρ _ =>
  (θ_run Cert.Reference5Ideal.defs _ _).mono (fun r h => ⟨fun c => (h c).2.2.2, sem_eq_zero_of_no_sems rfl r.2⟩)
    (Cert.Reference5Ideal.Value.run (F := Ideal) m ρ)

theorem frame_memf_reference : Cert.quiescent_Reference6Ideal := fun m ρ _ =>
  (θ_run Cert.Reference6Ideal.defs _ _).mono (fun r h => ⟨fun c => (h c).2, sem_eq_zero_of_no_sems rfl r.2⟩)
    (Cert.Reference6Ideal.Value.run (F := Ideal) m ρ)

/-- The fused norm and product's frame at the words, of the second of its two programs. -/
def nm_words : Prop :=
  ∀ (m : (ℓ : Loc Cert.Kernel7Ideal.nD Cert.Kernel7Ideal.τ Cert.Kernel7Ideal.sig) → Buf (Elt Bits) ℓ)
      (g : Dev Cert.Kernel7Ideal.nD → PrngReg), True →
    θ_run (Cert.Kernel7Ideal.defs (F := Bits)) (onTc (τ := Cert.Kernel7Ideal.τ) (Cert.Kernel7Ideal.main (F := Bits)))
      ⟨m, fun _ => 0, g⟩ (fun r => (∀ c : Dev Cert.Kernel7Ideal.nD,
        r.2.mem ((c.tc : Thread Cert.Kernel7Ideal.nD Cert.Kernel7Ideal.τ).loc Cert.Kernel7Ideal.main_arg0)
            = m ((c.tc : Thread Cert.Kernel7Ideal.nD Cert.Kernel7Ideal.τ).loc Cert.Kernel7Ideal.main_arg0)
        ∧ r.2.mem ((c.tc : Thread Cert.Kernel7Ideal.nD Cert.Kernel7Ideal.τ).loc Cert.Kernel7Ideal.main_arg1)
            = m ((c.tc : Thread Cert.Kernel7Ideal.nD Cert.Kernel7Ideal.τ).loc Cert.Kernel7Ideal.main_arg1)
        ∧ r.2.mem ((c.tc : Thread Cert.Kernel7Ideal.nD Cert.Kernel7Ideal.τ).loc Cert.Kernel7Ideal.main_arg2)
            = m ((c.tc : Thread Cert.Kernel7Ideal.nD Cert.Kernel7Ideal.τ).loc Cert.Kernel7Ideal.main_arg2))
        ∧ r.2.sem = fun _ => 0)

theorem nm_words_same : Cert.quiescent_Kernel7 = nm_words := by sl_kernel_rfl

theorem frame_nm_words : Cert.quiescent_Kernel7 :=
  nm_words_same.mpr fun m ρ _ => Cert.NormMatmul.frame_nm (F := Bits) m ρ

theorem frame_nm_reference : Cert.quiescent_Reference7Ideal := fun m ρ _ =>
  (θ_run Cert.Reference7Ideal.defs _ _).mono (fun r h => ⟨fun c => (h c).2.2, sem_eq_zero_of_no_sems rfl r.2⟩)
    (Cert.Reference7Ideal.Value.run (F := Ideal) m ρ)

theorem frame_res_reference : Cert.quiescent_Reference8Ideal := fun m ρ _ =>
  (θ_run Cert.Reference8Ideal.defs _ _).mono (fun r h => ⟨fun c => (h c).2, sem_eq_zero_of_no_sems rfl r.2⟩)
    (Cert.Reference8Ideal.Value.run (F := Ideal) m ρ)

theorem frame_nt_reference : Cert.quiescent_Reference9Ideal := fun m ρ _ =>
  (θ_run Cert.Reference9Ideal.defs _ _).mono (fun r h => ⟨fun c => (h c).2, sem_eq_zero_of_no_sems rfl r.2⟩)
    (Cert.Reference9Ideal.Value.run (F := Ideal) m ρ)

theorem frame_tn_reference : Cert.quiescent_Reference10Ideal := fun m ρ _ =>
  (θ_run Cert.Reference10Ideal.defs _ _).mono (fun r h => ⟨fun c => (h c).2, sem_eq_zero_of_no_sems rfl r.2⟩)
    (Cert.Reference10Ideal.Value.run (F := Ideal) m ρ)

theorem frame_adamw_reference : Cert.quiescent_Reference11Ideal := fun m ρ _ =>
  (θ_run Cert.Reference11Ideal.defs _ _).mono (fun r h => ⟨fun c => (h c).2.2.2, sem_eq_zero_of_no_sems rfl r.2⟩)
    (Cert.Reference11Ideal.Value.run (F := Ideal) m ρ)

theorem frame_sum_reference : Cert.quiescent_Reference12Ideal := fun m ρ _ =>
  (θ_run Cert.Reference12Ideal.defs _ _).mono (fun r h => ⟨fun c => (h c).2, sem_eq_zero_of_no_sems rfl r.2⟩)
    (Cert.Reference12Ideal.Value.run (F := Ideal) m ρ)

theorem claim : Cert.Claim := ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_rms_finite.Gen.facts, Cert.Pre_loss_finite.Gen.facts, Cert.Pre_mem_finite.Gen.facts,
    Cert.Pre_sb_finite.Gen.facts, Cert.Pre_sbf_finite.Gen.facts,
  fun m ρ _ => Cert.Kernel.Gen.frame m ρ,
  fun m ρ _ => Cert.KernelIdeal.Gen.frame m ρ,
  fun m ρ _ => Cert.KernelIdeal.Gen.frame m ρ,
  frame_rms_reference,
  fun m ρ _ => frame_rms_reference m ρ trivial,
  fun m ρ _ => Cert.Kernel2.Gen.frame m ρ,
  fun m ρ _ => Cert.Kernel2Ideal.Gen.frame m ρ,
  fun m ρ _ => Cert.Kernel2Ideal.Gen.frame m ρ,
  frame_loss_reference,
  fun m ρ _ => frame_loss_reference m ρ trivial,
  fun m ρ _ => Cert.Kernel3.Gen.frame m ρ,
  fun m ρ _ => Cert.Kernel3Ideal.Gen.frame m ρ,
  fun m ρ _ => Cert.Kernel3Ideal.Gen.frame m ρ,
  frame_mem_reference,
  fun m ρ _ => frame_mem_reference m ρ trivial,
  frame_sb_words,
  fun m ρ _ => Cert.Proof.Sb.frame_sb m ρ,
  fun m ρ _ => Cert.Proof.Sb.frame_sb m ρ,
  frame_sb_reference,
  fun m ρ _ => frame_sb_reference m ρ trivial,
  fun m ρ _ => Cert.Kernel5.Gen.frame m ρ,
  fun m ρ _ => Cert.Kernel5Ideal.Gen.frame m ρ,
  fun m ρ _ => Cert.Kernel5Ideal.Gen.frame m ρ,
  frame_sbf_reference,
  fun m ρ _ => frame_sbf_reference m ρ trivial,
  fun m ρ _ => Cert.Kernel6.Gen.frame m ρ,
  fun m ρ _ => Cert.Kernel6Ideal.Gen.frame m ρ,
  frame_memf_reference,
  frame_nm_words,
  fun m ρ _ => Cert.NormMatmul.frame_nm m ρ,
  frame_nm_reference,
  fun m ρ _ => Cert.Kernel8.Gen.frame m ρ,
  fun m ρ _ => Cert.Kernel8Ideal.Gen.frame m ρ,
  frame_res_reference,
  fun m ρ _ => Cert.Kernel9.Gen.frame m ρ,
  fun m ρ _ => Cert.Kernel9Ideal.Gen.frame m ρ,
  frame_nt_reference,
  fun m ρ _ => Cert.Kernel10.Gen.frame m ρ,
  fun m ρ _ => Cert.Kernel10Ideal.Gen.frame m ρ,
  frame_tn_reference,
  fun m ρ _ => Cert.Kernel11.Gen.frame m ρ,
  fun m ρ _ => Cert.Kernel11Ideal.Gen.frame m ρ,
  frame_adamw_reference,
  fun m ρ _ => Cert.Kernel12.Gen.frame m ρ,
  fun m ρ _ => Cert.Kernel12Ideal.Gen.frame m ρ,
  frame_sum_reference,
  trivial,
  Cert.Rms.algebraic,
  trivial,
  Cert.Loss.algebraic,
  trivial,
  Cert.Mem.algebraic,
  trivial,
  Cert.Proof.Sb.algebraic,
  trivial,
  Cert.Proof.Sf.algebraic,
  trivial,
  Cert.MemFwd.algebraic,
  trivial,
  Cert.NormMatmul.algebraic,
  trivial,
  Cert.ResProduct.algebraic,
  trivial,
  Cert.NtProduct.algebraic,
  trivial,
  Cert.TnProduct.algebraic,
  trivial,
  Cert.Adamw.algebraic,
  trivial,
  Cert.SumCast.algebraic⟩

end Cert.Proof

end
